-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_xa_finite [hPre_xa_finite : Cert.Pre_xa_finite.Facts] (m : (ℓ : Loc Cert.KernelIdeal.nD Cert.KernelIdeal.τ Cert.KernelIdeal.sig) → Buf (Elt Ideal) ℓ) : Prop :=
  ∀ c : Dev Cert.KernelIdeal.nD,
    (Cert.Pre_xa_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_xa_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_xa_finite [hPre_xa_finite : Cert.Pre_xa_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_xa_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_xa_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnIdeal_gdn_finite [hPre_gdn_finite : Cert.Pre_gdn_finite.Facts] (m : (ℓ : Loc Cert.GdnIdeal.nD Cert.GdnIdeal.τ Cert.GdnIdeal.sig) → Buf (Elt Ideal) ℓ) : Prop :=
  ∀ c : Dev Cert.GdnIdeal.nD,
    (Cert.Pre_gdn_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3))).1 = (fun _ => 1#1)
    ∧ (Cert.Pre_gdn_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3))).2.1 = (fun _ => 1#1)
    ∧ (Cert.Pre_gdn_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3))).2.2.1 = (fun _ => 1#1)
    ∧ (Cert.Pre_gdn_finite.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3))).2.2.2 = (fun _ => 1#1)

def Pre_GdnReferenceIdeal (m : (ℓ : Loc Cert.GdnReferenceIdeal.nD Cert.GdnReferenceIdeal.τ Cert.GdnReferenceIdeal.sig) → Buf (Elt Ideal) ℓ) : Prop :=
  True

def Pre_GdnReferenceIdeal_gdn_finite [hPre_gdn_finite : Cert.Pre_gdn_finite.Facts] (m : (ℓ : Loc Cert.GdnReferenceIdeal.nD Cert.GdnReferenceIdeal.τ Cert.GdnReferenceIdeal.sig) → Buf (Elt Ideal) ℓ) : Prop :=
  ∀ c : Dev Cert.GdnReferenceIdeal.nD,
    (Cert.Pre_gdn_finite.fn (F := Ideal) (m ((c.tc : Thread Cert.GdnReferenceIdeal.nD Cert.GdnReferenceIdeal.τ).loc Cert.GdnReferenceIdeal.main_arg0)) (m ((c.tc : Thread Cert.GdnReferenceIdeal.nD Cert.GdnReferenceIdeal.τ).loc Cert.GdnReferenceIdeal.main_arg1)) (m ((c.tc : Thread Cert.GdnReferenceIdeal.nD Cert.GdnReferenceIdeal.τ).loc Cert.GdnReferenceIdeal.main_arg2)) (m ((c.tc : Thread Cert.GdnReferenceIdeal.nD Cert.GdnReferenceIdeal.τ).loc Cert.GdnReferenceIdeal.main_arg3))).1 = (fun _ => 1#1)
    ∧ (Cert.Pre_gdn_finite.fn (F := Ideal) (m ((c.tc : Thread Cert.GdnReferenceIdeal.nD Cert.GdnReferenceIdeal.τ).loc Cert.GdnReferenceIdeal.main_arg0)) (m ((c.tc : Thread Cert.GdnReferenceIdeal.nD Cert.GdnReferenceIdeal.τ).loc Cert.GdnReferenceIdeal.main_arg1)) (m ((c.tc : Thread Cert.GdnReferenceIdeal.nD Cert.GdnReferenceIdeal.τ).loc Cert.GdnReferenceIdeal.main_arg2)) (m ((c.tc : Thread Cert.GdnReferenceIdeal.nD Cert.GdnReferenceIdeal.τ).loc Cert.GdnReferenceIdeal.main_arg3))).2.1 = (fun _ => 1#1)
    ∧ (Cert.Pre_gdn_finite.fn (F := Ideal) (m ((c.tc : Thread Cert.GdnReferenceIdeal.nD Cert.GdnReferenceIdeal.τ).loc Cert.GdnReferenceIdeal.main_arg0)) (m ((c.tc : Thread Cert.GdnReferenceIdeal.nD Cert.GdnReferenceIdeal.τ).loc Cert.GdnReferenceIdeal.main_arg1)) (m ((c.tc : Thread Cert.GdnReferenceIdeal.nD Cert.GdnReferenceIdeal.τ).loc Cert.GdnReferenceIdeal.main_arg2)) (m ((c.tc : Thread Cert.GdnReferenceIdeal.nD Cert.GdnReferenceIdeal.τ).loc Cert.GdnReferenceIdeal.main_arg3))).2.2.1 = (fun _ => 1#1)
    ∧ (Cert.Pre_gdn_finite.fn (F := Ideal) (m ((c.tc : Thread Cert.GdnReferenceIdeal.nD Cert.GdnReferenceIdeal.τ).loc Cert.GdnReferenceIdeal.main_arg0)) (m ((c.tc : Thread Cert.GdnReferenceIdeal.nD Cert.GdnReferenceIdeal.τ).loc Cert.GdnReferenceIdeal.main_arg1)) (m ((c.tc : Thread Cert.GdnReferenceIdeal.nD Cert.GdnReferenceIdeal.τ).loc Cert.GdnReferenceIdeal.main_arg2)) (m ((c.tc : Thread Cert.GdnReferenceIdeal.nD Cert.GdnReferenceIdeal.τ).loc Cert.GdnReferenceIdeal.main_arg3))).2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_SquareDx (m : (ℓ : Loc Cert.SquareDx.nD Cert.SquareDx.τ Cert.SquareDx.sig) → Buf (Elt Bits) ℓ) : Prop :=
  True

def Pre_SquareDxIdeal (m : (ℓ : Loc Cert.SquareDxIdeal.nD Cert.SquareDxIdeal.τ Cert.SquareDxIdeal.sig) → Buf (Elt Ideal) ℓ) : Prop :=
  True

def Pre_SquareDxReferenceIdeal (m : (ℓ : Loc Cert.SquareDxReferenceIdeal.nD Cert.SquareDxReferenceIdeal.τ Cert.SquareDxReferenceIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwReferenceIdeal (m : (ℓ : Loc Cert.SquareDwReferenceIdeal.nD Cert.SquareDwReferenceIdeal.τ Cert.SquareDwReferenceIdeal.sig) → Buf (Elt Ideal) ℓ) : Prop :=
  True

def Pre_PoolDx (m : (ℓ : Loc Cert.PoolDx.nD Cert.PoolDx.τ Cert.PoolDx.sig) → Buf (Elt Bits) ℓ) : Prop :=
  True

def Pre_PoolDxIdeal (m : (ℓ : Loc Cert.PoolDxIdeal.nD Cert.PoolDxIdeal.τ Cert.PoolDxIdeal.sig) → Buf (Elt Ideal) ℓ) : Prop :=
  True

def Pre_PoolDxReferenceIdeal (m : (ℓ : Loc Cert.PoolDxReferenceIdeal.nD Cert.PoolDxReferenceIdeal.τ Cert.PoolDxReferenceIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwReferenceIdeal (m : (ℓ : Loc Cert.PoolDwReferenceIdeal.nD Cert.PoolDwReferenceIdeal.τ Cert.PoolDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxReferenceIdeal (m : (ℓ : Loc Cert.KvDxReferenceIdeal.nD Cert.KvDxReferenceIdeal.τ Cert.KvDxReferenceIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwReferenceIdeal (m : (ℓ : Loc Cert.KvDwReferenceIdeal.nD Cert.KvDwReferenceIdeal.τ Cert.KvDwReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareReferenceIdeal (m : (ℓ : Loc Cert.SquareReferenceIdeal.nD Cert.SquareReferenceIdeal.τ Cert.SquareReferenceIdeal.sig) → Buf (Elt Ideal) ℓ) : Prop :=
  True

def Pre_SquareF (m : (ℓ : Loc Cert.SquareF.nD Cert.SquareF.τ Cert.SquareF.sig) → Buf (Elt Bits) ℓ) : Prop :=
  True

def Pre_SquareFIdeal (m : (ℓ : Loc Cert.SquareFIdeal.nD Cert.SquareFIdeal.τ Cert.SquareFIdeal.sig) → Buf (Elt Ideal) ℓ) : Prop :=
  True

def Pre_SquareFReferenceIdeal (m : (ℓ : Loc Cert.SquareFReferenceIdeal.nD Cert.SquareFReferenceIdeal.τ Cert.SquareFReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_NormOut (m : (ℓ : Loc Cert.NormOut.nD Cert.NormOut.τ Cert.NormOut.sig) → Buf (Elt Bits) ℓ) : Prop :=
  True

def Pre_NormOutIdeal (m : (ℓ : Loc Cert.NormOutIdeal.nD Cert.NormOutIdeal.τ Cert.NormOutIdeal.sig) → Buf (Elt Ideal) ℓ) : Prop :=
  True

def Pre_NormOutReferenceIdeal (m : (ℓ : Loc Cert.NormOutReferenceIdeal.nD Cert.NormOutReferenceIdeal.τ Cert.NormOutReferenceIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInReferenceIdeal (m : (ℓ : Loc Cert.AdInReferenceIdeal.nD Cert.AdInReferenceIdeal.τ Cert.AdInReferenceIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_AdUpReferenceIdeal (m : (ℓ : Loc Cert.AdUpReferenceIdeal.nD Cert.AdUpReferenceIdeal.τ Cert.AdUpReferenceIdeal.sig) → Buf (Elt Ideal) ℓ) : Prop :=
  True

def Pre_AdSquare (m : (ℓ : Loc Cert.AdSquare.nD Cert.AdSquare.τ Cert.AdSquare.sig) → Buf (Elt Bits) ℓ) : Prop :=
  True

def Pre_AdSquareIdeal (m : (ℓ : Loc Cert.AdSquareIdeal.nD Cert.AdSquareIdeal.τ Cert.AdSquareIdeal.sig) → Buf (Elt Ideal) ℓ) : Prop :=
  True

def Pre_AdSquareReferenceIdeal (m : (ℓ : Loc Cert.AdSquareReferenceIdeal.nD Cert.AdSquareReferenceIdeal.τ Cert.AdSquareReferenceIdeal.sig) → Buf (Elt Ideal) ℓ) : Prop :=
  True

def Pre_AdPoolOut (m : (ℓ : Loc Cert.AdPoolOut.nD Cert.AdPoolOut.τ Cert.AdPoolOut.sig) → Buf (Elt Bits) ℓ) : Prop :=
  True

def Pre_AdPoolOutIdeal (m : (ℓ : Loc Cert.AdPoolOutIdeal.nD Cert.AdPoolOutIdeal.τ Cert.AdPoolOutIdeal.sig) → Buf (Elt Ideal) ℓ) : Prop :=
  True

def Pre_AdPoolOutReferenceIdeal (m : (ℓ : Loc Cert.AdPoolOutReferenceIdeal.nD Cert.AdPoolOutReferenceIdeal.τ Cert.AdPoolOutReferenceIdeal.sig) → Buf (Elt Ideal) ℓ) : Prop :=
  True

def Pre_AdKv (m : (ℓ : Loc Cert.AdKv.nD Cert.AdKv.τ Cert.AdKv.sig) → Buf (Elt Bits) ℓ) : Prop :=
  True

def Pre_AdKvIdeal (m : (ℓ : Loc Cert.AdKvIdeal.nD Cert.AdKvIdeal.τ Cert.AdKvIdeal.sig) → Buf (Elt Ideal) ℓ) : Prop :=
  True

def Pre_AdKvReferenceIdeal (m : (ℓ : Loc Cert.AdKvReferenceIdeal.nD Cert.AdKvReferenceIdeal.τ Cert.AdKvReferenceIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_AdDownReferenceIdeal (m : (ℓ : Loc Cert.AdDownReferenceIdeal.nD Cert.AdDownReferenceIdeal.τ Cert.AdDownReferenceIdeal.sig) → Buf (Elt Ideal) ℓ) : Prop :=
  True

def Pre_AdConv (m : (ℓ : Loc Cert.AdConv.nD Cert.AdConv.τ Cert.AdConv.sig) → Buf (Elt Bits) ℓ) : Prop :=
  True

def Pre_AdConvIdeal (m : (ℓ : Loc Cert.AdConvIdeal.nD Cert.AdConvIdeal.τ Cert.AdConvIdeal.sig) → Buf (Elt Ideal) ℓ) : Prop :=
  True

def Pre_AdConvReferenceIdeal (m : (ℓ : Loc Cert.AdConvReferenceIdeal.nD Cert.AdConvReferenceIdeal.τ Cert.AdConvReferenceIdeal.sig) → Buf (Elt Ideal) ℓ) : Prop :=
  True

def Pre_AdFfnConv (m : (ℓ : Loc Cert.AdFfnConv.nD Cert.AdFfnConv.τ Cert.AdFfnConv.sig) → Buf (Elt Bits) ℓ) : Prop :=
  True

def Pre_AdFfnConvIdeal (m : (ℓ : Loc Cert.AdFfnConvIdeal.nD Cert.AdFfnConvIdeal.τ Cert.AdFfnConvIdeal.sig) → Buf (Elt Ideal) ℓ) : Prop :=
  True

def Pre_AdFfnConvReferenceIdeal (m : (ℓ : Loc Cert.AdFfnConvReferenceIdeal.nD Cert.AdFfnConvReferenceIdeal.τ Cert.AdFfnConvReferenceIdeal.sig) → Buf (Elt Ideal) ℓ) : Prop :=
  True

def Pre_AdPool (m : (ℓ : Loc Cert.AdPool.nD Cert.AdPool.τ Cert.AdPool.sig) → Buf (Elt Bits) ℓ) : Prop :=
  True

def Pre_AdPoolIdeal (m : (ℓ : Loc Cert.AdPoolIdeal.nD Cert.AdPoolIdeal.τ Cert.AdPoolIdeal.sig) → Buf (Elt Ideal) ℓ) : Prop :=
  True

def Pre_AdPoolReferenceIdeal (m : (ℓ : Loc Cert.AdPoolReferenceIdeal.nD Cert.AdPoolReferenceIdeal.τ Cert.AdPoolReferenceIdeal.sig) → Buf (Elt Ideal) ℓ) : Prop :=
  True

def Pre_AdSmall (m : (ℓ : Loc Cert.AdSmall.nD Cert.AdSmall.τ Cert.AdSmall.sig) → Buf (Elt Bits) ℓ) : Prop :=
  True

def Pre_AdSmallIdeal (m : (ℓ : Loc Cert.AdSmallIdeal.nD Cert.AdSmallIdeal.τ Cert.AdSmallIdeal.sig) → Buf (Elt Ideal) ℓ) : Prop :=
  True

def Pre_AdSmallReferenceIdeal (m : (ℓ : Loc Cert.AdSmallReferenceIdeal.nD Cert.AdSmallReferenceIdeal.τ Cert.AdSmallReferenceIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_XaFwd (m : (ℓ : Loc Cert.XaFwd.nD Cert.XaFwd.τ Cert.XaFwd.sig) → Buf (Elt Bits) ℓ) : Prop :=
  True

def Pre_XaFwdIdeal (m : (ℓ : Loc Cert.XaFwdIdeal.nD Cert.XaFwdIdeal.τ Cert.XaFwdIdeal.sig) → Buf (Elt Ideal) ℓ) : Prop :=
  True

def Pre_XaFwdReferenceIdeal (m : (ℓ : Loc Cert.XaFwdReferenceIdeal.nD Cert.XaFwdReferenceIdeal.τ Cert.XaFwdReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormReferenceIdeal (m : (ℓ : Loc Cert.PrenormReferenceIdeal.nD Cert.PrenormReferenceIdeal.τ Cert.PrenormReferenceIdeal.sig) → Buf (Elt Ideal) ℓ) : Prop :=
  True

def Pre_PostPre (m : (ℓ : Loc Cert.PostPre.nD Cert.PostPre.τ Cert.PostPre.sig) → Buf (Elt Bits) ℓ) : Prop :=
  True

def Pre_PostPreIdeal (m : (ℓ : Loc Cert.PostPreIdeal.nD Cert.PostPreIdeal.τ Cert.PostPreIdeal.sig) → Buf (Elt Ideal) ℓ) : Prop :=
  True

def Pre_PostPreReferenceIdeal (m : (ℓ : Loc Cert.PostPreReferenceIdeal.nD Cert.PostPreReferenceIdeal.τ Cert.PostPreReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_xa_finite [hKernelIdeal : Cert.KernelIdeal.Facts] [hPre_xa_finite : Cert.Pre_xa_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_xa_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_xa_finite [hReferenceIdeal : Cert.ReferenceIdeal.Facts] [hPre_xa_finite : Cert.Pre_xa_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_xa_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3))
      ∧ r.2.sem = fun _ => 0)

def quiescent_GdnIdeal_pre_gdn_finite [hGdnIdeal : Cert.GdnIdeal.Facts] [hPre_gdn_finite : Cert.Pre_gdn_finite.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal_gdn_finite m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3))
      ∧ r.2.sem = fun _ => 0)

def quiescent_GdnReferenceIdeal [hGdnReferenceIdeal : Cert.GdnReferenceIdeal.Facts] : Prop :=
  ∀ (m : (ℓ : Loc Cert.GdnReferenceIdeal.nD Cert.GdnReferenceIdeal.τ Cert.GdnReferenceIdeal.sig) → Buf (Elt Ideal) ℓ) (g : Dev Cert.GdnReferenceIdeal.nD → PrngReg), Pre_GdnReferenceIdeal m →
    θ_run (Cert.GdnReferenceIdeal.defs (F := Ideal)) (onTc (τ := Cert.GdnReferenceIdeal.τ) (Cert.GdnReferenceIdeal.main (F := Ideal))) ⟨m, fun _ => 0, g⟩ (fun r => (∀ c : Dev Cert.GdnReferenceIdeal.nD,
      r.2.mem ((c.tc : Thread Cert.GdnReferenceIdeal.nD Cert.GdnReferenceIdeal.τ).loc Cert.GdnReferenceIdeal.main_arg0) = m ((c.tc : Thread Cert.GdnReferenceIdeal.nD Cert.GdnReferenceIdeal.τ).loc Cert.GdnReferenceIdeal.main_arg0)
      ∧ r.2.mem ((c.tc : Thread Cert.GdnReferenceIdeal.nD Cert.GdnReferenceIdeal.τ).loc Cert.GdnReferenceIdeal.main_arg1) = m ((c.tc : Thread Cert.GdnReferenceIdeal.nD Cert.GdnReferenceIdeal.τ).loc Cert.GdnReferenceIdeal.main_arg1)
      ∧ r.2.mem ((c.tc : Thread Cert.GdnReferenceIdeal.nD Cert.GdnReferenceIdeal.τ).loc Cert.GdnReferenceIdeal.main_arg2) = m ((c.tc : Thread Cert.GdnReferenceIdeal.nD Cert.GdnReferenceIdeal.τ).loc Cert.GdnReferenceIdeal.main_arg2)
      ∧ r.2.mem ((c.tc : Thread Cert.GdnReferenceIdeal.nD Cert.GdnReferenceIdeal.τ).loc Cert.GdnReferenceIdeal.main_arg3) = m ((c.tc : Thread Cert.GdnReferenceIdeal.nD Cert.GdnReferenceIdeal.τ).loc Cert.GdnReferenceIdeal.main_arg3))
      ∧ r.2.sem = fun _ => 0)

def quiescent_GdnReferenceIdeal_pre_gdn_finite [hGdnReferenceIdeal : Cert.GdnReferenceIdeal.Facts] [hPre_gdn_finite : Cert.Pre_gdn_finite.Facts] : Prop :=
  ∀ (m : (ℓ : Loc Cert.GdnReferenceIdeal.nD Cert.GdnReferenceIdeal.τ Cert.GdnReferenceIdeal.sig) → Buf (Elt Ideal) ℓ) (g : Dev Cert.GdnReferenceIdeal.nD → PrngReg), Pre_GdnReferenceIdeal_gdn_finite m →
    θ_run (Cert.GdnReferenceIdeal.defs (F := Ideal)) (onTc (τ := Cert.GdnReferenceIdeal.τ) (Cert.GdnReferenceIdeal.main (F := Ideal))) ⟨m, fun _ => 0, g⟩ (fun r => (∀ c : Dev Cert.GdnReferenceIdeal.nD,
      r.2.mem ((c.tc : Thread Cert.GdnReferenceIdeal.nD Cert.GdnReferenceIdeal.τ).loc Cert.GdnReferenceIdeal.main_arg0) = m ((c.tc : Thread Cert.GdnReferenceIdeal.nD Cert.GdnReferenceIdeal.τ).loc Cert.GdnReferenceIdeal.main_arg0)
      ∧ r.2.mem ((c.tc : Thread Cert.GdnReferenceIdeal.nD Cert.GdnReferenceIdeal.τ).loc Cert.GdnReferenceIdeal.main_arg1) = m ((c.tc : Thread Cert.GdnReferenceIdeal.nD Cert.GdnReferenceIdeal.τ).loc Cert.GdnReferenceIdeal.main_arg1)
      ∧ r.2.mem ((c.tc : Thread Cert.GdnReferenceIdeal.nD Cert.GdnReferenceIdeal.τ).loc Cert.GdnReferenceIdeal.main_arg2) = m ((c.tc : Thread Cert.GdnReferenceIdeal.nD Cert.GdnReferenceIdeal.τ).loc Cert.GdnReferenceIdeal.main_arg2)
      ∧ r.2.mem ((c.tc : Thread Cert.GdnReferenceIdeal.nD Cert.GdnReferenceIdeal.τ).loc Cert.GdnReferenceIdeal.main_arg3) = m ((c.tc : Thread Cert.GdnReferenceIdeal.nD Cert.GdnReferenceIdeal.τ).loc Cert.GdnReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_SquareDx [hSquareDx : Cert.SquareDx.Facts] : Prop :=
  ∀ (m : (ℓ : Loc Cert.SquareDx.nD Cert.SquareDx.τ Cert.SquareDx.sig) → Buf (Elt Bits) ℓ) (g : Dev Cert.SquareDx.nD → PrngReg), Pre_SquareDx m →
    θ_run (Cert.SquareDx.defs (F := Bits)) (onTc (τ := Cert.SquareDx.τ) (Cert.SquareDx.main (F := Bits))) ⟨m, fun _ => 0, g⟩ (fun r => (∀ c : Dev Cert.SquareDx.nD,
      r.2.mem ((c.tc : Thread Cert.SquareDx.nD Cert.SquareDx.τ).loc Cert.SquareDx.main_arg0) = m ((c.tc : Thread Cert.SquareDx.nD Cert.SquareDx.τ).loc Cert.SquareDx.main_arg0)
      ∧ r.2.mem ((c.tc : Thread Cert.SquareDx.nD Cert.SquareDx.τ).loc Cert.SquareDx.main_arg1) = m ((c.tc : Thread Cert.SquareDx.nD Cert.SquareDx.τ).loc Cert.SquareDx.main_arg1))
      ∧ r.2.sem = fun _ => 0)

def quiescent_SquareDxIdeal [hSquareDxIdeal : Cert.SquareDxIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg), Pre_SquareDxIdeal m →
    θ_run (Cert.SquareDxIdeal.defs (F := Ideal)) (onTc (τ := Cert.SquareDxIdeal.τ) (Cert.SquareDxIdeal.main (F := Ideal))) ⟨m, fun _ => 0, g⟩ (fun r => (∀ c : Dev Cert.SquareDxIdeal.nD,
      r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
      ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ r.2.sem = fun _ => 0)

def quiescent_SquareDxReferenceIdeal [hSquareDxReferenceIdeal : Cert.SquareDxReferenceIdeal.Facts] : Prop :=
  ∀ (m : (ℓ : Loc Cert.SquareDxReferenceIdeal.nD Cert.SquareDxReferenceIdeal.τ Cert.SquareDxReferenceIdeal.sig) → Buf (Elt Ideal) ℓ) (g : Dev Cert.SquareDxReferenceIdeal.nD → PrngReg), Pre_SquareDxReferenceIdeal m →
    θ_run (Cert.SquareDxReferenceIdeal.defs (F := Ideal)) (onTc (τ := Cert.SquareDxReferenceIdeal.τ) (Cert.SquareDxReferenceIdeal.main (F := Ideal))) ⟨m, fun _ => 0, g⟩ (fun r => (∀ c : Dev Cert.SquareDxReferenceIdeal.nD,
      r.2.mem ((c.tc : Thread Cert.SquareDxReferenceIdeal.nD Cert.SquareDxReferenceIdeal.τ).loc Cert.SquareDxReferenceIdeal.main_arg0) = m ((c.tc : Thread Cert.SquareDxReferenceIdeal.nD Cert.SquareDxReferenceIdeal.τ).loc Cert.SquareDxReferenceIdeal.main_arg0)
      ∧ r.2.mem ((c.tc : Thread Cert.SquareDxReferenceIdeal.nD Cert.SquareDxReferenceIdeal.τ).loc Cert.SquareDxReferenceIdeal.main_arg1) = m ((c.tc : Thread Cert.SquareDxReferenceIdeal.nD Cert.SquareDxReferenceIdeal.τ).loc Cert.SquareDxReferenceIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwReferenceIdeal [hSquareDwReferenceIdeal : Cert.SquareDwReferenceIdeal.Facts] : Prop :=
  ∀ (m : (ℓ : Loc Cert.SquareDwReferenceIdeal.nD Cert.SquareDwReferenceIdeal.τ Cert.SquareDwReferenceIdeal.sig) → Buf (Elt Ideal) ℓ) (g : Dev Cert.SquareDwReferenceIdeal.nD → PrngReg), Pre_SquareDwReferenceIdeal m →
    θ_run (Cert.SquareDwReferenceIdeal.defs (F := Ideal)) (onTc (τ := Cert.SquareDwReferenceIdeal.τ) (Cert.SquareDwReferenceIdeal.main (F := Ideal))) ⟨m, fun _ => 0, g⟩ (fun r => (∀ c : Dev Cert.SquareDwReferenceIdeal.nD,
      r.2.mem ((c.tc : Thread Cert.SquareDwReferenceIdeal.nD Cert.SquareDwReferenceIdeal.τ).loc Cert.SquareDwReferenceIdeal.main_arg0) = m ((c.tc : Thread Cert.SquareDwReferenceIdeal.nD Cert.SquareDwReferenceIdeal.τ).loc Cert.SquareDwReferenceIdeal.main_arg0)
      ∧ r.2.mem ((c.tc : Thread Cert.SquareDwReferenceIdeal.nD Cert.SquareDwReferenceIdeal.τ).loc Cert.SquareDwReferenceIdeal.main_arg1) = m ((c.tc : Thread Cert.SquareDwReferenceIdeal.nD Cert.SquareDwReferenceIdeal.τ).loc Cert.SquareDwReferenceIdeal.main_arg1))
      ∧ r.2.sem = fun _ => 0)

def quiescent_PoolDx [hPoolDx : Cert.PoolDx.Facts] : Prop :=
  ∀ (m : (ℓ : Loc Cert.PoolDx.nD Cert.PoolDx.τ Cert.PoolDx.sig) → Buf (Elt Bits) ℓ) (g : Dev Cert.PoolDx.nD → PrngReg), Pre_PoolDx m →
    θ_run (Cert.PoolDx.defs (F := Bits)) (onTc (τ := Cert.PoolDx.τ) (Cert.PoolDx.main (F := Bits))) ⟨m, fun _ => 0, g⟩ (fun r => (∀ c : Dev Cert.PoolDx.nD,
      r.2.mem ((c.tc : Thread Cert.PoolDx.nD Cert.PoolDx.τ).loc Cert.PoolDx.main_arg0) = m ((c.tc : Thread Cert.PoolDx.nD Cert.PoolDx.τ).loc Cert.PoolDx.main_arg0)
      ∧ r.2.mem ((c.tc : Thread Cert.PoolDx.nD Cert.PoolDx.τ).loc Cert.PoolDx.main_arg1) = m ((c.tc : Thread Cert.PoolDx.nD Cert.PoolDx.τ).loc Cert.PoolDx.main_arg1))
      ∧ r.2.sem = fun _ => 0)

def quiescent_PoolDxIdeal [hPoolDxIdeal : Cert.PoolDxIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg), Pre_PoolDxIdeal m →
    θ_run (Cert.PoolDxIdeal.defs (F := Ideal)) (onTc (τ := Cert.PoolDxIdeal.τ) (Cert.PoolDxIdeal.main (F := Ideal))) ⟨m, fun _ => 0, g⟩ (fun r => (∀ c : Dev Cert.PoolDxIdeal.nD,
      r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
      ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ r.2.sem = fun _ => 0)

def quiescent_PoolDxReferenceIdeal [hPoolDxReferenceIdeal : Cert.PoolDxReferenceIdeal.Facts] : Prop :=
  ∀ (m : (ℓ : Loc Cert.PoolDxReferenceIdeal.nD Cert.PoolDxReferenceIdeal.τ Cert.PoolDxReferenceIdeal.sig) → Buf (Elt Ideal) ℓ) (g : Dev Cert.PoolDxReferenceIdeal.nD → PrngReg), Pre_PoolDxReferenceIdeal m →
    θ_run (Cert.PoolDxReferenceIdeal.defs (F := Ideal)) (onTc (τ := Cert.PoolDxReferenceIdeal.τ) (Cert.PoolDxReferenceIdeal.main (F := Ideal))) ⟨m, fun _ => 0, g⟩ (fun r => (∀ c : Dev Cert.PoolDxReferenceIdeal.nD,
      r.2.mem ((c.tc : Thread Cert.PoolDxReferenceIdeal.nD Cert.PoolDxReferenceIdeal.τ).loc Cert.PoolDxReferenceIdeal.main_arg0) = m ((c.tc : Thread Cert.PoolDxReferenceIdeal.nD Cert.PoolDxReferenceIdeal.τ).loc Cert.PoolDxReferenceIdeal.main_arg0)
      ∧ r.2.mem ((c.tc : Thread Cert.PoolDxReferenceIdeal.nD Cert.PoolDxReferenceIdeal.τ).loc Cert.PoolDxReferenceIdeal.main_arg1) = m ((c.tc : Thread Cert.PoolDxReferenceIdeal.nD Cert.PoolDxReferenceIdeal.τ).loc Cert.PoolDxReferenceIdeal.main_arg1))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ r.2.sem = fun _ => 0)

def quiescent_PoolDwReferenceIdeal [hPoolDwReferenceIdeal : Cert.PoolDwReferenceIdeal.Facts] : Prop :=
  ∀ (m : (ℓ : Loc Cert.PoolDwReferenceIdeal.nD Cert.PoolDwReferenceIdeal.τ Cert.PoolDwReferenceIdeal.sig) → Buf (Elt Ideal) ℓ) (g : Dev Cert.PoolDwReferenceIdeal.nD → PrngReg), Pre_PoolDwReferenceIdeal m →
    θ_run (Cert.PoolDwReferenceIdeal.defs (F := Ideal)) (onTc (τ := Cert.PoolDwReferenceIdeal.τ) (Cert.PoolDwReferenceIdeal.main (F := Ideal))) ⟨m, fun _ => 0, g⟩ (fun r => (∀ c : Dev Cert.PoolDwReferenceIdeal.nD,
      r.2.mem ((c.tc : Thread Cert.PoolDwReferenceIdeal.nD Cert.PoolDwReferenceIdeal.τ).loc Cert.PoolDwReferenceIdeal.main_arg0) = m ((c.tc : Thread Cert.PoolDwReferenceIdeal.nD Cert.PoolDwReferenceIdeal.τ).loc Cert.PoolDwReferenceIdeal.main_arg0)
      ∧ r.2.mem ((c.tc : Thread Cert.PoolDwReferenceIdeal.nD Cert.PoolDwReferenceIdeal.τ).loc Cert.PoolDwReferenceIdeal.main_arg1) = m ((c.tc : Thread Cert.PoolDwReferenceIdeal.nD Cert.PoolDwReferenceIdeal.τ).loc Cert.PoolDwReferenceIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxReferenceIdeal [hKvDxReferenceIdeal : Cert.KvDxReferenceIdeal.Facts] : Prop :=
  ∀ (m : (ℓ : Loc Cert.KvDxReferenceIdeal.nD Cert.KvDxReferenceIdeal.τ Cert.KvDxReferenceIdeal.sig) → Buf (Elt Ideal) ℓ) (g : Dev Cert.KvDxReferenceIdeal.nD → PrngReg), Pre_KvDxReferenceIdeal m →
    θ_run (Cert.KvDxReferenceIdeal.defs (F := Ideal)) (onTc (τ := Cert.KvDxReferenceIdeal.τ) (Cert.KvDxReferenceIdeal.main (F := Ideal))) ⟨m, fun _ => 0, g⟩ (fun r => (∀ c : Dev Cert.KvDxReferenceIdeal.nD,
      r.2.mem ((c.tc : Thread Cert.KvDxReferenceIdeal.nD Cert.KvDxReferenceIdeal.τ).loc Cert.KvDxReferenceIdeal.main_arg0) = m ((c.tc : Thread Cert.KvDxReferenceIdeal.nD Cert.KvDxReferenceIdeal.τ).loc Cert.KvDxReferenceIdeal.main_arg0)
      ∧ r.2.mem ((c.tc : Thread Cert.KvDxReferenceIdeal.nD Cert.KvDxReferenceIdeal.τ).loc Cert.KvDxReferenceIdeal.main_arg1) = m ((c.tc : Thread Cert.KvDxReferenceIdeal.nD Cert.KvDxReferenceIdeal.τ).loc Cert.KvDxReferenceIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwReferenceIdeal [hKvDwReferenceIdeal : Cert.KvDwReferenceIdeal.Facts] : Prop :=
  ∀ (m : (ℓ : Loc Cert.KvDwReferenceIdeal.nD Cert.KvDwReferenceIdeal.τ Cert.KvDwReferenceIdeal.sig) → Buf (Elt Ideal) ℓ) (g : Dev Cert.KvDwReferenceIdeal.nD → PrngReg), Pre_KvDwReferenceIdeal m →
    θ_run (Cert.KvDwReferenceIdeal.defs (F := Ideal)) (onTc (τ := Cert.KvDwReferenceIdeal.τ) (Cert.KvDwReferenceIdeal.main (F := Ideal))) ⟨m, fun _ => 0, g⟩ (fun r => (∀ c : Dev Cert.KvDwReferenceIdeal.nD,
      r.2.mem ((c.tc : Thread Cert.KvDwReferenceIdeal.nD Cert.KvDwReferenceIdeal.τ).loc Cert.KvDwReferenceIdeal.main_arg0) = m ((c.tc : Thread Cert.KvDwReferenceIdeal.nD Cert.KvDwReferenceIdeal.τ).loc Cert.KvDwReferenceIdeal.main_arg0)
      ∧ r.2.mem ((c.tc : Thread Cert.KvDwReferenceIdeal.nD Cert.KvDwReferenceIdeal.τ).loc Cert.KvDwReferenceIdeal.main_arg1) = m ((c.tc : Thread Cert.KvDwReferenceIdeal.nD Cert.KvDwReferenceIdeal.τ).loc Cert.KvDwReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareReferenceIdeal [hSquareReferenceIdeal : Cert.SquareReferenceIdeal.Facts] : Prop :=
  ∀ (m : (ℓ : Loc Cert.SquareReferenceIdeal.nD Cert.SquareReferenceIdeal.τ Cert.SquareReferenceIdeal.sig) → Buf (Elt Ideal) ℓ) (g : Dev Cert.SquareReferenceIdeal.nD → PrngReg), Pre_SquareReferenceIdeal m →
    θ_run (Cert.SquareReferenceIdeal.defs (F := Ideal)) (onTc (τ := Cert.SquareReferenceIdeal.τ) (Cert.SquareReferenceIdeal.main (F := Ideal))) ⟨m, fun _ => 0, g⟩ (fun r => (∀ c : Dev Cert.SquareReferenceIdeal.nD,
      r.2.mem ((c.tc : Thread Cert.SquareReferenceIdeal.nD Cert.SquareReferenceIdeal.τ).loc Cert.SquareReferenceIdeal.main_arg0) = m ((c.tc : Thread Cert.SquareReferenceIdeal.nD Cert.SquareReferenceIdeal.τ).loc Cert.SquareReferenceIdeal.main_arg0)
      ∧ r.2.mem ((c.tc : Thread Cert.SquareReferenceIdeal.nD Cert.SquareReferenceIdeal.τ).loc Cert.SquareReferenceIdeal.main_arg1) = m ((c.tc : Thread Cert.SquareReferenceIdeal.nD Cert.SquareReferenceIdeal.τ).loc Cert.SquareReferenceIdeal.main_arg1))
      ∧ r.2.sem = fun _ => 0)

def quiescent_SquareF [hSquareF : Cert.SquareF.Facts] : Prop :=
  ∀ (m : (ℓ : Loc Cert.SquareF.nD Cert.SquareF.τ Cert.SquareF.sig) → Buf (Elt Bits) ℓ) (g : Dev Cert.SquareF.nD → PrngReg), Pre_SquareF m →
    θ_run (Cert.SquareF.defs (F := Bits)) (onTc (τ := Cert.SquareF.τ) (Cert.SquareF.main (F := Bits))) ⟨m, fun _ => 0, g⟩ (fun r => (∀ c : Dev Cert.SquareF.nD,
      r.2.mem ((c.tc : Thread Cert.SquareF.nD Cert.SquareF.τ).loc Cert.SquareF.main_arg0) = m ((c.tc : Thread Cert.SquareF.nD Cert.SquareF.τ).loc Cert.SquareF.main_arg0)
      ∧ r.2.mem ((c.tc : Thread Cert.SquareF.nD Cert.SquareF.τ).loc Cert.SquareF.main_arg1) = m ((c.tc : Thread Cert.SquareF.nD Cert.SquareF.τ).loc Cert.SquareF.main_arg1))
      ∧ r.2.sem = fun _ => 0)

def quiescent_SquareFIdeal [hSquareFIdeal : Cert.SquareFIdeal.Facts] : Prop :=
  ∀ (m : (ℓ : Loc Cert.SquareFIdeal.nD Cert.SquareFIdeal.τ Cert.SquareFIdeal.sig) → Buf (Elt Ideal) ℓ) (g : Dev Cert.SquareFIdeal.nD → PrngReg), Pre_SquareFIdeal m →
    θ_run (Cert.SquareFIdeal.defs (F := Ideal)) (onTc (τ := Cert.SquareFIdeal.τ) (Cert.SquareFIdeal.main (F := Ideal))) ⟨m, fun _ => 0, g⟩ (fun r => (∀ c : Dev Cert.SquareFIdeal.nD,
      r.2.mem ((c.tc : Thread Cert.SquareFIdeal.nD Cert.SquareFIdeal.τ).loc Cert.SquareFIdeal.main_arg0) = m ((c.tc : Thread Cert.SquareFIdeal.nD Cert.SquareFIdeal.τ).loc Cert.SquareFIdeal.main_arg0)
      ∧ r.2.mem ((c.tc : Thread Cert.SquareFIdeal.nD Cert.SquareFIdeal.τ).loc Cert.SquareFIdeal.main_arg1) = m ((c.tc : Thread Cert.SquareFIdeal.nD Cert.SquareFIdeal.τ).loc Cert.SquareFIdeal.main_arg1))
      ∧ r.2.sem = fun _ => 0)

def quiescent_SquareFReferenceIdeal [hSquareFReferenceIdeal : Cert.SquareFReferenceIdeal.Facts] : Prop :=
  ∀ (m : (ℓ : Loc Cert.SquareFReferenceIdeal.nD Cert.SquareFReferenceIdeal.τ Cert.SquareFReferenceIdeal.sig) → Buf (Elt Ideal) ℓ) (g : Dev Cert.SquareFReferenceIdeal.nD → PrngReg), Pre_SquareFReferenceIdeal m →
    θ_run (Cert.SquareFReferenceIdeal.defs (F := Ideal)) (onTc (τ := Cert.SquareFReferenceIdeal.τ) (Cert.SquareFReferenceIdeal.main (F := Ideal))) ⟨m, fun _ => 0, g⟩ (fun r => (∀ c : Dev Cert.SquareFReferenceIdeal.nD,
      r.2.mem ((c.tc : Thread Cert.SquareFReferenceIdeal.nD Cert.SquareFReferenceIdeal.τ).loc Cert.SquareFReferenceIdeal.main_arg0) = m ((c.tc : Thread Cert.SquareFReferenceIdeal.nD Cert.SquareFReferenceIdeal.τ).loc Cert.SquareFReferenceIdeal.main_arg0)
      ∧ r.2.mem ((c.tc : Thread Cert.SquareFReferenceIdeal.nD Cert.SquareFReferenceIdeal.τ).loc Cert.SquareFReferenceIdeal.main_arg1) = m ((c.tc : Thread Cert.SquareFReferenceIdeal.nD Cert.SquareFReferenceIdeal.τ).loc Cert.SquareFReferenceIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3))
      ∧ r.2.sem = fun _ => 0)

def quiescent_NormOut [hNormOut : Cert.NormOut.Facts] : Prop :=
  ∀ (m : (ℓ : Loc Cert.NormOut.nD Cert.NormOut.τ Cert.NormOut.sig) → Buf (Elt Bits) ℓ) (g : Dev Cert.NormOut.nD → PrngReg), Pre_NormOut m →
    θ_run (Cert.NormOut.defs (F := Bits)) (onTc (τ := Cert.NormOut.τ) (Cert.NormOut.main (F := Bits))) ⟨m, fun _ => 0, g⟩ (fun r => (∀ c : Dev Cert.NormOut.nD,
      r.2.mem ((c.tc : Thread Cert.NormOut.nD Cert.NormOut.τ).loc Cert.NormOut.main_arg0) = m ((c.tc : Thread Cert.NormOut.nD Cert.NormOut.τ).loc Cert.NormOut.main_arg0)
      ∧ r.2.mem ((c.tc : Thread Cert.NormOut.nD Cert.NormOut.τ).loc Cert.NormOut.main_arg1) = m ((c.tc : Thread Cert.NormOut.nD Cert.NormOut.τ).loc Cert.NormOut.main_arg1)
      ∧ r.2.mem ((c.tc : Thread Cert.NormOut.nD Cert.NormOut.τ).loc Cert.NormOut.main_arg2) = m ((c.tc : Thread Cert.NormOut.nD Cert.NormOut.τ).loc Cert.NormOut.main_arg2))
      ∧ r.2.sem = fun _ => 0)

def quiescent_NormOutIdeal [hNormOutIdeal : Cert.NormOutIdeal.Facts] : Prop :=
  ∀ (m : (ℓ : Loc Cert.NormOutIdeal.nD Cert.NormOutIdeal.τ Cert.NormOutIdeal.sig) → Buf (Elt Ideal) ℓ) (g : Dev Cert.NormOutIdeal.nD → PrngReg), Pre_NormOutIdeal m →
    θ_run (Cert.NormOutIdeal.defs (F := Ideal)) (onTc (τ := Cert.NormOutIdeal.τ) (Cert.NormOutIdeal.main (F := Ideal))) ⟨m, fun _ => 0, g⟩ (fun r => (∀ c : Dev Cert.NormOutIdeal.nD,
      r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
      ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
      ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2))
      ∧ r.2.sem = fun _ => 0)

def quiescent_NormOutReferenceIdeal [hNormOutReferenceIdeal : Cert.NormOutReferenceIdeal.Facts] : Prop :=
  ∀ (m : (ℓ : Loc Cert.NormOutReferenceIdeal.nD Cert.NormOutReferenceIdeal.τ Cert.NormOutReferenceIdeal.sig) → Buf (Elt Ideal) ℓ) (g : Dev Cert.NormOutReferenceIdeal.nD → PrngReg), Pre_NormOutReferenceIdeal m →
    θ_run (Cert.NormOutReferenceIdeal.defs (F := Ideal)) (onTc (τ := Cert.NormOutReferenceIdeal.τ) (Cert.NormOutReferenceIdeal.main (F := Ideal))) ⟨m, fun _ => 0, g⟩ (fun r => (∀ c : Dev Cert.NormOutReferenceIdeal.nD,
      r.2.mem ((c.tc : Thread Cert.NormOutReferenceIdeal.nD Cert.NormOutReferenceIdeal.τ).loc Cert.NormOutReferenceIdeal.main_arg0) = m ((c.tc : Thread Cert.NormOutReferenceIdeal.nD Cert.NormOutReferenceIdeal.τ).loc Cert.NormOutReferenceIdeal.main_arg0)
      ∧ r.2.mem ((c.tc : Thread Cert.NormOutReferenceIdeal.nD Cert.NormOutReferenceIdeal.τ).loc Cert.NormOutReferenceIdeal.main_arg1) = m ((c.tc : Thread Cert.NormOutReferenceIdeal.nD Cert.NormOutReferenceIdeal.τ).loc Cert.NormOutReferenceIdeal.main_arg1)
      ∧ r.2.mem ((c.tc : Thread Cert.NormOutReferenceIdeal.nD Cert.NormOutReferenceIdeal.τ).loc Cert.NormOutReferenceIdeal.main_arg2) = m ((c.tc : Thread Cert.NormOutReferenceIdeal.nD Cert.NormOutReferenceIdeal.τ).loc Cert.NormOutReferenceIdeal.main_arg2))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInReferenceIdeal [hAdInReferenceIdeal : Cert.AdInReferenceIdeal.Facts] : Prop :=
  ∀ (m : (ℓ : Loc Cert.AdInReferenceIdeal.nD Cert.AdInReferenceIdeal.τ Cert.AdInReferenceIdeal.sig) → Buf (Elt Ideal) ℓ) (g : Dev Cert.AdInReferenceIdeal.nD → PrngReg), Pre_AdInReferenceIdeal m →
    θ_run (Cert.AdInReferenceIdeal.defs (F := Ideal)) (onTc (τ := Cert.AdInReferenceIdeal.τ) (Cert.AdInReferenceIdeal.main (F := Ideal))) ⟨m, fun _ => 0, g⟩ (fun r => (∀ c : Dev Cert.AdInReferenceIdeal.nD,
      r.2.mem ((c.tc : Thread Cert.AdInReferenceIdeal.nD Cert.AdInReferenceIdeal.τ).loc Cert.AdInReferenceIdeal.main_arg0) = m ((c.tc : Thread Cert.AdInReferenceIdeal.nD Cert.AdInReferenceIdeal.τ).loc Cert.AdInReferenceIdeal.main_arg0)
      ∧ r.2.mem ((c.tc : Thread Cert.AdInReferenceIdeal.nD Cert.AdInReferenceIdeal.τ).loc Cert.AdInReferenceIdeal.main_arg1) = m ((c.tc : Thread Cert.AdInReferenceIdeal.nD Cert.AdInReferenceIdeal.τ).loc Cert.AdInReferenceIdeal.main_arg1)
      ∧ r.2.mem ((c.tc : Thread Cert.AdInReferenceIdeal.nD Cert.AdInReferenceIdeal.τ).loc Cert.AdInReferenceIdeal.main_arg2) = m ((c.tc : Thread Cert.AdInReferenceIdeal.nD Cert.AdInReferenceIdeal.τ).loc Cert.AdInReferenceIdeal.main_arg2)
      ∧ r.2.mem ((c.tc : Thread Cert.AdInReferenceIdeal.nD Cert.AdInReferenceIdeal.τ).loc Cert.AdInReferenceIdeal.main_arg3) = m ((c.tc : Thread Cert.AdInReferenceIdeal.nD Cert.AdInReferenceIdeal.τ).loc Cert.AdInReferenceIdeal.main_arg3))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ r.2.sem = fun _ => 0)

def quiescent_AdUpReferenceIdeal [hAdUpReferenceIdeal : Cert.AdUpReferenceIdeal.Facts] : Prop :=
  ∀ (m : (ℓ : Loc Cert.AdUpReferenceIdeal.nD Cert.AdUpReferenceIdeal.τ Cert.AdUpReferenceIdeal.sig) → Buf (Elt Ideal) ℓ) (g : Dev Cert.AdUpReferenceIdeal.nD → PrngReg), Pre_AdUpReferenceIdeal m →
    θ_run (Cert.AdUpReferenceIdeal.defs (F := Ideal)) (onTc (τ := Cert.AdUpReferenceIdeal.τ) (Cert.AdUpReferenceIdeal.main (F := Ideal))) ⟨m, fun _ => 0, g⟩ (fun r => (∀ c : Dev Cert.AdUpReferenceIdeal.nD,
      r.2.mem ((c.tc : Thread Cert.AdUpReferenceIdeal.nD Cert.AdUpReferenceIdeal.τ).loc Cert.AdUpReferenceIdeal.main_arg0) = m ((c.tc : Thread Cert.AdUpReferenceIdeal.nD Cert.AdUpReferenceIdeal.τ).loc Cert.AdUpReferenceIdeal.main_arg0)
      ∧ r.2.mem ((c.tc : Thread Cert.AdUpReferenceIdeal.nD Cert.AdUpReferenceIdeal.τ).loc Cert.AdUpReferenceIdeal.main_arg1) = m ((c.tc : Thread Cert.AdUpReferenceIdeal.nD Cert.AdUpReferenceIdeal.τ).loc Cert.AdUpReferenceIdeal.main_arg1)
      ∧ r.2.mem ((c.tc : Thread Cert.AdUpReferenceIdeal.nD Cert.AdUpReferenceIdeal.τ).loc Cert.AdUpReferenceIdeal.main_arg2) = m ((c.tc : Thread Cert.AdUpReferenceIdeal.nD Cert.AdUpReferenceIdeal.τ).loc Cert.AdUpReferenceIdeal.main_arg2)
      ∧ r.2.mem ((c.tc : Thread Cert.AdUpReferenceIdeal.nD Cert.AdUpReferenceIdeal.τ).loc Cert.AdUpReferenceIdeal.main_arg3) = m ((c.tc : Thread Cert.AdUpReferenceIdeal.nD Cert.AdUpReferenceIdeal.τ).loc Cert.AdUpReferenceIdeal.main_arg3))
      ∧ r.2.sem = fun _ => 0)

def quiescent_AdSquare [hAdSquare : Cert.AdSquare.Facts] : Prop :=
  ∀ (m : (ℓ : Loc Cert.AdSquare.nD Cert.AdSquare.τ Cert.AdSquare.sig) → Buf (Elt Bits) ℓ) (g : Dev Cert.AdSquare.nD → PrngReg), Pre_AdSquare m →
    θ_run (Cert.AdSquare.defs (F := Bits)) (onTc (τ := Cert.AdSquare.τ) (Cert.AdSquare.main (F := Bits))) ⟨m, fun _ => 0, g⟩ (fun r => (∀ c : Dev Cert.AdSquare.nD,
      r.2.mem ((c.tc : Thread Cert.AdSquare.nD Cert.AdSquare.τ).loc Cert.AdSquare.main_arg0) = m ((c.tc : Thread Cert.AdSquare.nD Cert.AdSquare.τ).loc Cert.AdSquare.main_arg0)
      ∧ r.2.mem ((c.tc : Thread Cert.AdSquare.nD Cert.AdSquare.τ).loc Cert.AdSquare.main_arg1) = m ((c.tc : Thread Cert.AdSquare.nD Cert.AdSquare.τ).loc Cert.AdSquare.main_arg1)
      ∧ r.2.mem ((c.tc : Thread Cert.AdSquare.nD Cert.AdSquare.τ).loc Cert.AdSquare.main_arg2) = m ((c.tc : Thread Cert.AdSquare.nD Cert.AdSquare.τ).loc Cert.AdSquare.main_arg2)
      ∧ r.2.mem ((c.tc : Thread Cert.AdSquare.nD Cert.AdSquare.τ).loc Cert.AdSquare.main_arg3) = m ((c.tc : Thread Cert.AdSquare.nD Cert.AdSquare.τ).loc Cert.AdSquare.main_arg3))
      ∧ r.2.sem = fun _ => 0)

def quiescent_AdSquareIdeal [hAdSquareIdeal : Cert.AdSquareIdeal.Facts] : Prop :=
  ∀ (m : (ℓ : Loc Cert.AdSquareIdeal.nD Cert.AdSquareIdeal.τ Cert.AdSquareIdeal.sig) → Buf (Elt Ideal) ℓ) (g : Dev Cert.AdSquareIdeal.nD → PrngReg), Pre_AdSquareIdeal m →
    θ_run (Cert.AdSquareIdeal.defs (F := Ideal)) (onTc (τ := Cert.AdSquareIdeal.τ) (Cert.AdSquareIdeal.main (F := Ideal))) ⟨m, fun _ => 0, g⟩ (fun r => (∀ c : Dev Cert.AdSquareIdeal.nD,
      r.2.mem ((c.tc : Thread Cert.AdSquareIdeal.nD Cert.AdSquareIdeal.τ).loc Cert.AdSquareIdeal.main_arg0) = m ((c.tc : Thread Cert.AdSquareIdeal.nD Cert.AdSquareIdeal.τ).loc Cert.AdSquareIdeal.main_arg0)
      ∧ r.2.mem ((c.tc : Thread Cert.AdSquareIdeal.nD Cert.AdSquareIdeal.τ).loc Cert.AdSquareIdeal.main_arg1) = m ((c.tc : Thread Cert.AdSquareIdeal.nD Cert.AdSquareIdeal.τ).loc Cert.AdSquareIdeal.main_arg1)
      ∧ r.2.mem ((c.tc : Thread Cert.AdSquareIdeal.nD Cert.AdSquareIdeal.τ).loc Cert.AdSquareIdeal.main_arg2) = m ((c.tc : Thread Cert.AdSquareIdeal.nD Cert.AdSquareIdeal.τ).loc Cert.AdSquareIdeal.main_arg2)
      ∧ r.2.mem ((c.tc : Thread Cert.AdSquareIdeal.nD Cert.AdSquareIdeal.τ).loc Cert.AdSquareIdeal.main_arg3) = m ((c.tc : Thread Cert.AdSquareIdeal.nD Cert.AdSquareIdeal.τ).loc Cert.AdSquareIdeal.main_arg3))
      ∧ r.2.sem = fun _ => 0)

def quiescent_AdSquareReferenceIdeal [hAdSquareReferenceIdeal : Cert.AdSquareReferenceIdeal.Facts] : Prop :=
  ∀ (m : (ℓ : Loc Cert.AdSquareReferenceIdeal.nD Cert.AdSquareReferenceIdeal.τ Cert.AdSquareReferenceIdeal.sig) → Buf (Elt Ideal) ℓ) (g : Dev Cert.AdSquareReferenceIdeal.nD → PrngReg), Pre_AdSquareReferenceIdeal m →
    θ_run (Cert.AdSquareReferenceIdeal.defs (F := Ideal)) (onTc (τ := Cert.AdSquareReferenceIdeal.τ) (Cert.AdSquareReferenceIdeal.main (F := Ideal))) ⟨m, fun _ => 0, g⟩ (fun r => (∀ c : Dev Cert.AdSquareReferenceIdeal.nD,
      r.2.mem ((c.tc : Thread Cert.AdSquareReferenceIdeal.nD Cert.AdSquareReferenceIdeal.τ).loc Cert.AdSquareReferenceIdeal.main_arg0) = m ((c.tc : Thread Cert.AdSquareReferenceIdeal.nD Cert.AdSquareReferenceIdeal.τ).loc Cert.AdSquareReferenceIdeal.main_arg0)
      ∧ r.2.mem ((c.tc : Thread Cert.AdSquareReferenceIdeal.nD Cert.AdSquareReferenceIdeal.τ).loc Cert.AdSquareReferenceIdeal.main_arg1) = m ((c.tc : Thread Cert.AdSquareReferenceIdeal.nD Cert.AdSquareReferenceIdeal.τ).loc Cert.AdSquareReferenceIdeal.main_arg1)
      ∧ r.2.mem ((c.tc : Thread Cert.AdSquareReferenceIdeal.nD Cert.AdSquareReferenceIdeal.τ).loc Cert.AdSquareReferenceIdeal.main_arg2) = m ((c.tc : Thread Cert.AdSquareReferenceIdeal.nD Cert.AdSquareReferenceIdeal.τ).loc Cert.AdSquareReferenceIdeal.main_arg2)
      ∧ r.2.mem ((c.tc : Thread Cert.AdSquareReferenceIdeal.nD Cert.AdSquareReferenceIdeal.τ).loc Cert.AdSquareReferenceIdeal.main_arg3) = m ((c.tc : Thread Cert.AdSquareReferenceIdeal.nD Cert.AdSquareReferenceIdeal.τ).loc Cert.AdSquareReferenceIdeal.main_arg3))
      ∧ r.2.sem = fun _ => 0)

def quiescent_AdPoolOut [hAdPoolOut : Cert.AdPoolOut.Facts] : Prop :=
  ∀ (m : (ℓ : Loc Cert.AdPoolOut.nD Cert.AdPoolOut.τ Cert.AdPoolOut.sig) → Buf (Elt Bits) ℓ) (g : Dev Cert.AdPoolOut.nD → PrngReg), Pre_AdPoolOut m →
    θ_run (Cert.AdPoolOut.defs (F := Bits)) (onTc (τ := Cert.AdPoolOut.τ) (Cert.AdPoolOut.main (F := Bits))) ⟨m, fun _ => 0, g⟩ (fun r => (∀ c : Dev Cert.AdPoolOut.nD,
      r.2.mem ((c.tc : Thread Cert.AdPoolOut.nD Cert.AdPoolOut.τ).loc Cert.AdPoolOut.main_arg0) = m ((c.tc : Thread Cert.AdPoolOut.nD Cert.AdPoolOut.τ).loc Cert.AdPoolOut.main_arg0)
      ∧ r.2.mem ((c.tc : Thread Cert.AdPoolOut.nD Cert.AdPoolOut.τ).loc Cert.AdPoolOut.main_arg1) = m ((c.tc : Thread Cert.AdPoolOut.nD Cert.AdPoolOut.τ).loc Cert.AdPoolOut.main_arg1)
      ∧ r.2.mem ((c.tc : Thread Cert.AdPoolOut.nD Cert.AdPoolOut.τ).loc Cert.AdPoolOut.main_arg2) = m ((c.tc : Thread Cert.AdPoolOut.nD Cert.AdPoolOut.τ).loc Cert.AdPoolOut.main_arg2)
      ∧ r.2.mem ((c.tc : Thread Cert.AdPoolOut.nD Cert.AdPoolOut.τ).loc Cert.AdPoolOut.main_arg3) = m ((c.tc : Thread Cert.AdPoolOut.nD Cert.AdPoolOut.τ).loc Cert.AdPoolOut.main_arg3))
      ∧ r.2.sem = fun _ => 0)

def quiescent_AdPoolOutIdeal [hAdPoolOutIdeal : Cert.AdPoolOutIdeal.Facts] : Prop :=
  ∀ (m : (ℓ : Loc Cert.AdPoolOutIdeal.nD Cert.AdPoolOutIdeal.τ Cert.AdPoolOutIdeal.sig) → Buf (Elt Ideal) ℓ) (g : Dev Cert.AdPoolOutIdeal.nD → PrngReg), Pre_AdPoolOutIdeal m →
    θ_run (Cert.AdPoolOutIdeal.defs (F := Ideal)) (onTc (τ := Cert.AdPoolOutIdeal.τ) (Cert.AdPoolOutIdeal.main (F := Ideal))) ⟨m, fun _ => 0, g⟩ (fun r => (∀ c : Dev Cert.AdPoolOutIdeal.nD,
      r.2.mem ((c.tc : Thread Cert.AdPoolOutIdeal.nD Cert.AdPoolOutIdeal.τ).loc Cert.AdPoolOutIdeal.main_arg0) = m ((c.tc : Thread Cert.AdPoolOutIdeal.nD Cert.AdPoolOutIdeal.τ).loc Cert.AdPoolOutIdeal.main_arg0)
      ∧ r.2.mem ((c.tc : Thread Cert.AdPoolOutIdeal.nD Cert.AdPoolOutIdeal.τ).loc Cert.AdPoolOutIdeal.main_arg1) = m ((c.tc : Thread Cert.AdPoolOutIdeal.nD Cert.AdPoolOutIdeal.τ).loc Cert.AdPoolOutIdeal.main_arg1)
      ∧ r.2.mem ((c.tc : Thread Cert.AdPoolOutIdeal.nD Cert.AdPoolOutIdeal.τ).loc Cert.AdPoolOutIdeal.main_arg2) = m ((c.tc : Thread Cert.AdPoolOutIdeal.nD Cert.AdPoolOutIdeal.τ).loc Cert.AdPoolOutIdeal.main_arg2)
      ∧ r.2.mem ((c.tc : Thread Cert.AdPoolOutIdeal.nD Cert.AdPoolOutIdeal.τ).loc Cert.AdPoolOutIdeal.main_arg3) = m ((c.tc : Thread Cert.AdPoolOutIdeal.nD Cert.AdPoolOutIdeal.τ).loc Cert.AdPoolOutIdeal.main_arg3))
      ∧ r.2.sem = fun _ => 0)

def quiescent_AdPoolOutReferenceIdeal [hAdPoolOutReferenceIdeal : Cert.AdPoolOutReferenceIdeal.Facts] : Prop :=
  ∀ (m : (ℓ : Loc Cert.AdPoolOutReferenceIdeal.nD Cert.AdPoolOutReferenceIdeal.τ Cert.AdPoolOutReferenceIdeal.sig) → Buf (Elt Ideal) ℓ) (g : Dev Cert.AdPoolOutReferenceIdeal.nD → PrngReg), Pre_AdPoolOutReferenceIdeal m →
    θ_run (Cert.AdPoolOutReferenceIdeal.defs (F := Ideal)) (onTc (τ := Cert.AdPoolOutReferenceIdeal.τ) (Cert.AdPoolOutReferenceIdeal.main (F := Ideal))) ⟨m, fun _ => 0, g⟩ (fun r => (∀ c : Dev Cert.AdPoolOutReferenceIdeal.nD,
      r.2.mem ((c.tc : Thread Cert.AdPoolOutReferenceIdeal.nD Cert.AdPoolOutReferenceIdeal.τ).loc Cert.AdPoolOutReferenceIdeal.main_arg0) = m ((c.tc : Thread Cert.AdPoolOutReferenceIdeal.nD Cert.AdPoolOutReferenceIdeal.τ).loc Cert.AdPoolOutReferenceIdeal.main_arg0)
      ∧ r.2.mem ((c.tc : Thread Cert.AdPoolOutReferenceIdeal.nD Cert.AdPoolOutReferenceIdeal.τ).loc Cert.AdPoolOutReferenceIdeal.main_arg1) = m ((c.tc : Thread Cert.AdPoolOutReferenceIdeal.nD Cert.AdPoolOutReferenceIdeal.τ).loc Cert.AdPoolOutReferenceIdeal.main_arg1)
      ∧ r.2.mem ((c.tc : Thread Cert.AdPoolOutReferenceIdeal.nD Cert.AdPoolOutReferenceIdeal.τ).loc Cert.AdPoolOutReferenceIdeal.main_arg2) = m ((c.tc : Thread Cert.AdPoolOutReferenceIdeal.nD Cert.AdPoolOutReferenceIdeal.τ).loc Cert.AdPoolOutReferenceIdeal.main_arg2)
      ∧ r.2.mem ((c.tc : Thread Cert.AdPoolOutReferenceIdeal.nD Cert.AdPoolOutReferenceIdeal.τ).loc Cert.AdPoolOutReferenceIdeal.main_arg3) = m ((c.tc : Thread Cert.AdPoolOutReferenceIdeal.nD Cert.AdPoolOutReferenceIdeal.τ).loc Cert.AdPoolOutReferenceIdeal.main_arg3))
      ∧ r.2.sem = fun _ => 0)

def quiescent_AdKv [hAdKv : Cert.AdKv.Facts] : Prop :=
  ∀ (m : (ℓ : Loc Cert.AdKv.nD Cert.AdKv.τ Cert.AdKv.sig) → Buf (Elt Bits) ℓ) (g : Dev Cert.AdKv.nD → PrngReg), Pre_AdKv m →
    θ_run (Cert.AdKv.defs (F := Bits)) (onTc (τ := Cert.AdKv.τ) (Cert.AdKv.main (F := Bits))) ⟨m, fun _ => 0, g⟩ (fun r => (∀ c : Dev Cert.AdKv.nD,
      r.2.mem ((c.tc : Thread Cert.AdKv.nD Cert.AdKv.τ).loc Cert.AdKv.main_arg0) = m ((c.tc : Thread Cert.AdKv.nD Cert.AdKv.τ).loc Cert.AdKv.main_arg0)
      ∧ r.2.mem ((c.tc : Thread Cert.AdKv.nD Cert.AdKv.τ).loc Cert.AdKv.main_arg1) = m ((c.tc : Thread Cert.AdKv.nD Cert.AdKv.τ).loc Cert.AdKv.main_arg1)
      ∧ r.2.mem ((c.tc : Thread Cert.AdKv.nD Cert.AdKv.τ).loc Cert.AdKv.main_arg2) = m ((c.tc : Thread Cert.AdKv.nD Cert.AdKv.τ).loc Cert.AdKv.main_arg2)
      ∧ r.2.mem ((c.tc : Thread Cert.AdKv.nD Cert.AdKv.τ).loc Cert.AdKv.main_arg3) = m ((c.tc : Thread Cert.AdKv.nD Cert.AdKv.τ).loc Cert.AdKv.main_arg3))
      ∧ r.2.sem = fun _ => 0)

def quiescent_AdKvIdeal [hAdKvIdeal : Cert.AdKvIdeal.Facts] : Prop :=
  ∀ (m : (ℓ : Loc Cert.AdKvIdeal.nD Cert.AdKvIdeal.τ Cert.AdKvIdeal.sig) → Buf (Elt Ideal) ℓ) (g : Dev Cert.AdKvIdeal.nD → PrngReg), Pre_AdKvIdeal m →
    θ_run (Cert.AdKvIdeal.defs (F := Ideal)) (onTc (τ := Cert.AdKvIdeal.τ) (Cert.AdKvIdeal.main (F := Ideal))) ⟨m, fun _ => 0, g⟩ (fun r => (∀ c : Dev Cert.AdKvIdeal.nD,
      r.2.mem ((c.tc : Thread Cert.AdKvIdeal.nD Cert.AdKvIdeal.τ).loc Cert.AdKvIdeal.main_arg0) = m ((c.tc : Thread Cert.AdKvIdeal.nD Cert.AdKvIdeal.τ).loc Cert.AdKvIdeal.main_arg0)
      ∧ r.2.mem ((c.tc : Thread Cert.AdKvIdeal.nD Cert.AdKvIdeal.τ).loc Cert.AdKvIdeal.main_arg1) = m ((c.tc : Thread Cert.AdKvIdeal.nD Cert.AdKvIdeal.τ).loc Cert.AdKvIdeal.main_arg1)
      ∧ r.2.mem ((c.tc : Thread Cert.AdKvIdeal.nD Cert.AdKvIdeal.τ).loc Cert.AdKvIdeal.main_arg2) = m ((c.tc : Thread Cert.AdKvIdeal.nD Cert.AdKvIdeal.τ).loc Cert.AdKvIdeal.main_arg2)
      ∧ r.2.mem ((c.tc : Thread Cert.AdKvIdeal.nD Cert.AdKvIdeal.τ).loc Cert.AdKvIdeal.main_arg3) = m ((c.tc : Thread Cert.AdKvIdeal.nD Cert.AdKvIdeal.τ).loc Cert.AdKvIdeal.main_arg3))
      ∧ r.2.sem = fun _ => 0)

def quiescent_AdKvReferenceIdeal [hAdKvReferenceIdeal : Cert.AdKvReferenceIdeal.Facts] : Prop :=
  ∀ (m : (ℓ : Loc Cert.AdKvReferenceIdeal.nD Cert.AdKvReferenceIdeal.τ Cert.AdKvReferenceIdeal.sig) → Buf (Elt Ideal) ℓ) (g : Dev Cert.AdKvReferenceIdeal.nD → PrngReg), Pre_AdKvReferenceIdeal m →
    θ_run (Cert.AdKvReferenceIdeal.defs (F := Ideal)) (onTc (τ := Cert.AdKvReferenceIdeal.τ) (Cert.AdKvReferenceIdeal.main (F := Ideal))) ⟨m, fun _ => 0, g⟩ (fun r => (∀ c : Dev Cert.AdKvReferenceIdeal.nD,
      r.2.mem ((c.tc : Thread Cert.AdKvReferenceIdeal.nD Cert.AdKvReferenceIdeal.τ).loc Cert.AdKvReferenceIdeal.main_arg0) = m ((c.tc : Thread Cert.AdKvReferenceIdeal.nD Cert.AdKvReferenceIdeal.τ).loc Cert.AdKvReferenceIdeal.main_arg0)
      ∧ r.2.mem ((c.tc : Thread Cert.AdKvReferenceIdeal.nD Cert.AdKvReferenceIdeal.τ).loc Cert.AdKvReferenceIdeal.main_arg1) = m ((c.tc : Thread Cert.AdKvReferenceIdeal.nD Cert.AdKvReferenceIdeal.τ).loc Cert.AdKvReferenceIdeal.main_arg1)
      ∧ r.2.mem ((c.tc : Thread Cert.AdKvReferenceIdeal.nD Cert.AdKvReferenceIdeal.τ).loc Cert.AdKvReferenceIdeal.main_arg2) = m ((c.tc : Thread Cert.AdKvReferenceIdeal.nD Cert.AdKvReferenceIdeal.τ).loc Cert.AdKvReferenceIdeal.main_arg2)
      ∧ r.2.mem ((c.tc : Thread Cert.AdKvReferenceIdeal.nD Cert.AdKvReferenceIdeal.τ).loc Cert.AdKvReferenceIdeal.main_arg3) = m ((c.tc : Thread Cert.AdKvReferenceIdeal.nD Cert.AdKvReferenceIdeal.τ).loc Cert.AdKvReferenceIdeal.main_arg3))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ r.2.sem = fun _ => 0)

def quiescent_AdDownReferenceIdeal [hAdDownReferenceIdeal : Cert.AdDownReferenceIdeal.Facts] : Prop :=
  ∀ (m : (ℓ : Loc Cert.AdDownReferenceIdeal.nD Cert.AdDownReferenceIdeal.τ Cert.AdDownReferenceIdeal.sig) → Buf (Elt Ideal) ℓ) (g : Dev Cert.AdDownReferenceIdeal.nD → PrngReg), Pre_AdDownReferenceIdeal m →
    θ_run (Cert.AdDownReferenceIdeal.defs (F := Ideal)) (onTc (τ := Cert.AdDownReferenceIdeal.τ) (Cert.AdDownReferenceIdeal.main (F := Ideal))) ⟨m, fun _ => 0, g⟩ (fun r => (∀ c : Dev Cert.AdDownReferenceIdeal.nD,
      r.2.mem ((c.tc : Thread Cert.AdDownReferenceIdeal.nD Cert.AdDownReferenceIdeal.τ).loc Cert.AdDownReferenceIdeal.main_arg0) = m ((c.tc : Thread Cert.AdDownReferenceIdeal.nD Cert.AdDownReferenceIdeal.τ).loc Cert.AdDownReferenceIdeal.main_arg0)
      ∧ r.2.mem ((c.tc : Thread Cert.AdDownReferenceIdeal.nD Cert.AdDownReferenceIdeal.τ).loc Cert.AdDownReferenceIdeal.main_arg1) = m ((c.tc : Thread Cert.AdDownReferenceIdeal.nD Cert.AdDownReferenceIdeal.τ).loc Cert.AdDownReferenceIdeal.main_arg1)
      ∧ r.2.mem ((c.tc : Thread Cert.AdDownReferenceIdeal.nD Cert.AdDownReferenceIdeal.τ).loc Cert.AdDownReferenceIdeal.main_arg2) = m ((c.tc : Thread Cert.AdDownReferenceIdeal.nD Cert.AdDownReferenceIdeal.τ).loc Cert.AdDownReferenceIdeal.main_arg2)
      ∧ r.2.mem ((c.tc : Thread Cert.AdDownReferenceIdeal.nD Cert.AdDownReferenceIdeal.τ).loc Cert.AdDownReferenceIdeal.main_arg3) = m ((c.tc : Thread Cert.AdDownReferenceIdeal.nD Cert.AdDownReferenceIdeal.τ).loc Cert.AdDownReferenceIdeal.main_arg3))
      ∧ r.2.sem = fun _ => 0)

def quiescent_AdConv [hAdConv : Cert.AdConv.Facts] : Prop :=
  ∀ (m : (ℓ : Loc Cert.AdConv.nD Cert.AdConv.τ Cert.AdConv.sig) → Buf (Elt Bits) ℓ) (g : Dev Cert.AdConv.nD → PrngReg), Pre_AdConv m →
    θ_run (Cert.AdConv.defs (F := Bits)) (onTc (τ := Cert.AdConv.τ) (Cert.AdConv.main (F := Bits))) ⟨m, fun _ => 0, g⟩ (fun r => (∀ c : Dev Cert.AdConv.nD,
      r.2.mem ((c.tc : Thread Cert.AdConv.nD Cert.AdConv.τ).loc Cert.AdConv.main_arg0) = m ((c.tc : Thread Cert.AdConv.nD Cert.AdConv.τ).loc Cert.AdConv.main_arg0)
      ∧ r.2.mem ((c.tc : Thread Cert.AdConv.nD Cert.AdConv.τ).loc Cert.AdConv.main_arg1) = m ((c.tc : Thread Cert.AdConv.nD Cert.AdConv.τ).loc Cert.AdConv.main_arg1)
      ∧ r.2.mem ((c.tc : Thread Cert.AdConv.nD Cert.AdConv.τ).loc Cert.AdConv.main_arg2) = m ((c.tc : Thread Cert.AdConv.nD Cert.AdConv.τ).loc Cert.AdConv.main_arg2)
      ∧ r.2.mem ((c.tc : Thread Cert.AdConv.nD Cert.AdConv.τ).loc Cert.AdConv.main_arg3) = m ((c.tc : Thread Cert.AdConv.nD Cert.AdConv.τ).loc Cert.AdConv.main_arg3))
      ∧ r.2.sem = fun _ => 0)

def quiescent_AdConvIdeal [hAdConvIdeal : Cert.AdConvIdeal.Facts] : Prop :=
  ∀ (m : (ℓ : Loc Cert.AdConvIdeal.nD Cert.AdConvIdeal.τ Cert.AdConvIdeal.sig) → Buf (Elt Ideal) ℓ) (g : Dev Cert.AdConvIdeal.nD → PrngReg), Pre_AdConvIdeal m →
    θ_run (Cert.AdConvIdeal.defs (F := Ideal)) (onTc (τ := Cert.AdConvIdeal.τ) (Cert.AdConvIdeal.main (F := Ideal))) ⟨m, fun _ => 0, g⟩ (fun r => (∀ c : Dev Cert.AdConvIdeal.nD,
      r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
      ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
      ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
      ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ r.2.sem = fun _ => 0)

def quiescent_AdConvReferenceIdeal [hAdConvReferenceIdeal : Cert.AdConvReferenceIdeal.Facts] : Prop :=
  ∀ (m : (ℓ : Loc Cert.AdConvReferenceIdeal.nD Cert.AdConvReferenceIdeal.τ Cert.AdConvReferenceIdeal.sig) → Buf (Elt Ideal) ℓ) (g : Dev Cert.AdConvReferenceIdeal.nD → PrngReg), Pre_AdConvReferenceIdeal m →
    θ_run (Cert.AdConvReferenceIdeal.defs (F := Ideal)) (onTc (τ := Cert.AdConvReferenceIdeal.τ) (Cert.AdConvReferenceIdeal.main (F := Ideal))) ⟨m, fun _ => 0, g⟩ (fun r => (∀ c : Dev Cert.AdConvReferenceIdeal.nD,
      r.2.mem ((c.tc : Thread Cert.AdConvReferenceIdeal.nD Cert.AdConvReferenceIdeal.τ).loc Cert.AdConvReferenceIdeal.main_arg0) = m ((c.tc : Thread Cert.AdConvReferenceIdeal.nD Cert.AdConvReferenceIdeal.τ).loc Cert.AdConvReferenceIdeal.main_arg0)
      ∧ r.2.mem ((c.tc : Thread Cert.AdConvReferenceIdeal.nD Cert.AdConvReferenceIdeal.τ).loc Cert.AdConvReferenceIdeal.main_arg1) = m ((c.tc : Thread Cert.AdConvReferenceIdeal.nD Cert.AdConvReferenceIdeal.τ).loc Cert.AdConvReferenceIdeal.main_arg1)
      ∧ r.2.mem ((c.tc : Thread Cert.AdConvReferenceIdeal.nD Cert.AdConvReferenceIdeal.τ).loc Cert.AdConvReferenceIdeal.main_arg2) = m ((c.tc : Thread Cert.AdConvReferenceIdeal.nD Cert.AdConvReferenceIdeal.τ).loc Cert.AdConvReferenceIdeal.main_arg2)
      ∧ r.2.mem ((c.tc : Thread Cert.AdConvReferenceIdeal.nD Cert.AdConvReferenceIdeal.τ).loc Cert.AdConvReferenceIdeal.main_arg3) = m ((c.tc : Thread Cert.AdConvReferenceIdeal.nD Cert.AdConvReferenceIdeal.τ).loc Cert.AdConvReferenceIdeal.main_arg3))
      ∧ r.2.sem = fun _ => 0)

def quiescent_AdFfnConv [hAdFfnConv : Cert.AdFfnConv.Facts] : Prop :=
  ∀ (m : (ℓ : Loc Cert.AdFfnConv.nD Cert.AdFfnConv.τ Cert.AdFfnConv.sig) → Buf (Elt Bits) ℓ) (g : Dev Cert.AdFfnConv.nD → PrngReg), Pre_AdFfnConv m →
    θ_run (Cert.AdFfnConv.defs (F := Bits)) (onTc (τ := Cert.AdFfnConv.τ) (Cert.AdFfnConv.main (F := Bits))) ⟨m, fun _ => 0, g⟩ (fun r => (∀ c : Dev Cert.AdFfnConv.nD,
      r.2.mem ((c.tc : Thread Cert.AdFfnConv.nD Cert.AdFfnConv.τ).loc Cert.AdFfnConv.main_arg0) = m ((c.tc : Thread Cert.AdFfnConv.nD Cert.AdFfnConv.τ).loc Cert.AdFfnConv.main_arg0)
      ∧ r.2.mem ((c.tc : Thread Cert.AdFfnConv.nD Cert.AdFfnConv.τ).loc Cert.AdFfnConv.main_arg1) = m ((c.tc : Thread Cert.AdFfnConv.nD Cert.AdFfnConv.τ).loc Cert.AdFfnConv.main_arg1)
      ∧ r.2.mem ((c.tc : Thread Cert.AdFfnConv.nD Cert.AdFfnConv.τ).loc Cert.AdFfnConv.main_arg2) = m ((c.tc : Thread Cert.AdFfnConv.nD Cert.AdFfnConv.τ).loc Cert.AdFfnConv.main_arg2)
      ∧ r.2.mem ((c.tc : Thread Cert.AdFfnConv.nD Cert.AdFfnConv.τ).loc Cert.AdFfnConv.main_arg3) = m ((c.tc : Thread Cert.AdFfnConv.nD Cert.AdFfnConv.τ).loc Cert.AdFfnConv.main_arg3))
      ∧ r.2.sem = fun _ => 0)

def quiescent_AdFfnConvIdeal [hAdFfnConvIdeal : Cert.AdFfnConvIdeal.Facts] : Prop :=
  ∀ (m : (ℓ : Loc Cert.AdFfnConvIdeal.nD Cert.AdFfnConvIdeal.τ Cert.AdFfnConvIdeal.sig) → Buf (Elt Ideal) ℓ) (g : Dev Cert.AdFfnConvIdeal.nD → PrngReg), Pre_AdFfnConvIdeal m →
    θ_run (Cert.AdFfnConvIdeal.defs (F := Ideal)) (onTc (τ := Cert.AdFfnConvIdeal.τ) (Cert.AdFfnConvIdeal.main (F := Ideal))) ⟨m, fun _ => 0, g⟩ (fun r => (∀ c : Dev Cert.AdFfnConvIdeal.nD,
      r.2.mem ((c.tc : Thread Cert.AdFfnConvIdeal.nD Cert.AdFfnConvIdeal.τ).loc Cert.AdFfnConvIdeal.main_arg0) = m ((c.tc : Thread Cert.AdFfnConvIdeal.nD Cert.AdFfnConvIdeal.τ).loc Cert.AdFfnConvIdeal.main_arg0)
      ∧ r.2.mem ((c.tc : Thread Cert.AdFfnConvIdeal.nD Cert.AdFfnConvIdeal.τ).loc Cert.AdFfnConvIdeal.main_arg1) = m ((c.tc : Thread Cert.AdFfnConvIdeal.nD Cert.AdFfnConvIdeal.τ).loc Cert.AdFfnConvIdeal.main_arg1)
      ∧ r.2.mem ((c.tc : Thread Cert.AdFfnConvIdeal.nD Cert.AdFfnConvIdeal.τ).loc Cert.AdFfnConvIdeal.main_arg2) = m ((c.tc : Thread Cert.AdFfnConvIdeal.nD Cert.AdFfnConvIdeal.τ).loc Cert.AdFfnConvIdeal.main_arg2)
      ∧ r.2.mem ((c.tc : Thread Cert.AdFfnConvIdeal.nD Cert.AdFfnConvIdeal.τ).loc Cert.AdFfnConvIdeal.main_arg3) = m ((c.tc : Thread Cert.AdFfnConvIdeal.nD Cert.AdFfnConvIdeal.τ).loc Cert.AdFfnConvIdeal.main_arg3))
      ∧ r.2.sem = fun _ => 0)

def quiescent_AdFfnConvReferenceIdeal [hAdFfnConvReferenceIdeal : Cert.AdFfnConvReferenceIdeal.Facts] : Prop :=
  ∀ (m : (ℓ : Loc Cert.AdFfnConvReferenceIdeal.nD Cert.AdFfnConvReferenceIdeal.τ Cert.AdFfnConvReferenceIdeal.sig) → Buf (Elt Ideal) ℓ) (g : Dev Cert.AdFfnConvReferenceIdeal.nD → PrngReg), Pre_AdFfnConvReferenceIdeal m →
    θ_run (Cert.AdFfnConvReferenceIdeal.defs (F := Ideal)) (onTc (τ := Cert.AdFfnConvReferenceIdeal.τ) (Cert.AdFfnConvReferenceIdeal.main (F := Ideal))) ⟨m, fun _ => 0, g⟩ (fun r => (∀ c : Dev Cert.AdFfnConvReferenceIdeal.nD,
      r.2.mem ((c.tc : Thread Cert.AdFfnConvReferenceIdeal.nD Cert.AdFfnConvReferenceIdeal.τ).loc Cert.AdFfnConvReferenceIdeal.main_arg0) = m ((c.tc : Thread Cert.AdFfnConvReferenceIdeal.nD Cert.AdFfnConvReferenceIdeal.τ).loc Cert.AdFfnConvReferenceIdeal.main_arg0)
      ∧ r.2.mem ((c.tc : Thread Cert.AdFfnConvReferenceIdeal.nD Cert.AdFfnConvReferenceIdeal.τ).loc Cert.AdFfnConvReferenceIdeal.main_arg1) = m ((c.tc : Thread Cert.AdFfnConvReferenceIdeal.nD Cert.AdFfnConvReferenceIdeal.τ).loc Cert.AdFfnConvReferenceIdeal.main_arg1)
      ∧ r.2.mem ((c.tc : Thread Cert.AdFfnConvReferenceIdeal.nD Cert.AdFfnConvReferenceIdeal.τ).loc Cert.AdFfnConvReferenceIdeal.main_arg2) = m ((c.tc : Thread Cert.AdFfnConvReferenceIdeal.nD Cert.AdFfnConvReferenceIdeal.τ).loc Cert.AdFfnConvReferenceIdeal.main_arg2)
      ∧ r.2.mem ((c.tc : Thread Cert.AdFfnConvReferenceIdeal.nD Cert.AdFfnConvReferenceIdeal.τ).loc Cert.AdFfnConvReferenceIdeal.main_arg3) = m ((c.tc : Thread Cert.AdFfnConvReferenceIdeal.nD Cert.AdFfnConvReferenceIdeal.τ).loc Cert.AdFfnConvReferenceIdeal.main_arg3))
      ∧ r.2.sem = fun _ => 0)

def quiescent_AdPool [hAdPool : Cert.AdPool.Facts] : Prop :=
  ∀ (m : (ℓ : Loc Cert.AdPool.nD Cert.AdPool.τ Cert.AdPool.sig) → Buf (Elt Bits) ℓ) (g : Dev Cert.AdPool.nD → PrngReg), Pre_AdPool m →
    θ_run (Cert.AdPool.defs (F := Bits)) (onTc (τ := Cert.AdPool.τ) (Cert.AdPool.main (F := Bits))) ⟨m, fun _ => 0, g⟩ (fun r => (∀ c : Dev Cert.AdPool.nD,
      r.2.mem ((c.tc : Thread Cert.AdPool.nD Cert.AdPool.τ).loc Cert.AdPool.main_arg0) = m ((c.tc : Thread Cert.AdPool.nD Cert.AdPool.τ).loc Cert.AdPool.main_arg0)
      ∧ r.2.mem ((c.tc : Thread Cert.AdPool.nD Cert.AdPool.τ).loc Cert.AdPool.main_arg1) = m ((c.tc : Thread Cert.AdPool.nD Cert.AdPool.τ).loc Cert.AdPool.main_arg1)
      ∧ r.2.mem ((c.tc : Thread Cert.AdPool.nD Cert.AdPool.τ).loc Cert.AdPool.main_arg2) = m ((c.tc : Thread Cert.AdPool.nD Cert.AdPool.τ).loc Cert.AdPool.main_arg2)
      ∧ r.2.mem ((c.tc : Thread Cert.AdPool.nD Cert.AdPool.τ).loc Cert.AdPool.main_arg3) = m ((c.tc : Thread Cert.AdPool.nD Cert.AdPool.τ).loc Cert.AdPool.main_arg3))
      ∧ r.2.sem = fun _ => 0)

def quiescent_AdPoolIdeal [hAdPoolIdeal : Cert.AdPoolIdeal.Facts] : Prop :=
  ∀ (m : (ℓ : Loc Cert.AdPoolIdeal.nD Cert.AdPoolIdeal.τ Cert.AdPoolIdeal.sig) → Buf (Elt Ideal) ℓ) (g : Dev Cert.AdPoolIdeal.nD → PrngReg), Pre_AdPoolIdeal m →
    θ_run (Cert.AdPoolIdeal.defs (F := Ideal)) (onTc (τ := Cert.AdPoolIdeal.τ) (Cert.AdPoolIdeal.main (F := Ideal))) ⟨m, fun _ => 0, g⟩ (fun r => (∀ c : Dev Cert.AdPoolIdeal.nD,
      r.2.mem ((c.tc : Thread Cert.AdPoolIdeal.nD Cert.AdPoolIdeal.τ).loc Cert.AdPoolIdeal.main_arg0) = m ((c.tc : Thread Cert.AdPoolIdeal.nD Cert.AdPoolIdeal.τ).loc Cert.AdPoolIdeal.main_arg0)
      ∧ r.2.mem ((c.tc : Thread Cert.AdPoolIdeal.nD Cert.AdPoolIdeal.τ).loc Cert.AdPoolIdeal.main_arg1) = m ((c.tc : Thread Cert.AdPoolIdeal.nD Cert.AdPoolIdeal.τ).loc Cert.AdPoolIdeal.main_arg1)
      ∧ r.2.mem ((c.tc : Thread Cert.AdPoolIdeal.nD Cert.AdPoolIdeal.τ).loc Cert.AdPoolIdeal.main_arg2) = m ((c.tc : Thread Cert.AdPoolIdeal.nD Cert.AdPoolIdeal.τ).loc Cert.AdPoolIdeal.main_arg2)
      ∧ r.2.mem ((c.tc : Thread Cert.AdPoolIdeal.nD Cert.AdPoolIdeal.τ).loc Cert.AdPoolIdeal.main_arg3) = m ((c.tc : Thread Cert.AdPoolIdeal.nD Cert.AdPoolIdeal.τ).loc Cert.AdPoolIdeal.main_arg3))
      ∧ r.2.sem = fun _ => 0)

def quiescent_AdPoolReferenceIdeal [hAdPoolReferenceIdeal : Cert.AdPoolReferenceIdeal.Facts] : Prop :=
  ∀ (m : (ℓ : Loc Cert.AdPoolReferenceIdeal.nD Cert.AdPoolReferenceIdeal.τ Cert.AdPoolReferenceIdeal.sig) → Buf (Elt Ideal) ℓ) (g : Dev Cert.AdPoolReferenceIdeal.nD → PrngReg), Pre_AdPoolReferenceIdeal m →
    θ_run (Cert.AdPoolReferenceIdeal.defs (F := Ideal)) (onTc (τ := Cert.AdPoolReferenceIdeal.τ) (Cert.AdPoolReferenceIdeal.main (F := Ideal))) ⟨m, fun _ => 0, g⟩ (fun r => (∀ c : Dev Cert.AdPoolReferenceIdeal.nD,
      r.2.mem ((c.tc : Thread Cert.AdPoolReferenceIdeal.nD Cert.AdPoolReferenceIdeal.τ).loc Cert.AdPoolReferenceIdeal.main_arg0) = m ((c.tc : Thread Cert.AdPoolReferenceIdeal.nD Cert.AdPoolReferenceIdeal.τ).loc Cert.AdPoolReferenceIdeal.main_arg0)
      ∧ r.2.mem ((c.tc : Thread Cert.AdPoolReferenceIdeal.nD Cert.AdPoolReferenceIdeal.τ).loc Cert.AdPoolReferenceIdeal.main_arg1) = m ((c.tc : Thread Cert.AdPoolReferenceIdeal.nD Cert.AdPoolReferenceIdeal.τ).loc Cert.AdPoolReferenceIdeal.main_arg1)
      ∧ r.2.mem ((c.tc : Thread Cert.AdPoolReferenceIdeal.nD Cert.AdPoolReferenceIdeal.τ).loc Cert.AdPoolReferenceIdeal.main_arg2) = m ((c.tc : Thread Cert.AdPoolReferenceIdeal.nD Cert.AdPoolReferenceIdeal.τ).loc Cert.AdPoolReferenceIdeal.main_arg2)
      ∧ r.2.mem ((c.tc : Thread Cert.AdPoolReferenceIdeal.nD Cert.AdPoolReferenceIdeal.τ).loc Cert.AdPoolReferenceIdeal.main_arg3) = m ((c.tc : Thread Cert.AdPoolReferenceIdeal.nD Cert.AdPoolReferenceIdeal.τ).loc Cert.AdPoolReferenceIdeal.main_arg3))
      ∧ r.2.sem = fun _ => 0)

def quiescent_AdSmall [hAdSmall : Cert.AdSmall.Facts] : Prop :=
  ∀ (m : (ℓ : Loc Cert.AdSmall.nD Cert.AdSmall.τ Cert.AdSmall.sig) → Buf (Elt Bits) ℓ) (g : Dev Cert.AdSmall.nD → PrngReg), Pre_AdSmall m →
    θ_run (Cert.AdSmall.defs (F := Bits)) (onTc (τ := Cert.AdSmall.τ) (Cert.AdSmall.main (F := Bits))) ⟨m, fun _ => 0, g⟩ (fun r => (∀ c : Dev Cert.AdSmall.nD,
      r.2.mem ((c.tc : Thread Cert.AdSmall.nD Cert.AdSmall.τ).loc Cert.AdSmall.main_arg0) = m ((c.tc : Thread Cert.AdSmall.nD Cert.AdSmall.τ).loc Cert.AdSmall.main_arg0)
      ∧ r.2.mem ((c.tc : Thread Cert.AdSmall.nD Cert.AdSmall.τ).loc Cert.AdSmall.main_arg1) = m ((c.tc : Thread Cert.AdSmall.nD Cert.AdSmall.τ).loc Cert.AdSmall.main_arg1)
      ∧ r.2.mem ((c.tc : Thread Cert.AdSmall.nD Cert.AdSmall.τ).loc Cert.AdSmall.main_arg2) = m ((c.tc : Thread Cert.AdSmall.nD Cert.AdSmall.τ).loc Cert.AdSmall.main_arg2)
      ∧ r.2.mem ((c.tc : Thread Cert.AdSmall.nD Cert.AdSmall.τ).loc Cert.AdSmall.main_arg3) = m ((c.tc : Thread Cert.AdSmall.nD Cert.AdSmall.τ).loc Cert.AdSmall.main_arg3))
      ∧ r.2.sem = fun _ => 0)

def quiescent_AdSmallIdeal [hAdSmallIdeal : Cert.AdSmallIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg), Pre_AdSmallIdeal m →
    θ_run (Cert.AdSmallIdeal.defs (F := Ideal)) (onTc (τ := Cert.AdSmallIdeal.τ) (Cert.AdSmallIdeal.main (F := Ideal))) ⟨m, fun _ => 0, g⟩ (fun r => (∀ c : Dev Cert.AdSmallIdeal.nD,
      r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
      ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
      ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
      ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ r.2.sem = fun _ => 0)

def quiescent_AdSmallReferenceIdeal [hAdSmallReferenceIdeal : Cert.AdSmallReferenceIdeal.Facts] : Prop :=
  ∀ (m : (ℓ : Loc Cert.AdSmallReferenceIdeal.nD Cert.AdSmallReferenceIdeal.τ Cert.AdSmallReferenceIdeal.sig) → Buf (Elt Ideal) ℓ) (g : Dev Cert.AdSmallReferenceIdeal.nD → PrngReg), Pre_AdSmallReferenceIdeal m →
    θ_run (Cert.AdSmallReferenceIdeal.defs (F := Ideal)) (onTc (τ := Cert.AdSmallReferenceIdeal.τ) (Cert.AdSmallReferenceIdeal.main (F := Ideal))) ⟨m, fun _ => 0, g⟩ (fun r => (∀ c : Dev Cert.AdSmallReferenceIdeal.nD,
      r.2.mem ((c.tc : Thread Cert.AdSmallReferenceIdeal.nD Cert.AdSmallReferenceIdeal.τ).loc Cert.AdSmallReferenceIdeal.main_arg0) = m ((c.tc : Thread Cert.AdSmallReferenceIdeal.nD Cert.AdSmallReferenceIdeal.τ).loc Cert.AdSmallReferenceIdeal.main_arg0)
      ∧ r.2.mem ((c.tc : Thread Cert.AdSmallReferenceIdeal.nD Cert.AdSmallReferenceIdeal.τ).loc Cert.AdSmallReferenceIdeal.main_arg1) = m ((c.tc : Thread Cert.AdSmallReferenceIdeal.nD Cert.AdSmallReferenceIdeal.τ).loc Cert.AdSmallReferenceIdeal.main_arg1)
      ∧ r.2.mem ((c.tc : Thread Cert.AdSmallReferenceIdeal.nD Cert.AdSmallReferenceIdeal.τ).loc Cert.AdSmallReferenceIdeal.main_arg2) = m ((c.tc : Thread Cert.AdSmallReferenceIdeal.nD Cert.AdSmallReferenceIdeal.τ).loc Cert.AdSmallReferenceIdeal.main_arg2)
      ∧ r.2.mem ((c.tc : Thread Cert.AdSmallReferenceIdeal.nD Cert.AdSmallReferenceIdeal.τ).loc Cert.AdSmallReferenceIdeal.main_arg3) = m ((c.tc : Thread Cert.AdSmallReferenceIdeal.nD Cert.AdSmallReferenceIdeal.τ).loc Cert.AdSmallReferenceIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3))
      ∧ r.2.sem = fun _ => 0)

def quiescent_XaFwd [hXaFwd : Cert.XaFwd.Facts] : Prop :=
  ∀ (m : (ℓ : Loc Cert.XaFwd.nD Cert.XaFwd.τ Cert.XaFwd.sig) → Buf (Elt Bits) ℓ) (g : Dev Cert.XaFwd.nD → PrngReg), Pre_XaFwd m →
    θ_run (Cert.XaFwd.defs (F := Bits)) (onTc (τ := Cert.XaFwd.τ) (Cert.XaFwd.main (F := Bits))) ⟨m, fun _ => 0, g⟩ (fun r => (∀ c : Dev Cert.XaFwd.nD,
      r.2.mem ((c.tc : Thread Cert.XaFwd.nD Cert.XaFwd.τ).loc Cert.XaFwd.main_arg0) = m ((c.tc : Thread Cert.XaFwd.nD Cert.XaFwd.τ).loc Cert.XaFwd.main_arg0)
      ∧ r.2.mem ((c.tc : Thread Cert.XaFwd.nD Cert.XaFwd.τ).loc Cert.XaFwd.main_arg1) = m ((c.tc : Thread Cert.XaFwd.nD Cert.XaFwd.τ).loc Cert.XaFwd.main_arg1))
      ∧ r.2.sem = fun _ => 0)

def quiescent_XaFwdIdeal [hXaFwdIdeal : Cert.XaFwdIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1))
      ∧ r.2.sem = fun _ => 0)

def quiescent_XaFwdReferenceIdeal [hXaFwdReferenceIdeal : Cert.XaFwdReferenceIdeal.Facts] : Prop :=
  ∀ (m : (ℓ : Loc Cert.XaFwdReferenceIdeal.nD Cert.XaFwdReferenceIdeal.τ Cert.XaFwdReferenceIdeal.sig) → Buf (Elt Ideal) ℓ) (g : Dev Cert.XaFwdReferenceIdeal.nD → PrngReg), Pre_XaFwdReferenceIdeal m →
    θ_run (Cert.XaFwdReferenceIdeal.defs (F := Ideal)) (onTc (τ := Cert.XaFwdReferenceIdeal.τ) (Cert.XaFwdReferenceIdeal.main (F := Ideal))) ⟨m, fun _ => 0, g⟩ (fun r => (∀ c : Dev Cert.XaFwdReferenceIdeal.nD,
      r.2.mem ((c.tc : Thread Cert.XaFwdReferenceIdeal.nD Cert.XaFwdReferenceIdeal.τ).loc Cert.XaFwdReferenceIdeal.main_arg0) = m ((c.tc : Thread Cert.XaFwdReferenceIdeal.nD Cert.XaFwdReferenceIdeal.τ).loc Cert.XaFwdReferenceIdeal.main_arg0)
      ∧ r.2.mem ((c.tc : Thread Cert.XaFwdReferenceIdeal.nD Cert.XaFwdReferenceIdeal.τ).loc Cert.XaFwdReferenceIdeal.main_arg1) = m ((c.tc : Thread Cert.XaFwdReferenceIdeal.nD Cert.XaFwdReferenceIdeal.τ).loc Cert.XaFwdReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormReferenceIdeal [hPrenormReferenceIdeal : Cert.PrenormReferenceIdeal.Facts] : Prop :=
  ∀ (m : (ℓ : Loc Cert.PrenormReferenceIdeal.nD Cert.PrenormReferenceIdeal.τ Cert.PrenormReferenceIdeal.sig) → Buf (Elt Ideal) ℓ) (g : Dev Cert.PrenormReferenceIdeal.nD → PrngReg), Pre_PrenormReferenceIdeal m →
    θ_run (Cert.PrenormReferenceIdeal.defs (F := Ideal)) (onTc (τ := Cert.PrenormReferenceIdeal.τ) (Cert.PrenormReferenceIdeal.main (F := Ideal))) ⟨m, fun _ => 0, g⟩ (fun r => (∀ c : Dev Cert.PrenormReferenceIdeal.nD,
      r.2.mem ((c.tc : Thread Cert.PrenormReferenceIdeal.nD Cert.PrenormReferenceIdeal.τ).loc Cert.PrenormReferenceIdeal.main_arg0) = m ((c.tc : Thread Cert.PrenormReferenceIdeal.nD Cert.PrenormReferenceIdeal.τ).loc Cert.PrenormReferenceIdeal.main_arg0)
      ∧ r.2.mem ((c.tc : Thread Cert.PrenormReferenceIdeal.nD Cert.PrenormReferenceIdeal.τ).loc Cert.PrenormReferenceIdeal.main_arg1) = m ((c.tc : Thread Cert.PrenormReferenceIdeal.nD Cert.PrenormReferenceIdeal.τ).loc Cert.PrenormReferenceIdeal.main_arg1))
      ∧ r.2.sem = fun _ => 0)

def quiescent_PostPre [hPostPre : Cert.PostPre.Facts] : Prop :=
  ∀ (m : (ℓ : Loc Cert.PostPre.nD Cert.PostPre.τ Cert.PostPre.sig) → Buf (Elt Bits) ℓ) (g : Dev Cert.PostPre.nD → PrngReg), Pre_PostPre m →
    θ_run (Cert.PostPre.defs (F := Bits)) (onTc (τ := Cert.PostPre.τ) (Cert.PostPre.main (F := Bits))) ⟨m, fun _ => 0, g⟩ (fun r => (∀ c : Dev Cert.PostPre.nD,
      r.2.mem ((c.tc : Thread Cert.PostPre.nD Cert.PostPre.τ).loc Cert.PostPre.main_arg0) = m ((c.tc : Thread Cert.PostPre.nD Cert.PostPre.τ).loc Cert.PostPre.main_arg0)
      ∧ r.2.mem ((c.tc : Thread Cert.PostPre.nD Cert.PostPre.τ).loc Cert.PostPre.main_arg1) = m ((c.tc : Thread Cert.PostPre.nD Cert.PostPre.τ).loc Cert.PostPre.main_arg1)
      ∧ r.2.mem ((c.tc : Thread Cert.PostPre.nD Cert.PostPre.τ).loc Cert.PostPre.main_arg2) = m ((c.tc : Thread Cert.PostPre.nD Cert.PostPre.τ).loc Cert.PostPre.main_arg2)
      ∧ r.2.mem ((c.tc : Thread Cert.PostPre.nD Cert.PostPre.τ).loc Cert.PostPre.main_arg3) = m ((c.tc : Thread Cert.PostPre.nD Cert.PostPre.τ).loc Cert.PostPre.main_arg3))
      ∧ r.2.sem = fun _ => 0)

def quiescent_PostPreIdeal [hPostPreIdeal : Cert.PostPreIdeal.Facts] : Prop :=
  ∀ (m : (ℓ : Loc Cert.PostPreIdeal.nD Cert.PostPreIdeal.τ Cert.PostPreIdeal.sig) → Buf (Elt Ideal) ℓ) (g : Dev Cert.PostPreIdeal.nD → PrngReg), Pre_PostPreIdeal m →
    θ_run (Cert.PostPreIdeal.defs (F := Ideal)) (onTc (τ := Cert.PostPreIdeal.τ) (Cert.PostPreIdeal.main (F := Ideal))) ⟨m, fun _ => 0, g⟩ (fun r => (∀ c : Dev Cert.PostPreIdeal.nD,
      r.2.mem ((c.tc : Thread Cert.PostPreIdeal.nD Cert.PostPreIdeal.τ).loc Cert.PostPreIdeal.main_arg0) = m ((c.tc : Thread Cert.PostPreIdeal.nD Cert.PostPreIdeal.τ).loc Cert.PostPreIdeal.main_arg0)
      ∧ r.2.mem ((c.tc : Thread Cert.PostPreIdeal.nD Cert.PostPreIdeal.τ).loc Cert.PostPreIdeal.main_arg1) = m ((c.tc : Thread Cert.PostPreIdeal.nD Cert.PostPreIdeal.τ).loc Cert.PostPreIdeal.main_arg1)
      ∧ r.2.mem ((c.tc : Thread Cert.PostPreIdeal.nD Cert.PostPreIdeal.τ).loc Cert.PostPreIdeal.main_arg2) = m ((c.tc : Thread Cert.PostPreIdeal.nD Cert.PostPreIdeal.τ).loc Cert.PostPreIdeal.main_arg2)
      ∧ r.2.mem ((c.tc : Thread Cert.PostPreIdeal.nD Cert.PostPreIdeal.τ).loc Cert.PostPreIdeal.main_arg3) = m ((c.tc : Thread Cert.PostPreIdeal.nD Cert.PostPreIdeal.τ).loc Cert.PostPreIdeal.main_arg3))
      ∧ r.2.sem = fun _ => 0)

def quiescent_PostPreReferenceIdeal [hPostPreReferenceIdeal : Cert.PostPreReferenceIdeal.Facts] : Prop :=
  ∀ (m : (ℓ : Loc Cert.PostPreReferenceIdeal.nD Cert.PostPreReferenceIdeal.τ Cert.PostPreReferenceIdeal.sig) → Buf (Elt Ideal) ℓ) (g : Dev Cert.PostPreReferenceIdeal.nD → PrngReg), Pre_PostPreReferenceIdeal m →
    θ_run (Cert.PostPreReferenceIdeal.defs (F := Ideal)) (onTc (τ := Cert.PostPreReferenceIdeal.τ) (Cert.PostPreReferenceIdeal.main (F := Ideal))) ⟨m, fun _ => 0, g⟩ (fun r => (∀ c : Dev Cert.PostPreReferenceIdeal.nD,
      r.2.mem ((c.tc : Thread Cert.PostPreReferenceIdeal.nD Cert.PostPreReferenceIdeal.τ).loc Cert.PostPreReferenceIdeal.main_arg0) = m ((c.tc : Thread Cert.PostPreReferenceIdeal.nD Cert.PostPreReferenceIdeal.τ).loc Cert.PostPreReferenceIdeal.main_arg0)
      ∧ r.2.mem ((c.tc : Thread Cert.PostPreReferenceIdeal.nD Cert.PostPreReferenceIdeal.τ).loc Cert.PostPreReferenceIdeal.main_arg1) = m ((c.tc : Thread Cert.PostPreReferenceIdeal.nD Cert.PostPreReferenceIdeal.τ).loc Cert.PostPreReferenceIdeal.main_arg1)
      ∧ r.2.mem ((c.tc : Thread Cert.PostPreReferenceIdeal.nD Cert.PostPreReferenceIdeal.τ).loc Cert.PostPreReferenceIdeal.main_arg2) = m ((c.tc : Thread Cert.PostPreReferenceIdeal.nD Cert.PostPreReferenceIdeal.τ).loc Cert.PostPreReferenceIdeal.main_arg2)
      ∧ r.2.mem ((c.tc : Thread Cert.PostPreReferenceIdeal.nD Cert.PostPreReferenceIdeal.τ).loc Cert.PostPreReferenceIdeal.main_arg3) = m ((c.tc : Thread Cert.PostPreReferenceIdeal.nD Cert.PostPreReferenceIdeal.τ).loc Cert.PostPreReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2))
      ∧ r.2.sem = fun _ => 0)

def preserves_Kernel_KernelIdeal : Prop :=
  True

def algebraic_KernelIdeal_ReferenceIdeal_pre_xa_finite [hKernelIdeal : Cert.KernelIdeal.Facts] [hReferenceIdeal : Cert.ReferenceIdeal.Facts] [hPre_xa_finite : Cert.Pre_xa_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_xa_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gdn_GdnIdeal : Prop :=
  True

def algebraic_GdnIdeal_GdnReferenceIdeal_pre_gdn_finite [hGdnIdeal : Cert.GdnIdeal.Facts] [hGdnReferenceIdeal : Cert.GdnReferenceIdeal.Facts] [hPre_gdn_finite : Cert.Pre_gdn_finite.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnReferenceIdeal.nD Cert.GdnReferenceIdeal.τ Cert.GdnReferenceIdeal.sig) → Buf (Elt Ideal) ℓ) (g' : Dev Cert.GdnReferenceIdeal.nD → PrngReg), Pre_GdnIdeal_gdn_finite m →
    (∀ c : Dev Cert.GdnIdeal.nD,
      m' ((c.tc : Thread Cert.GdnReferenceIdeal.nD Cert.GdnReferenceIdeal.τ).loc Cert.GdnReferenceIdeal.main_arg0) = m ((c.tc : Thread Cert.GdnIdeal.nD Cert.GdnIdeal.τ).loc Cert.GdnIdeal.main_arg0)
      ∧ m' ((c.tc : Thread Cert.GdnReferenceIdeal.nD Cert.GdnReferenceIdeal.τ).loc Cert.GdnReferenceIdeal.main_arg1) = m ((c.tc : Thread Cert.GdnIdeal.nD Cert.GdnIdeal.τ).loc Cert.GdnIdeal.main_arg1)
      ∧ m' ((c.tc : Thread Cert.GdnReferenceIdeal.nD Cert.GdnReferenceIdeal.τ).loc Cert.GdnReferenceIdeal.main_arg2) = m ((c.tc : Thread Cert.GdnIdeal.nD Cert.GdnIdeal.τ).loc Cert.GdnIdeal.main_arg2)
      ∧ m' ((c.tc : Thread Cert.GdnReferenceIdeal.nD Cert.GdnReferenceIdeal.τ).loc Cert.GdnReferenceIdeal.main_arg3) = m ((c.tc : Thread Cert.GdnIdeal.nD Cert.GdnIdeal.τ).loc Cert.GdnIdeal.main_arg3)) →
    ∃ (v0 : (c : Dev Cert.GdnIdeal.nD) → Buf (Elt Ideal) ((c.tc : Thread Cert.GdnIdeal.nD Cert.GdnIdeal.τ).loc Cert.GdnIdeal.main_v0_0)) (v1 : (c : Dev Cert.GdnIdeal.nD) → Buf (Elt Ideal) ((c.tc : Thread Cert.GdnIdeal.nD Cert.GdnIdeal.τ).loc Cert.GdnIdeal.main_v0_1)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v0_0) = v0 c
          ∧ r.2.mem ((c.tc : Thread Cert.GdnIdeal.nD Cert.GdnIdeal.τ).loc Cert.GdnIdeal.main_v0_1) = v1 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3))
      ∧ θ_run (Cert.GdnReferenceIdeal.defs (F := Ideal)) (onTc (τ := Cert.GdnReferenceIdeal.τ) (Cert.GdnReferenceIdeal.main (F := Ideal))) ⟨m', fun _ => 0, g'⟩ (fun r => ∀ c : Dev Cert.GdnReferenceIdeal.nD,
          r.2.mem ((c.tc : Thread Cert.GdnReferenceIdeal.nD Cert.GdnReferenceIdeal.τ).loc Cert.GdnReferenceIdeal.main_v32) = v0 c
          ∧ r.2.mem ((c.tc : Thread Cert.GdnReferenceIdeal.nD Cert.GdnReferenceIdeal.τ).loc Cert.GdnReferenceIdeal.main_v39) = v1 c
          ∧ r.2.mem ((c.tc : Thread Cert.GdnReferenceIdeal.nD Cert.GdnReferenceIdeal.τ).loc Cert.GdnReferenceIdeal.main_arg0) = m' ((c.tc : Thread Cert.GdnReferenceIdeal.nD Cert.GdnReferenceIdeal.τ).loc Cert.GdnReferenceIdeal.main_arg0)
          ∧ r.2.mem ((c.tc : Thread Cert.GdnReferenceIdeal.nD Cert.GdnReferenceIdeal.τ).loc Cert.GdnReferenceIdeal.main_arg1) = m' ((c.tc : Thread Cert.GdnReferenceIdeal.nD Cert.GdnReferenceIdeal.τ).loc Cert.GdnReferenceIdeal.main_arg1)
          ∧ r.2.mem ((c.tc : Thread Cert.GdnReferenceIdeal.nD Cert.GdnReferenceIdeal.τ).loc Cert.GdnReferenceIdeal.main_arg2) = m' ((c.tc : Thread Cert.GdnReferenceIdeal.nD Cert.GdnReferenceIdeal.τ).loc Cert.GdnReferenceIdeal.main_arg2)
          ∧ r.2.mem ((c.tc : Thread Cert.GdnReferenceIdeal.nD Cert.GdnReferenceIdeal.τ).loc Cert.GdnReferenceIdeal.main_arg3) = m' ((c.tc : Thread Cert.GdnReferenceIdeal.nD Cert.GdnReferenceIdeal.τ).loc Cert.GdnReferenceIdeal.main_arg3))

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v6) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v7) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v12) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_SquareDx_SquareDxIdeal : Prop :=
  True

def algebraic_SquareDxIdeal_SquareDxReferenceIdeal [hSquareDxIdeal : Cert.SquareDxIdeal.Facts] [hSquareDxReferenceIdeal : Cert.SquareDxReferenceIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg)
    (m' : (ℓ : Loc Cert.SquareDxReferenceIdeal.nD Cert.SquareDxReferenceIdeal.τ Cert.SquareDxReferenceIdeal.sig) → Buf (Elt Ideal) ℓ) (g' : Dev Cert.SquareDxReferenceIdeal.nD → PrngReg), Pre_SquareDxIdeal m →
    (∀ c : Dev Cert.SquareDxIdeal.nD,
      m' ((c.tc : Thread Cert.SquareDxReferenceIdeal.nD Cert.SquareDxReferenceIdeal.τ).loc Cert.SquareDxReferenceIdeal.main_arg0) = m ((c.tc : Thread Cert.SquareDxIdeal.nD Cert.SquareDxIdeal.τ).loc Cert.SquareDxIdeal.main_arg0)
      ∧ m' ((c.tc : Thread Cert.SquareDxReferenceIdeal.nD Cert.SquareDxReferenceIdeal.τ).loc Cert.SquareDxReferenceIdeal.main_arg1) = m ((c.tc : Thread Cert.SquareDxIdeal.nD Cert.SquareDxIdeal.τ).loc Cert.SquareDxIdeal.main_arg1)) →
    ∃ (v0 : (c : Dev Cert.SquareDxIdeal.nD) → Buf (Elt Ideal) ((c.tc : Thread Cert.SquareDxIdeal.nD Cert.SquareDxIdeal.τ).loc Cert.SquareDxIdeal.main_v0)),
      θ_run (Cert.SquareDxIdeal.defs (F := Ideal)) (onTc (τ := Cert.SquareDxIdeal.τ) (Cert.SquareDxIdeal.main (F := Ideal))) ⟨m, fun _ => 0, g⟩ (fun r => ∀ c : Dev Cert.SquareDxIdeal.nD,
          r.2.mem ((c.tc : Thread Cert.SquareDxIdeal.nD Cert.SquareDxIdeal.τ).loc Cert.SquareDxIdeal.main_v0) = v0 c
          ∧ r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
          ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ θ_run (Cert.SquareDxReferenceIdeal.defs (F := Ideal)) (onTc (τ := Cert.SquareDxReferenceIdeal.τ) (Cert.SquareDxReferenceIdeal.main (F := Ideal))) ⟨m', fun _ => 0, g'⟩ (fun r => ∀ c : Dev Cert.SquareDxReferenceIdeal.nD,
          r.2.mem ((c.tc : Thread Cert.SquareDxReferenceIdeal.nD Cert.SquareDxReferenceIdeal.τ).loc Cert.SquareDxReferenceIdeal.main_v6) = v0 c
          ∧ r.2.mem ((c.tc : Thread Cert.SquareDxReferenceIdeal.nD Cert.SquareDxReferenceIdeal.τ).loc Cert.SquareDxReferenceIdeal.main_arg0) = m' ((c.tc : Thread Cert.SquareDxReferenceIdeal.nD Cert.SquareDxReferenceIdeal.τ).loc Cert.SquareDxReferenceIdeal.main_arg0)
          ∧ r.2.mem ((c.tc : Thread Cert.SquareDxReferenceIdeal.nD Cert.SquareDxReferenceIdeal.τ).loc Cert.SquareDxReferenceIdeal.main_arg1) = m' ((c.tc : Thread Cert.SquareDxReferenceIdeal.nD Cert.SquareDxReferenceIdeal.τ).loc Cert.SquareDxReferenceIdeal.main_arg1))

def preserves_SquareDw_SquareDwIdeal : Prop :=
  True

def algebraic_SquareDwIdeal_SquareDwReferenceIdeal [hSquareDwIdeal : Cert.SquareDwIdeal.Facts] [hSquareDwReferenceIdeal : Cert.SquareDwReferenceIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwReferenceIdeal.nD Cert.SquareDwReferenceIdeal.τ Cert.SquareDwReferenceIdeal.sig) → Buf (Elt Ideal) ℓ) (g' : Dev Cert.SquareDwReferenceIdeal.nD → PrngReg), Pre_SquareDwIdeal m →
    (∀ c : Dev Cert.SquareDwIdeal.nD,
      m' ((c.tc : Thread Cert.SquareDwReferenceIdeal.nD Cert.SquareDwReferenceIdeal.τ).loc Cert.SquareDwReferenceIdeal.main_arg0) = m ((c.tc : Thread Cert.SquareDwIdeal.nD Cert.SquareDwIdeal.τ).loc Cert.SquareDwIdeal.main_arg0)
      ∧ m' ((c.tc : Thread Cert.SquareDwReferenceIdeal.nD Cert.SquareDwReferenceIdeal.τ).loc Cert.SquareDwReferenceIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwReferenceIdeal.defs (F := Ideal)) (onTc (τ := Cert.SquareDwReferenceIdeal.τ) (Cert.SquareDwReferenceIdeal.main (F := Ideal))) ⟨m', fun _ => 0, g'⟩ (fun r => ∀ c : Dev Cert.SquareDwReferenceIdeal.nD,
          r.2.mem ((c.tc : Thread Cert.SquareDwReferenceIdeal.nD Cert.SquareDwReferenceIdeal.τ).loc Cert.SquareDwReferenceIdeal.main_v7) = v0 c
          ∧ r.2.mem ((c.tc : Thread Cert.SquareDwReferenceIdeal.nD Cert.SquareDwReferenceIdeal.τ).loc Cert.SquareDwReferenceIdeal.main_arg0) = m' ((c.tc : Thread Cert.SquareDwReferenceIdeal.nD Cert.SquareDwReferenceIdeal.τ).loc Cert.SquareDwReferenceIdeal.main_arg0)
          ∧ r.2.mem ((c.tc : Thread Cert.SquareDwReferenceIdeal.nD Cert.SquareDwReferenceIdeal.τ).loc Cert.SquareDwReferenceIdeal.main_arg1) = m' ((c.tc : Thread Cert.SquareDwReferenceIdeal.nD Cert.SquareDwReferenceIdeal.τ).loc Cert.SquareDwReferenceIdeal.main_arg1))

def preserves_PoolDx_PoolDxIdeal : Prop :=
  True

def algebraic_PoolDxIdeal_PoolDxReferenceIdeal [hPoolDxIdeal : Cert.PoolDxIdeal.Facts] [hPoolDxReferenceIdeal : Cert.PoolDxReferenceIdeal.Facts] : Prop :=
  ∀ (m : (ℓ : Loc Cert.PoolDxIdeal.nD Cert.PoolDxIdeal.τ Cert.PoolDxIdeal.sig) → Buf (Elt Ideal) ℓ) (g : Dev Cert.PoolDxIdeal.nD → PrngReg)
    (m' : (ℓ : Loc Cert.PoolDxReferenceIdeal.nD Cert.PoolDxReferenceIdeal.τ Cert.PoolDxReferenceIdeal.sig) → Buf (Elt Ideal) ℓ) (g' : Dev Cert.PoolDxReferenceIdeal.nD → PrngReg), Pre_PoolDxIdeal m →
    (∀ c : Dev Cert.PoolDxIdeal.nD,
      m' ((c.tc : Thread Cert.PoolDxReferenceIdeal.nD Cert.PoolDxReferenceIdeal.τ).loc Cert.PoolDxReferenceIdeal.main_arg0) = m ((c.tc : Thread Cert.PoolDxIdeal.nD Cert.PoolDxIdeal.τ).loc Cert.PoolDxIdeal.main_arg0)
      ∧ m' ((c.tc : Thread Cert.PoolDxReferenceIdeal.nD Cert.PoolDxReferenceIdeal.τ).loc Cert.PoolDxReferenceIdeal.main_arg1) = m ((c.tc : Thread Cert.PoolDxIdeal.nD Cert.PoolDxIdeal.τ).loc Cert.PoolDxIdeal.main_arg1)) →
    ∃ (v0 : (c : Dev Cert.PoolDxIdeal.nD) → Buf (Elt Ideal) ((c.tc : Thread Cert.PoolDxIdeal.nD Cert.PoolDxIdeal.τ).loc Cert.PoolDxIdeal.main_v0)),
      θ_run (Cert.PoolDxIdeal.defs (F := Ideal)) (onTc (τ := Cert.PoolDxIdeal.τ) (Cert.PoolDxIdeal.main (F := Ideal))) ⟨m, fun _ => 0, g⟩ (fun r => ∀ c : Dev Cert.PoolDxIdeal.nD,
          r.2.mem ((c.tc : Thread Cert.PoolDxIdeal.nD Cert.PoolDxIdeal.τ).loc Cert.PoolDxIdeal.main_v0) = v0 c
          ∧ r.2.mem ((c.tc : Thread Cert.PoolDxIdeal.nD Cert.PoolDxIdeal.τ).loc Cert.PoolDxIdeal.main_arg0) = m ((c.tc : Thread Cert.PoolDxIdeal.nD Cert.PoolDxIdeal.τ).loc Cert.PoolDxIdeal.main_arg0)
          ∧ r.2.mem ((c.tc : Thread Cert.PoolDxIdeal.nD Cert.PoolDxIdeal.τ).loc Cert.PoolDxIdeal.main_arg1) = m ((c.tc : Thread Cert.PoolDxIdeal.nD Cert.PoolDxIdeal.τ).loc Cert.PoolDxIdeal.main_arg1))
      ∧ θ_run (Cert.PoolDxReferenceIdeal.defs (F := Ideal)) (onTc (τ := Cert.PoolDxReferenceIdeal.τ) (Cert.PoolDxReferenceIdeal.main (F := Ideal))) ⟨m', fun _ => 0, g'⟩ (fun r => ∀ c : Dev Cert.PoolDxReferenceIdeal.nD,
          r.2.mem ((c.tc : Thread Cert.PoolDxReferenceIdeal.nD Cert.PoolDxReferenceIdeal.τ).loc Cert.PoolDxReferenceIdeal.main_v6) = v0 c
          ∧ r.2.mem ((c.tc : Thread Cert.PoolDxReferenceIdeal.nD Cert.PoolDxReferenceIdeal.τ).loc Cert.PoolDxReferenceIdeal.main_arg0) = m' ((c.tc : Thread Cert.PoolDxReferenceIdeal.nD Cert.PoolDxReferenceIdeal.τ).loc Cert.PoolDxReferenceIdeal.main_arg0)
          ∧ r.2.mem ((c.tc : Thread Cert.PoolDxReferenceIdeal.nD Cert.PoolDxReferenceIdeal.τ).loc Cert.PoolDxReferenceIdeal.main_arg1) = m' ((c.tc : Thread Cert.PoolDxReferenceIdeal.nD Cert.PoolDxReferenceIdeal.τ).loc Cert.PoolDxReferenceIdeal.main_arg1))

def preserves_PoolDw_PoolDwIdeal : Prop :=
  True

def algebraic_PoolDwIdeal_PoolDwReferenceIdeal [hPoolDwIdeal : Cert.PoolDwIdeal.Facts] [hPoolDwReferenceIdeal : Cert.PoolDwReferenceIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwReferenceIdeal.nD Cert.PoolDwReferenceIdeal.τ Cert.PoolDwReferenceIdeal.sig) → Buf (Elt Ideal) ℓ) (g' : Dev Cert.PoolDwReferenceIdeal.nD → PrngReg), Pre_PoolDwIdeal m →
    (∀ c : Dev Cert.PoolDwIdeal.nD,
      m' ((c.tc : Thread Cert.PoolDwReferenceIdeal.nD Cert.PoolDwReferenceIdeal.τ).loc Cert.PoolDwReferenceIdeal.main_arg0) = m ((c.tc : Thread Cert.PoolDwIdeal.nD Cert.PoolDwIdeal.τ).loc Cert.PoolDwIdeal.main_arg0)
      ∧ m' ((c.tc : Thread Cert.PoolDwReferenceIdeal.nD Cert.PoolDwReferenceIdeal.τ).loc Cert.PoolDwReferenceIdeal.main_arg1) = m ((c.tc : Thread Cert.PoolDwIdeal.nD Cert.PoolDwIdeal.τ).loc Cert.PoolDwIdeal.main_arg1)) →
    ∃ (v0 : (c : Dev Cert.PoolDwIdeal.nD) → Buf (Elt Ideal) ((c.tc : Thread Cert.PoolDwIdeal.nD Cert.PoolDwIdeal.τ).loc Cert.PoolDwIdeal.main_v0)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v0) = v0 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1))
      ∧ θ_run (Cert.PoolDwReferenceIdeal.defs (F := Ideal)) (onTc (τ := Cert.PoolDwReferenceIdeal.τ) (Cert.PoolDwReferenceIdeal.main (F := Ideal))) ⟨m', fun _ => 0, g'⟩ (fun r => ∀ c : Dev Cert.PoolDwReferenceIdeal.nD,
          r.2.mem ((c.tc : Thread Cert.PoolDwReferenceIdeal.nD Cert.PoolDwReferenceIdeal.τ).loc Cert.PoolDwReferenceIdeal.main_v7) = v0 c
          ∧ r.2.mem ((c.tc : Thread Cert.PoolDwReferenceIdeal.nD Cert.PoolDwReferenceIdeal.τ).loc Cert.PoolDwReferenceIdeal.main_arg0) = m' ((c.tc : Thread Cert.PoolDwReferenceIdeal.nD Cert.PoolDwReferenceIdeal.τ).loc Cert.PoolDwReferenceIdeal.main_arg0)
          ∧ r.2.mem ((c.tc : Thread Cert.PoolDwReferenceIdeal.nD Cert.PoolDwReferenceIdeal.τ).loc Cert.PoolDwReferenceIdeal.main_arg1) = m' ((c.tc : Thread Cert.PoolDwReferenceIdeal.nD Cert.PoolDwReferenceIdeal.τ).loc Cert.PoolDwReferenceIdeal.main_arg1))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v11) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v6) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v7) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_KvDx_KvDxIdeal : Prop :=
  True

def algebraic_KvDxIdeal_KvDxReferenceIdeal [hKvDxIdeal : Cert.KvDxIdeal.Facts] [hKvDxReferenceIdeal : Cert.KvDxReferenceIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxReferenceIdeal.nD Cert.KvDxReferenceIdeal.τ Cert.KvDxReferenceIdeal.sig) → Buf (Elt Ideal) ℓ) (g' : Dev Cert.KvDxReferenceIdeal.nD → PrngReg), Pre_KvDxIdeal m →
    (∀ c : Dev Cert.KvDxIdeal.nD,
      m' ((c.tc : Thread Cert.KvDxReferenceIdeal.nD Cert.KvDxReferenceIdeal.τ).loc Cert.KvDxReferenceIdeal.main_arg0) = m ((c.tc : Thread Cert.KvDxIdeal.nD Cert.KvDxIdeal.τ).loc Cert.KvDxIdeal.main_arg0)
      ∧ m' ((c.tc : Thread Cert.KvDxReferenceIdeal.nD Cert.KvDxReferenceIdeal.τ).loc Cert.KvDxReferenceIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxReferenceIdeal.defs (F := Ideal)) (onTc (τ := Cert.KvDxReferenceIdeal.τ) (Cert.KvDxReferenceIdeal.main (F := Ideal))) ⟨m', fun _ => 0, g'⟩ (fun r => ∀ c : Dev Cert.KvDxReferenceIdeal.nD,
          r.2.mem ((c.tc : Thread Cert.KvDxReferenceIdeal.nD Cert.KvDxReferenceIdeal.τ).loc Cert.KvDxReferenceIdeal.main_v4) = v0 c
          ∧ r.2.mem ((c.tc : Thread Cert.KvDxReferenceIdeal.nD Cert.KvDxReferenceIdeal.τ).loc Cert.KvDxReferenceIdeal.main_arg0) = m' ((c.tc : Thread Cert.KvDxReferenceIdeal.nD Cert.KvDxReferenceIdeal.τ).loc Cert.KvDxReferenceIdeal.main_arg0)
          ∧ r.2.mem ((c.tc : Thread Cert.KvDxReferenceIdeal.nD Cert.KvDxReferenceIdeal.τ).loc Cert.KvDxReferenceIdeal.main_arg1) = m' ((c.tc : Thread Cert.KvDxReferenceIdeal.nD Cert.KvDxReferenceIdeal.τ).loc Cert.KvDxReferenceIdeal.main_arg1))

def preserves_KvDw_KvDwIdeal : Prop :=
  True

def algebraic_KvDwIdeal_KvDwReferenceIdeal [hKvDwIdeal : Cert.KvDwIdeal.Facts] [hKvDwReferenceIdeal : Cert.KvDwReferenceIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwReferenceIdeal.nD Cert.KvDwReferenceIdeal.τ Cert.KvDwReferenceIdeal.sig) → Buf (Elt Ideal) ℓ) (g' : Dev Cert.KvDwReferenceIdeal.nD → PrngReg), Pre_KvDwIdeal m →
    (∀ c : Dev Cert.KvDwIdeal.nD,
      m' ((c.tc : Thread Cert.KvDwReferenceIdeal.nD Cert.KvDwReferenceIdeal.τ).loc Cert.KvDwReferenceIdeal.main_arg0) = m ((c.tc : Thread Cert.KvDwIdeal.nD Cert.KvDwIdeal.τ).loc Cert.KvDwIdeal.main_arg0)
      ∧ m' ((c.tc : Thread Cert.KvDwReferenceIdeal.nD Cert.KvDwReferenceIdeal.τ).loc Cert.KvDwReferenceIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwReferenceIdeal.defs (F := Ideal)) (onTc (τ := Cert.KvDwReferenceIdeal.τ) (Cert.KvDwReferenceIdeal.main (F := Ideal))) ⟨m', fun _ => 0, g'⟩ (fun r => ∀ c : Dev Cert.KvDwReferenceIdeal.nD,
          r.2.mem ((c.tc : Thread Cert.KvDwReferenceIdeal.nD Cert.KvDwReferenceIdeal.τ).loc Cert.KvDwReferenceIdeal.main_v7) = v0 c
          ∧ r.2.mem ((c.tc : Thread Cert.KvDwReferenceIdeal.nD Cert.KvDwReferenceIdeal.τ).loc Cert.KvDwReferenceIdeal.main_arg0) = m' ((c.tc : Thread Cert.KvDwReferenceIdeal.nD Cert.KvDwReferenceIdeal.τ).loc Cert.KvDwReferenceIdeal.main_arg0)
          ∧ r.2.mem ((c.tc : Thread Cert.KvDwReferenceIdeal.nD Cert.KvDwReferenceIdeal.τ).loc Cert.KvDwReferenceIdeal.main_arg1) = m' ((c.tc : Thread Cert.KvDwReferenceIdeal.nD Cert.KvDwReferenceIdeal.τ).loc Cert.KvDwReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_Square_SquareIdeal : Prop :=
  True

def algebraic_SquareIdeal_SquareReferenceIdeal [hSquareIdeal : Cert.SquareIdeal.Facts] [hSquareReferenceIdeal : Cert.SquareReferenceIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareReferenceIdeal.nD Cert.SquareReferenceIdeal.τ Cert.SquareReferenceIdeal.sig) → Buf (Elt Ideal) ℓ) (g' : Dev Cert.SquareReferenceIdeal.nD → PrngReg), Pre_SquareIdeal m →
    (∀ c : Dev Cert.SquareIdeal.nD,
      m' ((c.tc : Thread Cert.SquareReferenceIdeal.nD Cert.SquareReferenceIdeal.τ).loc Cert.SquareReferenceIdeal.main_arg0) = m ((c.tc : Thread Cert.SquareIdeal.nD Cert.SquareIdeal.τ).loc Cert.SquareIdeal.main_arg0)
      ∧ m' ((c.tc : Thread Cert.SquareReferenceIdeal.nD Cert.SquareReferenceIdeal.τ).loc Cert.SquareReferenceIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareReferenceIdeal.defs (F := Ideal)) (onTc (τ := Cert.SquareReferenceIdeal.τ) (Cert.SquareReferenceIdeal.main (F := Ideal))) ⟨m', fun _ => 0, g'⟩ (fun r => ∀ c : Dev Cert.SquareReferenceIdeal.nD,
          r.2.mem ((c.tc : Thread Cert.SquareReferenceIdeal.nD Cert.SquareReferenceIdeal.τ).loc Cert.SquareReferenceIdeal.main_v3) = v0 c
          ∧ r.2.mem ((c.tc : Thread Cert.SquareReferenceIdeal.nD Cert.SquareReferenceIdeal.τ).loc Cert.SquareReferenceIdeal.main_arg0) = m' ((c.tc : Thread Cert.SquareReferenceIdeal.nD Cert.SquareReferenceIdeal.τ).loc Cert.SquareReferenceIdeal.main_arg0)
          ∧ r.2.mem ((c.tc : Thread Cert.SquareReferenceIdeal.nD Cert.SquareReferenceIdeal.τ).loc Cert.SquareReferenceIdeal.main_arg1) = m' ((c.tc : Thread Cert.SquareReferenceIdeal.nD Cert.SquareReferenceIdeal.τ).loc Cert.SquareReferenceIdeal.main_arg1))

def preserves_SquareF_SquareFIdeal : Prop :=
  True

def algebraic_SquareFIdeal_SquareFReferenceIdeal [hSquareFIdeal : Cert.SquareFIdeal.Facts] [hSquareFReferenceIdeal : Cert.SquareFReferenceIdeal.Facts] : Prop :=
  ∀ (m : (ℓ : Loc Cert.SquareFIdeal.nD Cert.SquareFIdeal.τ Cert.SquareFIdeal.sig) → Buf (Elt Ideal) ℓ) (g : Dev Cert.SquareFIdeal.nD → PrngReg)
    (m' : (ℓ : Loc Cert.SquareFReferenceIdeal.nD Cert.SquareFReferenceIdeal.τ Cert.SquareFReferenceIdeal.sig) → Buf (Elt Ideal) ℓ) (g' : Dev Cert.SquareFReferenceIdeal.nD → PrngReg), Pre_SquareFIdeal m →
    (∀ c : Dev Cert.SquareFIdeal.nD,
      m' ((c.tc : Thread Cert.SquareFReferenceIdeal.nD Cert.SquareFReferenceIdeal.τ).loc Cert.SquareFReferenceIdeal.main_arg0) = m ((c.tc : Thread Cert.SquareFIdeal.nD Cert.SquareFIdeal.τ).loc Cert.SquareFIdeal.main_arg0)
      ∧ m' ((c.tc : Thread Cert.SquareFReferenceIdeal.nD Cert.SquareFReferenceIdeal.τ).loc Cert.SquareFReferenceIdeal.main_arg1) = m ((c.tc : Thread Cert.SquareFIdeal.nD Cert.SquareFIdeal.τ).loc Cert.SquareFIdeal.main_arg1)) →
    ∃ (v0 : (c : Dev Cert.SquareFIdeal.nD) → Buf (Elt Ideal) ((c.tc : Thread Cert.SquareFIdeal.nD Cert.SquareFIdeal.τ).loc Cert.SquareFIdeal.main_v0)),
      θ_run (Cert.SquareFIdeal.defs (F := Ideal)) (onTc (τ := Cert.SquareFIdeal.τ) (Cert.SquareFIdeal.main (F := Ideal))) ⟨m, fun _ => 0, g⟩ (fun r => ∀ c : Dev Cert.SquareFIdeal.nD,
          r.2.mem ((c.tc : Thread Cert.SquareFIdeal.nD Cert.SquareFIdeal.τ).loc Cert.SquareFIdeal.main_v0) = v0 c
          ∧ r.2.mem ((c.tc : Thread Cert.SquareFIdeal.nD Cert.SquareFIdeal.τ).loc Cert.SquareFIdeal.main_arg0) = m ((c.tc : Thread Cert.SquareFIdeal.nD Cert.SquareFIdeal.τ).loc Cert.SquareFIdeal.main_arg0)
          ∧ r.2.mem ((c.tc : Thread Cert.SquareFIdeal.nD Cert.SquareFIdeal.τ).loc Cert.SquareFIdeal.main_arg1) = m ((c.tc : Thread Cert.SquareFIdeal.nD Cert.SquareFIdeal.τ).loc Cert.SquareFIdeal.main_arg1))
      ∧ θ_run (Cert.SquareFReferenceIdeal.defs (F := Ideal)) (onTc (τ := Cert.SquareFReferenceIdeal.τ) (Cert.SquareFReferenceIdeal.main (F := Ideal))) ⟨m', fun _ => 0, g'⟩ (fun r => ∀ c : Dev Cert.SquareFReferenceIdeal.nD,
          r.2.mem ((c.tc : Thread Cert.SquareFReferenceIdeal.nD Cert.SquareFReferenceIdeal.τ).loc Cert.SquareFReferenceIdeal.main_v2) = v0 c
          ∧ r.2.mem ((c.tc : Thread Cert.SquareFReferenceIdeal.nD Cert.SquareFReferenceIdeal.τ).loc Cert.SquareFReferenceIdeal.main_arg0) = m' ((c.tc : Thread Cert.SquareFReferenceIdeal.nD Cert.SquareFReferenceIdeal.τ).loc Cert.SquareFReferenceIdeal.main_arg0)
          ∧ r.2.mem ((c.tc : Thread Cert.SquareFReferenceIdeal.nD Cert.SquareFReferenceIdeal.τ).loc Cert.SquareFReferenceIdeal.main_arg1) = m' ((c.tc : Thread Cert.SquareFReferenceIdeal.nD Cert.SquareFReferenceIdeal.τ).loc Cert.SquareFReferenceIdeal.main_arg1))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v3) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v3) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)
      ∧ m' ((c.tc : Thread Cert.NormInReferenceIdeal.nD Cert.NormInReferenceIdeal.τ).loc Cert.NormInReferenceIdeal.main_arg2) = m ((c.tc : Thread Cert.NormInIdeal.nD Cert.NormInIdeal.τ).loc Cert.NormInIdeal.main_arg2)
      ∧ m' ((c.tc : Thread Cert.NormInReferenceIdeal.nD Cert.NormInReferenceIdeal.τ).loc Cert.NormInReferenceIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v35) = v0 c
          ∧ r.2.mem ((c.tc : Thread Cert.NormInReferenceIdeal.nD Cert.NormInReferenceIdeal.τ).loc Cert.NormInReferenceIdeal.main_v18) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)
          ∧ r.2.mem ((c.tc : Thread Cert.NormInReferenceIdeal.nD Cert.NormInReferenceIdeal.τ).loc Cert.NormInReferenceIdeal.main_arg3) = m' ((c.tc : Thread Cert.NormInReferenceIdeal.nD Cert.NormInReferenceIdeal.τ).loc Cert.NormInReferenceIdeal.main_arg3))

def preserves_NormOut_NormOutIdeal : Prop :=
  True

def algebraic_NormOutIdeal_NormOutReferenceIdeal [hNormOutIdeal : Cert.NormOutIdeal.Facts] [hNormOutReferenceIdeal : Cert.NormOutReferenceIdeal.Facts] : Prop :=
  ∀ (m : (ℓ : Loc Cert.NormOutIdeal.nD Cert.NormOutIdeal.τ Cert.NormOutIdeal.sig) → Buf (Elt Ideal) ℓ) (g : Dev Cert.NormOutIdeal.nD → PrngReg)
    (m' : (ℓ : Loc Cert.NormOutReferenceIdeal.nD Cert.NormOutReferenceIdeal.τ Cert.NormOutReferenceIdeal.sig) → Buf (Elt Ideal) ℓ) (g' : Dev Cert.NormOutReferenceIdeal.nD → PrngReg), Pre_NormOutIdeal m →
    (∀ c : Dev Cert.NormOutIdeal.nD,
      m' ((c.tc : Thread Cert.NormOutReferenceIdeal.nD Cert.NormOutReferenceIdeal.τ).loc Cert.NormOutReferenceIdeal.main_arg0) = m ((c.tc : Thread Cert.NormOutIdeal.nD Cert.NormOutIdeal.τ).loc Cert.NormOutIdeal.main_arg0)
      ∧ m' ((c.tc : Thread Cert.NormOutReferenceIdeal.nD Cert.NormOutReferenceIdeal.τ).loc Cert.NormOutReferenceIdeal.main_arg1) = m ((c.tc : Thread Cert.NormOutIdeal.nD Cert.NormOutIdeal.τ).loc Cert.NormOutIdeal.main_arg1)
      ∧ m' ((c.tc : Thread Cert.NormOutReferenceIdeal.nD Cert.NormOutReferenceIdeal.τ).loc Cert.NormOutReferenceIdeal.main_arg2) = m ((c.tc : Thread Cert.NormOutIdeal.nD Cert.NormOutIdeal.τ).loc Cert.NormOutIdeal.main_arg2)) →
    ∃ (v0 : (c : Dev Cert.NormOutIdeal.nD) → Buf (Elt Ideal) ((c.tc : Thread Cert.NormOutIdeal.nD Cert.NormOutIdeal.τ).loc Cert.NormOutIdeal.main_v0_0)) (v1 : (c : Dev Cert.NormOutIdeal.nD) → Buf (Elt Ideal) ((c.tc : Thread Cert.NormOutIdeal.nD Cert.NormOutIdeal.τ).loc Cert.NormOutIdeal.main_v0_1)),
      θ_run (Cert.NormOutIdeal.defs (F := Ideal)) (onTc (τ := Cert.NormOutIdeal.τ) (Cert.NormOutIdeal.main (F := Ideal))) ⟨m, fun _ => 0, g⟩ (fun r => ∀ c : Dev Cert.NormOutIdeal.nD,
          r.2.mem ((c.tc : Thread Cert.NormOutIdeal.nD Cert.NormOutIdeal.τ).loc Cert.NormOutIdeal.main_v0_0) = v0 c
          ∧ r.2.mem ((c.tc : Thread Cert.NormOutIdeal.nD Cert.NormOutIdeal.τ).loc Cert.NormOutIdeal.main_v0_1) = v1 c
          ∧ r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
          ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
          ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2))
      ∧ θ_run (Cert.NormOutReferenceIdeal.defs (F := Ideal)) (onTc (τ := Cert.NormOutReferenceIdeal.τ) (Cert.NormOutReferenceIdeal.main (F := Ideal))) ⟨m', fun _ => 0, g'⟩ (fun r => ∀ c : Dev Cert.NormOutReferenceIdeal.nD,
          r.2.mem ((c.tc : Thread Cert.NormOutReferenceIdeal.nD Cert.NormOutReferenceIdeal.τ).loc Cert.NormOutReferenceIdeal.main_v34) = v0 c
          ∧ r.2.mem ((c.tc : Thread Cert.NormOutReferenceIdeal.nD Cert.NormOutReferenceIdeal.τ).loc Cert.NormOutReferenceIdeal.main_v17) = v1 c
          ∧ r.2.mem ((c.tc : Thread Cert.NormOutReferenceIdeal.nD Cert.NormOutReferenceIdeal.τ).loc Cert.NormOutReferenceIdeal.main_arg0) = m' ((c.tc : Thread Cert.NormOutReferenceIdeal.nD Cert.NormOutReferenceIdeal.τ).loc Cert.NormOutReferenceIdeal.main_arg0)
          ∧ r.2.mem ((c.tc : Thread Cert.NormOutReferenceIdeal.nD Cert.NormOutReferenceIdeal.τ).loc Cert.NormOutReferenceIdeal.main_arg1) = m' ((c.tc : Thread Cert.NormOutReferenceIdeal.nD Cert.NormOutReferenceIdeal.τ).loc Cert.NormOutReferenceIdeal.main_arg1)
          ∧ r.2.mem ((c.tc : Thread Cert.NormOutReferenceIdeal.nD Cert.NormOutReferenceIdeal.τ).loc Cert.NormOutReferenceIdeal.main_arg2) = m' ((c.tc : Thread Cert.NormOutReferenceIdeal.nD Cert.NormOutReferenceIdeal.τ).loc Cert.NormOutReferenceIdeal.main_arg2))

def preserves_AdIn_AdInIdeal : Prop :=
  True

def algebraic_AdInIdeal_AdInReferenceIdeal [hAdInIdeal : Cert.AdInIdeal.Facts] [hAdInReferenceIdeal : Cert.AdInReferenceIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInReferenceIdeal.nD Cert.AdInReferenceIdeal.τ Cert.AdInReferenceIdeal.sig) → Buf (Elt Ideal) ℓ) (g' : Dev Cert.AdInReferenceIdeal.nD → PrngReg), Pre_AdInIdeal m →
    (∀ c : Dev Cert.AdInIdeal.nD,
      m' ((c.tc : Thread Cert.AdInReferenceIdeal.nD Cert.AdInReferenceIdeal.τ).loc Cert.AdInReferenceIdeal.main_arg0) = m ((c.tc : Thread Cert.AdInIdeal.nD Cert.AdInIdeal.τ).loc Cert.AdInIdeal.main_arg0)
      ∧ m' ((c.tc : Thread Cert.AdInReferenceIdeal.nD Cert.AdInReferenceIdeal.τ).loc Cert.AdInReferenceIdeal.main_arg1) = m ((c.tc : Thread Cert.AdInIdeal.nD Cert.AdInIdeal.τ).loc Cert.AdInIdeal.main_arg1)
      ∧ m' ((c.tc : Thread Cert.AdInReferenceIdeal.nD Cert.AdInReferenceIdeal.τ).loc Cert.AdInReferenceIdeal.main_arg2) = m ((c.tc : Thread Cert.AdInIdeal.nD Cert.AdInIdeal.τ).loc Cert.AdInIdeal.main_arg2)
      ∧ m' ((c.tc : Thread Cert.AdInReferenceIdeal.nD Cert.AdInReferenceIdeal.τ).loc Cert.AdInReferenceIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)) (v3 : (c : Dev Cert.AdInIdeal.nD) → Buf (Elt Ideal) ((c.tc : Thread Cert.AdInIdeal.nD Cert.AdInIdeal.τ).loc Cert.AdInIdeal.main_v0_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_v0_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInReferenceIdeal.defs (F := Ideal)) (onTc (τ := Cert.AdInReferenceIdeal.τ) (Cert.AdInReferenceIdeal.main (F := Ideal))) ⟨m', fun _ => 0, g'⟩ (fun r => ∀ c : Dev Cert.AdInReferenceIdeal.nD,
          r.2.mem ((c.tc : Thread Cert.AdInReferenceIdeal.nD Cert.AdInReferenceIdeal.τ).loc Cert.AdInReferenceIdeal.main_v1) = v0 c
          ∧ r.2.mem ((c.tc : Thread Cert.AdInReferenceIdeal.nD Cert.AdInReferenceIdeal.τ).loc Cert.AdInReferenceIdeal.main_v25) = v1 c
          ∧ r.2.mem ((c.tc : Thread Cert.AdInReferenceIdeal.nD Cert.AdInReferenceIdeal.τ).loc Cert.AdInReferenceIdeal.main_v6) = v2 c
          ∧ r.2.mem ((c.tc : Thread Cert.AdInReferenceIdeal.nD Cert.AdInReferenceIdeal.τ).loc Cert.AdInReferenceIdeal.main_v12) = v3 c
          ∧ r.2.mem ((c.tc : Thread Cert.AdInReferenceIdeal.nD Cert.AdInReferenceIdeal.τ).loc Cert.AdInReferenceIdeal.main_arg0) = m' ((c.tc : Thread Cert.AdInReferenceIdeal.nD Cert.AdInReferenceIdeal.τ).loc Cert.AdInReferenceIdeal.main_arg0)
          ∧ r.2.mem ((c.tc : Thread Cert.AdInReferenceIdeal.nD Cert.AdInReferenceIdeal.τ).loc Cert.AdInReferenceIdeal.main_arg1) = m' ((c.tc : Thread Cert.AdInReferenceIdeal.nD Cert.AdInReferenceIdeal.τ).loc Cert.AdInReferenceIdeal.main_arg1)
          ∧ r.2.mem ((c.tc : Thread Cert.AdInReferenceIdeal.nD Cert.AdInReferenceIdeal.τ).loc Cert.AdInReferenceIdeal.main_arg2) = m' ((c.tc : Thread Cert.AdInReferenceIdeal.nD Cert.AdInReferenceIdeal.τ).loc Cert.AdInReferenceIdeal.main_arg2)
          ∧ r.2.mem ((c.tc : Thread Cert.AdInReferenceIdeal.nD Cert.AdInReferenceIdeal.τ).loc Cert.AdInReferenceIdeal.main_arg3) = m' ((c.tc : Thread Cert.AdInReferenceIdeal.nD Cert.AdInReferenceIdeal.τ).loc Cert.AdInReferenceIdeal.main_arg3))

def preserves_AdUp_AdUpIdeal : Prop :=
  True

def algebraic_AdUpIdeal_AdUpReferenceIdeal [hAdUpIdeal : Cert.AdUpIdeal.Facts] [hAdUpReferenceIdeal : Cert.AdUpReferenceIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.AdUpReferenceIdeal.nD Cert.AdUpReferenceIdeal.τ Cert.AdUpReferenceIdeal.sig) → Buf (Elt Ideal) ℓ) (g' : Dev Cert.AdUpReferenceIdeal.nD → PrngReg), Pre_AdUpIdeal m →
    (∀ c : Dev Cert.AdUpIdeal.nD,
      m' ((c.tc : Thread Cert.AdUpReferenceIdeal.nD Cert.AdUpReferenceIdeal.τ).loc Cert.AdUpReferenceIdeal.main_arg0) = m ((c.tc : Thread Cert.AdUpIdeal.nD Cert.AdUpIdeal.τ).loc Cert.AdUpIdeal.main_arg0)
      ∧ m' ((c.tc : Thread Cert.AdUpReferenceIdeal.nD Cert.AdUpReferenceIdeal.τ).loc Cert.AdUpReferenceIdeal.main_arg1) = m ((c.tc : Thread Cert.AdUpIdeal.nD Cert.AdUpIdeal.τ).loc Cert.AdUpIdeal.main_arg1)
      ∧ m' ((c.tc : Thread Cert.AdUpReferenceIdeal.nD Cert.AdUpReferenceIdeal.τ).loc Cert.AdUpReferenceIdeal.main_arg2) = m ((c.tc : Thread Cert.AdUpIdeal.nD Cert.AdUpIdeal.τ).loc Cert.AdUpIdeal.main_arg2)
      ∧ m' ((c.tc : Thread Cert.AdUpReferenceIdeal.nD Cert.AdUpReferenceIdeal.τ).loc Cert.AdUpReferenceIdeal.main_arg3) = m ((c.tc : Thread Cert.AdUpIdeal.nD Cert.AdUpIdeal.τ).loc Cert.AdUpIdeal.main_arg3)) →
    ∃ (v0 : (c : Dev Cert.AdUpIdeal.nD) → Buf (Elt Ideal) ((c.tc : Thread Cert.AdUpIdeal.nD Cert.AdUpIdeal.τ).loc Cert.AdUpIdeal.main_v0_0)) (v1 : (c : Dev Cert.AdUpIdeal.nD) → Buf (Elt Ideal) ((c.tc : Thread Cert.AdUpIdeal.nD Cert.AdUpIdeal.τ).loc Cert.AdUpIdeal.main_v0_1)) (v2 : (c : Dev Cert.AdUpIdeal.nD) → Buf (Elt Ideal) ((c.tc : Thread Cert.AdUpIdeal.nD Cert.AdUpIdeal.τ).loc Cert.AdUpIdeal.main_v0_2)) (v3 : (c : Dev Cert.AdUpIdeal.nD) → Buf (Elt Ideal) ((c.tc : Thread Cert.AdUpIdeal.nD Cert.AdUpIdeal.τ).loc Cert.AdUpIdeal.main_v0_3)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v0_0) = v0 c
          ∧ r.2.mem ((c.tc : Thread Cert.AdUpIdeal.nD Cert.AdUpIdeal.τ).loc Cert.AdUpIdeal.main_v0_1) = v1 c
          ∧ r.2.mem ((c.tc : Thread Cert.AdUpIdeal.nD Cert.AdUpIdeal.τ).loc Cert.AdUpIdeal.main_v0_2) = v2 c
          ∧ r.2.mem ((c.tc : Thread Cert.AdUpIdeal.nD Cert.AdUpIdeal.τ).loc Cert.AdUpIdeal.main_v0_3) = v3 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ θ_run (Cert.AdUpReferenceIdeal.defs (F := Ideal)) (onTc (τ := Cert.AdUpReferenceIdeal.τ) (Cert.AdUpReferenceIdeal.main (F := Ideal))) ⟨m', fun _ => 0, g'⟩ (fun r => ∀ c : Dev Cert.AdUpReferenceIdeal.nD,
          r.2.mem ((c.tc : Thread Cert.AdUpReferenceIdeal.nD Cert.AdUpReferenceIdeal.τ).loc Cert.AdUpReferenceIdeal.main_v1) = v0 c
          ∧ r.2.mem ((c.tc : Thread Cert.AdUpReferenceIdeal.nD Cert.AdUpReferenceIdeal.τ).loc Cert.AdUpReferenceIdeal.main_v25) = v1 c
          ∧ r.2.mem ((c.tc : Thread Cert.AdUpReferenceIdeal.nD Cert.AdUpReferenceIdeal.τ).loc Cert.AdUpReferenceIdeal.main_v6) = v2 c
          ∧ r.2.mem ((c.tc : Thread Cert.AdUpReferenceIdeal.nD Cert.AdUpReferenceIdeal.τ).loc Cert.AdUpReferenceIdeal.main_v12) = v3 c
          ∧ r.2.mem ((c.tc : Thread Cert.AdUpReferenceIdeal.nD Cert.AdUpReferenceIdeal.τ).loc Cert.AdUpReferenceIdeal.main_arg0) = m' ((c.tc : Thread Cert.AdUpReferenceIdeal.nD Cert.AdUpReferenceIdeal.τ).loc Cert.AdUpReferenceIdeal.main_arg0)
          ∧ r.2.mem ((c.tc : Thread Cert.AdUpReferenceIdeal.nD Cert.AdUpReferenceIdeal.τ).loc Cert.AdUpReferenceIdeal.main_arg1) = m' ((c.tc : Thread Cert.AdUpReferenceIdeal.nD Cert.AdUpReferenceIdeal.τ).loc Cert.AdUpReferenceIdeal.main_arg1)
          ∧ r.2.mem ((c.tc : Thread Cert.AdUpReferenceIdeal.nD Cert.AdUpReferenceIdeal.τ).loc Cert.AdUpReferenceIdeal.main_arg2) = m' ((c.tc : Thread Cert.AdUpReferenceIdeal.nD Cert.AdUpReferenceIdeal.τ).loc Cert.AdUpReferenceIdeal.main_arg2)
          ∧ r.2.mem ((c.tc : Thread Cert.AdUpReferenceIdeal.nD Cert.AdUpReferenceIdeal.τ).loc Cert.AdUpReferenceIdeal.main_arg3) = m' ((c.tc : Thread Cert.AdUpReferenceIdeal.nD Cert.AdUpReferenceIdeal.τ).loc Cert.AdUpReferenceIdeal.main_arg3))

def preserves_AdSquare_AdSquareIdeal : Prop :=
  True

def algebraic_AdSquareIdeal_AdSquareReferenceIdeal [hAdSquareIdeal : Cert.AdSquareIdeal.Facts] [hAdSquareReferenceIdeal : Cert.AdSquareReferenceIdeal.Facts] : Prop :=
  ∀ (m : (ℓ : Loc Cert.AdSquareIdeal.nD Cert.AdSquareIdeal.τ Cert.AdSquareIdeal.sig) → Buf (Elt Ideal) ℓ) (g : Dev Cert.AdSquareIdeal.nD → PrngReg)
    (m' : (ℓ : Loc Cert.AdSquareReferenceIdeal.nD Cert.AdSquareReferenceIdeal.τ Cert.AdSquareReferenceIdeal.sig) → Buf (Elt Ideal) ℓ) (g' : Dev Cert.AdSquareReferenceIdeal.nD → PrngReg), Pre_AdSquareIdeal m →
    (∀ c : Dev Cert.AdSquareIdeal.nD,
      m' ((c.tc : Thread Cert.AdSquareReferenceIdeal.nD Cert.AdSquareReferenceIdeal.τ).loc Cert.AdSquareReferenceIdeal.main_arg0) = m ((c.tc : Thread Cert.AdSquareIdeal.nD Cert.AdSquareIdeal.τ).loc Cert.AdSquareIdeal.main_arg0)
      ∧ m' ((c.tc : Thread Cert.AdSquareReferenceIdeal.nD Cert.AdSquareReferenceIdeal.τ).loc Cert.AdSquareReferenceIdeal.main_arg1) = m ((c.tc : Thread Cert.AdSquareIdeal.nD Cert.AdSquareIdeal.τ).loc Cert.AdSquareIdeal.main_arg1)
      ∧ m' ((c.tc : Thread Cert.AdSquareReferenceIdeal.nD Cert.AdSquareReferenceIdeal.τ).loc Cert.AdSquareReferenceIdeal.main_arg2) = m ((c.tc : Thread Cert.AdSquareIdeal.nD Cert.AdSquareIdeal.τ).loc Cert.AdSquareIdeal.main_arg2)
      ∧ m' ((c.tc : Thread Cert.AdSquareReferenceIdeal.nD Cert.AdSquareReferenceIdeal.τ).loc Cert.AdSquareReferenceIdeal.main_arg3) = m ((c.tc : Thread Cert.AdSquareIdeal.nD Cert.AdSquareIdeal.τ).loc Cert.AdSquareIdeal.main_arg3)) →
    ∃ (v0 : (c : Dev Cert.AdSquareIdeal.nD) → Buf (Elt Ideal) ((c.tc : Thread Cert.AdSquareIdeal.nD Cert.AdSquareIdeal.τ).loc Cert.AdSquareIdeal.main_v0_0)) (v1 : (c : Dev Cert.AdSquareIdeal.nD) → Buf (Elt Ideal) ((c.tc : Thread Cert.AdSquareIdeal.nD Cert.AdSquareIdeal.τ).loc Cert.AdSquareIdeal.main_v0_1)) (v2 : (c : Dev Cert.AdSquareIdeal.nD) → Buf (Elt Ideal) ((c.tc : Thread Cert.AdSquareIdeal.nD Cert.AdSquareIdeal.τ).loc Cert.AdSquareIdeal.main_v0_2)) (v3 : (c : Dev Cert.AdSquareIdeal.nD) → Buf (Elt Ideal) ((c.tc : Thread Cert.AdSquareIdeal.nD Cert.AdSquareIdeal.τ).loc Cert.AdSquareIdeal.main_v0_3)),
      θ_run (Cert.AdSquareIdeal.defs (F := Ideal)) (onTc (τ := Cert.AdSquareIdeal.τ) (Cert.AdSquareIdeal.main (F := Ideal))) ⟨m, fun _ => 0, g⟩ (fun r => ∀ c : Dev Cert.AdSquareIdeal.nD,
          r.2.mem ((c.tc : Thread Cert.AdSquareIdeal.nD Cert.AdSquareIdeal.τ).loc Cert.AdSquareIdeal.main_v0_0) = v0 c
          ∧ r.2.mem ((c.tc : Thread Cert.AdSquareIdeal.nD Cert.AdSquareIdeal.τ).loc Cert.AdSquareIdeal.main_v0_1) = v1 c
          ∧ r.2.mem ((c.tc : Thread Cert.AdSquareIdeal.nD Cert.AdSquareIdeal.τ).loc Cert.AdSquareIdeal.main_v0_2) = v2 c
          ∧ r.2.mem ((c.tc : Thread Cert.AdSquareIdeal.nD Cert.AdSquareIdeal.τ).loc Cert.AdSquareIdeal.main_v0_3) = v3 c
          ∧ r.2.mem ((c.tc : Thread Cert.AdSquareIdeal.nD Cert.AdSquareIdeal.τ).loc Cert.AdSquareIdeal.main_arg0) = m ((c.tc : Thread Cert.AdSquareIdeal.nD Cert.AdSquareIdeal.τ).loc Cert.AdSquareIdeal.main_arg0)
          ∧ r.2.mem ((c.tc : Thread Cert.AdSquareIdeal.nD Cert.AdSquareIdeal.τ).loc Cert.AdSquareIdeal.main_arg1) = m ((c.tc : Thread Cert.AdSquareIdeal.nD Cert.AdSquareIdeal.τ).loc Cert.AdSquareIdeal.main_arg1)
          ∧ r.2.mem ((c.tc : Thread Cert.AdSquareIdeal.nD Cert.AdSquareIdeal.τ).loc Cert.AdSquareIdeal.main_arg2) = m ((c.tc : Thread Cert.AdSquareIdeal.nD Cert.AdSquareIdeal.τ).loc Cert.AdSquareIdeal.main_arg2)
          ∧ r.2.mem ((c.tc : Thread Cert.AdSquareIdeal.nD Cert.AdSquareIdeal.τ).loc Cert.AdSquareIdeal.main_arg3) = m ((c.tc : Thread Cert.AdSquareIdeal.nD Cert.AdSquareIdeal.τ).loc Cert.AdSquareIdeal.main_arg3))
      ∧ θ_run (Cert.AdSquareReferenceIdeal.defs (F := Ideal)) (onTc (τ := Cert.AdSquareReferenceIdeal.τ) (Cert.AdSquareReferenceIdeal.main (F := Ideal))) ⟨m', fun _ => 0, g'⟩ (fun r => ∀ c : Dev Cert.AdSquareReferenceIdeal.nD,
          r.2.mem ((c.tc : Thread Cert.AdSquareReferenceIdeal.nD Cert.AdSquareReferenceIdeal.τ).loc Cert.AdSquareReferenceIdeal.main_v1) = v0 c
          ∧ r.2.mem ((c.tc : Thread Cert.AdSquareReferenceIdeal.nD Cert.AdSquareReferenceIdeal.τ).loc Cert.AdSquareReferenceIdeal.main_v25) = v1 c
          ∧ r.2.mem ((c.tc : Thread Cert.AdSquareReferenceIdeal.nD Cert.AdSquareReferenceIdeal.τ).loc Cert.AdSquareReferenceIdeal.main_v6) = v2 c
          ∧ r.2.mem ((c.tc : Thread Cert.AdSquareReferenceIdeal.nD Cert.AdSquareReferenceIdeal.τ).loc Cert.AdSquareReferenceIdeal.main_v12) = v3 c
          ∧ r.2.mem ((c.tc : Thread Cert.AdSquareReferenceIdeal.nD Cert.AdSquareReferenceIdeal.τ).loc Cert.AdSquareReferenceIdeal.main_arg0) = m' ((c.tc : Thread Cert.AdSquareReferenceIdeal.nD Cert.AdSquareReferenceIdeal.τ).loc Cert.AdSquareReferenceIdeal.main_arg0)
          ∧ r.2.mem ((c.tc : Thread Cert.AdSquareReferenceIdeal.nD Cert.AdSquareReferenceIdeal.τ).loc Cert.AdSquareReferenceIdeal.main_arg1) = m' ((c.tc : Thread Cert.AdSquareReferenceIdeal.nD Cert.AdSquareReferenceIdeal.τ).loc Cert.AdSquareReferenceIdeal.main_arg1)
          ∧ r.2.mem ((c.tc : Thread Cert.AdSquareReferenceIdeal.nD Cert.AdSquareReferenceIdeal.τ).loc Cert.AdSquareReferenceIdeal.main_arg2) = m' ((c.tc : Thread Cert.AdSquareReferenceIdeal.nD Cert.AdSquareReferenceIdeal.τ).loc Cert.AdSquareReferenceIdeal.main_arg2)
          ∧ r.2.mem ((c.tc : Thread Cert.AdSquareReferenceIdeal.nD Cert.AdSquareReferenceIdeal.τ).loc Cert.AdSquareReferenceIdeal.main_arg3) = m' ((c.tc : Thread Cert.AdSquareReferenceIdeal.nD Cert.AdSquareReferenceIdeal.τ).loc Cert.AdSquareReferenceIdeal.main_arg3))

def preserves_AdPoolOut_AdPoolOutIdeal : Prop :=
  True

def algebraic_AdPoolOutIdeal_AdPoolOutReferenceIdeal [hAdPoolOutIdeal : Cert.AdPoolOutIdeal.Facts] [hAdPoolOutReferenceIdeal : Cert.AdPoolOutReferenceIdeal.Facts] : Prop :=
  ∀ (m : (ℓ : Loc Cert.AdPoolOutIdeal.nD Cert.AdPoolOutIdeal.τ Cert.AdPoolOutIdeal.sig) → Buf (Elt Ideal) ℓ) (g : Dev Cert.AdPoolOutIdeal.nD → PrngReg)
    (m' : (ℓ : Loc Cert.AdPoolOutReferenceIdeal.nD Cert.AdPoolOutReferenceIdeal.τ Cert.AdPoolOutReferenceIdeal.sig) → Buf (Elt Ideal) ℓ) (g' : Dev Cert.AdPoolOutReferenceIdeal.nD → PrngReg), Pre_AdPoolOutIdeal m →
    (∀ c : Dev Cert.AdPoolOutIdeal.nD,
      m' ((c.tc : Thread Cert.AdPoolOutReferenceIdeal.nD Cert.AdPoolOutReferenceIdeal.τ).loc Cert.AdPoolOutReferenceIdeal.main_arg0) = m ((c.tc : Thread Cert.AdPoolOutIdeal.nD Cert.AdPoolOutIdeal.τ).loc Cert.AdPoolOutIdeal.main_arg0)
      ∧ m' ((c.tc : Thread Cert.AdPoolOutReferenceIdeal.nD Cert.AdPoolOutReferenceIdeal.τ).loc Cert.AdPoolOutReferenceIdeal.main_arg1) = m ((c.tc : Thread Cert.AdPoolOutIdeal.nD Cert.AdPoolOutIdeal.τ).loc Cert.AdPoolOutIdeal.main_arg1)
      ∧ m' ((c.tc : Thread Cert.AdPoolOutReferenceIdeal.nD Cert.AdPoolOutReferenceIdeal.τ).loc Cert.AdPoolOutReferenceIdeal.main_arg2) = m ((c.tc : Thread Cert.AdPoolOutIdeal.nD Cert.AdPoolOutIdeal.τ).loc Cert.AdPoolOutIdeal.main_arg2)
      ∧ m' ((c.tc : Thread Cert.AdPoolOutReferenceIdeal.nD Cert.AdPoolOutReferenceIdeal.τ).loc Cert.AdPoolOutReferenceIdeal.main_arg3) = m ((c.tc : Thread Cert.AdPoolOutIdeal.nD Cert.AdPoolOutIdeal.τ).loc Cert.AdPoolOutIdeal.main_arg3)) →
    ∃ (v0 : (c : Dev Cert.AdPoolOutIdeal.nD) → Buf (Elt Ideal) ((c.tc : Thread Cert.AdPoolOutIdeal.nD Cert.AdPoolOutIdeal.τ).loc Cert.AdPoolOutIdeal.main_v0_0)) (v1 : (c : Dev Cert.AdPoolOutIdeal.nD) → Buf (Elt Ideal) ((c.tc : Thread Cert.AdPoolOutIdeal.nD Cert.AdPoolOutIdeal.τ).loc Cert.AdPoolOutIdeal.main_v0_1)) (v2 : (c : Dev Cert.AdPoolOutIdeal.nD) → Buf (Elt Ideal) ((c.tc : Thread Cert.AdPoolOutIdeal.nD Cert.AdPoolOutIdeal.τ).loc Cert.AdPoolOutIdeal.main_v0_2)) (v3 : (c : Dev Cert.AdPoolOutIdeal.nD) → Buf (Elt Ideal) ((c.tc : Thread Cert.AdPoolOutIdeal.nD Cert.AdPoolOutIdeal.τ).loc Cert.AdPoolOutIdeal.main_v0_3)),
      θ_run (Cert.AdPoolOutIdeal.defs (F := Ideal)) (onTc (τ := Cert.AdPoolOutIdeal.τ) (Cert.AdPoolOutIdeal.main (F := Ideal))) ⟨m, fun _ => 0, g⟩ (fun r => ∀ c : Dev Cert.AdPoolOutIdeal.nD,
          r.2.mem ((c.tc : Thread Cert.AdPoolOutIdeal.nD Cert.AdPoolOutIdeal.τ).loc Cert.AdPoolOutIdeal.main_v0_0) = v0 c
          ∧ r.2.mem ((c.tc : Thread Cert.AdPoolOutIdeal.nD Cert.AdPoolOutIdeal.τ).loc Cert.AdPoolOutIdeal.main_v0_1) = v1 c
          ∧ r.2.mem ((c.tc : Thread Cert.AdPoolOutIdeal.nD Cert.AdPoolOutIdeal.τ).loc Cert.AdPoolOutIdeal.main_v0_2) = v2 c
          ∧ r.2.mem ((c.tc : Thread Cert.AdPoolOutIdeal.nD Cert.AdPoolOutIdeal.τ).loc Cert.AdPoolOutIdeal.main_v0_3) = v3 c
          ∧ r.2.mem ((c.tc : Thread Cert.AdPoolOutIdeal.nD Cert.AdPoolOutIdeal.τ).loc Cert.AdPoolOutIdeal.main_arg0) = m ((c.tc : Thread Cert.AdPoolOutIdeal.nD Cert.AdPoolOutIdeal.τ).loc Cert.AdPoolOutIdeal.main_arg0)
          ∧ r.2.mem ((c.tc : Thread Cert.AdPoolOutIdeal.nD Cert.AdPoolOutIdeal.τ).loc Cert.AdPoolOutIdeal.main_arg1) = m ((c.tc : Thread Cert.AdPoolOutIdeal.nD Cert.AdPoolOutIdeal.τ).loc Cert.AdPoolOutIdeal.main_arg1)
          ∧ r.2.mem ((c.tc : Thread Cert.AdPoolOutIdeal.nD Cert.AdPoolOutIdeal.τ).loc Cert.AdPoolOutIdeal.main_arg2) = m ((c.tc : Thread Cert.AdPoolOutIdeal.nD Cert.AdPoolOutIdeal.τ).loc Cert.AdPoolOutIdeal.main_arg2)
          ∧ r.2.mem ((c.tc : Thread Cert.AdPoolOutIdeal.nD Cert.AdPoolOutIdeal.τ).loc Cert.AdPoolOutIdeal.main_arg3) = m ((c.tc : Thread Cert.AdPoolOutIdeal.nD Cert.AdPoolOutIdeal.τ).loc Cert.AdPoolOutIdeal.main_arg3))
      ∧ θ_run (Cert.AdPoolOutReferenceIdeal.defs (F := Ideal)) (onTc (τ := Cert.AdPoolOutReferenceIdeal.τ) (Cert.AdPoolOutReferenceIdeal.main (F := Ideal))) ⟨m', fun _ => 0, g'⟩ (fun r => ∀ c : Dev Cert.AdPoolOutReferenceIdeal.nD,
          r.2.mem ((c.tc : Thread Cert.AdPoolOutReferenceIdeal.nD Cert.AdPoolOutReferenceIdeal.τ).loc Cert.AdPoolOutReferenceIdeal.main_v1) = v0 c
          ∧ r.2.mem ((c.tc : Thread Cert.AdPoolOutReferenceIdeal.nD Cert.AdPoolOutReferenceIdeal.τ).loc Cert.AdPoolOutReferenceIdeal.main_v25) = v1 c
          ∧ r.2.mem ((c.tc : Thread Cert.AdPoolOutReferenceIdeal.nD Cert.AdPoolOutReferenceIdeal.τ).loc Cert.AdPoolOutReferenceIdeal.main_v6) = v2 c
          ∧ r.2.mem ((c.tc : Thread Cert.AdPoolOutReferenceIdeal.nD Cert.AdPoolOutReferenceIdeal.τ).loc Cert.AdPoolOutReferenceIdeal.main_v12) = v3 c
          ∧ r.2.mem ((c.tc : Thread Cert.AdPoolOutReferenceIdeal.nD Cert.AdPoolOutReferenceIdeal.τ).loc Cert.AdPoolOutReferenceIdeal.main_arg0) = m' ((c.tc : Thread Cert.AdPoolOutReferenceIdeal.nD Cert.AdPoolOutReferenceIdeal.τ).loc Cert.AdPoolOutReferenceIdeal.main_arg0)
          ∧ r.2.mem ((c.tc : Thread Cert.AdPoolOutReferenceIdeal.nD Cert.AdPoolOutReferenceIdeal.τ).loc Cert.AdPoolOutReferenceIdeal.main_arg1) = m' ((c.tc : Thread Cert.AdPoolOutReferenceIdeal.nD Cert.AdPoolOutReferenceIdeal.τ).loc Cert.AdPoolOutReferenceIdeal.main_arg1)
          ∧ r.2.mem ((c.tc : Thread Cert.AdPoolOutReferenceIdeal.nD Cert.AdPoolOutReferenceIdeal.τ).loc Cert.AdPoolOutReferenceIdeal.main_arg2) = m' ((c.tc : Thread Cert.AdPoolOutReferenceIdeal.nD Cert.AdPoolOutReferenceIdeal.τ).loc Cert.AdPoolOutReferenceIdeal.main_arg2)
          ∧ r.2.mem ((c.tc : Thread Cert.AdPoolOutReferenceIdeal.nD Cert.AdPoolOutReferenceIdeal.τ).loc Cert.AdPoolOutReferenceIdeal.main_arg3) = m' ((c.tc : Thread Cert.AdPoolOutReferenceIdeal.nD Cert.AdPoolOutReferenceIdeal.τ).loc Cert.AdPoolOutReferenceIdeal.main_arg3))

def preserves_AdKv_AdKvIdeal : Prop :=
  True

def algebraic_AdKvIdeal_AdKvReferenceIdeal [hAdKvIdeal : Cert.AdKvIdeal.Facts] [hAdKvReferenceIdeal : Cert.AdKvReferenceIdeal.Facts] : Prop :=
  ∀ (m : (ℓ : Loc Cert.AdKvIdeal.nD Cert.AdKvIdeal.τ Cert.AdKvIdeal.sig) → Buf (Elt Ideal) ℓ) (g : Dev Cert.AdKvIdeal.nD → PrngReg)
    (m' : (ℓ : Loc Cert.AdKvReferenceIdeal.nD Cert.AdKvReferenceIdeal.τ Cert.AdKvReferenceIdeal.sig) → Buf (Elt Ideal) ℓ) (g' : Dev Cert.AdKvReferenceIdeal.nD → PrngReg), Pre_AdKvIdeal m →
    (∀ c : Dev Cert.AdKvIdeal.nD,
      m' ((c.tc : Thread Cert.AdKvReferenceIdeal.nD Cert.AdKvReferenceIdeal.τ).loc Cert.AdKvReferenceIdeal.main_arg0) = m ((c.tc : Thread Cert.AdKvIdeal.nD Cert.AdKvIdeal.τ).loc Cert.AdKvIdeal.main_arg0)
      ∧ m' ((c.tc : Thread Cert.AdKvReferenceIdeal.nD Cert.AdKvReferenceIdeal.τ).loc Cert.AdKvReferenceIdeal.main_arg1) = m ((c.tc : Thread Cert.AdKvIdeal.nD Cert.AdKvIdeal.τ).loc Cert.AdKvIdeal.main_arg1)
      ∧ m' ((c.tc : Thread Cert.AdKvReferenceIdeal.nD Cert.AdKvReferenceIdeal.τ).loc Cert.AdKvReferenceIdeal.main_arg2) = m ((c.tc : Thread Cert.AdKvIdeal.nD Cert.AdKvIdeal.τ).loc Cert.AdKvIdeal.main_arg2)
      ∧ m' ((c.tc : Thread Cert.AdKvReferenceIdeal.nD Cert.AdKvReferenceIdeal.τ).loc Cert.AdKvReferenceIdeal.main_arg3) = m ((c.tc : Thread Cert.AdKvIdeal.nD Cert.AdKvIdeal.τ).loc Cert.AdKvIdeal.main_arg3)) →
    ∃ (v0 : (c : Dev Cert.AdKvIdeal.nD) → Buf (Elt Ideal) ((c.tc : Thread Cert.AdKvIdeal.nD Cert.AdKvIdeal.τ).loc Cert.AdKvIdeal.main_v0_0)) (v1 : (c : Dev Cert.AdKvIdeal.nD) → Buf (Elt Ideal) ((c.tc : Thread Cert.AdKvIdeal.nD Cert.AdKvIdeal.τ).loc Cert.AdKvIdeal.main_v0_1)) (v2 : (c : Dev Cert.AdKvIdeal.nD) → Buf (Elt Ideal) ((c.tc : Thread Cert.AdKvIdeal.nD Cert.AdKvIdeal.τ).loc Cert.AdKvIdeal.main_v0_2)) (v3 : (c : Dev Cert.AdKvIdeal.nD) → Buf (Elt Ideal) ((c.tc : Thread Cert.AdKvIdeal.nD Cert.AdKvIdeal.τ).loc Cert.AdKvIdeal.main_v0_3)),
      θ_run (Cert.AdKvIdeal.defs (F := Ideal)) (onTc (τ := Cert.AdKvIdeal.τ) (Cert.AdKvIdeal.main (F := Ideal))) ⟨m, fun _ => 0, g⟩ (fun r => ∀ c : Dev Cert.AdKvIdeal.nD,
          r.2.mem ((c.tc : Thread Cert.AdKvIdeal.nD Cert.AdKvIdeal.τ).loc Cert.AdKvIdeal.main_v0_0) = v0 c
          ∧ r.2.mem ((c.tc : Thread Cert.AdKvIdeal.nD Cert.AdKvIdeal.τ).loc Cert.AdKvIdeal.main_v0_1) = v1 c
          ∧ r.2.mem ((c.tc : Thread Cert.AdKvIdeal.nD Cert.AdKvIdeal.τ).loc Cert.AdKvIdeal.main_v0_2) = v2 c
          ∧ r.2.mem ((c.tc : Thread Cert.AdKvIdeal.nD Cert.AdKvIdeal.τ).loc Cert.AdKvIdeal.main_v0_3) = v3 c
          ∧ r.2.mem ((c.tc : Thread Cert.AdKvIdeal.nD Cert.AdKvIdeal.τ).loc Cert.AdKvIdeal.main_arg0) = m ((c.tc : Thread Cert.AdKvIdeal.nD Cert.AdKvIdeal.τ).loc Cert.AdKvIdeal.main_arg0)
          ∧ r.2.mem ((c.tc : Thread Cert.AdKvIdeal.nD Cert.AdKvIdeal.τ).loc Cert.AdKvIdeal.main_arg1) = m ((c.tc : Thread Cert.AdKvIdeal.nD Cert.AdKvIdeal.τ).loc Cert.AdKvIdeal.main_arg1)
          ∧ r.2.mem ((c.tc : Thread Cert.AdKvIdeal.nD Cert.AdKvIdeal.τ).loc Cert.AdKvIdeal.main_arg2) = m ((c.tc : Thread Cert.AdKvIdeal.nD Cert.AdKvIdeal.τ).loc Cert.AdKvIdeal.main_arg2)
          ∧ r.2.mem ((c.tc : Thread Cert.AdKvIdeal.nD Cert.AdKvIdeal.τ).loc Cert.AdKvIdeal.main_arg3) = m ((c.tc : Thread Cert.AdKvIdeal.nD Cert.AdKvIdeal.τ).loc Cert.AdKvIdeal.main_arg3))
      ∧ θ_run (Cert.AdKvReferenceIdeal.defs (F := Ideal)) (onTc (τ := Cert.AdKvReferenceIdeal.τ) (Cert.AdKvReferenceIdeal.main (F := Ideal))) ⟨m', fun _ => 0, g'⟩ (fun r => ∀ c : Dev Cert.AdKvReferenceIdeal.nD,
          r.2.mem ((c.tc : Thread Cert.AdKvReferenceIdeal.nD Cert.AdKvReferenceIdeal.τ).loc Cert.AdKvReferenceIdeal.main_v1) = v0 c
          ∧ r.2.mem ((c.tc : Thread Cert.AdKvReferenceIdeal.nD Cert.AdKvReferenceIdeal.τ).loc Cert.AdKvReferenceIdeal.main_v25) = v1 c
          ∧ r.2.mem ((c.tc : Thread Cert.AdKvReferenceIdeal.nD Cert.AdKvReferenceIdeal.τ).loc Cert.AdKvReferenceIdeal.main_v6) = v2 c
          ∧ r.2.mem ((c.tc : Thread Cert.AdKvReferenceIdeal.nD Cert.AdKvReferenceIdeal.τ).loc Cert.AdKvReferenceIdeal.main_v12) = v3 c
          ∧ r.2.mem ((c.tc : Thread Cert.AdKvReferenceIdeal.nD Cert.AdKvReferenceIdeal.τ).loc Cert.AdKvReferenceIdeal.main_arg0) = m' ((c.tc : Thread Cert.AdKvReferenceIdeal.nD Cert.AdKvReferenceIdeal.τ).loc Cert.AdKvReferenceIdeal.main_arg0)
          ∧ r.2.mem ((c.tc : Thread Cert.AdKvReferenceIdeal.nD Cert.AdKvReferenceIdeal.τ).loc Cert.AdKvReferenceIdeal.main_arg1) = m' ((c.tc : Thread Cert.AdKvReferenceIdeal.nD Cert.AdKvReferenceIdeal.τ).loc Cert.AdKvReferenceIdeal.main_arg1)
          ∧ r.2.mem ((c.tc : Thread Cert.AdKvReferenceIdeal.nD Cert.AdKvReferenceIdeal.τ).loc Cert.AdKvReferenceIdeal.main_arg2) = m' ((c.tc : Thread Cert.AdKvReferenceIdeal.nD Cert.AdKvReferenceIdeal.τ).loc Cert.AdKvReferenceIdeal.main_arg2)
          ∧ r.2.mem ((c.tc : Thread Cert.AdKvReferenceIdeal.nD Cert.AdKvReferenceIdeal.τ).loc Cert.AdKvReferenceIdeal.main_arg3) = m' ((c.tc : Thread Cert.AdKvReferenceIdeal.nD Cert.AdKvReferenceIdeal.τ).loc Cert.AdKvReferenceIdeal.main_arg3))

def preserves_AdDown_AdDownIdeal : Prop :=
  True

def algebraic_AdDownIdeal_AdDownReferenceIdeal [hAdDownIdeal : Cert.AdDownIdeal.Facts] [hAdDownReferenceIdeal : Cert.AdDownReferenceIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.AdDownReferenceIdeal.nD Cert.AdDownReferenceIdeal.τ Cert.AdDownReferenceIdeal.sig) → Buf (Elt Ideal) ℓ) (g' : Dev Cert.AdDownReferenceIdeal.nD → PrngReg), Pre_AdDownIdeal m →
    (∀ c : Dev Cert.AdDownIdeal.nD,
      m' ((c.tc : Thread Cert.AdDownReferenceIdeal.nD Cert.AdDownReferenceIdeal.τ).loc Cert.AdDownReferenceIdeal.main_arg0) = m ((c.tc : Thread Cert.AdDownIdeal.nD Cert.AdDownIdeal.τ).loc Cert.AdDownIdeal.main_arg0)
      ∧ m' ((c.tc : Thread Cert.AdDownReferenceIdeal.nD Cert.AdDownReferenceIdeal.τ).loc Cert.AdDownReferenceIdeal.main_arg1) = m ((c.tc : Thread Cert.AdDownIdeal.nD Cert.AdDownIdeal.τ).loc Cert.AdDownIdeal.main_arg1)
      ∧ m' ((c.tc : Thread Cert.AdDownReferenceIdeal.nD Cert.AdDownReferenceIdeal.τ).loc Cert.AdDownReferenceIdeal.main_arg2) = m ((c.tc : Thread Cert.AdDownIdeal.nD Cert.AdDownIdeal.τ).loc Cert.AdDownIdeal.main_arg2)
      ∧ m' ((c.tc : Thread Cert.AdDownReferenceIdeal.nD Cert.AdDownReferenceIdeal.τ).loc Cert.AdDownReferenceIdeal.main_arg3) = m ((c.tc : Thread Cert.AdDownIdeal.nD Cert.AdDownIdeal.τ).loc Cert.AdDownIdeal.main_arg3)) →
    ∃ (v0 : (c : Dev Cert.AdDownIdeal.nD) → Buf (Elt Ideal) ((c.tc : Thread Cert.AdDownIdeal.nD Cert.AdDownIdeal.τ).loc Cert.AdDownIdeal.main_v0_0)) (v1 : (c : Dev Cert.AdDownIdeal.nD) → Buf (Elt Ideal) ((c.tc : Thread Cert.AdDownIdeal.nD Cert.AdDownIdeal.τ).loc Cert.AdDownIdeal.main_v0_1)) (v2 : (c : Dev Cert.AdDownIdeal.nD) → Buf (Elt Ideal) ((c.tc : Thread Cert.AdDownIdeal.nD Cert.AdDownIdeal.τ).loc Cert.AdDownIdeal.main_v0_2)) (v3 : (c : Dev Cert.AdDownIdeal.nD) → Buf (Elt Ideal) ((c.tc : Thread Cert.AdDownIdeal.nD Cert.AdDownIdeal.τ).loc Cert.AdDownIdeal.main_v0_3)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v0_0) = v0 c
          ∧ r.2.mem ((c.tc : Thread Cert.AdDownIdeal.nD Cert.AdDownIdeal.τ).loc Cert.AdDownIdeal.main_v0_1) = v1 c
          ∧ r.2.mem ((c.tc : Thread Cert.AdDownIdeal.nD Cert.AdDownIdeal.τ).loc Cert.AdDownIdeal.main_v0_2) = v2 c
          ∧ r.2.mem ((c.tc : Thread Cert.AdDownIdeal.nD Cert.AdDownIdeal.τ).loc Cert.AdDownIdeal.main_v0_3) = v3 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ θ_run (Cert.AdDownReferenceIdeal.defs (F := Ideal)) (onTc (τ := Cert.AdDownReferenceIdeal.τ) (Cert.AdDownReferenceIdeal.main (F := Ideal))) ⟨m', fun _ => 0, g'⟩ (fun r => ∀ c : Dev Cert.AdDownReferenceIdeal.nD,
          r.2.mem ((c.tc : Thread Cert.AdDownReferenceIdeal.nD Cert.AdDownReferenceIdeal.τ).loc Cert.AdDownReferenceIdeal.main_v1) = v0 c
          ∧ r.2.mem ((c.tc : Thread Cert.AdDownReferenceIdeal.nD Cert.AdDownReferenceIdeal.τ).loc Cert.AdDownReferenceIdeal.main_v25) = v1 c
          ∧ r.2.mem ((c.tc : Thread Cert.AdDownReferenceIdeal.nD Cert.AdDownReferenceIdeal.τ).loc Cert.AdDownReferenceIdeal.main_v6) = v2 c
          ∧ r.2.mem ((c.tc : Thread Cert.AdDownReferenceIdeal.nD Cert.AdDownReferenceIdeal.τ).loc Cert.AdDownReferenceIdeal.main_v12) = v3 c
          ∧ r.2.mem ((c.tc : Thread Cert.AdDownReferenceIdeal.nD Cert.AdDownReferenceIdeal.τ).loc Cert.AdDownReferenceIdeal.main_arg0) = m' ((c.tc : Thread Cert.AdDownReferenceIdeal.nD Cert.AdDownReferenceIdeal.τ).loc Cert.AdDownReferenceIdeal.main_arg0)
          ∧ r.2.mem ((c.tc : Thread Cert.AdDownReferenceIdeal.nD Cert.AdDownReferenceIdeal.τ).loc Cert.AdDownReferenceIdeal.main_arg1) = m' ((c.tc : Thread Cert.AdDownReferenceIdeal.nD Cert.AdDownReferenceIdeal.τ).loc Cert.AdDownReferenceIdeal.main_arg1)
          ∧ r.2.mem ((c.tc : Thread Cert.AdDownReferenceIdeal.nD Cert.AdDownReferenceIdeal.τ).loc Cert.AdDownReferenceIdeal.main_arg2) = m' ((c.tc : Thread Cert.AdDownReferenceIdeal.nD Cert.AdDownReferenceIdeal.τ).loc Cert.AdDownReferenceIdeal.main_arg2)
          ∧ r.2.mem ((c.tc : Thread Cert.AdDownReferenceIdeal.nD Cert.AdDownReferenceIdeal.τ).loc Cert.AdDownReferenceIdeal.main_arg3) = m' ((c.tc : Thread Cert.AdDownReferenceIdeal.nD Cert.AdDownReferenceIdeal.τ).loc Cert.AdDownReferenceIdeal.main_arg3))

def preserves_AdConv_AdConvIdeal : Prop :=
  True

def algebraic_AdConvIdeal_AdConvReferenceIdeal [hAdConvIdeal : Cert.AdConvIdeal.Facts] [hAdConvReferenceIdeal : Cert.AdConvReferenceIdeal.Facts] : Prop :=
  ∀ (m : (ℓ : Loc Cert.AdConvIdeal.nD Cert.AdConvIdeal.τ Cert.AdConvIdeal.sig) → Buf (Elt Ideal) ℓ) (g : Dev Cert.AdConvIdeal.nD → PrngReg)
    (m' : (ℓ : Loc Cert.AdConvReferenceIdeal.nD Cert.AdConvReferenceIdeal.τ Cert.AdConvReferenceIdeal.sig) → Buf (Elt Ideal) ℓ) (g' : Dev Cert.AdConvReferenceIdeal.nD → PrngReg), Pre_AdConvIdeal m →
    (∀ c : Dev Cert.AdConvIdeal.nD,
      m' ((c.tc : Thread Cert.AdConvReferenceIdeal.nD Cert.AdConvReferenceIdeal.τ).loc Cert.AdConvReferenceIdeal.main_arg0) = m ((c.tc : Thread Cert.AdConvIdeal.nD Cert.AdConvIdeal.τ).loc Cert.AdConvIdeal.main_arg0)
      ∧ m' ((c.tc : Thread Cert.AdConvReferenceIdeal.nD Cert.AdConvReferenceIdeal.τ).loc Cert.AdConvReferenceIdeal.main_arg1) = m ((c.tc : Thread Cert.AdConvIdeal.nD Cert.AdConvIdeal.τ).loc Cert.AdConvIdeal.main_arg1)
      ∧ m' ((c.tc : Thread Cert.AdConvReferenceIdeal.nD Cert.AdConvReferenceIdeal.τ).loc Cert.AdConvReferenceIdeal.main_arg2) = m ((c.tc : Thread Cert.AdConvIdeal.nD Cert.AdConvIdeal.τ).loc Cert.AdConvIdeal.main_arg2)
      ∧ m' ((c.tc : Thread Cert.AdConvReferenceIdeal.nD Cert.AdConvReferenceIdeal.τ).loc Cert.AdConvReferenceIdeal.main_arg3) = m ((c.tc : Thread Cert.AdConvIdeal.nD Cert.AdConvIdeal.τ).loc Cert.AdConvIdeal.main_arg3)) →
    ∃ (v0 : (c : Dev Cert.AdConvIdeal.nD) → Buf (Elt Ideal) ((c.tc : Thread Cert.AdConvIdeal.nD Cert.AdConvIdeal.τ).loc Cert.AdConvIdeal.main_v0_0)) (v1 : (c : Dev Cert.AdConvIdeal.nD) → Buf (Elt Ideal) ((c.tc : Thread Cert.AdConvIdeal.nD Cert.AdConvIdeal.τ).loc Cert.AdConvIdeal.main_v0_1)) (v2 : (c : Dev Cert.AdConvIdeal.nD) → Buf (Elt Ideal) ((c.tc : Thread Cert.AdConvIdeal.nD Cert.AdConvIdeal.τ).loc Cert.AdConvIdeal.main_v0_2)) (v3 : (c : Dev Cert.AdConvIdeal.nD) → Buf (Elt Ideal) ((c.tc : Thread Cert.AdConvIdeal.nD Cert.AdConvIdeal.τ).loc Cert.AdConvIdeal.main_v0_3)),
      θ_run (Cert.AdConvIdeal.defs (F := Ideal)) (onTc (τ := Cert.AdConvIdeal.τ) (Cert.AdConvIdeal.main (F := Ideal))) ⟨m, fun _ => 0, g⟩ (fun r => ∀ c : Dev Cert.AdConvIdeal.nD,
          r.2.mem ((c.tc : Thread Cert.AdConvIdeal.nD Cert.AdConvIdeal.τ).loc Cert.AdConvIdeal.main_v0_0) = v0 c
          ∧ r.2.mem ((c.tc : Thread Cert.AdConvIdeal.nD Cert.AdConvIdeal.τ).loc Cert.AdConvIdeal.main_v0_1) = v1 c
          ∧ r.2.mem ((c.tc : Thread Cert.AdConvIdeal.nD Cert.AdConvIdeal.τ).loc Cert.AdConvIdeal.main_v0_2) = v2 c
          ∧ r.2.mem ((c.tc : Thread Cert.AdConvIdeal.nD Cert.AdConvIdeal.τ).loc Cert.AdConvIdeal.main_v0_3) = v3 c
          ∧ r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
          ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
          ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
          ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ θ_run (Cert.AdConvReferenceIdeal.defs (F := Ideal)) (onTc (τ := Cert.AdConvReferenceIdeal.τ) (Cert.AdConvReferenceIdeal.main (F := Ideal))) ⟨m', fun _ => 0, g'⟩ (fun r => ∀ c : Dev Cert.AdConvReferenceIdeal.nD,
          r.2.mem ((c.tc : Thread Cert.AdConvReferenceIdeal.nD Cert.AdConvReferenceIdeal.τ).loc Cert.AdConvReferenceIdeal.main_v0) = v0 c
          ∧ r.2.mem ((c.tc : Thread Cert.AdConvReferenceIdeal.nD Cert.AdConvReferenceIdeal.τ).loc Cert.AdConvReferenceIdeal.main_v24) = v1 c
          ∧ r.2.mem ((c.tc : Thread Cert.AdConvReferenceIdeal.nD Cert.AdConvReferenceIdeal.τ).loc Cert.AdConvReferenceIdeal.main_v5) = v2 c
          ∧ r.2.mem ((c.tc : Thread Cert.AdConvReferenceIdeal.nD Cert.AdConvReferenceIdeal.τ).loc Cert.AdConvReferenceIdeal.main_v11) = v3 c
          ∧ r.2.mem ((c.tc : Thread Cert.AdConvReferenceIdeal.nD Cert.AdConvReferenceIdeal.τ).loc Cert.AdConvReferenceIdeal.main_arg0) = m' ((c.tc : Thread Cert.AdConvReferenceIdeal.nD Cert.AdConvReferenceIdeal.τ).loc Cert.AdConvReferenceIdeal.main_arg0)
          ∧ r.2.mem ((c.tc : Thread Cert.AdConvReferenceIdeal.nD Cert.AdConvReferenceIdeal.τ).loc Cert.AdConvReferenceIdeal.main_arg1) = m' ((c.tc : Thread Cert.AdConvReferenceIdeal.nD Cert.AdConvReferenceIdeal.τ).loc Cert.AdConvReferenceIdeal.main_arg1)
          ∧ r.2.mem ((c.tc : Thread Cert.AdConvReferenceIdeal.nD Cert.AdConvReferenceIdeal.τ).loc Cert.AdConvReferenceIdeal.main_arg2) = m' ((c.tc : Thread Cert.AdConvReferenceIdeal.nD Cert.AdConvReferenceIdeal.τ).loc Cert.AdConvReferenceIdeal.main_arg2)
          ∧ r.2.mem ((c.tc : Thread Cert.AdConvReferenceIdeal.nD Cert.AdConvReferenceIdeal.τ).loc Cert.AdConvReferenceIdeal.main_arg3) = m' ((c.tc : Thread Cert.AdConvReferenceIdeal.nD Cert.AdConvReferenceIdeal.τ).loc Cert.AdConvReferenceIdeal.main_arg3))

def preserves_AdFfnConv_AdFfnConvIdeal : Prop :=
  True

def algebraic_AdFfnConvIdeal_AdFfnConvReferenceIdeal [hAdFfnConvIdeal : Cert.AdFfnConvIdeal.Facts] [hAdFfnConvReferenceIdeal : Cert.AdFfnConvReferenceIdeal.Facts] : Prop :=
  ∀ (m : (ℓ : Loc Cert.AdFfnConvIdeal.nD Cert.AdFfnConvIdeal.τ Cert.AdFfnConvIdeal.sig) → Buf (Elt Ideal) ℓ) (g : Dev Cert.AdFfnConvIdeal.nD → PrngReg)
    (m' : (ℓ : Loc Cert.AdFfnConvReferenceIdeal.nD Cert.AdFfnConvReferenceIdeal.τ Cert.AdFfnConvReferenceIdeal.sig) → Buf (Elt Ideal) ℓ) (g' : Dev Cert.AdFfnConvReferenceIdeal.nD → PrngReg), Pre_AdFfnConvIdeal m →
    (∀ c : Dev Cert.AdFfnConvIdeal.nD,
      m' ((c.tc : Thread Cert.AdFfnConvReferenceIdeal.nD Cert.AdFfnConvReferenceIdeal.τ).loc Cert.AdFfnConvReferenceIdeal.main_arg0) = m ((c.tc : Thread Cert.AdFfnConvIdeal.nD Cert.AdFfnConvIdeal.τ).loc Cert.AdFfnConvIdeal.main_arg0)
      ∧ m' ((c.tc : Thread Cert.AdFfnConvReferenceIdeal.nD Cert.AdFfnConvReferenceIdeal.τ).loc Cert.AdFfnConvReferenceIdeal.main_arg1) = m ((c.tc : Thread Cert.AdFfnConvIdeal.nD Cert.AdFfnConvIdeal.τ).loc Cert.AdFfnConvIdeal.main_arg1)
      ∧ m' ((c.tc : Thread Cert.AdFfnConvReferenceIdeal.nD Cert.AdFfnConvReferenceIdeal.τ).loc Cert.AdFfnConvReferenceIdeal.main_arg2) = m ((c.tc : Thread Cert.AdFfnConvIdeal.nD Cert.AdFfnConvIdeal.τ).loc Cert.AdFfnConvIdeal.main_arg2)
      ∧ m' ((c.tc : Thread Cert.AdFfnConvReferenceIdeal.nD Cert.AdFfnConvReferenceIdeal.τ).loc Cert.AdFfnConvReferenceIdeal.main_arg3) = m ((c.tc : Thread Cert.AdFfnConvIdeal.nD Cert.AdFfnConvIdeal.τ).loc Cert.AdFfnConvIdeal.main_arg3)) →
    ∃ (v0 : (c : Dev Cert.AdFfnConvIdeal.nD) → Buf (Elt Ideal) ((c.tc : Thread Cert.AdFfnConvIdeal.nD Cert.AdFfnConvIdeal.τ).loc Cert.AdFfnConvIdeal.main_v0_0)) (v1 : (c : Dev Cert.AdFfnConvIdeal.nD) → Buf (Elt Ideal) ((c.tc : Thread Cert.AdFfnConvIdeal.nD Cert.AdFfnConvIdeal.τ).loc Cert.AdFfnConvIdeal.main_v0_1)) (v2 : (c : Dev Cert.AdFfnConvIdeal.nD) → Buf (Elt Ideal) ((c.tc : Thread Cert.AdFfnConvIdeal.nD Cert.AdFfnConvIdeal.τ).loc Cert.AdFfnConvIdeal.main_v0_2)) (v3 : (c : Dev Cert.AdFfnConvIdeal.nD) → Buf (Elt Ideal) ((c.tc : Thread Cert.AdFfnConvIdeal.nD Cert.AdFfnConvIdeal.τ).loc Cert.AdFfnConvIdeal.main_v0_3)),
      θ_run (Cert.AdFfnConvIdeal.defs (F := Ideal)) (onTc (τ := Cert.AdFfnConvIdeal.τ) (Cert.AdFfnConvIdeal.main (F := Ideal))) ⟨m, fun _ => 0, g⟩ (fun r => ∀ c : Dev Cert.AdFfnConvIdeal.nD,
          r.2.mem ((c.tc : Thread Cert.AdFfnConvIdeal.nD Cert.AdFfnConvIdeal.τ).loc Cert.AdFfnConvIdeal.main_v0_0) = v0 c
          ∧ r.2.mem ((c.tc : Thread Cert.AdFfnConvIdeal.nD Cert.AdFfnConvIdeal.τ).loc Cert.AdFfnConvIdeal.main_v0_1) = v1 c
          ∧ r.2.mem ((c.tc : Thread Cert.AdFfnConvIdeal.nD Cert.AdFfnConvIdeal.τ).loc Cert.AdFfnConvIdeal.main_v0_2) = v2 c
          ∧ r.2.mem ((c.tc : Thread Cert.AdFfnConvIdeal.nD Cert.AdFfnConvIdeal.τ).loc Cert.AdFfnConvIdeal.main_v0_3) = v3 c
          ∧ r.2.mem ((c.tc : Thread Cert.AdFfnConvIdeal.nD Cert.AdFfnConvIdeal.τ).loc Cert.AdFfnConvIdeal.main_arg0) = m ((c.tc : Thread Cert.AdFfnConvIdeal.nD Cert.AdFfnConvIdeal.τ).loc Cert.AdFfnConvIdeal.main_arg0)
          ∧ r.2.mem ((c.tc : Thread Cert.AdFfnConvIdeal.nD Cert.AdFfnConvIdeal.τ).loc Cert.AdFfnConvIdeal.main_arg1) = m ((c.tc : Thread Cert.AdFfnConvIdeal.nD Cert.AdFfnConvIdeal.τ).loc Cert.AdFfnConvIdeal.main_arg1)
          ∧ r.2.mem ((c.tc : Thread Cert.AdFfnConvIdeal.nD Cert.AdFfnConvIdeal.τ).loc Cert.AdFfnConvIdeal.main_arg2) = m ((c.tc : Thread Cert.AdFfnConvIdeal.nD Cert.AdFfnConvIdeal.τ).loc Cert.AdFfnConvIdeal.main_arg2)
          ∧ r.2.mem ((c.tc : Thread Cert.AdFfnConvIdeal.nD Cert.AdFfnConvIdeal.τ).loc Cert.AdFfnConvIdeal.main_arg3) = m ((c.tc : Thread Cert.AdFfnConvIdeal.nD Cert.AdFfnConvIdeal.τ).loc Cert.AdFfnConvIdeal.main_arg3))
      ∧ θ_run (Cert.AdFfnConvReferenceIdeal.defs (F := Ideal)) (onTc (τ := Cert.AdFfnConvReferenceIdeal.τ) (Cert.AdFfnConvReferenceIdeal.main (F := Ideal))) ⟨m', fun _ => 0, g'⟩ (fun r => ∀ c : Dev Cert.AdFfnConvReferenceIdeal.nD,
          r.2.mem ((c.tc : Thread Cert.AdFfnConvReferenceIdeal.nD Cert.AdFfnConvReferenceIdeal.τ).loc Cert.AdFfnConvReferenceIdeal.main_v0) = v0 c
          ∧ r.2.mem ((c.tc : Thread Cert.AdFfnConvReferenceIdeal.nD Cert.AdFfnConvReferenceIdeal.τ).loc Cert.AdFfnConvReferenceIdeal.main_v24) = v1 c
          ∧ r.2.mem ((c.tc : Thread Cert.AdFfnConvReferenceIdeal.nD Cert.AdFfnConvReferenceIdeal.τ).loc Cert.AdFfnConvReferenceIdeal.main_v5) = v2 c
          ∧ r.2.mem ((c.tc : Thread Cert.AdFfnConvReferenceIdeal.nD Cert.AdFfnConvReferenceIdeal.τ).loc Cert.AdFfnConvReferenceIdeal.main_v11) = v3 c
          ∧ r.2.mem ((c.tc : Thread Cert.AdFfnConvReferenceIdeal.nD Cert.AdFfnConvReferenceIdeal.τ).loc Cert.AdFfnConvReferenceIdeal.main_arg0) = m' ((c.tc : Thread Cert.AdFfnConvReferenceIdeal.nD Cert.AdFfnConvReferenceIdeal.τ).loc Cert.AdFfnConvReferenceIdeal.main_arg0)
          ∧ r.2.mem ((c.tc : Thread Cert.AdFfnConvReferenceIdeal.nD Cert.AdFfnConvReferenceIdeal.τ).loc Cert.AdFfnConvReferenceIdeal.main_arg1) = m' ((c.tc : Thread Cert.AdFfnConvReferenceIdeal.nD Cert.AdFfnConvReferenceIdeal.τ).loc Cert.AdFfnConvReferenceIdeal.main_arg1)
          ∧ r.2.mem ((c.tc : Thread Cert.AdFfnConvReferenceIdeal.nD Cert.AdFfnConvReferenceIdeal.τ).loc Cert.AdFfnConvReferenceIdeal.main_arg2) = m' ((c.tc : Thread Cert.AdFfnConvReferenceIdeal.nD Cert.AdFfnConvReferenceIdeal.τ).loc Cert.AdFfnConvReferenceIdeal.main_arg2)
          ∧ r.2.mem ((c.tc : Thread Cert.AdFfnConvReferenceIdeal.nD Cert.AdFfnConvReferenceIdeal.τ).loc Cert.AdFfnConvReferenceIdeal.main_arg3) = m' ((c.tc : Thread Cert.AdFfnConvReferenceIdeal.nD Cert.AdFfnConvReferenceIdeal.τ).loc Cert.AdFfnConvReferenceIdeal.main_arg3))

def preserves_AdPool_AdPoolIdeal : Prop :=
  True

def algebraic_AdPoolIdeal_AdPoolReferenceIdeal [hAdPoolIdeal : Cert.AdPoolIdeal.Facts] [hAdPoolReferenceIdeal : Cert.AdPoolReferenceIdeal.Facts] : Prop :=
  ∀ (m : (ℓ : Loc Cert.AdPoolIdeal.nD Cert.AdPoolIdeal.τ Cert.AdPoolIdeal.sig) → Buf (Elt Ideal) ℓ) (g : Dev Cert.AdPoolIdeal.nD → PrngReg)
    (m' : (ℓ : Loc Cert.AdPoolReferenceIdeal.nD Cert.AdPoolReferenceIdeal.τ Cert.AdPoolReferenceIdeal.sig) → Buf (Elt Ideal) ℓ) (g' : Dev Cert.AdPoolReferenceIdeal.nD → PrngReg), Pre_AdPoolIdeal m →
    (∀ c : Dev Cert.AdPoolIdeal.nD,
      m' ((c.tc : Thread Cert.AdPoolReferenceIdeal.nD Cert.AdPoolReferenceIdeal.τ).loc Cert.AdPoolReferenceIdeal.main_arg0) = m ((c.tc : Thread Cert.AdPoolIdeal.nD Cert.AdPoolIdeal.τ).loc Cert.AdPoolIdeal.main_arg0)
      ∧ m' ((c.tc : Thread Cert.AdPoolReferenceIdeal.nD Cert.AdPoolReferenceIdeal.τ).loc Cert.AdPoolReferenceIdeal.main_arg1) = m ((c.tc : Thread Cert.AdPoolIdeal.nD Cert.AdPoolIdeal.τ).loc Cert.AdPoolIdeal.main_arg1)
      ∧ m' ((c.tc : Thread Cert.AdPoolReferenceIdeal.nD Cert.AdPoolReferenceIdeal.τ).loc Cert.AdPoolReferenceIdeal.main_arg2) = m ((c.tc : Thread Cert.AdPoolIdeal.nD Cert.AdPoolIdeal.τ).loc Cert.AdPoolIdeal.main_arg2)
      ∧ m' ((c.tc : Thread Cert.AdPoolReferenceIdeal.nD Cert.AdPoolReferenceIdeal.τ).loc Cert.AdPoolReferenceIdeal.main_arg3) = m ((c.tc : Thread Cert.AdPoolIdeal.nD Cert.AdPoolIdeal.τ).loc Cert.AdPoolIdeal.main_arg3)) →
    ∃ (v0 : (c : Dev Cert.AdPoolIdeal.nD) → Buf (Elt Ideal) ((c.tc : Thread Cert.AdPoolIdeal.nD Cert.AdPoolIdeal.τ).loc Cert.AdPoolIdeal.main_v0_0)) (v1 : (c : Dev Cert.AdPoolIdeal.nD) → Buf (Elt Ideal) ((c.tc : Thread Cert.AdPoolIdeal.nD Cert.AdPoolIdeal.τ).loc Cert.AdPoolIdeal.main_v0_1)) (v2 : (c : Dev Cert.AdPoolIdeal.nD) → Buf (Elt Ideal) ((c.tc : Thread Cert.AdPoolIdeal.nD Cert.AdPoolIdeal.τ).loc Cert.AdPoolIdeal.main_v0_2)) (v3 : (c : Dev Cert.AdPoolIdeal.nD) → Buf (Elt Ideal) ((c.tc : Thread Cert.AdPoolIdeal.nD Cert.AdPoolIdeal.τ).loc Cert.AdPoolIdeal.main_v0_3)),
      θ_run (Cert.AdPoolIdeal.defs (F := Ideal)) (onTc (τ := Cert.AdPoolIdeal.τ) (Cert.AdPoolIdeal.main (F := Ideal))) ⟨m, fun _ => 0, g⟩ (fun r => ∀ c : Dev Cert.AdPoolIdeal.nD,
          r.2.mem ((c.tc : Thread Cert.AdPoolIdeal.nD Cert.AdPoolIdeal.τ).loc Cert.AdPoolIdeal.main_v0_0) = v0 c
          ∧ r.2.mem ((c.tc : Thread Cert.AdPoolIdeal.nD Cert.AdPoolIdeal.τ).loc Cert.AdPoolIdeal.main_v0_1) = v1 c
          ∧ r.2.mem ((c.tc : Thread Cert.AdPoolIdeal.nD Cert.AdPoolIdeal.τ).loc Cert.AdPoolIdeal.main_v0_2) = v2 c
          ∧ r.2.mem ((c.tc : Thread Cert.AdPoolIdeal.nD Cert.AdPoolIdeal.τ).loc Cert.AdPoolIdeal.main_v0_3) = v3 c
          ∧ r.2.mem ((c.tc : Thread Cert.AdPoolIdeal.nD Cert.AdPoolIdeal.τ).loc Cert.AdPoolIdeal.main_arg0) = m ((c.tc : Thread Cert.AdPoolIdeal.nD Cert.AdPoolIdeal.τ).loc Cert.AdPoolIdeal.main_arg0)
          ∧ r.2.mem ((c.tc : Thread Cert.AdPoolIdeal.nD Cert.AdPoolIdeal.τ).loc Cert.AdPoolIdeal.main_arg1) = m ((c.tc : Thread Cert.AdPoolIdeal.nD Cert.AdPoolIdeal.τ).loc Cert.AdPoolIdeal.main_arg1)
          ∧ r.2.mem ((c.tc : Thread Cert.AdPoolIdeal.nD Cert.AdPoolIdeal.τ).loc Cert.AdPoolIdeal.main_arg2) = m ((c.tc : Thread Cert.AdPoolIdeal.nD Cert.AdPoolIdeal.τ).loc Cert.AdPoolIdeal.main_arg2)
          ∧ r.2.mem ((c.tc : Thread Cert.AdPoolIdeal.nD Cert.AdPoolIdeal.τ).loc Cert.AdPoolIdeal.main_arg3) = m ((c.tc : Thread Cert.AdPoolIdeal.nD Cert.AdPoolIdeal.τ).loc Cert.AdPoolIdeal.main_arg3))
      ∧ θ_run (Cert.AdPoolReferenceIdeal.defs (F := Ideal)) (onTc (τ := Cert.AdPoolReferenceIdeal.τ) (Cert.AdPoolReferenceIdeal.main (F := Ideal))) ⟨m', fun _ => 0, g'⟩ (fun r => ∀ c : Dev Cert.AdPoolReferenceIdeal.nD,
          r.2.mem ((c.tc : Thread Cert.AdPoolReferenceIdeal.nD Cert.AdPoolReferenceIdeal.τ).loc Cert.AdPoolReferenceIdeal.main_v0) = v0 c
          ∧ r.2.mem ((c.tc : Thread Cert.AdPoolReferenceIdeal.nD Cert.AdPoolReferenceIdeal.τ).loc Cert.AdPoolReferenceIdeal.main_v24) = v1 c
          ∧ r.2.mem ((c.tc : Thread Cert.AdPoolReferenceIdeal.nD Cert.AdPoolReferenceIdeal.τ).loc Cert.AdPoolReferenceIdeal.main_v5) = v2 c
          ∧ r.2.mem ((c.tc : Thread Cert.AdPoolReferenceIdeal.nD Cert.AdPoolReferenceIdeal.τ).loc Cert.AdPoolReferenceIdeal.main_v11) = v3 c
          ∧ r.2.mem ((c.tc : Thread Cert.AdPoolReferenceIdeal.nD Cert.AdPoolReferenceIdeal.τ).loc Cert.AdPoolReferenceIdeal.main_arg0) = m' ((c.tc : Thread Cert.AdPoolReferenceIdeal.nD Cert.AdPoolReferenceIdeal.τ).loc Cert.AdPoolReferenceIdeal.main_arg0)
          ∧ r.2.mem ((c.tc : Thread Cert.AdPoolReferenceIdeal.nD Cert.AdPoolReferenceIdeal.τ).loc Cert.AdPoolReferenceIdeal.main_arg1) = m' ((c.tc : Thread Cert.AdPoolReferenceIdeal.nD Cert.AdPoolReferenceIdeal.τ).loc Cert.AdPoolReferenceIdeal.main_arg1)
          ∧ r.2.mem ((c.tc : Thread Cert.AdPoolReferenceIdeal.nD Cert.AdPoolReferenceIdeal.τ).loc Cert.AdPoolReferenceIdeal.main_arg2) = m' ((c.tc : Thread Cert.AdPoolReferenceIdeal.nD Cert.AdPoolReferenceIdeal.τ).loc Cert.AdPoolReferenceIdeal.main_arg2)
          ∧ r.2.mem ((c.tc : Thread Cert.AdPoolReferenceIdeal.nD Cert.AdPoolReferenceIdeal.τ).loc Cert.AdPoolReferenceIdeal.main_arg3) = m' ((c.tc : Thread Cert.AdPoolReferenceIdeal.nD Cert.AdPoolReferenceIdeal.τ).loc Cert.AdPoolReferenceIdeal.main_arg3))

def preserves_AdSmall_AdSmallIdeal : Prop :=
  True

def algebraic_AdSmallIdeal_AdSmallReferenceIdeal [hAdSmallIdeal : Cert.AdSmallIdeal.Facts] [hAdSmallReferenceIdeal : Cert.AdSmallReferenceIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg)
    (m' : (ℓ : Loc Cert.AdSmallReferenceIdeal.nD Cert.AdSmallReferenceIdeal.τ Cert.AdSmallReferenceIdeal.sig) → Buf (Elt Ideal) ℓ) (g' : Dev Cert.AdSmallReferenceIdeal.nD → PrngReg), Pre_AdSmallIdeal m →
    (∀ c : Dev Cert.AdSmallIdeal.nD,
      m' ((c.tc : Thread Cert.AdSmallReferenceIdeal.nD Cert.AdSmallReferenceIdeal.τ).loc Cert.AdSmallReferenceIdeal.main_arg0) = m ((c.tc : Thread Cert.AdSmallIdeal.nD Cert.AdSmallIdeal.τ).loc Cert.AdSmallIdeal.main_arg0)
      ∧ m' ((c.tc : Thread Cert.AdSmallReferenceIdeal.nD Cert.AdSmallReferenceIdeal.τ).loc Cert.AdSmallReferenceIdeal.main_arg1) = m ((c.tc : Thread Cert.AdSmallIdeal.nD Cert.AdSmallIdeal.τ).loc Cert.AdSmallIdeal.main_arg1)
      ∧ m' ((c.tc : Thread Cert.AdSmallReferenceIdeal.nD Cert.AdSmallReferenceIdeal.τ).loc Cert.AdSmallReferenceIdeal.main_arg2) = m ((c.tc : Thread Cert.AdSmallIdeal.nD Cert.AdSmallIdeal.τ).loc Cert.AdSmallIdeal.main_arg2)
      ∧ m' ((c.tc : Thread Cert.AdSmallReferenceIdeal.nD Cert.AdSmallReferenceIdeal.τ).loc Cert.AdSmallReferenceIdeal.main_arg3) = m ((c.tc : Thread Cert.AdSmallIdeal.nD Cert.AdSmallIdeal.τ).loc Cert.AdSmallIdeal.main_arg3)) →
    ∃ (v0 : (c : Dev Cert.AdSmallIdeal.nD) → Buf (Elt Ideal) ((c.tc : Thread Cert.AdSmallIdeal.nD Cert.AdSmallIdeal.τ).loc Cert.AdSmallIdeal.main_v0_0)) (v1 : (c : Dev Cert.AdSmallIdeal.nD) → Buf (Elt Ideal) ((c.tc : Thread Cert.AdSmallIdeal.nD Cert.AdSmallIdeal.τ).loc Cert.AdSmallIdeal.main_v0_1)) (v2 : (c : Dev Cert.AdSmallIdeal.nD) → Buf (Elt Ideal) ((c.tc : Thread Cert.AdSmallIdeal.nD Cert.AdSmallIdeal.τ).loc Cert.AdSmallIdeal.main_v0_2)) (v3 : (c : Dev Cert.AdSmallIdeal.nD) → Buf (Elt Ideal) ((c.tc : Thread Cert.AdSmallIdeal.nD Cert.AdSmallIdeal.τ).loc Cert.AdSmallIdeal.main_v0_3)),
      θ_run (Cert.AdSmallIdeal.defs (F := Ideal)) (onTc (τ := Cert.AdSmallIdeal.τ) (Cert.AdSmallIdeal.main (F := Ideal))) ⟨m, fun _ => 0, g⟩ (fun r => ∀ c : Dev Cert.AdSmallIdeal.nD,
          r.2.mem ((c.tc : Thread Cert.AdSmallIdeal.nD Cert.AdSmallIdeal.τ).loc Cert.AdSmallIdeal.main_v0_0) = v0 c
          ∧ r.2.mem ((c.tc : Thread Cert.AdSmallIdeal.nD Cert.AdSmallIdeal.τ).loc Cert.AdSmallIdeal.main_v0_1) = v1 c
          ∧ r.2.mem ((c.tc : Thread Cert.AdSmallIdeal.nD Cert.AdSmallIdeal.τ).loc Cert.AdSmallIdeal.main_v0_2) = v2 c
          ∧ r.2.mem ((c.tc : Thread Cert.AdSmallIdeal.nD Cert.AdSmallIdeal.τ).loc Cert.AdSmallIdeal.main_v0_3) = v3 c
          ∧ r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
          ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
          ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
          ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ θ_run (Cert.AdSmallReferenceIdeal.defs (F := Ideal)) (onTc (τ := Cert.AdSmallReferenceIdeal.τ) (Cert.AdSmallReferenceIdeal.main (F := Ideal))) ⟨m', fun _ => 0, g'⟩ (fun r => ∀ c : Dev Cert.AdSmallReferenceIdeal.nD,
          r.2.mem ((c.tc : Thread Cert.AdSmallReferenceIdeal.nD Cert.AdSmallReferenceIdeal.τ).loc Cert.AdSmallReferenceIdeal.main_v0) = v0 c
          ∧ r.2.mem ((c.tc : Thread Cert.AdSmallReferenceIdeal.nD Cert.AdSmallReferenceIdeal.τ).loc Cert.AdSmallReferenceIdeal.main_v24) = v1 c
          ∧ r.2.mem ((c.tc : Thread Cert.AdSmallReferenceIdeal.nD Cert.AdSmallReferenceIdeal.τ).loc Cert.AdSmallReferenceIdeal.main_v5) = v2 c
          ∧ r.2.mem ((c.tc : Thread Cert.AdSmallReferenceIdeal.nD Cert.AdSmallReferenceIdeal.τ).loc Cert.AdSmallReferenceIdeal.main_v11) = v3 c
          ∧ r.2.mem ((c.tc : Thread Cert.AdSmallReferenceIdeal.nD Cert.AdSmallReferenceIdeal.τ).loc Cert.AdSmallReferenceIdeal.main_arg0) = m' ((c.tc : Thread Cert.AdSmallReferenceIdeal.nD Cert.AdSmallReferenceIdeal.τ).loc Cert.AdSmallReferenceIdeal.main_arg0)
          ∧ r.2.mem ((c.tc : Thread Cert.AdSmallReferenceIdeal.nD Cert.AdSmallReferenceIdeal.τ).loc Cert.AdSmallReferenceIdeal.main_arg1) = m' ((c.tc : Thread Cert.AdSmallReferenceIdeal.nD Cert.AdSmallReferenceIdeal.τ).loc Cert.AdSmallReferenceIdeal.main_arg1)
          ∧ r.2.mem ((c.tc : Thread Cert.AdSmallReferenceIdeal.nD Cert.AdSmallReferenceIdeal.τ).loc Cert.AdSmallReferenceIdeal.main_arg2) = m' ((c.tc : Thread Cert.AdSmallReferenceIdeal.nD Cert.AdSmallReferenceIdeal.τ).loc Cert.AdSmallReferenceIdeal.main_arg2)
          ∧ r.2.mem ((c.tc : Thread Cert.AdSmallReferenceIdeal.nD Cert.AdSmallReferenceIdeal.τ).loc Cert.AdSmallReferenceIdeal.main_arg3) = m' ((c.tc : Thread Cert.AdSmallReferenceIdeal.nD Cert.AdSmallReferenceIdeal.τ).loc Cert.AdSmallReferenceIdeal.main_arg3))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)
      ∧ m' ((c.tc : Thread Cert.MergeBwdReferenceIdeal.nD Cert.MergeBwdReferenceIdeal.τ).loc Cert.MergeBwdReferenceIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v34) = v0 c
          ∧ r.2.mem ((c.tc : Thread Cert.MergeBwdReferenceIdeal.nD Cert.MergeBwdReferenceIdeal.τ).loc Cert.MergeBwdReferenceIdeal.main_v35) = v1 c
          ∧ r.2.mem ((c.tc : Thread Cert.MergeBwdReferenceIdeal.nD Cert.MergeBwdReferenceIdeal.τ).loc Cert.MergeBwdReferenceIdeal.main_v36) = v2 c
          ∧ r.2.mem ((c.tc : Thread Cert.MergeBwdReferenceIdeal.nD Cert.MergeBwdReferenceIdeal.τ).loc Cert.MergeBwdReferenceIdeal.main_v37) = v3 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3))

def preserves_XaFwd_XaFwdIdeal : Prop :=
  True

def algebraic_XaFwdIdeal_XaFwdReferenceIdeal [hXaFwdIdeal : Cert.XaFwdIdeal.Facts] [hXaFwdReferenceIdeal : Cert.XaFwdReferenceIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg)
    (m' : (ℓ : Loc Cert.XaFwdReferenceIdeal.nD Cert.XaFwdReferenceIdeal.τ Cert.XaFwdReferenceIdeal.sig) → Buf (Elt Ideal) ℓ) (g' : Dev Cert.XaFwdReferenceIdeal.nD → PrngReg), Pre_XaFwdIdeal m →
    (∀ c : Dev Cert.XaFwdIdeal.nD,
      m' ((c.tc : Thread Cert.XaFwdReferenceIdeal.nD Cert.XaFwdReferenceIdeal.τ).loc Cert.XaFwdReferenceIdeal.main_arg0) = m ((c.tc : Thread Cert.XaFwdIdeal.nD Cert.XaFwdIdeal.τ).loc Cert.XaFwdIdeal.main_arg0)
      ∧ m' ((c.tc : Thread Cert.XaFwdReferenceIdeal.nD Cert.XaFwdReferenceIdeal.τ).loc Cert.XaFwdReferenceIdeal.main_arg1) = m ((c.tc : Thread Cert.XaFwdIdeal.nD Cert.XaFwdIdeal.τ).loc Cert.XaFwdIdeal.main_arg1)) →
    ∃ (v0 : (c : Dev Cert.XaFwdIdeal.nD) → Buf (Elt Ideal) ((c.tc : Thread Cert.XaFwdIdeal.nD Cert.XaFwdIdeal.τ).loc Cert.XaFwdIdeal.main_v0)),
      θ_run (Cert.XaFwdIdeal.defs (F := Ideal)) (onTc (τ := Cert.XaFwdIdeal.τ) (Cert.XaFwdIdeal.main (F := Ideal))) ⟨m, fun _ => 0, g⟩ (fun r => ∀ c : Dev Cert.XaFwdIdeal.nD,
          r.2.mem ((c.tc : Thread Cert.XaFwdIdeal.nD Cert.XaFwdIdeal.τ).loc Cert.XaFwdIdeal.main_v0) = v0 c
          ∧ r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
          ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1))
      ∧ θ_run (Cert.XaFwdReferenceIdeal.defs (F := Ideal)) (onTc (τ := Cert.XaFwdReferenceIdeal.τ) (Cert.XaFwdReferenceIdeal.main (F := Ideal))) ⟨m', fun _ => 0, g'⟩ (fun r => ∀ c : Dev Cert.XaFwdReferenceIdeal.nD,
          r.2.mem ((c.tc : Thread Cert.XaFwdReferenceIdeal.nD Cert.XaFwdReferenceIdeal.τ).loc Cert.XaFwdReferenceIdeal.main_v24) = v0 c
          ∧ r.2.mem ((c.tc : Thread Cert.XaFwdReferenceIdeal.nD Cert.XaFwdReferenceIdeal.τ).loc Cert.XaFwdReferenceIdeal.main_arg0) = m' ((c.tc : Thread Cert.XaFwdReferenceIdeal.nD Cert.XaFwdReferenceIdeal.τ).loc Cert.XaFwdReferenceIdeal.main_arg0)
          ∧ r.2.mem ((c.tc : Thread Cert.XaFwdReferenceIdeal.nD Cert.XaFwdReferenceIdeal.τ).loc Cert.XaFwdReferenceIdeal.main_arg1) = m' ((c.tc : Thread Cert.XaFwdReferenceIdeal.nD Cert.XaFwdReferenceIdeal.τ).loc Cert.XaFwdReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v27) = v0 c
          ∧ r.2.mem ((c.tc : Thread Cert.LossReferenceIdeal.nD Cert.LossReferenceIdeal.τ).loc Cert.LossReferenceIdeal.main_v28) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_Prenorm_PrenormIdeal : Prop :=
  True

def algebraic_PrenormIdeal_PrenormReferenceIdeal [hPrenormIdeal : Cert.PrenormIdeal.Facts] [hPrenormReferenceIdeal : Cert.PrenormReferenceIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormReferenceIdeal.nD Cert.PrenormReferenceIdeal.τ Cert.PrenormReferenceIdeal.sig) → Buf (Elt Ideal) ℓ) (g' : Dev Cert.PrenormReferenceIdeal.nD → PrngReg), Pre_PrenormIdeal m →
    (∀ c : Dev Cert.PrenormIdeal.nD,
      m' ((c.tc : Thread Cert.PrenormReferenceIdeal.nD Cert.PrenormReferenceIdeal.τ).loc Cert.PrenormReferenceIdeal.main_arg0) = m ((c.tc : Thread Cert.PrenormIdeal.nD Cert.PrenormIdeal.τ).loc Cert.PrenormIdeal.main_arg0)
      ∧ m' ((c.tc : Thread Cert.PrenormReferenceIdeal.nD Cert.PrenormReferenceIdeal.τ).loc Cert.PrenormReferenceIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v0)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormReferenceIdeal.defs (F := Ideal)) (onTc (τ := Cert.PrenormReferenceIdeal.τ) (Cert.PrenormReferenceIdeal.main (F := Ideal))) ⟨m', fun _ => 0, g'⟩ (fun r => ∀ c : Dev Cert.PrenormReferenceIdeal.nD,
          r.2.mem ((c.tc : Thread Cert.PrenormReferenceIdeal.nD Cert.PrenormReferenceIdeal.τ).loc Cert.PrenormReferenceIdeal.main_v12) = v0 c
          ∧ r.2.mem ((c.tc : Thread Cert.PrenormReferenceIdeal.nD Cert.PrenormReferenceIdeal.τ).loc Cert.PrenormReferenceIdeal.main_arg0) = m' ((c.tc : Thread Cert.PrenormReferenceIdeal.nD Cert.PrenormReferenceIdeal.τ).loc Cert.PrenormReferenceIdeal.main_arg0)
          ∧ r.2.mem ((c.tc : Thread Cert.PrenormReferenceIdeal.nD Cert.PrenormReferenceIdeal.τ).loc Cert.PrenormReferenceIdeal.main_arg1) = m' ((c.tc : Thread Cert.PrenormReferenceIdeal.nD Cert.PrenormReferenceIdeal.τ).loc Cert.PrenormReferenceIdeal.main_arg1))

def preserves_PostPre_PostPreIdeal : Prop :=
  True

def algebraic_PostPreIdeal_PostPreReferenceIdeal [hPostPreIdeal : Cert.PostPreIdeal.Facts] [hPostPreReferenceIdeal : Cert.PostPreReferenceIdeal.Facts] : Prop :=
  ∀ (m : (ℓ : Loc Cert.PostPreIdeal.nD Cert.PostPreIdeal.τ Cert.PostPreIdeal.sig) → Buf (Elt Ideal) ℓ) (g : Dev Cert.PostPreIdeal.nD → PrngReg)
    (m' : (ℓ : Loc Cert.PostPreReferenceIdeal.nD Cert.PostPreReferenceIdeal.τ Cert.PostPreReferenceIdeal.sig) → Buf (Elt Ideal) ℓ) (g' : Dev Cert.PostPreReferenceIdeal.nD → PrngReg), Pre_PostPreIdeal m →
    (∀ c : Dev Cert.PostPreIdeal.nD,
      m' ((c.tc : Thread Cert.PostPreReferenceIdeal.nD Cert.PostPreReferenceIdeal.τ).loc Cert.PostPreReferenceIdeal.main_arg0) = m ((c.tc : Thread Cert.PostPreIdeal.nD Cert.PostPreIdeal.τ).loc Cert.PostPreIdeal.main_arg0)
      ∧ m' ((c.tc : Thread Cert.PostPreReferenceIdeal.nD Cert.PostPreReferenceIdeal.τ).loc Cert.PostPreReferenceIdeal.main_arg1) = m ((c.tc : Thread Cert.PostPreIdeal.nD Cert.PostPreIdeal.τ).loc Cert.PostPreIdeal.main_arg1)
      ∧ m' ((c.tc : Thread Cert.PostPreReferenceIdeal.nD Cert.PostPreReferenceIdeal.τ).loc Cert.PostPreReferenceIdeal.main_arg2) = m ((c.tc : Thread Cert.PostPreIdeal.nD Cert.PostPreIdeal.τ).loc Cert.PostPreIdeal.main_arg2)
      ∧ m' ((c.tc : Thread Cert.PostPreReferenceIdeal.nD Cert.PostPreReferenceIdeal.τ).loc Cert.PostPreReferenceIdeal.main_arg3) = m ((c.tc : Thread Cert.PostPreIdeal.nD Cert.PostPreIdeal.τ).loc Cert.PostPreIdeal.main_arg3)) →
    ∃ (v0 : (c : Dev Cert.PostPreIdeal.nD) → Buf (Elt Ideal) ((c.tc : Thread Cert.PostPreIdeal.nD Cert.PostPreIdeal.τ).loc Cert.PostPreIdeal.main_v0_0)) (v1 : (c : Dev Cert.PostPreIdeal.nD) → Buf (Elt Ideal) ((c.tc : Thread Cert.PostPreIdeal.nD Cert.PostPreIdeal.τ).loc Cert.PostPreIdeal.main_v0_1)),
      θ_run (Cert.PostPreIdeal.defs (F := Ideal)) (onTc (τ := Cert.PostPreIdeal.τ) (Cert.PostPreIdeal.main (F := Ideal))) ⟨m, fun _ => 0, g⟩ (fun r => ∀ c : Dev Cert.PostPreIdeal.nD,
          r.2.mem ((c.tc : Thread Cert.PostPreIdeal.nD Cert.PostPreIdeal.τ).loc Cert.PostPreIdeal.main_v0_0) = v0 c
          ∧ r.2.mem ((c.tc : Thread Cert.PostPreIdeal.nD Cert.PostPreIdeal.τ).loc Cert.PostPreIdeal.main_v0_1) = v1 c
          ∧ r.2.mem ((c.tc : Thread Cert.PostPreIdeal.nD Cert.PostPreIdeal.τ).loc Cert.PostPreIdeal.main_arg0) = m ((c.tc : Thread Cert.PostPreIdeal.nD Cert.PostPreIdeal.τ).loc Cert.PostPreIdeal.main_arg0)
          ∧ r.2.mem ((c.tc : Thread Cert.PostPreIdeal.nD Cert.PostPreIdeal.τ).loc Cert.PostPreIdeal.main_arg1) = m ((c.tc : Thread Cert.PostPreIdeal.nD Cert.PostPreIdeal.τ).loc Cert.PostPreIdeal.main_arg1)
          ∧ r.2.mem ((c.tc : Thread Cert.PostPreIdeal.nD Cert.PostPreIdeal.τ).loc Cert.PostPreIdeal.main_arg2) = m ((c.tc : Thread Cert.PostPreIdeal.nD Cert.PostPreIdeal.τ).loc Cert.PostPreIdeal.main_arg2)
          ∧ r.2.mem ((c.tc : Thread Cert.PostPreIdeal.nD Cert.PostPreIdeal.τ).loc Cert.PostPreIdeal.main_arg3) = m ((c.tc : Thread Cert.PostPreIdeal.nD Cert.PostPreIdeal.τ).loc Cert.PostPreIdeal.main_arg3))
      ∧ θ_run (Cert.PostPreReferenceIdeal.defs (F := Ideal)) (onTc (τ := Cert.PostPreReferenceIdeal.τ) (Cert.PostPreReferenceIdeal.main (F := Ideal))) ⟨m', fun _ => 0, g'⟩ (fun r => ∀ c : Dev Cert.PostPreReferenceIdeal.nD,
          r.2.mem ((c.tc : Thread Cert.PostPreReferenceIdeal.nD Cert.PostPreReferenceIdeal.τ).loc Cert.PostPreReferenceIdeal.main_v12) = v0 c
          ∧ r.2.mem ((c.tc : Thread Cert.PostPreReferenceIdeal.nD Cert.PostPreReferenceIdeal.τ).loc Cert.PostPreReferenceIdeal.main_v25) = v1 c
          ∧ r.2.mem ((c.tc : Thread Cert.PostPreReferenceIdeal.nD Cert.PostPreReferenceIdeal.τ).loc Cert.PostPreReferenceIdeal.main_arg0) = m' ((c.tc : Thread Cert.PostPreReferenceIdeal.nD Cert.PostPreReferenceIdeal.τ).loc Cert.PostPreReferenceIdeal.main_arg0)
          ∧ r.2.mem ((c.tc : Thread Cert.PostPreReferenceIdeal.nD Cert.PostPreReferenceIdeal.τ).loc Cert.PostPreReferenceIdeal.main_arg1) = m' ((c.tc : Thread Cert.PostPreReferenceIdeal.nD Cert.PostPreReferenceIdeal.τ).loc Cert.PostPreReferenceIdeal.main_arg1)
          ∧ r.2.mem ((c.tc : Thread Cert.PostPreReferenceIdeal.nD Cert.PostPreReferenceIdeal.τ).loc Cert.PostPreReferenceIdeal.main_arg2) = m' ((c.tc : Thread Cert.PostPreReferenceIdeal.nD Cert.PostPreReferenceIdeal.τ).loc Cert.PostPreReferenceIdeal.main_arg2)
          ∧ r.2.mem ((c.tc : Thread Cert.PostPreReferenceIdeal.nD Cert.PostPreReferenceIdeal.τ).loc Cert.PostPreReferenceIdeal.main_arg3) = m' ((c.tc : Thread Cert.PostPreReferenceIdeal.nD Cert.PostPreReferenceIdeal.τ).loc Cert.PostPreReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2))

def Claim : Prop :=
  ∃ (hKernel : Cert.Kernel.Facts) (hKernelIdeal : Cert.KernelIdeal.Facts) (hReferenceIdeal : Cert.ReferenceIdeal.Facts) (hGdn : Cert.Gdn.Facts) (hGdnIdeal : Cert.GdnIdeal.Facts) (hGdnReferenceIdeal : Cert.GdnReferenceIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDw : Cert.UpDw.Facts) (hUpDwIdeal : Cert.UpDwIdeal.Facts) (hUpDwReferenceIdeal : Cert.UpDwReferenceIdeal.Facts) (hSquareDx : Cert.SquareDx.Facts) (hSquareDxIdeal : Cert.SquareDxIdeal.Facts) (hSquareDxReferenceIdeal : Cert.SquareDxReferenceIdeal.Facts) (hSquareDw : Cert.SquareDw.Facts) (hSquareDwIdeal : Cert.SquareDwIdeal.Facts) (hSquareDwReferenceIdeal : Cert.SquareDwReferenceIdeal.Facts) (hPoolDx : Cert.PoolDx.Facts) (hPoolDxIdeal : Cert.PoolDxIdeal.Facts) (hPoolDxReferenceIdeal : Cert.PoolDxReferenceIdeal.Facts) (hPoolDw : Cert.PoolDw.Facts) (hPoolDwIdeal : Cert.PoolDwIdeal.Facts) (hPoolDwReferenceIdeal : Cert.PoolDwReferenceIdeal.Facts) (hUpDx : Cert.UpDx.Facts) (hUpDxIdeal : Cert.UpDxIdeal.Facts) (hUpDxReferenceIdeal : Cert.UpDxReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hKvDx : Cert.KvDx.Facts) (hKvDxIdeal : Cert.KvDxIdeal.Facts) (hKvDxReferenceIdeal : Cert.KvDxReferenceIdeal.Facts) (hKvDw : Cert.KvDw.Facts) (hKvDwIdeal : Cert.KvDwIdeal.Facts) (hKvDwReferenceIdeal : Cert.KvDwReferenceIdeal.Facts) (hInProj : Cert.InProj.Facts) (hInProjIdeal : Cert.InProjIdeal.Facts) (hInProjReferenceIdeal : Cert.InProjReferenceIdeal.Facts) (hSquare : Cert.Square.Facts) (hSquareIdeal : Cert.SquareIdeal.Facts) (hSquareReferenceIdeal : Cert.SquareReferenceIdeal.Facts) (hSquareF : Cert.SquareF.Facts) (hSquareFIdeal : Cert.SquareFIdeal.Facts) (hSquareFReferenceIdeal : Cert.SquareFReferenceIdeal.Facts) (hPool : Cert.Pool.Facts) (hPoolIdeal : Cert.PoolIdeal.Facts) (hPoolReferenceIdeal : Cert.PoolReferenceIdeal.Facts) (hKv : Cert.Kv.Facts) (hKvIdeal : Cert.KvIdeal.Facts) (hKvReferenceIdeal : Cert.KvReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hNormIn : Cert.NormIn.Facts) (hNormInIdeal : Cert.NormInIdeal.Facts) (hNormInReferenceIdeal : Cert.NormInReferenceIdeal.Facts) (hNormOut : Cert.NormOut.Facts) (hNormOutIdeal : Cert.NormOutIdeal.Facts) (hNormOutReferenceIdeal : Cert.NormOutReferenceIdeal.Facts) (hAdIn : Cert.AdIn.Facts) (hAdInIdeal : Cert.AdInIdeal.Facts) (hAdInReferenceIdeal : Cert.AdInReferenceIdeal.Facts) (hAdUp : Cert.AdUp.Facts) (hAdUpIdeal : Cert.AdUpIdeal.Facts) (hAdUpReferenceIdeal : Cert.AdUpReferenceIdeal.Facts) (hAdSquare : Cert.AdSquare.Facts) (hAdSquareIdeal : Cert.AdSquareIdeal.Facts) (hAdSquareReferenceIdeal : Cert.AdSquareReferenceIdeal.Facts) (hAdPoolOut : Cert.AdPoolOut.Facts) (hAdPoolOutIdeal : Cert.AdPoolOutIdeal.Facts) (hAdPoolOutReferenceIdeal : Cert.AdPoolOutReferenceIdeal.Facts) (hAdKv : Cert.AdKv.Facts) (hAdKvIdeal : Cert.AdKvIdeal.Facts) (hAdKvReferenceIdeal : Cert.AdKvReferenceIdeal.Facts) (hAdDown : Cert.AdDown.Facts) (hAdDownIdeal : Cert.AdDownIdeal.Facts) (hAdDownReferenceIdeal : Cert.AdDownReferenceIdeal.Facts) (hAdConv : Cert.AdConv.Facts) (hAdConvIdeal : Cert.AdConvIdeal.Facts) (hAdConvReferenceIdeal : Cert.AdConvReferenceIdeal.Facts) (hAdFfnConv : Cert.AdFfnConv.Facts) (hAdFfnConvIdeal : Cert.AdFfnConvIdeal.Facts) (hAdFfnConvReferenceIdeal : Cert.AdFfnConvReferenceIdeal.Facts) (hAdPool : Cert.AdPool.Facts) (hAdPoolIdeal : Cert.AdPoolIdeal.Facts) (hAdPoolReferenceIdeal : Cert.AdPoolReferenceIdeal.Facts) (hAdSmall : Cert.AdSmall.Facts) (hAdSmallIdeal : Cert.AdSmallIdeal.Facts) (hAdSmallReferenceIdeal : Cert.AdSmallReferenceIdeal.Facts) (hMergeBwd : Cert.MergeBwd.Facts) (hMergeBwdIdeal : Cert.MergeBwdIdeal.Facts) (hMergeBwdReferenceIdeal : Cert.MergeBwdReferenceIdeal.Facts) (hXaFwd : Cert.XaFwd.Facts) (hXaFwdIdeal : Cert.XaFwdIdeal.Facts) (hXaFwdReferenceIdeal : Cert.XaFwdReferenceIdeal.Facts) (hLoss : Cert.Loss.Facts) (hLossIdeal : Cert.LossIdeal.Facts) (hLossReferenceIdeal : Cert.LossReferenceIdeal.Facts) (hPrenorm : Cert.Prenorm.Facts) (hPrenormIdeal : Cert.PrenormIdeal.Facts) (hPrenormReferenceIdeal : Cert.PrenormReferenceIdeal.Facts) (hPostPre : Cert.PostPre.Facts) (hPostPreIdeal : Cert.PostPreIdeal.Facts) (hPostPreReferenceIdeal : Cert.PostPreReferenceIdeal.Facts) (hMerge : Cert.Merge.Facts) (hMergeIdeal : Cert.MergeIdeal.Facts) (hMergeReferenceIdeal : Cert.MergeReferenceIdeal.Facts) (hPre_xa_finite : Cert.Pre_xa_finite.Facts) (hPre_gdn_finite : Cert.Pre_gdn_finite.Facts),
    quiescent_Kernel (hKernel := hKernel)
    ∧ quiescent_KernelIdeal (hKernelIdeal := hKernelIdeal)
    ∧ quiescent_KernelIdeal_pre_xa_finite (hKernelIdeal := hKernelIdeal) (hPre_xa_finite := hPre_xa_finite)
    ∧ quiescent_ReferenceIdeal (hReferenceIdeal := hReferenceIdeal)
    ∧ quiescent_ReferenceIdeal_pre_xa_finite (hReferenceIdeal := hReferenceIdeal) (hPre_xa_finite := hPre_xa_finite)
    ∧ quiescent_Gdn (hGdn := hGdn)
    ∧ quiescent_GdnIdeal (hGdnIdeal := hGdnIdeal)
    ∧ quiescent_GdnIdeal_pre_gdn_finite (hGdnIdeal := hGdnIdeal) (hPre_gdn_finite := hPre_gdn_finite)
    ∧ quiescent_GdnReferenceIdeal (hGdnReferenceIdeal := hGdnReferenceIdeal)
    ∧ quiescent_GdnReferenceIdeal_pre_gdn_finite (hGdnReferenceIdeal := hGdnReferenceIdeal) (hPre_gdn_finite := hPre_gdn_finite)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_SquareDx (hSquareDx := hSquareDx)
    ∧ quiescent_SquareDxIdeal (hSquareDxIdeal := hSquareDxIdeal)
    ∧ quiescent_SquareDxReferenceIdeal (hSquareDxReferenceIdeal := hSquareDxReferenceIdeal)
    ∧ quiescent_SquareDw (hSquareDw := hSquareDw)
    ∧ quiescent_SquareDwIdeal (hSquareDwIdeal := hSquareDwIdeal)
    ∧ quiescent_SquareDwReferenceIdeal (hSquareDwReferenceIdeal := hSquareDwReferenceIdeal)
    ∧ quiescent_PoolDx (hPoolDx := hPoolDx)
    ∧ quiescent_PoolDxIdeal (hPoolDxIdeal := hPoolDxIdeal)
    ∧ quiescent_PoolDxReferenceIdeal (hPoolDxReferenceIdeal := hPoolDxReferenceIdeal)
    ∧ quiescent_PoolDw (hPoolDw := hPoolDw)
    ∧ quiescent_PoolDwIdeal (hPoolDwIdeal := hPoolDwIdeal)
    ∧ quiescent_PoolDwReferenceIdeal (hPoolDwReferenceIdeal := hPoolDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_KvDx (hKvDx := hKvDx)
    ∧ quiescent_KvDxIdeal (hKvDxIdeal := hKvDxIdeal)
    ∧ quiescent_KvDxReferenceIdeal (hKvDxReferenceIdeal := hKvDxReferenceIdeal)
    ∧ quiescent_KvDw (hKvDw := hKvDw)
    ∧ quiescent_KvDwIdeal (hKvDwIdeal := hKvDwIdeal)
    ∧ quiescent_KvDwReferenceIdeal (hKvDwReferenceIdeal := hKvDwReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Square (hSquare := hSquare)
    ∧ quiescent_SquareIdeal (hSquareIdeal := hSquareIdeal)
    ∧ quiescent_SquareReferenceIdeal (hSquareReferenceIdeal := hSquareReferenceIdeal)
    ∧ quiescent_SquareF (hSquareF := hSquareF)
    ∧ quiescent_SquareFIdeal (hSquareFIdeal := hSquareFIdeal)
    ∧ quiescent_SquareFReferenceIdeal (hSquareFReferenceIdeal := hSquareFReferenceIdeal)
    ∧ quiescent_Pool (hPool := hPool)
    ∧ quiescent_PoolIdeal (hPoolIdeal := hPoolIdeal)
    ∧ quiescent_PoolReferenceIdeal (hPoolReferenceIdeal := hPoolReferenceIdeal)
    ∧ quiescent_Kv (hKv := hKv)
    ∧ quiescent_KvIdeal (hKvIdeal := hKvIdeal)
    ∧ quiescent_KvReferenceIdeal (hKvReferenceIdeal := hKvReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_NormOut (hNormOut := hNormOut)
    ∧ quiescent_NormOutIdeal (hNormOutIdeal := hNormOutIdeal)
    ∧ quiescent_NormOutReferenceIdeal (hNormOutReferenceIdeal := hNormOutReferenceIdeal)
    ∧ quiescent_AdIn (hAdIn := hAdIn)
    ∧ quiescent_AdInIdeal (hAdInIdeal := hAdInIdeal)
    ∧ quiescent_AdInReferenceIdeal (hAdInReferenceIdeal := hAdInReferenceIdeal)
    ∧ quiescent_AdUp (hAdUp := hAdUp)
    ∧ quiescent_AdUpIdeal (hAdUpIdeal := hAdUpIdeal)
    ∧ quiescent_AdUpReferenceIdeal (hAdUpReferenceIdeal := hAdUpReferenceIdeal)
    ∧ quiescent_AdSquare (hAdSquare := hAdSquare)
    ∧ quiescent_AdSquareIdeal (hAdSquareIdeal := hAdSquareIdeal)
    ∧ quiescent_AdSquareReferenceIdeal (hAdSquareReferenceIdeal := hAdSquareReferenceIdeal)
    ∧ quiescent_AdPoolOut (hAdPoolOut := hAdPoolOut)
    ∧ quiescent_AdPoolOutIdeal (hAdPoolOutIdeal := hAdPoolOutIdeal)
    ∧ quiescent_AdPoolOutReferenceIdeal (hAdPoolOutReferenceIdeal := hAdPoolOutReferenceIdeal)
    ∧ quiescent_AdKv (hAdKv := hAdKv)
    ∧ quiescent_AdKvIdeal (hAdKvIdeal := hAdKvIdeal)
    ∧ quiescent_AdKvReferenceIdeal (hAdKvReferenceIdeal := hAdKvReferenceIdeal)
    ∧ quiescent_AdDown (hAdDown := hAdDown)
    ∧ quiescent_AdDownIdeal (hAdDownIdeal := hAdDownIdeal)
    ∧ quiescent_AdDownReferenceIdeal (hAdDownReferenceIdeal := hAdDownReferenceIdeal)
    ∧ quiescent_AdConv (hAdConv := hAdConv)
    ∧ quiescent_AdConvIdeal (hAdConvIdeal := hAdConvIdeal)
    ∧ quiescent_AdConvReferenceIdeal (hAdConvReferenceIdeal := hAdConvReferenceIdeal)
    ∧ quiescent_AdFfnConv (hAdFfnConv := hAdFfnConv)
    ∧ quiescent_AdFfnConvIdeal (hAdFfnConvIdeal := hAdFfnConvIdeal)
    ∧ quiescent_AdFfnConvReferenceIdeal (hAdFfnConvReferenceIdeal := hAdFfnConvReferenceIdeal)
    ∧ quiescent_AdPool (hAdPool := hAdPool)
    ∧ quiescent_AdPoolIdeal (hAdPoolIdeal := hAdPoolIdeal)
    ∧ quiescent_AdPoolReferenceIdeal (hAdPoolReferenceIdeal := hAdPoolReferenceIdeal)
    ∧ quiescent_AdSmall (hAdSmall := hAdSmall)
    ∧ quiescent_AdSmallIdeal (hAdSmallIdeal := hAdSmallIdeal)
    ∧ quiescent_AdSmallReferenceIdeal (hAdSmallReferenceIdeal := hAdSmallReferenceIdeal)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_XaFwd (hXaFwd := hXaFwd)
    ∧ quiescent_XaFwdIdeal (hXaFwdIdeal := hXaFwdIdeal)
    ∧ quiescent_XaFwdReferenceIdeal (hXaFwdReferenceIdeal := hXaFwdReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_Prenorm (hPrenorm := hPrenorm)
    ∧ quiescent_PrenormIdeal (hPrenormIdeal := hPrenormIdeal)
    ∧ quiescent_PrenormReferenceIdeal (hPrenormReferenceIdeal := hPrenormReferenceIdeal)
    ∧ quiescent_PostPre (hPostPre := hPostPre)
    ∧ quiescent_PostPreIdeal (hPostPreIdeal := hPostPreIdeal)
    ∧ quiescent_PostPreReferenceIdeal (hPostPreReferenceIdeal := hPostPreReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_xa_finite (hKernelIdeal := hKernelIdeal) (hReferenceIdeal := hReferenceIdeal) (hPre_xa_finite := hPre_xa_finite)
    ∧ preserves_Gdn_GdnIdeal
    ∧ algebraic_GdnIdeal_GdnReferenceIdeal_pre_gdn_finite (hGdnIdeal := hGdnIdeal) (hGdnReferenceIdeal := hGdnReferenceIdeal) (hPre_gdn_finite := hPre_gdn_finite)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDw_UpDwIdeal
    ∧ algebraic_UpDwIdeal_UpDwReferenceIdeal (hUpDwIdeal := hUpDwIdeal) (hUpDwReferenceIdeal := hUpDwReferenceIdeal)
    ∧ preserves_SquareDx_SquareDxIdeal
    ∧ algebraic_SquareDxIdeal_SquareDxReferenceIdeal (hSquareDxIdeal := hSquareDxIdeal) (hSquareDxReferenceIdeal := hSquareDxReferenceIdeal)
    ∧ preserves_SquareDw_SquareDwIdeal
    ∧ algebraic_SquareDwIdeal_SquareDwReferenceIdeal (hSquareDwIdeal := hSquareDwIdeal) (hSquareDwReferenceIdeal := hSquareDwReferenceIdeal)
    ∧ preserves_PoolDx_PoolDxIdeal
    ∧ algebraic_PoolDxIdeal_PoolDxReferenceIdeal (hPoolDxIdeal := hPoolDxIdeal) (hPoolDxReferenceIdeal := hPoolDxReferenceIdeal)
    ∧ preserves_PoolDw_PoolDwIdeal
    ∧ algebraic_PoolDwIdeal_PoolDwReferenceIdeal (hPoolDwIdeal := hPoolDwIdeal) (hPoolDwReferenceIdeal := hPoolDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_KvDx_KvDxIdeal
    ∧ algebraic_KvDxIdeal_KvDxReferenceIdeal (hKvDxIdeal := hKvDxIdeal) (hKvDxReferenceIdeal := hKvDxReferenceIdeal)
    ∧ preserves_KvDw_KvDwIdeal
    ∧ algebraic_KvDwIdeal_KvDwReferenceIdeal (hKvDwIdeal := hKvDwIdeal) (hKvDwReferenceIdeal := hKvDwReferenceIdeal)
    ∧ preserves_InProj_InProjIdeal
    ∧ algebraic_InProjIdeal_InProjReferenceIdeal (hInProjIdeal := hInProjIdeal) (hInProjReferenceIdeal := hInProjReferenceIdeal)
    ∧ preserves_Square_SquareIdeal
    ∧ algebraic_SquareIdeal_SquareReferenceIdeal (hSquareIdeal := hSquareIdeal) (hSquareReferenceIdeal := hSquareReferenceIdeal)
    ∧ preserves_SquareF_SquareFIdeal
    ∧ algebraic_SquareFIdeal_SquareFReferenceIdeal (hSquareFIdeal := hSquareFIdeal) (hSquareFReferenceIdeal := hSquareFReferenceIdeal)
    ∧ preserves_Pool_PoolIdeal
    ∧ algebraic_PoolIdeal_PoolReferenceIdeal (hPoolIdeal := hPoolIdeal) (hPoolReferenceIdeal := hPoolReferenceIdeal)
    ∧ preserves_Kv_KvIdeal
    ∧ algebraic_KvIdeal_KvReferenceIdeal (hKvIdeal := hKvIdeal) (hKvReferenceIdeal := hKvReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_NormIn_NormInIdeal
    ∧ algebraic_NormInIdeal_NormInReferenceIdeal (hNormInIdeal := hNormInIdeal) (hNormInReferenceIdeal := hNormInReferenceIdeal)
    ∧ preserves_NormOut_NormOutIdeal
    ∧ algebraic_NormOutIdeal_NormOutReferenceIdeal (hNormOutIdeal := hNormOutIdeal) (hNormOutReferenceIdeal := hNormOutReferenceIdeal)
    ∧ preserves_AdIn_AdInIdeal
    ∧ algebraic_AdInIdeal_AdInReferenceIdeal (hAdInIdeal := hAdInIdeal) (hAdInReferenceIdeal := hAdInReferenceIdeal)
    ∧ preserves_AdUp_AdUpIdeal
    ∧ algebraic_AdUpIdeal_AdUpReferenceIdeal (hAdUpIdeal := hAdUpIdeal) (hAdUpReferenceIdeal := hAdUpReferenceIdeal)
    ∧ preserves_AdSquare_AdSquareIdeal
    ∧ algebraic_AdSquareIdeal_AdSquareReferenceIdeal (hAdSquareIdeal := hAdSquareIdeal) (hAdSquareReferenceIdeal := hAdSquareReferenceIdeal)
    ∧ preserves_AdPoolOut_AdPoolOutIdeal
    ∧ algebraic_AdPoolOutIdeal_AdPoolOutReferenceIdeal (hAdPoolOutIdeal := hAdPoolOutIdeal) (hAdPoolOutReferenceIdeal := hAdPoolOutReferenceIdeal)
    ∧ preserves_AdKv_AdKvIdeal
    ∧ algebraic_AdKvIdeal_AdKvReferenceIdeal (hAdKvIdeal := hAdKvIdeal) (hAdKvReferenceIdeal := hAdKvReferenceIdeal)
    ∧ preserves_AdDown_AdDownIdeal
    ∧ algebraic_AdDownIdeal_AdDownReferenceIdeal (hAdDownIdeal := hAdDownIdeal) (hAdDownReferenceIdeal := hAdDownReferenceIdeal)
    ∧ preserves_AdConv_AdConvIdeal
    ∧ algebraic_AdConvIdeal_AdConvReferenceIdeal (hAdConvIdeal := hAdConvIdeal) (hAdConvReferenceIdeal := hAdConvReferenceIdeal)
    ∧ preserves_AdFfnConv_AdFfnConvIdeal
    ∧ algebraic_AdFfnConvIdeal_AdFfnConvReferenceIdeal (hAdFfnConvIdeal := hAdFfnConvIdeal) (hAdFfnConvReferenceIdeal := hAdFfnConvReferenceIdeal)
    ∧ preserves_AdPool_AdPoolIdeal
    ∧ algebraic_AdPoolIdeal_AdPoolReferenceIdeal (hAdPoolIdeal := hAdPoolIdeal) (hAdPoolReferenceIdeal := hAdPoolReferenceIdeal)
    ∧ preserves_AdSmall_AdSmallIdeal
    ∧ algebraic_AdSmallIdeal_AdSmallReferenceIdeal (hAdSmallIdeal := hAdSmallIdeal) (hAdSmallReferenceIdeal := hAdSmallReferenceIdeal)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_XaFwd_XaFwdIdeal
    ∧ algebraic_XaFwdIdeal_XaFwdReferenceIdeal (hXaFwdIdeal := hXaFwdIdeal) (hXaFwdReferenceIdeal := hXaFwdReferenceIdeal)
    ∧ preserves_Loss_LossIdeal
    ∧ algebraic_LossIdeal_LossReferenceIdeal (hLossIdeal := hLossIdeal) (hLossReferenceIdeal := hLossReferenceIdeal)
    ∧ preserves_Prenorm_PrenormIdeal
    ∧ algebraic_PrenormIdeal_PrenormReferenceIdeal (hPrenormIdeal := hPrenormIdeal) (hPrenormReferenceIdeal := hPrenormReferenceIdeal)
    ∧ preserves_PostPre_PostPreIdeal
    ∧ algebraic_PostPreIdeal_PostPreReferenceIdeal (hPostPreIdeal := hPostPreIdeal) (hPostPreReferenceIdeal := hPostPreReferenceIdeal)
    ∧ preserves_Merge_MergeIdeal
    ∧ algebraic_MergeIdeal_MergeReferenceIdeal (hMergeIdeal := hMergeIdeal) (hMergeReferenceIdeal := hMergeReferenceIdeal)
-- ==== Pre_gdn_finite.lean ====
abbrev S48x8192x128 : Shape := ⟨3, ![48, 8192, 128]⟩
abbrev S8192x128 : Shape := ⟨2, ![8192, 128]⟩
abbrev S128x16x128x128 : Shape := ⟨4, ![128, 16, 128, 128]⟩
abbrev S16x8192x128 : Shape := ⟨3, ![16, 8192, 128]⟩
abbrev S_ : Shape := ⟨0, ![]⟩

class Facts : Prop where
  bcast_S_S48x8192x128 : S_.BroadcastsInDim S48x8192x128 (![] : Fin 0 → Fin S48x8192x128.rank)
  bcast_S_S8192x128 : S_.BroadcastsInDim S8192x128 (![] : Fin 0 → Fin S8192x128.rank)
  bcast_S_S128x16x128x128 : S_.BroadcastsInDim S128x16x128x128 (![] : Fin 0 → Fin S128x16x128x128.rank)
  bcast_S_S16x8192x128 : S_.BroadcastsInDim S16x8192x128 (![] : Fin 0 → Fin S16x8192x128.rank)

variable [Facts]

def fn {F : FTy → Type} [FloatOps F] (main_arg0 : FVec F S48x8192x128 .f32) (main_arg1 : FVec F S8192x128 .f32) (main_arg2 : FVec F S128x16x128x128 .f32) (main_arg3 : FVec F S16x8192x128 .f32) : IVec S48x8192x128 1 × IVec S8192x128 1 × IVec S128x16x128x128 1 × IVec S16x8192x128 1 :=
  let main_v0 : FVec F S48x8192x128 .f32 := Host.absf main_arg0
  let main_cst : FVec F S_ .f32 := constant S_ .f32 0x7F800000#32
  let main_v1 : FVec F S48x8192x128 .f32 := broadcastInDim S48x8192x128 ![] bcast_S_S48x8192x128 main_cst
  let main_v2 : IVec S48x8192x128 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : FVec F S128x16x128x128 .f32 := Host.absf main_arg2
  let main_cst_1 : FVec F S_ .f32 := constant S_ .f32 0x7F800000#32
  let main_v7 : FVec F S128x16x128x128 .f32 := broadcastInDim S128x16x128x128 ![] bcast_S_S128x16x128x128 main_cst_1
  let main_v8 : IVec S128x16x128x128 1 := cmpf .olt main_v6 main_v7
  let main_v9 : FVec F S16x8192x128 .f32 := Host.absf main_arg3
  let main_cst_2 : FVec F S_ .f32 := constant S_ .f32 0x7F800000#32
  let main_v10 : FVec F S16x8192x128 .f32 := broadcastInDim S16x8192x128 ![] bcast_S_S16x8192x128 main_cst_2
  let main_v11 : IVec S16x8192x128 1 := cmpf .olt main_v9 main_v10
  (main_v2, main_v5, main_v8, main_v11)
-- ==== Pre_xa_finite.lean ====
abbrev S8192x2048 : Shape := ⟨2, ![8192, 2048]⟩
abbrev S256x4096 : Shape := ⟨2, ![256, 4096]⟩
abbrev S_ : Shape := ⟨0, ![]⟩
abbrev S256x2048 : Shape := ⟨2, ![256, 2048]⟩

class Facts : Prop where
  bitsLt_bf16_f32 : FTy.bits .bf16 < FTy.bits .f32
  bcast_S_S8192x2048 : S_.BroadcastsInDim S8192x2048 (![] : Fin 0 → Fin S8192x2048.rank)
  slices_S256x4096_S256x2048_0_0 : S256x4096.Slices ![0, 0] S256x2048
  bcast_S_S256x2048 : S_.BroadcastsInDim S256x2048 (![] : Fin 0 → Fin S256x2048.rank)

variable [Facts]

def fn {F : FTy → Type} [FloatOps F] (main_arg0 : FVec F S8192x2048 .bf16) (main_arg1 : FVec F S256x4096 .bf16) (main_arg2 : FVec F S8192x2048 .bf16) : IVec S8192x2048 1 × IVec S256x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S256x2048 .bf16 := (extractStridedSlice S256x2048 ![0, 0] · slices_S256x4096_S256x2048_0_0) main_arg1
  let main_v5 : FVec F S256x2048 .f32 := (extf .f32 · bitsLt_bf16_f32) main_v4
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  (main_v3, main_v8)
-- ==== Kernel.lean ====
abbrev S8192x2048 : Shape := ⟨2, ![8192, 2048]⟩
abbrev S256x4096 : Shape := ⟨2, ![256, 4096]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S8192x2048, .bf16⟩
  | .hbm, ⟨4, _⟩ => ⟨S256x2048, .f32⟩
  | .hbm, ⟨5, _⟩ => ⟨S256x2048, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v45 : BitVec 1 := Scalar.cmpi .eq arg1 c15_i32
  let v46 : BitVec 32 := Scalar.extui v45
  let c0_i32_27 : BitVec 32 := 0#32
  let v47 : BitVec 1 := Scalar.cmpi .ne v46 c0_i32_27
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x2048 : Shape := ⟨2, ![8192, 2048]⟩
abbrev S256x4096 : Shape := ⟨2, ![256, 4096]⟩
abbrev S8192x4x512 : Shape := ⟨3, ![8192, 4, 512]⟩
abbrev S256x2048 : Shape := ⟨2, ![256, 2048]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩
abbrev S4x512x256 : Shape := ⟨3, ![4, 512, 256]⟩
abbrev S4x256x512 : Shape := ⟨3, ![4, 256, 512]⟩
abbrev S4x8192x512 : Shape := ⟨3, ![4, 8192, 512]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S8192x2048, .f32⟩
  | .hbm, ⟨4, _⟩ => ⟨S8192x4x512, .f32⟩
  | .hbm, ⟨5, _⟩ => ⟨S256x4096, .f32⟩
  | .hbm, ⟨6, _⟩ => ⟨S256x2048, .f32⟩
  | .hbm, ⟨7, _⟩ => ⟨S256x2048, .f32⟩
  | .hbm, ⟨8, _⟩ => ⟨S256x4x512, .f32⟩
  | .hbm, ⟨9, _⟩ => ⟨S256x4x512, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x512x8192, .f32⟩
  | .hbm, ⟨53, _⟩ => ⟨S8192x4x512, .f32⟩
  | .hbm, ⟨54, _⟩ => ⟨S8192x2048, .f32⟩
  | .hbm, ⟨55, _⟩ => ⟨S8192x2048, .f32⟩
  | .hbm, ⟨56, _⟩ => ⟨S8192x4x512, .f32⟩
  | .hbm, ⟨57, _⟩ => ⟨S4x512x8192, .f32⟩
  | .hbm, ⟨58, _⟩ => ⟨S4x8192x256, .f32⟩
  | .hbm, ⟨59, _⟩ => ⟨S4x512x256, .f32⟩
  | .hbm, ⟨60, _⟩ => ⟨S256x4x512, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x512, .f32⟩
  | .hbm, ⟨79, _⟩ => ⟨S256x4x512, .f32⟩
  | .hbm, ⟨80, _⟩ => ⟨S4x8192x512, .f32⟩
  | .hbm, ⟨81, _⟩ => ⟨S8192x4x512, .f32⟩
  | .hbm, ⟨82, _⟩ => ⟨S256x2048, .f32⟩
  | .hbm, ⟨83, _⟩ => ⟨S256x2048, .f32⟩
  | .hbm, ⟨84, _⟩ => ⟨S256x4096, .f32⟩
  | .hbm, ⟨85, _⟩ => ⟨S256x4096, .bf16⟩
  | .hbm, ⟨86, _⟩ => ⟨S8192x2048, .f32⟩
  | .hbm, ⟨87, _⟩ => ⟨S8192x2048, .bf16⟩
  | .hbm, ⟨88, _⟩ => ⟨S256x4096, .f32⟩
  | .hbm, ⟨89, _⟩ => ⟨S256x2048, .f32⟩
  | .hbm, ⟨90, _⟩ => ⟨S256x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== Gdn.lean ====
abbrev S48x8192x128 : Shape := ⟨3, ![48, 8192, 128]⟩
abbrev S8192x128 : Shape := ⟨2, ![8192, 128]⟩
abbrev S128x16x128x128 : Shape := ⟨4, ![128, 16, 128, 128]⟩
abbrev S16x8192x128 : Shape := ⟨3, ![16, 8192, 128]⟩
abbrev S16x64x128 : Shape := ⟨3, ![16, 64, 128]⟩
abbrev S64x128 : Shape := ⟨2, ![64, 128]⟩
abbrev S1x16x128x128 : Shape := ⟨4, ![1, 16, 128, 128]⟩
abbrev S48x64x128 : Shape := ⟨3, ![48, 64, 128]⟩
abbrev S16x128x128 : Shape := ⟨3, ![16, 128, 128]⟩
abbrev S16x64x64 : Shape := ⟨3, ![16, 64, 64]⟩
abbrev S64x1 : Shape := ⟨2, ![64, 1]⟩
abbrev S1x64x1 : Shape := ⟨3, ![1, 64, 1]⟩
abbrev S16x64x1 : Shape := ⟨3, ![16, 64, 1]⟩
abbrev S16x64 : Shape := ⟨2, ![16, 64]⟩
abbrev S16x1x64 : Shape := ⟨3, ![16, 1, 64]⟩
abbrev S16x1x1 : Shape := ⟨3, ![16, 1, 1]⟩
abbrev S16x128 : Shape := ⟨2, ![16, 128]⟩
abbrev S16x128x1 : Shape := ⟨3, ![16, 128, 1]⟩
abbrev S16x1 : Shape := ⟨2, ![16, 1]⟩

abbrev nBuf : Space → Nat
  | .hbm => 6
  | .vmem => 17
  | .smem => 0
  | _ => 0

abbrev bufTy : (tb : Table) → Fin (tcTables nBuf tb) → BufTy
  | .hbm, ⟨0, _⟩ => ⟨S48x8192x128, .f32⟩
  | .hbm, ⟨1, _⟩ => ⟨S8192x128, .f32⟩
  | .hbm, ⟨2, _⟩ => ⟨S128x16x128x128, .f32⟩
  | .hbm, ⟨3, _⟩ => ⟨S16x8192x128, .f32⟩
  | .hbm, ⟨4, _⟩ => ⟨S48x8192x128, .f32⟩
  | .hbm, ⟨5, _⟩ => ⟨S8192x128, .f32⟩
  | .local _ .vmem, ⟨0, _⟩ => ⟨S16x64x128, .f32⟩
  | .local _ .vmem, ⟨1, _⟩ => ⟨S16x64x128, .f32⟩
  | .local _ .vmem, ⟨2, _⟩ => ⟨S16x64x128, .f32⟩
  | .local _ .vmem, ⟨3, _⟩ => ⟨S16x64x128, .f32⟩
  | .local _ .vmem, ⟨4, _⟩ => ⟨S16x64x128, .f32⟩
  | .local _ .vmem, ⟨5, _⟩ => ⟨S16x64x128, .f32⟩
  | .local _ .vmem, ⟨6, _⟩ => ⟨S64x128, .f32⟩
  | .local _ .vmem, ⟨7, _⟩ => ⟨S64x128, .f32⟩
  | .local _ .vmem, ⟨8, _⟩ => ⟨S1x16x128x128, .f32⟩
  | .local _ .vmem, ⟨9, _⟩ => ⟨S1x16x128x128, .f32⟩
  | .local _ .vmem, ⟨10, _⟩ => ⟨S16x64x128, .f32⟩
  | .local _ .vmem, ⟨11, _⟩ => ⟨S16x64x128, .f32⟩
  | .local _ .vmem, ⟨12, _⟩ => ⟨S48x64x128, .f32⟩
  | .local _ .vmem, ⟨13, _⟩ => ⟨S48x64x128, .f32⟩
  | .local _ .vmem, ⟨14, _⟩ => ⟨S64x128, .f32⟩
  | .local _ .vmem, ⟨15, _⟩ => ⟨S64x128, .f32⟩
  | .local _ .vmem, ⟨16, _⟩ => ⟨S16x128x128, .f32⟩
  | _, _ => ⟨S48x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c127_i32 : BitVec 32 := 127#32
  let v0 : BitVec 32 := Scalar.subi c127_i32 arg0
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let c127_i32 : BitVec 32 := 127#32
  let v0 : BitVec 32 := Scalar.subi c127_i32 arg0
  let c2_i32 : BitVec 32 := 2#32
  let c0_i32 : BitVec 32 := 0#32
  let c0_i32_0 : BitVec 32 := 0#32
  ![c2_i32.toNat, v0.toNat, c0_i32.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

abbrev stage0_0 : Fin 2 → Memref sig .tc .vmem S16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GdnReferenceIdeal.lean ====
abbrev S48x8192x128 : Shape := ⟨3, ![48, 8192, 128]⟩
abbrev S8192x128 : Shape := ⟨2, ![8192, 128]⟩
abbrev S128x16x128x128 : Shape := ⟨4, ![128, 16, 128, 128]⟩
abbrev S16x8192x128 : Shape := ⟨3, ![16, 8192, 128]⟩
abbrev S16x128x64x128 : Shape := ⟨4, ![16, 128, 64, 128]⟩
abbrev S128x16x64x128 : Shape := ⟨4, ![128, 16, 64, 128]⟩
abbrev S8192x16 : Shape := ⟨2, ![8192, 16]⟩
abbrev S128x64x16 : Shape := ⟨3, ![128, 64, 16]⟩
abbrev S128x16x64 : Shape := ⟨3, ![128, 16, 64]⟩
abbrev S128x16x64x1 : Shape := ⟨4, ![128, 16, 64, 1]⟩
abbrev S_ : Shape := ⟨0, ![]⟩
abbrev S16x128x128 : Shape := ⟨3, ![16, 128, 128]⟩
abbrev S128 : Shape := ⟨1, ![128]⟩
abbrev S1x16x128x128 : Shape := ⟨4, ![1, 16, 128, 128]⟩
abbrev S1x16x64x128 : Shape := ⟨4, ![1, 16, 64, 128]⟩
abbrev S16x64x128 : Shape := ⟨3, ![16, 64, 128]⟩
abbrev S1x16x64 : Shape := ⟨3, ![1, 16, 64]⟩
abbrev S16x64 : Shape := ⟨2, ![16, 64]⟩
abbrev S1x16x64x1 : Shape := ⟨4, ![1, 16, 64, 1]⟩
abbrev S16x64x1 : Shape := ⟨3, ![16, 64, 1]⟩
abbrev S1 : Shape := ⟨1, ![1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S16x1x64 : Shape := ⟨3, ![16, 1, 64]⟩
abbrev S16x64x64 : Shape := ⟨3, ![16, 64, 64]⟩
abbrev S16x64x256 : Shape := ⟨3, ![16, 64, 256]⟩
abbrev S1x64x64 : Shape := ⟨3, ![1, 64, 64]⟩
abbrev S16x1 : Shape := ⟨2, ![16, 1]⟩
abbrev S16 : Shape := ⟨1, ![16]⟩
abbrev S16x1x1 : Shape := ⟨3, ![16, 1, 1]⟩
abbrev S16x128x64 : Shape := ⟨3, ![16, 128, 64]⟩
abbrev S8192x96 : Shape := ⟨2, ![8192, 96]⟩

abbrev nBuf : Space → Nat
  | .hbm => 403
  | .vmem => 0
  | .smem => 0
  | _ => 0

abbrev hbmTy0_0 (i : Nat) : BufTy := match i % 128 with
  | 0 => ⟨S48x8192x128, .f32⟩
  | 1 => ⟨S8192x128, .f32⟩
  | 2 => ⟨S128x16x128x128, .f32⟩
  | 3 => ⟨S16x8192x128, .f32⟩
  | 4 => ⟨S16x8192x128, .f32⟩
  | 5 => ⟨S16x128x64x128, .f32⟩
  | 6 => ⟨S128x16x64x128, .f32⟩
  | 7 => ⟨S16x8192x128, .f32⟩
  | 8 => ⟨S16x128x64x128, .f32⟩
  | 9 => ⟨S128x16x64x128, .f32⟩
  | 10 => ⟨S16x8192x128, .f32⟩
  | 11 => ⟨S16x128x64x128, .f32⟩
  | 12 => ⟨S128x16x64x128, .f32⟩
  | 13 => ⟨S8192x16, .f32⟩
  | 14 => ⟨S128x64x16, .f32⟩
  | 15 => ⟨S128x16x64, .f32⟩
  | 16 => ⟨S8192x16, .f32⟩
  | 17 => ⟨S128x64x16, .f32⟩
  | 18 => ⟨S128x16x64, .f32⟩
  | 19 => ⟨S128x16x64x1, .f32⟩
  | 20 => ⟨S_, .f32⟩
  | 21 => ⟨S128x16x64x128, .f32⟩
  | 22 => ⟨S_, .f32⟩
  | 23 => ⟨S128x16x64x128, .f32⟩
  | 24 => ⟨S_, .f32⟩
  | 25 => ⟨S128x16x64x128, .f32⟩
  | 26 => ⟨S_, .f32⟩
  | 27 => ⟨S128x16x64, .f32⟩
  | 28 => ⟨S_, .f32⟩
  | 29 => ⟨S128x16x64x1, .f32⟩
  | 30 => ⟨S_, .f32⟩
  | 31 => ⟨S16x128x128, .f32⟩
  | 32 => ⟨S16x128x64x128, .f32⟩
  | 33 => ⟨S128x16x64x128, .f32⟩
  | 34 => ⟨S128, .i32⟩
  | 35 => ⟨S_, .i32⟩
  | 36 => ⟨S128x16x128x128, .f32⟩
  | 37 => ⟨S128x16x64x128, .f32⟩
  | 38 => ⟨S128x16x64x128, .f32⟩
  | 39 => ⟨S128x16x64x128, .f32⟩
  | 40 => ⟨S128x16x64, .f32⟩
  | 41 => ⟨S128x16x64x1, .f32⟩
  | 42 => ⟨S128x16x64x128, .f32⟩
  | 43 => ⟨S128, .i32⟩
  | 44 => ⟨S_, .i32⟩
  | 45 => ⟨S16x128x128, .f32⟩
  | 46 => ⟨S128x16x64x128, .f32⟩
  | 47 => ⟨S128x16x64x128, .f32⟩
  | 48 => ⟨S128x16x64x128, .f32⟩
  | 49 => ⟨S128x16x64, .f32⟩
  | 50 => ⟨S128x16x64x1, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S1x16x128x128, .f32⟩
  | 61 => ⟨S16x128x128, .f32⟩
  | 62 => ⟨S_, .i32⟩
  | 63 => ⟨S_, .i32⟩
  | 64 => ⟨S_, .i32⟩
  | 65 => ⟨S1x16x64x128, .f32⟩
  | 66 => ⟨S16x64x128, .f32⟩
  | 67 => ⟨S_, .i32⟩
  | 68 => ⟨S_, .i32⟩
  | 69 => ⟨S_, .i32⟩
  | 70 => ⟨S1x16x64x128, .f32⟩
  | 71 => ⟨S16x64x128, .f32⟩
  | 72 => ⟨S_, .i32⟩
  | 73 => ⟨S_, .i32⟩
  | 74 => ⟨S_, .i32⟩
  | 75 => ⟨S1x16x64x128, .f32⟩
  | 76 => ⟨S16x64x128, .f32⟩
  | 77 => ⟨S_, .i32⟩
  | 78 => ⟨S_, .i32⟩
  | 79 => ⟨S1x16x64, .f32⟩
  | 80 => ⟨S16x64, .f32⟩
  | 81 => ⟨S_, .i32⟩
  | 82 => ⟨S_, .i32⟩
  | 83 => ⟨S_, .i32⟩
  | 84 => ⟨S1x16x64x1, .f32⟩
  | 85 => ⟨S16x64x1, .f32⟩
  | 86 => ⟨S_, .i32⟩
  | 87 => ⟨S_, .i32⟩
  | 88 => ⟨S_, .i32⟩
  | 89 => ⟨S1x16x64x128, .f32⟩
  | 90 => ⟨S16x64x128, .f32⟩
  | 91 => ⟨S1, .i32⟩
  | 92 => ⟨S_, .i32⟩
  | 93 => ⟨S64, .i32⟩
  | 94 => ⟨S64x1, .i32⟩
  | 95 => ⟨S1x64, .i32⟩
  | 96 => ⟨S64x64, .i32⟩
  | 97 => ⟨S64x64, .i32⟩
  | 98 => ⟨S64x64, .i1⟩
  | 99 => ⟨S64x1, .i32⟩
  | 100 => ⟨S1x64, .i32⟩
  | 101 => ⟨S64x64, .i32⟩
  | 102 => ⟨S64x64, .i32⟩
  | 103 => ⟨S64x64, .i1⟩
  | 104 => ⟨S16x64x1, .f32⟩
  | 105 => ⟨S16x1x64, .f32⟩
  | 106 => ⟨S16x64x64, .f32⟩
  | 107 => ⟨S16x64x64, .f32⟩
  | 108 => ⟨S16x64x64, .f32⟩
  | 109 => ⟨S_, .f32⟩
  | 110 => ⟨S_, .f32⟩
  | 111 => ⟨S16x64x64, .i1⟩
  | 112 => ⟨S16x64x64, .f32⟩
  | 113 => ⟨S16x64x64, .f32⟩
  | 114 => ⟨S_, .f32⟩
  | 115 => ⟨S16x64x64, .f32⟩
  | 116 => ⟨S16x64x64, .f32⟩
  | 117 => ⟨S_, .f32⟩
  | 118 => ⟨S_, .f32⟩
  | 119 => ⟨S16x64x64, .i1⟩
  | 120 => ⟨S16x64x64, .f32⟩
  | 121 => ⟨S16x64x64, .f32⟩
  | 122 => ⟨S_, .f32⟩
  | 123 => ⟨S16x64x64, .f32⟩
  | 124 => ⟨S16x64x64, .f32⟩
  | 125 => ⟨S16x64x64, .f32⟩
  | 126 => ⟨S16x64x64, .f32⟩
  | 127 => ⟨S16x64x64, .f32⟩
  | _ => ⟨S48x8192x128, .f32⟩

abbrev hbmTy0_1 (i : Nat) : BufTy := match i % 128 with
  | 0 => ⟨S_, .f32⟩
  | 1 => ⟨S_, .f32⟩
  | 2 => ⟨S16x64x64, .i1⟩
  | 3 => ⟨S16x64x64, .f32⟩
  | 4 => ⟨S16x64x64, .f32⟩
  | 5 => ⟨S_, .f32⟩
  | 6 => ⟨S16x64x64, .f32⟩
  | 7 => ⟨S16x64x128, .f32⟩
  | 8 => ⟨S16x64x128, .f32⟩
  | 9 => ⟨S16x64, .f32⟩
  | 10 => ⟨S16x64x1, .f32⟩
  | 11 => ⟨S16x64x128, .f32⟩
  | 12 => ⟨S16x64x128, .f32⟩
  | 13 => ⟨S16x64x128, .f32⟩
  | 14 => ⟨S16x64x128, .f32⟩
  | 15 => ⟨S16x64x256, .f32⟩
  | 16 => ⟨S16x64x64, .f32⟩
  | 17 => ⟨S64x64, .i32⟩
  | 18 => ⟨S64x64, .i32⟩
  | 19 => ⟨S_, .i32⟩
  | 20 => ⟨S64x64, .i32⟩
  | 21 => ⟨S64x64, .i32⟩
  | 22 => ⟨S64x64, .i1⟩
  | 23 => ⟨S64x64, .f32⟩
  | 24 => ⟨S1x64x64, .f32⟩
  | 25 => ⟨S16x64x64, .f32⟩
  | 26 => ⟨S16x64x64, .f32⟩
  | 27 => ⟨S16x64x64, .f32⟩
  | 28 => ⟨S16x64x64, .f32⟩
  | 29 => ⟨S16x64x64, .f32⟩
  | 30 => ⟨S16x64x64, .f32⟩
  | 31 => ⟨S16x64x64, .f32⟩
  | 32 => ⟨S16x64x64, .f32⟩
  | 33 => ⟨S16x64x64, .f32⟩
  | 34 => ⟨S16x64x64, .f32⟩
  | 35 => ⟨S16x64x64, .f32⟩
  | 36 => ⟨S16x64x64, .f32⟩
  | 37 => ⟨S16x64x64, .f32⟩
  | 38 => ⟨S16x64x64, .f32⟩
  | 39 => ⟨S16x64x64, .f32⟩
  | 40 => ⟨S16x64x64, .f32⟩
  | 41 => ⟨S16x64x64, .f32⟩
  | 42 => ⟨S16x64x256, .f32⟩
  | 43 => ⟨S16x64x256, .f32⟩
  | 44 => ⟨S16x64x256, .f32⟩
  | 45 => ⟨S16x64x128, .f32⟩
  | 46 => ⟨S16x64x128, .f32⟩
  | 47 => ⟨S16x64x64, .f32⟩
  | 48 => ⟨S16x64x64, .f32⟩
  | 49 => ⟨S16x64, .f32⟩
  | 50 => ⟨S16x64x1, .f32⟩
  | 51 => ⟨S16x64x128, .f32⟩
  | 52 => ⟨S16x64x128, .f32⟩
  | 53 => ⟨S16x1, .f32⟩
  | 54 => ⟨S16x64, .f32⟩
  | 55 => ⟨S16x64, .f32⟩
  | 56 => ⟨S16x64, .f32⟩
  | 57 => ⟨S16x64x1, .f32⟩
  | 58 => ⟨S16x64x128, .f32⟩
  | 59 => ⟨S16x64x128, .f32⟩
  | 60 => ⟨S16x1, .f32⟩
  | 61 => ⟨S16, .f32⟩
  | 62 => ⟨S16, .f32⟩
  | 63 => ⟨S16x64x128, .f32⟩
  | 64 => ⟨S16x64x128, .f32⟩
  | 65 => ⟨S16x64x128, .f32⟩
  | 66 => ⟨S16x64x128, .f32⟩
  | 67 => ⟨S16x64x128, .f32⟩
  | 68 => ⟨S16x1x1, .f32⟩
  | 69 => ⟨S16x128x128, .f32⟩
  | 70 => ⟨S16x128x128, .f32⟩
  | 71 => ⟨S16x128x128, .f32⟩
  | 72 => ⟨S16x128x128, .f32⟩
  | 73 => ⟨S16x128x64, .f32⟩
  | 74 => ⟨S16x64x128, .f32⟩
  | 75 => ⟨S16x128x64, .f32⟩
  | 76 => ⟨S16x64x128, .f32⟩
  | 77 => ⟨S16x128x128, .f32⟩
  | 78 => ⟨S16x128x128, .f32⟩
  | 79 => ⟨S16x128x128, .f32⟩
  | 80 => ⟨S_, .f32⟩
  | 81 => ⟨S16, .f32⟩
  | 82 => ⟨S16x1x1, .f32⟩
  | 83 => ⟨S_, .f32⟩
  | 84 => ⟨S16, .f32⟩
  | 85 => ⟨S16x128x64, .f32⟩
  | 86 => ⟨S16x64x128, .f32⟩
  | 87 => ⟨S16x64x128, .f32⟩
  | 88 => ⟨S16x64x64, .f32⟩
  | 89 => ⟨S16x128x128, .f32⟩
  | 90 => ⟨S16x128x128, .f32⟩
  | 91 => ⟨S16x128x128, .f32⟩
  | 92 => ⟨S16x64x128, .f32⟩
  | 93 => ⟨S16x64x128, .f32⟩
  | 94 => ⟨S16x128x128, .f32⟩
  | 95 => ⟨S16x128x128, .f32⟩
  | 96 => ⟨S16x128x128, .f32⟩
  | 97 => ⟨S16x64x128, .f32⟩
  | 98 => ⟨S16, .f32⟩
  | 99 => ⟨S16x1, .f32⟩
  | 100 => ⟨S_, .f32⟩
  | 101 => ⟨S16x64, .f32⟩
  | 102 => ⟨S16x64x128, .f32⟩
  | 103 => ⟨S_, .f32⟩
  | 104 => ⟨S16x64, .f32⟩
  | 105 => ⟨S16x64x1, .f32⟩
  | 106 => ⟨S16x64x128, .f32⟩
  | 107 => ⟨S16x64x128, .f32⟩
  | 108 => ⟨S_, .f32⟩
  | 109 => ⟨S16x64, .f32⟩
  | 110 => ⟨S16x64, .f32⟩
  | 111 => ⟨S_, .f32⟩
  | 112 => ⟨S16, .f32⟩
  | 113 => ⟨S16x1, .f32⟩
  | 114 => ⟨S16x64, .f32⟩
  | 115 => ⟨S16x64, .f32⟩
  | 116 => ⟨S_, .f32⟩
  | 117 => ⟨S16x64, .f32⟩
  | 118 => ⟨S16x64, .f32⟩
  | 119 => ⟨S16x64x128, .f32⟩
  | 120 => ⟨S_, .f32⟩
  | 121 => ⟨S16x64, .f32⟩
  | 122 => ⟨S16x64x1, .f32⟩
  | 123 => ⟨S16x64x128, .f32⟩
  | 124 => ⟨S16x64x128, .f32⟩
  | 125 => ⟨S_, .f32⟩
  | 126 => ⟨S16x64, .f32⟩
  | 127 => ⟨S16x64, .f32⟩
  | _ => ⟨S48x8192x128, .f32⟩

abbrev hbmTy0_2 (i : Nat) : BufTy := match i % 128 with
  | 0 => ⟨S16x64, .f32⟩
  | 1 => ⟨S16x64x64, .f32⟩
  | 2 => ⟨S16x64x64, .f32⟩
  | 3 => ⟨S16x64x128, .f32⟩
  | 4 => ⟨S16x64x128, .f32⟩
  | 5 => ⟨S16x64x128, .f32⟩
  | 6 => ⟨S16x64x128, .f32⟩
  | 7 => ⟨S_, .f32⟩
  | 8 => ⟨S16x64x256, .f32⟩
  | 9 => ⟨S_, .f32⟩
  | 10 => ⟨S16x64x256, .f32⟩
  | 11 => ⟨S16x64x256, .f32⟩
  | 12 => ⟨S16x64x64, .f32⟩
  | 13 => ⟨S64x64, .i32⟩
  | 14 => ⟨S64x64, .i32⟩
  | 15 => ⟨S_, .i32⟩
  | 16 => ⟨S64x64, .i32⟩
  | 17 => ⟨S64x64, .i32⟩
  | 18 => ⟨S64x64, .i1⟩
  | 19 => ⟨S64x64, .f32⟩
  | 20 => ⟨S1x64x64, .f32⟩
  | 21 => ⟨S16x64x64, .f32⟩
  | 22 => ⟨S16x64x64, .f32⟩
  | 23 => ⟨S16x64x64, .f32⟩
  | 24 => ⟨S16x64x64, .f32⟩
  | 25 => ⟨S16x64x64, .f32⟩
  | 26 => ⟨S16x64x64, .f32⟩
  | 27 => ⟨S16x64x64, .f32⟩
  | 28 => ⟨S16x64x64, .f32⟩
  | 29 => ⟨S16x64x64, .f32⟩
  | 30 => ⟨S16x64x64, .f32⟩
  | 31 => ⟨S16x64x64, .f32⟩
  | 32 => ⟨S16x64x64, .f32⟩
  | 33 => ⟨S16x64x64, .f32⟩
  | 34 => ⟨S16x64x64, .f32⟩
  | 35 => ⟨S16x64x64, .f32⟩
  | 36 => ⟨S16x64x64, .f32⟩
  | 37 => ⟨S16x64x64, .f32⟩
  | 38 => ⟨S16x64x64, .f32⟩
  | 39 => ⟨S16x64x256, .f32⟩
  | 40 => ⟨S16x64x256, .f32⟩
  | 41 => ⟨S16x64x64, .f32⟩
  | 42 => ⟨S16x64x128, .f32⟩
  | 43 => ⟨S16x64x128, .f32⟩
  | 44 => ⟨S16x64x128, .f32⟩
  | 45 => ⟨S16x64x128, .f32⟩
  | 46 => ⟨S16x64x128, .f32⟩
  | 47 => ⟨S_, .f32⟩
  | 48 => ⟨S16x64, .f32⟩
  | 49 => ⟨S16x64x1, .f32⟩
  | 50 => ⟨S16x64x128, .f32⟩
  | 51 => ⟨S16x64x128, .f32⟩
  | 52 => ⟨S16x64x128, .f32⟩
  | 53 => ⟨S16x64x128, .f32⟩
  | 54 => ⟨S_, .f32⟩
  | 55 => ⟨S16x64, .f32⟩
  | 56 => ⟨S16x64x1, .f32⟩
  | 57 => ⟨S_, .f32⟩
  | 58 => ⟨S16x64, .f32⟩
  | 59 => ⟨S16x64, .f32⟩
  | 60 => ⟨S16x64, .f32⟩
  | 61 => ⟨S16x64x128, .f32⟩
  | 62 => ⟨S16x64x128, .f32⟩
  | 63 => ⟨S16x64x128, .f32⟩
  | 64 => ⟨S_, .f32⟩
  | 65 => ⟨S16x64, .f32⟩
  | 66 => ⟨S16x64x1, .f32⟩
  | 67 => ⟨S16x64x1, .f32⟩
  | 68 => ⟨S_, .f32⟩
  | 69 => ⟨S16x64x64, .f32⟩
  | 70 => ⟨S16x64x64, .f32⟩
  | 71 => ⟨S16x64x64, .f32⟩
  | 72 => ⟨S16x64x64, .f32⟩
  | 73 => ⟨S16x64x64, .f32⟩
  | 74 => ⟨S16x64x64, .f32⟩
  | 75 => ⟨S16x64x64, .f32⟩
  | 76 => ⟨S16x64x64, .f32⟩
  | 77 => ⟨S_, .f32⟩
  | 78 => ⟨S16x64, .f32⟩
  | 79 => ⟨S16x64x1, .f32⟩
  | 80 => ⟨S16x64x1, .f32⟩
  | 81 => ⟨S16x64x128, .f32⟩
  | 82 => ⟨S16x64x128, .f32⟩
  | 83 => ⟨S16x64x128, .f32⟩
  | 84 => ⟨S16x64x128, .f32⟩
  | 85 => ⟨S_, .f32⟩
  | 86 => ⟨S16x64x64, .f32⟩
  | 87 => ⟨S16x64x64, .f32⟩
  | 88 => ⟨S16x64x64, .f32⟩
  | 89 => ⟨S_, .f32⟩
  | 90 => ⟨S16x64x64, .f32⟩
  | 91 => ⟨S16x64x64, .f32⟩
  | 92 => ⟨S_, .f32⟩
  | 93 => ⟨S16x64, .f32⟩
  | 94 => ⟨S16x64x1, .f32⟩
  | 95 => ⟨S16x64x64, .f32⟩
  | 96 => ⟨S_, .f32⟩
  | 97 => ⟨S16x64, .f32⟩
  | 98 => ⟨S16x1x64, .f32⟩
  | 99 => ⟨S_, .f32⟩
  | 100 => ⟨S16x64, .f32⟩
  | 101 => ⟨S16x64, .f32⟩
  | 102 => ⟨S_, .f32⟩
  | 103 => ⟨S16x64, .f32⟩
  | 104 => ⟨S16x64, .f32⟩
  | 105 => ⟨S128x16x64x128, .i32⟩
  | 106 => ⟨S128x16x64x128, .i32⟩
  | 107 => ⟨S128x16x64x128, .i1⟩
  | 108 => ⟨S128x16x64x128, .f32⟩
  | 109 => ⟨S128x16x64x128, .f32⟩
  | 110 => ⟨S128x16x64x128, .i32⟩
  | 111 => ⟨S128x16x64x128, .i32⟩
  | 112 => ⟨S128x16x64x128, .i1⟩
  | 113 => ⟨S128x16x64x128, .f32⟩
  | 114 => ⟨S128x16x64x128, .f32⟩
  | 115 => ⟨S128x16x64x128, .i32⟩
  | 116 => ⟨S128x16x64x128, .i32⟩
  | 117 => ⟨S128x16x64x128, .i1⟩
  | 118 => ⟨S128x16x64x128, .f32⟩
  | 119 => ⟨S128x16x64x128, .f32⟩
  | 120 => ⟨S128x16x64, .i32⟩
  | 121 => ⟨S128x16x64, .i32⟩
  | 122 => ⟨S128x16x64, .i1⟩
  | 123 => ⟨S128x16x64, .f32⟩
  | 124 => ⟨S128x16x64, .f32⟩
  | 125 => ⟨S128x16x64x1, .i32⟩
  | 126 => ⟨S128x16x64x1, .i32⟩
  | 127 => ⟨S128x16x64x1, .i1⟩
  | _ => ⟨S48x8192x128, .f32⟩

abbrev hbmTy0_3 (i : Nat) : BufTy := match i % 128 with
  | 0 => ⟨S128x16x64x1, .f32⟩
  | 1 => ⟨S128x16x64x1, .f32⟩
  | 2 => ⟨S_, .i32⟩
  | 3 => ⟨S_, .i32⟩
  | 4 => ⟨S16x128x64x128, .f32⟩
  | 5 => ⟨S16x8192x128, .f32⟩
  | 6 => ⟨S16x128x64x128, .f32⟩
  | 7 => ⟨S16x8192x128, .f32⟩
  | 8 => ⟨S16x128x64x128, .f32⟩
  | 9 => ⟨S16x8192x128, .f32⟩
  | 10 => ⟨S48x8192x128, .f32⟩
  | 11 => ⟨S128x16x64, .f32⟩
  | 12 => ⟨S128x64x16, .f32⟩
  | 13 => ⟨S8192x16, .f32⟩
  | 14 => ⟨S128x64x16, .f32⟩
  | 15 => ⟨S8192x16, .f32⟩
  | 16 => ⟨S_, .f32⟩
  | 17 => ⟨S8192x96, .f32⟩
  | 18 => ⟨S8192x128, .f32⟩
  | _ => ⟨S48x8192x128, .f32⟩

abbrev hbmTy (i : Nat) : BufTy := match i / 128 with
  | 0 => hbmTy0_0 i
  | 1 => hbmTy0_1 i
  | 2 => hbmTy0_2 i
  | 3 => hbmTy0_3 i
  | _ => ⟨S48x8192x128, .f32⟩

abbrev bufTy : (tb : Table) → Fin (tcTables nBuf tb) → BufTy
  | .hbm, ⟨i, _⟩ => hbmTy i
  | _, _ => ⟨S48x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev main_v25_6 : Ref sig .tc := ⟨.hbm, 42, rfl⟩
abbrev main_v25_7 : Ref sig .tc := ⟨.hbm, 43, rfl⟩
abbrev main_v25_8 : Ref sig .tc := ⟨.hbm, 44, rfl⟩
abbrev main_v25_9 : Ref sig .tc := ⟨.hbm, 45, rfl⟩
abbrev main_v25_10 : Ref sig .tc := ⟨.hbm, 46, rfl⟩
abbrev main_v25_11 : Ref sig .tc := ⟨.hbm, 47, rfl⟩
abbrev main_v25_12 : Ref sig .tc := ⟨.hbm, 48, rfl⟩
abbrev main_v25_13 : Ref sig .tc := ⟨.hbm, 49, rfl⟩
abbrev main_v25_14 : Ref sig .tc := ⟨.hbm, 50, rfl⟩
abbrev main_while0c_c_20 : Ref sig .tc := ⟨.hbm, 51, rfl⟩
abbrev main_while0c_v40 : Ref sig .tc := ⟨.hbm, 52, rfl⟩
abbrev main_while0b_c_20 : Ref sig .tc := ⟨.hbm, 53, rfl⟩
abbrev main_while0b_v40 : Ref sig .tc := ⟨.hbm, 54, rfl⟩
abbrev main_while0b_c_21 : Ref sig .tc := ⟨.hbm, 55, rfl⟩
abbrev main_while0b_v41 : Ref sig .tc := ⟨.hbm, 56, rfl⟩
abbrev main_while0b_call0_c : Ref sig .tc := ⟨.hbm, 57, rfl⟩
abbrev main_while0b_call0_c_0 : Ref sig .tc := ⟨.hbm, 58, rfl⟩
abbrev main_while0b_call0_c_1 : Ref sig .tc := ⟨.hbm, 59, rfl⟩
abbrev main_while0b_call0_v0 : Ref sig .tc := ⟨.hbm, 60, rfl⟩
abbrev main_while0b_v42 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_c_1 : Ref sig .tc := ⟨.hbm, 64, rfl⟩
abbrev main_while0b_call1_v0 : Ref sig .tc := ⟨.hbm, 65, rfl⟩
abbrev main_while0b_v43 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_c_1 : Ref sig .tc := ⟨.hbm, 69, rfl⟩
abbrev main_while0b_call2_v0 : Ref sig .tc := ⟨.hbm, 70, rfl⟩
abbrev main_while0b_v44 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_v0 : Ref sig .tc := ⟨.hbm, 75, rfl⟩
abbrev main_while0b_v45 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_v0 : Ref sig .tc := ⟨.hbm, 79, rfl⟩
abbrev main_while0b_v46 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_v0 : Ref sig .tc := ⟨.hbm, 84, rfl⟩
abbrev main_while0b_v47 : Ref sig .tc := ⟨.hbm, 85, rfl⟩
abbrev main_while0b_call6_c : Ref sig .tc := ⟨.hbm, 86, rfl⟩
abbrev main_while0b_call6_c_0 : Ref sig .tc := ⟨.hbm, 87, rfl⟩
abbrev main_while0b_call6_c_1 : Ref sig .tc := ⟨.hbm, 88, rfl⟩
abbrev main_while0b_call6_v0 : Ref sig .tc := ⟨.hbm, 89, rfl⟩
abbrev main_while0b_v48 : Ref sig .tc := ⟨.hbm, 90, rfl⟩
abbrev main_while0b_call7_v0 : Ref sig .tc := ⟨.hbm, 91, rfl⟩
abbrev main_while0b_v49 : Ref sig .tc := ⟨.hbm, 92, rfl⟩
abbrev main_while0b_v50 : Ref sig .tc := ⟨.hbm, 93, rfl⟩
abbrev main_while0b_v51 : Ref sig .tc := ⟨.hbm, 94, rfl⟩
abbrev main_while0b_v52 : Ref sig .tc := ⟨.hbm, 95, rfl⟩
abbrev main_while0b_v53 : Ref sig .tc := ⟨.hbm, 96, rfl⟩
abbrev main_while0b_v54 : Ref sig .tc := ⟨.hbm, 97, rfl⟩
abbrev main_while0b_v55 : Ref sig .tc := ⟨.hbm, 98, rfl⟩
abbrev main_while0b_v56 : Ref sig .tc := ⟨.hbm, 99, rfl⟩
abbrev main_while0b_v57 : Ref sig .tc := ⟨.hbm, 100, rfl⟩
abbrev main_while0b_v58 : Ref sig .tc := ⟨.hbm, 101, rfl⟩
abbrev main_while0b_v59 : Ref sig .tc := ⟨.hbm, 102, rfl⟩
abbrev main_while0b_v60 : Ref sig .tc := ⟨.hbm, 103, rfl⟩
abbrev main_while0b_v61 : Ref sig .tc := ⟨.hbm, 104, rfl⟩
abbrev main_while0b_v62 : Ref sig .tc := ⟨.hbm, 105, rfl⟩
abbrev main_while0b_v63 : Ref sig .tc := ⟨.hbm, 106, rfl⟩
abbrev main_while0b_v64 : Ref sig .tc := ⟨.hbm, 107, rfl⟩
abbrev main_while0b_v65 : Ref sig .tc := ⟨.hbm, 108, rfl⟩
abbrev main_while0b_cst_22 : Ref sig .tc := ⟨.hbm, 109, rfl⟩
abbrev main_while0b_call8_v0 : Ref sig .tc := ⟨.hbm, 110, rfl⟩
abbrev main_while0b_v66_1 : Ref sig .tc := ⟨.hbm, 111, rfl⟩
abbrev main_while0b_call8_v2 : Ref sig .tc := ⟨.hbm, 112, rfl⟩
abbrev main_while0b_v66_0 : Ref sig .tc := ⟨.hbm, 113, rfl⟩
abbrev main_while0b_call8_cst : Ref sig .tc := ⟨.hbm, 114, rfl⟩
abbrev main_while0b_v66_2 : Ref sig .tc := ⟨.hbm, 115, rfl⟩
abbrev main_while0b_v67 : Ref sig .tc := ⟨.hbm, 116, rfl⟩
abbrev main_while0b_cst_23 : Ref sig .tc := ⟨.hbm, 117, rfl⟩
abbrev main_while0b_call9_v0 : Ref sig .tc := ⟨.hbm, 118, rfl⟩
abbrev main_while0b_v68_1 : Ref sig .tc := ⟨.hbm, 119, rfl⟩
abbrev main_while0b_call9_v2 : Ref sig .tc := ⟨.hbm, 120, rfl⟩
abbrev main_while0b_v68_0 : Ref sig .tc := ⟨.hbm, 121, rfl⟩
abbrev main_while0b_call9_cst : Ref sig .tc := ⟨.hbm, 122, rfl⟩
abbrev main_while0b_v68_2 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_cst_24 : Ref sig .tc := ⟨.hbm, 128, rfl⟩
abbrev main_while0b_call10_v0 : Ref sig .tc := ⟨.hbm, 129, rfl⟩
abbrev main_while0b_v73_1 : Ref sig .tc := ⟨.hbm, 130, rfl⟩
abbrev main_while0b_call10_v2 : Ref sig .tc := ⟨.hbm, 131, rfl⟩
abbrev main_while0b_v73_0 : Ref sig .tc := ⟨.hbm, 132, rfl⟩
abbrev main_while0b_call10_cst : Ref sig .tc := ⟨.hbm, 133, rfl⟩
abbrev main_while0b_v73_2 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_v81 : Ref sig .tc := ⟨.hbm, 142, rfl⟩
abbrev main_while0b_v82 : Ref sig .tc := ⟨.hbm, 143, rfl⟩
abbrev main_while0b_v83 : Ref sig .tc := ⟨.hbm, 144, rfl⟩
abbrev main_while0b_v84 : Ref sig .tc := ⟨.hbm, 145, rfl⟩
abbrev main_while0b_v85 : Ref sig .tc := ⟨.hbm, 146, rfl⟩
abbrev main_while0b_c_25 : Ref sig .tc := ⟨.hbm, 147, rfl⟩
abbrev main_while0b_v86 : Ref sig .tc := ⟨.hbm, 148, rfl⟩
abbrev main_while0b_v87 : Ref sig .tc := ⟨.hbm, 149, rfl⟩
abbrev main_while0b_v88 : Ref sig .tc := ⟨.hbm, 150, rfl⟩
abbrev main_while0b_v89 : Ref sig .tc := ⟨.hbm, 151, rfl⟩
abbrev main_while0b_v90 : Ref sig .tc := ⟨.hbm, 152, rfl⟩
abbrev main_while0b_v91 : Ref sig .tc := ⟨.hbm, 153, rfl⟩
abbrev main_while0b_v92 : Ref sig .tc := ⟨.hbm, 154, rfl⟩
abbrev main_while0b_v93 : Ref sig .tc := ⟨.hbm, 155, rfl⟩
abbrev main_while0b_v94 : Ref sig .tc := ⟨.hbm, 156, rfl⟩
abbrev main_while0b_v95 : Ref sig .tc := ⟨.hbm, 157, rfl⟩
abbrev main_while0b_v96 : Ref sig .tc := ⟨.hbm, 158, rfl⟩
abbrev main_while0b_v97 : Ref sig .tc := ⟨.hbm, 159, rfl⟩
abbrev main_while0b_v98 : Ref sig .tc := ⟨.hbm, 160, rfl⟩
abbrev main_while0b_v99 : Ref sig .tc := ⟨.hbm, 161, rfl⟩
abbrev main_while0b_v100 : Ref sig .tc := ⟨.hbm, 162, rfl⟩
abbrev main_while0b_v101 : Ref sig .tc := ⟨.hbm, 163, rfl⟩
abbrev main_while0b_v102 : Ref sig .tc := ⟨.hbm, 164, rfl⟩
abbrev main_while0b_v103 : Ref sig .tc := ⟨.hbm, 165, rfl⟩
abbrev main_while0b_v104 : Ref sig .tc := ⟨.hbm, 166, rfl⟩
abbrev main_while0b_v105 : Ref sig .tc := ⟨.hbm, 167, rfl⟩
abbrev main_while0b_v106 : Ref sig .tc := ⟨.hbm, 168, rfl⟩
abbrev main_while0b_v107 : Ref sig .tc := ⟨.hbm, 169, rfl⟩
abbrev main_while0b_v108 : Ref sig .tc := ⟨.hbm, 170, rfl⟩
abbrev main_while0b_v109 : Ref sig .tc := ⟨.hbm, 171, rfl⟩
abbrev main_while0b_v110 : Ref sig .tc := ⟨.hbm, 172, rfl⟩
abbrev main_while0b_v111 : Ref sig .tc := ⟨.hbm, 173, rfl⟩
abbrev main_while0b_v112 : Ref sig .tc := ⟨.hbm, 174, rfl⟩
abbrev main_while0b_v113 : Ref sig .tc := ⟨.hbm, 175, rfl⟩
abbrev main_while0b_v114 : Ref sig .tc := ⟨.hbm, 176, rfl⟩
abbrev main_while0b_v115 : Ref sig .tc := ⟨.hbm, 177, rfl⟩
abbrev main_while0b_v116 : Ref sig .tc := ⟨.hbm, 178, rfl⟩
abbrev main_while0b_v117 : Ref sig .tc := ⟨.hbm, 179, rfl⟩
abbrev main_while0b_v118 : Ref sig .tc := ⟨.hbm, 180, rfl⟩
abbrev main_while0b_v119 : Ref sig .tc := ⟨.hbm, 181, rfl⟩
abbrev main_while0b_v120 : Ref sig .tc := ⟨.hbm, 182, rfl⟩
abbrev main_while0b_v121 : Ref sig .tc := ⟨.hbm, 183, rfl⟩
abbrev main_while0b_v122 : Ref sig .tc := ⟨.hbm, 184, rfl⟩
abbrev main_while0b_v123 : Ref sig .tc := ⟨.hbm, 185, rfl⟩
abbrev main_while0b_v124 : Ref sig .tc := ⟨.hbm, 186, rfl⟩
abbrev main_while0b_v125 : Ref sig .tc := ⟨.hbm, 187, rfl⟩
abbrev main_while0b_v126 : Ref sig .tc := ⟨.hbm, 188, rfl⟩
abbrev main_while0b_v127 : Ref sig .tc := ⟨.hbm, 189, rfl⟩
abbrev main_while0b_v128 : Ref sig .tc := ⟨.hbm, 190, rfl⟩
abbrev main_while0b_v129 : Ref sig .tc := ⟨.hbm, 191, rfl⟩
abbrev main_while0b_v130 : Ref sig .tc := ⟨.hbm, 192, rfl⟩
abbrev main_while0b_v131 : Ref sig .tc := ⟨.hbm, 193, rfl⟩
abbrev main_while0b_v132 : Ref sig .tc := ⟨.hbm, 194, rfl⟩
abbrev main_while0b_v133 : Ref sig .tc := ⟨.hbm, 195, rfl⟩
abbrev main_while0b_v134 : Ref sig .tc := ⟨.hbm, 196, rfl⟩
abbrev main_while0b_v135 : Ref sig .tc := ⟨.hbm, 197, rfl⟩
abbrev main_while0b_v136 : Ref sig .tc := ⟨.hbm, 198, rfl⟩
abbrev main_while0b_v137 : Ref sig .tc := ⟨.hbm, 199, rfl⟩
abbrev main_while0b_v138 : Ref sig .tc := ⟨.hbm, 200, rfl⟩
abbrev main_while0b_v139 : Ref sig .tc := ⟨.hbm, 201, rfl⟩
abbrev main_while0b_v140 : Ref sig .tc := ⟨.hbm, 202, rfl⟩
abbrev main_while0b_v141 : Ref sig .tc := ⟨.hbm, 203, rfl⟩
abbrev main_while0b_v142 : Ref sig .tc := ⟨.hbm, 204, rfl⟩
abbrev main_while0b_v143 : Ref sig .tc := ⟨.hbm, 205, rfl⟩
abbrev main_while0b_v144 : Ref sig .tc := ⟨.hbm, 206, rfl⟩
abbrev main_while0b_v145 : Ref sig .tc := ⟨.hbm, 207, rfl⟩
abbrev main_while0b_cst_26 : Ref sig .tc := ⟨.hbm, 208, rfl⟩
abbrev main_while0b_v146 : Ref sig .tc := ⟨.hbm, 209, rfl⟩
abbrev main_while0b_v147 : Ref sig .tc := ⟨.hbm, 210, rfl⟩
abbrev main_while0b_cst_27 : Ref sig .tc := ⟨.hbm, 211, rfl⟩
abbrev main_while0b_v148 : Ref sig .tc := ⟨.hbm, 212, rfl⟩
abbrev main_while0b_v149 : Ref sig .tc := ⟨.hbm, 213, rfl⟩
abbrev main_while0b_v150 : Ref sig .tc := ⟨.hbm, 214, rfl⟩
abbrev main_while0b_v151 : Ref sig .tc := ⟨.hbm, 215, rfl⟩
abbrev main_while0b_v152 : Ref sig .tc := ⟨.hbm, 216, rfl⟩
abbrev main_while0b_v153 : Ref sig .tc := ⟨.hbm, 217, rfl⟩
abbrev main_while0b_v154 : Ref sig .tc := ⟨.hbm, 218, rfl⟩
abbrev main_while0b_v155 : Ref sig .tc := ⟨.hbm, 219, rfl⟩
abbrev main_while0b_v156 : Ref sig .tc := ⟨.hbm, 220, rfl⟩
abbrev main_while0b_v157 : Ref sig .tc := ⟨.hbm, 221, rfl⟩
abbrev main_while0b_v158 : Ref sig .tc := ⟨.hbm, 222, rfl⟩
abbrev main_while0b_v159 : Ref sig .tc := ⟨.hbm, 223, rfl⟩
abbrev main_while0b_v160 : Ref sig .tc := ⟨.hbm, 224, rfl⟩
abbrev main_while0b_v161 : Ref sig .tc := ⟨.hbm, 225, rfl⟩
abbrev main_while0b_v162 : Ref sig .tc := ⟨.hbm, 226, rfl⟩
abbrev main_while0b_v163 : Ref sig .tc := ⟨.hbm, 227, rfl⟩
abbrev main_while0b_cst_28 : Ref sig .tc := ⟨.hbm, 228, rfl⟩
abbrev main_while0b_v164 : Ref sig .tc := ⟨.hbm, 229, rfl⟩
abbrev main_while0b_v165 : Ref sig .tc := ⟨.hbm, 230, rfl⟩
abbrev main_while0b_cst_29 : Ref sig .tc := ⟨.hbm, 231, rfl⟩
abbrev main_while0b_v166 : Ref sig .tc := ⟨.hbm, 232, rfl⟩
abbrev main_while0b_v167 : Ref sig .tc := ⟨.hbm, 233, rfl⟩
abbrev main_while0b_v168 : Ref sig .tc := ⟨.hbm, 234, rfl⟩
abbrev main_while0b_v169 : Ref sig .tc := ⟨.hbm, 235, rfl⟩
abbrev main_while0b_cst_30 : Ref sig .tc := ⟨.hbm, 236, rfl⟩
abbrev main_while0b_v170 : Ref sig .tc := ⟨.hbm, 237, rfl⟩
abbrev main_while0b_v171 : Ref sig .tc := ⟨.hbm, 238, rfl⟩
abbrev main_while0b_cst_31 : Ref sig .tc := ⟨.hbm, 239, rfl⟩
abbrev main_while0b_v172 : Ref sig .tc := ⟨.hbm, 240, rfl⟩
abbrev main_while0b_v173 : Ref sig .tc := ⟨.hbm, 241, rfl⟩
abbrev main_while0b_v174 : Ref sig .tc := ⟨.hbm, 242, rfl⟩
abbrev main_while0b_v175 : Ref sig .tc := ⟨.hbm, 243, rfl⟩
abbrev main_while0b_cst_32 : Ref sig .tc := ⟨.hbm, 244, rfl⟩
abbrev main_while0b_v176 : Ref sig .tc := ⟨.hbm, 245, rfl⟩
abbrev main_while0b_v177 : Ref sig .tc := ⟨.hbm, 246, rfl⟩
abbrev main_while0b_v178 : Ref sig .tc := ⟨.hbm, 247, rfl⟩
abbrev main_while0b_cst_33 : Ref sig .tc := ⟨.hbm, 248, rfl⟩
abbrev main_while0b_v179 : Ref sig .tc := ⟨.hbm, 249, rfl⟩
abbrev main_while0b_v180 : Ref sig .tc := ⟨.hbm, 250, rfl⟩
abbrev main_while0b_v181 : Ref sig .tc := ⟨.hbm, 251, rfl⟩
abbrev main_while0b_v182 : Ref sig .tc := ⟨.hbm, 252, rfl⟩
abbrev main_while0b_cst_34 : Ref sig .tc := ⟨.hbm, 253, rfl⟩
abbrev main_while0b_v183 : Ref sig .tc := ⟨.hbm, 254, rfl⟩
abbrev main_while0b_v184 : Ref sig .tc := ⟨.hbm, 255, rfl⟩
abbrev main_while0b_v185 : Ref sig .tc := ⟨.hbm, 256, rfl⟩
abbrev main_while0b_v186 : Ref sig .tc := ⟨.hbm, 257, rfl⟩
abbrev main_while0b_v187 : Ref sig .tc := ⟨.hbm, 258, rfl⟩
abbrev main_while0b_v188 : Ref sig .tc := ⟨.hbm, 259, rfl⟩
abbrev main_while0b_v189 : Ref sig .tc := ⟨.hbm, 260, rfl⟩
abbrev main_while0b_v190 : Ref sig .tc := ⟨.hbm, 261, rfl⟩
abbrev main_while0b_v191 : Ref sig .tc := ⟨.hbm, 262, rfl⟩
abbrev main_while0b_cst_35 : Ref sig .tc := ⟨.hbm, 263, rfl⟩
abbrev main_while0b_v192 : Ref sig .tc := ⟨.hbm, 264, rfl⟩
abbrev main_while0b_cst_36 : Ref sig .tc := ⟨.hbm, 265, rfl⟩
abbrev main_while0b_v193 : Ref sig .tc := ⟨.hbm, 266, rfl⟩
abbrev main_while0b_v194 : Ref sig .tc := ⟨.hbm, 267, rfl⟩
abbrev main_while0b_v195 : Ref sig .tc := ⟨.hbm, 268, rfl⟩
abbrev main_while0b_v196 : Ref sig .tc := ⟨.hbm, 269, rfl⟩
abbrev main_while0b_v197 : Ref sig .tc := ⟨.hbm, 270, rfl⟩
abbrev main_while0b_c_37 : Ref sig .tc := ⟨.hbm, 271, rfl⟩
abbrev main_while0b_v198 : Ref sig .tc := ⟨.hbm, 272, rfl⟩
abbrev main_while0b_v199 : Ref sig .tc := ⟨.hbm, 273, rfl⟩
abbrev main_while0b_v200 : Ref sig .tc := ⟨.hbm, 274, rfl⟩
abbrev main_while0b_v201 : Ref sig .tc := ⟨.hbm, 275, rfl⟩
abbrev main_while0b_v202 : Ref sig .tc := ⟨.hbm, 276, rfl⟩
abbrev main_while0b_v203 : Ref sig .tc := ⟨.hbm, 277, rfl⟩
abbrev main_while0b_v204 : Ref sig .tc := ⟨.hbm, 278, rfl⟩
abbrev main_while0b_v205 : Ref sig .tc := ⟨.hbm, 279, rfl⟩
abbrev main_while0b_v206 : Ref sig .tc := ⟨.hbm, 280, rfl⟩
abbrev main_while0b_v207 : Ref sig .tc := ⟨.hbm, 281, rfl⟩
abbrev main_while0b_v208 : Ref sig .tc := ⟨.hbm, 282, rfl⟩
abbrev main_while0b_v209 : Ref sig .tc := ⟨.hbm, 283, rfl⟩
abbrev main_while0b_v210 : Ref sig .tc := ⟨.hbm, 284, rfl⟩
abbrev main_while0b_v211 : Ref sig .tc := ⟨.hbm, 285, rfl⟩
abbrev main_while0b_v212 : Ref sig .tc := ⟨.hbm, 286, rfl⟩
abbrev main_while0b_v213 : Ref sig .tc := ⟨.hbm, 287, rfl⟩
abbrev main_while0b_v214 : Ref sig .tc := ⟨.hbm, 288, rfl⟩
abbrev main_while0b_v215 : Ref sig .tc := ⟨.hbm, 289, rfl⟩
abbrev main_while0b_v216 : Ref sig .tc := ⟨.hbm, 290, rfl⟩
abbrev main_while0b_v217 : Ref sig .tc := ⟨.hbm, 291, rfl⟩
abbrev main_while0b_v218 : Ref sig .tc := ⟨.hbm, 292, rfl⟩
abbrev main_while0b_v219 : Ref sig .tc := ⟨.hbm, 293, rfl⟩
abbrev main_while0b_v220 : Ref sig .tc := ⟨.hbm, 294, rfl⟩
abbrev main_while0b_v221 : Ref sig .tc := ⟨.hbm, 295, rfl⟩
abbrev main_while0b_v222 : Ref sig .tc := ⟨.hbm, 296, rfl⟩
abbrev main_while0b_v223 : Ref sig .tc := ⟨.hbm, 297, rfl⟩
abbrev main_while0b_v224 : Ref sig .tc := ⟨.hbm, 298, rfl⟩
abbrev main_while0b_v225 : Ref sig .tc := ⟨.hbm, 299, rfl⟩
abbrev main_while0b_v226 : Ref sig .tc := ⟨.hbm, 300, rfl⟩
abbrev main_while0b_v227 : Ref sig .tc := ⟨.hbm, 301, rfl⟩
abbrev main_while0b_v228 : Ref sig .tc := ⟨.hbm, 302, rfl⟩
abbrev main_while0b_cst_38 : Ref sig .tc := ⟨.hbm, 303, rfl⟩
abbrev main_while0b_v229 : Ref sig .tc := ⟨.hbm, 304, rfl⟩
abbrev main_while0b_v230 : Ref sig .tc := ⟨.hbm, 305, rfl⟩
abbrev main_while0b_v231 : Ref sig .tc := ⟨.hbm, 306, rfl⟩
abbrev main_while0b_v232 : Ref sig .tc := ⟨.hbm, 307, rfl⟩
abbrev main_while0b_v233 : Ref sig .tc := ⟨.hbm, 308, rfl⟩
abbrev main_while0b_v234 : Ref sig .tc := ⟨.hbm, 309, rfl⟩
abbrev main_while0b_cst_39 : Ref sig .tc := ⟨.hbm, 310, rfl⟩
abbrev main_while0b_v235 : Ref sig .tc := ⟨.hbm, 311, rfl⟩
abbrev main_while0b_v236 : Ref sig .tc := ⟨.hbm, 312, rfl⟩
abbrev main_while0b_cst_40 : Ref sig .tc := ⟨.hbm, 313, rfl⟩
abbrev main_while0b_v237 : Ref sig .tc := ⟨.hbm, 314, rfl⟩
abbrev main_while0b_v238 : Ref sig .tc := ⟨.hbm, 315, rfl⟩
abbrev main_while0b_v239 : Ref sig .tc := ⟨.hbm, 316, rfl⟩
abbrev main_while0b_v240 : Ref sig .tc := ⟨.hbm, 317, rfl⟩
abbrev main_while0b_v241 : Ref sig .tc := ⟨.hbm, 318, rfl⟩
abbrev main_while0b_v242 : Ref sig .tc := ⟨.hbm, 319, rfl⟩
abbrev main_while0b_cst_41 : Ref sig .tc := ⟨.hbm, 320, rfl⟩
abbrev main_while0b_v243 : Ref sig .tc := ⟨.hbm, 321, rfl⟩
abbrev main_while0b_v244 : Ref sig .tc := ⟨.hbm, 322, rfl⟩
abbrev main_while0b_v245 : Ref sig .tc := ⟨.hbm, 323, rfl⟩
abbrev main_while0b_call11_cst : Ref sig .tc := ⟨.hbm, 324, rfl⟩
abbrev main_while0b_call11_v0 : Ref sig .tc := ⟨.hbm, 325, rfl⟩
abbrev main_while0b_v246 : Ref sig .tc := ⟨.hbm, 326, rfl⟩
abbrev main_while0b_v247 : Ref sig .tc := ⟨.hbm, 327, rfl⟩
abbrev main_while0b_v248 : Ref sig .tc := ⟨.hbm, 328, rfl⟩
abbrev main_while0b_v249 : Ref sig .tc := ⟨.hbm, 329, rfl⟩
abbrev main_while0b_v250 : Ref sig .tc := ⟨.hbm, 330, rfl⟩
abbrev main_while0b_v251 : Ref sig .tc := ⟨.hbm, 331, rfl⟩
abbrev main_while0b_v252 : Ref sig .tc := ⟨.hbm, 332, rfl⟩
abbrev main_while0b_cst_42 : Ref sig .tc := ⟨.hbm, 333, rfl⟩
abbrev main_while0b_v253 : Ref sig .tc := ⟨.hbm, 334, rfl⟩
abbrev main_while0b_v254 : Ref sig .tc := ⟨.hbm, 335, rfl⟩
abbrev main_while0b_v255 : Ref sig .tc := ⟨.hbm, 336, rfl⟩
abbrev main_while0b_v256 : Ref sig .tc := ⟨.hbm, 337, rfl⟩
abbrev main_while0b_v257 : Ref sig .tc := ⟨.hbm, 338, rfl⟩
abbrev main_while0b_v258 : Ref sig .tc := ⟨.hbm, 339, rfl⟩
abbrev main_while0b_v259 : Ref sig .tc := ⟨.hbm, 340, rfl⟩
abbrev main_while0b_call12_cst : Ref sig .tc := ⟨.hbm, 341, rfl⟩
abbrev main_while0b_call12_v0 : Ref sig .tc := ⟨.hbm, 342, rfl⟩
abbrev main_while0b_v260 : Ref sig .tc := ⟨.hbm, 343, rfl⟩
abbrev main_while0b_v261 : Ref sig .tc := ⟨.hbm, 344, rfl⟩
abbrev main_while0b_call13_cst : Ref sig .tc := ⟨.hbm, 345, rfl⟩
abbrev main_while0b_call13_v0 : Ref sig .tc := ⟨.hbm, 346, rfl⟩
abbrev main_while0b_v262 : Ref sig .tc := ⟨.hbm, 347, rfl⟩
abbrev main_while0b_cst_43 : Ref sig .tc := ⟨.hbm, 348, rfl⟩
abbrev main_while0b_v263 : Ref sig .tc := ⟨.hbm, 349, rfl⟩
abbrev main_while0b_v264 : Ref sig .tc := ⟨.hbm, 350, rfl⟩
abbrev main_while0b_v265 : Ref sig .tc := ⟨.hbm, 351, rfl⟩
abbrev main_while0b_cst_44 : Ref sig .tc := ⟨.hbm, 352, rfl⟩
abbrev main_while0b_v266 : Ref sig .tc := ⟨.hbm, 353, rfl⟩
abbrev main_while0b_v267 : Ref sig .tc := ⟨.hbm, 354, rfl⟩
abbrev main_while0b_cst_45 : Ref sig .tc := ⟨.hbm, 355, rfl⟩
abbrev main_while0b_v268 : Ref sig .tc := ⟨.hbm, 356, rfl⟩
abbrev main_while0b_v269 : Ref sig .tc := ⟨.hbm, 357, rfl⟩
abbrev main_while0b_cst_46 : Ref sig .tc := ⟨.hbm, 358, rfl⟩
abbrev main_while0b_v270 : Ref sig .tc := ⟨.hbm, 359, rfl⟩
abbrev main_while0b_v271 : Ref sig .tc := ⟨.hbm, 360, rfl⟩
abbrev main_while0b_v272 : Ref sig .tc := ⟨.hbm, 361, rfl⟩
abbrev main_while0b_v273 : Ref sig .tc := ⟨.hbm, 362, rfl⟩
abbrev main_while0b_v274 : Ref sig .tc := ⟨.hbm, 363, rfl⟩
abbrev main_while0b_v275 : Ref sig .tc := ⟨.hbm, 364, rfl⟩
abbrev main_while0b_v276 : Ref sig .tc := ⟨.hbm, 365, rfl⟩
abbrev main_while0b_v277 : Ref sig .tc := ⟨.hbm, 366, rfl⟩
abbrev main_while0b_v278 : Ref sig .tc := ⟨.hbm, 367, rfl⟩
abbrev main_while0b_v279 : Ref sig .tc := ⟨.hbm, 368, rfl⟩
abbrev main_while0b_v280 : Ref sig .tc := ⟨.hbm, 369, rfl⟩
abbrev main_while0b_v281 : Ref sig .tc := ⟨.hbm, 370, rfl⟩
abbrev main_while0b_v282 : Ref sig .tc := ⟨.hbm, 371, rfl⟩
abbrev main_while0b_v283 : Ref sig .tc := ⟨.hbm, 372, rfl⟩
abbrev main_while0b_v284 : Ref sig .tc := ⟨.hbm, 373, rfl⟩
abbrev main_while0b_v285 : Ref sig .tc := ⟨.hbm, 374, rfl⟩
abbrev main_while0b_v286 : Ref sig .tc := ⟨.hbm, 375, rfl⟩
abbrev main_while0b_v287 : Ref sig .tc := ⟨.hbm, 376, rfl⟩
abbrev main_while0b_v288 : Ref sig .tc := ⟨.hbm, 377, rfl⟩
abbrev main_while0b_v289 : Ref sig .tc := ⟨.hbm, 378, rfl⟩
abbrev main_while0b_v290 : Ref sig .tc := ⟨.hbm, 379, rfl⟩
abbrev main_while0b_v291 : Ref sig .tc := ⟨.hbm, 380, rfl⟩
abbrev main_while0b_v292 : Ref sig .tc := ⟨.hbm, 381, rfl⟩
abbrev main_while0b_v293 : Ref sig .tc := ⟨.hbm, 382, rfl⟩
abbrev main_while0b_v294 : Ref sig .tc := ⟨.hbm, 383, rfl⟩
abbrev main_while0b_v295 : Ref sig .tc := ⟨.hbm, 384, rfl⟩
abbrev main_while0b_v296 : Ref sig .tc := ⟨.hbm, 385, rfl⟩
abbrev main_while0b_c_47 : Ref sig .tc := ⟨.hbm, 386, rfl⟩
abbrev main_while0b_v297 : Ref sig .tc := ⟨.hbm, 387, rfl⟩
abbrev main_v26 : Ref sig .tc := ⟨.hbm, 388, rfl⟩
abbrev main_v27 : Ref sig .tc := ⟨.hbm, 389, rfl⟩
abbrev main_v28 : Ref sig .tc := ⟨.hbm, 390, rfl⟩
abbrev main_v29 : Ref sig .tc := ⟨.hbm, 391, rfl⟩
abbrev main_v30 : Ref sig .tc := ⟨.hbm, 392, rfl⟩
abbrev main_v31 : Ref sig .tc := ⟨.hbm, 393, rfl⟩
abbrev main_v32 : Ref sig .tc := ⟨.hbm, 394, rfl⟩
abbrev main_v33 : Ref sig .tc := ⟨.hbm, 395, rfl⟩
abbrev main_v34 : Ref sig .tc := ⟨.hbm, 396, rfl⟩
abbrev main_v35 : Ref sig .tc := ⟨.hbm, 397, rfl⟩
abbrev main_v36 : Ref sig .tc := ⟨.hbm, 398, rfl⟩
abbrev main_v37 : Ref sig .tc := ⟨.hbm, 399, rfl⟩
abbrev main_cst_5 : Ref sig .tc := ⟨.hbm, 400, rfl⟩
abbrev main_v38 : Ref sig .tc := ⟨.hbm, 401, rfl⟩
abbrev main_v39 : Ref sig .tc := ⟨.hbm, 402, rfl⟩

abbrev nD : Nat := 1
abbrev τ : Topo := Topo.v7x

variable {F : FTy → Type} [FloatOps F]

abbrev main_while0_count : Scf.Loop 32 := ⟨0#32, 128#32, 1#32⟩
-- ==== DownDx.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .bf16⟩
  | .hbm, ⟨3, _⟩ => ⟨S8192x5632, .bf16⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S8192x5632, .f32⟩
  | .hbm, ⟨9, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S8192x5632 : Shape := ⟨2, ![8192, 5632]⟩
abbrev S8192x2048 : Shape := ⟨2, ![8192, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .bf16⟩
  | .hbm, ⟨3, _⟩ => ⟨S5632x2048, .bf16⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDw.lean ====
abbrev S8192x2048 : Shape := ⟨2, ![8192, 2048]⟩
abbrev S2x8192x5632 : Shape := ⟨3, ![2, 8192, 5632]⟩
abbrev S2048x11264 : Shape := ⟨2, ![2048, 11264]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8192x2048 : Shape := ⟨2, ![8192, 2048]⟩
abbrev S2x8192x5632 : Shape := ⟨3, ![2, 8192, 5632]⟩
abbrev S1x8192x5632 : Shape := ⟨3, ![1, 8192, 5632]⟩
abbrev S8192x5632 : Shape := ⟨2, ![8192, 5632]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S1x8192x5632, .bf16⟩
  | .hbm, ⟨3, _⟩ => ⟨S8192x5632, .bf16⟩
  | .hbm, ⟨4, _⟩ => ⟨S1x8192x5632, .bf16⟩
  | .hbm, ⟨5, _⟩ => ⟨S8192x5632, .bf16⟩
  | .hbm, ⟨6, _⟩ => ⟨S8192x11264, .bf16⟩
  | .hbm, ⟨7, _⟩ => ⟨S_, .bf16⟩
  | .hbm, ⟨8, _⟩ => ⟨S2048x11264, .bf16⟩
  | .hbm, ⟨9, _⟩ => ⟨S8192x2048, .f32⟩
  | .hbm, ⟨10, _⟩ => ⟨S2048x11264, .f32⟩
  | .hbm, ⟨11, _⟩ => ⟨S8192x11264, .f32⟩
  | .hbm, ⟨12, _⟩ => ⟨S8192x11264, .f32⟩
  | .hbm, ⟨13, _⟩ => ⟨S11264x2048, .f32⟩
  | .hbm, ⟨14, _⟩ => ⟨S2048x11264, .f32⟩
  | .hbm, ⟨15, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== SquareDx.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDxReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SquareDw.lean ====
abbrev S8192x2048 : Shape := ⟨2, ![8192, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDwReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .bf16⟩
  | .hbm, ⟨3, _⟩ => ⟨S2048x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PoolDx.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolDxReferenceIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .bf16⟩
  | .hbm, ⟨3, _⟩ => ⟨S8192x1024, .bf16⟩
  | .hbm, ⟨4, _⟩ => ⟨S8192x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PoolDw.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolDwReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .bf16⟩
  | .hbm, ⟨3, _⟩ => ⟨S1024x2048, .bf16⟩
  | .hbm, ⟨4, _⟩ => ⟨S8192x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDx.lean ====
abbrev S2x8192x5632 : Shape := ⟨3, ![2, 8192, 5632]⟩
abbrev S2048x11264 : Shape := ⟨2, ![2048, 11264]⟩
abbrev S8192x2048 : Shape := ⟨2, ![8192, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S8192x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S2x8192x5632 : Shape := ⟨3, ![2, 8192, 5632]⟩
abbrev S2048x11264 : Shape := ⟨2, ![2048, 11264]⟩
abbrev S1x8192x5632 : Shape := ⟨3, ![1, 8192, 5632]⟩
abbrev S8192x5632 : Shape := ⟨2, ![8192, 5632]⟩
abbrev S8192x11264 : Shape := ⟨2, ![8192, 11264]⟩
abbrev S_ : Shape := ⟨0, ![]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S1x8192x5632, .bf16⟩
  | .hbm, ⟨3, _⟩ => ⟨S8192x5632, .bf16⟩
  | .hbm, ⟨4, _⟩ => ⟨S1x8192x5632, .bf16⟩
  | .hbm, ⟨5, _⟩ => ⟨S8192x5632, .bf16⟩
  | .hbm, ⟨6, _⟩ => ⟨S8192x11264, .bf16⟩
  | .hbm, ⟨7, _⟩ => ⟨S_, .bf16⟩
  | .hbm, ⟨8, _⟩ => ⟨S8192x2048, .bf16⟩
  | .hbm, ⟨9, _⟩ => ⟨S8192x2048, .f32⟩
  | .hbm, ⟨10, _⟩ => ⟨S2048x11264, .f32⟩
  | .hbm, ⟨11, _⟩ => ⟨S8192x11264, .f32⟩
  | .hbm, ⟨12, _⟩ => ⟨S8192x11264, .f32⟩
  | .hbm, ⟨13, _⟩ => ⟨S8192x2048, .f32⟩
  | .hbm, ⟨14, _⟩ => ⟨S8192x2048, .bf16⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== InDx.lean ====
abbrev S8192x13824 : Shape := ⟨2, ![8192, 13824]⟩
abbrev S2048x13824 : Shape := ⟨2, ![2048, 13824]⟩
abbrev S8192x2048 : Shape := ⟨2, ![8192, 2048]⟩
abbrev S1024x4608 : Shape := ⟨2, ![1024, 4608]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x13824, .bf16⟩
  | .hbm, ⟨1, _⟩ => ⟨S2048x13824, .bf16⟩
  | .hbm, ⟨2, _⟩ => ⟨S8192x2048, .bf16⟩
  | .local _ .vmem, ⟨0, _⟩ => ⟨S1024x4608, .bf16⟩
  | .local _ .vmem, ⟨1, _⟩ => ⟨S1024x4608, .bf16⟩
  | .local _ .vmem, ⟨2, _⟩ => ⟨S1024x4608, .bf16⟩
  | .local _ .vmem, ⟨3, _⟩ => ⟨S1024x4608, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S8192x13824 : Shape := ⟨2, ![8192, 13824]⟩
abbrev S2048x13824 : Shape := ⟨2, ![2048, 13824]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S2048x13824, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x13824, .f32⟩
  | .hbm, ⟨6, _⟩ => ⟨S8192x13824, .f32⟩
  | .hbm, ⟨7, _⟩ => ⟨S8192x13824, .f32⟩
  | .hbm, ⟨8, _⟩ => ⟨S8192x2048, .f32⟩
  | .hbm, ⟨9, _⟩ => ⟨S8192x2048, .bf16⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S8192x2048 : Shape := ⟨2, ![8192, 2048]⟩
abbrev S8192x13824 : Shape := ⟨2, ![8192, 13824]⟩
abbrev S2048x13824 : Shape := ⟨2, ![2048, 13824]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x13824, .bf16⟩
  | .hbm, ⟨2, _⟩ => ⟨S2048x13824, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 18, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S8192x2048 : Shape := ⟨2, ![8192, 2048]⟩
abbrev S8192x13824 : Shape := ⟨2, ![8192, 13824]⟩
abbrev S_ : Shape := ⟨0, ![]⟩
abbrev S2048x13824 : Shape := ⟨2, ![2048, 13824]⟩
abbrev S13824x2048 : Shape := ⟨2, ![13824, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x13824, .bf16⟩
  | .hbm, ⟨2, _⟩ => ⟨S_, .bf16⟩
  | .hbm, ⟨3, _⟩ => ⟨S2048x13824, .bf16⟩
  | .hbm, ⟨4, _⟩ => ⟨S8192x2048, .f32⟩
  | .hbm, ⟨5, _⟩ => ⟨S2048x13824, .f32⟩
  | .hbm, ⟨6, _⟩ => ⟨S8192x13824, .f32⟩
  | .hbm, ⟨7, _⟩ => ⟨S8192x13824, .f32⟩
  | .hbm, ⟨8, _⟩ => ⟨S13824x2048, .f32⟩
  | .hbm, ⟨9, _⟩ => ⟨S2048x13824, .f32⟩
  | .hbm, ⟨10, _⟩ => ⟨S2048x13824, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvDx.lean ====
abbrev S256x4096 : Shape := ⟨2, ![256, 4096]⟩
abbrev S2048x4096 : Shape := ⟨2, ![2048, 4096]⟩
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .bf16⟩
  | .hbm, ⟨1, _⟩ => ⟨S2048x4096, .bf16⟩
  | .hbm, ⟨2, _⟩ => ⟨S256x2048, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDxReferenceIdeal.lean ====
abbrev S256x4096 : Shape := ⟨2, ![256, 4096]⟩
abbrev S2048x4096 : Shape := ⟨2, ![2048, 4096]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S2048x4096, .bf16⟩
  | .hbm, ⟨2, _⟩ => ⟨S_, .f32⟩
  | .hbm, ⟨3, _⟩ => ⟨S256x2048, .f32⟩
  | .hbm, ⟨4, _⟩ => ⟨S2048x4096, .f32⟩
  | .hbm, ⟨5, _⟩ => ⟨S256x4096, .f32⟩
  | .hbm, ⟨6, _⟩ => ⟨S256x4096, .f32⟩
  | .hbm, ⟨7, _⟩ => ⟨S256x2048, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvDw.lean ====
abbrev S256x2048 : Shape := ⟨2, ![256, 2048]⟩
abbrev S256x4096 : Shape := ⟨2, ![256, 4096]⟩
abbrev S2048x4096 : Shape := ⟨2, ![2048, 4096]⟩
abbrev S256x1024 : Shape := ⟨2, ![256, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S2048x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwReferenceIdeal.lean ====
abbrev S256x2048 : Shape := ⟨2, ![256, 2048]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S_, .bf16⟩
  | .hbm, ⟨3, _⟩ => ⟨S2048x4096, .bf16⟩
  | .hbm, ⟨4, _⟩ => ⟨S256x2048, .f32⟩
  | .hbm, ⟨5, _⟩ => ⟨S2048x4096, .f32⟩
  | .hbm, ⟨6, _⟩ => ⟨S256x4096, .f32⟩
  | .hbm, ⟨7, _⟩ => ⟨S256x4096, .f32⟩
  | .hbm, ⟨8, _⟩ => ⟨S4096x2048, .f32⟩
  | .hbm, ⟨9, _⟩ => ⟨S2048x4096, .f32⟩
  | .hbm, ⟨10, _⟩ => ⟨S2048x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InProj.lean ====
abbrev S8192x2048 : Shape := ⟨2, ![8192, 2048]⟩
abbrev S2048x13824 : Shape := ⟨2, ![2048, 13824]⟩
abbrev S8192x13824 : Shape := ⟨2, ![8192, 13824]⟩
abbrev S1024x2048 : Shape := ⟨2, ![1024, 2048]⟩
abbrev S2048x1536 : Shape := ⟨2, ![2048, 1536]⟩
abbrev S1024x1536 : Shape := ⟨2, ![1024, 1536]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x13824, .bf16⟩
  | .hbm, ⟨2, _⟩ => ⟨S8192x13824, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S8192x2048 : Shape := ⟨2, ![8192, 2048]⟩
abbrev S2048x13824 : Shape := ⟨2, ![2048, 13824]⟩
abbrev S8192x13824 : Shape := ⟨2, ![8192, 13824]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13824, .bf16⟩
  | .hbm, ⟨2, _⟩ => ⟨S8192x2048, .f32⟩
  | .hbm, ⟨3, _⟩ => ⟨S2048x13824, .f32⟩
  | .hbm, ⟨4, _⟩ => ⟨S8192x13824, .f32⟩
  | .hbm, ⟨5, _⟩ => ⟨S8192x13824, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Square.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SquareF.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareFReferenceIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Pool.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kv.lean ====
abbrev S256x2048 : Shape := ⟨2, ![256, 2048]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x4096, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvReferenceIdeal.lean ====
abbrev S256x2048 : Shape := ⟨2, ![256, 2048]⟩
abbrev S2048x4096 : Shape := ⟨2, ![2048, 4096]⟩
abbrev S256x4096 : Shape := ⟨2, ![256, 4096]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x2048, .f32⟩
  | .hbm, ⟨3, _⟩ => ⟨S2048x4096, .f32⟩
  | .hbm, ⟨4, _⟩ => ⟨S256x4096, .f32⟩
  | .hbm, ⟨5, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormIn.lean ====
abbrev S8192x2048 : Shape := ⟨2, ![8192, 2048]⟩
abbrev S1x2048 : Shape := ⟨2, ![1, 2048]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormInReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== NormOut.lean ====
abbrev S8192x2048 : Shape := ⟨2, ![8192, 2048]⟩
abbrev S1x2048 : Shape := ⟨2, ![1, 2048]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v42 : BitVec 1 := Scalar.cmpi .eq arg0 c15_i32
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormOutReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== AdIn.lean ====
abbrev S8x2048x1668 : Shape := ⟨3, ![8, 2048, 1668]⟩
abbrev S2048x1668 : Shape := ⟨2, ![2048, 1668]⟩
abbrev S8x128x1668 : Shape := ⟨3, ![8, 128, 1668]⟩
abbrev S128x1668 : Shape := ⟨2, ![128, 1668]⟩
abbrev S1x128x1668 : Shape := ⟨3, ![1, 128, 1668]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1668, .bf16⟩
  | .hbm, ⟨1, _⟩ => ⟨S2048x1668, .f32⟩
  | .hbm, ⟨2, _⟩ => ⟨S2048x1668, .f32⟩
  | .hbm, ⟨3, _⟩ => ⟨S2048x1668, .f32⟩
  | .hbm, ⟨4, _⟩ => ⟨S2048x1668, .f32⟩
  | .hbm, ⟨5, _⟩ => ⟨S2048x1668, .f32⟩
  | .hbm, ⟨6, _⟩ => ⟨S2048x1668, .f32⟩
  | .hbm, ⟨7, _⟩ => ⟨S2048x1668, .f32⟩
  | .local _ .vmem, ⟨0, _⟩ => ⟨S8x128x1668, .bf16⟩
  | .local _ .vmem, ⟨1, _⟩ => ⟨S8x128x1668, .bf16⟩
  | .local _ .vmem, ⟨2, _⟩ => ⟨S128x1668, .f32⟩
  | .local _ .vmem, ⟨3, _⟩ => ⟨S128x1668, .f32⟩
  | .local _ .vmem, ⟨4, _⟩ => ⟨S128x1668, .f32⟩
  | .local _ .vmem, ⟨5, _⟩ => ⟨S128x1668, .f32⟩
  | .local _ .vmem, ⟨6, _⟩ => ⟨S128x1668, .f32⟩
  | .local _ .vmem, ⟨7, _⟩ => ⟨S128x1668, .f32⟩
  | .local _ .vmem, ⟨8, _⟩ => ⟨S128x1668, .f32⟩
  | .local _ .vmem, ⟨9, _⟩ => ⟨S128x1668, .f32⟩
  | .local _ .vmem, ⟨10, _⟩ => ⟨S128x1668, .f32⟩
  | .local _ .vmem, ⟨11, _⟩ => ⟨S128x1668, .f32⟩
  | .local _ .vmem, ⟨12, _⟩ => ⟨S128x1668, .f32⟩
  | .local _ .vmem, ⟨13, _⟩ => ⟨S128x1668, .f32⟩
  | .local _ .vmem, ⟨14, _⟩ => ⟨S128x1668, .f32⟩
  | .local _ .vmem, ⟨15, _⟩ => ⟨S128x1668, .f32⟩
  | _, _ => ⟨S8x2048x1668, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1668 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1668 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1668 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1668 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1668 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1668 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInIdeal.lean ====
abbrev S8x2048x1668 : Shape := ⟨3, ![8, 2048, 1668]⟩
abbrev S2048x1668 : Shape := ⟨2, ![2048, 1668]⟩
abbrev S8x128x1668 : Shape := ⟨3, ![8, 128, 1668]⟩
abbrev S128x1668 : Shape := ⟨2, ![128, 1668]⟩
abbrev S1x128x1668 : Shape := ⟨3, ![1, 128, 1668]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1668, .bf16⟩
  | .hbm, ⟨1, _⟩ => ⟨S2048x1668, .f32⟩
  | .hbm, ⟨2, _⟩ => ⟨S2048x1668, .f32⟩
  | .hbm, ⟨3, _⟩ => ⟨S2048x1668, .f32⟩
  | .hbm, ⟨4, _⟩ => ⟨S2048x1668, .f32⟩
  | .hbm, ⟨5, _⟩ => ⟨S2048x1668, .f32⟩
  | .hbm, ⟨6, _⟩ => ⟨S2048x1668, .f32⟩
  | .hbm, ⟨7, _⟩ => ⟨S2048x1668, .f32⟩
  | .local _ .vmem, ⟨0, _⟩ => ⟨S8x128x1668, .bf16⟩
  | .local _ .vmem, ⟨1, _⟩ => ⟨S8x128x1668, .bf16⟩
  | .local _ .vmem, ⟨2, _⟩ => ⟨S128x1668, .f32⟩
  | .local _ .vmem, ⟨3, _⟩ => ⟨S128x1668, .f32⟩
  | .local _ .vmem, ⟨4, _⟩ => ⟨S128x1668, .f32⟩
  | .local _ .vmem, ⟨5, _⟩ => ⟨S128x1668, .f32⟩
  | .local _ .vmem, ⟨6, _⟩ => ⟨S128x1668, .f32⟩
  | .local _ .vmem, ⟨7, _⟩ => ⟨S128x1668, .f32⟩
  | .local _ .vmem, ⟨8, _⟩ => ⟨S128x1668, .f32⟩
  | .local _ .vmem, ⟨9, _⟩ => ⟨S128x1668, .f32⟩
  | .local _ .vmem, ⟨10, _⟩ => ⟨S128x1668, .f32⟩
  | .local _ .vmem, ⟨11, _⟩ => ⟨S128x1668, .f32⟩
  | .local _ .vmem, ⟨12, _⟩ => ⟨S128x1668, .f32⟩
  | .local _ .vmem, ⟨13, _⟩ => ⟨S128x1668, .f32⟩
  | .local _ .vmem, ⟨14, _⟩ => ⟨S128x1668, .f32⟩
  | .local _ .vmem, ⟨15, _⟩ => ⟨S128x1668, .f32⟩
  | _, _ => ⟨S8x2048x1668, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1668 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1668 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1668 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1668 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1668 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1668 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInReferenceIdeal.lean ====
abbrev S8x2048x1668 : Shape := ⟨3, ![8, 2048, 1668]⟩
abbrev S2048x1668 : Shape := ⟨2, ![2048, 1668]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1668, .bf16⟩
  | .hbm, ⟨1, _⟩ => ⟨S2048x1668, .f32⟩
  | .hbm, ⟨2, _⟩ => ⟨S2048x1668, .f32⟩
  | .hbm, ⟨3, _⟩ => ⟨S2048x1668, .f32⟩
  | .hbm, ⟨4, _⟩ => ⟨S8x2048x1668, .f32⟩
  | .hbm, ⟨5, _⟩ => ⟨S_, .f32⟩
  | .hbm, ⟨6, _⟩ => ⟨S2048x1668, .f32⟩
  | .hbm, ⟨7, _⟩ => ⟨S_, .f32⟩
  | .hbm, ⟨8, _⟩ => ⟨S2048x1668, .f32⟩
  | .hbm, ⟨9, _⟩ => ⟨S2048x1668, .f32⟩
  | .hbm, ⟨10, _⟩ => ⟨S_, .f32⟩
  | .hbm, ⟨11, _⟩ => ⟨S2048x1668, .f32⟩
  | .hbm, ⟨12, _⟩ => ⟨S2048x1668, .f32⟩
  | .hbm, ⟨13, _⟩ => ⟨S2048x1668, .f32⟩
  | .hbm, ⟨14, _⟩ => ⟨S_, .f32⟩
  | .hbm, ⟨15, _⟩ => ⟨S2048x1668, .f32⟩
  | .hbm, ⟨16, _⟩ => ⟨S2048x1668, .f32⟩
  | .hbm, ⟨17, _⟩ => ⟨S2048x1668, .f32⟩
  | .hbm, ⟨18, _⟩ => ⟨S_, .f32⟩
  | .hbm, ⟨19, _⟩ => ⟨S2048x1668, .f32⟩
  | .hbm, ⟨20, _⟩ => ⟨S2048x1668, .f32⟩
  | .hbm, ⟨21, _⟩ => ⟨S2048x1668, .f32⟩
  | .hbm, ⟨22, _⟩ => ⟨S_, .f32⟩
  | .hbm, ⟨23, _⟩ => ⟨S2048x1668, .f32⟩
  | .hbm, ⟨24, _⟩ => ⟨S2048x1668, .f32⟩
  | .hbm, ⟨25, _⟩ => ⟨S_, .f32⟩
  | .hbm, ⟨26, _⟩ => ⟨S2048x1668, .f32⟩
  | .hbm, ⟨27, _⟩ => ⟨S2048x1668, .f32⟩
  | .hbm, ⟨28, _⟩ => ⟨S2048x1668, .f32⟩
  | .hbm, ⟨29, _⟩ => ⟨S_, .f32⟩
  | .hbm, ⟨30, _⟩ => ⟨S2048x1668, .f32⟩
  | .hbm, ⟨31, _⟩ => ⟨S2048x1668, .f32⟩
  | .hbm, ⟨32, _⟩ => ⟨S2048x1668, .f32⟩
  | .hbm, ⟨33, _⟩ => ⟨S_, .f32⟩
  | .hbm, ⟨34, _⟩ => ⟨S2048x1668, .f32⟩
  | .hbm, ⟨35, _⟩ => ⟨S2048x1668, .f32⟩
  | .hbm, ⟨36, _⟩ => ⟨S2048x1668, .f32⟩
  | .hbm, ⟨37, _⟩ => ⟨S_, .f32⟩
  | .hbm, ⟨38, _⟩ => ⟨S2048x1668, .f32⟩
  | .hbm, ⟨39, _⟩ => ⟨S2048x1668, .f32⟩
  | _, _ => ⟨S8x2048x1668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdUp.lean ====
abbrev S8x2048x1376 : Shape := ⟨3, ![8, 2048, 1376]⟩
abbrev S2048x1376 : Shape := ⟨2, ![2048, 1376]⟩
abbrev S8x128x1376 : Shape := ⟨3, ![8, 128, 1376]⟩
abbrev S128x1376 : Shape := ⟨2, ![128, 1376]⟩
abbrev S1x128x1376 : Shape := ⟨3, ![1, 128, 1376]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1376, .bf16⟩
  | .hbm, ⟨1, _⟩ => ⟨S2048x1376, .f32⟩
  | .hbm, ⟨2, _⟩ => ⟨S2048x1376, .f32⟩
  | .hbm, ⟨3, _⟩ => ⟨S2048x1376, .f32⟩
  | .hbm, ⟨4, _⟩ => ⟨S2048x1376, .f32⟩
  | .hbm, ⟨5, _⟩ => ⟨S2048x1376, .f32⟩
  | .hbm, ⟨6, _⟩ => ⟨S2048x1376, .f32⟩
  | .hbm, ⟨7, _⟩ => ⟨S2048x1376, .f32⟩
  | .local _ .vmem, ⟨0, _⟩ => ⟨S8x128x1376, .bf16⟩
  | .local _ .vmem, ⟨1, _⟩ => ⟨S8x128x1376, .bf16⟩
  | .local _ .vmem, ⟨2, _⟩ => ⟨S128x1376, .f32⟩
  | .local _ .vmem, ⟨3, _⟩ => ⟨S128x1376, .f32⟩
  | .local _ .vmem, ⟨4, _⟩ => ⟨S128x1376, .f32⟩
  | .local _ .vmem, ⟨5, _⟩ => ⟨S128x1376, .f32⟩
  | .local _ .vmem, ⟨6, _⟩ => ⟨S128x1376, .f32⟩
  | .local _ .vmem, ⟨7, _⟩ => ⟨S128x1376, .f32⟩
  | .local _ .vmem, ⟨8, _⟩ => ⟨S128x1376, .f32⟩
  | .local _ .vmem, ⟨9, _⟩ => ⟨S128x1376, .f32⟩
  | .local _ .vmem, ⟨10, _⟩ => ⟨S128x1376, .f32⟩
  | .local _ .vmem, ⟨11, _⟩ => ⟨S128x1376, .f32⟩
  | .local _ .vmem, ⟨12, _⟩ => ⟨S128x1376, .f32⟩
  | .local _ .vmem, ⟨13, _⟩ => ⟨S128x1376, .f32⟩
  | .local _ .vmem, ⟨14, _⟩ => ⟨S128x1376, .f32⟩
  | .local _ .vmem, ⟨15, _⟩ => ⟨S128x1376, .f32⟩
  | _, _ => ⟨S8x2048x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1376 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1376 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1376 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1376 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdUpIdeal.lean ====
abbrev S8x2048x1376 : Shape := ⟨3, ![8, 2048, 1376]⟩
abbrev S2048x1376 : Shape := ⟨2, ![2048, 1376]⟩
abbrev S8x128x1376 : Shape := ⟨3, ![8, 128, 1376]⟩
abbrev S128x1376 : Shape := ⟨2, ![128, 1376]⟩
abbrev S1x128x1376 : Shape := ⟨3, ![1, 128, 1376]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1376, .bf16⟩
  | .hbm, ⟨1, _⟩ => ⟨S2048x1376, .f32⟩
  | .hbm, ⟨2, _⟩ => ⟨S2048x1376, .f32⟩
  | .hbm, ⟨3, _⟩ => ⟨S2048x1376, .f32⟩
  | .hbm, ⟨4, _⟩ => ⟨S2048x1376, .f32⟩
  | .hbm, ⟨5, _⟩ => ⟨S2048x1376, .f32⟩
  | .hbm, ⟨6, _⟩ => ⟨S2048x1376, .f32⟩
  | .hbm, ⟨7, _⟩ => ⟨S2048x1376, .f32⟩
  | .local _ .vmem, ⟨0, _⟩ => ⟨S8x128x1376, .bf16⟩
  | .local _ .vmem, ⟨1, _⟩ => ⟨S8x128x1376, .bf16⟩
  | .local _ .vmem, ⟨2, _⟩ => ⟨S128x1376, .f32⟩
  | .local _ .vmem, ⟨3, _⟩ => ⟨S128x1376, .f32⟩
  | .local _ .vmem, ⟨4, _⟩ => ⟨S128x1376, .f32⟩
  | .local _ .vmem, ⟨5, _⟩ => ⟨S128x1376, .f32⟩
  | .local _ .vmem, ⟨6, _⟩ => ⟨S128x1376, .f32⟩
  | .local _ .vmem, ⟨7, _⟩ => ⟨S128x1376, .f32⟩
  | .local _ .vmem, ⟨8, _⟩ => ⟨S128x1376, .f32⟩
  | .local _ .vmem, ⟨9, _⟩ => ⟨S128x1376, .f32⟩
  | .local _ .vmem, ⟨10, _⟩ => ⟨S128x1376, .f32⟩
  | .local _ .vmem, ⟨11, _⟩ => ⟨S128x1376, .f32⟩
  | .local _ .vmem, ⟨12, _⟩ => ⟨S128x1376, .f32⟩
  | .local _ .vmem, ⟨13, _⟩ => ⟨S128x1376, .f32⟩
  | .local _ .vmem, ⟨14, _⟩ => ⟨S128x1376, .f32⟩
  | .local _ .vmem, ⟨15, _⟩ => ⟨S128x1376, .f32⟩
  | _, _ => ⟨S8x2048x1376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1376 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1376 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1376 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1376 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdUpReferenceIdeal.lean ====
abbrev S8x2048x1376 : Shape := ⟨3, ![8, 2048, 1376]⟩
abbrev S2048x1376 : Shape := ⟨2, ![2048, 1376]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1376, .bf16⟩
  | .hbm, ⟨1, _⟩ => ⟨S2048x1376, .f32⟩
  | .hbm, ⟨2, _⟩ => ⟨S2048x1376, .f32⟩
  | .hbm, ⟨3, _⟩ => ⟨S2048x1376, .f32⟩
  | .hbm, ⟨4, _⟩ => ⟨S8x2048x1376, .f32⟩
  | .hbm, ⟨5, _⟩ => ⟨S_, .f32⟩
  | .hbm, ⟨6, _⟩ => ⟨S2048x1376, .f32⟩
  | .hbm, ⟨7, _⟩ => ⟨S_, .f32⟩
  | .hbm, ⟨8, _⟩ => ⟨S2048x1376, .f32⟩
  | .hbm, ⟨9, _⟩ => ⟨S2048x1376, .f32⟩
  | .hbm, ⟨10, _⟩ => ⟨S_, .f32⟩
  | .hbm, ⟨11, _⟩ => ⟨S2048x1376, .f32⟩
  | .hbm, ⟨12, _⟩ => ⟨S2048x1376, .f32⟩
  | .hbm, ⟨13, _⟩ => ⟨S2048x1376, .f32⟩
  | .hbm, ⟨14, _⟩ => ⟨S_, .f32⟩
  | .hbm, ⟨15, _⟩ => ⟨S2048x1376, .f32⟩
  | .hbm, ⟨16, _⟩ => ⟨S2048x1376, .f32⟩
  | .hbm, ⟨17, _⟩ => ⟨S2048x1376, .f32⟩
  | .hbm, ⟨18, _⟩ => ⟨S_, .f32⟩
  | .hbm, ⟨19, _⟩ => ⟨S2048x1376, .f32⟩
  | .hbm, ⟨20, _⟩ => ⟨S2048x1376, .f32⟩
  | .hbm, ⟨21, _⟩ => ⟨S2048x1376, .f32⟩
  | .hbm, ⟨22, _⟩ => ⟨S_, .f32⟩
  | .hbm, ⟨23, _⟩ => ⟨S2048x1376, .f32⟩
  | .hbm, ⟨24, _⟩ => ⟨S2048x1376, .f32⟩
  | .hbm, ⟨25, _⟩ => ⟨S_, .f32⟩
  | .hbm, ⟨26, _⟩ => ⟨S2048x1376, .f32⟩
  | .hbm, ⟨27, _⟩ => ⟨S2048x1376, .f32⟩
  | .hbm, ⟨28, _⟩ => ⟨S2048x1376, .f32⟩
  | .hbm, ⟨29, _⟩ => ⟨S_, .f32⟩
  | .hbm, ⟨30, _⟩ => ⟨S2048x1376, .f32⟩
  | .hbm, ⟨31, _⟩ => ⟨S2048x1376, .f32⟩
  | .hbm, ⟨32, _⟩ => ⟨S2048x1376, .f32⟩
  | .hbm, ⟨33, _⟩ => ⟨S_, .f32⟩
  | .hbm, ⟨34, _⟩ => ⟨S2048x1376, .f32⟩
  | .hbm, ⟨35, _⟩ => ⟨S2048x1376, .f32⟩
  | .hbm, ⟨36, _⟩ => ⟨S2048x1376, .f32⟩
  | .hbm, ⟨37, _⟩ => ⟨S_, .f32⟩
  | .hbm, ⟨38, _⟩ => ⟨S2048x1376, .f32⟩
  | .hbm, ⟨39, _⟩ => ⟨S2048x1376, .f32⟩
  | _, _ => ⟨S8x2048x1376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdSquare.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdSquareIdeal.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdSquareReferenceIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdPoolOut.lean ====
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdPoolOutIdeal.lean ====
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdPoolOutReferenceIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdKv.lean ====
abbrev S8x2048x512 : Shape := ⟨3, ![8, 2048, 512]⟩
abbrev S2048x512 : Shape := ⟨2, ![2048, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdKvIdeal.lean ====
abbrev S8x2048x512 : Shape := ⟨3, ![8, 2048, 512]⟩
abbrev S2048x512 : Shape := ⟨2, ![2048, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdKvReferenceIdeal.lean ====
abbrev S8x2048x512 : Shape := ⟨3, ![8, 2048, 512]⟩
abbrev S2048x512 : Shape := ⟨2, ![2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdDown.lean ====
abbrev S8x688x2048 : Shape := ⟨3, ![8, 688, 2048]⟩
abbrev S688x2048 : Shape := ⟨2, ![688, 2048]⟩
abbrev S8x16x2048 : Shape := ⟨3, ![8, 16, 2048]⟩
abbrev S16x2048 : Shape := ⟨2, ![16, 2048]⟩
abbrev S1x16x2048 : Shape := ⟨3, ![1, 16, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x688x2048, .bf16⟩
  | .hbm, ⟨1, _⟩ => ⟨S688x2048, .f32⟩
  | .hbm, ⟨2, _⟩ => ⟨S688x2048, .f32⟩
  | .hbm, ⟨3, _⟩ => ⟨S688x2048, .f32⟩
  | .hbm, ⟨4, _⟩ => ⟨S688x2048, .f32⟩
  | .hbm, ⟨5, _⟩ => ⟨S688x2048, .f32⟩
  | .hbm, ⟨6, _⟩ => ⟨S688x2048, .f32⟩
  | .hbm, ⟨7, _⟩ => ⟨S688x2048, .f32⟩
  | .local _ .vmem, ⟨0, _⟩ => ⟨S8x16x2048, .bf16⟩
  | .local _ .vmem, ⟨1, _⟩ => ⟨S8x16x2048, .bf16⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | _, _ => ⟨S8x688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdDownIdeal.lean ====
abbrev S8x688x2048 : Shape := ⟨3, ![8, 688, 2048]⟩
abbrev S688x2048 : Shape := ⟨2, ![688, 2048]⟩
abbrev S8x16x2048 : Shape := ⟨3, ![8, 16, 2048]⟩
abbrev S16x2048 : Shape := ⟨2, ![16, 2048]⟩
abbrev S1x16x2048 : Shape := ⟨3, ![1, 16, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x688x2048, .bf16⟩
  | .hbm, ⟨1, _⟩ => ⟨S688x2048, .f32⟩
  | .hbm, ⟨2, _⟩ => ⟨S688x2048, .f32⟩
  | .hbm, ⟨3, _⟩ => ⟨S688x2048, .f32⟩
  | .hbm, ⟨4, _⟩ => ⟨S688x2048, .f32⟩
  | .hbm, ⟨5, _⟩ => ⟨S688x2048, .f32⟩
  | .hbm, ⟨6, _⟩ => ⟨S688x2048, .f32⟩
  | .hbm, ⟨7, _⟩ => ⟨S688x2048, .f32⟩
  | .local _ .vmem, ⟨0, _⟩ => ⟨S8x16x2048, .bf16⟩
  | .local _ .vmem, ⟨1, _⟩ => ⟨S8x16x2048, .bf16⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | _, _ => ⟨S8x688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdDownReferenceIdeal.lean ====
abbrev S8x688x2048 : Shape := ⟨3, ![8, 688, 2048]⟩
abbrev S688x2048 : Shape := ⟨2, ![688, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x688x2048, .bf16⟩
  | .hbm, ⟨1, _⟩ => ⟨S688x2048, .f32⟩
  | .hbm, ⟨2, _⟩ => ⟨S688x2048, .f32⟩
  | .hbm, ⟨3, _⟩ => ⟨S688x2048, .f32⟩
  | .hbm, ⟨4, _⟩ => ⟨S8x688x2048, .f32⟩
  | .hbm, ⟨5, _⟩ => ⟨S_, .f32⟩
  | .hbm, ⟨6, _⟩ => ⟨S688x2048, .f32⟩
  | .hbm, ⟨7, _⟩ => ⟨S_, .f32⟩
  | .hbm, ⟨8, _⟩ => ⟨S688x2048, .f32⟩
  | .hbm, ⟨9, _⟩ => ⟨S688x2048, .f32⟩
  | .hbm, ⟨10, _⟩ => ⟨S_, .f32⟩
  | .hbm, ⟨11, _⟩ => ⟨S688x2048, .f32⟩
  | .hbm, ⟨12, _⟩ => ⟨S688x2048, .f32⟩
  | .hbm, ⟨13, _⟩ => ⟨S688x2048, .f32⟩
  | .hbm, ⟨14, _⟩ => ⟨S_, .f32⟩
  | .hbm, ⟨15, _⟩ => ⟨S688x2048, .f32⟩
  | .hbm, ⟨16, _⟩ => ⟨S688x2048, .f32⟩
  | .hbm, ⟨17, _⟩ => ⟨S688x2048, .f32⟩
  | .hbm, ⟨18, _⟩ => ⟨S_, .f32⟩
  | .hbm, ⟨19, _⟩ => ⟨S688x2048, .f32⟩
  | .hbm, ⟨20, _⟩ => ⟨S688x2048, .f32⟩
  | .hbm, ⟨21, _⟩ => ⟨S688x2048, .f32⟩
  | .hbm, ⟨22, _⟩ => ⟨S_, .f32⟩
  | .hbm, ⟨23, _⟩ => ⟨S688x2048, .f32⟩
  | .hbm, ⟨24, _⟩ => ⟨S688x2048, .f32⟩
  | .hbm, ⟨25, _⟩ => ⟨S_, .f32⟩
  | .hbm, ⟨26, _⟩ => ⟨S688x2048, .f32⟩
  | .hbm, ⟨27, _⟩ => ⟨S688x2048, .f32⟩
  | .hbm, ⟨28, _⟩ => ⟨S688x2048, .f32⟩
  | .hbm, ⟨29, _⟩ => ⟨S_, .f32⟩
  | .hbm, ⟨30, _⟩ => ⟨S688x2048, .f32⟩
  | .hbm, ⟨31, _⟩ => ⟨S688x2048, .f32⟩
  | .hbm, ⟨32, _⟩ => ⟨S688x2048, .f32⟩
  | .hbm, ⟨33, _⟩ => ⟨S_, .f32⟩
  | .hbm, ⟨34, _⟩ => ⟨S688x2048, .f32⟩
  | .hbm, ⟨35, _⟩ => ⟨S688x2048, .f32⟩
  | .hbm, ⟨36, _⟩ => ⟨S688x2048, .f32⟩
  | .hbm, ⟨37, _⟩ => ⟨S_, .f32⟩
  | .hbm, ⟨38, _⟩ => ⟨S688x2048, .f32⟩
  | .hbm, ⟨39, _⟩ => ⟨S688x2048, .f32⟩
  | _, _ => ⟨S8x688x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdConv.lean ====
abbrev S8x4x768 : Shape := ⟨3, ![8, 4, 768]⟩
abbrev S4x768 : Shape := ⟨2, ![4, 768]⟩
abbrev S1x4x768 : Shape := ⟨3, ![1, 4, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x768, .f32⟩
  | .local _ .vmem, ⟨0, _⟩ => ⟨S8x4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | _, _ => ⟨S8x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdConvIdeal.lean ====
abbrev S8x4x768 : Shape := ⟨3, ![8, 4, 768]⟩
abbrev S4x768 : Shape := ⟨2, ![4, 768]⟩
abbrev S1x4x768 : Shape := ⟨3, ![1, 4, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x768, .f32⟩
  | .local _ .vmem, ⟨0, _⟩ => ⟨S8x4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | _, _ => ⟨S8x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdConvReferenceIdeal.lean ====
abbrev S8x4x768 : Shape := ⟨3, ![8, 4, 768]⟩
abbrev S4x768 : Shape := ⟨2, ![4, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x768, .f32⟩
  | .hbm, ⟨1, _⟩ => ⟨S4x768, .f32⟩
  | .hbm, ⟨2, _⟩ => ⟨S4x768, .f32⟩
  | .hbm, ⟨3, _⟩ => ⟨S4x768, .f32⟩
  | .hbm, ⟨4, _⟩ => ⟨S_, .f32⟩
  | .hbm, ⟨5, _⟩ => ⟨S4x768, .f32⟩
  | .hbm, ⟨6, _⟩ => ⟨S_, .f32⟩
  | .hbm, ⟨7, _⟩ => ⟨S4x768, .f32⟩
  | .hbm, ⟨8, _⟩ => ⟨S4x768, .f32⟩
  | .hbm, ⟨9, _⟩ => ⟨S_, .f32⟩
  | .hbm, ⟨10, _⟩ => ⟨S4x768, .f32⟩
  | .hbm, ⟨11, _⟩ => ⟨S4x768, .f32⟩
  | .hbm, ⟨12, _⟩ => ⟨S4x768, .f32⟩
  | .hbm, ⟨13, _⟩ => ⟨S_, .f32⟩
  | .hbm, ⟨14, _⟩ => ⟨S4x768, .f32⟩
  | .hbm, ⟨15, _⟩ => ⟨S4x768, .f32⟩
  | .hbm, ⟨16, _⟩ => ⟨S4x768, .f32⟩
  | .hbm, ⟨17, _⟩ => ⟨S_, .f32⟩
  | .hbm, ⟨18, _⟩ => ⟨S4x768, .f32⟩
  | .hbm, ⟨19, _⟩ => ⟨S4x768, .f32⟩
  | .hbm, ⟨20, _⟩ => ⟨S4x768, .f32⟩
  | .hbm, ⟨21, _⟩ => ⟨S_, .f32⟩
  | .hbm, ⟨22, _⟩ => ⟨S4x768, .f32⟩
  | .hbm, ⟨23, _⟩ => ⟨S4x768, .f32⟩
  | .hbm, ⟨24, _⟩ => ⟨S_, .f32⟩
  | .hbm, ⟨25, _⟩ => ⟨S4x768, .f32⟩
  | .hbm, ⟨26, _⟩ => ⟨S4x768, .f32⟩
  | .hbm, ⟨27, _⟩ => ⟨S4x768, .f32⟩
  | .hbm, ⟨28, _⟩ => ⟨S_, .f32⟩
  | .hbm, ⟨29, _⟩ => ⟨S4x768, .f32⟩
  | .hbm, ⟨30, _⟩ => ⟨S4x768, .f32⟩
  | .hbm, ⟨31, _⟩ => ⟨S4x768, .f32⟩
  | .hbm, ⟨32, _⟩ => ⟨S_, .f32⟩
  | .hbm, ⟨33, _⟩ => ⟨S4x768, .f32⟩
  | .hbm, ⟨34, _⟩ => ⟨S4x768, .f32⟩
  | .hbm, ⟨35, _⟩ => ⟨S4x768, .f32⟩
  | .hbm, ⟨36, _⟩ => ⟨S_, .f32⟩
  | .hbm, ⟨37, _⟩ => ⟨S4x768, .f32⟩
  | .hbm, ⟨38, _⟩ => ⟨S4x768, .f32⟩
  | _, _ => ⟨S8x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdFfnConv.lean ====
abbrev S8x3x1376 : Shape := ⟨3, ![8, 3, 1376]⟩
abbrev S3x1376 : Shape := ⟨2, ![3, 1376]⟩
abbrev S1x3x1376 : Shape := ⟨3, ![1, 3, 1376]⟩

abbrev nBuf : Space → Nat
  | .hbm => 8
  | .vmem => 8
  | .smem => 0
  | _ => 0

abbrev bufTy : (tb : Table) → Fin (tcTables nBuf tb) → BufTy
  | .hbm, ⟨0, _⟩ => ⟨S8x3x1376, .f32⟩
  | .hbm, ⟨1, _⟩ => ⟨S3x1376, .f32⟩
  | .hbm, ⟨2, _⟩ => ⟨S3x1376, .f32⟩
  | .hbm, ⟨3, _⟩ => ⟨S3x1376, .f32⟩
  | .hbm, ⟨4, _⟩ => ⟨S3x1376, .f32⟩
  | .hbm, ⟨5, _⟩ => ⟨S3x1376, .f32⟩
  | .hbm, ⟨6, _⟩ => ⟨S3x1376, .f32⟩
  | .hbm, ⟨7, _⟩ => ⟨S3x1376, .f32⟩
  | .local _ .vmem, ⟨0, _⟩ => ⟨S8x3x1376, .f32⟩
  | .local _ .vmem, ⟨1, _⟩ => ⟨S3x1376, .f32⟩
  | .local _ .vmem, ⟨2, _⟩ => ⟨S3x1376, .f32⟩
  | .local _ .vmem, ⟨3, _⟩ => ⟨S3x1376, .f32⟩
  | .local _ .vmem, ⟨4, _⟩ => ⟨S3x1376, .f32⟩
  | .local _ .vmem, ⟨5, _⟩ => ⟨S3x1376, .f32⟩
  | .local _ .vmem, ⟨6, _⟩ => ⟨S3x1376, .f32⟩
  | .local _ .vmem, ⟨7, _⟩ => ⟨S3x1376, .f32⟩
  | _, _ => ⟨S8x3x1376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x1376 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1376 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1376 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1376 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdFfnConvIdeal.lean ====
abbrev S8x3x1376 : Shape := ⟨3, ![8, 3, 1376]⟩
abbrev S3x1376 : Shape := ⟨2, ![3, 1376]⟩
abbrev S1x3x1376 : Shape := ⟨3, ![1, 3, 1376]⟩

abbrev nBuf : Space → Nat
  | .hbm => 8
  | .vmem => 8
  | .smem => 0
  | _ => 0

abbrev bufTy : (tb : Table) → Fin (tcTables nBuf tb) → BufTy
  | .hbm, ⟨0, _⟩ => ⟨S8x3x1376, .f32⟩
  | .hbm, ⟨1, _⟩ => ⟨S3x1376, .f32⟩
  | .hbm, ⟨2, _⟩ => ⟨S3x1376, .f32⟩
  | .hbm, ⟨3, _⟩ => ⟨S3x1376, .f32⟩
  | .hbm, ⟨4, _⟩ => ⟨S3x1376, .f32⟩
  | .hbm, ⟨5, _⟩ => ⟨S3x1376, .f32⟩
  | .hbm, ⟨6, _⟩ => ⟨S3x1376, .f32⟩
  | .hbm, ⟨7, _⟩ => ⟨S3x1376, .f32⟩
  | .local _ .vmem, ⟨0, _⟩ => ⟨S8x3x1376, .f32⟩
  | .local _ .vmem, ⟨1, _⟩ => ⟨S3x1376, .f32⟩
  | .local _ .vmem, ⟨2, _⟩ => ⟨S3x1376, .f32⟩
  | .local _ .vmem, ⟨3, _⟩ => ⟨S3x1376, .f32⟩
  | .local _ .vmem, ⟨4, _⟩ => ⟨S3x1376, .f32⟩
  | .local _ .vmem, ⟨5, _⟩ => ⟨S3x1376, .f32⟩
  | .local _ .vmem, ⟨6, _⟩ => ⟨S3x1376, .f32⟩
  | .local _ .vmem, ⟨7, _⟩ => ⟨S3x1376, .f32⟩
  | _, _ => ⟨S8x3x1376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x1376 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1376 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1376 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1376 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdFfnConvReferenceIdeal.lean ====
abbrev S8x3x1376 : Shape := ⟨3, ![8, 3, 1376]⟩
abbrev S3x1376 : Shape := ⟨2, ![3, 1376]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x1376, .f32⟩
  | .hbm, ⟨1, _⟩ => ⟨S3x1376, .f32⟩
  | .hbm, ⟨2, _⟩ => ⟨S3x1376, .f32⟩
  | .hbm, ⟨3, _⟩ => ⟨S3x1376, .f32⟩
  | .hbm, ⟨4, _⟩ => ⟨S_, .f32⟩
  | .hbm, ⟨5, _⟩ => ⟨S3x1376, .f32⟩
  | .hbm, ⟨6, _⟩ => ⟨S_, .f32⟩
  | .hbm, ⟨7, _⟩ => ⟨S3x1376, .f32⟩
  | .hbm, ⟨8, _⟩ => ⟨S3x1376, .f32⟩
  | .hbm, ⟨9, _⟩ => ⟨S_, .f32⟩
  | .hbm, ⟨10, _⟩ => ⟨S3x1376, .f32⟩
  | .hbm, ⟨11, _⟩ => ⟨S3x1376, .f32⟩
  | .hbm, ⟨12, _⟩ => ⟨S3x1376, .f32⟩
  | .hbm, ⟨13, _⟩ => ⟨S_, .f32⟩
  | .hbm, ⟨14, _⟩ => ⟨S3x1376, .f32⟩
  | .hbm, ⟨15, _⟩ => ⟨S3x1376, .f32⟩
  | .hbm, ⟨16, _⟩ => ⟨S3x1376, .f32⟩
  | .hbm, ⟨17, _⟩ => ⟨S_, .f32⟩
  | .hbm, ⟨18, _⟩ => ⟨S3x1376, .f32⟩
  | .hbm, ⟨19, _⟩ => ⟨S3x1376, .f32⟩
  | .hbm, ⟨20, _⟩ => ⟨S3x1376, .f32⟩
  | .hbm, ⟨21, _⟩ => ⟨S_, .f32⟩
  | .hbm, ⟨22, _⟩ => ⟨S3x1376, .f32⟩
  | .hbm, ⟨23, _⟩ => ⟨S3x1376, .f32⟩
  | .hbm, ⟨24, _⟩ => ⟨S_, .f32⟩
  | .hbm, ⟨25, _⟩ => ⟨S3x1376, .f32⟩
  | .hbm, ⟨26, _⟩ => ⟨S3x1376, .f32⟩
  | .hbm, ⟨27, _⟩ => ⟨S3x1376, .f32⟩
  | .hbm, ⟨28, _⟩ => ⟨S_, .f32⟩
  | .hbm, ⟨29, _⟩ => ⟨S3x1376, .f32⟩
  | .hbm, ⟨30, _⟩ => ⟨S3x1376, .f32⟩
  | .hbm, ⟨31, _⟩ => ⟨S3x1376, .f32⟩
  | .hbm, ⟨32, _⟩ => ⟨S_, .f32⟩
  | .hbm, ⟨33, _⟩ => ⟨S3x1376, .f32⟩
  | .hbm, ⟨34, _⟩ => ⟨S3x1376, .f32⟩
  | .hbm, ⟨35, _⟩ => ⟨S3x1376, .f32⟩
  | .hbm, ⟨36, _⟩ => ⟨S_, .f32⟩
  | .hbm, ⟨37, _⟩ => ⟨S3x1376, .f32⟩
  | .hbm, ⟨38, _⟩ => ⟨S3x1376, .f32⟩
  | _, _ => ⟨S8x3x1376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdPool.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdPoolIdeal.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdPoolReferenceIdeal.lean ====
abbrev S8x128x256 : Shape := ⟨3, ![8, 128, 256]⟩
abbrev S128x256 : Shape := ⟨2, ![128, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S_, .f32⟩
  | .hbm, ⟨7, _⟩ => ⟨S128x256, .f32⟩
  | .hbm, ⟨8, _⟩ => ⟨S128x256, .f32⟩
  | .hbm, ⟨9, _⟩ => ⟨S_, .f32⟩
  | .hbm, ⟨10, _⟩ => ⟨S128x256, .f32⟩
  | .hbm, ⟨11, _⟩ => ⟨S128x256, .f32⟩
  | .hbm, ⟨12, _⟩ => ⟨S128x256, .f32⟩
  | .hbm, ⟨13, _⟩ => ⟨S_, .f32⟩
  | .hbm, ⟨14, _⟩ => ⟨S128x256, .f32⟩
  | .hbm, ⟨15, _⟩ => ⟨S128x256, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdSmall.lean ====
abbrev S8x216x128 : Shape := ⟨3, ![8, 216, 128]⟩
abbrev S216x128 : Shape := ⟨2, ![216, 128]⟩
abbrev S1x216x128 : Shape := ⟨3, ![1, 216, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x216x128, .f32⟩
  | .hbm, ⟨1, _⟩ => ⟨S216x128, .f32⟩
  | .hbm, ⟨2, _⟩ => ⟨S216x128, .f32⟩
  | .hbm, ⟨3, _⟩ => ⟨S216x128, .f32⟩
  | .hbm, ⟨4, _⟩ => ⟨S216x128, .f32⟩
  | .hbm, ⟨5, _⟩ => ⟨S216x128, .f32⟩
  | .hbm, ⟨6, _⟩ => ⟨S216x128, .f32⟩
  | .hbm, ⟨7, _⟩ => ⟨S216x128, .f32⟩
  | .local _ .vmem, ⟨0, _⟩ => ⟨S8x216x128, .f32⟩
  | .local _ .vmem, ⟨1, _⟩ => ⟨S216x128, .f32⟩
  | .local _ .vmem, ⟨2, _⟩ => ⟨S216x128, .f32⟩
  | .local _ .vmem, ⟨3, _⟩ => ⟨S216x128, .f32⟩
  | .local _ .vmem, ⟨4, _⟩ => ⟨S216x128, .f32⟩
  | .local _ .vmem, ⟨5, _⟩ => ⟨S216x128, .f32⟩
  | .local _ .vmem, ⟨6, _⟩ => ⟨S216x128, .f32⟩
  | .local _ .vmem, ⟨7, _⟩ => ⟨S216x128, .f32⟩
  | _, _ => ⟨S8x216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S216x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSmallReferenceIdeal.lean ====
abbrev S8x216x128 : Shape := ⟨3, ![8, 216, 128]⟩
abbrev S216x128 : Shape := ⟨2, ![216, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x216x128, .f32⟩
  | .hbm, ⟨1, _⟩ => ⟨S216x128, .f32⟩
  | .hbm, ⟨2, _⟩ => ⟨S216x128, .f32⟩
  | .hbm, ⟨3, _⟩ => ⟨S216x128, .f32⟩
  | .hbm, ⟨4, _⟩ => ⟨S_, .f32⟩
  | .hbm, ⟨5, _⟩ => ⟨S216x128, .f32⟩
  | .hbm, ⟨6, _⟩ => ⟨S_, .f32⟩
  | .hbm, ⟨7, _⟩ => ⟨S216x128, .f32⟩
  | .hbm, ⟨8, _⟩ => ⟨S216x128, .f32⟩
  | .hbm, ⟨9, _⟩ => ⟨S_, .f32⟩
  | .hbm, ⟨10, _⟩ => ⟨S216x128, .f32⟩
  | .hbm, ⟨11, _⟩ => ⟨S216x128, .f32⟩
  | .hbm, ⟨12, _⟩ => ⟨S216x128, .f32⟩
  | .hbm, ⟨13, _⟩ => ⟨S_, .f32⟩
  | .hbm, ⟨14, _⟩ => ⟨S216x128, .f32⟩
  | .hbm, ⟨15, _⟩ => ⟨S216x128, .f32⟩
  | .hbm, ⟨16, _⟩ => ⟨S216x128, .f32⟩
  | .hbm, ⟨17, _⟩ => ⟨S_, .f32⟩
  | .hbm, ⟨18, _⟩ => ⟨S216x128, .f32⟩
  | .hbm, ⟨19, _⟩ => ⟨S216x128, .f32⟩
  | .hbm, ⟨20, _⟩ => ⟨S216x128, .f32⟩
  | .hbm, ⟨21, _⟩ => ⟨S_, .f32⟩
  | .hbm, ⟨22, _⟩ => ⟨S216x128, .f32⟩
  | .hbm, ⟨23, _⟩ => ⟨S216x128, .f32⟩
  | .hbm, ⟨24, _⟩ => ⟨S_, .f32⟩
  | .hbm, ⟨25, _⟩ => ⟨S216x128, .f32⟩
  | .hbm, ⟨26, _⟩ => ⟨S216x128, .f32⟩
  | .hbm, ⟨27, _⟩ => ⟨S216x128, .f32⟩
  | .hbm, ⟨28, _⟩ => ⟨S_, .f32⟩
  | .hbm, ⟨29, _⟩ => ⟨S216x128, .f32⟩
  | .hbm, ⟨30, _⟩ => ⟨S216x128, .f32⟩
  | .hbm, ⟨31, _⟩ => ⟨S216x128, .f32⟩
  | .hbm, ⟨32, _⟩ => ⟨S_, .f32⟩
  | .hbm, ⟨33, _⟩ => ⟨S216x128, .f32⟩
  | .hbm, ⟨34, _⟩ => ⟨S216x128, .f32⟩
  | .hbm, ⟨35, _⟩ => ⟨S216x128, .f32⟩
  | .hbm, ⟨36, _⟩ => ⟨S_, .f32⟩
  | .hbm, ⟨37, _⟩ => ⟨S216x128, .f32⟩
  | .hbm, ⟨38, _⟩ => ⟨S216x128, .f32⟩
  | _, _ => ⟨S8x216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== MergeBwd.lean ====
abbrev S8192x13824 : Shape := ⟨2, ![8192, 13824]⟩
abbrev S8192x2048 : Shape := ⟨2, ![8192, 2048]⟩
abbrev S512x2048 : Shape := ⟨2, ![512, 2048]⟩

abbrev nBuf : Space → Nat
  | .hbm => 8
  | .vmem => 18
  | .smem => 0
  | _ => 0

abbrev bufTy : (tb : Table) → Fin (tcTables nBuf tb) → BufTy
  | .hbm, ⟨0, _⟩ => ⟨S8192x13824, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdReferenceIdeal.lean ====
abbrev S8192x13824 : Shape := ⟨2, ![8192, 13824]⟩
abbrev S8192x2048 : Shape := ⟨2, ![8192, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | .hbm, ⟨45, _⟩ => ⟨S8192x2048, .bf16⟩
  | .hbm, ⟨46, _⟩ => ⟨S8192x2048, .bf16⟩
  | .hbm, ⟨47, _⟩ => ⟨S8192x2048, .bf16⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== XaFwd.lean ====
abbrev S8192x2048 : Shape := ⟨2, ![8192, 2048]⟩
abbrev S256x4096 : Shape := ⟨2, ![256, 4096]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XaFwdReferenceIdeal.lean ====
abbrev S8192x2048 : Shape := ⟨2, ![8192, 2048]⟩
abbrev S256x4096 : Shape := ⟨2, ![256, 4096]⟩
abbrev S8192x4x512 : Shape := ⟨3, ![8192, 4, 512]⟩
abbrev S256x2048 : Shape := ⟨2, ![256, 2048]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .f32⟩
  | .hbm, ⟨3, _⟩ => ⟨S8192x4x512, .f32⟩
  | .hbm, ⟨4, _⟩ => ⟨S256x4096, .f32⟩
  | .hbm, ⟨5, _⟩ => ⟨S256x2048, .f32⟩
  | .hbm, ⟨6, _⟩ => ⟨S256x2048, .f32⟩
  | .hbm, ⟨7, _⟩ => ⟨S256x4x512, .f32⟩
  | .hbm, ⟨8, _⟩ => ⟨S256x4x512, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x512x8192, .f32⟩
  | .hbm, ⟨28, _⟩ => ⟨S8192x4x512, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S1x128 : Shape := ⟨2, ![1, 128]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S1x8x2048 : Shape := ⟨3, ![1, 8, 2048]⟩
abbrev S1 : Shape := ⟨1, ![1]⟩
abbrev S1x1x1 : Shape := ⟨3, ![1, 1, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x128, .f32⟩
  | .local _ .vmem, ⟨10, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v32 : BitVec 1 := Scalar.cmpi .eq arg0 c15_i32
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Prenorm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PostPre.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostPreReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Merge.lean ====
abbrev S8192x13824 : Shape := ⟨2, ![8192, 13824]⟩
abbrev S8192x2048 : Shape := ⟨2, ![8192, 2048]⟩
abbrev S512x2048 : Shape := ⟨2, ![512, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x13824, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeReferenceIdeal.lean ====
abbrev S8192x13824 : Shape := ⟨2, ![8192, 13824]⟩
abbrev S8192x2048 : Shape := ⟨2, ![8192, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.XaCases.lean ====
/-
  What one grid point of the cross-attention backward kernel leaves in its output buffer and in the two sums it
  carries, as functions of the point's input blocks and of what the point before left.
-/
module

public import proofs.«01_k».proof.Proof.Gen.KernelIdeal.Frame
public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Xa

open Cert.KernelIdeal Cert.KernelIdeal.Gen Cert.KernelIdeal.Value

variable {F : FTy → Type} [FloatOps F]

theorem origin : (![0, 0] : Fin 2 → Nat) = fun _ => 0 := funext fun a => by fin_cases a <;> rfl

/-- The block of zeros both sums start from. -/
abbrev zeros : Vec F S256x512 .f32 := constant S256x512 .f32 0x00000000#32

/-- The sum for the keys' gradient after one more row tile. -/
abbrev kStep (q : Vec F S512x512 .bf16) (k v : Vec F S256x512 .bf16) (d : Vec F S512x512 .bf16) (acc : Vec F S256x512 .f32) : Vec F S256x512 .f32 :=
  k0_pay1 q (k0_pay4 q k v d) acc zeros

/-- The sum for the values' gradient after one more row tile. -/
abbrev vStep (q : Vec F S512x512 .bf16) (k : Vec F S256x512 .bf16) (d : Vec F S512x512 .bf16) (acc : Vec F S256x512 .f32) : Vec F S256x512 .f32 :=
  k0_pay2 d (k0_pay3 q k) acc

section
variable (c : Dev nD) (i : grid0.Coords) (a2 : Memref sig .tc .vmem S512x512 .bf16) (h2 : a2.IsWhole) (a3 : Memref sig .tc .vmem S256x512 .bf16) (h3 : a3.IsWhole) (a4 : Memref sig .tc .vmem S256x512 .bf16) (h4 : a4.IsWhole) (a5 : Memref sig .tc .vmem S512x512 .bf16) (h5 : a5.IsWhole) (a6 : Memref sig .tc .vmem S512x512 .bf16) (h6 : a6.IsWhole) (a7 : Memref sig .tc .vmem S256x512 .f32) (h7 : a7.IsWhole) (a8 : Memref sig .tc .vmem S256x512 .f32) (h8 : a8.IsWhole) (a9 : Memref sig .tc .vmem S256x512 .f32) (h9 : a9.IsWhole) (a10 : Memref sig .tc .vmem S256x512 .f32) (h10 : a10.IsWhole)
variable (q : Vec F S512x512 .bf16) (k v : Vec F S256x512 .bf16) (d : Vec F S512x512 .bf16) (ka va : Vec F S256x512 .f32)

/-- Case A: the block of the queries' gradient. -/
theorem out0_A_4_eq (hc0 : cond0_0 i) (hc1 : ¬cond0_1 i) :
    out0_A_4 c i a2 h2 a3 h3 a4 h4 a5 h5 a6 h6 a7 h7 a8 h8 a9 h9 a10 h10 hc0 hc1 q k v d = k0_pay5 q k v d := by
  unfold out0_A_4
  rw [View.read_writes_eq_canon _ _ _ (cover0_A_4 c i a2 h2 a3 h3 a4 h4 a5 h5 a6 h6 a7 h7 a8 h8 a9 h9 a10 h10 hc0 hc1 q k v d)]
  unfold kernelRun0_A
  dsimp only
  rw [View.canon_unit_zero origin]
  simp only [View.readAt_eq_ld, h2.read_unread, h3.read_unread, h4.read_unread, h5.read_unread, h9.read_unread, h10.read_unread, View.ld_unit_zero (S := S512x512) origin, View.ld_unit_zero (S := S256x512) origin]

/-- Case A: the sum for the keys' gradient. -/
theorem sout0_A_0_eq (hc0 : cond0_0 i) (hc1 : ¬cond0_1 i) :
    sout0_A_0 c i a2 h2 a3 h3 a4 h4 a5 h5 a6 h6 a7 h7 a8 h8 a9 h9 a10 h10 hc0 hc1 q k v d = kStep q k v d k0_pay6 := by
  unfold sout0_A_0
  rw [View.read_writes_eq_canon _ _ _ (scover0_A_0 c i a2 h2 a3 h3 a4 h4 a5 h5 a6 h6 a7 h7 a8 h8 a9 h9 a10 h10 hc0 hc1 q k v d)]
  unfold kernelRun0_A
  dsimp only
  sl_unfold_words
  rw [View.canon_cons_unit_zero (S := S256x512) origin, View.readCov_unit_zero (S := S256x512) _ origin]
  simp only [View.readAt_eq_ld, h2.read_unread, h3.read_unread, h4.read_unread, h5.read_unread, h9.read_unread, h10.read_unread, View.ld_unit_zero (S := S512x512) origin, View.ld_unit_zero (S := S256x512) origin]

/-- Case A: the sum for the values' gradient. -/
theorem sout0_A_1_eq (hc0 : cond0_0 i) (hc1 : ¬cond0_1 i) :
    sout0_A_1 c i a2 h2 a3 h3 a4 h4 a5 h5 a6 h6 a7 h7 a8 h8 a9 h9 a10 h10 hc0 hc1 q k v d = vStep q k d k0_pay7 := by
  unfold sout0_A_1
  rw [View.read_writes_eq_canon _ _ _ (scover0_A_1 c i a2 h2 a3 h3 a4 h4 a5 h5 a6 h6 a7 h7 a8 h8 a9 h9 a10 h10 hc0 hc1 q k v d)]
  unfold kernelRun0_A
  dsimp only
  sl_unfold_words
  rw [View.canon_cons_unit_zero (S := S256x512) origin, View.readCov_unit_zero (S := S256x512) _ origin]
  simp only [View.readAt_eq_ld, h2.read_unread, h3.read_unread, h4.read_unread, h5.read_unread, h9.read_unread, h10.read_unread, View.ld_unit_zero (S := S512x512) origin, View.ld_unit_zero (S := S256x512) origin]

/-- Case B: the block of the queries' gradient. -/
theorem out0_B_4_eq (hc0 : ¬cond0_0 i) (hc1 : ¬cond0_1 i) :
    out0_B_4 c i a2 h2 a3 h3 a4 h4 a5 h5 a6 h6 a7 h7 a8 h8 a9 h9 a10 h10 hc0 hc1 q k v d ka va = k0_pay5 q k v d := by
  unfold out0_B_4
  rw [View.read_writes_eq_canon _ _ _ (cover0_B_4 c i a2 h2 a3 h3 a4 h4 a5 h5 a6 h6 a7 h7 a8 h8 a9 h9 a10 h10 hc0 hc1 q k v d ka va)]
  unfold kernelRun0_B
  dsimp only
  sl_unfold_words
  rw [View.canon_unit_zero origin]
  simp only [View.readAt_eq_ld, h2.read_unread, h3.read_unread, h4.read_unread, h5.read_unread, h9.read_unread, h10.read_unread, View.ld_unit_zero (S := S512x512) origin, View.ld_unit_zero (S := S256x512) origin]

/-- Case B: the sum for the keys' gradient. -/
theorem sout0_B_0_eq (hc0 : ¬cond0_0 i) (hc1 : ¬cond0_1 i) :
    sout0_B_0 c i a2 h2 a3 h3 a4 h4 a5 h5 a6 h6 a7 h7 a8 h8 a9 h9 a10 h10 hc0 hc1 q k v d ka va = kStep q k v d ka := by
  unfold sout0_B_0
  rw [View.read_writes_eq_canon _ _ _ (scover0_B_0 c i a2 h2 a3 h3 a4 h4 a5 h5 a6 h6 a7 h7 a8 h8 a9 h9 a10 h10 hc0 hc1 q k v d ka va)]
  unfold kernelRun0_B
  dsimp only
  sl_unfold_words
  rw [View.canon_unit_zero origin]
  simp only [View.readAt_eq_ld, h2.read_unread, h3.read_unread, h4.read_unread, h5.read_unread, h9.read_unread, h10.read_unread, View.ld_unit_zero (S := S512x512) origin, View.ld_unit_zero (S := S256x512) origin]

/-- Case B: the sum for the values' gradient. -/
theorem sout0_B_1_eq (hc0 : ¬cond0_0 i) (hc1 : ¬cond0_1 i) :
    sout0_B_1 c i a2 h2 a3 h3 a4 h4 a5 h5 a6 h6 a7 h7 a8 h8 a9 h9 a10 h10 hc0 hc1 q k v d ka va = vStep q k d va := by
  unfold sout0_B_1
  rw [View.read_writes_eq_canon _ _ _ (scover0_B_1 c i a2 h2 a3 h3 a4 h4 a5 h5 a6 h6 a7 h7 a8 h8 a9 h9 a10 h10 hc0 hc1 q k v d ka va)]
  unfold kernelRun0_B
  dsimp only
  sl_unfold_words
  rw [View.canon_unit_zero origin]
  simp only [View.readAt_eq_ld, h2.read_unread, h3.read_unread, h4.read_unread, h5.read_unread, h9.read_unread, h10.read_unread, View.ld_unit_zero (S := S512x512) origin, View.ld_unit_zero (S := S256x512) origin]

/-- Case C: the block of the queries' gradient. -/
theorem out0_C_4_eq (hc0 : ¬cond0_0 i) (hc1 : cond0_1 i) :
    out0_C_4 c i a2 h2 a3 h3 a4 h4 a5 h5 a6 h6 a7 h7 a8 h8 a9 h9 a10 h10 hc0 hc1 q k v d ka va = k0_pay5 q k v d := by
  unfold out0_C_4
  rw [View.read_writes_eq_canon _ _ _ (cover0_C_4 c i a2 h2 a3 h3 a4 h4 a5 h5 a6 h6 a7 h7 a8 h8 a9 h9 a10 h10 hc0 hc1 q k v d ka va)]
  unfold kernelRun0_C
  dsimp only
  sl_unfold_words
  rw [View.canon_unit_zero origin]
  simp only [View.readAt_eq_ld, h2.read_unread, h3.read_unread, h4.read_unread, h5.read_unread, h9.read_unread, h10.read_unread, View.ld_unit_zero (S := S512x512) origin, View.ld_unit_zero (S := S256x512) origin]

/-- Case C: the sum for the keys' gradient. -/
theorem sout0_C_0_eq (hc0 : ¬cond0_0 i) (hc1 : cond0_1 i) :
    sout0_C_0 c i a2 h2 a3 h3 a4 h4 a5 h5 a6 h6 a7 h7 a8 h8 a9 h9 a10 h10 hc0 hc1 q k v d ka va = kStep q k v d ka := by
  unfold sout0_C_0
  rw [View.read_writes_eq_canon _ _ _ (scover0_C_0 c i a2 h2 a3 h3 a4 h4 a5 h5 a6 h6 a7 h7 a8 h8 a9 h9 a10 h10 hc0 hc1 q k v d ka va)]
  unfold kernelRun0_C
  dsimp only
  sl_unfold_words
  rw [View.canon_unit_zero origin]
  simp only [View.readAt_eq_ld, h2.read_unread, h3.read_unread, h4.read_unread, h5.read_unread, h9.read_unread, h10.read_unread, View.ld_unit_zero (S := S512x512) origin, View.ld_unit_zero (S := S256x512) origin]

/-- Case C: the sum for the values' gradient. -/
theorem sout0_C_1_eq (hc0 : ¬cond0_0 i) (hc1 : cond0_1 i) :
    sout0_C_1 c i a2 h2 a3 h3 a4 h4 a5 h5 a6 h6 a7 h7 a8 h8 a9 h9 a10 h10 hc0 hc1 q k v d ka va = vStep q k d va := by
  unfold sout0_C_1
  rw [View.read_writes_eq_canon _ _ _ (scover0_C_1 c i a2 h2 a3 h3 a4 h4 a5 h5 a6 h6 a7 h7 a8 h8 a9 h9 a10 h10 hc0 hc1 q k v d ka va)]
  unfold kernelRun0_C
  dsimp only
  sl_unfold_words
  rw [View.canon_unit_zero origin]
  simp only [View.readAt_eq_ld, h2.read_unread, h3.read_unread, h4.read_unread, h5.read_unread, h9.read_unread, h10.read_unread, View.ld_unit_zero (S := S512x512) origin, View.ld_unit_zero (S := S256x512) origin]

/-- Case C: the block of the keys' gradient written out. -/
theorem out0_C_5_eq (hc0 : ¬cond0_0 i) (hc1 : cond0_1 i) :
    out0_C_5 c i a2 h2 a3 h3 a4 h4 a5 h5 a6 h6 a7 h7 a8 h8 a9 h9 a10 h10 hc0 hc1 q k v d ka va = kStep q k v d ka := by
  unfold out0_C_5
  rw [View.read_writes_eq_canon _ _ _ (cover0_C_5 c i a2 h2 a3 h3 a4 h4 a5 h5 a6 h6 a7 h7 a8 h8 a9 h9 a10 h10 hc0 hc1 q k v d ka va)]
  unfold kernelRun0_C
  dsimp only
  sl_unfold_words
  rw [View.canon_unit_zero origin, View.readCov_unit_zero (S := S256x512) _ origin]
  simp only [View.readAt_eq_ld, h2.read_unread, h3.read_unread, h4.read_unread, h5.read_unread, h9.read_unread, h10.read_unread, View.ld_unit_zero (S := S512x512) origin, View.ld_unit_zero (S := S256x512) origin]

/-- Case C: the block of the values' gradient written out. -/
theorem out0_C_6_eq (hc0 : ¬cond0_0 i) (hc1 : cond0_1 i) :
    out0_C_6 c i a2 h2 a3 h3 a4 h4 a5 h5 a6 h6 a7 h7 a8 h8 a9 h9 a10 h10 hc0 hc1 q k v d ka va = vStep q k d va := by
  unfold out0_C_6
  rw [View.read_writes_eq_canon _ _ _ (cover0_C_6 c i a2 h2 a3 h3 a4 h4 a5 h5 a6 h6 a7 h7 a8 h8 a9 h9 a10 h10 hc0 hc1 q k v d ka va)]
  unfold kernelRun0_C
  dsimp only
  sl_unfold_words
  rw [View.canon_unit_zero origin, View.readCov_unit_zero (S := S256x512) _ origin]
  simp only [View.readAt_eq_ld, h2.read_unread, h3.read_unread, h4.read_unread, h5.read_unread, h9.read_unread, h10.read_unread, View.ld_unit_zero (S := S512x512) origin, View.ld_unit_zero (S := S256x512) origin]

end

end Cert.Xa

end
-- ==== Proof.PrSum.lean ====
/-
  Sums taken block by block: the sum a tiled product carries from one block of the contracted axis to the next.
-/
module

public import Idealize.ShloMosaic.Lib.Pointwise

@[expose] public section

noncomputable section

open Idealize.ShloMosaic

namespace Cert.Pr

/-- The first `n` terms of a sum of `k` terms. -/
def firsts {k : ℕ} (f : Fin k → EReal) (n : ℕ) : EReal := ∑ x ∈ Finset.range n, if h : x < k then f ⟨x, h⟩ else 0

/-- All the terms. -/
theorem firsts_all {k : ℕ} (f : Fin k → EReal) : firsts f k = ∑ x, f x := by
  unfold firsts
  rw [Finset.sum_range]
  exact Finset.sum_congr rfl fun x _ => dif_pos x.isLt

/-- One more block of terms. -/
theorem firsts_add {k : ℕ} (f : Fin k → EReal) (n b : ℕ) (g : Fin b → EReal) (hb : n + b ≤ k)
    (hg : ∀ x : Fin b, g x = f ⟨n + x.val, by omega⟩) : firsts f n + ∑ x, g x = firsts f (n + b) := by
  unfold firsts
  rw [Finset.sum_range_add, Finset.sum_range (n := b)]
  refine congrArg _ (Finset.sum_congr rfl fun x _ => ?_)
  rw [dif_pos (show n + x.val < k by omega)]
  exact hg x

/-- The first block of terms. -/
theorem firsts_zero {k : ℕ} (f : Fin k → EReal) (b : ℕ) (g : Fin b → EReal) (hb : b ≤ k)
    (hg : ∀ x : Fin b, g x = f ⟨x.val, by omega⟩) : ∑ x, g x = firsts f b := by
  unfold firsts
  rw [Finset.sum_range]
  refine Finset.sum_congr rfl fun x _ => ?_
  rw [dif_pos (show x.val < k by omega)]
  exact hg x

end Cert.Pr

end
-- ==== Proof.PrTile.lean ====
/-
  A product computed tile by tile, each tile swept along the contracted axis in steps, with the sum so far carried from
  one grid point to the next: the tile of the last step is the tile of the whole product. Sizes, number of steps and
  the order of the tiles are parameters, so that each product only says which blocks its points read.
-/
module

public import proofs.«01_k».proof.Proof.PrSum
public import Idealize.ShloMosaic.Lib.ValueIdxCore

@[expose] public section

noncomputable section

open Idealize.ShloMosaic

namespace Cert.Pr

/-- Two entries of a matrix at equal coordinates. -/
theorem at2 {a b : ℕ} {α : Type} (x : (⟨2, ![a, b]⟩ : Shape).Idx → α) {p q : (⟨2, ![a, b]⟩ : Shape).Idx}
    (h0 : (p 0).val = (q 0).val) (h1 : (p 1).val = (q 1).val) : x p = x q :=
  congrArg x (funext fun d => Fin.ext (match d with | ⟨0, _⟩ => h0 | ⟨1, _⟩ => h1))

/-- Two entries of an array of three axes at equal coordinates. -/
theorem at3 {a b c : ℕ} {α : Type} (x : (⟨3, ![a, b, c]⟩ : Shape).Idx → α) {p q : (⟨3, ![a, b, c]⟩ : Shape).Idx}
    (h0 : (p 0).val = (q 0).val) (h1 : (p 1).val = (q 1).val) (h2 : (p 2).val = (q 2).val) : x p = x q :=
  congrArg x (funext fun d => Fin.ext (match d with | ⟨0, _⟩ => h0 | ⟨1, _⟩ => h1 | ⟨2, _⟩ => h2))

/-- Two matrices with the same entries are the same. -/
theorem ext2 {a b : ℕ} {α : Type} {x y : (⟨2, ![a, b]⟩ : Shape).Idx → α} (h : ∀ i j, x (ix2 i j) = y (ix2 i j)) : x = y :=
  funext fun z => by rw [eq_ix2 z]; exact h _ _

/-- The tiled product of an `m × k` by a `k × n` matrix, in tiles of `tm × tn` and `nk` steps of `tk` per tile: `l` and `r`
    are the operands by their outer and their contracted coordinate, `lb` and `rb` the blocks that a grid point reads,
    `row` and `col` the place of its tile, and `carried` the sum that it leaves. -/
structure Sweep (m n k tm tn tk nk points : ℕ) where
  l : Fin m → Fin k → EReal
  r : Fin n → Fin k → EReal
  row : ℕ → ℕ
  col : ℕ → ℕ
  lb : Fin points → Fin tm → Fin tk → EReal
  rb : Fin points → Fin tn → Fin tk → EReal
  carried : Fin points → Fin tm → Fin tn → EReal
  steps : k = nk * tk
  before : ∀ t, t % nk ≠ 0 → t % nk = (t - 1) % nk + 1 ∧ row t = row (t - 1) ∧ col t = col (t - 1)
  lb_eq : ∀ (t : Fin points) (a : Fin tm) (x : Fin tk) (i : Fin m) (q : Fin k), i.val = row t * tm + a → q.val = t % nk * tk + x →
    lb t a x = l i q
  rb_eq : ∀ (t : Fin points) (b : Fin tn) (x : Fin tk) (j : Fin n) (q : Fin k), j.val = col t * tn + b → q.val = t % nk * tk + x →
    rb t b x = r j q
  first : ∀ t : Fin points, t % nk = 0 → ∀ a b, carried t a b = ∑ x, lb t a x * rb t b x
  more : ∀ t : Fin points, t % nk ≠ 0 → t % nk ≠ nk - 1 → ∀ a b,
    carried t a b = carried ⟨t - 1, by omega⟩ a b + ∑ x, lb t a x * rb t b x

namespace Sweep
variable {m n k tm tn tk nk points : ℕ} (s : Sweep m n k tm tn tk nk points)

/-- A point's block of products, added to the terms before it. -/
theorem add_block (t : Fin points) (hq : t % nk < nk) (a : Fin tm) (b : Fin tn) (i : Fin m) (j : Fin n)
    (hi : i.val = s.row t * tm + a) (hj : j.val = s.col t * tn + b) :
    firsts (fun q => s.l i q * s.r j q) (t % nk * tk) + ∑ x, s.lb t a x * s.rb t b x
      = firsts (fun q => s.l i q * s.r j q) ((t % nk + 1) * tk) := by
  have hk : t % nk * tk + tk ≤ k := by
    rw [s.steps, ← Nat.succ_mul]
    exact Nat.mul_le_mul_right _ hq
  rw [Nat.succ_mul]
  exact firsts_add _ _ _ _ hk fun x =>
    congrArg₂ (· * ·) (s.lb_eq t a x i _ hi rfl) (s.rb_eq t b x j _ hj rfl)

/-- What a point that is not the last of its tile leaves in the carried sum. -/
theorem carried_eq (q : ℕ) (hq : q + 1 < nk) : ∀ (t : Fin points) (_ : t % nk = q) (a : Fin tm) (b : Fin tn) (i : Fin m) (j : Fin n)
    (_ : i.val = s.row t * tm + a) (_ : j.val = s.col t * tn + b),
    s.carried t a b = firsts (fun q => s.l i q * s.r j q) ((q + 1) * tk) := by
  induction q with
  | zero =>
    intro t ht a b i j hi hj
    have h := s.add_block t (by omega) a b i j hi hj
    rw [ht, Nat.zero_mul, show firsts (fun q => s.l i q * s.r j q) 0 = 0 from Finset.sum_range_zero _, zero_add] at h
    exact (s.first t ht a b).trans h
  | succ q ih =>
    intro t ht a b i j hi hj
    obtain ⟨h1, h2, h3⟩ := s.before t (by omega)
    rw [s.more t (by omega) (by omega) a b,
      ih (by omega) ⟨t - 1, by omega⟩ (by dsimp only; omega) a b i j (by rw [hi, h2]) (by rw [hj, h3])]
    have h := s.add_block t (by omega) a b i j hi hj
    rwa [ht] at h

/-- The last point of a tile completes the sum. -/
theorem total (hn : 2 ≤ nk) (t : Fin points) (ht : t % nk = nk - 1) (a : Fin tm) (b : Fin tn) (i : Fin m) (j : Fin n)
    (hi : i.val = s.row t * tm + a) (hj : j.val = s.col t * tn + b) :
    s.carried ⟨t - 1, by omega⟩ a b + ∑ x, s.lb t a x * s.rb t b x = ∑ q, s.l i q * s.r j q := by
  obtain ⟨h1, h2, h3⟩ := s.before t (by omega)
  rw [s.carried_eq (nk - 2) (by omega) ⟨t - 1, by omega⟩ (by dsimp only; omega) a b i j (by rw [hi, h2]) (by rw [hj, h3]),
    show nk - 2 + 1 = t % nk by omega, s.add_block t (by omega) a b i j hi hj, ht, show nk - 1 + 1 = nk by omega, ← s.steps,
    firsts_all]

end Sweep

end Cert.Pr

end
-- ==== Proof.PrDownDx.lean ====
/-
  The rows' gradient of the second feed-forward product: the kernel's array and the reference's, entry by entry.
-/
module

public import proofs.«01_k».proof.Proof.Gen.DownDxIdeal.Value
public import proofs.«01_k».proof.Proof.Gen.DownDxReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.DownDx

open Cert.DownDxIdeal Cert.DownDxIdeal.Gen Cert.DownDxIdeal.Value
open Cert.Xa (origin)

variable (m : (ℓ : Loc nD τ sig) → Buf (Elt Ideal) ℓ) (c : Dev nD)

/-- The two arguments of the call. -/
abbrev lArg : FVec Ideal S8192x2048 .bf16 := m ((c : Thread nD τ).loc main_arg0)
abbrev rArg : FVec Ideal S5632x2048 .bf16 := m ((c : Thread nD τ).loc main_arg1)

section
variable (p : grid0.Coords) (a3 : Memref sig .tc .vmem S1024x2048 .bf16) (h3 : a3.IsWhole) (a4 : Memref sig .tc .vmem S512x2048 .bf16) (h4 : a4.IsWhole) (a5 : Memref sig .tc .vmem S1024x512 .bf16) (h5 : a5.IsWhole) (a6 : Memref sig .tc .vmem S8x128 .f32) (h6 : a6.IsWhole)
variable (x0 : Vec Ideal S1024x2048 .bf16) (x1 : Vec Ideal S512x2048 .bf16) (acc : Vec Ideal S1024x512 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S1024x2048) origin, View.ld_unit_zero (S := S512x2048) origin]
end

/-- An entry of the product of two blocks. -/
theorem part_apply (x0 : FVec Ideal S1024x2048 .bf16) (x1 : FVec Ideal S512x2048 .bf16) (a : Fin 1024) (b : Fin 512) :
    k0_pay1 (F := Ideal) x0 x1 (ix2 a b) = ∑ k : Fin 2048, x0 (ix2 a k) * x1 (ix2 b k) := by
  pointwise [k0_pay1]

/-- The places of a point's blocks, and of the tile it writes. -/
theorem index_in : ∀ t : Fin cfg0.N, win0_0.index t (0 : Fin 2) = t.val / 11 ∧ win0_0.index t (1 : Fin 2) = 0
    ∧ win0_1.index t (0 : Fin 2) = t.val % 11 ∧ win0_1.index t (1 : Fin 2) = 0
    ∧ win0_2.index t (0 : Fin 2) = t.val / 11 ∧ win0_2.index t (1 : Fin 2) = t.val % 11 ∧ win0_2.flush t = true :=
  (by decide +kernel : ∀ t : Fin grid0.N, _)

/-- A point's two blocks, at their literal shapes. -/
abbrev lB (t : Fin cfg0.N) : FVec Ideal S1024x2048 .bf16 := iblk m c 0 t
abbrev rB (t : Fin cfg0.N) : FVec Ideal S512x2048 .bf16 := iblk m c 1 t

/-- An entry of a point's left block, in the whole array. -/
theorem l_block (t : Fin cfg0.N) (s : Fin 1024) (r : Fin 2048) (i : Fin 8192) (hi : i.val = t.val / 11 * 1024 + s.val) :
    lB m c t (ix2 s r) = lArg m c (ix2 i r) := by
  obtain ⟨e0, e1, -⟩ := index_in t
  exact at2 (lArg m c) (by show win0_0.index t (0 : Fin 2) * 1024 + 1 * s.val = i.val; omega) (by show win0_0.index t (1 : Fin 2) * 2048 + 1 * r.val = r.val; omega)

/-- An entry of a point's right block, in the whole array. -/
theorem r_block (t : Fin cfg0.N) (s : Fin 512) (r : Fin 2048) (j : Fin 5632) (hj : j.val = t.val % 11 * 512 + s.val) :
    rB m c t (ix2 s r) = rArg m c (ix2 j r) := by
  obtain ⟨-, -, e0, e1, -⟩ := index_in t
  exact at2 (rArg m c) (by show win0_1.index t (0 : Fin 2) * 512 + 1 * s.val = j.val; omega) (by show win0_1.index t (1 : Fin 2) * 2048 + 1 * r.val = r.val; omega)

/-- An entry of the kernel's array. -/
theorem kernel_at (i : Fin 8192) (j : Fin 5632) :
    ((dats m 0 c).arrAt 2 cfg0.N : FVec Ideal S8192x5632 .bf16) (ix2 i j) = ∑ k : Fin 2048, lArg m c (ix2 i k) * rArg m c (ix2 j k) := by
  have ht : i.val / 1024 * 11 + j.val / 512 < cfg0.N := lt_of_lt_of_eq (by omega : _ < 88) N_0.symm
  obtain ⟨-, -, -, -, e0, e1, hf⟩ := index_in ⟨_, ht⟩
  have hb := congrFun (blocks2 m c ⟨_, ht⟩ hf) (ix2 (⟨i.val % 1024, by omega⟩ : Fin 1024) (⟨j.val % 512, by omega⟩ : Fin 512))
  rw [flushed2_A, out_eq] at hb
  refine Eq.trans ?_ (hb.trans ((part_apply _ _ _ _).trans (Finset.sum_congr rfl fun k _ =>
    congrArg₂ (· * ·) (l_block m c ⟨_, ht⟩ _ k i (by dsimp only; omega)) (r_block m c ⟨_, ht⟩ _ k j (by dsimp only; omega)))))
  exact at2 ((dats m 0 c).arrAt 2 cfg0.N : FVec Ideal S8192x5632 .bf16)
    (by show i.val = win0_2.index _ (0 : Fin 2) * 1024 + 1 * (i.val % 1024); rw [e0]; (try dsimp only); omega)
    (by show j.val = win0_2.index _ (1 : Fin 2) * 512 + 1 * (j.val % 512); rw [e1]; (try dsimp only); omega)

/-- An entry of the reference's array. -/
theorem reference_at (l : FVec Ideal S8192x2048 .bf16) (r : FVec Ideal S5632x2048 .bf16) (i : Fin 8192) (j : Fin 5632) :
    Cert.DownDxReferenceIdeal.Read.val_main_v6 (F := Ideal) l r (ix2 i j) = ∑ k : Fin 2048, l (ix2 i k) * r (ix2 j k) := by
  pointwise [Cert.DownDxReferenceIdeal.Read.val_main_v6, Cert.DownDxReferenceIdeal.Read.val_main_v5, Cert.DownDxReferenceIdeal.Read.val_main_v4, Cert.DownDxReferenceIdeal.Read.val_main_v2]

/-- The two programs' arrays are the same. -/
theorem equal : (dats m 0 c).arrAt 2 cfg0.N = Cert.DownDxReferenceIdeal.Read.val_main_v6 (F := Ideal) (lArg m c) (rArg m c) :=
  ext2 fun i j => (kernel_at m c i j).trans (reference_at _ _ i j).symm

end Cert.Pr.DownDx

end
-- ==== Proof.PrDownDw.lean ====
/-
  The weight's gradient of the second feed-forward product: the kernel's array and the reference's, entry by entry.
-/
module

public import proofs.«01_k».proof.Proof.Gen.DownDwIdeal.Value
public import proofs.«01_k».proof.Proof.Gen.DownDwReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.DownDw

open Cert.DownDwIdeal Cert.DownDwIdeal.Gen Cert.DownDwIdeal.Value
open Cert.Xa (origin)

variable (m : (ℓ : Loc nD τ sig) → Buf (Elt Ideal) ℓ) (c : Dev nD)

/-- The two arguments of the call. -/
abbrev lArg : FVec Ideal S8192x5632 .bf16 := m ((c : Thread nD τ).loc main_arg0)
abbrev rArg : FVec Ideal S8192x2048 .bf16 := m ((c : Thread nD τ).loc main_arg1)

section
variable (p : grid0.Coords) (a3 : Memref sig .tc .vmem S4096x512 .bf16) (h3 : a3.IsWhole) (a4 : Memref sig .tc .vmem S4096x1024 .bf16) (h4 : a4.IsWhole) (a5 : Memref sig .tc .vmem S512x1024 .bf16) (h5 : a5.IsWhole) (a6 : Memref sig .tc .vmem S512x1024 .f32) (h6 : a6.IsWhole)
variable (x0 : Vec Ideal S4096x512 .bf16) (x1 : Vec Ideal S4096x1024 .bf16) (acc : Vec Ideal S512x1024 .f32)

/-- What the first point of a tile leaves in the carried sum, from its blocks. -/
theorem first_eq (hc0 : cond0_0 p) (hc1 : ¬cond0_1 p) (hc2 : ¬cond0_2 p) :
    sout0_A_0 c p a3 h3 a4 h4 a5 h5 a6 h6 hc0 hc1 hc2 x0 x1 = k0_pay2 x0 x1 := by
  unfold sout0_A_0
  rw [View.read_writes_eq_canon _ _ _ (scover0_A_0 c p a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S4096x512) origin, View.ld_unit_zero (S := S4096x1024) origin]

/-- What the last point writes, from its blocks and the carried sum. -/
theorem last_eq (hc0 : ¬cond0_0 p) (hc1 : cond0_1 p) (hc2 : cond0_2 p) :
    out0_B_2 c p a3 h3 a4 h4 a5 h5 a6 h6 hc0 hc1 hc2 x0 x1 acc = k0_pay4 (k0_pay3 x0 x1 acc) := by
  unfold out0_B_2
  rw [View.read_writes_eq_canon _ _ _ (cover0_B_2 c p a3 h3 a4 h4 a5 h5 a6 h6 hc0 hc1 hc2 x0 x1 acc)]
  unfold kernelRun0_B
  dsimp only
  sl_unfold_words
  rw [View.canon_unit_zero origin, View.readCov_unit_zero (S := S512x1024) _ origin]
  simp only [View.readAt_eq_ld, h3.read_unread, h4.read_unread, h6.read_unread, View.ld_unit_zero (S := S512x1024) origin, View.ld_unit_zero (S := S4096x512) origin, View.ld_unit_zero (S := S4096x1024) origin]
end

/-- An entry of the product of two blocks. -/
theorem part_apply (x0 : FVec Ideal S4096x512 .bf16) (x1 : FVec Ideal S4096x1024 .bf16) (a : Fin 512) (b : Fin 1024) :
    k0_pay2 (F := Ideal) x0 x1 (ix2 a b) = ∑ k : Fin 4096, x0 (ix2 k a) * x1 (ix2 k b) := by
  pointwise [k0_pay2, k0_pay1]

/-- An entry of the product of two blocks added to the carried sum. -/
theorem more_apply (x0 : FVec Ideal S4096x512 .bf16) (x1 : FVec Ideal S4096x1024 .bf16) (acc : FVec Ideal S512x1024 .f32) (a : Fin 512) (b : Fin 1024) :
    k0_pay3 (F := Ideal) x0 x1 acc (ix2 a b) = acc (ix2 a b) + ∑ k : Fin 4096, x0 (ix2 k a) * x1 (ix2 k b) := by
  pointwise [k0_pay3, k0_pay1]

/-- The last cast changes no entry. -/
theorem round_apply (acc : FVec Ideal S512x1024 .f32) (a : Fin 512) (b : Fin 1024) : k0_pay4 (F := Ideal) acc (ix2 a b) = acc (ix2 a b) := by
  pointwise [k0_pay4]

/-- The places of a point's blocks. -/
theorem index_in : ∀ t : Fin cfg0.N, win0_0.index t (0 : Fin 2) = t.val % 2 ∧ win0_0.index t (1 : Fin 2) = t.val / 4
    ∧ win0_1.index t (0 : Fin 2) = t.val % 2 ∧ win0_1.index t (1 : Fin 2) = t.val / 2 % 2 :=
  (by decide +kernel : ∀ t : Fin grid0.N, _)

/-- A point's two blocks, at their literal shapes. -/
abbrev lB (t : Fin cfg0.N) : FVec Ideal S4096x512 .bf16 := iblk m c 0 t
abbrev rB (t : Fin cfg0.N) : FVec Ideal S4096x1024 .bf16 := iblk m c 1 t

/-- An entry of a point's left block, in the whole array. -/
theorem l_block (t : Fin cfg0.N) (s : Fin 512) (r : Fin 4096) (i : Fin 5632) (k : Fin 8192) (hi : i.val = t.val / 4 * 512 + s.val) (hk : k.val = t.val % 2 * 4096 + r.val) :
    lB m c t (ix2 r s) = lArg m c (ix2 k i) := by
  obtain ⟨e0, e1, -⟩ := index_in t
  exact at2 (lArg m c) (by show win0_0.index t (0 : Fin 2) * 4096 + 1 * r.val = k.val; omega) (by show win0_0.index t (1 : Fin 2) * 512 + 1 * s.val = i.val; omega)

/-- An entry of a point's right block, in the whole array. -/
theorem r_block (t : Fin cfg0.N) (s : Fin 1024) (r : Fin 4096) (j : Fin 2048) (k : Fin 8192) (hj : j.val = t.val / 2 % 2 * 1024 + s.val) (hk : k.val = t.val % 2 * 4096 + r.val) :
    rB m c t (ix2 r s) = rArg m c (ix2 k j) := by
  obtain ⟨-, -, e0, e1⟩ := index_in t
  exact at2 (rArg m c) (by show win0_1.index t (0 : Fin 2) * 4096 + 1 * r.val = k.val; omega) (by show win0_1.index t (1 : Fin 2) * 1024 + 1 * s.val = j.val; omega)

/-- The sweep of a tile, by its points' blocks and the sum that each leaves. -/
def sweep : Sweep 5632 2048 8192 512 1024 4096 2 cfg0.N where
  l i k := lArg m c (ix2 k i)
  r j k := rArg m c (ix2 k j)
  row t := t / 4
  col t := t / 2 % 2
  lb t a x := lB m c t (ix2 x a)
  rb t b x := rB m c t (ix2 x b)
  carried t a b := (outsAt0 m c t.val t.isLt).2 (ix2 a b)
  steps := rfl
  before t h := by omega
  lb_eq := l_block m c
  rb_eq := r_block m c
  first t ht a b := by
    rw [outsAt0_A m c t ht (by omega) (by omega)]
    dsimp only
    rw [first_eq]
    exact part_apply _ _ a b
  more := fun t h0 h1 => absurd h1 (by omega)

/-- An entry of the kernel's array. -/
theorem kernel_at (i : Fin 5632) (j : Fin 2048) :
    (G2 m c : FVec Ideal S5632x2048 .bf16) (ix2 i j) = ∑ k : Fin 8192, lArg m c (ix2 k i) * rArg m c (ix2 k j) := by
  have hp : pt2Of (ix2 i j) = 2 * (2 * (i.val / 512) + j.val / 1024) + 1 := by
    show 2 * (2 * (i.val / 512 - 0) + 1 * (j.val / 1024 - 0)) + 1 = _
    omega
  have hN : pt2Of (ix2 i j) < cfg0.N := lt_of_lt_of_eq (by rw [hp]; omega : _ < 44) N_0.symm
  have hl : loc2Of (ix2 i j) = ix2 (⟨i.val % 512, by omega⟩ : Fin 512) (⟨j.val % 1024, by omega⟩ : Fin 1024) := eq_ix2 _
  unfold G2
  rw [dif_pos hN, ← outsAt0_sweep m c _ hN, hl]
  generalize pt2Of (ix2 i j) = n at hp hN
  rw [outsAt0_B m c ⟨n, hN⟩ (by dsimp only; omega) (by dsimp only; omega) (by dsimp only; omega)]
  dsimp only
  rw [last_eq]
  exact (round_apply _ _ _).trans ((more_apply _ _ _ _ _).trans
    ((sweep m c).total (by omega) ⟨n, hN⟩ (by dsimp only; omega) _ _ i j (by dsimp only [sweep]; omega) (by dsimp only [sweep]; omega)))

/-- An entry of the reference's array. -/
theorem reference_at (l : FVec Ideal S8192x5632 .bf16) (r : FVec Ideal S8192x2048 .bf16) (i : Fin 5632) (j : Fin 2048) :
    Cert.DownDwReferenceIdeal.Read.val_main_v7 (F := Ideal) l r (ix2 i j) = ∑ k : Fin 8192, l (ix2 k i) * r (ix2 k j) := by
  pointwise [Cert.DownDwReferenceIdeal.Read.val_main_v7, Cert.DownDwReferenceIdeal.Read.val_main_v6, Cert.DownDwReferenceIdeal.Read.val_main_v5, Cert.DownDwReferenceIdeal.Read.val_main_v4, Cert.DownDwReferenceIdeal.Read.val_main_v1]
  exact Finset.sum_congr rfl fun k _ => mul_comm _ _

/-- The two programs' arrays are the same. -/
theorem equal : G2 m c = Cert.DownDwReferenceIdeal.Read.val_main_v7 (F := Ideal) (lArg m c) (rArg m c) :=
  ext2 fun i j => (kernel_at m c i j).trans (reference_at _ _ i j).symm

end Cert.Pr.DownDw

end
-- ==== Proof.PrUpDw.lean ====
/-
  The weight's gradient of the first feed-forward product: the kernel's array and the reference's, entry by entry.
-/
module

public import proofs.«01_k».proof.Proof.Gen.UpDwIdeal.Value
public import proofs.«01_k».proof.Proof.Gen.UpDwReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.UpDw

open Cert.UpDwIdeal Cert.UpDwIdeal.Gen Cert.UpDwIdeal.Value
open Cert.Xa (origin)

variable (m : (ℓ : Loc nD τ sig) → Buf (Elt Ideal) ℓ) (c : Dev nD)

theorem origin3 : (![0, 0, 0] : Fin 3 → Nat) = fun _ => 0 := funext fun a => by fin_cases a <;> rfl

/-- Which half a column of the two halves side by side lies in, and where. -/
abbrev half (k : Fin 11264) : Fin 2 := ⟨k.val / 5632, by omega⟩
abbrev rest (k : Fin 11264) : Fin 5632 := ⟨k.val % 5632, by omega⟩

/-- The two arguments of the call. -/
abbrev lArg : FVec Ideal S8192x2048 .bf16 := m ((c : Thread nD τ).loc main_arg0)
abbrev rArg : FVec Ideal S2x8192x5632 .bf16 := m ((c : Thread nD τ).loc main_arg1)

section
variable (p : grid0.Coords) (a3 : Memref sig .tc .vmem S4096x1024 .bf16) (h3 : a3.IsWhole) (a4 : Memref sig .tc .vmem S1x4096x512 .bf16) (h4 : a4.IsWhole) (a5 : Memref sig .tc .vmem S1024x512 .bf16) (h5 : a5.IsWhole) (a6 : Memref sig .tc .vmem S1024x512 .f32) (h6 : a6.IsWhole)
variable (x0 : Vec Ideal S4096x1024 .bf16) (x1 : Vec Ideal S1x4096x512 .bf16) (acc : Vec Ideal S1024x512 .f32)

/-- What the first point of a tile leaves in the carried sum, from its blocks. -/
theorem first_eq (hc0 : cond0_0 p) (hc1 : ¬cond0_1 p) (hc2 : ¬cond0_2 p) :
    sout0_A_0 c p a3 h3 a4 h4 a5 h5 a6 h6 hc0 hc1 hc2 x0 x1 = k0_pay2 x0 x1 := by
  unfold sout0_A_0
  rw [View.read_writes_eq_canon _ _ _ (scover0_A_0 c p a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S4096x1024) origin, View.ld_unit_zero (S := S1x4096x512) origin3]

/-- What the last point writes, from its blocks and the carried sum. -/
theorem last_eq (hc0 : ¬cond0_0 p) (hc1 : cond0_1 p) (hc2 : cond0_2 p) :
    out0_B_2 c p a3 h3 a4 h4 a5 h5 a6 h6 hc0 hc1 hc2 x0 x1 acc = k0_pay4 (k0_pay3 x0 x1 acc) := by
  unfold out0_B_2
  rw [View.read_writes_eq_canon _ _ _ (cover0_B_2 c p a3 h3 a4 h4 a5 h5 a6 h6 hc0 hc1 hc2 x0 x1 acc)]
  unfold kernelRun0_B
  dsimp only
  sl_unfold_words
  rw [View.canon_unit_zero origin, View.readCov_unit_zero (S := S1024x512) _ origin]
  simp only [View.readAt_eq_ld, h3.read_unread, h4.read_unread, h6.read_unread, View.ld_unit_zero (S := S1024x512) origin, View.ld_unit_zero (S := S4096x1024) origin, View.ld_unit_zero (S := S1x4096x512) origin3]
end

/-- An entry of the product of two blocks. -/
theorem part_apply (x0 : FVec Ideal S4096x1024 .bf16) (x1 : FVec Ideal S1x4096x512 .bf16) (a : Fin 1024) (b : Fin 512) :
    k0_pay2 (F := Ideal) x0 x1 (ix2 a b) = ∑ k : Fin 4096, x0 (ix2 k a) * x1 (ix3 (0 : Fin 1) k b) := by
  pointwise [k0_pay2, k0_pay1]

/-- An entry of the product of two blocks added to the carried sum. -/
theorem more_apply (x0 : FVec Ideal S4096x1024 .bf16) (x1 : FVec Ideal S1x4096x512 .bf16) (acc : FVec Ideal S1024x512 .f32) (a : Fin 1024) (b : Fin 512) :
    k0_pay3 (F := Ideal) x0 x1 acc (ix2 a b) = acc (ix2 a b) + ∑ k : Fin 4096, x0 (ix2 k a) * x1 (ix3 (0 : Fin 1) k b) := by
  pointwise [k0_pay3, k0_pay1]

/-- The last cast changes no entry. -/
theorem round_apply (acc : FVec Ideal S1024x512 .f32) (a : Fin 1024) (b : Fin 512) : k0_pay4 (F := Ideal) acc (ix2 a b) = acc (ix2 a b) := by
  pointwise [k0_pay4]

/-- The places of a point's blocks. -/
theorem index_in : ∀ t : Fin cfg0.N, win0_0.index t (0 : Fin 2) = t.val % 2 ∧ win0_0.index t (1 : Fin 2) = t.val / 44
    ∧ win0_1.index t (0 : Fin 3) = t.val / 2 % 22 / 11 ∧ win0_1.index t (1 : Fin 3) = t.val % 2 ∧ win0_1.index t (2 : Fin 3) = t.val / 2 % 22 % 11 :=
  (by decide +kernel : ∀ t : Fin grid0.N, _)

/-- A point's two blocks, at their literal shapes. -/
abbrev lB (t : Fin cfg0.N) : FVec Ideal S4096x1024 .bf16 := iblk m c 0 t
abbrev rB (t : Fin cfg0.N) : FVec Ideal S1x4096x512 .bf16 := iblk m c 1 t

/-- An entry of a point's left block, in the whole array. -/
theorem l_block (t : Fin cfg0.N) (s : Fin 1024) (r : Fin 4096) (i : Fin 2048) (k : Fin 8192) (hi : i.val = t.val / 44 * 1024 + s.val) (hk : k.val = t.val % 2 * 4096 + r.val) :
    lB m c t (ix2 r s) = lArg m c (ix2 k i) := by
  obtain ⟨e0, e1, -⟩ := index_in t
  exact at2 (lArg m c) (by show win0_0.index t (0 : Fin 2) * 4096 + 1 * r.val = k.val; omega) (by show win0_0.index t (1 : Fin 2) * 1024 + 1 * s.val = i.val; omega)

/-- An entry of a point's right block, in the whole array. -/
theorem r_block (t : Fin cfg0.N) (s : Fin 512) (r : Fin 4096) (j : Fin 11264) (k : Fin 8192) (hj : j.val = t.val / 2 % 22 * 512 + s.val) (hk : k.val = t.val % 2 * 4096 + r.val) :
    rB m c t (ix3 (0 : Fin 1) r s) = rArg m c (ix3 (half j) k (rest j)) := by
  obtain ⟨-, -, e0, e1, e2⟩ := index_in t
  exact at3 (rArg m c) (by show win0_1.index t (0 : Fin 3) * 1 + 1 * 0 = j.val / 5632; omega) (by show win0_1.index t (1 : Fin 3) * 4096 + 1 * r.val = k.val; omega) (by show win0_1.index t (2 : Fin 3) * 512 + 1 * s.val = j.val % 5632; omega)

/-- The sweep of a tile, by its points' blocks and the sum that each leaves. -/
def sweep : Sweep 2048 11264 8192 1024 512 4096 2 cfg0.N where
  l i k := lArg m c (ix2 k i)
  r j k := rArg m c (ix3 (half j) k (rest j))
  row t := t / 44
  col t := t / 2 % 22
  lb t a x := lB m c t (ix2 x a)
  rb t b x := rB m c t (ix3 (0 : Fin 1) x b)
  carried t a b := (outsAt0 m c t.val t.isLt).2 (ix2 a b)
  steps := rfl
  before t h := by omega
  lb_eq := l_block m c
  rb_eq := r_block m c
  first t ht a b := by
    rw [outsAt0_A m c t ht (by omega) (by omega)]
    dsimp only
    rw [first_eq]
    exact part_apply _ _ a b
  more := fun t h0 h1 => absurd h1 (by omega)

/-- An entry of the kernel's array. -/
theorem kernel_at (i : Fin 2048) (j : Fin 11264) :
    (G2 m c : FVec Ideal S2048x11264 .bf16) (ix2 i j) = ∑ k : Fin 8192, lArg m c (ix2 k i) * rArg m c (ix3 (half j) k (rest j)) := by
  have hp : pt2Of (ix2 i j) = 2 * (22 * (i.val / 1024) + j.val / 512) + 1 := by
    show 2 * (22 * (i.val / 1024 - 0) + 1 * (j.val / 512 - 0)) + 1 = _
    omega
  have hN : pt2Of (ix2 i j) < cfg0.N := lt_of_lt_of_eq (by rw [hp]; omega : _ < 88) N_0.symm
  have hl : loc2Of (ix2 i j) = ix2 (⟨i.val % 1024, by omega⟩ : Fin 1024) (⟨j.val % 512, by omega⟩ : Fin 512) := eq_ix2 _
  unfold G2
  rw [dif_pos hN, ← outsAt0_sweep m c _ hN, hl]
  generalize pt2Of (ix2 i j) = n at hp hN
  rw [outsAt0_B m c ⟨n, hN⟩ (by dsimp only; omega) (by dsimp only; omega) (by dsimp only; omega)]
  dsimp only
  rw [last_eq]
  exact (round_apply _ _ _).trans ((more_apply _ _ _ _ _).trans
    ((sweep m c).total (by omega) ⟨n, hN⟩ (by dsimp only; omega) _ _ i j (by dsimp only [sweep]; omega) (by dsimp only [sweep]; omega)))

/-- An entry of the reference's array. -/
theorem reference_at (l : FVec Ideal S8192x2048 .bf16) (r : FVec Ideal S2x8192x5632 .bf16) (i : Fin 2048) (j : Fin 11264) :
    Cert.UpDwReferenceIdeal.Read.val_main_v12 (F := Ideal) l r (ix2 i j) = ∑ k : Fin 8192, l (ix2 k i) * r (ix3 (half j) k (rest j)) := by
  pointwise [Cert.UpDwReferenceIdeal.Read.val_main_v12, Cert.UpDwReferenceIdeal.Read.val_main_v11, Cert.UpDwReferenceIdeal.Read.val_main_v10, Cert.UpDwReferenceIdeal.Read.val_main_v9, Cert.UpDwReferenceIdeal.Read.val_main_v6, Cert.UpDwReferenceIdeal.Read.val_main_v4, Cert.UpDwReferenceIdeal.Read.val_main_v3, Cert.UpDwReferenceIdeal.Read.val_main_v2, Cert.UpDwReferenceIdeal.Read.val_main_v1, Cert.UpDwReferenceIdeal.Read.val_main_v0]
  refine Finset.sum_congr rfl fun k _ => (mul_comm _ _).trans (congrArg (l (ix2 k i) * ·) ?_)
  by_cases h : j.val < 5632
  · rw [dif_pos h]
    exact at3 r (by show 0 = j.val / 5632; omega) rfl (by show j.val = j.val % 5632; omega)
  · rw [dif_neg h]
    exact at3 r (by show 1 = j.val / 5632; omega) rfl (by show j.val - 5632 = j.val % 5632; omega)

/-- The two programs' arrays are the same. -/
theorem equal : G2 m c = Cert.UpDwReferenceIdeal.Read.val_main_v12 (F := Ideal) (lArg m c) (rArg m c) :=
  ext2 fun i j => (kernel_at m c i j).trans (reference_at _ _ i j).symm

end Cert.Pr.UpDw

end
-- ==== Proof.PrSquareDx.lean ====
/-
  The rows' gradient of a product of model rows with a square weight: the kernel's array and the reference's, entry by entry.
-/
module

public import proofs.«01_k».proof.Proof.Gen.SquareDxIdeal.Value
public import proofs.«01_k».proof.Proof.Gen.SquareDxReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.SquareDx

open Cert.SquareDxIdeal Cert.SquareDxIdeal.Gen Cert.SquareDxIdeal.Value
open Cert.Xa (origin)

variable (m : (ℓ : Loc nD τ sig) → Buf (Elt Ideal) ℓ) (c : Dev nD)

/-- The two arguments of the call. -/
abbrev lArg : FVec Ideal S8192x2048 .bf16 := m ((c : Thread nD τ).loc main_arg0)
abbrev rArg : FVec Ideal S2048x2048 .bf16 := m ((c : Thread nD τ).loc main_arg1)

section
variable (p : grid0.Coords) (a3 : Memref sig .tc .vmem S1024x2048 .bf16) (h3 : a3.IsWhole) (a4 : Memref sig .tc .vmem S1024x2048 .bf16) (h4 : a4.IsWhole) (a5 : Memref sig .tc .vmem S1024x1024 .bf16) (h5 : a5.IsWhole) (a6 : Memref sig .tc .vmem S8x128 .f32) (h6 : a6.IsWhole)
variable (x0 : Vec Ideal S1024x2048 .bf16) (x1 : Vec Ideal S1024x2048 .bf16) (acc : Vec Ideal S1024x1024 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S1024x2048) origin]
end

/-- An entry of the product of two blocks. -/
theorem part_apply (x0 : FVec Ideal S1024x2048 .bf16) (x1 : FVec Ideal S1024x2048 .bf16) (a : Fin 1024) (b : Fin 1024) :
    k0_pay1 (F := Ideal) x0 x1 (ix2 a b) = ∑ k : Fin 2048, x0 (ix2 a k) * x1 (ix2 b k) := by
  pointwise [k0_pay1]

/-- The places of a point's blocks, and of the tile it writes. -/
theorem index_in : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 ∧ win0_2.flush t = true :=
  (by decide +kernel : ∀ t : Fin grid0.N, _)

/-- A point's two blocks, at their literal shapes. -/
abbrev lB (t : Fin cfg0.N) : FVec Ideal S1024x2048 .bf16 := iblk m c 0 t
abbrev rB (t : Fin cfg0.N) : FVec Ideal S1024x2048 .bf16 := iblk m c 1 t

/-- An entry of a point's left block, in the whole array. -/
theorem l_block (t : Fin cfg0.N) (s : Fin 1024) (r : Fin 2048) (i : Fin 8192) (hi : i.val = t.val / 2 * 1024 + s.val) :
    lB m c t (ix2 s r) = lArg m c (ix2 i r) := by
  obtain ⟨e0, e1, -⟩ := index_in t
  exact at2 (lArg m c) (by show win0_0.index t (0 : Fin 2) * 1024 + 1 * s.val = i.val; omega) (by show win0_0.index t (1 : Fin 2) * 2048 + 1 * r.val = r.val; omega)

/-- An entry of a point's right block, in the whole array. -/
theorem r_block (t : Fin cfg0.N) (s : Fin 1024) (r : Fin 2048) (j : Fin 2048) (hj : j.val = t.val % 2 * 1024 + s.val) :
    rB m c t (ix2 s r) = rArg m c (ix2 j r) := by
  obtain ⟨-, -, e0, e1, -⟩ := index_in t
  exact at2 (rArg m c) (by show win0_1.index t (0 : Fin 2) * 1024 + 1 * s.val = j.val; omega) (by show win0_1.index t (1 : Fin 2) * 2048 + 1 * r.val = r.val; omega)

/-- An entry of the kernel's array. -/
theorem kernel_at (i : Fin 8192) (j : Fin 2048) :
    ((dats m 0 c).arrAt 2 cfg0.N : FVec Ideal S8192x2048 .bf16) (ix2 i j) = ∑ k : Fin 2048, lArg m c (ix2 i k) * rArg m c (ix2 j k) := by
  have ht : i.val / 1024 * 2 + j.val / 1024 < cfg0.N := lt_of_lt_of_eq (by omega : _ < 16) N_0.symm
  obtain ⟨-, -, -, -, e0, e1, hf⟩ := index_in ⟨_, ht⟩
  have hb := congrFun (blocks2 m c ⟨_, ht⟩ hf) (ix2 (⟨i.val % 1024, by omega⟩ : Fin 1024) (⟨j.val % 1024, by omega⟩ : Fin 1024))
  rw [flushed2_A, out_eq] at hb
  refine Eq.trans ?_ (hb.trans ((part_apply _ _ _ _).trans (Finset.sum_congr rfl fun k _ =>
    congrArg₂ (· * ·) (l_block m c ⟨_, ht⟩ _ k i (by dsimp only; omega)) (r_block m c ⟨_, ht⟩ _ k j (by dsimp only; omega)))))
  exact at2 ((dats m 0 c).arrAt 2 cfg0.N : FVec Ideal S8192x2048 .bf16)
    (by show i.val = win0_2.index _ (0 : Fin 2) * 1024 + 1 * (i.val % 1024); rw [e0]; (try dsimp only); omega)
    (by show j.val = win0_2.index _ (1 : Fin 2) * 1024 + 1 * (j.val % 1024); rw [e1]; (try dsimp only); omega)

/-- An entry of the reference's array. -/
theorem reference_at (l : FVec Ideal S8192x2048 .bf16) (r : FVec Ideal S2048x2048 .bf16) (i : Fin 8192) (j : Fin 2048) :
    Cert.SquareDxReferenceIdeal.Read.val_main_v6 (F := Ideal) l r (ix2 i j) = ∑ k : Fin 2048, l (ix2 i k) * r (ix2 j k) := by
  pointwise [Cert.SquareDxReferenceIdeal.Read.val_main_v6, Cert.SquareDxReferenceIdeal.Read.val_main_v5, Cert.SquareDxReferenceIdeal.Read.val_main_v4, Cert.SquareDxReferenceIdeal.Read.val_main_v2]

/-- The two programs' arrays are the same. -/
theorem equal : (dats m 0 c).arrAt 2 cfg0.N = Cert.SquareDxReferenceIdeal.Read.val_main_v6 (F := Ideal) (lArg m c) (rArg m c) :=
  ext2 fun i j => (kernel_at m c i j).trans (reference_at _ _ i j).symm

end Cert.Pr.SquareDx

end
-- ==== Proof.PrSquareDw.lean ====
/-
  The gradient of a square weight: the kernel's array and the reference's, entry by entry.
-/
module

public import proofs.«01_k».proof.Proof.Gen.SquareDwIdeal.Value
public import proofs.«01_k».proof.Proof.Gen.SquareDwReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.SquareDw

open Cert.SquareDwIdeal Cert.SquareDwIdeal.Gen Cert.SquareDwIdeal.Value
open Cert.Xa (origin)

variable (m : (ℓ : Loc nD τ sig) → Buf (Elt Ideal) ℓ) (c : Dev nD)

/-- The two arguments of the call. -/
abbrev lArg : FVec Ideal S8192x2048 .bf16 := m ((c : Thread nD τ).loc main_arg0)
abbrev rArg : FVec Ideal S8192x2048 .bf16 := m ((c : Thread nD τ).loc main_arg1)

section
variable (p : grid0.Coords) (a3 : Memref sig .tc .vmem S4096x1024 .bf16) (h3 : a3.IsWhole) (a4 : Memref sig .tc .vmem S4096x512 .bf16) (h4 : a4.IsWhole) (a5 : Memref sig .tc .vmem S1024x512 .bf16) (h5 : a5.IsWhole) (a6 : Memref sig .tc .vmem S1024x512 .f32) (h6 : a6.IsWhole)
variable (x0 : Vec Ideal S4096x1024 .bf16) (x1 : Vec Ideal S4096x512 .bf16) (acc : Vec Ideal S1024x512 .f32)

/-- What the first point of a tile leaves in the carried sum, from its blocks. -/
theorem first_eq (hc0 : cond0_0 p) (hc1 : ¬cond0_1 p) (hc2 : ¬cond0_2 p) :
    sout0_A_0 c p a3 h3 a4 h4 a5 h5 a6 h6 hc0 hc1 hc2 x0 x1 = k0_pay2 x0 x1 := by
  unfold sout0_A_0
  rw [View.read_writes_eq_canon _ _ _ (scover0_A_0 c p a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S4096x1024) origin, View.ld_unit_zero (S := S4096x512) origin]

/-- What the last point writes, from its blocks and the carried sum. -/
theorem last_eq (hc0 : ¬cond0_0 p) (hc1 : cond0_1 p) (hc2 : cond0_2 p) :
    out0_B_2 c p a3 h3 a4 h4 a5 h5 a6 h6 hc0 hc1 hc2 x0 x1 acc = k0_pay4 (k0_pay3 x0 x1 acc) := by
  unfold out0_B_2
  rw [View.read_writes_eq_canon _ _ _ (cover0_B_2 c p a3 h3 a4 h4 a5 h5 a6 h6 hc0 hc1 hc2 x0 x1 acc)]
  unfold kernelRun0_B
  dsimp only
  sl_unfold_words
  rw [View.canon_unit_zero origin, View.readCov_unit_zero (S := S1024x512) _ origin]
  simp only [View.readAt_eq_ld, h3.read_unread, h4.read_unread, h6.read_unread, View.ld_unit_zero (S := S1024x512) origin, View.ld_unit_zero (S := S4096x1024) origin, View.ld_unit_zero (S := S4096x512) origin]
end

/-- An entry of the product of two blocks. -/
theorem part_apply (x0 : FVec Ideal S4096x1024 .bf16) (x1 : FVec Ideal S4096x512 .bf16) (a : Fin 1024) (b : Fin 512) :
    k0_pay2 (F := Ideal) x0 x1 (ix2 a b) = ∑ k : Fin 4096, x0 (ix2 k a) * x1 (ix2 k b) := by
  pointwise [k0_pay2, k0_pay1]

/-- An entry of the product of two blocks added to the carried sum. -/
theorem more_apply (x0 : FVec Ideal S4096x1024 .bf16) (x1 : FVec Ideal S4096x512 .bf16) (acc : FVec Ideal S1024x512 .f32) (a : Fin 1024) (b : Fin 512) :
    k0_pay3 (F := Ideal) x0 x1 acc (ix2 a b) = acc (ix2 a b) + ∑ k : Fin 4096, x0 (ix2 k a) * x1 (ix2 k b) := by
  pointwise [k0_pay3, k0_pay1]

/-- The last cast changes no entry. -/
theorem round_apply (acc : FVec Ideal S1024x512 .f32) (a : Fin 1024) (b : Fin 512) : k0_pay4 (F := Ideal) acc (ix2 a b) = acc (ix2 a b) := by
  pointwise [k0_pay4]

/-- The places of a point's blocks. -/
theorem index_in : ∀ t : Fin cfg0.N, win0_0.index t (0 : Fin 2) = t.val % 2 ∧ win0_0.index t (1 : Fin 2) = t.val / 8
    ∧ win0_1.index t (0 : Fin 2) = t.val % 2 ∧ win0_1.index t (1 : Fin 2) = t.val / 2 % 4 :=
  (by decide +kernel : ∀ t : Fin grid0.N, _)

/-- A point's two blocks, at their literal shapes. -/
abbrev lB (t : Fin cfg0.N) : FVec Ideal S4096x1024 .bf16 := iblk m c 0 t
abbrev rB (t : Fin cfg0.N) : FVec Ideal S4096x512 .bf16 := iblk m c 1 t

/-- An entry of a point's left block, in the whole array. -/
theorem l_block (t : Fin cfg0.N) (s : Fin 1024) (r : Fin 4096) (i : Fin 2048) (k : Fin 8192) (hi : i.val = t.val / 8 * 1024 + s.val) (hk : k.val = t.val % 2 * 4096 + r.val) :
    lB m c t (ix2 r s) = lArg m c (ix2 k i) := by
  obtain ⟨e0, e1, -⟩ := index_in t
  exact at2 (lArg m c) (by show win0_0.index t (0 : Fin 2) * 4096 + 1 * r.val = k.val; omega) (by show win0_0.index t (1 : Fin 2) * 1024 + 1 * s.val = i.val; omega)

/-- An entry of a point's right block, in the whole array. -/
theorem r_block (t : Fin cfg0.N) (s : Fin 512) (r : Fin 4096) (j : Fin 2048) (k : Fin 8192) (hj : j.val = t.val / 2 % 4 * 512 + s.val) (hk : k.val = t.val % 2 * 4096 + r.val) :
    rB m c t (ix2 r s) = rArg m c (ix2 k j) := by
  obtain ⟨-, -, e0, e1⟩ := index_in t
  exact at2 (rArg m c) (by show win0_1.index t (0 : Fin 2) * 4096 + 1 * r.val = k.val; omega) (by show win0_1.index t (1 : Fin 2) * 512 + 1 * s.val = j.val; omega)

/-- The sweep of a tile, by its points' blocks and the sum that each leaves. -/
def sweep : Sweep 2048 2048 8192 1024 512 4096 2 cfg0.N where
  l i k := lArg m c (ix2 k i)
  r j k := rArg m c (ix2 k j)
  row t := t / 8
  col t := t / 2 % 4
  lb t a x := lB m c t (ix2 x a)
  rb t b x := rB m c t (ix2 x b)
  carried t a b := (outsAt0 m c t.val t.isLt).2 (ix2 a b)
  steps := rfl
  before t h := by omega
  lb_eq := l_block m c
  rb_eq := r_block m c
  first t ht a b := by
    rw [outsAt0_A m c t ht (by omega) (by omega)]
    dsimp only
    rw [first_eq]
    exact part_apply _ _ a b
  more := fun t h0 h1 => absurd h1 (by omega)

/-- An entry of the kernel's array. -/
theorem kernel_at (i : Fin 2048) (j : Fin 2048) :
    (G2 m c : FVec Ideal S2048x2048 .bf16) (ix2 i j) = ∑ k : Fin 8192, lArg m c (ix2 k i) * rArg m c (ix2 k j) := by
  have hp : pt2Of (ix2 i j) = 2 * (4 * (i.val / 1024) + j.val / 512) + 1 := by
    show 2 * (4 * (i.val / 1024 - 0) + 1 * (j.val / 512 - 0)) + 1 = _
    omega
  have hN : pt2Of (ix2 i j) < cfg0.N := lt_of_lt_of_eq (by rw [hp]; omega : _ < 16) N_0.symm
  have hl : loc2Of (ix2 i j) = ix2 (⟨i.val % 1024, by omega⟩ : Fin 1024) (⟨j.val % 512, by omega⟩ : Fin 512) := eq_ix2 _
  unfold G2
  rw [dif_pos hN, ← outsAt0_sweep m c _ hN, hl]
  generalize pt2Of (ix2 i j) = n at hp hN
  rw [outsAt0_B m c ⟨n, hN⟩ (by dsimp only; omega) (by dsimp only; omega) (by dsimp only; omega)]
  dsimp only
  rw [last_eq]
  exact (round_apply _ _ _).trans ((more_apply _ _ _ _ _).trans
    ((sweep m c).total (by omega) ⟨n, hN⟩ (by dsimp only; omega) _ _ i j (by dsimp only [sweep]; omega) (by dsimp only [sweep]; omega)))

/-- An entry of the reference's array. -/
theorem reference_at (l : FVec Ideal S8192x2048 .bf16) (r : FVec Ideal S8192x2048 .bf16) (i : Fin 2048) (j : Fin 2048) :
    Cert.SquareDwReferenceIdeal.Read.val_main_v7 (F := Ideal) l r (ix2 i j) = ∑ k : Fin 8192, l (ix2 k i) * r (ix2 k j) := by
  pointwise [Cert.SquareDwReferenceIdeal.Read.val_main_v7, Cert.SquareDwReferenceIdeal.Read.val_main_v6, Cert.SquareDwReferenceIdeal.Read.val_main_v5, Cert.SquareDwReferenceIdeal.Read.val_main_v4, Cert.SquareDwReferenceIdeal.Read.val_main_v1]
  exact Finset.sum_congr rfl fun k _ => mul_comm _ _

/-- The two programs' arrays are the same. -/
theorem equal : G2 m c = Cert.SquareDwReferenceIdeal.Read.val_main_v7 (F := Ideal) (lArg m c) (rArg m c) :=
  ext2 fun i j => (kernel_at m c i j).trans (reference_at _ _ i j).symm

end Cert.Pr.SquareDw

end
-- ==== Proof.PrPoolDx.lean ====
/-
  The rows' gradient of the pooling branch's last product: the kernel's array and the reference's, entry by entry.
-/
module

public import proofs.«01_k».proof.Proof.Gen.PoolDxIdeal.Value
public import proofs.«01_k».proof.Proof.Gen.PoolDxReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.PoolDx

open Cert.PoolDxIdeal Cert.PoolDxIdeal.Gen Cert.PoolDxIdeal.Value
open Cert.Xa (origin)

variable (m : (ℓ : Loc nD τ sig) → Buf (Elt Ideal) ℓ) (c : Dev nD)

/-- The two arguments of the call. -/
abbrev lArg : FVec Ideal S8192x2048 .bf16 := m ((c : Thread nD τ).loc main_arg0)
abbrev rArg : FVec Ideal S1024x2048 .bf16 := m ((c : Thread nD τ).loc main_arg1)

section
variable (p : grid0.Coords) (a3 : Memref sig .tc .vmem S1024x2048 .bf16) (h3 : a3.IsWhole) (a4 : Memref sig .tc .vmem S1024x2048 .bf16) (h4 : a4.IsWhole) (a5 : Memref sig .tc .vmem S1024x1024 .bf16) (h5 : a5.IsWhole) (a6 : Memref sig .tc .vmem S8x128 .f32) (h6 : a6.IsWhole)
variable (x0 : Vec Ideal S1024x2048 .bf16) (x1 : Vec Ideal S1024x2048 .bf16) (acc : Vec Ideal S1024x1024 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S1024x2048) origin]
end

/-- An entry of the product of two blocks. -/
theorem part_apply (x0 : FVec Ideal S1024x2048 .bf16) (x1 : FVec Ideal S1024x2048 .bf16) (a : Fin 1024) (b : Fin 1024) :
    k0_pay1 (F := Ideal) x0 x1 (ix2 a b) = ∑ k : Fin 2048, x0 (ix2 a k) * x1 (ix2 b k) := by
  pointwise [k0_pay1]

/-- The places of a point's blocks, and of the tile it writes. -/
theorem index_in : ∀ t : Fin cfg0.N, win0_0.index t (0 : Fin 2) = t.val ∧ win0_0.index t (1 : Fin 2) = 0
    ∧ win0_1.index t (0 : Fin 2) = t.val % 1 ∧ win0_1.index t (1 : Fin 2) = 0
    ∧ win0_2.index t (0 : Fin 2) = t.val ∧ win0_2.index t (1 : Fin 2) = t.val % 1 ∧ win0_2.flush t = true :=
  (by decide +kernel : ∀ t : Fin grid0.N, _)

/-- A point's two blocks, at their literal shapes. -/
abbrev lB (t : Fin cfg0.N) : FVec Ideal S1024x2048 .bf16 := iblk m c 0 t
abbrev rB (t : Fin cfg0.N) : FVec Ideal S1024x2048 .bf16 := iblk m c 1 t

/-- An entry of a point's left block, in the whole array. -/
theorem l_block (t : Fin cfg0.N) (s : Fin 1024) (r : Fin 2048) (i : Fin 8192) (hi : i.val = t.val * 1024 + s.val) :
    lB m c t (ix2 s r) = lArg m c (ix2 i r) := by
  obtain ⟨e0, e1, -⟩ := index_in t
  exact at2 (lArg m c) (by show win0_0.index t (0 : Fin 2) * 1024 + 1 * s.val = i.val; omega) (by show win0_0.index t (1 : Fin 2) * 2048 + 1 * r.val = r.val; omega)

/-- An entry of a point's right block, in the whole array. -/
theorem r_block (t : Fin cfg0.N) (s : Fin 1024) (r : Fin 2048) (j : Fin 1024) (hj : j.val = t.val % 1 * 1024 + s.val) :
    rB m c t (ix2 s r) = rArg m c (ix2 j r) := by
  obtain ⟨-, -, e0, e1, -⟩ := index_in t
  exact at2 (rArg m c) (by show win0_1.index t (0 : Fin 2) * 1024 + 1 * s.val = j.val; omega) (by show win0_1.index t (1 : Fin 2) * 2048 + 1 * r.val = r.val; omega)

/-- An entry of the kernel's array. -/
theorem kernel_at (i : Fin 8192) (j : Fin 1024) :
    ((dats m 0 c).arrAt 2 cfg0.N : FVec Ideal S8192x1024 .bf16) (ix2 i j) = ∑ k : Fin 2048, lArg m c (ix2 i k) * rArg m c (ix2 j k) := by
  have ht : i.val / 1024 * 1 + j.val / 1024 < cfg0.N := lt_of_lt_of_eq (by omega : _ < 8) N_0.symm
  obtain ⟨-, -, -, -, e0, e1, hf⟩ := index_in ⟨_, ht⟩
  have hb := congrFun (blocks2 m c ⟨_, ht⟩ hf) (ix2 (⟨i.val % 1024, by omega⟩ : Fin 1024) (⟨j.val % 1024, by omega⟩ : Fin 1024))
  rw [flushed2_A, out_eq] at hb
  refine Eq.trans ?_ (hb.trans ((part_apply _ _ _ _).trans (Finset.sum_congr rfl fun k _ =>
    congrArg₂ (· * ·) (l_block m c ⟨_, ht⟩ _ k i (by dsimp only; omega)) (r_block m c ⟨_, ht⟩ _ k j (by dsimp only; omega)))))
  exact at2 ((dats m 0 c).arrAt 2 cfg0.N : FVec Ideal S8192x1024 .bf16)
    (by show i.val = win0_2.index _ (0 : Fin 2) * 1024 + 1 * (i.val % 1024); rw [e0]; (try dsimp only); omega)
    (by show j.val = win0_2.index _ (1 : Fin 2) * 1024 + 1 * (j.val % 1024); rw [e1]; (try dsimp only); omega)

/-- An entry of the reference's array. -/
theorem reference_at (l : FVec Ideal S8192x2048 .bf16) (r : FVec Ideal S1024x2048 .bf16) (i : Fin 8192) (j : Fin 1024) :
    Cert.PoolDxReferenceIdeal.Read.val_main_v6 (F := Ideal) l r (ix2 i j) = ∑ k : Fin 2048, l (ix2 i k) * r (ix2 j k) := by
  pointwise [Cert.PoolDxReferenceIdeal.Read.val_main_v6, Cert.PoolDxReferenceIdeal.Read.val_main_v5, Cert.PoolDxReferenceIdeal.Read.val_main_v4, Cert.PoolDxReferenceIdeal.Read.val_main_v2]

/-- The two programs' arrays are the same. -/
theorem equal : (dats m 0 c).arrAt 2 cfg0.N = Cert.PoolDxReferenceIdeal.Read.val_main_v6 (F := Ideal) (lArg m c) (rArg m c) :=
  ext2 fun i j => (kernel_at m c i j).trans (reference_at _ _ i j).symm

end Cert.Pr.PoolDx

end
-- ==== Proof.PrPoolDw.lean ====
/-
  The weight's gradient of the pooling branch's last product: the kernel's array and the reference's, entry by entry.
-/
module

public import proofs.«01_k».proof.Proof.Gen.PoolDwIdeal.Value
public import proofs.«01_k».proof.Proof.Gen.PoolDwReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.PoolDw

open Cert.PoolDwIdeal Cert.PoolDwIdeal.Gen Cert.PoolDwIdeal.Value
open Cert.Xa (origin)

variable (m : (ℓ : Loc nD τ sig) → Buf (Elt Ideal) ℓ) (c : Dev nD)

/-- The two arguments of the call. -/
abbrev lArg : FVec Ideal S8192x1024 .bf16 := m ((c : Thread nD τ).loc main_arg0)
abbrev rArg : FVec Ideal S8192x2048 .bf16 := m ((c : Thread nD τ).loc main_arg1)

section
variable (p : grid0.Coords) (a3 : Memref sig .tc .vmem S2048x1024 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole)
variable (x0 : Vec Ideal S2048x1024 .bf16) (x1 : Vec Ideal S2048x1024 .bf16) (acc : Vec Ideal S1024x1024 .f32)

/-- What the first point of a tile leaves in the carried sum, from its blocks. -/
theorem first_eq (hc0 : cond0_0 p) (hc1 : ¬cond0_1 p) (hc2 : ¬cond0_2 p) :
    sout0_A_0 c p a3 h3 a4 h4 a5 h5 a6 h6 hc0 hc1 hc2 x0 x1 = k0_pay2 x0 x1 := by
  unfold sout0_A_0
  rw [View.read_writes_eq_canon _ _ _ (scover0_A_0 c p a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2048x1024) origin]

/-- What a point between the first and the last leaves in the carried sum, from its blocks and the carried sum. -/
theorem mid_eq (hc0 : ¬cond0_0 p) (hc1 : cond0_1 p) (hc2 : ¬cond0_2 p) :
    sout0_B_0 c p a3 h3 a4 h4 a5 h5 a6 h6 hc0 hc1 hc2 x0 x1 acc = k0_pay3 x0 x1 acc := by
  unfold sout0_B_0
  rw [View.read_writes_eq_canon _ _ _ (scover0_B_0 c p a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S1024x1024) origin, View.ld_unit_zero (S := S2048x1024) origin]

/-- What the last point writes, from its blocks and the carried sum. -/
theorem last_eq (hc0 : ¬cond0_0 p) (hc1 : cond0_1 p) (hc2 : cond0_2 p) :
    out0_C_2 c p a3 h3 a4 h4 a5 h5 a6 h6 hc0 hc1 hc2 x0 x1 acc = k0_pay4 (k0_pay3 x0 x1 acc) := by
  unfold out0_C_2
  rw [View.read_writes_eq_canon _ _ _ (cover0_C_2 c p a3 h3 a4 h4 a5 h5 a6 h6 hc0 hc1 hc2 x0 x1 acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin, View.ld_unit_zero (S := S2048x1024) origin]
end

/-- An entry of the product of two blocks. -/
theorem part_apply (x0 : FVec Ideal S2048x1024 .bf16) (x1 : FVec Ideal S2048x1024 .bf16) (a : Fin 1024) (b : Fin 1024) :
    k0_pay2 (F := Ideal) x0 x1 (ix2 a b) = ∑ k : Fin 2048, x0 (ix2 k a) * x1 (ix2 k b) := by
  pointwise [k0_pay2, k0_pay1]

/-- An entry of the product of two blocks added to the carried sum. -/
theorem more_apply (x0 : FVec Ideal S2048x1024 .bf16) (x1 : FVec Ideal S2048x1024 .bf16) (acc : FVec Ideal S1024x1024 .f32) (a : Fin 1024) (b : Fin 1024) :
    k0_pay3 (F := Ideal) x0 x1 acc (ix2 a b) = acc (ix2 a b) + ∑ k : Fin 2048, x0 (ix2 k a) * x1 (ix2 k b) := by
  pointwise [k0_pay3, k0_pay1]

/-- The last cast changes no entry. -/
theorem round_apply (acc : FVec Ideal S1024x1024 .f32) (a : Fin 1024) (b : Fin 1024) : k0_pay4 (F := Ideal) acc (ix2 a b) = acc (ix2 a b) := by
  pointwise [k0_pay4]

/-- The places of a point's blocks. -/
theorem index_in : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 % 2 :=
  (by decide +kernel : ∀ t : Fin grid0.N, _)

/-- A point's two blocks, at their literal shapes. -/
abbrev lB (t : Fin cfg0.N) : FVec Ideal S2048x1024 .bf16 := iblk m c 0 t
abbrev rB (t : Fin cfg0.N) : FVec Ideal S2048x1024 .bf16 := iblk m c 1 t

/-- An entry of a point's left block, in the whole array. -/
theorem l_block (t : Fin cfg0.N) (s : Fin 1024) (r : Fin 2048) (i : Fin 1024) (k : Fin 8192) (hi : i.val = 0 * 1024 + s.val) (hk : k.val = t.val % 4 * 2048 + r.val) :
    lB m c t (ix2 r s) = lArg m c (ix2 k i) := by
  obtain ⟨e0, e1, -⟩ := index_in t
  exact at2 (lArg m c) (by show win0_0.index t (0 : Fin 2) * 2048 + 1 * r.val = k.val; omega) (by show win0_0.index t (1 : Fin 2) * 1024 + 1 * s.val = i.val; omega)

/-- An entry of a point's right block, in the whole array. -/
theorem r_block (t : Fin cfg0.N) (s : Fin 1024) (r : Fin 2048) (j : Fin 2048) (k : Fin 8192) (hj : j.val = t.val / 4 % 2 * 1024 + s.val) (hk : k.val = t.val % 4 * 2048 + r.val) :
    rB m c t (ix2 r s) = rArg m c (ix2 k j) := by
  obtain ⟨-, -, e0, e1⟩ := index_in t
  exact at2 (rArg m c) (by show win0_1.index t (0 : Fin 2) * 2048 + 1 * r.val = k.val; omega) (by show win0_1.index t (1 : Fin 2) * 1024 + 1 * s.val = j.val; omega)

/-- The sweep of a tile, by its points' blocks and the sum that each leaves. -/
def sweep : Sweep 1024 2048 8192 1024 1024 2048 4 cfg0.N where
  l i k := lArg m c (ix2 k i)
  r j k := rArg m c (ix2 k j)
  row t := 0
  col t := t / 4 % 2
  lb t a x := lB m c t (ix2 x a)
  rb t b x := rB m c t (ix2 x b)
  carried t a b := (outsAt0 m c t.val t.isLt).2 (ix2 a b)
  steps := rfl
  before t h := by omega
  lb_eq := l_block m c
  rb_eq := r_block m c
  first t ht a b := by
    rw [outsAt0_A m c t ht (by omega) (by omega)]
    dsimp only
    rw [first_eq]
    exact part_apply _ _ a b
  more := fun t h0 h1 a b => by
    rw [outsAt0_B m c t (by omega) (by omega) (by omega)]
    dsimp only
    rw [mid_eq]
    exact more_apply _ _ _ a b

/-- An entry of the kernel's array. -/
theorem kernel_at (i : Fin 1024) (j : Fin 2048) :
    (G2 m c : FVec Ideal S1024x2048 .bf16) (ix2 i j) = ∑ k : Fin 8192, lArg m c (ix2 k i) * rArg m c (ix2 k j) := by
  have hp : pt2Of (ix2 i j) = 4 * (2 * (i.val / 1024) + j.val / 1024) + 3 := by
    show 4 * (2 * (i.val / 1024 - 0) + 1 * (j.val / 1024 - 0)) + 3 = _
    omega
  have hN : pt2Of (ix2 i j) < cfg0.N := lt_of_lt_of_eq (by rw [hp]; omega : _ < 8) N_0.symm
  have hl : loc2Of (ix2 i j) = ix2 (⟨i.val % 1024, by omega⟩ : Fin 1024) (⟨j.val % 1024, by omega⟩ : Fin 1024) := eq_ix2 _
  unfold G2
  rw [dif_pos hN, ← outsAt0_sweep m c _ hN, hl]
  generalize pt2Of (ix2 i j) = n at hp hN
  rw [outsAt0_C m c ⟨n, hN⟩ (by (try dsimp only); omega) (by (try dsimp only); omega) (by (try dsimp only); omega)]
  dsimp only
  rw [last_eq]
  exact (round_apply _ _ _).trans ((more_apply _ _ _ _ _).trans
    ((sweep m c).total (by omega) ⟨n, hN⟩ (by (try dsimp only); omega) _ _ i j (by dsimp only [sweep]; omega) (by dsimp only [sweep]; omega)))

/-- An entry of the reference's array. -/
theorem reference_at (l : FVec Ideal S8192x1024 .bf16) (r : FVec Ideal S8192x2048 .bf16) (i : Fin 1024) (j : Fin 2048) :
    Cert.PoolDwReferenceIdeal.Read.val_main_v7 (F := Ideal) l r (ix2 i j) = ∑ k : Fin 8192, l (ix2 k i) * r (ix2 k j) := by
  pointwise [Cert.PoolDwReferenceIdeal.Read.val_main_v7, Cert.PoolDwReferenceIdeal.Read.val_main_v6, Cert.PoolDwReferenceIdeal.Read.val_main_v5, Cert.PoolDwReferenceIdeal.Read.val_main_v4, Cert.PoolDwReferenceIdeal.Read.val_main_v1]
  exact Finset.sum_congr rfl fun k _ => mul_comm _ _

/-- The two programs' arrays are the same. -/
theorem equal : G2 m c = Cert.PoolDwReferenceIdeal.Read.val_main_v7 (F := Ideal) (lArg m c) (rArg m c) :=
  ext2 fun i j => (kernel_at m c i j).trans (reference_at _ _ i j).symm

end Cert.Pr.PoolDw

end
-- ==== Proof.PrUpDx.lean ====
/-
  The rows' gradient of the first feed-forward product: the kernel's array and the reference's, entry by entry.
-/
module

public import proofs.«01_k».proof.Proof.Gen.UpDxIdeal.Value
public import proofs.«01_k».proof.Proof.Gen.UpDxReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.UpDx

open Cert.UpDxIdeal Cert.UpDxIdeal.Gen Cert.UpDxIdeal.Value
open Cert.Xa (origin)

variable (m : (ℓ : Loc nD τ sig) → Buf (Elt Ideal) ℓ) (c : Dev nD)

theorem origin3 : (![0, 0, 0] : Fin 3 → Nat) = fun _ => 0 := funext fun a => by fin_cases a <;> rfl

/-- Which half a column of the two halves side by side lies in, and where. -/
abbrev half (k : Fin 11264) : Fin 2 := ⟨k.val / 5632, by omega⟩
abbrev rest (k : Fin 11264) : Fin 5632 := ⟨k.val % 5632, by omega⟩

/-- The two arguments of the call. -/
abbrev lArg : FVec Ideal S2x8192x5632 .bf16 := m ((c : Thread nD τ).loc main_arg0)
abbrev rArg : FVec Ideal S2048x11264 .bf16 := m ((c : Thread nD τ).loc main_arg1)

section
variable (p : grid0.Coords) (a3 : Memref sig .tc .vmem S1x1024x2816 .bf16) (h3 : a3.IsWhole) (a4 : Memref sig .tc .vmem S1024x2816 .bf16) (h4 : a4.IsWhole) (a5 : Memref sig .tc .vmem S1024x1024 .bf16) (h5 : a5.IsWhole) (a6 : Memref sig .tc .vmem S1024x1024 .f32) (h6 : a6.IsWhole)
variable (x0 : Vec Ideal S1x1024x2816 .bf16) (x1 : Vec Ideal S1024x2816 .bf16) (acc : Vec Ideal S1024x1024 .f32)

/-- What the first point of a tile leaves in the carried sum, from its blocks. -/
theorem first_eq (hc0 : cond0_0 p) (hc1 : ¬cond0_1 p) (hc2 : ¬cond0_2 p) :
    sout0_A_0 c p a3 h3 a4 h4 a5 h5 a6 h6 hc0 hc1 hc2 x0 x1 = k0_pay2 x0 x1 := by
  unfold sout0_A_0
  rw [View.read_writes_eq_canon _ _ _ (scover0_A_0 c p a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S1x1024x2816) origin3, View.ld_unit_zero (S := S1024x2816) origin]

/-- What a point between the first and the last leaves in the carried sum, from its blocks and the carried sum. -/
theorem mid_eq (hc0 : ¬cond0_0 p) (hc1 : cond0_1 p) (hc2 : ¬cond0_2 p) :
    sout0_B_0 c p a3 h3 a4 h4 a5 h5 a6 h6 hc0 hc1 hc2 x0 x1 acc = k0_pay3 x0 x1 acc := by
  unfold sout0_B_0
  rw [View.read_writes_eq_canon _ _ _ (scover0_B_0 c p a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S1024x1024) origin, View.ld_unit_zero (S := S1x1024x2816) origin3, View.ld_unit_zero (S := S1024x2816) origin]

/-- What the last point writes, from its blocks and the carried sum. -/
theorem last_eq (hc0 : ¬cond0_0 p) (hc1 : cond0_1 p) (hc2 : cond0_2 p) :
    out0_C_2 c p a3 h3 a4 h4 a5 h5 a6 h6 hc0 hc1 hc2 x0 x1 acc = k0_pay4 (k0_pay3 x0 x1 acc) := by
  unfold out0_C_2
  rw [View.read_writes_eq_canon _ _ _ (cover0_C_2 c p a3 h3 a4 h4 a5 h5 a6 h6 hc0 hc1 hc2 x0 x1 acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin, View.ld_unit_zero (S := S1x1024x2816) origin3, View.ld_unit_zero (S := S1024x2816) origin]
end

/-- An entry of the product of two blocks. -/
theorem part_apply (x0 : FVec Ideal S1x1024x2816 .bf16) (x1 : FVec Ideal S1024x2816 .bf16) (a : Fin 1024) (b : Fin 1024) :
    k0_pay2 (F := Ideal) x0 x1 (ix2 a b) = ∑ k : Fin 2816, x0 (ix3 (0 : Fin 1) a k) * x1 (ix2 b k) := by
  pointwise [k0_pay2, k0_pay1]

/-- An entry of the product of two blocks added to the carried sum. -/
theorem more_apply (x0 : FVec Ideal S1x1024x2816 .bf16) (x1 : FVec Ideal S1024x2816 .bf16) (acc : FVec Ideal S1024x1024 .f32) (a : Fin 1024) (b : Fin 1024) :
    k0_pay3 (F := Ideal) x0 x1 acc (ix2 a b) = acc (ix2 a b) + ∑ k : Fin 2816, x0 (ix3 (0 : Fin 1) a k) * x1 (ix2 b k) := by
  pointwise [k0_pay3, k0_pay1]

/-- The last cast changes no entry. -/
theorem round_apply (acc : FVec Ideal S1024x1024 .f32) (a : Fin 1024) (b : Fin 1024) : k0_pay4 (F := Ideal) acc (ix2 a b) = acc (ix2 a b) := by
  pointwise [k0_pay4]

/-- The places of a point's blocks. -/
theorem index_in : ∀ t : Fin cfg0.N, win0_0.index t (0 : Fin 3) = t.val % 4 / 2 ∧ win0_0.index t (1 : Fin 3) = t.val / 8 ∧ win0_0.index t (2 : Fin 3) = t.val % 4 % 2
    ∧ win0_1.index t (0 : Fin 2) = t.val / 4 % 2 ∧ win0_1.index t (1 : Fin 2) = t.val % 4 :=
  (by decide +kernel : ∀ t : Fin grid0.N, _)

/-- A point's two blocks, at their literal shapes. -/
abbrev lB (t : Fin cfg0.N) : FVec Ideal S1x1024x2816 .bf16 := iblk m c 0 t
abbrev rB (t : Fin cfg0.N) : FVec Ideal S1024x2816 .bf16 := iblk m c 1 t

/-- An entry of a point's left block, in the whole array. -/
theorem l_block (t : Fin cfg0.N) (s : Fin 1024) (r : Fin 2816) (i : Fin 8192) (k : Fin 11264) (hi : i.val = t.val / 8 * 1024 + s.val) (hk : k.val = t.val % 4 * 2816 + r.val) :
    lB m c t (ix3 (0 : Fin 1) s r) = lArg m c (ix3 (half k) i (rest k)) := by
  obtain ⟨e0, e1, e2, -⟩ := index_in t
  exact at3 (lArg m c) (by show win0_0.index t (0 : Fin 3) * 1 + 1 * 0 = k.val / 5632; omega) (by show win0_0.index t (1 : Fin 3) * 1024 + 1 * s.val = i.val; omega) (by show win0_0.index t (2 : Fin 3) * 2816 + 1 * r.val = k.val % 5632; omega)

/-- An entry of a point's right block, in the whole array. -/
theorem r_block (t : Fin cfg0.N) (s : Fin 1024) (r : Fin 2816) (j : Fin 2048) (k : Fin 11264) (hj : j.val = t.val / 4 % 2 * 1024 + s.val) (hk : k.val = t.val % 4 * 2816 + r.val) :
    rB m c t (ix2 s r) = rArg m c (ix2 j k) := by
  obtain ⟨-, -, -, e0, e1⟩ := index_in t
  exact at2 (rArg m c) (by show win0_1.index t (0 : Fin 2) * 1024 + 1 * s.val = j.val; omega) (by show win0_1.index t (1 : Fin 2) * 2816 + 1 * r.val = k.val; omega)

/-- The sweep of a tile, by its points' blocks and the sum that each leaves. -/
def sweep : Sweep 8192 2048 11264 1024 1024 2816 4 cfg0.N where
  l i k := lArg m c (ix3 (half k) i (rest k))
  r j k := rArg m c (ix2 j k)
  row t := t / 8
  col t := t / 4 % 2
  lb t a x := lB m c t (ix3 (0 : Fin 1) a x)
  rb t b x := rB m c t (ix2 b x)
  carried t a b := (outsAt0 m c t.val t.isLt).2 (ix2 a b)
  steps := rfl
  before t h := by omega
  lb_eq := l_block m c
  rb_eq := r_block m c
  first t ht a b := by
    rw [outsAt0_A m c t ht (by omega) (by omega)]
    dsimp only
    rw [first_eq]
    exact part_apply _ _ a b
  more := fun t h0 h1 a b => by
    rw [outsAt0_B m c t (by omega) (by omega) (by omega)]
    dsimp only
    rw [mid_eq]
    exact more_apply _ _ _ a b

/-- An entry of the kernel's array. -/
theorem kernel_at (i : Fin 8192) (j : Fin 2048) :
    (G2 m c : FVec Ideal S8192x2048 .bf16) (ix2 i j) = ∑ k : Fin 11264, lArg m c (ix3 (half k) i (rest k)) * rArg m c (ix2 j k) := by
  have hp : pt2Of (ix2 i j) = 4 * (2 * (i.val / 1024) + j.val / 1024) + 3 := by
    show 4 * (2 * (i.val / 1024 - 0) + 1 * (j.val / 1024 - 0)) + 3 = _
    omega
  have hN : pt2Of (ix2 i j) < cfg0.N := lt_of_lt_of_eq (by rw [hp]; omega : _ < 64) N_0.symm
  have hl : loc2Of (ix2 i j) = ix2 (⟨i.val % 1024, by omega⟩ : Fin 1024) (⟨j.val % 1024, by omega⟩ : Fin 1024) := eq_ix2 _
  unfold G2
  rw [dif_pos hN, ← outsAt0_sweep m c _ hN, hl]
  generalize pt2Of (ix2 i j) = n at hp hN
  rw [outsAt0_C m c ⟨n, hN⟩ (by dsimp only; omega) (by dsimp only; omega) (by dsimp only; omega)]
  dsimp only
  rw [last_eq]
  exact (round_apply _ _ _).trans ((more_apply _ _ _ _ _).trans
    ((sweep m c).total (by omega) ⟨n, hN⟩ (by dsimp only; omega) _ _ i j (by dsimp only [sweep]; omega) (by dsimp only [sweep]; omega)))

/-- An entry of the reference's array. -/
theorem reference_at (l : FVec Ideal S2x8192x5632 .bf16) (r : FVec Ideal S2048x11264 .bf16) (i : Fin 8192) (j : Fin 2048) :
    Cert.UpDxReferenceIdeal.Read.val_main_v11 (F := Ideal) l r (ix2 i j) = ∑ k : Fin 11264, l (ix3 (half k) i (rest k)) * r (ix2 j k) := by
  pointwise [Cert.UpDxReferenceIdeal.Read.val_main_v11, Cert.UpDxReferenceIdeal.Read.val_main_v10, Cert.UpDxReferenceIdeal.Read.val_main_v9, Cert.UpDxReferenceIdeal.Read.val_main_v7, Cert.UpDxReferenceIdeal.Read.val_main_v4, Cert.UpDxReferenceIdeal.Read.val_main_v3, Cert.UpDxReferenceIdeal.Read.val_main_v2, Cert.UpDxReferenceIdeal.Read.val_main_v1, Cert.UpDxReferenceIdeal.Read.val_main_v0]
  let f : Fin 11264 → EReal := fun k => l (ix3 (half k) i (rest k)) * r (ix2 j k)
  refine (congrArg (· + _) (firsts_zero f 5632 _ (by omega) fun x => ?_)).trans
    ((firsts_add f 5632 5632 _ (by omega) fun x => ?_).trans (firsts_all f))
  · exact congrArg (· * r (ix2 j ⟨x.val, by omega⟩))
      (at3 l (p := ix3 (0 : Fin 2) i x) (by show 0 = x.val / 5632; omega) rfl (by show x.val = x.val % 5632; omega))
  · exact congrArg (· * r (ix2 j ⟨5632 + x.val, by omega⟩))
      (at3 l (p := ix3 (1 : Fin 2) i x) (by show 1 = (5632 + x.val) / 5632; omega) rfl (by show x.val = (5632 + x.val) % 5632; omega))

/-- The two programs' arrays are the same. -/
theorem equal : G2 m c = Cert.UpDxReferenceIdeal.Read.val_main_v11 (F := Ideal) (lArg m c) (rArg m c) :=
  ext2 fun i j => (kernel_at m c i j).trans (reference_at _ _ i j).symm

end Cert.Pr.UpDx

end
-- ==== Proof.PrInDx.lean ====
/-
  The rows' gradient of the input projection: the kernel's array and the reference's, entry by entry.
-/
module

public import proofs.«01_k».proof.Proof.Gen.InDxIdeal.Value
public import proofs.«01_k».proof.Proof.Gen.InDxReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.InDx

open Cert.InDxIdeal Cert.InDxIdeal.Gen Cert.InDxIdeal.Value
open Cert.Xa (origin)

variable (m : (ℓ : Loc nD τ sig) → Buf (Elt Ideal) ℓ) (c : Dev nD)

/-- The two arguments of the call. -/
abbrev lArg : FVec Ideal S8192x13824 .bf16 := m ((c : Thread nD τ).loc main_arg0)
abbrev rArg : FVec Ideal S2048x13824 .bf16 := m ((c : Thread nD τ).loc main_arg1)

section
variable (p : grid0.Coords) (a3 : Memref sig .tc .vmem S1024x4608 .bf16) (h3 : a3.IsWhole) (a4 : Memref sig .tc .vmem S1024x4608 .bf16) (h4 : a4.IsWhole) (a5 : Memref sig .tc .vmem S1024x1024 .bf16) (h5 : a5.IsWhole) (a6 : Memref sig .tc .vmem S1024x1024 .f32) (h6 : a6.IsWhole)
variable (x0 : Vec Ideal S1024x4608 .bf16) (x1 : Vec Ideal S1024x4608 .bf16) (acc : Vec Ideal S1024x1024 .f32)

/-- What the first point of a tile leaves in the carried sum, from its blocks. -/
theorem first_eq (hc0 : cond0_0 p) (hc1 : ¬cond0_1 p) (hc2 : ¬cond0_2 p) :
    sout0_A_0 c p a3 h3 a4 h4 a5 h5 a6 h6 hc0 hc1 hc2 x0 x1 = k0_pay2 x0 x1 := by
  unfold sout0_A_0
  rw [View.read_writes_eq_canon _ _ _ (scover0_A_0 c p a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S1024x4608) origin]

/-- What a point between the first and the last leaves in the carried sum, from its blocks and the carried sum. -/
theorem mid_eq (hc0 : ¬cond0_0 p) (hc1 : cond0_1 p) (hc2 : ¬cond0_2 p) :
    sout0_B_0 c p a3 h3 a4 h4 a5 h5 a6 h6 hc0 hc1 hc2 x0 x1 acc = k0_pay3 x0 x1 acc := by
  unfold sout0_B_0
  rw [View.read_writes_eq_canon _ _ _ (scover0_B_0 c p a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S1024x1024) origin, View.ld_unit_zero (S := S1024x4608) origin]

/-- What the last point writes, from its blocks and the carried sum. -/
theorem last_eq (hc0 : ¬cond0_0 p) (hc1 : cond0_1 p) (hc2 : cond0_2 p) :
    out0_C_2 c p a3 h3 a4 h4 a5 h5 a6 h6 hc0 hc1 hc2 x0 x1 acc = k0_pay4 (k0_pay3 x0 x1 acc) := by
  unfold out0_C_2
  rw [View.read_writes_eq_canon _ _ _ (cover0_C_2 c p a3 h3 a4 h4 a5 h5 a6 h6 hc0 hc1 hc2 x0 x1 acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin, View.ld_unit_zero (S := S1024x4608) origin]
end

/-- An entry of the product of two blocks. -/
theorem part_apply (x0 : FVec Ideal S1024x4608 .bf16) (x1 : FVec Ideal S1024x4608 .bf16) (a : Fin 1024) (b : Fin 1024) :
    k0_pay2 (F := Ideal) x0 x1 (ix2 a b) = ∑ k : Fin 4608, x0 (ix2 a k) * x1 (ix2 b k) := by
  pointwise [k0_pay2, k0_pay1]

/-- An entry of the product of two blocks added to the carried sum. -/
theorem more_apply (x0 : FVec Ideal S1024x4608 .bf16) (x1 : FVec Ideal S1024x4608 .bf16) (acc : FVec Ideal S1024x1024 .f32) (a : Fin 1024) (b : Fin 1024) :
    k0_pay3 (F := Ideal) x0 x1 acc (ix2 a b) = acc (ix2 a b) + ∑ k : Fin 4608, x0 (ix2 a k) * x1 (ix2 b k) := by
  pointwise [k0_pay3, k0_pay1]

/-- The last cast changes no entry. -/
theorem round_apply (acc : FVec Ideal S1024x1024 .f32) (a : Fin 1024) (b : Fin 1024) : k0_pay4 (F := Ideal) acc (ix2 a b) = acc (ix2 a b) := by
  pointwise [k0_pay4]

/-- The places of a point's blocks. -/
theorem index_in : ∀ t : Fin cfg0.N, win0_0.index t (0 : Fin 2) = t.val / 6 ∧ win0_0.index t (1 : Fin 2) = t.val % 3
    ∧ win0_1.index t (0 : Fin 2) = t.val / 3 % 2 ∧ win0_1.index t (1 : Fin 2) = t.val % 3 :=
  (by decide +kernel : ∀ t : Fin grid0.N, _)

/-- A point's two blocks, at their literal shapes. -/
abbrev lB (t : Fin cfg0.N) : FVec Ideal S1024x4608 .bf16 := iblk m c 0 t
abbrev rB (t : Fin cfg0.N) : FVec Ideal S1024x4608 .bf16 := iblk m c 1 t

/-- An entry of a point's left block, in the whole array. -/
theorem l_block (t : Fin cfg0.N) (s : Fin 1024) (r : Fin 4608) (i : Fin 8192) (k : Fin 13824) (hi : i.val = t.val / 6 * 1024 + s.val) (hk : k.val = t.val % 3 * 4608 + r.val) :
    lB m c t (ix2 s r) = lArg m c (ix2 i k) := by
  obtain ⟨e0, e1, -⟩ := index_in t
  exact at2 (lArg m c) (by show win0_0.index t (0 : Fin 2) * 1024 + 1 * s.val = i.val; omega) (by show win0_0.index t (1 : Fin 2) * 4608 + 1 * r.val = k.val; omega)

/-- An entry of a point's right block, in the whole array. -/
theorem r_block (t : Fin cfg0.N) (s : Fin 1024) (r : Fin 4608) (j : Fin 2048) (k : Fin 13824) (hj : j.val = t.val / 3 % 2 * 1024 + s.val) (hk : k.val = t.val % 3 * 4608 + r.val) :
    rB m c t (ix2 s r) = rArg m c (ix2 j k) := by
  obtain ⟨-, -, e0, e1⟩ := index_in t
  exact at2 (rArg m c) (by show win0_1.index t (0 : Fin 2) * 1024 + 1 * s.val = j.val; omega) (by show win0_1.index t (1 : Fin 2) * 4608 + 1 * r.val = k.val; omega)

/-- The sweep of a tile, by its points' blocks and the sum that each leaves. -/
def sweep : Sweep 8192 2048 13824 1024 1024 4608 3 cfg0.N where
  l i k := lArg m c (ix2 i k)
  r j k := rArg m c (ix2 j k)
  row t := t / 6
  col t := t / 3 % 2
  lb t a x := lB m c t (ix2 a x)
  rb t b x := rB m c t (ix2 b x)
  carried t a b := (outsAt0 m c t.val t.isLt).2 (ix2 a b)
  steps := rfl
  before t h := by omega
  lb_eq := l_block m c
  rb_eq := r_block m c
  first t ht a b := by
    rw [outsAt0_A m c t ht (by omega) (by omega)]
    dsimp only
    rw [first_eq]
    exact part_apply _ _ a b
  more := fun t h0 h1 a b => by
    rw [outsAt0_B m c t (by omega) (by omega) (by omega)]
    dsimp only
    rw [mid_eq]
    exact more_apply _ _ _ a b

/-- An entry of the kernel's array. -/
theorem kernel_at (i : Fin 8192) (j : Fin 2048) :
    (G2 m c : FVec Ideal S8192x2048 .bf16) (ix2 i j) = ∑ k : Fin 13824, lArg m c (ix2 i k) * rArg m c (ix2 j k) := by
  have hp : pt2Of (ix2 i j) = 3 * (2 * (i.val / 1024) + j.val / 1024) + 2 := by
    show 3 * (2 * (i.val / 1024 - 0) + 1 * (j.val / 1024 - 0)) + 2 = _
    omega
  have hN : pt2Of (ix2 i j) < cfg0.N := lt_of_lt_of_eq (by rw [hp]; omega : _ < 48) N_0.symm
  have hl : loc2Of (ix2 i j) = ix2 (⟨i.val % 1024, by omega⟩ : Fin 1024) (⟨j.val % 1024, by omega⟩ : Fin 1024) := eq_ix2 _
  unfold G2
  rw [dif_pos hN, ← outsAt0_sweep m c _ hN, hl]
  generalize pt2Of (ix2 i j) = n at hp hN
  rw [outsAt0_C m c ⟨n, hN⟩ (by dsimp only; omega) (by dsimp only; omega) (by dsimp only; omega)]
  dsimp only
  rw [last_eq]
  exact (round_apply _ _ _).trans ((more_apply _ _ _ _ _).trans
    ((sweep m c).total (by omega) ⟨n, hN⟩ (by dsimp only; omega) _ _ i j (by dsimp only [sweep]; omega) (by dsimp only [sweep]; omega)))

/-- An entry of the reference's array. -/
theorem reference_at (l : FVec Ideal S8192x13824 .bf16) (r : FVec Ideal S2048x13824 .bf16) (i : Fin 8192) (j : Fin 2048) :
    Cert.InDxReferenceIdeal.Read.val_main_v6 (F := Ideal) l r (ix2 i j) = ∑ k : Fin 13824, l (ix2 i k) * r (ix2 j k) := by
  pointwise [Cert.InDxReferenceIdeal.Read.val_main_v6, Cert.InDxReferenceIdeal.Read.val_main_v5, Cert.InDxReferenceIdeal.Read.val_main_v4, Cert.InDxReferenceIdeal.Read.val_main_v2]

/-- The two programs' arrays are the same. -/
theorem equal : G2 m c = Cert.InDxReferenceIdeal.Read.val_main_v6 (F := Ideal) (lArg m c) (rArg m c) :=
  ext2 fun i j => (kernel_at m c i j).trans (reference_at _ _ i j).symm

end Cert.Pr.InDx

end
-- ==== Proof.PrInDw.lean ====
/-
  The weight's gradient of the input projection: the kernel's array and the reference's, entry by entry.
-/
module

public import proofs.«01_k».proof.Proof.Gen.InDwIdeal.Value
public import proofs.«01_k».proof.Proof.Gen.InDwReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.InDw

open Cert.InDwIdeal Cert.InDwIdeal.Gen Cert.InDwIdeal.Value
open Cert.Xa (origin)

variable (m : (ℓ : Loc nD τ sig) → Buf (Elt Ideal) ℓ) (c : Dev nD)

/-- The two arguments of the call. -/
abbrev lArg : FVec Ideal S8192x2048 .bf16 := m ((c : Thread nD τ).loc main_arg0)
abbrev rArg : FVec Ideal S8192x13824 .bf16 := m ((c : Thread nD τ).loc main_arg1)

section
variable (p : grid0.Coords) (a3 : Memref sig .tc .vmem S4096x1024 .bf16) (h3 : a3.IsWhole) (a4 : Memref sig .tc .vmem S4096x768 .bf16) (h4 : a4.IsWhole) (a5 : Memref sig .tc .vmem S1024x768 .bf16) (h5 : a5.IsWhole) (a6 : Memref sig .tc .vmem S1024x768 .f32) (h6 : a6.IsWhole)
variable (x0 : Vec Ideal S4096x1024 .bf16) (x1 : Vec Ideal S4096x768 .bf16) (acc : Vec Ideal S1024x768 .f32)

/-- What the first point of a tile leaves in the carried sum, from its blocks. -/
theorem first_eq (hc0 : cond0_0 p) (hc1 : ¬cond0_1 p) (hc2 : ¬cond0_2 p) :
    sout0_A_0 c p a3 h3 a4 h4 a5 h5 a6 h6 hc0 hc1 hc2 x0 x1 = k0_pay2 x0 x1 := by
  unfold sout0_A_0
  rw [View.read_writes_eq_canon _ _ _ (scover0_A_0 c p a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S4096x1024) origin, View.ld_unit_zero (S := S4096x768) origin]

/-- What the last point writes, from its blocks and the carried sum. -/
theorem last_eq (hc0 : ¬cond0_0 p) (hc1 : cond0_1 p) (hc2 : cond0_2 p) :
    out0_B_2 c p a3 h3 a4 h4 a5 h5 a6 h6 hc0 hc1 hc2 x0 x1 acc = k0_pay4 (k0_pay3 x0 x1 acc) := by
  unfold out0_B_2
  rw [View.read_writes_eq_canon _ _ _ (cover0_B_2 c p a3 h3 a4 h4 a5 h5 a6 h6 hc0 hc1 hc2 x0 x1 acc)]
  unfold kernelRun0_B
  dsimp only
  sl_unfold_words
  rw [View.canon_unit_zero origin, View.readCov_unit_zero (S := S1024x768) _ origin]
  simp only [View.readAt_eq_ld, h3.read_unread, h4.read_unread, h6.read_unread, View.ld_unit_zero (S := S1024x768) origin, View.ld_unit_zero (S := S4096x1024) origin, View.ld_unit_zero (S := S4096x768) origin]
end

/-- An entry of the product of two blocks. -/
theorem part_apply (x0 : FVec Ideal S4096x1024 .bf16) (x1 : FVec Ideal S4096x768 .bf16) (a : Fin 1024) (b : Fin 768) :
    k0_pay2 (F := Ideal) x0 x1 (ix2 a b) = ∑ k : Fin 4096, x0 (ix2 k a) * x1 (ix2 k b) := by
  pointwise [k0_pay2, k0_pay1]

/-- An entry of the product of two blocks added to the carried sum. -/
theorem more_apply (x0 : FVec Ideal S4096x1024 .bf16) (x1 : FVec Ideal S4096x768 .bf16) (acc : FVec Ideal S1024x768 .f32) (a : Fin 1024) (b : Fin 768) :
    k0_pay3 (F := Ideal) x0 x1 acc (ix2 a b) = acc (ix2 a b) + ∑ k : Fin 4096, x0 (ix2 k a) * x1 (ix2 k b) := by
  pointwise [k0_pay3, k0_pay1]

/-- The last cast changes no entry. -/
theorem round_apply (acc : FVec Ideal S1024x768 .f32) (a : Fin 1024) (b : Fin 768) : k0_pay4 (F := Ideal) acc (ix2 a b) = acc (ix2 a b) := by
  pointwise [k0_pay4]

/-- The places of a point's blocks. -/
theorem index_in : ∀ t : Fin cfg0.N, win0_0.index t (0 : Fin 2) = t.val % 2 ∧ win0_0.index t (1 : Fin 2) = t.val / 36
    ∧ win0_1.index t (0 : Fin 2) = t.val % 2 ∧ win0_1.index t (1 : Fin 2) = t.val / 2 % 18 :=
  (by decide +kernel : ∀ t : Fin grid0.N, _)

/-- A point's two blocks, at their literal shapes. -/
abbrev lB (t : Fin cfg0.N) : FVec Ideal S4096x1024 .bf16 := iblk m c 0 t
abbrev rB (t : Fin cfg0.N) : FVec Ideal S4096x768 .bf16 := iblk m c 1 t

/-- An entry of a point's left block, in the whole array. -/
theorem l_block (t : Fin cfg0.N) (s : Fin 1024) (r : Fin 4096) (i : Fin 2048) (k : Fin 8192) (hi : i.val = t.val / 36 * 1024 + s.val) (hk : k.val = t.val % 2 * 4096 + r.val) :
    lB m c t (ix2 r s) = lArg m c (ix2 k i) := by
  obtain ⟨e0, e1, -⟩ := index_in t
  exact at2 (lArg m c) (by show win0_0.index t (0 : Fin 2) * 4096 + 1 * r.val = k.val; omega) (by show win0_0.index t (1 : Fin 2) * 1024 + 1 * s.val = i.val; omega)

/-- An entry of a point's right block, in the whole array. -/
theorem r_block (t : Fin cfg0.N) (s : Fin 768) (r : Fin 4096) (j : Fin 13824) (k : Fin 8192) (hj : j.val = t.val / 2 % 18 * 768 + s.val) (hk : k.val = t.val % 2 * 4096 + r.val) :
    rB m c t (ix2 r s) = rArg m c (ix2 k j) := by
  obtain ⟨-, -, e0, e1⟩ := index_in t
  exact at2 (rArg m c) (by show win0_1.index t (0 : Fin 2) * 4096 + 1 * r.val = k.val; omega) (by show win0_1.index t (1 : Fin 2) * 768 + 1 * s.val = j.val; omega)

/-- The sweep of a tile, by its points' blocks and the sum that each leaves. -/
def sweep : Sweep 2048 13824 8192 1024 768 4096 2 cfg0.N where
  l i k := lArg m c (ix2 k i)
  r j k := rArg m c (ix2 k j)
  row t := t / 36
  col t := t / 2 % 18
  lb t a x := lB m c t (ix2 x a)
  rb t b x := rB m c t (ix2 x b)
  carried t a b := (outsAt0 m c t.val t.isLt).2 (ix2 a b)
  steps := rfl
  before t h := by omega
  lb_eq := l_block m c
  rb_eq := r_block m c
  first t ht a b := by
    rw [outsAt0_A m c t ht (by omega) (by omega)]
    dsimp only
    rw [first_eq]
    exact part_apply _ _ a b
  more := fun t h0 h1 => absurd h1 (by omega)

/-- An entry of the kernel's array. -/
theorem kernel_at (i : Fin 2048) (j : Fin 13824) :
    (G2 m c : FVec Ideal S2048x13824 .bf16) (ix2 i j) = ∑ k : Fin 8192, lArg m c (ix2 k i) * rArg m c (ix2 k j) := by
  have hp : pt2Of (ix2 i j) = 2 * (18 * (i.val / 1024) + j.val / 768) + 1 := by
    show 2 * (18 * (i.val / 1024 - 0) + 1 * (j.val / 768 - 0)) + 1 = _
    omega
  have hN : pt2Of (ix2 i j) < cfg0.N := lt_of_lt_of_eq (by rw [hp]; omega : _ < 72) N_0.symm
  have hl : loc2Of (ix2 i j) = ix2 (⟨i.val % 1024, by omega⟩ : Fin 1024) (⟨j.val % 768, by omega⟩ : Fin 768) := eq_ix2 _
  unfold G2
  rw [dif_pos hN, ← outsAt0_sweep m c _ hN, hl]
  generalize pt2Of (ix2 i j) = n at hp hN
  rw [outsAt0_B m c ⟨n, hN⟩ (by dsimp only; omega) (by dsimp only; omega) (by dsimp only; omega)]
  dsimp only
  rw [last_eq]
  exact (round_apply _ _ _).trans ((more_apply _ _ _ _ _).trans
    ((sweep m c).total (by omega) ⟨n, hN⟩ (by dsimp only; omega) _ _ i j (by dsimp only [sweep]; omega) (by dsimp only [sweep]; omega)))

/-- An entry of the reference's array. -/
theorem reference_at (l : FVec Ideal S8192x2048 .bf16) (r : FVec Ideal S8192x13824 .bf16) (i : Fin 2048) (j : Fin 13824) :
    Cert.InDwReferenceIdeal.Read.val_main_v7 (F := Ideal) l r (ix2 i j) = ∑ k : Fin 8192, l (ix2 k i) * r (ix2 k j) := by
  pointwise [Cert.InDwReferenceIdeal.Read.val_main_v7, Cert.InDwReferenceIdeal.Read.val_main_v6, Cert.InDwReferenceIdeal.Read.val_main_v5, Cert.InDwReferenceIdeal.Read.val_main_v4, Cert.InDwReferenceIdeal.Read.val_main_v1]
  exact Finset.sum_congr rfl fun k _ => mul_comm _ _

/-- The two programs' arrays are the same. -/
theorem equal : G2 m c = Cert.InDwReferenceIdeal.Read.val_main_v7 (F := Ideal) (lArg m c) (rArg m c) :=
  ext2 fun i j => (kernel_at m c i j).trans (reference_at _ _ i j).symm

end Cert.Pr.InDw

end
-- ==== Proof.PrKvDx.lean ====
/-
  The rows' gradient of the memory's key and value projection: the kernel's array and the reference's, entry by entry.
-/
module

public import proofs.«01_k».proof.Proof.Gen.KvDxIdeal.Value
public import proofs.«01_k».proof.Proof.Gen.KvDxReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.KvDx

open Cert.KvDxIdeal Cert.KvDxIdeal.Gen Cert.KvDxIdeal.Value
open Cert.Xa (origin)

variable (m : (ℓ : Loc nD τ sig) → Buf (Elt Ideal) ℓ) (c : Dev nD)

/-- The two arguments of the call. -/
abbrev lArg : FVec Ideal S256x4096 .bf16 := m ((c : Thread nD τ).loc main_arg0)
abbrev rArg : FVec Ideal S2048x4096 .bf16 := m ((c : Thread nD τ).loc main_arg1)

section
variable (p : grid0.Coords) (a3 : Memref sig .tc .vmem S256x2048 .bf16) (h3 : a3.IsWhole) (a4 : Memref sig .tc .vmem S1024x2048 .bf16) (h4 : a4.IsWhole) (a5 : Memref sig .tc .vmem S256x1024 .f32) (h5 : a5.IsWhole) (a6 : Memref sig .tc .vmem S256x1024 .f32) (h6 : a6.IsWhole)
variable (x0 : Vec Ideal S256x2048 .bf16) (x1 : Vec Ideal S1024x2048 .bf16) (acc : Vec Ideal S256x1024 .f32)

/-- What the first point of a tile leaves in the carried sum, from its blocks. -/
theorem first_eq (hc0 : cond0_0 p) (hc1 : ¬cond0_1 p) (hc2 : ¬cond0_2 p) :
    sout0_A_0 c p a3 h3 a4 h4 a5 h5 a6 h6 hc0 hc1 hc2 x0 x1 = k0_pay2 x0 x1 := by
  unfold sout0_A_0
  rw [View.read_writes_eq_canon _ _ _ (scover0_A_0 c p a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S256x2048) origin, View.ld_unit_zero (S := S1024x2048) origin]

/-- What the last point writes, from its blocks and the carried sum. -/
theorem last_eq (hc0 : ¬cond0_0 p) (hc1 : cond0_1 p) (hc2 : cond0_2 p) :
    out0_B_2 c p a3 h3 a4 h4 a5 h5 a6 h6 hc0 hc1 hc2 x0 x1 acc = k0_pay3 x0 x1 acc := by
  unfold out0_B_2
  rw [View.read_writes_eq_canon _ _ _ (cover0_B_2 c p a3 h3 a4 h4 a5 h5 a6 h6 hc0 hc1 hc2 x0 x1 acc)]
  unfold kernelRun0_B
  dsimp only
  sl_unfold_words
  rw [View.canon_unit_zero origin, View.readCov_unit_zero (S := S256x1024) _ origin]
  simp only [View.readAt_eq_ld, h3.read_unread, h4.read_unread, h6.read_unread, View.ld_unit_zero (S := S256x1024) origin, View.ld_unit_zero (S := S256x2048) origin, View.ld_unit_zero (S := S1024x2048) origin]
end

/-- An entry of the product of two blocks. -/
theorem part_apply (x0 : FVec Ideal S256x2048 .bf16) (x1 : FVec Ideal S1024x2048 .bf16) (a : Fin 256) (b : Fin 1024) :
    k0_pay2 (F := Ideal) x0 x1 (ix2 a b) = ∑ k : Fin 2048, x0 (ix2 a k) * x1 (ix2 b k) := by
  pointwise [k0_pay2, k0_pay1]

/-- An entry of the product of two blocks added to the carried sum. -/
theorem more_apply (x0 : FVec Ideal S256x2048 .bf16) (x1 : FVec Ideal S1024x2048 .bf16) (acc : FVec Ideal S256x1024 .f32) (a : Fin 256) (b : Fin 1024) :
    k0_pay3 (F := Ideal) x0 x1 acc (ix2 a b) = acc (ix2 a b) + ∑ k : Fin 2048, x0 (ix2 a k) * x1 (ix2 b k) := by
  pointwise [k0_pay3, k0_pay1]

/-- The places of a point's blocks. -/
theorem index_in : ∀ t : Fin cfg0.N, win0_0.index t (0 : Fin 2) = 0 ∧ win0_0.index t (1 : Fin 2) = t.val % 2
    ∧ win0_1.index t (0 : Fin 2) = t.val / 2 % 2 ∧ win0_1.index t (1 : Fin 2) = t.val % 2 :=
  (by decide +kernel : ∀ t : Fin grid0.N, _)

/-- A point's two blocks, at their literal shapes. -/
abbrev lB (t : Fin cfg0.N) : FVec Ideal S256x2048 .bf16 := iblk m c 0 t
abbrev rB (t : Fin cfg0.N) : FVec Ideal S1024x2048 .bf16 := iblk m c 1 t

/-- An entry of a point's left block, in the whole array. -/
theorem l_block (t : Fin cfg0.N) (s : Fin 256) (r : Fin 2048) (i : Fin 256) (k : Fin 4096) (hi : i.val = 0 * 256 + s.val) (hk : k.val = t.val % 2 * 2048 + r.val) :
    lB m c t (ix2 s r) = lArg m c (ix2 i k) := by
  obtain ⟨e0, e1, -⟩ := index_in t
  exact at2 (lArg m c) (by show win0_0.index t (0 : Fin 2) * 256 + 1 * s.val = i.val; omega) (by show win0_0.index t (1 : Fin 2) * 2048 + 1 * r.val = k.val; omega)

/-- An entry of a point's right block, in the whole array. -/
theorem r_block (t : Fin cfg0.N) (s : Fin 1024) (r : Fin 2048) (j : Fin 2048) (k : Fin 4096) (hj : j.val = t.val / 2 % 2 * 1024 + s.val) (hk : k.val = t.val % 2 * 2048 + r.val) :
    rB m c t (ix2 s r) = rArg m c (ix2 j k) := by
  obtain ⟨-, -, e0, e1⟩ := index_in t
  exact at2 (rArg m c) (by show win0_1.index t (0 : Fin 2) * 1024 + 1 * s.val = j.val; omega) (by show win0_1.index t (1 : Fin 2) * 2048 + 1 * r.val = k.val; omega)

/-- The sweep of a tile, by its points' blocks and the sum that each leaves. -/
def sweep : Sweep 256 2048 4096 256 1024 2048 2 cfg0.N where
  l i k := lArg m c (ix2 i k)
  r j k := rArg m c (ix2 j k)
  row t := 0
  col t := t / 2 % 2
  lb t a x := lB m c t (ix2 a x)
  rb t b x := rB m c t (ix2 b x)
  carried t a b := (outsAt0 m c t.val t.isLt).2 (ix2 a b)
  steps := rfl
  before t h := by omega
  lb_eq := l_block m c
  rb_eq := r_block m c
  first t ht a b := by
    rw [outsAt0_A m c t ht (by omega) (by omega)]
    dsimp only
    rw [first_eq]
    exact part_apply _ _ a b
  more := fun t h0 h1 => absurd h1 (by omega)

/-- An entry of the kernel's array. -/
theorem kernel_at (i : Fin 256) (j : Fin 2048) :
    (G2 m c : FVec Ideal S256x2048 .f32) (ix2 i j) = ∑ k : Fin 4096, lArg m c (ix2 i k) * rArg m c (ix2 j k) := by
  have hp : pt2Of (ix2 i j) = 2 * (2 * (i.val / 256) + j.val / 1024) + 1 := by
    show 2 * (2 * (i.val / 256 - 0) + 1 * (j.val / 1024 - 0)) + 1 = _
    omega
  have hN : pt2Of (ix2 i j) < cfg0.N := lt_of_lt_of_eq (by rw [hp]; omega : _ < 4) N_0.symm
  have hl : loc2Of (ix2 i j) = ix2 (⟨i.val % 256, by omega⟩ : Fin 256) (⟨j.val % 1024, by omega⟩ : Fin 1024) := eq_ix2 _
  unfold G2
  rw [dif_pos hN, ← outsAt0_sweep m c _ hN, hl]
  generalize pt2Of (ix2 i j) = n at hp hN
  rw [outsAt0_B m c ⟨n, hN⟩ (by (try dsimp only); omega) (by (try dsimp only); omega) (by (try dsimp only); omega)]
  dsimp only
  rw [last_eq]
  exact (more_apply _ _ _ _ _).trans
    ((sweep m c).total (by omega) ⟨n, hN⟩ (by (try dsimp only); omega) _ _ i j (by dsimp only [sweep]; omega) (by dsimp only [sweep]; omega))

/-- An entry of the reference's array. -/
theorem reference_at (l : FVec Ideal S256x4096 .bf16) (r : FVec Ideal S2048x4096 .bf16) (i : Fin 256) (j : Fin 2048) :
    Cert.KvDxReferenceIdeal.Read.val_main_v4 (F := Ideal) l r (ix2 i j) = ∑ k : Fin 4096, l (ix2 i k) * r (ix2 j k) := by
  pointwise [Cert.KvDxReferenceIdeal.Read.val_main_v4, Cert.KvDxReferenceIdeal.Read.val_main_v3, Cert.KvDxReferenceIdeal.Read.val_main_v2, Cert.KvDxReferenceIdeal.Read.val_main_v1]

/-- The two programs' arrays are the same. -/
theorem equal : G2 m c = Cert.KvDxReferenceIdeal.Read.val_main_v4 (F := Ideal) (lArg m c) (rArg m c) :=
  ext2 fun i j => (kernel_at m c i j).trans (reference_at _ _ i j).symm

end Cert.Pr.KvDx

end
-- ==== Proof.PrKvDw.lean ====
/-
  The weight's gradient of the memory's key and value projection: the kernel's array and the reference's, entry by entry.
-/
module

public import proofs.«01_k».proof.Proof.Gen.KvDwIdeal.Value
public import proofs.«01_k».proof.Proof.Gen.KvDwReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.KvDw

open Cert.KvDwIdeal Cert.KvDwIdeal.Gen Cert.KvDwIdeal.Value
open Cert.Xa (origin)

variable (m : (ℓ : Loc nD τ sig) → Buf (Elt Ideal) ℓ) (c : Dev nD)

/-- The two arguments of the call. -/
abbrev lArg : FVec Ideal S256x2048 .bf16 := m ((c : Thread nD τ).loc main_arg0)
abbrev rArg : FVec Ideal S256x4096 .bf16 := m ((c : Thread nD τ).loc main_arg1)

section
variable (p : grid0.Coords) (a3 : Memref sig .tc .vmem S256x1024 .bf16) (h3 : a3.IsWhole) (a4 : Memref sig .tc .vmem S256x1024 .bf16) (h4 : a4.IsWhole) (a5 : Memref sig .tc .vmem S1024x1024 .bf16) (h5 : a5.IsWhole) (a6 : Memref sig .tc .vmem S8x128 .f32) (h6 : a6.IsWhole)
variable (x0 : Vec Ideal S256x1024 .bf16) (x1 : Vec Ideal S256x1024 .bf16) (acc : Vec Ideal S1024x1024 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S256x1024) origin]
end

/-- An entry of the product of two blocks. -/
theorem part_apply (x0 : FVec Ideal S256x1024 .bf16) (x1 : FVec Ideal S256x1024 .bf16) (a : Fin 1024) (b : Fin 1024) :
    k0_pay1 (F := Ideal) x0 x1 (ix2 a b) = ∑ k : Fin 256, x0 (ix2 k a) * x1 (ix2 k b) := by
  pointwise [k0_pay1]

/-- The places of a point's blocks, and of the tile it writes. -/
theorem index_in : ∀ t : Fin cfg0.N, win0_0.index t (0 : Fin 2) = 0 ∧ win0_0.index t (1 : Fin 2) = t.val / 4
    ∧ win0_1.index t (0 : Fin 2) = 0 ∧ win0_1.index t (1 : Fin 2) = t.val % 4
    ∧ win0_2.index t (0 : Fin 2) = t.val / 4 ∧ win0_2.index t (1 : Fin 2) = t.val % 4 ∧ win0_2.flush t = true :=
  (by decide +kernel : ∀ t : Fin grid0.N, _)

/-- A point's two blocks, at their literal shapes. -/
abbrev lB (t : Fin cfg0.N) : FVec Ideal S256x1024 .bf16 := iblk m c 0 t
abbrev rB (t : Fin cfg0.N) : FVec Ideal S256x1024 .bf16 := iblk m c 1 t

/-- An entry of a point's left block, in the whole array. -/
theorem l_block (t : Fin cfg0.N) (s : Fin 1024) (r : Fin 256) (i : Fin 2048) (hi : i.val = t.val / 4 * 1024 + s.val) :
    lB m c t (ix2 r s) = lArg m c (ix2 r i) := by
  obtain ⟨e0, e1, -⟩ := index_in t
  exact at2 (lArg m c) (by show win0_0.index t (0 : Fin 2) * 256 + 1 * r.val = r.val; omega) (by show win0_0.index t (1 : Fin 2) * 1024 + 1 * s.val = i.val; omega)

/-- An entry of a point's right block, in the whole array. -/
theorem r_block (t : Fin cfg0.N) (s : Fin 1024) (r : Fin 256) (j : Fin 4096) (hj : j.val = t.val % 4 * 1024 + s.val) :
    rB m c t (ix2 r s) = rArg m c (ix2 r j) := by
  obtain ⟨-, -, e0, e1, -⟩ := index_in t
  exact at2 (rArg m c) (by show win0_1.index t (0 : Fin 2) * 256 + 1 * r.val = r.val; omega) (by show win0_1.index t (1 : Fin 2) * 1024 + 1 * s.val = j.val; omega)

/-- An entry of the kernel's array. -/
theorem kernel_at (i : Fin 2048) (j : Fin 4096) :
    ((dats m 0 c).arrAt 2 cfg0.N : FVec Ideal S2048x4096 .bf16) (ix2 i j) = ∑ k : Fin 256, lArg m c (ix2 k i) * rArg m c (ix2 k j) := by
  have ht : i.val / 1024 * 4 + j.val / 1024 < cfg0.N := lt_of_lt_of_eq (by omega : _ < 8) N_0.symm
  obtain ⟨-, -, -, -, e0, e1, hf⟩ := index_in ⟨_, ht⟩
  have hb := congrFun (blocks2 m c ⟨_, ht⟩ hf) (ix2 (⟨i.val % 1024, by omega⟩ : Fin 1024) (⟨j.val % 1024, by omega⟩ : Fin 1024))
  rw [flushed2_A, out_eq] at hb
  refine Eq.trans ?_ (hb.trans ((part_apply _ _ _ _).trans (Finset.sum_congr rfl fun k _ =>
    congrArg₂ (· * ·) (l_block m c ⟨_, ht⟩ _ k i (by dsimp only; omega)) (r_block m c ⟨_, ht⟩ _ k j (by dsimp only; omega)))))
  exact at2 ((dats m 0 c).arrAt 2 cfg0.N : FVec Ideal S2048x4096 .bf16)
    (by show i.val = win0_2.index _ (0 : Fin 2) * 1024 + 1 * (i.val % 1024); rw [e0]; (try dsimp only); omega)
    (by show j.val = win0_2.index _ (1 : Fin 2) * 1024 + 1 * (j.val % 1024); rw [e1]; (try dsimp only); omega)

/-- An entry of the reference's array. -/
theorem reference_at (l : FVec Ideal S256x2048 .bf16) (r : FVec Ideal S256x4096 .bf16) (i : Fin 2048) (j : Fin 4096) :
    Cert.KvDwReferenceIdeal.Read.val_main_v7 (F := Ideal) l r (ix2 i j) = ∑ k : Fin 256, l (ix2 k i) * r (ix2 k j) := by
  pointwise [Cert.KvDwReferenceIdeal.Read.val_main_v7, Cert.KvDwReferenceIdeal.Read.val_main_v6, Cert.KvDwReferenceIdeal.Read.val_main_v5, Cert.KvDwReferenceIdeal.Read.val_main_v4, Cert.KvDwReferenceIdeal.Read.val_main_v1]
  exact Finset.sum_congr rfl fun k _ => mul_comm _ _

/-- The two programs' arrays are the same. -/
theorem equal : (dats m 0 c).arrAt 2 cfg0.N = Cert.KvDwReferenceIdeal.Read.val_main_v7 (F := Ideal) (lArg m c) (rArg m c) :=
  ext2 fun i j => (kernel_at m c i j).trans (reference_at _ _ i j).symm

end Cert.Pr.KvDw

end
-- ==== Proof.PrInProj.lean ====
/-
  The input projection: the kernel's array and the reference's, entry by entry.
-/
module

public import proofs.«01_k».proof.Proof.Gen.InProjIdeal.Value
public import proofs.«01_k».proof.Proof.Gen.InProjReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.InProj

open Cert.InProjIdeal Cert.InProjIdeal.Gen Cert.InProjIdeal.Value
open Cert.Xa (origin)

variable (m : (ℓ : Loc nD τ sig) → Buf (Elt Ideal) ℓ) (c : Dev nD)

/-- The two arguments of the call. -/
abbrev lArg : FVec Ideal S8192x2048 .bf16 := m ((c : Thread nD τ).loc main_arg0)
abbrev rArg : FVec Ideal S2048x13824 .bf16 := m ((c : Thread nD τ).loc main_arg1)

section
variable (p : grid0.Coords) (a3 : Memref sig .tc .vmem S1024x2048 .bf16) (h3 : a3.IsWhole) (a4 : Memref sig .tc .vmem S2048x1536 .bf16) (h4 : a4.IsWhole) (a5 : Memref sig .tc .vmem S1024x1536 .bf16) (h5 : a5.IsWhole) (a6 : Memref sig .tc .vmem S8x128 .f32) (h6 : a6.IsWhole)
variable (x0 : Vec Ideal S1024x2048 .bf16) (x1 : Vec Ideal S2048x1536 .bf16) (acc : Vec Ideal S1024x1536 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S1024x2048) origin, View.ld_unit_zero (S := S2048x1536) origin]
end

/-- An entry of the product of two blocks. -/
theorem part_apply (x0 : FVec Ideal S1024x2048 .bf16) (x1 : FVec Ideal S2048x1536 .bf16) (a : Fin 1024) (b : Fin 1536) :
    k0_pay1 (F := Ideal) x0 x1 (ix2 a b) = ∑ k : Fin 2048, x0 (ix2 a k) * x1 (ix2 k b) := by
  pointwise [k0_pay1]

/-- The places of a point's blocks, and of the tile it writes. -/
theorem index_in : ∀ t : Fin cfg0.N, win0_0.index t (0 : Fin 2) = t.val / 9 ∧ win0_0.index t (1 : Fin 2) = 0
    ∧ win0_1.index t (0 : Fin 2) = 0 ∧ win0_1.index t (1 : Fin 2) = t.val % 9
    ∧ win0_2.index t (0 : Fin 2) = t.val / 9 ∧ win0_2.index t (1 : Fin 2) = t.val % 9 ∧ win0_2.flush t = true :=
  (by decide +kernel : ∀ t : Fin grid0.N, _)

/-- A point's two blocks, at their literal shapes. -/
abbrev lB (t : Fin cfg0.N) : FVec Ideal S1024x2048 .bf16 := iblk m c 0 t
abbrev rB (t : Fin cfg0.N) : FVec Ideal S2048x1536 .bf16 := iblk m c 1 t

/-- An entry of a point's left block, in the whole array. -/
theorem l_block (t : Fin cfg0.N) (s : Fin 1024) (r : Fin 2048) (i : Fin 8192) (hi : i.val = t.val / 9 * 1024 + s.val) :
    lB m c t (ix2 s r) = lArg m c (ix2 i r) := by
  obtain ⟨e0, e1, -⟩ := index_in t
  exact at2 (lArg m c) (by show win0_0.index t (0 : Fin 2) * 1024 + 1 * s.val = i.val; omega) (by show win0_0.index t (1 : Fin 2) * 2048 + 1 * r.val = r.val; omega)

/-- An entry of a point's right block, in the whole array. -/
theorem r_block (t : Fin cfg0.N) (s : Fin 1536) (r : Fin 2048) (j : Fin 13824) (hj : j.val = t.val % 9 * 1536 + s.val) :
    rB m c t (ix2 r s) = rArg m c (ix2 r j) := by
  obtain ⟨-, -, e0, e1, -⟩ := index_in t
  exact at2 (rArg m c) (by show win0_1.index t (0 : Fin 2) * 2048 + 1 * r.val = r.val; omega) (by show win0_1.index t (1 : Fin 2) * 1536 + 1 * s.val = j.val; omega)

/-- An entry of the kernel's array. -/
theorem kernel_at (i : Fin 8192) (j : Fin 13824) :
    ((dats m 0 c).arrAt 2 cfg0.N : FVec Ideal S8192x13824 .bf16) (ix2 i j) = ∑ k : Fin 2048, lArg m c (ix2 i k) * rArg m c (ix2 k j) := by
  have ht : i.val / 1024 * 9 + j.val / 1536 < cfg0.N := lt_of_lt_of_eq (by omega : _ < 72) N_0.symm
  obtain ⟨-, -, -, -, e0, e1, hf⟩ := index_in ⟨_, ht⟩
  have hb := congrFun (blocks2 m c ⟨_, ht⟩ hf) (ix2 (⟨i.val % 1024, by omega⟩ : Fin 1024) (⟨j.val % 1536, by omega⟩ : Fin 1536))
  rw [flushed2_A, out_eq] at hb
  refine Eq.trans ?_ (hb.trans ((part_apply _ _ _ _).trans (Finset.sum_congr rfl fun k _ =>
    congrArg₂ (· * ·) (l_block m c ⟨_, ht⟩ _ k i (by dsimp only; omega)) (r_block m c ⟨_, ht⟩ _ k j (by dsimp only; omega)))))
  exact at2 ((dats m 0 c).arrAt 2 cfg0.N : FVec Ideal S8192x13824 .bf16)
    (by show i.val = win0_2.index _ (0 : Fin 2) * 1024 + 1 * (i.val % 1024); rw [e0]; (try dsimp only); omega)
    (by show j.val = win0_2.index _ (1 : Fin 2) * 1536 + 1 * (j.val % 1536); rw [e1]; (try dsimp only); omega)

/-- An entry of the reference's array. -/
theorem reference_at (l : FVec Ideal S8192x2048 .bf16) (r : FVec Ideal S2048x13824 .bf16) (i : Fin 8192) (j : Fin 13824) :
    Cert.InProjReferenceIdeal.Read.val_main_v3 (F := Ideal) l r (ix2 i j) = ∑ k : Fin 2048, l (ix2 i k) * r (ix2 k j) := by
  pointwise [Cert.InProjReferenceIdeal.Read.val_main_v3, Cert.InProjReferenceIdeal.Read.val_main_v2, Cert.InProjReferenceIdeal.Read.val_main_v1, Cert.InProjReferenceIdeal.Read.val_main_v0]

/-- The two programs' arrays are the same. -/
theorem equal : (dats m 0 c).arrAt 2 cfg0.N = Cert.InProjReferenceIdeal.Read.val_main_v3 (F := Ideal) (lArg m c) (rArg m c) :=
  ext2 fun i j => (kernel_at m c i j).trans (reference_at _ _ i j).symm

end Cert.Pr.InProj

end
-- ==== Proof.PrSquare.lean ====
/-
  A product of model rows with a square weight: the kernel's array and the reference's, entry by entry.
-/
module

public import proofs.«01_k».proof.Proof.Gen.SquareIdeal.Value
public import proofs.«01_k».proof.Proof.Gen.SquareReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.Square

open Cert.SquareIdeal Cert.SquareIdeal.Gen Cert.SquareIdeal.Value
open Cert.Xa (origin)

variable (m : (ℓ : Loc nD τ sig) → Buf (Elt Ideal) ℓ) (c : Dev nD)

/-- The two arguments of the call. -/
abbrev lArg : FVec Ideal S8192x2048 .bf16 := m ((c : Thread nD τ).loc main_arg0)
abbrev rArg : FVec Ideal S2048x2048 .bf16 := m ((c : Thread nD τ).loc main_arg1)

section
variable (p : grid0.Coords) (a3 : Memref sig .tc .vmem S1024x2048 .bf16) (h3 : a3.IsWhole) (a4 : Memref sig .tc .vmem S2048x1024 .bf16) (h4 : a4.IsWhole) (a5 : Memref sig .tc .vmem S1024x1024 .bf16) (h5 : a5.IsWhole) (a6 : Memref sig .tc .vmem S8x128 .f32) (h6 : a6.IsWhole)
variable (x0 : Vec Ideal S1024x2048 .bf16) (x1 : Vec Ideal S2048x1024 .bf16) (acc : Vec Ideal S1024x1024 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S1024x2048) origin, View.ld_unit_zero (S := S2048x1024) origin]
end

/-- An entry of the product of two blocks. -/
theorem part_apply (x0 : FVec Ideal S1024x2048 .bf16) (x1 : FVec Ideal S2048x1024 .bf16) (a : Fin 1024) (b : Fin 1024) :
    k0_pay1 (F := Ideal) x0 x1 (ix2 a b) = ∑ k : Fin 2048, x0 (ix2 a k) * x1 (ix2 k b) := by
  pointwise [k0_pay1]

/-- The places of a point's blocks, and of the tile it writes. -/
theorem index_in : ∀ t : Fin cfg0.N, win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = t.val % 2 ∧ win0_2.flush t = true :=
  (by decide +kernel : ∀ t : Fin grid0.N, _)

/-- A point's two blocks, at their literal shapes. -/
abbrev lB (t : Fin cfg0.N) : FVec Ideal S1024x2048 .bf16 := iblk m c 0 t
abbrev rB (t : Fin cfg0.N) : FVec Ideal S2048x1024 .bf16 := iblk m c 1 t

/-- An entry of a point's left block, in the whole array. -/
theorem l_block (t : Fin cfg0.N) (s : Fin 1024) (r : Fin 2048) (i : Fin 8192) (hi : i.val = t.val / 2 * 1024 + s.val) :
    lB m c t (ix2 s r) = lArg m c (ix2 i r) := by
  obtain ⟨e0, e1, -⟩ := index_in t
  exact at2 (lArg m c) (by show win0_0.index t (0 : Fin 2) * 1024 + 1 * s.val = i.val; omega) (by show win0_0.index t (1 : Fin 2) * 2048 + 1 * r.val = r.val; omega)

/-- An entry of a point's right block, in the whole array. -/
theorem r_block (t : Fin cfg0.N) (s : Fin 1024) (r : Fin 2048) (j : Fin 2048) (hj : j.val = t.val % 2 * 1024 + s.val) :
    rB m c t (ix2 r s) = rArg m c (ix2 r j) := by
  obtain ⟨-, -, e0, e1, -⟩ := index_in t
  exact at2 (rArg m c) (by show win0_1.index t (0 : Fin 2) * 2048 + 1 * r.val = r.val; omega) (by show win0_1.index t (1 : Fin 2) * 1024 + 1 * s.val = j.val; omega)

/-- An entry of the kernel's array. -/
theorem kernel_at (i : Fin 8192) (j : Fin 2048) :
    ((dats m 0 c).arrAt 2 cfg0.N : FVec Ideal S8192x2048 .bf16) (ix2 i j) = ∑ k : Fin 2048, lArg m c (ix2 i k) * rArg m c (ix2 k j) := by
  have ht : i.val / 1024 * 2 + j.val / 1024 < cfg0.N := lt_of_lt_of_eq (by omega : _ < 16) N_0.symm
  obtain ⟨-, -, -, -, e0, e1, hf⟩ := index_in ⟨_, ht⟩
  have hb := congrFun (blocks2 m c ⟨_, ht⟩ hf) (ix2 (⟨i.val % 1024, by omega⟩ : Fin 1024) (⟨j.val % 1024, by omega⟩ : Fin 1024))
  rw [flushed2_A, out_eq] at hb
  refine Eq.trans ?_ (hb.trans ((part_apply _ _ _ _).trans (Finset.sum_congr rfl fun k _ =>
    congrArg₂ (· * ·) (l_block m c ⟨_, ht⟩ _ k i (by dsimp only; omega)) (r_block m c ⟨_, ht⟩ _ k j (by dsimp only; omega)))))
  exact at2 ((dats m 0 c).arrAt 2 cfg0.N : FVec Ideal S8192x2048 .bf16)
    (by show i.val = win0_2.index _ (0 : Fin 2) * 1024 + 1 * (i.val % 1024); rw [e0]; (try dsimp only); omega)
    (by show j.val = win0_2.index _ (1 : Fin 2) * 1024 + 1 * (j.val % 1024); rw [e1]; (try dsimp only); omega)

/-- An entry of the reference's array. -/
theorem reference_at (l : FVec Ideal S8192x2048 .bf16) (r : FVec Ideal S2048x2048 .bf16) (i : Fin 8192) (j : Fin 2048) :
    Cert.SquareReferenceIdeal.Read.val_main_v3 (F := Ideal) l r (ix2 i j) = ∑ k : Fin 2048, l (ix2 i k) * r (ix2 k j) := by
  pointwise [Cert.SquareReferenceIdeal.Read.val_main_v3, Cert.SquareReferenceIdeal.Read.val_main_v2, Cert.SquareReferenceIdeal.Read.val_main_v1, Cert.SquareReferenceIdeal.Read.val_main_v0]

/-- The two programs' arrays are the same. -/
theorem equal : (dats m 0 c).arrAt 2 cfg0.N = Cert.SquareReferenceIdeal.Read.val_main_v3 (F := Ideal) (lArg m c) (rArg m c) :=
  ext2 fun i j => (kernel_at m c i j).trans (reference_at _ _ i j).symm

end Cert.Pr.Square

end
-- ==== Proof.PrSquareF.lean ====
/-
  A product of model rows with a square weight, kept in single precision: the kernel's array and the reference's, entry by entry.
-/
module

public import proofs.«01_k».proof.Proof.Gen.SquareFIdeal.Value
public import proofs.«01_k».proof.Proof.Gen.SquareFReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.SquareF

open Cert.SquareFIdeal Cert.SquareFIdeal.Gen Cert.SquareFIdeal.Value
open Cert.Xa (origin)

variable (m : (ℓ : Loc nD τ sig) → Buf (Elt Ideal) ℓ) (c : Dev nD)

/-- The two arguments of the call. -/
abbrev lArg : FVec Ideal S8192x2048 .bf16 := m ((c : Thread nD τ).loc main_arg0)
abbrev rArg : FVec Ideal S2048x2048 .bf16 := m ((c : Thread nD τ).loc main_arg1)

section
variable (p : grid0.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S8x128 .f32) (h6 : a6.IsWhole)
variable (x0 : Vec Ideal S1024x2048 .bf16) (x1 : Vec Ideal S2048x1024 .bf16) (acc : Vec Ideal S1024x1024 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S1024x2048) origin, View.ld_unit_zero (S := S2048x1024) origin]
end

/-- An entry of the product of two blocks. -/
theorem part_apply (x0 : FVec Ideal S1024x2048 .bf16) (x1 : FVec Ideal S2048x1024 .bf16) (a : Fin 1024) (b : Fin 1024) :
    k0_pay1 (F := Ideal) x0 x1 (ix2 a b) = ∑ k : Fin 2048, x0 (ix2 a k) * x1 (ix2 k b) := by
  pointwise [k0_pay1]

/-- The places of a point's blocks, and of the tile it writes. -/
theorem index_in : ∀ t : Fin cfg0.N, win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = t.val % 2 ∧ win0_2.flush t = true :=
  (by decide +kernel : ∀ t : Fin grid0.N, _)

/-- A point's two blocks, at their literal shapes. -/
abbrev lB (t : Fin cfg0.N) : FVec Ideal S1024x2048 .bf16 := iblk m c 0 t
abbrev rB (t : Fin cfg0.N) : FVec Ideal S2048x1024 .bf16 := iblk m c 1 t

/-- An entry of a point's left block, in the whole array. -/
theorem l_block (t : Fin cfg0.N) (s : Fin 1024) (r : Fin 2048) (i : Fin 8192) (hi : i.val = t.val / 2 * 1024 + s.val) :
    lB m c t (ix2 s r) = lArg m c (ix2 i r) := by
  obtain ⟨e0, e1, -⟩ := index_in t
  exact at2 (lArg m c) (by show win0_0.index t (0 : Fin 2) * 1024 + 1 * s.val = i.val; omega) (by show win0_0.index t (1 : Fin 2) * 2048 + 1 * r.val = r.val; omega)

/-- An entry of a point's right block, in the whole array. -/
theorem r_block (t : Fin cfg0.N) (s : Fin 1024) (r : Fin 2048) (j : Fin 2048) (hj : j.val = t.val % 2 * 1024 + s.val) :
    rB m c t (ix2 r s) = rArg m c (ix2 r j) := by
  obtain ⟨-, -, e0, e1, -⟩ := index_in t
  exact at2 (rArg m c) (by show win0_1.index t (0 : Fin 2) * 2048 + 1 * r.val = r.val; omega) (by show win0_1.index t (1 : Fin 2) * 1024 + 1 * s.val = j.val; omega)

/-- An entry of the kernel's array. -/
theorem kernel_at (i : Fin 8192) (j : Fin 2048) :
    ((dats m 0 c).arrAt 2 cfg0.N : FVec Ideal S8192x2048 .f32) (ix2 i j) = ∑ k : Fin 2048, lArg m c (ix2 i k) * rArg m c (ix2 k j) := by
  have ht : i.val / 1024 * 2 + j.val / 1024 < cfg0.N := lt_of_lt_of_eq (by omega : _ < 16) N_0.symm
  obtain ⟨-, -, -, -, e0, e1, hf⟩ := index_in ⟨_, ht⟩
  have hb := congrFun (blocks2 m c ⟨_, ht⟩ hf) (ix2 (⟨i.val % 1024, by omega⟩ : Fin 1024) (⟨j.val % 1024, by omega⟩ : Fin 1024))
  rw [flushed2_A, out_eq] at hb
  refine Eq.trans ?_ (hb.trans ((part_apply _ _ _ _).trans (Finset.sum_congr rfl fun k _ =>
    congrArg₂ (· * ·) (l_block m c ⟨_, ht⟩ _ k i (by dsimp only; omega)) (r_block m c ⟨_, ht⟩ _ k j (by dsimp only; omega)))))
  exact at2 ((dats m 0 c).arrAt 2 cfg0.N : FVec Ideal S8192x2048 .f32)
    (by show i.val = win0_2.index _ (0 : Fin 2) * 1024 + 1 * (i.val % 1024); rw [e0]; (try dsimp only); omega)
    (by show j.val = win0_2.index _ (1 : Fin 2) * 1024 + 1 * (j.val % 1024); rw [e1]; (try dsimp only); omega)

/-- An entry of the reference's array. -/
theorem reference_at (l : FVec Ideal S8192x2048 .bf16) (r : FVec Ideal S2048x2048 .bf16) (i : Fin 8192) (j : Fin 2048) :
    Cert.SquareFReferenceIdeal.Read.val_main_v2 (F := Ideal) l r (ix2 i j) = ∑ k : Fin 2048, l (ix2 i k) * r (ix2 k j) := by
  pointwise [Cert.SquareFReferenceIdeal.Read.val_main_v2, Cert.SquareFReferenceIdeal.Read.val_main_v1, Cert.SquareFReferenceIdeal.Read.val_main_v0]

/-- The two programs' arrays are the same. -/
theorem equal : (dats m 0 c).arrAt 2 cfg0.N = Cert.SquareFReferenceIdeal.Read.val_main_v2 (F := Ideal) (lArg m c) (rArg m c) :=
  ext2 fun i j => (kernel_at m c i j).trans (reference_at _ _ i j).symm

end Cert.Pr.SquareF

end
-- ==== Proof.PrPool.lean ====
/-
  The pooling branch's last product: the kernel's array and the reference's, entry by entry.
-/
module

public import proofs.«01_k».proof.Proof.Gen.PoolIdeal.Value
public import proofs.«01_k».proof.Proof.Gen.PoolReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.Pool

open Cert.PoolIdeal Cert.PoolIdeal.Gen Cert.PoolIdeal.Value
open Cert.Xa (origin)

variable (m : (ℓ : Loc nD τ sig) → Buf (Elt Ideal) ℓ) (c : Dev nD)

/-- The two arguments of the call. -/
abbrev lArg : FVec Ideal S8192x1024 .bf16 := m ((c : Thread nD τ).loc main_arg0)
abbrev rArg : FVec Ideal S1024x2048 .bf16 := m ((c : Thread nD τ).loc main_arg1)

section
variable (p : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S8x128 .f32) (h6 : a6.IsWhole)
variable (x0 : Vec Ideal S1024x1024 .bf16) (x1 : Vec Ideal S1024x1024 .bf16) (acc : Vec Ideal S1024x1024 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S1024x1024) origin]
end

/-- An entry of the product of two blocks. -/
theorem part_apply (x0 : FVec Ideal S1024x1024 .bf16) (x1 : FVec Ideal S1024x1024 .bf16) (a : Fin 1024) (b : Fin 1024) :
    k0_pay1 (F := Ideal) x0 x1 (ix2 a b) = ∑ k : Fin 1024, x0 (ix2 a k) * x1 (ix2 k b) := by
  pointwise [k0_pay1]

/-- The places of a point's blocks, and of the tile it writes. -/
theorem index_in : ∀ t : Fin cfg0.N, win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = t.val % 2 ∧ win0_2.flush t = true :=
  (by decide +kernel : ∀ t : Fin grid0.N, _)

/-- A point's two blocks, at their literal shapes. -/
abbrev lB (t : Fin cfg0.N) : FVec Ideal S1024x1024 .bf16 := iblk m c 0 t
abbrev rB (t : Fin cfg0.N) : FVec Ideal S1024x1024 .bf16 := iblk m c 1 t

/-- An entry of a point's left block, in the whole array. -/
theorem l_block (t : Fin cfg0.N) (s : Fin 1024) (r : Fin 1024) (i : Fin 8192) (hi : i.val = t.val / 2 * 1024 + s.val) :
    lB m c t (ix2 s r) = lArg m c (ix2 i r) := by
  obtain ⟨e0, e1, -⟩ := index_in t
  exact at2 (lArg m c) (by show win0_0.index t (0 : Fin 2) * 1024 + 1 * s.val = i.val; omega) (by show win0_0.index t (1 : Fin 2) * 1024 + 1 * r.val = r.val; omega)

/-- An entry of a point's right block, in the whole array. -/
theorem r_block (t : Fin cfg0.N) (s : Fin 1024) (r : Fin 1024) (j : Fin 2048) (hj : j.val = t.val % 2 * 1024 + s.val) :
    rB m c t (ix2 r s) = rArg m c (ix2 r j) := by
  obtain ⟨-, -, e0, e1, -⟩ := index_in t
  exact at2 (rArg m c) (by show win0_1.index t (0 : Fin 2) * 1024 + 1 * r.val = r.val; omega) (by show win0_1.index t (1 : Fin 2) * 1024 + 1 * s.val = j.val; omega)

/-- An entry of the kernel's array. -/
theorem kernel_at (i : Fin 8192) (j : Fin 2048) :
    ((dats m 0 c).arrAt 2 cfg0.N : FVec Ideal S8192x2048 .bf16) (ix2 i j) = ∑ k : Fin 1024, lArg m c (ix2 i k) * rArg m c (ix2 k j) := by
  have ht : i.val / 1024 * 2 + j.val / 1024 < cfg0.N := lt_of_lt_of_eq (by omega : _ < 16) N_0.symm
  obtain ⟨-, -, -, -, e0, e1, hf⟩ := index_in ⟨_, ht⟩
  have hb := congrFun (blocks2 m c ⟨_, ht⟩ hf) (ix2 (⟨i.val % 1024, by omega⟩ : Fin 1024) (⟨j.val % 1024, by omega⟩ : Fin 1024))
  rw [flushed2_A, out_eq] at hb
  refine Eq.trans ?_ (hb.trans ((part_apply _ _ _ _).trans (Finset.sum_congr rfl fun k _ =>
    congrArg₂ (· * ·) (l_block m c ⟨_, ht⟩ _ k i (by dsimp only; omega)) (r_block m c ⟨_, ht⟩ _ k j (by dsimp only; omega)))))
  exact at2 ((dats m 0 c).arrAt 2 cfg0.N : FVec Ideal S8192x2048 .bf16)
    (by show i.val = win0_2.index _ (0 : Fin 2) * 1024 + 1 * (i.val % 1024); rw [e0]; (try dsimp only); omega)
    (by show j.val = win0_2.index _ (1 : Fin 2) * 1024 + 1 * (j.val % 1024); rw [e1]; (try dsimp only); omega)

/-- An entry of the reference's array. -/
theorem reference_at (l : FVec Ideal S8192x1024 .bf16) (r : FVec Ideal S1024x2048 .bf16) (i : Fin 8192) (j : Fin 2048) :
    Cert.PoolReferenceIdeal.Read.val_main_v3 (F := Ideal) l r (ix2 i j) = ∑ k : Fin 1024, l (ix2 i k) * r (ix2 k j) := by
  pointwise [Cert.PoolReferenceIdeal.Read.val_main_v3, Cert.PoolReferenceIdeal.Read.val_main_v2, Cert.PoolReferenceIdeal.Read.val_main_v1, Cert.PoolReferenceIdeal.Read.val_main_v0]

/-- The two programs' arrays are the same. -/
theorem equal : (dats m 0 c).arrAt 2 cfg0.N = Cert.PoolReferenceIdeal.Read.val_main_v3 (F := Ideal) (lArg m c) (rArg m c) :=
  ext2 fun i j => (kernel_at m c i j).trans (reference_at _ _ i j).symm

end Cert.Pr.Pool

end
-- ==== Proof.PrKv.lean ====
/-
  The memory's key and value projection: the kernel's array and the reference's, entry by entry.
-/
module

public import proofs.«01_k».proof.Proof.Gen.KvIdeal.Value
public import proofs.«01_k».proof.Proof.Gen.KvReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.Kv

open Cert.KvIdeal Cert.KvIdeal.Gen Cert.KvIdeal.Value
open Cert.Xa (origin)

variable (m : (ℓ : Loc nD τ sig) → Buf (Elt Ideal) ℓ) (c : Dev nD)

/-- The two arguments of the call. -/
abbrev lArg : FVec Ideal S256x2048 .bf16 := m ((c : Thread nD τ).loc main_arg0)
abbrev rArg : FVec Ideal S2048x4096 .bf16 := m ((c : Thread nD τ).loc main_arg1)

section
variable (p : grid0.Coords) (a3 : Memref sig .tc .vmem S256x2048 .bf16) (h3 : a3.IsWhole) (a4 : Memref sig .tc .vmem S2048x1024 .bf16) (h4 : a4.IsWhole) (a5 : Memref sig .tc .vmem S256x1024 .bf16) (h5 : a5.IsWhole) (a6 : Memref sig .tc .vmem S8x128 .f32) (h6 : a6.IsWhole)
variable (x0 : Vec Ideal S256x2048 .bf16) (x1 : Vec Ideal S2048x1024 .bf16) (acc : Vec Ideal S256x1024 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S256x2048) origin, View.ld_unit_zero (S := S2048x1024) origin]
end

/-- An entry of the product of two blocks. -/
theorem part_apply (x0 : FVec Ideal S256x2048 .bf16) (x1 : FVec Ideal S2048x1024 .bf16) (a : Fin 256) (b : Fin 1024) :
    k0_pay1 (F := Ideal) x0 x1 (ix2 a b) = ∑ k : Fin 2048, x0 (ix2 a k) * x1 (ix2 k b) := by
  pointwise [k0_pay1]

/-- The places of a point's blocks, and of the tile it writes. -/
theorem index_in : ∀ t : Fin cfg0.N, win0_0.index t (0 : Fin 2) = 0 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4 ∧ win0_2.flush t = true :=
  (by decide +kernel : ∀ t : Fin grid0.N, _)

/-- A point's two blocks, at their literal shapes. -/
abbrev lB (t : Fin cfg0.N) : FVec Ideal S256x2048 .bf16 := iblk m c 0 t
abbrev rB (t : Fin cfg0.N) : FVec Ideal S2048x1024 .bf16 := iblk m c 1 t

/-- An entry of a point's left block, in the whole array. -/
theorem l_block (t : Fin cfg0.N) (s : Fin 256) (r : Fin 2048) (i : Fin 256) (hi : i.val = 0 * 256 + s.val) :
    lB m c t (ix2 s r) = lArg m c (ix2 i r) := by
  obtain ⟨e0, e1, -⟩ := index_in t
  exact at2 (lArg m c) (by show win0_0.index t (0 : Fin 2) * 256 + 1 * s.val = i.val; omega) (by show win0_0.index t (1 : Fin 2) * 2048 + 1 * r.val = r.val; omega)

/-- An entry of a point's right block, in the whole array. -/
theorem r_block (t : Fin cfg0.N) (s : Fin 1024) (r : Fin 2048) (j : Fin 4096) (hj : j.val = t.val % 4 * 1024 + s.val) :
    rB m c t (ix2 r s) = rArg m c (ix2 r j) := by
  obtain ⟨-, -, e0, e1, -⟩ := index_in t
  exact at2 (rArg m c) (by show win0_1.index t (0 : Fin 2) * 2048 + 1 * r.val = r.val; omega) (by show win0_1.index t (1 : Fin 2) * 1024 + 1 * s.val = j.val; omega)

/-- An entry of the kernel's array. -/
theorem kernel_at (i : Fin 256) (j : Fin 4096) :
    ((dats m 0 c).arrAt 2 cfg0.N : FVec Ideal S256x4096 .bf16) (ix2 i j) = ∑ k : Fin 2048, lArg m c (ix2 i k) * rArg m c (ix2 k j) := by
  have ht : i.val / 256 * 4 + j.val / 1024 < cfg0.N := lt_of_lt_of_eq (by omega : _ < 4) N_0.symm
  obtain ⟨-, -, -, -, e0, e1, hf⟩ := index_in ⟨_, ht⟩
  have hb := congrFun (blocks2 m c ⟨_, ht⟩ hf) (ix2 (⟨i.val % 256, by omega⟩ : Fin 256) (⟨j.val % 1024, by omega⟩ : Fin 1024))
  rw [flushed2_A, out_eq] at hb
  refine Eq.trans ?_ (hb.trans ((part_apply _ _ _ _).trans (Finset.sum_congr rfl fun k _ =>
    congrArg₂ (· * ·) (l_block m c ⟨_, ht⟩ _ k i (by (try dsimp only); omega)) (r_block m c ⟨_, ht⟩ _ k j (by (try dsimp only); omega)))))
  exact at2 ((dats m 0 c).arrAt 2 cfg0.N : FVec Ideal S256x4096 .bf16)
    (by show i.val = win0_2.index _ (0 : Fin 2) * 256 + 1 * (i.val % 256); rw [e0]; (try dsimp only); omega)
    (by show j.val = win0_2.index _ (1 : Fin 2) * 1024 + 1 * (j.val % 1024); rw [e1]; (try dsimp only); omega)

/-- An entry of the reference's array. -/
theorem reference_at (l : FVec Ideal S256x2048 .bf16) (r : FVec Ideal S2048x4096 .bf16) (i : Fin 256) (j : Fin 4096) :
    Cert.KvReferenceIdeal.Read.val_main_v3 (F := Ideal) l r (ix2 i j) = ∑ k : Fin 2048, l (ix2 i k) * r (ix2 k j) := by
  pointwise [Cert.KvReferenceIdeal.Read.val_main_v3, Cert.KvReferenceIdeal.Read.val_main_v2, Cert.KvReferenceIdeal.Read.val_main_v1, Cert.KvReferenceIdeal.Read.val_main_v0]

/-- The two programs' arrays are the same. -/
theorem equal : (dats m 0 c).arrAt 2 cfg0.N = Cert.KvReferenceIdeal.Read.val_main_v3 (F := Ideal) (lArg m c) (rArg m c) :=
  ext2 fun i j => (kernel_at m c i j).trans (reference_at _ _ i j).symm

end Cert.Pr.Kv

end
-- ==== Proof.PrUp.lean ====
/-
  The first feed-forward product: the kernel's array and the reference's, entry by entry.
-/
module

public import proofs.«01_k».proof.Proof.Gen.UpIdeal.Value
public import proofs.«01_k».proof.Proof.Gen.UpReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.Up

open Cert.UpIdeal Cert.UpIdeal.Gen Cert.UpIdeal.Value
open Cert.Xa (origin)

variable (m : (ℓ : Loc nD τ sig) → Buf (Elt Ideal) ℓ) (c : Dev nD)

/-- The two arguments of the call. -/
abbrev lArg : FVec Ideal S8192x2048 .bf16 := m ((c : Thread nD τ).loc main_arg0)
abbrev rArg : FVec Ideal S2048x11264 .bf16 := m ((c : Thread nD τ).loc main_arg1)

section
variable (p : grid0.Coords) (a3 : Memref sig .tc .vmem S1024x2048 .bf16) (h3 : a3.IsWhole) (a4 : Memref sig .tc .vmem S2048x1024 .bf16) (h4 : a4.IsWhole) (a5 : Memref sig .tc .vmem S1024x1024 .bf16) (h5 : a5.IsWhole) (a6 : Memref sig .tc .vmem S8x128 .f32) (h6 : a6.IsWhole)
variable (x0 : Vec Ideal S1024x2048 .bf16) (x1 : Vec Ideal S2048x1024 .bf16) (acc : Vec Ideal S1024x1024 .f32)

/-- What a point writes, from its blocks. -/
theorem out_eq :
    out0_A_2 c p a3 h3 a4 h4 a5 h5 a6 h6 x0 x1 = k0_pay1 x0 x1 := by
  unfold out0_A_2
  rw [View.read_writes_eq_canon _ _ _ (cover0_A_2 c p a3 h3 a4 h4 a5 h5 a6 h6 x0 x1)]
  unfold kernelRun0_A
  dsimp only
  rw [View.canon_unit_zero origin]
  simp only [View.readAt_eq_ld, h3.read_unread, h4.read_unread, View.ld_unit_zero (S := S1024x2048) origin, View.ld_unit_zero (S := S2048x1024) origin]
end

/-- An entry of the product of two blocks. -/
theorem part_apply (x0 : FVec Ideal S1024x2048 .bf16) (x1 : FVec Ideal S2048x1024 .bf16) (a : Fin 1024) (b : Fin 1024) :
    k0_pay1 (F := Ideal) x0 x1 (ix2 a b) = ∑ k : Fin 2048, x0 (ix2 a k) * x1 (ix2 k b) := by
  pointwise [k0_pay1]

/-- The places of a point's blocks, and of the tile it writes. -/
theorem index_in : ∀ t : Fin cfg0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = t.val / 11 ∧ win0_2.index t (1 : Fin 2) = t.val % 11 ∧ win0_2.flush t = true :=
  (by decide +kernel : ∀ t : Fin grid0.N, _)

/-- A point's two blocks, at their literal shapes. -/
abbrev lB (t : Fin cfg0.N) : FVec Ideal S1024x2048 .bf16 := iblk m c 0 t
abbrev rB (t : Fin cfg0.N) : FVec Ideal S2048x1024 .bf16 := iblk m c 1 t

/-- An entry of a point's left block, in the whole array. -/
theorem l_block (t : Fin cfg0.N) (s : Fin 1024) (r : Fin 2048) (i : Fin 8192) (hi : i.val = t.val / 11 * 1024 + s.val) :
    lB m c t (ix2 s r) = lArg m c (ix2 i r) := by
  obtain ⟨e0, e1, -⟩ := index_in t
  exact at2 (lArg m c) (by show win0_0.index t (0 : Fin 2) * 1024 + 1 * s.val = i.val; omega) (by show win0_0.index t (1 : Fin 2) * 2048 + 1 * r.val = r.val; omega)

/-- An entry of a point's right block, in the whole array. -/
theorem r_block (t : Fin cfg0.N) (s : Fin 1024) (r : Fin 2048) (j : Fin 11264) (hj : j.val = t.val % 11 * 1024 + s.val) :
    rB m c t (ix2 r s) = rArg m c (ix2 r j) := by
  obtain ⟨-, -, e0, e1, -⟩ := index_in t
  exact at2 (rArg m c) (by show win0_1.index t (0 : Fin 2) * 2048 + 1 * r.val = r.val; omega) (by show win0_1.index t (1 : Fin 2) * 1024 + 1 * s.val = j.val; omega)

/-- An entry of the kernel's array. -/
theorem kernel_at (i : Fin 8192) (j : Fin 11264) :
    ((dats m 0 c).arrAt 2 cfg0.N : FVec Ideal S8192x11264 .bf16) (ix2 i j) = ∑ k : Fin 2048, lArg m c (ix2 i k) * rArg m c (ix2 k j) := by
  have ht : i.val / 1024 * 11 + j.val / 1024 < cfg0.N := lt_of_lt_of_eq (by omega : _ < 88) N_0.symm
  obtain ⟨-, -, -, -, e0, e1, hf⟩ := index_in ⟨_, ht⟩
  have hb := congrFun (blocks2 m c ⟨_, ht⟩ hf) (ix2 (⟨i.val % 1024, by omega⟩ : Fin 1024) (⟨j.val % 1024, by omega⟩ : Fin 1024))
  rw [flushed2_A, out_eq] at hb
  refine Eq.trans ?_ (hb.trans ((part_apply _ _ _ _).trans (Finset.sum_congr rfl fun k _ =>
    congrArg₂ (· * ·) (l_block m c ⟨_, ht⟩ _ k i (by dsimp only; omega)) (r_block m c ⟨_, ht⟩ _ k j (by dsimp only; omega)))))
  exact at2 ((dats m 0 c).arrAt 2 cfg0.N : FVec Ideal S8192x11264 .bf16)
    (by show i.val = win0_2.index _ (0 : Fin 2) * 1024 + 1 * (i.val % 1024); rw [e0]; (try dsimp only); omega)
    (by show j.val = win0_2.index _ (1 : Fin 2) * 1024 + 1 * (j.val % 1024); rw [e1]; (try dsimp only); omega)

/-- An entry of the reference's array. -/
theorem reference_at (l : FVec Ideal S8192x2048 .bf16) (r : FVec Ideal S2048x11264 .bf16) (i : Fin 8192) (j : Fin 11264) :
    Cert.UpReferenceIdeal.Read.val_main_v3 (F := Ideal) l r (ix2 i j) = ∑ k : Fin 2048, l (ix2 i k) * r (ix2 k j) := by
  pointwise [Cert.UpReferenceIdeal.Read.val_main_v3, Cert.UpReferenceIdeal.Read.val_main_v2, Cert.UpReferenceIdeal.Read.val_main_v1, Cert.UpReferenceIdeal.Read.val_main_v0]

/-- The two programs' arrays are the same. -/
theorem equal : (dats m 0 c).arrAt 2 cfg0.N = Cert.UpReferenceIdeal.Read.val_main_v3 (F := Ideal) (lArg m c) (rArg m c) :=
  ext2 fun i j => (kernel_at m c i j).trans (reference_at _ _ i j).symm

end Cert.Pr.Up

end
-- ==== Proof.PrDown.lean ====
/-
  The second feed-forward product: the kernel's array and the reference's, entry by entry.
-/
module

public import proofs.«01_k».proof.Proof.Gen.DownIdeal.Value
public import proofs.«01_k».proof.Proof.Gen.DownReferenceIdeal.Read
public import proofs.«01_k».proof.Proof.XaCases
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Pr.Down

open Cert.DownIdeal Cert.DownIdeal.Gen Cert.DownIdeal.Value
open Cert.Xa (origin)

variable (m : (ℓ : Loc nD τ sig) → Buf (Elt Ideal) ℓ) (c : Dev nD)

/-- The two arguments of the call. -/
abbrev lArg : FVec Ideal S8192x5632 .bf16 := m ((c : Thread nD τ).loc main_arg0)
abbrev rArg : FVec Ideal S5632x2048 .bf16 := m ((c : Thread nD τ).loc main_arg1)

section
variable (p : grid0.Coords) (a3 : Memref sig .tc .vmem S1024x2816 .bf16) (h3 : a3.IsWhole) (a4 : Memref sig .tc .vmem S2816x1024 .bf16) (h4 : a4.IsWhole) (a5 : Memref sig .tc .vmem S1024x1024 .f32) (h5 : a5.IsWhole) (a6 : Memref sig .tc .vmem S1024x1024 .f32) (h6 : a6.IsWhole)
variable (x0 : Vec Ideal S1024x2816 .bf16) (x1 : Vec Ideal S2816x1024 .bf16) (acc : Vec Ideal S1024x1024 .f32)

/-- What the first point of a tile leaves in the carried sum, from its blocks. -/
theorem first_eq (hc0 : cond0_0 p) (hc1 : ¬cond0_1 p) (hc2 : ¬cond0_2 p) :
    sout0_A_0 c p a3 h3 a4 h4 a5 h5 a6 h6 hc0 hc1 hc2 x0 x1 = k0_pay2 x0 x1 := by
  unfold sout0_A_0
  rw [View.read_writes_eq_canon _ _ _ (scover0_A_0 c p a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S1024x2816) origin, View.ld_unit_zero (S := S2816x1024) origin]

/-- What the last point writes, from its blocks and the carried sum. -/
theorem last_eq (hc0 : ¬cond0_0 p) (hc1 : cond0_1 p) (hc2 : cond0_2 p) :
    out0_B_2 c p a3 h3 a4 h4 a5 h5 a6 h6 hc0 hc1 hc2 x0 x1 acc = k0_pay3 x0 x1 acc := by
  unfold out0_B_2
  rw [View.read_writes_eq_canon _ _ _ (cover0_B_2 c p a3 h3 a4 h4 a5 h5 a6 h6 hc0 hc1 hc2 x0 x1 acc)]
  unfold kernelRun0_B
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin, View.ld_unit_zero (S := S1024x2816) origin, View.ld_unit_zero (S := S2816x1024) origin]
end

/-- An entry of the product of two blocks. -/
theorem part_apply (x0 : FVec Ideal S1024x2816 .bf16) (x1 : FVec Ideal S2816x1024 .bf16) (a : Fin 1024) (b : Fin 1024) :
    k0_pay2 (F := Ideal) x0 x1 (ix2 a b) = ∑ k : Fin 2816, x0 (ix2 a k) * x1 (ix2 k b) := by
  pointwise [k0_pay2, k0_pay1]

/-- An entry of the product of two blocks added to the carried sum. -/
theorem more_apply (x0 : FVec Ideal S1024x2816 .bf16) (x1 : FVec Ideal S2816x1024 .bf16) (acc : FVec Ideal S1024x1024 .f32) (a : Fin 1024) (b : Fin 1024) :
    k0_pay3 (F := Ideal) x0 x1 acc (ix2 a b) = acc (ix2 a b) + ∑ k : Fin 2816, x0 (ix2 a k) * x1 (ix2 k b) := by
  pointwise [k0_pay3, k0_pay1]

/-- The places of a point's blocks. -/
theorem index_in : ∀ t : Fin cfg0.N, win0_0.index t (0 : Fin 2) = t.val / 4 ∧ win0_0.index t (1 : Fin 2) = t.val % 2
    ∧ win0_1.index t (0 : Fin 2) = t.val % 2 ∧ win0_1.index t (1 : Fin 2) = t.val / 2 % 2 :=
  (by decide +kernel : ∀ t : Fin grid0.N, _)

/-- A point's two blocks, at their literal shapes. -/
abbrev lB (t : Fin cfg0.N) : FVec Ideal S1024x2816 .bf16 := iblk m c 0 t
abbrev rB (t : Fin cfg0.N) : FVec Ideal S2816x1024 .bf16 := iblk m c 1 t

/-- An entry of a point's left block, in the whole array. -/
theorem l_block (t : Fin cfg0.N) (s : Fin 1024) (r : Fin 2816) (i : Fin 8192) (k : Fin 5632) (hi : i.val = t.val / 4 * 1024 + s.val) (hk : k.val = t.val % 2 * 2816 + r.val) :
    lB m c t (ix2 s r) = lArg m c (ix2 i k) := by
  obtain ⟨e0, e1, -⟩ := index_in t
  exact at2 (lArg m c) (by show win0_0.index t (0 : Fin 2) * 1024 + 1 * s.val = i.val; omega) (by show win0_0.index t (1 : Fin 2) * 2816 + 1 * r.val = k.val; omega)

/-- An entry of a point's right block, in the whole array. -/
theorem r_block (t : Fin cfg0.N) (s : Fin 1024) (r : Fin 2816) (j : Fin 2048) (k : Fin 5632) (hj : j.val = t.val / 2 % 2 * 1024 + s.val) (hk : k.val = t.val % 2 * 2816 + r.val) :
    rB m c t (ix2 r s) = rArg m c (ix2 k j) := by
  obtain ⟨-, -, e0, e1⟩ := index_in t
  exact at2 (rArg m c) (by show win0_1.index t (0 : Fin 2) * 2816 + 1 * r.val = k.val; omega) (by show win0_1.index t (1 : Fin 2) * 1024 + 1 * s.val = j.val; omega)

/-- The sweep of a tile, by its points' blocks and the sum that each leaves. -/
def sweep : Sweep 8192 2048 5632 1024 1024 2816 2 cfg0.N where
  l i k := lArg m c (ix2 i k)
  r j k := rArg m c (ix2 k j)
  row t := t / 4
  col t := t / 2 % 2
  lb t a x := lB m c t (ix2 a x)
  rb t b x := rB m c t (ix2 x b)
  carried t a b := (outsAt0 m c t.val t.isLt).2 (ix2 a b)
  steps := rfl
  before t h := by omega
  lb_eq := l_block m c
  rb_eq := r_block m c
  first t ht a b := by
    rw [outsAt0_A m c t ht (by omega) (by omega)]
    dsimp only
    rw [first_eq]
    exact part_apply _ _ a b
  more := fun t h0 h1 => absurd h1 (by omega)

/-- An entry of the kernel's array. -/
theorem kernel_at (i : Fin 8192) (j : Fin 2048) :
    (G2 m c : FVec Ideal S8192x2048 .f32) (ix2 i j) = ∑ k : Fin 5632, lArg m c (ix2 i k) * rArg m c (ix2 k j) := by
  have hp : pt2Of (ix2 i j) = 2 * (2 * (i.val / 1024) + j.val / 1024) + 1 := by
    show 2 * (2 * (i.val / 1024 - 0) + 1 * (j.val / 1024 - 0)) + 1 = _
    omega
  have hN : pt2Of (ix2 i j) < cfg0.N := lt_of_lt_of_eq (by rw [hp]; omega : _ < 32) N_0.symm
  have hl : loc2Of (ix2 i j) = ix2 (⟨i.val % 1024, by omega⟩ : Fin 1024) (⟨j.val % 1024, by omega⟩ : Fin 1024) := eq_ix2 _
  unfold G2
  rw [dif_pos hN, ← outsAt0_sweep m c _ hN, hl]
  generalize pt2Of (ix2 i j) = n at hp hN
  rw [outsAt0_B m c ⟨n, hN⟩ (by dsimp only; omega) (by dsimp only; omega) (by dsimp only; omega)]
  dsimp only
  rw [last_eq]
  exact (more_apply _ _ _ _ _).trans
    ((sweep m c).total (by omega) ⟨n, hN⟩ (by dsimp only; omega) _ _ i j (by dsimp only [sweep]; omega) (by dsimp only [sweep]; omega))

/-- An entry of the reference's array. -/
theorem reference_at (l : FVec Ideal S8192x5632 .bf16) (r : FVec Ideal S5632x2048 .bf16) (i : Fin 8192) (j : Fin 2048) :
    Cert.DownReferenceIdeal.Read.val_main_v2 (F := Ideal) l r (ix2 i j) = ∑ k : Fin 5632, l (ix2 i k) * r (ix2 k j) := by
  pointwise [Cert.DownReferenceIdeal.Read.val_main_v2, Cert.DownReferenceIdeal.Read.val_main_v1, Cert.DownReferenceIdeal.Read.val_main_v0]

/-- The two programs' arrays are the same. -/
theorem equal : G2 m c = Cert.DownReferenceIdeal.Read.val_main_v2 (F := Ideal) (lArg m c) (rArg m c) :=
  ext2 fun i j => (kernel_at m c i j).trans (reference_at _ _ i j).symm

end Cert.Pr.Down

end
-- ==== Proof.PrClaims.lean ====
/-
  The claims of the products: each kernel keeps its arguments and ends, and its array is the reference's.
-/
module

public import proofs.«01_k».proof.Defs
public import proofs.«01_k».proof.Proof.Gen.DownDx
public import proofs.«01_k».proof.Proof.PrDownDx
public import proofs.«01_k».proof.Proof.Gen.DownDw
public import proofs.«01_k».proof.Proof.PrDownDw
public import proofs.«01_k».proof.Proof.Gen.UpDw
public import proofs.«01_k».proof.Proof.PrUpDw
public import proofs.«01_k».proof.Proof.Gen.SquareDx
public import proofs.«01_k».proof.Proof.PrSquareDx
public import proofs.«01_k».proof.Proof.Gen.SquareDw
public import proofs.«01_k».proof.Proof.PrSquareDw
public import proofs.«01_k».proof.Proof.Gen.PoolDx
public import proofs.«01_k».proof.Proof.PrPoolDx
public import proofs.«01_k».proof.Proof.Gen.PoolDw
public import proofs.«01_k».proof.Proof.PrPoolDw
public import proofs.«01_k».proof.Proof.Gen.UpDx
public import proofs.«01_k».proof.Proof.PrUpDx
public import proofs.«01_k».proof.Proof.Gen.InDx
public import proofs.«01_k».proof.Proof.PrInDx
public import proofs.«01_k».proof.Proof.Gen.InDw
public import proofs.«01_k».proof.Proof.PrInDw
public import proofs.«01_k».proof.Proof.Gen.KvDx
public import proofs.«01_k».proof.Proof.PrKvDx
public import proofs.«01_k».proof.Proof.Gen.KvDw
public import proofs.«01_k».proof.Proof.PrKvDw
public import proofs.«01_k».proof.Proof.Gen.InProj
public import proofs.«01_k».proof.Proof.PrInProj
public import proofs.«01_k».proof.Proof.Gen.Square
public import proofs.«01_k».proof.Proof.PrSquare
public import proofs.«01_k».proof.Proof.Gen.SquareF
public import proofs.«01_k».proof.Proof.PrSquareF
public import proofs.«01_k».proof.Proof.Gen.Pool
public import proofs.«01_k».proof.Proof.PrPool
public import proofs.«01_k».proof.Proof.Gen.Kv
public import proofs.«01_k».proof.Proof.PrKv
public import proofs.«01_k».proof.Proof.Gen.Up
public import proofs.«01_k».proof.Proof.PrUp
public import proofs.«01_k».proof.Proof.Gen.Down
public import proofs.«01_k».proof.Proof.PrDown
public import Idealize.ShloMosaic.Adequacy
public import Idealize.ShloMosaic.Init

@[expose] public section

noncomputable section

open Idealize.ShloMosaic Idealize.SL.Sem

namespace Cert.Pr.DownDx

theorem defs_eq {F : FTy → Type} [FloatOps F] : Cert.DownDx.defs (F := F) = Cert.DownDxIdeal.defs (F := F) := by
  unfold Cert.DownDx.defs Cert.DownDxIdeal.defs
  rw [show Cert.DownDx.defs₀ (F := F) = Cert.DownDxIdeal.defs₀ from congrArg Defs.onTc (funext₂ fun | ⟨0, _⟩, (_, _) => rfl)]
  rfl

theorem frame : Cert.quiescent_DownDx := fun m ρ _ => by
  rw [defs_eq]
  exact Cert.DownDxIdeal.Gen.frame (F := Bits) m ρ

theorem frameIdeal : Cert.quiescent_DownDxIdeal := fun m ρ _ => Cert.DownDxIdeal.Gen.frame m ρ

theorem frameReference : Cert.quiescent_DownDxReferenceIdeal := fun m ρ _ =>
  (θ_run Cert.DownDxReferenceIdeal.defs _ _).mono (fun r h => ⟨fun c => (h c).2, sem_eq_zero_of_no_sems (by decide) r.2⟩)
    (Cert.DownDxReferenceIdeal.Value.run m ρ)

theorem algebraic : Cert.algebraic_DownDxIdeal_DownDxReferenceIdeal := fun m ρ m' ρ' _ hag =>
  ⟨fun c => (Cert.DownDxIdeal.Gen.dats m 0 c).arrAt 2 Cert.DownDxIdeal.cfg0.N, Cert.DownDxIdeal.Value.run_blocks m ρ,
    (θ_run Cert.DownDxReferenceIdeal.defs _ _).mono (fun _ h c =>
      ⟨(h c).1.trans (by
          rw [Cert.DownDxReferenceIdeal.Read.val_main_v6_eq, (hag c).1, (hag c).2]
          exact (equal m c).symm),
        (h c).2⟩) (Cert.DownDxReferenceIdeal.Value.run m' ρ')⟩

end Cert.Pr.DownDx

namespace Cert.Pr.DownDw

theorem defs_eq {F : FTy → Type} [FloatOps F] : Cert.DownDw.defs (F := F) = Cert.DownDwIdeal.defs (F := F) := by
  unfold Cert.DownDw.defs Cert.DownDwIdeal.defs
  rw [show Cert.DownDw.defs₀ (F := F) = Cert.DownDwIdeal.defs₀ from congrArg Defs.onTc (funext₂ fun | ⟨0, _⟩, (_, _) => rfl)]
  rfl

theorem frame : Cert.quiescent_DownDw := fun m ρ _ => by
  rw [defs_eq]
  exact Cert.DownDwIdeal.Gen.frame (F := Bits) m ρ

theorem frameIdeal : Cert.quiescent_DownDwIdeal := fun m ρ _ => Cert.DownDwIdeal.Gen.frame m ρ

theorem frameReference : Cert.quiescent_DownDwReferenceIdeal := fun m ρ _ =>
  (θ_run Cert.DownDwReferenceIdeal.defs _ _).mono (fun r h => ⟨fun c => (h c).2, sem_eq_zero_of_no_sems (by decide) r.2⟩)
    (Cert.DownDwReferenceIdeal.Value.run m ρ)

theorem algebraic : Cert.algebraic_DownDwIdeal_DownDwReferenceIdeal := fun m ρ m' ρ' _ hag =>
  ⟨fun c => Cert.DownDwIdeal.Value.G2 m c, Cert.DownDwIdeal.Value.run m ρ,
    (θ_run Cert.DownDwReferenceIdeal.defs _ _).mono (fun _ h c =>
      ⟨(h c).1.trans (by
          rw [Cert.DownDwReferenceIdeal.Read.val_main_v7_eq, (hag c).1, (hag c).2]
          exact (equal m c).symm),
        (h c).2⟩) (Cert.DownDwReferenceIdeal.Value.run m' ρ')⟩

end Cert.Pr.DownDw

namespace Cert.Pr.UpDw

theorem defs_eq {F : FTy → Type} [FloatOps F] : Cert.UpDw.defs (F := F) = Cert.UpDwIdeal.defs (F := F) := by
  unfold Cert.UpDw.defs Cert.UpDwIdeal.defs
  rw [show Cert.UpDw.defs₀ (F := F) = Cert.UpDwIdeal.defs₀ from congrArg Defs.onTc (funext₂ fun | ⟨0, _⟩, (_, _) => rfl)]
  rfl

theorem frame : Cert.quiescent_UpDw := fun m ρ _ => by
  rw [defs_eq]
  exact Cert.UpDwIdeal.Gen.frame (F := Bits) m ρ

theorem frameIdeal : Cert.quiescent_UpDwIdeal := fun m ρ _ => Cert.UpDwIdeal.Gen.frame m ρ

theorem frameReference : Cert.quiescent_UpDwReferenceIdeal := fun m ρ _ =>
  (θ_run Cert.UpDwReferenceIdeal.defs _ _).mono (fun r h => ⟨fun c => (h c).2, sem_eq_zero_of_no_sems (by decide) r.2⟩)
    (Cert.UpDwReferenceIdeal.Value.run m ρ)

theorem algebraic : Cert.algebraic_UpDwIdeal_UpDwReferenceIdeal := fun m ρ m' ρ' _ hag =>
  ⟨fun c => Cert.UpDwIdeal.Value.G2 m c, Cert.UpDwIdeal.Value.run m ρ,
    (θ_run Cert.UpDwReferenceIdeal.defs _ _).mono (fun _ h c =>
      ⟨(h c).1.trans (by
          rw [Cert.UpDwReferenceIdeal.Read.val_main_v12_eq, (hag c).1, (hag c).2]
          exact (equal m c).symm),
        (h c).2⟩) (Cert.UpDwReferenceIdeal.Value.run m' ρ')⟩

end Cert.Pr.UpDw

namespace Cert.Pr.SquareDx

theorem defs_eq {F : FTy → Type} [FloatOps F] : Cert.SquareDx.defs (F := F) = Cert.SquareDxIdeal.defs (F := F) := by
  unfold Cert.SquareDx.defs Cert.SquareDxIdeal.defs
  rw [show Cert.SquareDx.defs₀ (F := F) = Cert.SquareDxIdeal.defs₀ from congrArg Defs.onTc (funext₂ fun | ⟨0, _⟩, (_, _) => rfl)]
  rfl

theorem frame : Cert.quiescent_SquareDx := fun m ρ _ => by
  rw [defs_eq]
  exact Cert.SquareDxIdeal.Gen.frame (F := Bits) m ρ

theorem frameIdeal : Cert.quiescent_SquareDxIdeal := fun m ρ _ => Cert.SquareDxIdeal.Gen.frame m ρ

theorem frameReference : Cert.quiescent_SquareDxReferenceIdeal := fun m ρ _ =>
  (θ_run Cert.SquareDxReferenceIdeal.defs _ _).mono (fun r h => ⟨fun c => (h c).2, sem_eq_zero_of_no_sems (by decide) r.2⟩)
    (Cert.SquareDxReferenceIdeal.Value.run m ρ)

theorem algebraic : Cert.algebraic_SquareDxIdeal_SquareDxReferenceIdeal := fun m ρ m' ρ' _ hag =>
  ⟨fun c => (Cert.SquareDxIdeal.Gen.dats m 0 c).arrAt 2 Cert.SquareDxIdeal.cfg0.N, Cert.SquareDxIdeal.Value.run_blocks m ρ,
    (θ_run Cert.SquareDxReferenceIdeal.defs _ _).mono (fun _ h c =>
      ⟨(h c).1.trans (by
          rw [Cert.SquareDxReferenceIdeal.Read.val_main_v6_eq, (hag c).1, (hag c).2]
          exact (equal m c).symm),
        (h c).2⟩) (Cert.SquareDxReferenceIdeal.Value.run m' ρ')⟩

end Cert.Pr.SquareDx

namespace Cert.Pr.SquareDw

theorem defs_eq {F : FTy → Type} [FloatOps F] : Cert.SquareDw.defs (F := F) = Cert.SquareDwIdeal.defs (F := F) := by
  unfold Cert.SquareDw.defs Cert.SquareDwIdeal.defs
  rw [show Cert.SquareDw.defs₀ (F := F) = Cert.SquareDwIdeal.defs₀ from congrArg Defs.onTc (funext₂ fun | ⟨0, _⟩, (_, _) => rfl)]
  rfl

theorem frame : Cert.quiescent_SquareDw := fun m ρ _ => by
  rw [defs_eq]
  exact Cert.SquareDwIdeal.Gen.frame (F := Bits) m ρ

theorem frameIdeal : Cert.quiescent_SquareDwIdeal := fun m ρ _ => Cert.SquareDwIdeal.Gen.frame m ρ

theorem frameReference : Cert.quiescent_SquareDwReferenceIdeal := fun m ρ _ =>
  (θ_run Cert.SquareDwReferenceIdeal.defs _ _).mono (fun r h => ⟨fun c => (h c).2, sem_eq_zero_of_no_sems (by decide) r.2⟩)
    (Cert.SquareDwReferenceIdeal.Value.run m ρ)

theorem algebraic : Cert.algebraic_SquareDwIdeal_SquareDwReferenceIdeal := fun m ρ m' ρ' _ hag =>
  ⟨fun c => Cert.SquareDwIdeal.Value.G2 m c, Cert.SquareDwIdeal.Value.run m ρ,
    (θ_run Cert.SquareDwReferenceIdeal.defs _ _).mono (fun _ h c =>
      ⟨(h c).1.trans (by
          rw [Cert.SquareDwReferenceIdeal.Read.val_main_v7_eq, (hag c).1, (hag c).2]
          exact (equal m c).symm),
        (h c).2⟩) (Cert.SquareDwReferenceIdeal.Value.run m' ρ')⟩

end Cert.Pr.SquareDw

namespace Cert.Pr.PoolDx

theorem defs_eq {F : FTy → Type} [FloatOps F] : Cert.PoolDx.defs (F := F) = Cert.PoolDxIdeal.defs (F := F) := by
  unfold Cert.PoolDx.defs Cert.PoolDxIdeal.defs
  rw [show Cert.PoolDx.defs₀ (F := F) = Cert.PoolDxIdeal.defs₀ from congrArg Defs.onTc (funext₂ fun | ⟨0, _⟩, (_, _) => rfl)]
  rfl

theorem frame : Cert.quiescent_PoolDx := fun m ρ _ => by
  rw [defs_eq]
  exact Cert.PoolDxIdeal.Gen.frame (F := Bits) m ρ

theorem frameIdeal : Cert.quiescent_PoolDxIdeal := fun m ρ _ => Cert.PoolDxIdeal.Gen.frame m ρ

theorem frameReference : Cert.quiescent_PoolDxReferenceIdeal := fun m ρ _ =>
  (θ_run Cert.PoolDxReferenceIdeal.defs _ _).mono (fun r h => ⟨fun c => (h c).2, sem_eq_zero_of_no_sems (by decide) r.2⟩)
    (Cert.PoolDxReferenceIdeal.Value.run m ρ)

theorem algebraic : Cert.algebraic_PoolDxIdeal_PoolDxReferenceIdeal := fun m ρ m' ρ' _ hag =>
  ⟨fun c => (Cert.PoolDxIdeal.Gen.dats m 0 c).arrAt 2 Cert.PoolDxIdeal.cfg0.N, Cert.PoolDxIdeal.Value.run_blocks m ρ,
    (θ_run Cert.PoolDxReferenceIdeal.defs _ _).mono (fun _ h c =>
      ⟨(h c).1.trans (by
          rw [Cert.PoolDxReferenceIdeal.Read.val_main_v6_eq, (hag c).1, (hag c).2]
          exact (equal m c).symm),
        (h c).2⟩) (Cert.PoolDxReferenceIdeal.Value.run m' ρ')⟩

end Cert.Pr.PoolDx

namespace Cert.Pr.PoolDw

theorem defs_eq {F : FTy → Type} [FloatOps F] : Cert.PoolDw.defs (F := F) = Cert.PoolDwIdeal.defs (F := F) := by
  unfold Cert.PoolDw.defs Cert.PoolDwIdeal.defs
  rw [show Cert.PoolDw.defs₀ (F := F) = Cert.PoolDwIdeal.defs₀ from congrArg Defs.onTc (funext₂ fun | ⟨0, _⟩, (_, _) => rfl)]
  rfl

theorem frame : Cert.quiescent_PoolDw := fun m ρ _ => by
  rw [defs_eq]
  exact Cert.PoolDwIdeal.Gen.frame (F := Bits) m ρ

theorem frameIdeal : Cert.quiescent_PoolDwIdeal := fun m ρ _ => Cert.PoolDwIdeal.Gen.frame m ρ

theorem frameReference : Cert.quiescent_PoolDwReferenceIdeal := fun m ρ _ =>
  (θ_run Cert.PoolDwReferenceIdeal.defs _ _).mono (fun r h => ⟨fun c => (h c).2, sem_eq_zero_of_no_sems (by decide) r.2⟩)
    (Cert.PoolDwReferenceIdeal.Value.run m ρ)

theorem algebraic : Cert.algebraic_PoolDwIdeal_PoolDwReferenceIdeal := fun m ρ m' ρ' _ hag =>
  ⟨fun c => Cert.PoolDwIdeal.Value.G2 m c, Cert.PoolDwIdeal.Value.run m ρ,
    (θ_run Cert.PoolDwReferenceIdeal.defs _ _).mono (fun _ h c =>
      ⟨(h c).1.trans (by
          rw [Cert.PoolDwReferenceIdeal.Read.val_main_v7_eq, (hag c).1, (hag c).2]
          exact (equal m c).symm),
        (h c).2⟩) (Cert.PoolDwReferenceIdeal.Value.run m' ρ')⟩

end Cert.Pr.PoolDw

namespace Cert.Pr.UpDx

theorem defs_eq {F : FTy → Type} [FloatOps F] : Cert.UpDx.defs (F := F) = Cert.UpDxIdeal.defs (F := F) := by
  unfold Cert.UpDx.defs Cert.UpDxIdeal.defs
  rw [show Cert.UpDx.defs₀ (F := F) = Cert.UpDxIdeal.defs₀ from congrArg Defs.onTc (funext₂ fun | ⟨0, _⟩, (_, _) => rfl)]
  rfl

theorem frame : Cert.quiescent_UpDx := fun m ρ _ => by
  rw [defs_eq]
  exact Cert.UpDxIdeal.Gen.frame (F := Bits) m ρ

theorem frameIdeal : Cert.quiescent_UpDxIdeal := fun m ρ _ => Cert.UpDxIdeal.Gen.frame m ρ

theorem frameReference : Cert.quiescent_UpDxReferenceIdeal := fun m ρ _ =>
  (θ_run Cert.UpDxReferenceIdeal.defs _ _).mono (fun r h => ⟨fun c => (h c).2, sem_eq_zero_of_no_sems (by decide) r.2⟩)
    (Cert.UpDxReferenceIdeal.Value.run m ρ)

theorem algebraic : Cert.algebraic_UpDxIdeal_UpDxReferenceIdeal := fun m ρ m' ρ' _ hag =>
  ⟨fun c => Cert.UpDxIdeal.Value.G2 m c, Cert.UpDxIdeal.Value.run m ρ,
    (θ_run Cert.UpDxReferenceIdeal.defs _ _).mono (fun _ h c =>
      ⟨(h c).1.trans (by
          rw [Cert.UpDxReferenceIdeal.Read.val_main_v11_eq, (hag c).1, (hag c).2]
          exact (equal m c).symm),
        (h c).2⟩) (Cert.UpDxReferenceIdeal.Value.run m' ρ')⟩

end Cert.Pr.UpDx

namespace Cert.Pr.InDx

theorem defs_eq {F : FTy → Type} [FloatOps F] : Cert.InDx.defs (F := F) = Cert.InDxIdeal.defs (F := F) := by
  unfold Cert.InDx.defs Cert.InDxIdeal.defs
  rw [show Cert.InDx.defs₀ (F := F) = Cert.InDxIdeal.defs₀ from congrArg Defs.onTc (funext₂ fun | ⟨0, _⟩, (_, _) => rfl)]
  rfl

theorem frame : Cert.quiescent_InDx := fun m ρ _ => by
  rw [defs_eq]
  exact Cert.InDxIdeal.Gen.frame (F := Bits) m ρ

theorem frameIdeal : Cert.quiescent_InDxIdeal := fun m ρ _ => Cert.InDxIdeal.Gen.frame m ρ

theorem frameReference : Cert.quiescent_InDxReferenceIdeal := fun m ρ _ =>
  (θ_run Cert.InDxReferenceIdeal.defs _ _).mono (fun r h => ⟨fun c => (h c).2, sem_eq_zero_of_no_sems (by decide) r.2⟩)
    (Cert.InDxReferenceIdeal.Value.run m ρ)

theorem algebraic : Cert.algebraic_InDxIdeal_InDxReferenceIdeal := fun m ρ m' ρ' _ hag =>
  ⟨fun c => Cert.InDxIdeal.Value.G2 m c, Cert.InDxIdeal.Value.run m ρ,
    (θ_run Cert.InDxReferenceIdeal.defs _ _).mono (fun _ h c =>
      ⟨(h c).1.trans (by
          rw [Cert.InDxReferenceIdeal.Read.val_main_v6_eq, (hag c).1, (hag c).2]
          exact (equal m c).symm),
        (h c).2⟩) (Cert.InDxReferenceIdeal.Value.run m' ρ')⟩

end Cert.Pr.InDx

namespace Cert.Pr.InDw

theorem defs_eq {F : FTy → Type} [FloatOps F] : Cert.InDw.defs (F := F) = Cert.InDwIdeal.defs (F := F) := by
  unfold Cert.InDw.defs Cert.InDwIdeal.defs
  rw [show Cert.InDw.defs₀ (F := F) = Cert.InDwIdeal.defs₀ from congrArg Defs.onTc (funext₂ fun | ⟨0, _⟩, (_, _) => rfl)]
  rfl

theorem frame : Cert.quiescent_InDw := fun m ρ _ => by
  rw [defs_eq]
  exact Cert.InDwIdeal.Gen.frame (F := Bits) m ρ

theorem frameIdeal : Cert.quiescent_InDwIdeal := fun m ρ _ => Cert.InDwIdeal.Gen.frame m ρ

theorem frameReference : Cert.quiescent_InDwReferenceIdeal := fun m ρ _ =>
  (θ_run Cert.InDwReferenceIdeal.defs _ _).mono (fun r h => ⟨fun c => (h c).2, sem_eq_zero_of_no_sems (by decide) r.2⟩)
    (Cert.InDwReferenceIdeal.Value.run m ρ)

theorem algebraic : Cert.algebraic_InDwIdeal_InDwReferenceIdeal := fun m ρ m' ρ' _ hag =>
  ⟨fun c => Cert.InDwIdeal.Value.G2 m c, Cert.InDwIdeal.Value.run m ρ,
    (θ_run Cert.InDwReferenceIdeal.defs _ _).mono (fun _ h c =>
      ⟨(h c).1.trans (by
          rw [Cert.InDwReferenceIdeal.Read.val_main_v7_eq, (hag c).1, (hag c).2]
          exact (equal m c).symm),
        (h c).2⟩) (Cert.InDwReferenceIdeal.Value.run m' ρ')⟩

end Cert.Pr.InDw

namespace Cert.Pr.KvDx

theorem defs_eq {F : FTy → Type} [FloatOps F] : Cert.KvDx.defs (F := F) = Cert.KvDxIdeal.defs (F := F) := by
  unfold Cert.KvDx.defs Cert.KvDxIdeal.defs
  rw [show Cert.KvDx.defs₀ (F := F) = Cert.KvDxIdeal.defs₀ from congrArg Defs.onTc (funext₂ fun | ⟨0, _⟩, (_, _) => rfl)]
  rfl

theorem frame : Cert.quiescent_KvDx := fun m ρ _ => by
  rw [defs_eq]
  exact Cert.KvDxIdeal.Gen.frame (F := Bits) m ρ

theorem frameIdeal : Cert.quiescent_KvDxIdeal := fun m ρ _ => Cert.KvDxIdeal.Gen.frame m ρ

theorem frameReference : Cert.quiescent_KvDxReferenceIdeal := fun m ρ _ =>
  (θ_run Cert.KvDxReferenceIdeal.defs _ _).mono (fun r h => ⟨fun c => (h c).2, sem_eq_zero_of_no_sems (by decide) r.2⟩)
    (Cert.KvDxReferenceIdeal.Value.run m ρ)

theorem algebraic : Cert.algebraic_KvDxIdeal_KvDxReferenceIdeal := fun m ρ m' ρ' _ hag =>
  ⟨fun c => Cert.KvDxIdeal.Value.G2 m c, Cert.KvDxIdeal.Value.run m ρ,
    (θ_run Cert.KvDxReferenceIdeal.defs _ _).mono (fun _ h c =>
      ⟨(h c).1.trans (by
          rw [Cert.KvDxReferenceIdeal.Read.val_main_v4_eq, (hag c).1, (hag c).2]
          exact (equal m c).symm),
        (h c).2⟩) (Cert.KvDxReferenceIdeal.Value.run m' ρ')⟩

end Cert.Pr.KvDx

namespace Cert.Pr.KvDw

theorem defs_eq {F : FTy → Type} [FloatOps F] : Cert.KvDw.defs (F := F) = Cert.KvDwIdeal.defs (F := F) := by
  unfold Cert.KvDw.defs Cert.KvDwIdeal.defs
  rw [show Cert.KvDw.defs₀ (F := F) = Cert.KvDwIdeal.defs₀ from congrArg Defs.onTc (funext₂ fun | ⟨0, _⟩, (_, _) => rfl)]
  rfl

theorem frame : Cert.quiescent_KvDw := fun m ρ _ => by
  rw [defs_eq]
  exact Cert.KvDwIdeal.Gen.frame (F := Bits) m ρ

theorem frameIdeal : Cert.quiescent_KvDwIdeal := fun m ρ _ => Cert.KvDwIdeal.Gen.frame m ρ

theorem frameReference : Cert.quiescent_KvDwReferenceIdeal := fun m ρ _ =>
  (θ_run Cert.KvDwReferenceIdeal.defs _ _).mono (fun r h => ⟨fun c => (h c).2, sem_eq_zero_of_no_sems (by decide) r.2⟩)
    (Cert.KvDwReferenceIdeal.Value.run m ρ)

theorem algebraic : Cert.algebraic_KvDwIdeal_KvDwReferenceIdeal := fun m ρ m' ρ' _ hag =>
  ⟨fun c => (Cert.KvDwIdeal.Gen.dats m 0 c).arrAt 2 Cert.KvDwIdeal.cfg0.N, Cert.KvDwIdeal.Value.run_blocks m ρ,
    (θ_run Cert.KvDwReferenceIdeal.defs _ _).mono (fun _ h c =>
      ⟨(h c).1.trans (by
          rw [Cert.KvDwReferenceIdeal.Read.val_main_v7_eq, (hag c).1, (hag c).2]
          exact (equal m c).symm),
        (h c).2⟩) (Cert.KvDwReferenceIdeal.Value.run m' ρ')⟩

end Cert.Pr.KvDw

namespace Cert.Pr.InProj

theorem defs_eq {F : FTy → Type} [FloatOps F] : Cert.InProj.defs (F := F) = Cert.InProjIdeal.defs (F := F) := by
  unfold Cert.InProj.defs Cert.InProjIdeal.defs
  rw [show Cert.InProj.defs₀ (F := F) = Cert.InProjIdeal.defs₀ from congrArg Defs.onTc (funext₂ fun | ⟨0, _⟩, (_, _) => rfl)]
  rfl

theorem frame : Cert.quiescent_InProj := fun m ρ _ => by
  rw [defs_eq]
  exact Cert.InProjIdeal.Gen.frame (F := Bits) m ρ

theorem frameIdeal : Cert.quiescent_InProjIdeal := fun m ρ _ => Cert.InProjIdeal.Gen.frame m ρ

theorem frameReference : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run m ρ)

theorem algebraic : Cert.algebraic_InProjIdeal_InProjReferenceIdeal := fun m ρ m' ρ' _ hag =>
  ⟨fun c => (Cert.InProjIdeal.Gen.dats m 0 c).arrAt 2 Cert.InProjIdeal.cfg0.N, Cert.InProjIdeal.Value.run_blocks m ρ,
    (θ_run Cert.InProjReferenceIdeal.defs _ _).mono (fun _ h c =>
      ⟨(h c).1.trans (by
          rw [Cert.InProjReferenceIdeal.Read.val_main_v3_eq, (hag c).1, (hag c).2]
          exact (equal m c).symm),
        (h c).2⟩) (Cert.InProjReferenceIdeal.Value.run m' ρ')⟩

end Cert.Pr.InProj

namespace Cert.Pr.Square

theorem defs_eq {F : FTy → Type} [FloatOps F] : Cert.Square.defs (F := F) = Cert.SquareIdeal.defs (F := F) := by
  unfold Cert.Square.defs Cert.SquareIdeal.defs
  rw [show Cert.Square.defs₀ (F := F) = Cert.SquareIdeal.defs₀ from congrArg Defs.onTc (funext₂ fun | ⟨0, _⟩, (_, _) => rfl)]
  rfl

theorem frame : Cert.quiescent_Square := fun m ρ _ => by
  rw [defs_eq]
  exact Cert.SquareIdeal.Gen.frame (F := Bits) m ρ

theorem frameIdeal : Cert.quiescent_SquareIdeal := fun m ρ _ => Cert.SquareIdeal.Gen.frame m ρ

theorem frameReference : Cert.quiescent_SquareReferenceIdeal := fun m ρ _ =>
  (θ_run Cert.SquareReferenceIdeal.defs _ _).mono (fun r h => ⟨fun c => (h c).2, sem_eq_zero_of_no_sems (by decide) r.2⟩)
    (Cert.SquareReferenceIdeal.Value.run m ρ)

theorem algebraic : Cert.algebraic_SquareIdeal_SquareReferenceIdeal := fun m ρ m' ρ' _ hag =>
  ⟨fun c => (Cert.SquareIdeal.Gen.dats m 0 c).arrAt 2 Cert.SquareIdeal.cfg0.N, Cert.SquareIdeal.Value.run_blocks m ρ,
    (θ_run Cert.SquareReferenceIdeal.defs _ _).mono (fun _ h c =>
      ⟨(h c).1.trans (by
          rw [Cert.SquareReferenceIdeal.Read.val_main_v3_eq, (hag c).1, (hag c).2]
          exact (equal m c).symm),
        (h c).2⟩) (Cert.SquareReferenceIdeal.Value.run m' ρ')⟩

end Cert.Pr.Square

namespace Cert.Pr.SquareF

theorem defs_eq {F : FTy → Type} [FloatOps F] : Cert.SquareF.defs (F := F) = Cert.SquareFIdeal.defs (F := F) := by
  unfold Cert.SquareF.defs Cert.SquareFIdeal.defs
  rw [show Cert.SquareF.defs₀ (F := F) = Cert.SquareFIdeal.defs₀ from congrArg Defs.onTc (funext₂ fun | ⟨0, _⟩, (_, _) => rfl)]
  rfl

theorem frame : Cert.quiescent_SquareF := fun m ρ _ => by
  rw [defs_eq]
  exact Cert.SquareFIdeal.Gen.frame (F := Bits) m ρ

theorem frameIdeal : Cert.quiescent_SquareFIdeal := fun m ρ _ => Cert.SquareFIdeal.Gen.frame m ρ

theorem frameReference : Cert.quiescent_SquareFReferenceIdeal := fun m ρ _ =>
  (θ_run Cert.SquareFReferenceIdeal.defs _ _).mono (fun r h => ⟨fun c => (h c).2, sem_eq_zero_of_no_sems (by decide) r.2⟩)
    (Cert.SquareFReferenceIdeal.Value.run m ρ)

theorem algebraic : Cert.algebraic_SquareFIdeal_SquareFReferenceIdeal := fun m ρ m' ρ' _ hag =>
  ⟨fun c => (Cert.SquareFIdeal.Gen.dats m 0 c).arrAt 2 Cert.SquareFIdeal.cfg0.N, Cert.SquareFIdeal.Value.run_blocks m ρ,
    (θ_run Cert.SquareFReferenceIdeal.defs _ _).mono (fun _ h c =>
      ⟨(h c).1.trans (by
          rw [Cert.SquareFReferenceIdeal.Read.val_main_v2_eq, (hag c).1, (hag c).2]
          exact (equal m c).symm),
        (h c).2⟩) (Cert.SquareFReferenceIdeal.Value.run m' ρ')⟩

end Cert.Pr.SquareF

namespace Cert.Pr.Pool

theorem defs_eq {F : FTy → Type} [FloatOps F] : Cert.Pool.defs (F := F) = Cert.PoolIdeal.defs (F := F) := by
  unfold Cert.Pool.defs Cert.PoolIdeal.defs
  rw [show Cert.Pool.defs₀ (F := F) = Cert.PoolIdeal.defs₀ from congrArg Defs.onTc (funext₂ fun | ⟨0, _⟩, (_, _) => rfl)]
  rfl

theorem frame : Cert.quiescent_Pool := fun m ρ _ => by
  rw [defs_eq]
  exact Cert.PoolIdeal.Gen.frame (F := Bits) m ρ

theorem frameIdeal : Cert.quiescent_PoolIdeal := fun m ρ _ => Cert.PoolIdeal.Gen.frame m ρ

theorem frameReference : Cert.quiescent_PoolReferenceIdeal := fun m ρ _ =>
  (θ_run Cert.PoolReferenceIdeal.defs _ _).mono (fun r h => ⟨fun c => (h c).2, sem_eq_zero_of_no_sems (by decide) r.2⟩)
    (Cert.PoolReferenceIdeal.Value.run m ρ)

theorem algebraic : Cert.algebraic_PoolIdeal_PoolReferenceIdeal := fun m ρ m' ρ' _ hag =>
  ⟨fun c => (Cert.PoolIdeal.Gen.dats m 0 c).arrAt 2 Cert.PoolIdeal.cfg0.N, Cert.PoolIdeal.Value.run_blocks m ρ,
    (θ_run Cert.PoolReferenceIdeal.defs _ _).mono (fun _ h c =>
      ⟨(h c).1.trans (by
          rw [Cert.PoolReferenceIdeal.Read.val_main_v3_eq, (hag c).1, (hag c).2]
          exact (equal m c).symm),
        (h c).2⟩) (Cert.PoolReferenceIdeal.Value.run m' ρ')⟩

end Cert.Pr.Pool

namespace Cert.Pr.Kv

theorem defs_eq {F : FTy → Type} [FloatOps F] : Cert.Kv.defs (F := F) = Cert.KvIdeal.defs (F := F) := by
  unfold Cert.Kv.defs Cert.KvIdeal.defs
  rw [show Cert.Kv.defs₀ (F := F) = Cert.KvIdeal.defs₀ from congrArg Defs.onTc (funext₂ fun | ⟨0, _⟩, (_, _) => rfl)]
  rfl

theorem frame : Cert.quiescent_Kv := fun m ρ _ => by
  rw [defs_eq]
  exact Cert.KvIdeal.Gen.frame (F := Bits) m ρ

theorem frameIdeal : Cert.quiescent_KvIdeal := fun m ρ _ => Cert.KvIdeal.Gen.frame m ρ

theorem frameReference : Cert.quiescent_KvReferenceIdeal := fun m ρ _ =>
  (θ_run Cert.KvReferenceIdeal.defs _ _).mono (fun r h => ⟨fun c => (h c).2, sem_eq_zero_of_no_sems (by decide) r.2⟩)
    (Cert.KvReferenceIdeal.Value.run m ρ)

theorem algebraic : Cert.algebraic_KvIdeal_KvReferenceIdeal := fun m ρ m' ρ' _ hag =>
  ⟨fun c => (Cert.KvIdeal.Gen.dats m 0 c).arrAt 2 Cert.KvIdeal.cfg0.N, Cert.KvIdeal.Value.run_blocks m ρ,
    (θ_run Cert.KvReferenceIdeal.defs _ _).mono (fun _ h c =>
      ⟨(h c).1.trans (by
          rw [Cert.KvReferenceIdeal.Read.val_main_v3_eq, (hag c).1, (hag c).2]
          exact (equal m c).symm),
        (h c).2⟩) (Cert.KvReferenceIdeal.Value.run m' ρ')⟩

end Cert.Pr.Kv

namespace Cert.Pr.Up

theorem defs_eq {F : FTy → Type} [FloatOps F] : Cert.Up.defs (F := F) = Cert.UpIdeal.defs (F := F) := by
  unfold Cert.Up.defs Cert.UpIdeal.defs
  rw [show Cert.Up.defs₀ (F := F) = Cert.UpIdeal.defs₀ from congrArg Defs.onTc (funext₂ fun | ⟨0, _⟩, (_, _) => rfl)]
  rfl

theorem frame : Cert.quiescent_Up := fun m ρ _ => by
  rw [defs_eq]
  exact Cert.UpIdeal.Gen.frame (F := Bits) m ρ

theorem frameIdeal : Cert.quiescent_UpIdeal := fun m ρ _ => Cert.UpIdeal.Gen.frame m ρ

theorem frameReference : Cert.quiescent_UpReferenceIdeal := fun m ρ _ =>
  (θ_run Cert.UpReferenceIdeal.defs _ _).mono (fun r h => ⟨fun c => (h c).2, sem_eq_zero_of_no_sems (by decide) r.2⟩)
    (Cert.UpReferenceIdeal.Value.run m ρ)

theorem algebraic : Cert.algebraic_UpIdeal_UpReferenceIdeal := fun m ρ m' ρ' _ hag =>
  ⟨fun c => (Cert.UpIdeal.Gen.dats m 0 c).arrAt 2 Cert.UpIdeal.cfg0.N, Cert.UpIdeal.Value.run_blocks m ρ,
    (θ_run Cert.UpReferenceIdeal.defs _ _).mono (fun _ h c =>
      ⟨(h c).1.trans (by
          rw [Cert.UpReferenceIdeal.Read.val_main_v3_eq, (hag c).1, (hag c).2]
          exact (equal m c).symm),
        (h c).2⟩) (Cert.UpReferenceIdeal.Value.run m' ρ')⟩

end Cert.Pr.Up

namespace Cert.Pr.Down

theorem defs_eq {F : FTy → Type} [FloatOps F] : Cert.Down.defs (F := F) = Cert.DownIdeal.defs (F := F) := by
  unfold Cert.Down.defs Cert.DownIdeal.defs
  rw [show Cert.Down.defs₀ (F := F) = Cert.DownIdeal.defs₀ from congrArg Defs.onTc (funext₂ fun | ⟨0, _⟩, (_, _) => rfl)]
  rfl

theorem frame : Cert.quiescent_Down := fun m ρ _ => by
  rw [defs_eq]
  exact Cert.DownIdeal.Gen.frame (F := Bits) m ρ

theorem frameIdeal : Cert.quiescent_DownIdeal := fun m ρ _ => Cert.DownIdeal.Gen.frame m ρ

theorem frameReference : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run m ρ)

theorem algebraic : Cert.algebraic_DownIdeal_DownReferenceIdeal := fun m ρ m' ρ' _ hag =>
  ⟨fun c => Cert.DownIdeal.Value.G2 m c, Cert.DownIdeal.Value.run m ρ,
    (θ_run Cert.DownReferenceIdeal.defs _ _).mono (fun _ h c =>
      ⟨(h c).1.trans (by
          rw [Cert.DownReferenceIdeal.Read.val_main_v2_eq, (hag c).1, (hag c).2]
          exact (equal m c).symm),
        (h c).2⟩) (Cert.DownReferenceIdeal.Value.run m' ρ')⟩

end Cert.Pr.Down

end
-- ==== Proof.NmRow.lean ====
/-
  The gradient of a normalised row, in the kernel's form and in the one that differentiating the row's formula gives, and
  a column's sum taken tile by tile.
-/
module

public import proofs.«01_k».proof.Proof.PrTile
public import Idealize.ShloMosaic.PureOps.Ideal.Laws

@[expose] public section

noncomputable section

open Idealize.ShloMosaic

namespace Cert.Nm

/-- A row of a matrix. -/
abbrev row {n k : ℕ} (x : (⟨2, ![n, k]⟩ : Shape).Idx → EReal) (i : Fin n) : Fin k → EReal := fun j => x (ix2 i j)

/-- The number of entries of a row. -/
abbrev width : EReal := Ideal.ofBits .f32 0x45000000#32
/-- The number added to a row's mean square. -/
abbrev tiny : EReal := Ideal.ofBits .f32 0x358637BD#32
/-- Minus one half. -/
abbrev half : EReal := Ideal.ofBits .f32 0xBF000000#32

theorem width_eq : width = (2048 : ℝ) := by
  show Ideal.ieee 8 23 0x45000000#32 = _
  unfold Ideal.ieee
  norm_num [BitVec.extractLsb', BitVec.toNat_ofNat, Nat.shiftRight_eq_div_pow]

theorem half_eq : half = ((-(1 / 2) : ℝ) : EReal) := by
  show Ideal.ieee 8 23 0xBF000000#32 = _
  unfold Ideal.ieee
  norm_num [BitVec.extractLsb', BitVec.toNat_ofNat, Nat.shiftRight_eq_div_pow]

theorem tiny_pos : ∃ e : ℝ, 0 < e ∧ tiny = e := by
  unfold tiny
  simp only [Ideal.ofBits, Ideal.ieee]
  rw [if_neg (by decide), if_neg (by decide), if_neg (by decide)]
  refine ⟨_, ?_, rfl⟩
  positivity

/-- Dividing by the number of entries is multiplying by its inverse. -/
theorem div_width (a : EReal) : Ideal.div a width = a * ((2048 : ℝ)⁻¹ : ℝ) := by
  rw [width_eq, Ideal.div, if_neg (by norm_cast), ← EReal.coe_inv]

section
variable {n : ℕ} (x : Fin n → EReal)

/-- A row's mean square, with the small number added. -/
def square : EReal := Ideal.div (∑ j, x j * x j) width + tiny
/-- What a row is multiplied by. -/
def scale : EReal := Ideal.rsqrt (square x)

theorem self_nonneg (a : EReal) : 0 ≤ a * a := by
  rcases le_total 0 a with h | h
  · exact mul_nonneg h h
  · rw [← neg_mul_neg]
    exact mul_nonneg (EReal.neg_nonneg.2 h) (EReal.neg_nonneg.2 h)

/-- A row's mean square is infinite or a positive number. -/
theorem square_cases : square x = ⊤ ∨ ∃ s : ℝ, 0 < s ∧ square x = s := by
  obtain ⟨e, he, ht⟩ := tiny_pos
  have hm : 0 ≤ Ideal.div (∑ j, x j * x j) width := by
    rw [div_width]
    exact mul_nonneg (Finset.sum_nonneg fun j _ => self_nonneg _) (by norm_cast; norm_num)
  unfold square
  rw [ht]
  generalize Ideal.div (∑ j, x j * x j) width = y at hm
  induction y using EReal.rec with
  | bot => exact absurd hm (by simp)
  | top => exact .inl (EReal.top_add_coe e)
  | coe s => exact .inr ⟨s + e, by have : 0 ≤ s := by exact_mod_cast hm
                                   linarith, by norm_cast⟩

/-- The cube of the scale is the scale over the mean square. -/
theorem scale_cube : Ideal.div (scale x) (square x) = scale x * scale x * scale x := by
  unfold scale
  rcases square_cases x with h | ⟨s, hs, h⟩
  · rw [h]
    simp [Ideal.rsqrt_top, Ideal.div]
  · rw [h]
    have hr : Ideal.rsqrt (s : EReal) = ((Real.sqrt s)⁻¹ : ℝ) := by
      simp [Ideal.rsqrt_coe, not_lt.2 hs.le, hs.ne']
    rw [hr, Ideal.div, if_neg (by exact_mod_cast hs.ne'), ← EReal.coe_inv, ← EReal.coe_mul, ← EReal.coe_mul, ← EReal.coe_mul]
    congr 1
    have hi : s⁻¹ = (Real.sqrt s)⁻¹ * (Real.sqrt s)⁻¹ := by rw [← mul_inv, Real.mul_self_sqrt hs.le]
    rw [hi, mul_assoc]

end

section
variable {n : ℕ} (x w d : Fin n → EReal)

/-- A row's gradient as the kernel computes it, from the row, the weights and the gradient of the normalised row. -/
def grad (j : Fin n) : EReal :=
  scale x * (d j * w j) - x j * (scale x * scale x * scale x) * Ideal.div (∑ i, d i * w i * x i) width

/-- What each of the two factors of a row's square passes back. -/
def back : EReal := Ideal.div ((∑ i, x i * (d i * w i)) * (half * Ideal.div (scale x) (square x))) width

/-- Two halves of a number are the number. -/
theorem halves (y : EReal) : half * y + half * y = -y := by
  rw [half_eq]
  induction y using EReal.rec with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- The gradient of the row's formula is the kernel's. -/
theorem grad_eq (j : Fin n) : d j * w j * scale x + x j * back x w d + back x w d * x j = grad x w d j := by
  have h : x j * back x w d = half * (x j * (scale x * scale x * scale x) * Ideal.div (∑ i, d i * w i * x i) width) := by
    unfold back
    rw [scale_cube, div_width, div_width, Finset.sum_congr rfl fun i _ => mul_comm (x i) (d i * w i)]
    ac_rfl
  rw [mul_comm (back x w d), h, add_assoc, halves, mul_comm _ (scale x), ← sub_eq_add_neg]
  rfl

/-- The same with a number added before it. -/
theorem grad_add (e : EReal) (j : Fin n) :
    e + d j * w j * scale x + x j * back x w d + back x w d * x j = e + grad x w d j := by
  rw [← grad_eq]
  simp only [add_assoc]

end

/-- A column's sum kept in eight parts: each tile of `g` times eight rows adds to a part every eighth row. After the last
    tile the parts make up the whole column. -/
theorem column_total {rows tiles g : ℕ} (hr : rows = tiles * (g * 8)) (f : Fin rows → EReal) (acc : Fin tiles → Fin 8 → EReal)
    (part : Fin tiles → Fin 8 → EReal)
    (part_eq : ∀ (t : Fin tiles) (a : Fin 8) (k : Fin g → Fin rows), (∀ q, (k q).val = t.val * (g * 8) + (q.val * 8 + a.val)) →
      part t a = ∑ q, f (k q))
    (first : ∀ t : Fin tiles, t.val = 0 → ∀ a, acc t a = part t a)
    (more : ∀ t : Fin tiles, t.val ≠ 0 → ∀ a, acc t a = acc ⟨t.val - 1, by omega⟩ a + part t a)
    (t : Fin tiles) (ht : t.val = tiles - 1) : ∑ a, acc t a = ∑ i, f i := by
  have hacc : ∀ (s : ℕ) (hs : s < tiles) (a : Fin 8),
      acc ⟨s, hs⟩ a = ∑ u ∈ Finset.range (s + 1), if h : u < tiles then part ⟨u, h⟩ a else 0 := by
    intro s
    induction s with
    | zero => intro hs a; rw [first ⟨0, hs⟩ rfl, Finset.sum_range_one, dif_pos hs]
    | succ s ih =>
      intro hs a
      rw [more ⟨s + 1, hs⟩ (by simp), Finset.sum_range_succ, dif_pos hs]
      exact congrArg (· + _) (ih (by omega) a)
  obtain ⟨t, h⟩ := t
  dsimp only at ht
  rw [Fin.sum_univ_tiles tiles (g * 8) hr.symm]
  have hs : ∀ u : Fin tiles, ∑ r : Fin (g * 8), f (⟨u.val * (g * 8) + r.val, by
      have := Nat.mul_le_mul_right (g * 8) (Nat.succ_le_of_lt u.isLt); rw [Nat.succ_mul] at this; omega⟩) = ∑ a, part u a := by
    intro u
    rw [Fin.sum_univ_tiles g 8 rfl, Finset.sum_comm]
    refine Finset.sum_congr rfl fun a _ => (part_eq u a _ fun q => ?_).symm
    rfl
  simp only [hacc]
  rw [Finset.sum_comm, show t + 1 = tiles by omega, Finset.sum_range]
  refine Finset.sum_congr rfl fun u _ => ?_
  refine Eq.trans ?_ (hs u).symm
  exact Finset.sum_congr rfl fun a _ => dif_pos u.isLt

end Cert.Nm

end
-- ==== Proof.NmIn.lean ====
/-
  The gradient through the norm that a block's input passes: the kernel's two arrays and the reference's, entry by entry.
-/
module

public import proofs.«01_k».proof.Proof.Gen.NormInIdeal.Value
public import proofs.«01_k».proof.Proof.Gen.NormInReferenceIdeal.Read
public import proofs.«01_k».proof.Proof.XaCases
public import proofs.«01_k».proof.Proof.NmRow

@[expose] public section

set_option maxRecDepth 16384

noncomputable section

open Idealize.ShloMosaic Idealize.ShloMosaic.TcCoe Idealize.SL.Sem
open Idealize.ShloMosaic.Pipeline (Dat)

namespace Cert.Nm.In

open Cert.NormInIdeal Cert.NormInIdeal.Gen Cert.NormInIdeal.Value
open Cert.Xa (origin)
open Cert.Pr (at2 ext2)

variable (m : (ℓ : Loc nD τ sig) → Buf (Elt Ideal) ℓ) (c : Dev nD)

/-- The four arguments of the call: the rows, the weights, the gradient of the normalised rows and the gradient that the
    rows already have. -/
abbrev xArg : FVec Ideal S8192x2048 .f32 := m ((c : Thread nD τ).loc main_arg0)
abbrev wArg : FVec Ideal S1x2048 .f32 := m ((c : Thread nD τ).loc main_arg1)
abbrev dArg : FVec Ideal S8192x2048 .bf16 := m ((c : Thread nD τ).loc main_arg2)
abbrev eArg : FVec Ideal S8192x2048 .f32 := m ((c : Thread nD τ).loc main_arg3)

section
variable (p : grid0.Coords) (a1 : Memref sig .tc .vmem S512x2048 .f32) (h1 : a1.IsWhole) (a2 : Memref sig .tc .vmem S1x2048 .f32) (h2 : a2.IsWhole) (a3 : Memref sig .tc .vmem S512x2048 .bf16) (h3 : a3.IsWhole) (a4 : Memref sig .tc .vmem S512x2048 .f32) (h4 : a4.IsWhole) (a5 : Memref sig .tc .vmem S512x2048 .f32) (h5 : a5.IsWhole) (a6 : Memref sig .tc .vmem S1x2048 .f32) (h6 : a6.IsWhole) (a7 : Memref sig .tc .vmem S8x2048 .f32) (h7 : a7.IsWhole)
variable (x : Vec Ideal S512x2048 .f32) (w : Vec Ideal S1x2048 .f32) (d : Vec Ideal S512x2048 .bf16) (e : Vec Ideal S512x2048 .f32) (acc : Vec Ideal S8x2048 .f32)

/-- The first point's rows. -/
theorem first_rows (hc0 : cond0_0 p) (hc1 : ¬cond0_1 p) :
    out0_A_4 c p a1 h1 a2 h2 a3 h3 a4 h4 a5 h5 a6 h6 a7 h7 hc0 hc1 x w d e = k0_pay6 x w d e := by
  unfold out0_A_4
  rw [View.read_writes_eq_canon _ _ _ (cover0_A_4 c p a1 h1 a2 h2 a3 h3 a4 h4 a5 h5 a6 h6 a7 h7 hc0 hc1 x w d e)]
  unfold kernelRun0_A
  dsimp only
  sl_unfold_words
  rw [View.canon_unit_zero origin]
  simp only [View.readAt_eq_ld, h1.read_unread, h2.read_unread, h3.read_unread, h4.read_unread, View.ld_unit_zero (S := S512x2048) origin, View.ld_unit_zero (S := S1x2048) origin]

/-- A middle point's rows. -/
theorem mid_rows (hc0 : ¬cond0_0 p) (hc1 : ¬cond0_1 p) :
    out0_B_4 c p a1 h1 a2 h2 a3 h3 a4 h4 a5 h5 a6 h6 a7 h7 hc0 hc1 x w d e acc = k0_pay6 x w d e := by
  unfold out0_B_4
  rw [View.read_writes_eq_canon _ _ _ (cover0_B_4 c p a1 h1 a2 h2 a3 h3 a4 h4 a5 h5 a6 h6 a7 h7 hc0 hc1 x w d e acc)]
  unfold kernelRun0_B
  dsimp only
  sl_unfold_words
  rw [View.canon_unit_zero origin]
  simp only [View.readAt_eq_ld, h1.read_unread, h2.read_unread, h3.read_unread, h4.read_unread, View.ld_unit_zero (S := S512x2048) origin, View.ld_unit_zero (S := S1x2048) origin]

/-- The last point's rows. -/
theorem last_rows (hc0 : ¬cond0_0 p) (hc1 : cond0_1 p) :
    out0_C_4 c p a1 h1 a2 h2 a3 h3 a4 h4 a5 h5 a6 h6 a7 h7 hc0 hc1 x w d e acc = k0_pay6 x w d e := by
  unfold out0_C_4
  rw [View.read_writes_eq_canon _ _ _ (cover0_C_4 c p a1 h1 a2 h2 a3 h3 a4 h4 a5 h5 a6 h6 a7 h7 hc0 hc1 x w d e acc)]
  unfold kernelRun0_C
  dsimp only
  sl_unfold_words
  rw [View.canon_unit_zero origin]
  simp only [View.readAt_eq_ld, h1.read_unread, h2.read_unread, h3.read_unread, h4.read_unread, View.ld_unit_zero (S := S512x2048) origin, View.ld_unit_zero (S := S1x2048) origin]

/-- What the first point carries on. -/
theorem first_parts (hc0 : cond0_0 p) (hc1 : ¬cond0_1 p) :
    sout0_A_0 c p a1 h1 a2 h2 a3 h3 a4 h4 a5 h5 a6 h6 a7 h7 hc0 hc1 x w d e = k0_pay1 (k0_pay5 x d) (k0_pay7 (F := Ideal)) := by
  unfold sout0_A_0
  rw [View.read_writes_eq_canon _ _ _ (scover0_A_0 c p a1 h1 a2 h2 a3 h3 a4 h4 a5 h5 a6 h6 a7 h7 hc0 hc1 x w d e)]
  unfold kernelRun0_A
  dsimp only
  sl_unfold_words
  rw [View.canon_cons_unit_zero (S := S8x2048) origin, View.readCov_unit_zero (S := S8x2048) _ origin]
  simp only [View.readAt_eq_ld, h1.read_unread, h3.read_unread, View.ld_unit_zero (S := S512x2048) origin]

/-- What a middle point carries on. -/
theorem mid_parts (hc0 : ¬cond0_0 p) (hc1 : ¬cond0_1 p) :
    sout0_B_0 c p a1 h1 a2 h2 a3 h3 a4 h4 a5 h5 a6 h6 a7 h7 hc0 hc1 x w d e acc = k0_pay1 (k0_pay5 x d) acc := by
  unfold sout0_B_0
  rw [View.read_writes_eq_canon _ _ _ (scover0_B_0 c p a1 h1 a2 h2 a3 h3 a4 h4 a5 h5 a6 h6 a7 h7 hc0 hc1 x w d e acc)]
  unfold kernelRun0_B
  dsimp only
  sl_unfold_words
  rw [View.canon_unit_zero origin]
  simp only [View.readAt_eq_ld, h1.read_unread, h3.read_unread, h7.read_unread, View.ld_unit_zero (S := S512x2048) origin, View.ld_unit_zero (S := S8x2048) origin]

/-- What the last point writes of the weights' gradient. -/
theorem last_sum (hc0 : ¬cond0_0 p) (hc1 : cond0_1 p) :
    out0_C_5 c p a1 h1 a2 h2 a3 h3 a4 h4 a5 h5 a6 h6 a7 h7 hc0 hc1 x w d e acc = k0_pay2 (k0_pay1 (k0_pay5 x d) acc) := by
  unfold out0_C_5
  rw [View.read_writes_eq_canon _ _ _ (cover0_C_5 c p a1 h1 a2 h2 a3 h3 a4 h4 a5 h5 a6 h6 a7 h7 hc0 hc1 x w d e acc)]
  unfold kernelRun0_C
  dsimp only
  sl_unfold_words
  rw [View.canon_unit_zero origin, View.readCov_unit_zero (S := S8x2048) _ origin]
  simp only [View.readAt_eq_ld, h1.read_unread, h3.read_unread, h7.read_unread, View.ld_unit_zero (S := S512x2048) origin, View.ld_unit_zero (S := S8x2048) origin]
end

/-- A row's scale. -/
theorem scale_apply (x : FVec Ideal S512x2048 .f32) (r : Fin 512) : k0_pay4 (F := Ideal) x (ix2 r 0) = scale (row x r) := by
  pointwise [k0_pay4]
  rfl

/-- An entry of a point's rows. -/
theorem rows_apply (x : FVec Ideal S512x2048 .f32) (w : FVec Ideal S1x2048 .f32) (d : FVec Ideal S512x2048 .bf16) (e : FVec Ideal S512x2048 .f32)
    (r : Fin 512) (j : Fin 2048) :
    k0_pay6 (F := Ideal) x w d e (ix2 r j) = e (ix2 r j) + grad (row x r) (row w 0) (row d r) j := by
  pointwise [k0_pay6, k0_pay3]
  rw [scale_apply]
  rfl

/-- An entry of the eight partial sums after one more tile. -/
theorem parts_apply (x : FVec Ideal S512x2048 .f32) (d : FVec Ideal S512x2048 .bf16) (acc : FVec Ideal S8x2048 .f32) (a : Fin 8) (j : Fin 2048) :
    k0_pay1 (F := Ideal) (k0_pay5 x d) acc (ix2 a j) = acc (ix2 a j) + ∑ q : Fin 64, row d ⟨q.val * 8 + a.val, by omega⟩ j * row x ⟨q.val * 8 + a.val, by omega⟩ j * scale (row x ⟨q.val * 8 + a.val, by omega⟩) := by
  pointwise [k0_pay1, k0_pay5, k0_pay3]
  simp only [scale_apply]

/-- The sums start from zero. -/
theorem zero_apply (a : Fin 8) (j : Fin 2048) : k0_pay7 (F := Ideal) (ix2 a j) = 0 := by
  pointwise [k0_pay7]

/-- The eight partial sums added up. -/
theorem sum_apply (acc : FVec Ideal S8x2048 .f32) (j : Fin 2048) : k0_pay2 (F := Ideal) acc (ix2 0 j) = ∑ a, acc (ix2 a j) := by
  pointwise [k0_pay2]

/-- The places of a point's blocks. -/
theorem index_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- A point's four blocks, at their literal shapes. -/
abbrev xB (t : Fin cfg0.N) : FVec Ideal S512x2048 .f32 := iblk m c 0 t
abbrev wB (t : Fin cfg0.N) : FVec Ideal S1x2048 .f32 := iblk m c 1 t
abbrev dB (t : Fin cfg0.N) : FVec Ideal S512x2048 .bf16 := iblk m c 2 t
abbrev eB (t : Fin cfg0.N) : FVec Ideal S512x2048 .f32 := iblk m c 3 t

section
variable (t : Fin cfg0.N) (r : Fin 512) (i : Fin 8192) (hi : i.val = t.val * 512 + r.val)
include hi

/-- A row of a point's blocks, in the whole arrays. -/
theorem x_row : row (xB m c t) r = row (xArg m c) i := by
  obtain ⟨⟨e0, e1⟩, -⟩ := index_in t
  exact funext fun j => at2 (xArg m c) (by show win0_0.index t (0 : Fin 2) * 512 + 1 * r.val = i.val; omega) (by show win0_0.index t (1 : Fin 2) * 2048 + 1 * j.val = j.val; omega)

theorem d_row : row (dB m c t) r = row (dArg m c) i := by
  obtain ⟨-, -, ⟨e0, e1⟩, -⟩ := index_in t
  exact funext fun j => at2 (dArg m c) (by show win0_2.index t (0 : Fin 2) * 512 + 1 * r.val = i.val; omega) (by show win0_2.index t (1 : Fin 2) * 2048 + 1 * j.val = j.val; omega)

theorem e_row : row (eB m c t) r = row (eArg m c) i := by
  obtain ⟨-, -, -, e0, e1⟩ := index_in t
  exact funext fun j => at2 (eArg m c) (by show win0_3.index t (0 : Fin 2) * 512 + 1 * r.val = i.val; omega) (by show win0_3.index t (1 : Fin 2) * 2048 + 1 * j.val = j.val; omega)
end

theorem w_row (t : Fin cfg0.N) : row (wB m c t) 0 = row (wArg m c) 0 := by
  obtain ⟨-, ⟨e0, e1⟩, -⟩ := index_in t
  exact funext fun j => at2 (wArg m c) (by show win0_1.index t (0 : Fin 2) * 1 + 1 * 0 = 0; omega) (by show win0_1.index t (1 : Fin 2) * 2048 + 1 * j.val = j.val; omega)

/-- Every point writes its rows. -/
theorem outs_rows (t : Fin cfg0.N) : (outsAt0 m c t.val t.isLt).1 = k0_pay6 (F := Ideal) (xB m c t) (wB m c t) (dB m c t) (eB m c t) := by
  by_cases h0 : t.val % 16 = 0
  · rw [outsAt0_A m c t h0 (by omega)]; dsimp only; rw [first_rows]
  · by_cases h1 : t.val % 16 = 15
    · rw [outsAt0_C m c t h0 h1]; dsimp only; rw [last_rows]
    · rw [outsAt0_B m c t h0 h1]; dsimp only; rw [mid_rows]

/-- An entry of the kernel's rows. -/
theorem rows_at (i : Fin 8192) (j : Fin 2048) :
    (G4 m c : FVec Ideal S8192x2048 .f32) (ix2 i j) = eArg m c (ix2 i j) + grad (row (xArg m c) i) (row (wArg m c) 0) (row (dArg m c) i) j := by
  have hp : pt4Of (ix2 i j) = i.val / 512 := by
    show 1 * (i.val / 512 - 0) + 1 * (j.val / 2048 - 0) = _
    omega
  have hN : pt4Of (ix2 i j) < cfg0.N := lt_of_lt_of_eq (by rw [hp]; omega : _ < 16) N_0.symm
  have hl : loc4Of (ix2 i j) = ix2 (⟨i.val % 512, by omega⟩ : Fin 512) j :=
    funext fun d => Fin.ext (match d with | ⟨0, _⟩ => rfl | ⟨1, _⟩ => Nat.mod_eq_of_lt j.isLt)
  unfold G4
  rw [dif_pos hN, ← outsAt0_sweep m c _ hN, hl, outs_rows m c ⟨_, hN⟩, rows_apply]
  have hi : i.val = (⟨pt4Of (ix2 i j), hN⟩ : Fin cfg0.N).val * 512 + (⟨i.val % 512, by omega⟩ : Fin 512).val := by
    dsimp only
    omega
  rw [x_row m c _ _ i hi, w_row, d_row m c _ _ i hi]
  exact congrArg (· + _) (congrFun (e_row m c _ _ i hi) j)

/-- A row's addend to the weights' gradient. -/
abbrev term (x : FVec Ideal S8192x2048 .f32) (d : FVec Ideal S8192x2048 .bf16) (j : Fin 2048) (i : Fin 8192) : EReal :=
  row d i j * row x i j * scale (row x i)

/-- An entry of the kernel's gradient of the weights. -/
theorem sum_at (j : Fin 2048) : (G5 m c : FVec Ideal S1x2048 .f32) (ix2 0 j) = ∑ i, term (xArg m c) (dArg m c) j i := by
  have hN : 15 < cfg0.N := lt_of_lt_of_eq (by decide) N_0.symm
  have hT : 8192 = cfg0.N * (64 * 8) := by rw [show cfg0.N = 16 from N_0]
  rw [G5_last, ← outsAt0_sweep m c 15 hN]
  rw [outsAt0_C m c ⟨15, hN⟩ (by dsimp only; omega) rfl]
  dsimp only
  rw [last_sum, sum_apply]
  refine column_total hT (term (xArg m c) (dArg m c) j)
    (fun t a => k0_pay1 (F := Ideal) (k0_pay5 (xB m c t) (dB m c t)) (if t.val % 16 = 0 then k0_pay7 (F := Ideal) else (outsAt0 m c (t.val - 1) (Nat.lt_of_le_of_lt (Nat.sub_le _ _) t.isLt)).2.2) (ix2 a j))
    (fun t a => ∑ q : Fin 64, row (dB m c t) ⟨q.val * 8 + a.val, by omega⟩ j * row (xB m c t) ⟨q.val * 8 + a.val, by omega⟩ j * scale (row (xB m c t) ⟨q.val * 8 + a.val, by omega⟩))
    ?_ ?_ ?_ ⟨15, hN⟩ (by have := show cfg0.N = 16 from N_0; dsimp only; omega)
  · intro t a k hk
    refine Finset.sum_congr rfl fun q _ => ?_
    rw [x_row m c t _ (k q) (by rw [hk]), d_row m c t _ (k q) (by rw [hk])]
  · intro t ht a
    rw [if_pos (by omega), parts_apply, zero_apply, zero_add]
  · intro t ht a
    have h16 := lt_of_lt_of_eq t.isLt (show cfg0.N = 16 from N_0)
    rw [if_neg (by omega), parts_apply]
    refine congrArg (· + _) ?_
    by_cases h0 : (t.val - 1) % 16 = 0
    · rw [if_pos h0, outsAt0_A m c ⟨t.val - 1, by omega⟩ h0 (by dsimp only; omega)]
      dsimp only
      rw [first_parts]
    · rw [if_neg h0, outsAt0_B m c ⟨t.val - 1, by omega⟩ h0 (by dsimp only; omega)]
      dsimp only
      rw [mid_parts]

section
open Cert.NormInReferenceIdeal.Read
variable (x : FVec Ideal S8192x2048 .f32) (w : FVec Ideal S1x2048 .f32) (d : FVec Ideal S8192x2048 .bf16) (e : FVec Ideal S8192x2048 .f32)

/-- The reference's mean square of a row. -/
theorem reference_square (i : Fin 8192) : val_main_v6 (F := Ideal) x (ix2 i 0) = square (row x i) := by
  pointwise [val_main_v6, val_main_v5, val_main_v4, val_main_v3, val_main_v2, val_main_v1, val_main_v0, val_main_cst, val_main_cst_0, val_main_cst_1]
  rfl

/-- The reference's scale of a row. -/
theorem reference_scale (i : Fin 8192) : val_main_v7 (F := Ideal) x (ix2 i 0) = scale (row x i) := by
  pointwise [val_main_v7]
  rw [reference_square]
  rfl

/-- What the reference passes back through a row's square. -/
theorem reference_back (i : Fin 8192) (j : Fin 2048) : val_main_v31 (F := Ideal) x w d (ix2 i j) = back (row x i) (row w 0) (row d i) := by
  pointwise [val_main_v31, val_main_v30, val_main_v29, val_main_v28, val_main_v27, val_main_v23, val_main_v22, val_main_v21, val_main_v20, val_main_v19, val_main_v15, val_main_v10, val_main_v9, val_main_v8, val_main_cst_2, val_main_cst_4, val_main_cst_5, val_main_cst_6]
  rw [Fin.sum_univ_one, reference_scale, reference_square]
  rfl

/-- An entry of the reference's rows. -/
theorem reference_rows (i : Fin 8192) (j : Fin 2048) :
    val_main_v35 (F := Ideal) x w d e (ix2 i j) = e (ix2 i j) + grad (row x i) (row w 0) (row d i) j := by
  rw [← grad_add]
  pointwise [val_main_v35, val_main_v34, val_main_v33, val_main_v32, val_main_v26, val_main_v25, val_main_v24, val_main_v20, val_main_v19, val_main_v15]
  simp only [reference_scale, reference_back]

/-- An entry of the reference's gradient of the weights. -/
theorem reference_sum (j : Fin 2048) : val_main_v18 (F := Ideal) x d (ix2 0 j) = ∑ i, term x d j i := by
  pointwise [val_main_v18, val_main_v17, val_main_v16, val_main_v15, val_main_v12, val_main_v11, val_main_cst_3]
  simp only [reference_scale]
  exact Finset.sum_congr rfl fun i _ => by rw [mul_comm, ← mul_assoc]
end

/-- The two programs' rows are the same. -/
theorem rows_equal : G4 m c = Cert.NormInReferenceIdeal.Read.val_main_v35 (F := Ideal) (xArg m c) (wArg m c) (dArg m c) (eArg m c) :=
  ext2 fun i j => (rows_at m c i j).trans (reference_rows _ _ _ _ i j).symm

/-- The two programs' gradients of the weights are the same. -/
theorem sum_equal : G5 m c = Cert.NormInReferenceIdeal.Read.val_main_v18 (F := Ideal) (xArg m c) (dArg m c) :=
  ext2 fun i j => by
    obtain rfl : i = 0 := Subsingleton.elim _ _
    exact (sum_at m c j).trans (reference_sum _ _ j).symm

end Cert.Nm.In

end
-- ==== Proof.NmOut.lean ====
/-
  The gradient through the norm that a block's output passes: the kernel's two arrays and the reference's, entry by entry.
-/
module

public import proofs.«01_k».proof.Proof.Gen.NormOutIdeal.Value
public import proofs.«01_k».proof.Proof.Gen.NormOutReferenceIdeal.Read
public import proofs.«01_k».proof.Proof.XaCases
public import proofs.«01_k».proof.Proof.NmRow

@[expose] public section

set_option maxRecDepth 16384

noncomputable section

open Idealize.ShloMosaic Idealize.ShloMosaic.TcCoe Idealize.SL.Sem
open Idealize.ShloMosaic.Pipeline (Dat)

namespace Cert.Nm.Out

open Cert.NormOutIdeal Cert.NormOutIdeal.Gen Cert.NormOutIdeal.Value
open Cert.Xa (origin)
open Cert.Pr (at2 ext2)

variable (m : (ℓ : Loc nD τ sig) → Buf (Elt Ideal) ℓ) (c : Dev nD)

/-- The three arguments of the call: the rows, the weights and the gradient of the normalised rows. -/
abbrev xArg : FVec Ideal S8192x2048 .f32 := m ((c : Thread nD τ).loc main_arg0)
abbrev wArg : FVec Ideal S1x2048 .f32 := m ((c : Thread nD τ).loc main_arg1)
abbrev dArg : FVec Ideal S8192x2048 .f32 := m ((c : Thread nD τ).loc main_arg2)

section
variable (p : grid0.Coords) (a1 : Memref sig .tc .vmem S512x2048 .f32) (h1 : a1.IsWhole) (a2 : Memref sig .tc .vmem S1x2048 .f32) (h2 : a2.IsWhole) (a3 : Memref sig .tc .vmem S512x2048 .f32) (h3 : a3.IsWhole) (a4 : Memref sig .tc .vmem S512x2048 .bf16) (h4 : a4.IsWhole) (a5 : Memref sig .tc .vmem S1x2048 .f32) (h5 : a5.IsWhole) (a6 : Memref sig .tc .vmem S8x2048 .f32) (h6 : a6.IsWhole)
variable (x : Vec Ideal S512x2048 .f32) (w : Vec Ideal S1x2048 .f32) (d : Vec Ideal S512x2048 .f32) (acc : Vec Ideal S8x2048 .f32)

/-- The first point's rows. -/
theorem first_rows (hc0 : cond0_0 p) (hc1 : ¬cond0_1 p) :
    out0_A_3 c p a1 h1 a2 h2 a3 h3 a4 h4 a5 h5 a6 h6 hc0 hc1 x w d = k0_pay4 x w d := by
  unfold out0_A_3
  rw [View.read_writes_eq_canon _ _ _ (cover0_A_3 c p a1 h1 a2 h2 a3 h3 a4 h4 a5 h5 a6 h6 hc0 hc1 x w d)]
  unfold kernelRun0_A
  dsimp only
  sl_unfold_words
  rw [View.canon_unit_zero origin]
  simp only [View.readAt_eq_ld, h1.read_unread, h2.read_unread, h3.read_unread, View.ld_unit_zero (S := S512x2048) origin, View.ld_unit_zero (S := S1x2048) origin]

/-- A middle point's rows. -/
theorem mid_rows (hc0 : ¬cond0_0 p) (hc1 : ¬cond0_1 p) :
    out0_B_3 c p a1 h1 a2 h2 a3 h3 a4 h4 a5 h5 a6 h6 hc0 hc1 x w d acc = k0_pay4 x w d := by
  unfold out0_B_3
  rw [View.read_writes_eq_canon _ _ _ (cover0_B_3 c p a1 h1 a2 h2 a3 h3 a4 h4 a5 h5 a6 h6 hc0 hc1 x w d acc)]
  unfold kernelRun0_B
  dsimp only
  sl_unfold_words
  rw [View.canon_unit_zero origin]
  simp only [View.readAt_eq_ld, h1.read_unread, h2.read_unread, h3.read_unread, View.ld_unit_zero (S := S512x2048) origin, View.ld_unit_zero (S := S1x2048) origin]

/-- The last point's rows. -/
theorem last_rows (hc0 : ¬cond0_0 p) (hc1 : cond0_1 p) :
    out0_C_3 c p a1 h1 a2 h2 a3 h3 a4 h4 a5 h5 a6 h6 hc0 hc1 x w d acc = k0_pay4 x w d := by
  unfold out0_C_3
  rw [View.read_writes_eq_canon _ _ _ (cover0_C_3 c p a1 h1 a2 h2 a3 h3 a4 h4 a5 h5 a6 h6 hc0 hc1 x w d acc)]
  unfold kernelRun0_C
  dsimp only
  sl_unfold_words
  rw [View.canon_unit_zero origin]
  simp only [View.readAt_eq_ld, h1.read_unread, h2.read_unread, h3.read_unread, View.ld_unit_zero (S := S512x2048) origin, View.ld_unit_zero (S := S1x2048) origin]

/-- What the first point carries on. -/
theorem first_parts (hc0 : cond0_0 p) (hc1 : ¬cond0_1 p) :
    sout0_A_0 c p a1 h1 a2 h2 a3 h3 a4 h4 a5 h5 a6 h6 hc0 hc1 x w d = k0_pay1 (k0_pay6 x d (k0_pay5 (F := Ideal))) := by
  unfold sout0_A_0
  rw [View.read_writes_eq_canon _ _ _ (scover0_A_0 c p a1 h1 a2 h2 a3 h3 a4 h4 a5 h5 a6 h6 hc0 hc1 x w d)]
  unfold kernelRun0_A
  dsimp only
  sl_unfold_words
  rw [View.canon_cons_unit_zero (S := S8x2048) origin, View.readCov_unit_zero (S := S8x2048) _ origin]
  simp only [View.readAt_eq_ld, h1.read_unread, h3.read_unread, View.ld_unit_zero (S := S512x2048) origin]

/-- What a middle point carries on. -/
theorem mid_parts (hc0 : ¬cond0_0 p) (hc1 : ¬cond0_1 p) :
    sout0_B_0 c p a1 h1 a2 h2 a3 h3 a4 h4 a5 h5 a6 h6 hc0 hc1 x w d acc = k0_pay1 (k0_pay6 x d acc) := by
  unfold sout0_B_0
  rw [View.read_writes_eq_canon _ _ _ (scover0_B_0 c p a1 h1 a2 h2 a3 h3 a4 h4 a5 h5 a6 h6 hc0 hc1 x w d acc)]
  unfold kernelRun0_B
  dsimp only
  sl_unfold_words
  rw [View.canon_unit_zero origin]
  simp only [View.readAt_eq_ld, h1.read_unread, h3.read_unread, h6.read_unread, View.ld_unit_zero (S := S512x2048) origin, View.ld_unit_zero (S := S8x2048) origin]

/-- What the last point writes of the weights' gradient. -/
theorem last_sum (hc0 : ¬cond0_0 p) (hc1 : cond0_1 p) :
    out0_C_4 c p a1 h1 a2 h2 a3 h3 a4 h4 a5 h5 a6 h6 hc0 hc1 x w d acc = k0_pay2 (k0_pay1 (k0_pay6 x d acc)) := by
  unfold out0_C_4
  rw [View.read_writes_eq_canon _ _ _ (cover0_C_4 c p a1 h1 a2 h2 a3 h3 a4 h4 a5 h5 a6 h6 hc0 hc1 x w d acc)]
  unfold kernelRun0_C
  dsimp only
  sl_unfold_words
  rw [View.canon_unit_zero origin, View.readCov_unit_zero (S := S8x2048) _ origin]
  simp only [View.readAt_eq_ld, h1.read_unread, h3.read_unread, h6.read_unread, View.ld_unit_zero (S := S512x2048) origin, View.ld_unit_zero (S := S8x2048) origin]
end

/-- A row's scale. -/
theorem scale_apply (x : FVec Ideal S512x2048 .f32) (r : Fin 512) : k0_pay3 (F := Ideal) x (ix2 r 0) = scale (row x r) := by
  pointwise [k0_pay3]
  rfl

/-- An entry of a point's rows. -/
theorem rows_apply (x : FVec Ideal S512x2048 .f32) (w : FVec Ideal S1x2048 .f32) (d : FVec Ideal S512x2048 .f32)
    (r : Fin 512) (j : Fin 2048) :
    k0_pay4 (F := Ideal) x w d (ix2 r j) = grad (row x r) (row w 0) (row d r) j := by
  pointwise [k0_pay4]
  rw [scale_apply]
  rfl

/-- An entry of the eight partial sums after one more tile. -/
theorem parts_apply (x : FVec Ideal S512x2048 .f32) (d : FVec Ideal S512x2048 .f32) (acc : FVec Ideal S8x2048 .f32) (a : Fin 8) (j : Fin 2048) :
    k0_pay1 (F := Ideal) (k0_pay6 x d acc) (ix2 a j) = acc (ix2 a j) + ∑ q : Fin 64, row d ⟨q.val * 8 + a.val, by omega⟩ j * row x ⟨q.val * 8 + a.val, by omega⟩ j * scale (row x ⟨q.val * 8 + a.val, by omega⟩) := by
  pointwise [k0_pay1, k0_pay6]
  simp only [scale_apply]

/-- The sums start from zero. -/
theorem zero_apply (a : Fin 8) (j : Fin 2048) : k0_pay5 (F := Ideal) (ix2 a j) = 0 := by
  pointwise [k0_pay5]

/-- The eight partial sums added up. -/
theorem sum_apply (acc : FVec Ideal S8x2048 .f32) (j : Fin 2048) : k0_pay2 (F := Ideal) acc (ix2 0 j) = ∑ a, acc (ix2 a j) := by
  pointwise [k0_pay2]

/-- The places of a point's blocks. -/
theorem index_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- A point's three blocks, at their literal shapes. -/
abbrev xB (t : Fin cfg0.N) : FVec Ideal S512x2048 .f32 := iblk m c 0 t
abbrev wB (t : Fin cfg0.N) : FVec Ideal S1x2048 .f32 := iblk m c 1 t
abbrev dB (t : Fin cfg0.N) : FVec Ideal S512x2048 .f32 := iblk m c 2 t

section
variable (t : Fin cfg0.N) (r : Fin 512) (i : Fin 8192) (hi : i.val = t.val * 512 + r.val)
include hi

/-- A row of a point's blocks, in the whole arrays. -/
theorem x_row : row (xB m c t) r = row (xArg m c) i := by
  obtain ⟨⟨e0, e1⟩, -⟩ := index_in t
  exact funext fun j => at2 (xArg m c) (by show win0_0.index t (0 : Fin 2) * 512 + 1 * r.val = i.val; omega) (by show win0_0.index t (1 : Fin 2) * 2048 + 1 * j.val = j.val; omega)

theorem d_row : row (dB m c t) r = row (dArg m c) i := by
  obtain ⟨-, -, e0, e1⟩ := index_in t
  exact funext fun j => at2 (dArg m c) (by show win0_2.index t (0 : Fin 2) * 512 + 1 * r.val = i.val; omega) (by show win0_2.index t (1 : Fin 2) * 2048 + 1 * j.val = j.val; omega)
end

theorem w_row (t : Fin cfg0.N) : row (wB m c t) 0 = row (wArg m c) 0 := by
  obtain ⟨-, ⟨e0, e1⟩, -⟩ := index_in t
  exact funext fun j => at2 (wArg m c) (by show win0_1.index t (0 : Fin 2) * 1 + 1 * 0 = 0; omega) (by show win0_1.index t (1 : Fin 2) * 2048 + 1 * j.val = j.val; omega)

/-- Every point writes its rows. -/
theorem outs_rows (t : Fin cfg0.N) : (outsAt0 m c t.val t.isLt).1 = k0_pay4 (F := Ideal) (xB m c t) (wB m c t) (dB m c t) := by
  by_cases h0 : t.val % 16 = 0
  · rw [outsAt0_A m c t h0 (by omega)]; dsimp only; rw [first_rows]
  · by_cases h1 : t.val % 16 = 15
    · rw [outsAt0_C m c t h0 h1]; dsimp only; rw [last_rows]
    · rw [outsAt0_B m c t h0 h1]; dsimp only; rw [mid_rows]

/-- An entry of the kernel's rows. -/
theorem rows_at (i : Fin 8192) (j : Fin 2048) :
    (G3 m c : FVec Ideal S8192x2048 .bf16) (ix2 i j) = grad (row (xArg m c) i) (row (wArg m c) 0) (row (dArg m c) i) j := by
  have hp : pt3Of (ix2 i j) = i.val / 512 := by
    show 1 * (i.val / 512 - 0) + 1 * (j.val / 2048 - 0) = _
    omega
  have hN : pt3Of (ix2 i j) < cfg0.N := lt_of_lt_of_eq (by rw [hp]; omega : _ < 16) N_0.symm
  have hl : loc3Of (ix2 i j) = ix2 (⟨i.val % 512, by omega⟩ : Fin 512) j :=
    funext fun d => Fin.ext (match d with | ⟨0, _⟩ => rfl | ⟨1, _⟩ => Nat.mod_eq_of_lt j.isLt)
  unfold G3
  rw [dif_pos hN, ← outsAt0_sweep m c _ hN, hl, outs_rows m c ⟨_, hN⟩, rows_apply]
  have hi : i.val = (⟨pt3Of (ix2 i j), hN⟩ : Fin cfg0.N).val * 512 + (⟨i.val % 512, by omega⟩ : Fin 512).val := by
    dsimp only
    omega
  rw [x_row m c _ _ i hi, w_row, d_row m c _ _ i hi]

/-- A row's addend to the weights' gradient. -/
abbrev term (x : FVec Ideal S8192x2048 .f32) (d : FVec Ideal S8192x2048 .f32) (j : Fin 2048) (i : Fin 8192) : EReal :=
  row d i j * row x i j * scale (row x i)

/-- An entry of the kernel's gradient of the weights. -/
theorem sum_at (j : Fin 2048) : (G4 m c : FVec Ideal S1x2048 .f32) (ix2 0 j) = ∑ i, term (xArg m c) (dArg m c) j i := by
  have hN : 15 < cfg0.N := lt_of_lt_of_eq (by decide) N_0.symm
  have hT : 8192 = cfg0.N * (64 * 8) := by rw [show cfg0.N = 16 from N_0]
  rw [G4_last, ← outsAt0_sweep m c 15 hN]
  rw [outsAt0_C m c ⟨15, hN⟩ (by dsimp only; omega) rfl]
  dsimp only
  rw [last_sum, sum_apply]
  refine column_total hT (term (xArg m c) (dArg m c) j)
    (fun t a => k0_pay1 (F := Ideal) (k0_pay6 (xB m c t) (dB m c t) (if t.val % 16 = 0 then k0_pay5 (F := Ideal) else (outsAt0 m c (t.val - 1) (Nat.lt_of_le_of_lt (Nat.sub_le _ _) t.isLt)).2.2)) (ix2 a j))
    (fun t a => ∑ q : Fin 64, row (dB m c t) ⟨q.val * 8 + a.val, by omega⟩ j * row (xB m c t) ⟨q.val * 8 + a.val, by omega⟩ j * scale (row (xB m c t) ⟨q.val * 8 + a.val, by omega⟩))
    ?_ ?_ ?_ ⟨15, hN⟩ (by have := show cfg0.N = 16 from N_0; dsimp only; omega)
  · intro t a k hk
    refine Finset.sum_congr rfl fun q _ => ?_
    rw [x_row m c t _ (k q) (by rw [hk]), d_row m c t _ (k q) (by rw [hk])]
  · intro t ht a
    rw [if_pos (by omega), parts_apply, zero_apply, zero_add]
  · intro t ht a
    have h16 := lt_of_lt_of_eq t.isLt (show cfg0.N = 16 from N_0)
    rw [if_neg (by omega), parts_apply]
    refine congrArg (· + _) ?_
    by_cases h0 : (t.val - 1) % 16 = 0
    · rw [if_pos h0, outsAt0_A m c ⟨t.val - 1, by omega⟩ h0 (by dsimp only; omega)]
      dsimp only
      rw [first_parts]
    · rw [if_neg h0, outsAt0_B m c ⟨t.val - 1, by omega⟩ h0 (by dsimp only; omega)]
      dsimp only
      rw [mid_parts]

section
open Cert.NormOutReferenceIdeal.Read
variable (x : FVec Ideal S8192x2048 .f32) (w : FVec Ideal S1x2048 .f32) (d : FVec Ideal S8192x2048 .f32)

/-- The reference's mean square of a row. -/
theorem reference_square (i : Fin 8192) : val_main_v6 (F := Ideal) x (ix2 i 0) = square (row x i) := by
  pointwise [val_main_v6, val_main_v5, val_main_v4, val_main_v3, val_main_v2, val_main_v1, val_main_v0, val_main_cst, val_main_cst_0, val_main_cst_1]
  rfl

/-- The reference's scale of a row. -/
theorem reference_scale (i : Fin 8192) : val_main_v7 (F := Ideal) x (ix2 i 0) = scale (row x i) := by
  pointwise [val_main_v7]
  rw [reference_square]
  rfl

/-- What the reference passes back through a row's square. -/
theorem reference_back (i : Fin 8192) (j : Fin 2048) : val_main_v29 (F := Ideal) x w d (ix2 i j) = back (row x i) (row w 0) (row d i) := by
  pointwise [val_main_v29, val_main_v28, val_main_v27, val_main_v26, val_main_v25, val_main_v22, val_main_v21, val_main_v20, val_main_v19, val_main_v18, val_main_v10, val_main_v9, val_main_v8, val_main_cst_2, val_main_cst_4, val_main_cst_5, val_main_cst_6]
  rw [Fin.sum_univ_one, reference_scale, reference_square]
  rfl

/-- An entry of the reference's rows. -/
theorem reference_rows (i : Fin 8192) (j : Fin 2048) :
    val_main_v34 (F := Ideal) x w d (ix2 i j) = grad (row x i) (row w 0) (row d i) j := by
  rw [← grad_eq]
  pointwise [val_main_v34, val_main_v33, val_main_v32, val_main_v31, val_main_v30, val_main_v24, val_main_v23, val_main_v19, val_main_v18]
  simp only [reference_scale, reference_back]

/-- An entry of the reference's gradient of the weights. -/
theorem reference_sum (j : Fin 2048) : val_main_v17 (F := Ideal) x d (ix2 0 j) = ∑ i, term x d j i := by
  pointwise [val_main_v17, val_main_v16, val_main_v15, val_main_v12, val_main_v11, val_main_cst_3]
  simp only [reference_scale]
  exact Finset.sum_congr rfl fun i _ => by rw [mul_comm, ← mul_assoc]
end

/-- The two programs' rows are the same. -/
theorem rows_equal : G3 m c = Cert.NormOutReferenceIdeal.Read.val_main_v34 (F := Ideal) (xArg m c) (wArg m c) (dArg m c) :=
  ext2 fun i j => (rows_at m c i j).trans (reference_rows _ _ _ i j).symm

/-- The two programs' gradients of the weights are the same. -/
theorem sum_equal : G4 m c = Cert.NormOutReferenceIdeal.Read.val_main_v17 (F := Ideal) (xArg m c) (dArg m c) :=
  ext2 fun i j => by
    obtain rfl : i = 0 := Subsingleton.elim _ _
    exact (sum_at m c j).trans (reference_sum _ _ j).symm

end Cert.Nm.Out

end
-- ==== Proof.NmClaims.lean ====
/-
  The claims of the norms: each kernel keeps its arguments and ends, and its arrays are the reference's.
-/
module

public import proofs.«01_k».proof.Defs
public import proofs.«01_k».proof.Proof.Gen.NormIn
public import proofs.«01_k».proof.Proof.NmIn
public import proofs.«01_k».proof.Proof.Gen.NormOut
public import proofs.«01_k».proof.Proof.NmOut
public import Idealize.ShloMosaic.Adequacy
public import Idealize.ShloMosaic.Init

@[expose] public section

noncomputable section

open Idealize.ShloMosaic Idealize.SL.Sem

namespace Cert.Nm.In

/-- The kernel's two texts have the same definitions. -/
theorem defs_eq {F : FTy → Type} [FloatOps F] : Cert.NormIn.defs (F := F) = Cert.NormInIdeal.defs (F := F) := by
  unfold Cert.NormIn.defs Cert.NormInIdeal.defs
  rw [show Cert.NormIn.defs₀ (F := F) = Cert.NormInIdeal.defs₀ from congrArg Defs.onTc (funext₂ fun | ⟨0, _⟩, (_, _) => rfl)]
  rfl

/-- The kernel keeps its arguments and ends. -/
theorem frame : Cert.quiescent_NormIn := fun m ρ _ => by
  rw [defs_eq]
  exact Cert.NormInIdeal.Gen.frame (F := Bits) m ρ

/-- The same over the extended reals. -/
theorem frameIdeal : Cert.quiescent_NormInIdeal := fun m ρ _ => Cert.NormInIdeal.Gen.frame m ρ

/-- The reference keeps its arguments and ends. -/
theorem frameReference : Cert.quiescent_NormInReferenceIdeal := fun m ρ _ =>
  (θ_run Cert.NormInReferenceIdeal.defs _ _).mono (fun r h => ⟨fun c => (h c).2.2, sem_eq_zero_of_no_sems (by decide) r.2⟩)
    (Cert.NormInReferenceIdeal.Value.run m ρ)

/-- The kernel's results are the reference's. -/
theorem algebraic : Cert.algebraic_NormInIdeal_NormInReferenceIdeal := fun m ρ m' ρ' _ hag =>
  ⟨fun c => Cert.NormInIdeal.Value.G4 m c, fun c => Cert.NormInIdeal.Value.G5 m c, Cert.NormInIdeal.Value.run m ρ,
    (θ_run Cert.NormInReferenceIdeal.defs _ _).mono (fun _ h c =>
      ⟨(h c).1.trans (by
          rw [Cert.NormInReferenceIdeal.Read.val_main_v35_eq, (hag c).1, (hag c).2.1, (hag c).2.2.1, (hag c).2.2.2]
          exact (rows_equal m c).symm),
        (h c).2.1.trans (by
          rw [Cert.NormInReferenceIdeal.Read.val_main_v18_eq, (hag c).1, (hag c).2.2.1]
          exact (sum_equal m c).symm),
        (h c).2.2⟩) (Cert.NormInReferenceIdeal.Value.run m' ρ')⟩

end Cert.Nm.In

namespace Cert.Nm.Out

/-- The kernel's two texts have the same definitions. -/
theorem defs_eq {F : FTy → Type} [FloatOps F] : Cert.NormOut.defs (F := F) = Cert.NormOutIdeal.defs (F := F) := by
  unfold Cert.NormOut.defs Cert.NormOutIdeal.defs
  rw [show Cert.NormOut.defs₀ (F := F) = Cert.NormOutIdeal.defs₀ from congrArg Defs.onTc (funext₂ fun | ⟨0, _⟩, (_, _) => rfl)]
  rfl

/-- The kernel keeps its arguments and ends. -/
theorem frame : Cert.quiescent_NormOut := fun m ρ _ => by
  rw [defs_eq]
  exact Cert.NormOutIdeal.Gen.frame (F := Bits) m ρ

/-- The same over the extended reals. -/
theorem frameIdeal : Cert.quiescent_NormOutIdeal := fun m ρ _ => Cert.NormOutIdeal.Gen.frame m ρ

/-- The reference keeps its arguments and ends. -/
theorem frameReference : Cert.quiescent_NormOutReferenceIdeal := fun m ρ _ =>
  (θ_run Cert.NormOutReferenceIdeal.defs _ _).mono (fun r h => ⟨fun c => (h c).2.2, sem_eq_zero_of_no_sems (by decide) r.2⟩)
    (Cert.NormOutReferenceIdeal.Value.run m ρ)

/-- The kernel's results are the reference's. -/
theorem algebraic : Cert.algebraic_NormOutIdeal_NormOutReferenceIdeal := fun m ρ m' ρ' _ hag =>
  ⟨fun c => Cert.NormOutIdeal.Value.G3 m c, fun c => Cert.NormOutIdeal.Value.G4 m c, Cert.NormOutIdeal.Value.run m ρ,
    (θ_run Cert.NormOutReferenceIdeal.defs _ _).mono (fun _ h c =>
      ⟨(h c).1.trans (by
          rw [Cert.NormOutReferenceIdeal.Read.val_main_v34_eq, (hag c).1, (hag c).2.1, (hag c).2.2]
          exact (rows_equal m c).symm),
        (h c).2.1.trans (by
          rw [Cert.NormOutReferenceIdeal.Read.val_main_v17_eq, (hag c).1, (hag c).2.2]
          exact (sum_equal m c).symm),
        (h c).2.2⟩) (Cert.NormOutReferenceIdeal.Value.run m' ρ')⟩

end Cert.Nm.Out

end
-- ==== Proof.AdStep.lean ====
/-
  One entry of the optimiser's step: the sum of the eight devices' parts of the gradient, the two new moments and the
  change of the weight, over the extended reals.
-/
module

public import Idealize.ShloMosaic.PureOps.Ideal
public import Idealize.ShloMosaic.Lib.Pointwise
public import proofs.«01_k».proof.Proof.PrTile

@[expose] public section

noncomputable section

open Idealize.ShloMosaic

namespace Cert.Ad

/-- The new first moment, from the gradient and the old moment. -/
def first (g m : EReal) : EReal := Ideal.ofBits .f32 0x3F666666#32 * m + Ideal.ofBits .f32 0x3DCCCCCD#32 * g

/-- The new second moment, from the gradient and the old moment. -/
def second (g v : EReal) : EReal := Ideal.ofBits .f32 0x3F7FBE77#32 * v + Ideal.ofBits .f32 0x3A83126F#32 * (g * g)

/-- The change of the weight, from the gradient, the weight and the two old moments. -/
def change (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

/-- A matrix that is written in tiles of `T` rows, tile by tile equal to another, is that other. -/
theorem whole {R C T N : ℕ} (hN : N * T = R) {arr ref : (⟨2, ![R, C]⟩ : Shape).Idx → EReal}
    (out : Fin N → (⟨2, ![T, C]⟩ : Shape).Idx → EReal)
    (h : ∀ (t : Fin N) (a : Fin T) (i : Fin R) (j : Fin C), i.val = t.val * T + a.val →
      arr (ix2 i j) = out t (ix2 a j) ∧ out t (ix2 a j) = ref (ix2 i j)) : arr = ref :=
  Cert.Pr.ext2 fun i j => by
    have hR : i.val < N * T := lt_of_lt_of_eq i.isLt hN.symm
    have hT : 0 < T := Nat.pos_of_ne_zero fun h0 => by simp [h0] at hR
    have hi : i.val = i.val / T * T + i.val % T := (Nat.div_add_mod' _ _).symm
    have ht : i.val / T < N := Nat.div_lt_of_lt_mul (by rwa [Nat.mul_comm] at hR)
    obtain ⟨h1, h2⟩ := h ⟨_, ht⟩ ⟨_, Nat.mod_lt _ hT⟩ i j hi
    exact h1.trans h2

end Cert.Ad

end
-- ==== Proof.StepIn.lean ====
/-
  The optimiser's step for the input projection's weight: the kernel's four arrays and the reference's, entry by entry.
-/
module

public import proofs.«01_k».proof.Proof.Gen.AdInIdeal.Value
public import proofs.«01_k».proof.Proof.Gen.AdInReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.In

open Cert.AdInIdeal Cert.AdInIdeal.Gen Cert.AdInIdeal.Value
open Cert.Xa (origin)
open Cert.Pr (at2 at3 ext2)

section
variable (x0 : FVec Ideal S8x128x1668 .bf16) (x1 x2 x3 : FVec Ideal S128x1668 .f32) (a : Fin 128) (b : Fin 1668)

/-- The sum of the eight parts at an entry of a block. -/
theorem parts_apply : k0_pay5 (F := Ideal) x0 x1 x2 x3 (ix2 a b) = ∑ s : Fin 8, x0 (ix3 s a b) := by
  pointwise [k0_pay5, k0_pay4]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S128x1668) origin]
  pointwise [k0_pay1, k0_pay2, k0_pay3]
  rw [parts_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin]
  simp only [View.ld_unit_zero (S := S128x1668) origin]
  pointwise [k0_pay1, k0_pay2, k0_pay3]
  rw [parts_apply]
  rfl

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S128x1668) origin]
  pointwise [k0_pay1, k0_pay2, k0_pay3]
  rw [parts_apply]
  rfl
end

variable (m : (ℓ : Loc nD τ sig) → Buf (Elt Ideal) ℓ) (c : Dev nD)

/-- The four arguments of the call: the parts of the gradient, the weight and its two moments. -/
abbrev gArg : FVec Ideal S8x2048x1668 .bf16 := m ((c : Thread nD τ).loc main_arg0)
abbrev wArg : FVec Ideal S2048x1668 .f32 := m ((c : Thread nD τ).loc main_arg1)
abbrev mArg : FVec Ideal S2048x1668 .f32 := m ((c : Thread nD τ).loc main_arg2)
abbrev vArg : FVec Ideal S2048x1668 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 128 = 2048 := by rw [show cfg0.N = 16 from N_0]

section
variable (t : Fin cfg0.N) (a : Fin 128) (i : Fin 2048) (j : Fin 1668) (hi : i.val = t.val * 128 + a.val)
include hi

/-- An entry of a point's four blocks, in the whole arrays. -/
theorem block_at : (∀ s : Fin 8, (iblk m c 0 t : FVec Ideal S8x128x1668 .bf16) (ix3 s a j) = gArg m c (ix3 s i j))
    ∧ (iblk m c 1 t : FVec Ideal S128x1668 .f32) (ix2 a j) = wArg m c (ix2 i j)
    ∧ (iblk m c 2 t : FVec Ideal S128x1668 .f32) (ix2 a j) = mArg m c (ix2 i j)
    ∧ (iblk m c 3 t : FVec Ideal S128x1668 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 128 + 1 * a.val = i.val; omega) (by show win0_0.index t (2 : Fin 3) * 1668 + 1 * j.val = j.val; omega),
    at2 (wArg m c) (by show win0_1.index t (0 : Fin 2) * 128 + 1 * a.val = i.val; omega) (by show win0_1.index t (1 : Fin 2) * 1668 + 1 * j.val = j.val; omega),
    at2 (mArg m c) (by show win0_2.index t (0 : Fin 2) * 128 + 1 * a.val = i.val; omega) (by show win0_2.index t (1 : Fin 2) * 1668 + 1 * j.val = j.val; omega),
    at2 (vArg m c) (by show win0_3.index t (0 : Fin 2) * 128 + 1 * a.val = i.val; omega) (by show win0_3.index t (1 : Fin 2) * 1668 + 1 * j.val = j.val; omega)⟩
end

section
open Cert.AdInReferenceIdeal.Read
variable (g : FVec Ideal S8x2048x1668 .bf16) (w n v : FVec Ideal S2048x1668 .f32) (i : Fin 2048) (j : Fin 1668)

/-- An entry of the reference's gradient. -/
theorem reference_total : val_main_v1 (F := Ideal) g (ix2 i j) = ∑ s : Fin 8, g (ix3 s i j) := by
  pointwise [val_main_v0, val_main_cst, val_main_v1]

/-- An entry of the reference's first moment. -/
theorem reference_first : val_main_v6 (F := Ideal) g n (ix2 i j) = first (∑ s : Fin 8, g (ix3 s i j)) (n (ix2 i j)) := by
  rw [← reference_total]
  pointwise [val_main_cst_0, val_main_v2, val_main_v3, val_main_cst_1, val_main_v4, val_main_v5, val_main_v6]
  rfl

/-- An entry of the reference's second moment. -/
theorem reference_second : val_main_v12 (F := Ideal) g v (ix2 i j) = second (∑ s : Fin 8, g (ix3 s i j)) (v (ix2 i j)) := by
  rw [← reference_total]
  pointwise [val_main_cst_2, val_main_v7, val_main_v8, val_main_v9, val_main_cst_3, val_main_v10, val_main_v11, val_main_v12]
  rfl

/-- An entry of the reference's change of the weight. -/
theorem reference_change : val_main_v25 (F := Ideal) g w n v (ix2 i j) = change (∑ s : Fin 8, g (ix3 s i j)) (w (ix2 i j)) (n (ix2 i j)) (v (ix2 i j)) := by
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  rw [reference_first, reference_second]
  rfl
end

/-- The two programs' arrays are the same. -/
theorem total_equal : (dats m 0 c).arrAt 4 cfg0.N = Cert.AdInReferenceIdeal.Read.val_main_v1 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S2048x1668 .f32) ?_ ?_).trans ((congrFun (blocks4 m c t hf) (ix2 a j)).trans (congrFun (flushed4 m c t) _)), ?_⟩
    · show i.val = win0_4.index t (0 : Fin 2) * 128 + 1 * a.val; omega
    · show j.val = win0_4.index t (1 : Fin 2) * 1668 + 1 * j.val; omega
    · refine (total_apply _ _ _ _ a j).trans (Eq.trans ?_ (reference_total _ i j).symm)
      simp only [h0]

theorem change_equal : (dats m 0 c).arrAt 5 cfg0.N = Cert.AdInReferenceIdeal.Read.val_main_v25 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S2048x1668 .f32) ?_ ?_).trans ((congrFun (blocks5 m c t hf) (ix2 a j)).trans (congrFun (flushed5 m c t) _)), ?_⟩
    · show i.val = win0_5.index t (0 : Fin 2) * 128 + 1 * a.val; omega
    · show j.val = win0_5.index t (1 : Fin 2) * 1668 + 1 * j.val; omega
    · refine (change_apply _ _ _ _ a j).trans (Eq.trans ?_ (reference_change _ _ _ _ i j).symm)
      simp only [h0, h1, h2, h3]

theorem first_equal : (dats m 0 c).arrAt 6 cfg0.N = Cert.AdInReferenceIdeal.Read.val_main_v6 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S2048x1668 .f32) ?_ ?_).trans ((congrFun (blocks6 m c t hf) (ix2 a j)).trans (congrFun (flushed6 m c t) _)), ?_⟩
    · show i.val = win0_6.index t (0 : Fin 2) * 128 + 1 * a.val; omega
    · show j.val = win0_6.index t (1 : Fin 2) * 1668 + 1 * j.val; omega
    · refine (first_apply _ _ _ _ a j).trans (Eq.trans ?_ (reference_first _ _ i j).symm)
      simp only [h0, h2]

theorem second_equal : (dats m 0 c).arrAt 7 cfg0.N = Cert.AdInReferenceIdeal.Read.val_main_v12 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S2048x1668 .f32) ?_ ?_).trans ((congrFun (blocks7 m c t hf) (ix2 a j)).trans (congrFun (flushed7 m c t) _)), ?_⟩
    · show i.val = win0_7.index t (0 : Fin 2) * 128 + 1 * a.val; omega
    · show j.val = win0_7.index t (1 : Fin 2) * 1668 + 1 * j.val; omega
    · refine (second_apply _ _ _ _ a j).trans (Eq.trans ?_ (reference_second _ _ i j).symm)
      simp only [h0, h3]

end Cert.Ad.In

end
-- ==== Proof.StepUp.lean ====
/-
  The optimiser's step for the first feed-forward weight: the kernel's four arrays and the reference's, entry by entry.
-/
module

public import proofs.«01_k».proof.Proof.Gen.AdUpIdeal.Value
public import proofs.«01_k».proof.Proof.Gen.AdUpReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.Up

open Cert.AdUpIdeal Cert.AdUpIdeal.Gen Cert.AdUpIdeal.Value
open Cert.Xa (origin)
open Cert.Pr (at2 at3 ext2)

section
variable (x0 : FVec Ideal S8x128x1376 .bf16) (x1 x2 x3 : FVec Ideal S128x1376 .f32) (a : Fin 128) (b : Fin 1376)

/-- The sum of the eight parts at an entry of a block. -/
theorem parts_apply : k0_pay5 (F := Ideal) x0 x1 x2 x3 (ix2 a b) = ∑ s : Fin 8, x0 (ix3 s a b) := by
  pointwise [k0_pay5, k0_pay4]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S128x1376) origin]
  pointwise [k0_pay1, k0_pay2, k0_pay3]
  rw [parts_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin]
  simp only [View.ld_unit_zero (S := S128x1376) origin]
  pointwise [k0_pay1, k0_pay2, k0_pay3]
  rw [parts_apply]
  rfl

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S128x1376) origin]
  pointwise [k0_pay1, k0_pay2, k0_pay3]
  rw [parts_apply]
  rfl
end

variable (m : (ℓ : Loc nD τ sig) → Buf (Elt Ideal) ℓ) (c : Dev nD)

/-- The four arguments of the call: the parts of the gradient, the weight and its two moments. -/
abbrev gArg : FVec Ideal S8x2048x1376 .bf16 := m ((c : Thread nD τ).loc main_arg0)
abbrev wArg : FVec Ideal S2048x1376 .f32 := m ((c : Thread nD τ).loc main_arg1)
abbrev mArg : FVec Ideal S2048x1376 .f32 := m ((c : Thread nD τ).loc main_arg2)
abbrev vArg : FVec Ideal S2048x1376 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 128 = 2048 := by rw [show cfg0.N = 16 from N_0]

section
variable (t : Fin cfg0.N) (a : Fin 128) (i : Fin 2048) (j : Fin 1376) (hi : i.val = t.val * 128 + a.val)
include hi

/-- An entry of a point's four blocks, in the whole arrays. -/
theorem block_at : (∀ s : Fin 8, (iblk m c 0 t : FVec Ideal S8x128x1376 .bf16) (ix3 s a j) = gArg m c (ix3 s i j))
    ∧ (iblk m c 1 t : FVec Ideal S128x1376 .f32) (ix2 a j) = wArg m c (ix2 i j)
    ∧ (iblk m c 2 t : FVec Ideal S128x1376 .f32) (ix2 a j) = mArg m c (ix2 i j)
    ∧ (iblk m c 3 t : FVec Ideal S128x1376 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 128 + 1 * a.val = i.val; omega) (by show win0_0.index t (2 : Fin 3) * 1376 + 1 * j.val = j.val; omega),
    at2 (wArg m c) (by show win0_1.index t (0 : Fin 2) * 128 + 1 * a.val = i.val; omega) (by show win0_1.index t (1 : Fin 2) * 1376 + 1 * j.val = j.val; omega),
    at2 (mArg m c) (by show win0_2.index t (0 : Fin 2) * 128 + 1 * a.val = i.val; omega) (by show win0_2.index t (1 : Fin 2) * 1376 + 1 * j.val = j.val; omega),
    at2 (vArg m c) (by show win0_3.index t (0 : Fin 2) * 128 + 1 * a.val = i.val; omega) (by show win0_3.index t (1 : Fin 2) * 1376 + 1 * j.val = j.val; omega)⟩
end

section
open Cert.AdUpReferenceIdeal.Read
variable (g : FVec Ideal S8x2048x1376 .bf16) (w n v : FVec Ideal S2048x1376 .f32) (i : Fin 2048) (j : Fin 1376)

/-- An entry of the reference's gradient. -/
theorem reference_total : val_main_v1 (F := Ideal) g (ix2 i j) = ∑ s : Fin 8, g (ix3 s i j) := by
  pointwise [val_main_v0, val_main_cst, val_main_v1]

/-- An entry of the reference's first moment. -/
theorem reference_first : val_main_v6 (F := Ideal) g n (ix2 i j) = first (∑ s : Fin 8, g (ix3 s i j)) (n (ix2 i j)) := by
  rw [← reference_total]
  pointwise [val_main_cst_0, val_main_v2, val_main_v3, val_main_cst_1, val_main_v4, val_main_v5, val_main_v6]
  rfl

/-- An entry of the reference's second moment. -/
theorem reference_second : val_main_v12 (F := Ideal) g v (ix2 i j) = second (∑ s : Fin 8, g (ix3 s i j)) (v (ix2 i j)) := by
  rw [← reference_total]
  pointwise [val_main_cst_2, val_main_v7, val_main_v8, val_main_v9, val_main_cst_3, val_main_v10, val_main_v11, val_main_v12]
  rfl

/-- An entry of the reference's change of the weight. -/
theorem reference_change : val_main_v25 (F := Ideal) g w n v (ix2 i j) = change (∑ s : Fin 8, g (ix3 s i j)) (w (ix2 i j)) (n (ix2 i j)) (v (ix2 i j)) := by
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  rw [reference_first, reference_second]
  rfl
end

/-- The two programs' arrays are the same. -/
theorem total_equal : (dats m 0 c).arrAt 4 cfg0.N = Cert.AdUpReferenceIdeal.Read.val_main_v1 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S2048x1376 .f32) ?_ ?_).trans ((congrFun (blocks4 m c t hf) (ix2 a j)).trans (congrFun (flushed4 m c t) _)), ?_⟩
    · show i.val = win0_4.index t (0 : Fin 2) * 128 + 1 * a.val; omega
    · show j.val = win0_4.index t (1 : Fin 2) * 1376 + 1 * j.val; omega
    · refine (total_apply _ _ _ _ a j).trans (Eq.trans ?_ (reference_total _ i j).symm)
      simp only [h0]

theorem change_equal : (dats m 0 c).arrAt 5 cfg0.N = Cert.AdUpReferenceIdeal.Read.val_main_v25 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S2048x1376 .f32) ?_ ?_).trans ((congrFun (blocks5 m c t hf) (ix2 a j)).trans (congrFun (flushed5 m c t) _)), ?_⟩
    · show i.val = win0_5.index t (0 : Fin 2) * 128 + 1 * a.val; omega
    · show j.val = win0_5.index t (1 : Fin 2) * 1376 + 1 * j.val; omega
    · refine (change_apply _ _ _ _ a j).trans (Eq.trans ?_ (reference_change _ _ _ _ i j).symm)
      simp only [h0, h1, h2, h3]

theorem first_equal : (dats m 0 c).arrAt 6 cfg0.N = Cert.AdUpReferenceIdeal.Read.val_main_v6 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S2048x1376 .f32) ?_ ?_).trans ((congrFun (blocks6 m c t hf) (ix2 a j)).trans (congrFun (flushed6 m c t) _)), ?_⟩
    · show i.val = win0_6.index t (0 : Fin 2) * 128 + 1 * a.val; omega
    · show j.val = win0_6.index t (1 : Fin 2) * 1376 + 1 * j.val; omega
    · refine (first_apply _ _ _ _ a j).trans (Eq.trans ?_ (reference_first _ _ i j).symm)
      simp only [h0, h2]

theorem second_equal : (dats m 0 c).arrAt 7 cfg0.N = Cert.AdUpReferenceIdeal.Read.val_main_v12 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S2048x1376 .f32) ?_ ?_).trans ((congrFun (blocks7 m c t hf) (ix2 a j)).trans (congrFun (flushed7 m c t) _)), ?_⟩
    · show i.val = win0_7.index t (0 : Fin 2) * 128 + 1 * a.val; omega
    · show j.val = win0_7.index t (1 : Fin 2) * 1376 + 1 * j.val; omega
    · refine (second_apply _ _ _ _ a j).trans (Eq.trans ?_ (reference_second _ _ i j).symm)
      simp only [h0, h3]

end Cert.Ad.Up

end
-- ==== Proof.StepSquare.lean ====
/-
  The optimiser's step for a square weight: the kernel's four arrays and the reference's, entry by entry.
-/
module

public import proofs.«01_k».proof.Proof.Gen.AdSquareIdeal.Value
public import proofs.«01_k».proof.Proof.Gen.AdSquareReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.Square

open Cert.AdSquareIdeal Cert.AdSquareIdeal.Gen Cert.AdSquareIdeal.Value
open Cert.Xa (origin)
open Cert.Pr (at2 at3 ext2)

section
variable (x0 : FVec Ideal S8x128x2048 .bf16) (x1 x2 x3 : FVec Ideal S128x2048 .f32) (a : Fin 128) (b : Fin 2048)

/-- The sum of the eight parts at an entry of a block. -/
theorem parts_apply : k0_pay5 (F := Ideal) x0 x1 x2 x3 (ix2 a b) = ∑ s : Fin 8, x0 (ix3 s a b) := by
  pointwise [k0_pay5, k0_pay4]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S128x2048) origin]
  pointwise [k0_pay1, k0_pay2, k0_pay3]
  rw [parts_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin]
  simp only [View.ld_unit_zero (S := S128x2048) origin]
  pointwise [k0_pay1, k0_pay2, k0_pay3]
  rw [parts_apply]
  rfl

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S128x2048) origin]
  pointwise [k0_pay1, k0_pay2, k0_pay3]
  rw [parts_apply]
  rfl
end

variable (m : (ℓ : Loc nD τ sig) → Buf (Elt Ideal) ℓ) (c : Dev nD)

/-- The four arguments of the call: the parts of the gradient, the weight and its two moments. -/
abbrev gArg : FVec Ideal S8x256x2048 .bf16 := m ((c : Thread nD τ).loc main_arg0)
abbrev wArg : FVec Ideal S256x2048 .f32 := m ((c : Thread nD τ).loc main_arg1)
abbrev mArg : FVec Ideal S256x2048 .f32 := m ((c : Thread nD τ).loc main_arg2)
abbrev vArg : FVec Ideal S256x2048 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 128 = 256 := by rw [show cfg0.N = 2 from N_0]

section
variable (t : Fin cfg0.N) (a : Fin 128) (i : Fin 256) (j : Fin 2048) (hi : i.val = t.val * 128 + a.val)
include hi

/-- An entry of a point's four blocks, in the whole arrays. -/
theorem block_at : (∀ s : Fin 8, (iblk m c 0 t : FVec Ideal S8x128x2048 .bf16) (ix3 s a j) = gArg m c (ix3 s i j))
    ∧ (iblk m c 1 t : FVec Ideal S128x2048 .f32) (ix2 a j) = wArg m c (ix2 i j)
    ∧ (iblk m c 2 t : FVec Ideal S128x2048 .f32) (ix2 a j) = mArg m c (ix2 i j)
    ∧ (iblk m c 3 t : FVec Ideal S128x2048 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 128 + 1 * a.val = i.val; omega) (by show win0_0.index t (2 : Fin 3) * 2048 + 1 * j.val = j.val; omega),
    at2 (wArg m c) (by show win0_1.index t (0 : Fin 2) * 128 + 1 * a.val = i.val; omega) (by show win0_1.index t (1 : Fin 2) * 2048 + 1 * j.val = j.val; omega),
    at2 (mArg m c) (by show win0_2.index t (0 : Fin 2) * 128 + 1 * a.val = i.val; omega) (by show win0_2.index t (1 : Fin 2) * 2048 + 1 * j.val = j.val; omega),
    at2 (vArg m c) (by show win0_3.index t (0 : Fin 2) * 128 + 1 * a.val = i.val; omega) (by show win0_3.index t (1 : Fin 2) * 2048 + 1 * j.val = j.val; omega)⟩
end

section
open Cert.AdSquareReferenceIdeal.Read
variable (g : FVec Ideal S8x256x2048 .bf16) (w n v : FVec Ideal S256x2048 .f32) (i : Fin 256) (j : Fin 2048)

/-- An entry of the reference's gradient. -/
theorem reference_total : val_main_v1 (F := Ideal) g (ix2 i j) = ∑ s : Fin 8, g (ix3 s i j) := by
  pointwise [val_main_v0, val_main_cst, val_main_v1]

/-- An entry of the reference's first moment. -/
theorem reference_first : val_main_v6 (F := Ideal) g n (ix2 i j) = first (∑ s : Fin 8, g (ix3 s i j)) (n (ix2 i j)) := by
  rw [← reference_total]
  pointwise [val_main_cst_0, val_main_v2, val_main_v3, val_main_cst_1, val_main_v4, val_main_v5, val_main_v6]
  rfl

/-- An entry of the reference's second moment. -/
theorem reference_second : val_main_v12 (F := Ideal) g v (ix2 i j) = second (∑ s : Fin 8, g (ix3 s i j)) (v (ix2 i j)) := by
  rw [← reference_total]
  pointwise [val_main_cst_2, val_main_v7, val_main_v8, val_main_v9, val_main_cst_3, val_main_v10, val_main_v11, val_main_v12]
  rfl

/-- An entry of the reference's change of the weight. -/
theorem reference_change : val_main_v25 (F := Ideal) g w n v (ix2 i j) = change (∑ s : Fin 8, g (ix3 s i j)) (w (ix2 i j)) (n (ix2 i j)) (v (ix2 i j)) := by
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  rw [reference_first, reference_second]
  rfl
end

/-- The two programs' arrays are the same. -/
theorem total_equal : (dats m 0 c).arrAt 4 cfg0.N = Cert.AdSquareReferenceIdeal.Read.val_main_v1 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S256x2048 .f32) ?_ ?_).trans ((congrFun (blocks4 m c t hf) (ix2 a j)).trans (congrFun (flushed4 m c t) _)), ?_⟩
    · show i.val = win0_4.index t (0 : Fin 2) * 128 + 1 * a.val; omega
    · show j.val = win0_4.index t (1 : Fin 2) * 2048 + 1 * j.val; omega
    · refine (total_apply _ _ _ _ a j).trans (Eq.trans ?_ (reference_total _ i j).symm)
      simp only [h0]

theorem change_equal : (dats m 0 c).arrAt 5 cfg0.N = Cert.AdSquareReferenceIdeal.Read.val_main_v25 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S256x2048 .f32) ?_ ?_).trans ((congrFun (blocks5 m c t hf) (ix2 a j)).trans (congrFun (flushed5 m c t) _)), ?_⟩
    · show i.val = win0_5.index t (0 : Fin 2) * 128 + 1 * a.val; omega
    · show j.val = win0_5.index t (1 : Fin 2) * 2048 + 1 * j.val; omega
    · refine (change_apply _ _ _ _ a j).trans (Eq.trans ?_ (reference_change _ _ _ _ i j).symm)
      simp only [h0, h1, h2, h3]

theorem first_equal : (dats m 0 c).arrAt 6 cfg0.N = Cert.AdSquareReferenceIdeal.Read.val_main_v6 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S256x2048 .f32) ?_ ?_).trans ((congrFun (blocks6 m c t hf) (ix2 a j)).trans (congrFun (flushed6 m c t) _)), ?_⟩
    · show i.val = win0_6.index t (0 : Fin 2) * 128 + 1 * a.val; omega
    · show j.val = win0_6.index t (1 : Fin 2) * 2048 + 1 * j.val; omega
    · refine (first_apply _ _ _ _ a j).trans (Eq.trans ?_ (reference_first _ _ i j).symm)
      simp only [h0, h2]

theorem second_equal : (dats m 0 c).arrAt 7 cfg0.N = Cert.AdSquareReferenceIdeal.Read.val_main_v12 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S256x2048 .f32) ?_ ?_).trans ((congrFun (blocks7 m c t hf) (ix2 a j)).trans (congrFun (flushed7 m c t) _)), ?_⟩
    · show i.val = win0_7.index t (0 : Fin 2) * 128 + 1 * a.val; omega
    · show j.val = win0_7.index t (1 : Fin 2) * 2048 + 1 * j.val; omega
    · refine (second_apply _ _ _ _ a j).trans (Eq.trans ?_ (reference_second _ _ i j).symm)
      simp only [h0, h3]

end Cert.Ad.Square

end
-- ==== Proof.StepPoolOut.lean ====
/-
  The optimiser's step for the pooled branch's weight: the kernel's four arrays and the reference's, entry by entry.
-/
module

public import proofs.«01_k».proof.Proof.Gen.AdPoolOutIdeal.Value
public import proofs.«01_k».proof.Proof.Gen.AdPoolOutReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.PoolOut

open Cert.AdPoolOutIdeal Cert.AdPoolOutIdeal.Gen Cert.AdPoolOutIdeal.Value
open Cert.Xa (origin)
open Cert.Pr (at2 at3 ext2)

section
variable (x0 : FVec Ideal S8x1024x256 .bf16) (x1 x2 x3 : FVec Ideal S1024x256 .f32) (a : Fin 1024) (b : Fin 256)

/-- The sum of the eight parts at an entry of a block. -/
theorem parts_apply : k0_pay5 (F := Ideal) x0 x1 x2 x3 (ix2 a b) = ∑ s : Fin 8, x0 (ix3 s a b) := by
  pointwise [k0_pay5, k0_pay4]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S1024x256) origin]
  pointwise [k0_pay1, k0_pay2, k0_pay3]
  rw [parts_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin]
  simp only [View.ld_unit_zero (S := S1024x256) origin]
  pointwise [k0_pay1, k0_pay2, k0_pay3]
  rw [parts_apply]
  rfl

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S1024x256) origin]
  pointwise [k0_pay1, k0_pay2, k0_pay3]
  rw [parts_apply]
  rfl
end

variable (m : (ℓ : Loc nD τ sig) → Buf (Elt Ideal) ℓ) (c : Dev nD)

/-- The four arguments of the call: the parts of the gradient, the weight and its two moments. -/
abbrev gArg : FVec Ideal S8x1024x256 .bf16 := m ((c : Thread nD τ).loc main_arg0)
abbrev wArg : FVec Ideal S1024x256 .f32 := m ((c : Thread nD τ).loc main_arg1)
abbrev mArg : FVec Ideal S1024x256 .f32 := m ((c : Thread nD τ).loc main_arg2)
abbrev vArg : FVec Ideal S1024x256 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 1024 = 1024 := by rw [show cfg0.N = 1 from N_0]

section
variable (t : Fin cfg0.N) (a : Fin 1024) (i : Fin 1024) (j : Fin 256) (hi : i.val = t.val * 1024 + a.val)
include hi

/-- An entry of a point's four blocks, in the whole arrays. -/
theorem block_at : (∀ s : Fin 8, (iblk m c 0 t : FVec Ideal S8x1024x256 .bf16) (ix3 s a j) = gArg m c (ix3 s i j))
    ∧ (iblk m c 1 t : FVec Ideal S1024x256 .f32) (ix2 a j) = wArg m c (ix2 i j)
    ∧ (iblk m c 2 t : FVec Ideal S1024x256 .f32) (ix2 a j) = mArg m c (ix2 i j)
    ∧ (iblk m c 3 t : FVec Ideal S1024x256 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 1024 + 1 * a.val = i.val; omega) (by show win0_0.index t (2 : Fin 3) * 256 + 1 * j.val = j.val; omega),
    at2 (wArg m c) (by show win0_1.index t (0 : Fin 2) * 1024 + 1 * a.val = i.val; omega) (by show win0_1.index t (1 : Fin 2) * 256 + 1 * j.val = j.val; omega),
    at2 (mArg m c) (by show win0_2.index t (0 : Fin 2) * 1024 + 1 * a.val = i.val; omega) (by show win0_2.index t (1 : Fin 2) * 256 + 1 * j.val = j.val; omega),
    at2 (vArg m c) (by show win0_3.index t (0 : Fin 2) * 1024 + 1 * a.val = i.val; omega) (by show win0_3.index t (1 : Fin 2) * 256 + 1 * j.val = j.val; omega)⟩
end

section
open Cert.AdPoolOutReferenceIdeal.Read
variable (g : FVec Ideal S8x1024x256 .bf16) (w n v : FVec Ideal S1024x256 .f32) (i : Fin 1024) (j : Fin 256)

/-- An entry of the reference's gradient. -/
theorem reference_total : val_main_v1 (F := Ideal) g (ix2 i j) = ∑ s : Fin 8, g (ix3 s i j) := by
  pointwise [val_main_v0, val_main_cst, val_main_v1]

/-- An entry of the reference's first moment. -/
theorem reference_first : val_main_v6 (F := Ideal) g n (ix2 i j) = first (∑ s : Fin 8, g (ix3 s i j)) (n (ix2 i j)) := by
  rw [← reference_total]
  pointwise [val_main_cst_0, val_main_v2, val_main_v3, val_main_cst_1, val_main_v4, val_main_v5, val_main_v6]
  rfl

/-- An entry of the reference's second moment. -/
theorem reference_second : val_main_v12 (F := Ideal) g v (ix2 i j) = second (∑ s : Fin 8, g (ix3 s i j)) (v (ix2 i j)) := by
  rw [← reference_total]
  pointwise [val_main_cst_2, val_main_v7, val_main_v8, val_main_v9, val_main_cst_3, val_main_v10, val_main_v11, val_main_v12]
  rfl

/-- An entry of the reference's change of the weight. -/
theorem reference_change : val_main_v25 (F := Ideal) g w n v (ix2 i j) = change (∑ s : Fin 8, g (ix3 s i j)) (w (ix2 i j)) (n (ix2 i j)) (v (ix2 i j)) := by
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  rw [reference_first, reference_second]
  rfl
end

/-- The two programs' arrays are the same. -/
theorem total_equal : (dats m 0 c).arrAt 4 cfg0.N = Cert.AdPoolOutReferenceIdeal.Read.val_main_v1 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S1024x256 .f32) ?_ ?_).trans ((congrFun (blocks4 m c t hf) (ix2 a j)).trans (congrFun (flushed4 m c t) _)), ?_⟩
    · show i.val = win0_4.index t (0 : Fin 2) * 1024 + 1 * a.val; omega
    · show j.val = win0_4.index t (1 : Fin 2) * 256 + 1 * j.val; omega
    · refine (total_apply _ _ _ _ a j).trans (Eq.trans ?_ (reference_total _ i j).symm)
      simp only [h0]

theorem change_equal : (dats m 0 c).arrAt 5 cfg0.N = Cert.AdPoolOutReferenceIdeal.Read.val_main_v25 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S1024x256 .f32) ?_ ?_).trans ((congrFun (blocks5 m c t hf) (ix2 a j)).trans (congrFun (flushed5 m c t) _)), ?_⟩
    · show i.val = win0_5.index t (0 : Fin 2) * 1024 + 1 * a.val; omega
    · show j.val = win0_5.index t (1 : Fin 2) * 256 + 1 * j.val; omega
    · refine (change_apply _ _ _ _ a j).trans (Eq.trans ?_ (reference_change _ _ _ _ i j).symm)
      simp only [h0, h1, h2, h3]

theorem first_equal : (dats m 0 c).arrAt 6 cfg0.N = Cert.AdPoolOutReferenceIdeal.Read.val_main_v6 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S1024x256 .f32) ?_ ?_).trans ((congrFun (blocks6 m c t hf) (ix2 a j)).trans (congrFun (flushed6 m c t) _)), ?_⟩
    · show i.val = win0_6.index t (0 : Fin 2) * 1024 + 1 * a.val; omega
    · show j.val = win0_6.index t (1 : Fin 2) * 256 + 1 * j.val; omega
    · refine (first_apply _ _ _ _ a j).trans (Eq.trans ?_ (reference_first _ _ i j).symm)
      simp only [h0, h2]

theorem second_equal : (dats m 0 c).arrAt 7 cfg0.N = Cert.AdPoolOutReferenceIdeal.Read.val_main_v12 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S1024x256 .f32) ?_ ?_).trans ((congrFun (blocks7 m c t hf) (ix2 a j)).trans (congrFun (flushed7 m c t) _)), ?_⟩
    · show i.val = win0_7.index t (0 : Fin 2) * 1024 + 1 * a.val; omega
    · show j.val = win0_7.index t (1 : Fin 2) * 256 + 1 * j.val; omega
    · refine (second_apply _ _ _ _ a j).trans (Eq.trans ?_ (reference_second _ _ i j).symm)
      simp only [h0, h3]

end Cert.Ad.PoolOut

end
-- ==== Proof.StepKv.lean ====
/-
  The optimiser's step for the memory's weight: the kernel's four arrays and the reference's, entry by entry.
-/
module

public import proofs.«01_k».proof.Proof.Gen.AdKvIdeal.Value
public import proofs.«01_k».proof.Proof.Gen.AdKvReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.Kv

open Cert.AdKvIdeal Cert.AdKvIdeal.Gen Cert.AdKvIdeal.Value
open Cert.Xa (origin)
open Cert.Pr (at2 at3 ext2)

section
variable (x0 : FVec Ideal S8x512x512 .bf16) (x1 x2 x3 : FVec Ideal S512x512 .f32) (a : Fin 512) (b : Fin 512)

/-- The sum of the eight parts at an entry of a block. -/
theorem parts_apply : k0_pay5 (F := Ideal) x0 x1 x2 x3 (ix2 a b) = ∑ s : Fin 8, x0 (ix3 s a b) := by
  pointwise [k0_pay5, k0_pay4]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S512x512) origin]
  pointwise [k0_pay1, k0_pay2, k0_pay3]
  rw [parts_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin]
  simp only [View.ld_unit_zero (S := S512x512) origin]
  pointwise [k0_pay1, k0_pay2, k0_pay3]
  rw [parts_apply]
  rfl

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S512x512) origin]
  pointwise [k0_pay1, k0_pay2, k0_pay3]
  rw [parts_apply]
  rfl
end

variable (m : (ℓ : Loc nD τ sig) → Buf (Elt Ideal) ℓ) (c : Dev nD)

/-- The four arguments of the call: the parts of the gradient, the weight and its two moments. -/
abbrev gArg : FVec Ideal S8x2048x512 .bf16 := m ((c : Thread nD τ).loc main_arg0)
abbrev wArg : FVec Ideal S2048x512 .f32 := m ((c : Thread nD τ).loc main_arg1)
abbrev mArg : FVec Ideal S2048x512 .f32 := m ((c : Thread nD τ).loc main_arg2)
abbrev vArg : FVec Ideal S2048x512 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 512 = 2048 := by rw [show cfg0.N = 4 from N_0]

section
variable (t : Fin cfg0.N) (a : Fin 512) (i : Fin 2048) (j : Fin 512) (hi : i.val = t.val * 512 + a.val)
include hi

/-- An entry of a point's four blocks, in the whole arrays. -/
theorem block_at : (∀ s : Fin 8, (iblk m c 0 t : FVec Ideal S8x512x512 .bf16) (ix3 s a j) = gArg m c (ix3 s i j))
    ∧ (iblk m c 1 t : FVec Ideal S512x512 .f32) (ix2 a j) = wArg m c (ix2 i j)
    ∧ (iblk m c 2 t : FVec Ideal S512x512 .f32) (ix2 a j) = mArg m c (ix2 i j)
    ∧ (iblk m c 3 t : FVec Ideal S512x512 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 512 + 1 * a.val = i.val; omega) (by show win0_0.index t (2 : Fin 3) * 512 + 1 * j.val = j.val; omega),
    at2 (wArg m c) (by show win0_1.index t (0 : Fin 2) * 512 + 1 * a.val = i.val; omega) (by show win0_1.index t (1 : Fin 2) * 512 + 1 * j.val = j.val; omega),
    at2 (mArg m c) (by show win0_2.index t (0 : Fin 2) * 512 + 1 * a.val = i.val; omega) (by show win0_2.index t (1 : Fin 2) * 512 + 1 * j.val = j.val; omega),
    at2 (vArg m c) (by show win0_3.index t (0 : Fin 2) * 512 + 1 * a.val = i.val; omega) (by show win0_3.index t (1 : Fin 2) * 512 + 1 * j.val = j.val; omega)⟩
end

section
open Cert.AdKvReferenceIdeal.Read
variable (g : FVec Ideal S8x2048x512 .bf16) (w n v : FVec Ideal S2048x512 .f32) (i : Fin 2048) (j : Fin 512)

/-- An entry of the reference's gradient. -/
theorem reference_total : val_main_v1 (F := Ideal) g (ix2 i j) = ∑ s : Fin 8, g (ix3 s i j) := by
  pointwise [val_main_v0, val_main_cst, val_main_v1]

/-- An entry of the reference's first moment. -/
theorem reference_first : val_main_v6 (F := Ideal) g n (ix2 i j) = first (∑ s : Fin 8, g (ix3 s i j)) (n (ix2 i j)) := by
  rw [← reference_total]
  pointwise [val_main_cst_0, val_main_v2, val_main_v3, val_main_cst_1, val_main_v4, val_main_v5, val_main_v6]
  rfl

/-- An entry of the reference's second moment. -/
theorem reference_second : val_main_v12 (F := Ideal) g v (ix2 i j) = second (∑ s : Fin 8, g (ix3 s i j)) (v (ix2 i j)) := by
  rw [← reference_total]
  pointwise [val_main_cst_2, val_main_v7, val_main_v8, val_main_v9, val_main_cst_3, val_main_v10, val_main_v11, val_main_v12]
  rfl

/-- An entry of the reference's change of the weight. -/
theorem reference_change : val_main_v25 (F := Ideal) g w n v (ix2 i j) = change (∑ s : Fin 8, g (ix3 s i j)) (w (ix2 i j)) (n (ix2 i j)) (v (ix2 i j)) := by
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  rw [reference_first, reference_second]
  rfl
end

/-- The two programs' arrays are the same. -/
theorem total_equal : (dats m 0 c).arrAt 4 cfg0.N = Cert.AdKvReferenceIdeal.Read.val_main_v1 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S2048x512 .f32) ?_ ?_).trans ((congrFun (blocks4 m c t hf) (ix2 a j)).trans (congrFun (flushed4 m c t) _)), ?_⟩
    · show i.val = win0_4.index t (0 : Fin 2) * 512 + 1 * a.val; omega
    · show j.val = win0_4.index t (1 : Fin 2) * 512 + 1 * j.val; omega
    · refine (total_apply _ _ _ _ a j).trans (Eq.trans ?_ (reference_total _ i j).symm)
      simp only [h0]

theorem change_equal : (dats m 0 c).arrAt 5 cfg0.N = Cert.AdKvReferenceIdeal.Read.val_main_v25 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S2048x512 .f32) ?_ ?_).trans ((congrFun (blocks5 m c t hf) (ix2 a j)).trans (congrFun (flushed5 m c t) _)), ?_⟩
    · show i.val = win0_5.index t (0 : Fin 2) * 512 + 1 * a.val; omega
    · show j.val = win0_5.index t (1 : Fin 2) * 512 + 1 * j.val; omega
    · refine (change_apply _ _ _ _ a j).trans (Eq.trans ?_ (reference_change _ _ _ _ i j).symm)
      simp only [h0, h1, h2, h3]

theorem first_equal : (dats m 0 c).arrAt 6 cfg0.N = Cert.AdKvReferenceIdeal.Read.val_main_v6 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S2048x512 .f32) ?_ ?_).trans ((congrFun (blocks6 m c t hf) (ix2 a j)).trans (congrFun (flushed6 m c t) _)), ?_⟩
    · show i.val = win0_6.index t (0 : Fin 2) * 512 + 1 * a.val; omega
    · show j.val = win0_6.index t (1 : Fin 2) * 512 + 1 * j.val; omega
    · refine (first_apply _ _ _ _ a j).trans (Eq.trans ?_ (reference_first _ _ i j).symm)
      simp only [h0, h2]

theorem second_equal : (dats m 0 c).arrAt 7 cfg0.N = Cert.AdKvReferenceIdeal.Read.val_main_v12 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S2048x512 .f32) ?_ ?_).trans ((congrFun (blocks7 m c t hf) (ix2 a j)).trans (congrFun (flushed7 m c t) _)), ?_⟩
    · show i.val = win0_7.index t (0 : Fin 2) * 512 + 1 * a.val; omega
    · show j.val = win0_7.index t (1 : Fin 2) * 512 + 1 * j.val; omega
    · refine (second_apply _ _ _ _ a j).trans (Eq.trans ?_ (reference_second _ _ i j).symm)
      simp only [h0, h3]

end Cert.Ad.Kv

end
-- ==== Proof.StepDown.lean ====
/-
  The optimiser's step for the second feed-forward weight: the kernel's four arrays and the reference's, entry by entry.
-/
module

public import proofs.«01_k».proof.Proof.Gen.AdDownIdeal.Value
public import proofs.«01_k».proof.Proof.Gen.AdDownReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.Down

open Cert.AdDownIdeal Cert.AdDownIdeal.Gen Cert.AdDownIdeal.Value
open Cert.Xa (origin)
open Cert.Pr (at2 at3 ext2)

section
variable (x0 : FVec Ideal S8x16x2048 .bf16) (x1 x2 x3 : FVec Ideal S16x2048 .f32) (a : Fin 16) (b : Fin 2048)

/-- The sum of the eight parts at an entry of a block. -/
theorem parts_apply : k0_pay5 (F := Ideal) x0 x1 x2 x3 (ix2 a b) = ∑ s : Fin 8, x0 (ix3 s a b) := by
  pointwise [k0_pay5, k0_pay4]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S16x2048) origin]
  pointwise [k0_pay1, k0_pay2, k0_pay3]
  rw [parts_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin]
  simp only [View.ld_unit_zero (S := S16x2048) origin]
  pointwise [k0_pay1, k0_pay2, k0_pay3]
  rw [parts_apply]
  rfl

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S16x2048) origin]
  pointwise [k0_pay1, k0_pay2, k0_pay3]
  rw [parts_apply]
  rfl
end

variable (m : (ℓ : Loc nD τ sig) → Buf (Elt Ideal) ℓ) (c : Dev nD)

/-- The four arguments of the call: the parts of the gradient, the weight and its two moments. -/
abbrev gArg : FVec Ideal S8x688x2048 .bf16 := m ((c : Thread nD τ).loc main_arg0)
abbrev wArg : FVec Ideal S688x2048 .f32 := m ((c : Thread nD τ).loc main_arg1)
abbrev mArg : FVec Ideal S688x2048 .f32 := m ((c : Thread nD τ).loc main_arg2)
abbrev vArg : FVec Ideal S688x2048 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 16 = 688 := by rw [show cfg0.N = 43 from N_0]

section
variable (t : Fin cfg0.N) (a : Fin 16) (i : Fin 688) (j : Fin 2048) (hi : i.val = t.val * 16 + a.val)
include hi

/-- An entry of a point's four blocks, in the whole arrays. -/
theorem block_at : (∀ s : Fin 8, (iblk m c 0 t : FVec Ideal S8x16x2048 .bf16) (ix3 s a j) = gArg m c (ix3 s i j))
    ∧ (iblk m c 1 t : FVec Ideal S16x2048 .f32) (ix2 a j) = wArg m c (ix2 i j)
    ∧ (iblk m c 2 t : FVec Ideal S16x2048 .f32) (ix2 a j) = mArg m c (ix2 i j)
    ∧ (iblk m c 3 t : FVec Ideal S16x2048 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 16 + 1 * a.val = i.val; omega) (by show win0_0.index t (2 : Fin 3) * 2048 + 1 * j.val = j.val; omega),
    at2 (wArg m c) (by show win0_1.index t (0 : Fin 2) * 16 + 1 * a.val = i.val; omega) (by show win0_1.index t (1 : Fin 2) * 2048 + 1 * j.val = j.val; omega),
    at2 (mArg m c) (by show win0_2.index t (0 : Fin 2) * 16 + 1 * a.val = i.val; omega) (by show win0_2.index t (1 : Fin 2) * 2048 + 1 * j.val = j.val; omega),
    at2 (vArg m c) (by show win0_3.index t (0 : Fin 2) * 16 + 1 * a.val = i.val; omega) (by show win0_3.index t (1 : Fin 2) * 2048 + 1 * j.val = j.val; omega)⟩
end

section
open Cert.AdDownReferenceIdeal.Read
variable (g : FVec Ideal S8x688x2048 .bf16) (w n v : FVec Ideal S688x2048 .f32) (i : Fin 688) (j : Fin 2048)

/-- An entry of the reference's gradient. -/
theorem reference_total : val_main_v1 (F := Ideal) g (ix2 i j) = ∑ s : Fin 8, g (ix3 s i j) := by
  pointwise [val_main_v0, val_main_cst, val_main_v1]

/-- An entry of the reference's first moment. -/
theorem reference_first : val_main_v6 (F := Ideal) g n (ix2 i j) = first (∑ s : Fin 8, g (ix3 s i j)) (n (ix2 i j)) := by
  rw [← reference_total]
  pointwise [val_main_cst_0, val_main_v2, val_main_v3, val_main_cst_1, val_main_v4, val_main_v5, val_main_v6]
  rfl

/-- An entry of the reference's second moment. -/
theorem reference_second : val_main_v12 (F := Ideal) g v (ix2 i j) = second (∑ s : Fin 8, g (ix3 s i j)) (v (ix2 i j)) := by
  rw [← reference_total]
  pointwise [val_main_cst_2, val_main_v7, val_main_v8, val_main_v9, val_main_cst_3, val_main_v10, val_main_v11, val_main_v12]
  rfl

/-- An entry of the reference's change of the weight. -/
theorem reference_change : val_main_v25 (F := Ideal) g w n v (ix2 i j) = change (∑ s : Fin 8, g (ix3 s i j)) (w (ix2 i j)) (n (ix2 i j)) (v (ix2 i j)) := by
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  rw [reference_first, reference_second]
  rfl
end

/-- The two programs' arrays are the same. -/
theorem total_equal : (dats m 0 c).arrAt 4 cfg0.N = Cert.AdDownReferenceIdeal.Read.val_main_v1 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S688x2048 .f32) ?_ ?_).trans ((congrFun (blocks4 m c t hf) (ix2 a j)).trans (congrFun (flushed4 m c t) _)), ?_⟩
    · show i.val = win0_4.index t (0 : Fin 2) * 16 + 1 * a.val; omega
    · show j.val = win0_4.index t (1 : Fin 2) * 2048 + 1 * j.val; omega
    · refine (total_apply _ _ _ _ a j).trans (Eq.trans ?_ (reference_total _ i j).symm)
      simp only [h0]

theorem change_equal : (dats m 0 c).arrAt 5 cfg0.N = Cert.AdDownReferenceIdeal.Read.val_main_v25 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S688x2048 .f32) ?_ ?_).trans ((congrFun (blocks5 m c t hf) (ix2 a j)).trans (congrFun (flushed5 m c t) _)), ?_⟩
    · show i.val = win0_5.index t (0 : Fin 2) * 16 + 1 * a.val; omega
    · show j.val = win0_5.index t (1 : Fin 2) * 2048 + 1 * j.val; omega
    · refine (change_apply _ _ _ _ a j).trans (Eq.trans ?_ (reference_change _ _ _ _ i j).symm)
      simp only [h0, h1, h2, h3]

theorem first_equal : (dats m 0 c).arrAt 6 cfg0.N = Cert.AdDownReferenceIdeal.Read.val_main_v6 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S688x2048 .f32) ?_ ?_).trans ((congrFun (blocks6 m c t hf) (ix2 a j)).trans (congrFun (flushed6 m c t) _)), ?_⟩
    · show i.val = win0_6.index t (0 : Fin 2) * 16 + 1 * a.val; omega
    · show j.val = win0_6.index t (1 : Fin 2) * 2048 + 1 * j.val; omega
    · refine (first_apply _ _ _ _ a j).trans (Eq.trans ?_ (reference_first _ _ i j).symm)
      simp only [h0, h2]

theorem second_equal : (dats m 0 c).arrAt 7 cfg0.N = Cert.AdDownReferenceIdeal.Read.val_main_v12 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S688x2048 .f32) ?_ ?_).trans ((congrFun (blocks7 m c t hf) (ix2 a j)).trans (congrFun (flushed7 m c t) _)), ?_⟩
    · show i.val = win0_7.index t (0 : Fin 2) * 16 + 1 * a.val; omega
    · show j.val = win0_7.index t (1 : Fin 2) * 2048 + 1 * j.val; omega
    · refine (second_apply _ _ _ _ a j).trans (Eq.trans ?_ (reference_second _ _ i j).symm)
      simp only [h0, h3]

end Cert.Ad.Down

end
-- ==== Proof.StepConv.lean ====
/-
  The optimiser's step for the short convolution's weight: the kernel's four arrays and the reference's, entry by entry.
-/
module

public import proofs.«01_k».proof.Proof.Gen.AdConvIdeal.Value
public import proofs.«01_k».proof.Proof.Gen.AdConvReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.Conv

open Cert.AdConvIdeal Cert.AdConvIdeal.Gen Cert.AdConvIdeal.Value
open Cert.Xa (origin)
open Cert.Pr (at2 at3 ext2)

section
variable (x0 : FVec Ideal S8x4x768 .f32) (x1 x2 x3 : FVec Ideal S4x768 .f32) (a : Fin 4) (b : Fin 768)

/-- The sum of the eight parts at an entry of a block. -/
theorem parts_apply : k0_pay5 (F := Ideal) x0 x1 x2 x3 (ix2 a b) = ∑ s : Fin 8, x0 (ix3 s a b) := by
  pointwise [k0_pay5, k0_pay3]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- The first moment at an entry of a block. -/
theorem moment_apply : k0_pay6 (F := Ideal) x0 x1 x2 x3 (ix2 a b) = first (∑ s : Fin 8, x0 (ix3 s a b)) (x2 (ix2 a b)) := by
  rw [← parts_apply x0 x1 x2 x3]
  unfold k0_pay6 k0_pay5
  simp only [View.ld_unit_zero (S := S4x768) origin]
  pointwise [k0_pay4]
  rfl

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S4x768) origin]
  pointwise [k0_pay1, k0_pay2]
  rw [parts_apply, moment_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin, moment_apply]

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S4x768) origin]
  pointwise [k0_pay1, k0_pay2]
  rw [parts_apply]
  rfl
end

variable (m : (ℓ : Loc nD τ sig) → Buf (Elt Ideal) ℓ) (c : Dev nD)

/-- The four arguments of the call: the parts of the gradient, the weight and its two moments. -/
abbrev gArg : FVec Ideal S8x4x768 .f32 := m ((c : Thread nD τ).loc main_arg0)
abbrev wArg : FVec Ideal S4x768 .f32 := m ((c : Thread nD τ).loc main_arg1)
abbrev mArg : FVec Ideal S4x768 .f32 := m ((c : Thread nD τ).loc main_arg2)
abbrev vArg : FVec Ideal S4x768 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 4 = 4 := by rw [show cfg0.N = 1 from N_0]

section
variable (t : Fin cfg0.N) (a : Fin 4) (i : Fin 4) (j : Fin 768) (hi : i.val = t.val * 4 + a.val)
include hi

/-- An entry of a point's four blocks, in the whole arrays. -/
theorem block_at : (∀ s : Fin 8, (iblk m c 0 t : FVec Ideal S8x4x768 .f32) (ix3 s a j) = gArg m c (ix3 s i j))
    ∧ (iblk m c 1 t : FVec Ideal S4x768 .f32) (ix2 a j) = wArg m c (ix2 i j)
    ∧ (iblk m c 2 t : FVec Ideal S4x768 .f32) (ix2 a j) = mArg m c (ix2 i j)
    ∧ (iblk m c 3 t : FVec Ideal S4x768 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 4 + 1 * a.val = i.val; omega) (by show win0_0.index t (2 : Fin 3) * 768 + 1 * j.val = j.val; omega),
    at2 (wArg m c) (by show win0_1.index t (0 : Fin 2) * 4 + 1 * a.val = i.val; omega) (by show win0_1.index t (1 : Fin 2) * 768 + 1 * j.val = j.val; omega),
    at2 (mArg m c) (by show win0_2.index t (0 : Fin 2) * 4 + 1 * a.val = i.val; omega) (by show win0_2.index t (1 : Fin 2) * 768 + 1 * j.val = j.val; omega),
    at2 (vArg m c) (by show win0_3.index t (0 : Fin 2) * 4 + 1 * a.val = i.val; omega) (by show win0_3.index t (1 : Fin 2) * 768 + 1 * j.val = j.val; omega)⟩
end

section
open Cert.AdConvReferenceIdeal.Read
variable (g : FVec Ideal S8x4x768 .f32) (w n v : FVec Ideal S4x768 .f32) (i : Fin 4) (j : Fin 768)

/-- An entry of the reference's gradient. -/
theorem reference_total : val_main_v0 (F := Ideal) g (ix2 i j) = ∑ s : Fin 8, g (ix3 s i j) := by
  pointwise [val_main_cst, val_main_v0]

/-- An entry of the reference's first moment. -/
theorem reference_first : val_main_v5 (F := Ideal) g n (ix2 i j) = first (∑ s : Fin 8, g (ix3 s i j)) (n (ix2 i j)) := by
  rw [← reference_total]
  pointwise [val_main_cst_0, val_main_v1, val_main_v2, val_main_cst_1, val_main_v3, val_main_v4, val_main_v5]
  rfl

/-- An entry of the reference's second moment. -/
theorem reference_second : val_main_v11 (F := Ideal) g v (ix2 i j) = second (∑ s : Fin 8, g (ix3 s i j)) (v (ix2 i j)) := by
  rw [← reference_total]
  pointwise [val_main_cst_2, val_main_v6, val_main_v7, val_main_v8, val_main_cst_3, val_main_v9, val_main_v10, val_main_v11]
  rfl

/-- An entry of the reference's change of the weight. -/
theorem reference_change : val_main_v24 (F := Ideal) g w n v (ix2 i j) = change (∑ s : Fin 8, g (ix3 s i j)) (w (ix2 i j)) (n (ix2 i j)) (v (ix2 i j)) := by
  pointwise [val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [reference_first, reference_second]
  rfl
end

/-- The two programs' arrays are the same. -/
theorem total_equal : (dats m 0 c).arrAt 4 cfg0.N = Cert.AdConvReferenceIdeal.Read.val_main_v0 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S4x768 .f32) ?_ ?_).trans ((congrFun (blocks4 m c t hf) (ix2 a j)).trans (congrFun (flushed4 m c t) _)), ?_⟩
    · show i.val = win0_4.index t (0 : Fin 2) * 4 + 1 * a.val; omega
    · show j.val = win0_4.index t (1 : Fin 2) * 768 + 1 * j.val; omega
    · refine (total_apply _ _ _ _ a j).trans (Eq.trans ?_ (reference_total _ i j).symm)
      simp only [h0]

theorem change_equal : (dats m 0 c).arrAt 5 cfg0.N = Cert.AdConvReferenceIdeal.Read.val_main_v24 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S4x768 .f32) ?_ ?_).trans ((congrFun (blocks5 m c t hf) (ix2 a j)).trans (congrFun (flushed5 m c t) _)), ?_⟩
    · show i.val = win0_5.index t (0 : Fin 2) * 4 + 1 * a.val; omega
    · show j.val = win0_5.index t (1 : Fin 2) * 768 + 1 * j.val; omega
    · refine (change_apply _ _ _ _ a j).trans (Eq.trans ?_ (reference_change _ _ _ _ i j).symm)
      simp only [h0, h1, h2, h3]

theorem first_equal : (dats m 0 c).arrAt 6 cfg0.N = Cert.AdConvReferenceIdeal.Read.val_main_v5 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S4x768 .f32) ?_ ?_).trans ((congrFun (blocks6 m c t hf) (ix2 a j)).trans (congrFun (flushed6 m c t) _)), ?_⟩
    · show i.val = win0_6.index t (0 : Fin 2) * 4 + 1 * a.val; omega
    · show j.val = win0_6.index t (1 : Fin 2) * 768 + 1 * j.val; omega
    · refine (first_apply _ _ _ _ a j).trans (Eq.trans ?_ (reference_first _ _ i j).symm)
      simp only [h0, h2]

theorem second_equal : (dats m 0 c).arrAt 7 cfg0.N = Cert.AdConvReferenceIdeal.Read.val_main_v11 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S4x768 .f32) ?_ ?_).trans ((congrFun (blocks7 m c t hf) (ix2 a j)).trans (congrFun (flushed7 m c t) _)), ?_⟩
    · show i.val = win0_7.index t (0 : Fin 2) * 4 + 1 * a.val; omega
    · show j.val = win0_7.index t (1 : Fin 2) * 768 + 1 * j.val; omega
    · refine (second_apply _ _ _ _ a j).trans (Eq.trans ?_ (reference_second _ _ i j).symm)
      simp only [h0, h3]

end Cert.Ad.Conv

end
-- ==== Proof.StepFfnConv.lean ====
/-
  The optimiser's step for the feed-forward convolution's weight: the kernel's four arrays and the reference's, entry by entry.
-/
module

public import proofs.«01_k».proof.Proof.Gen.AdFfnConvIdeal.Value
public import proofs.«01_k».proof.Proof.Gen.AdFfnConvReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.FfnConv

open Cert.AdFfnConvIdeal Cert.AdFfnConvIdeal.Gen Cert.AdFfnConvIdeal.Value
open Cert.Xa (origin)
open Cert.Pr (at2 at3 ext2)

section
variable (x0 : FVec Ideal S8x3x1376 .f32) (x1 x2 x3 : FVec Ideal S3x1376 .f32) (a : Fin 3) (b : Fin 1376)

/-- The sum of the eight parts at an entry of a block. -/
theorem parts_apply : k0_pay5 (F := Ideal) x0 x1 x2 x3 (ix2 a b) = ∑ s : Fin 8, x0 (ix3 s a b) := by
  pointwise [k0_pay5, k0_pay3]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- The first moment at an entry of a block. -/
theorem moment_apply : k0_pay6 (F := Ideal) x0 x1 x2 x3 (ix2 a b) = first (∑ s : Fin 8, x0 (ix3 s a b)) (x2 (ix2 a b)) := by
  rw [← parts_apply x0 x1 x2 x3]
  unfold k0_pay6 k0_pay5
  simp only [View.ld_unit_zero (S := S3x1376) origin]
  pointwise [k0_pay4]
  rfl

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S3x1376) origin]
  pointwise [k0_pay1, k0_pay2]
  rw [parts_apply, moment_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin, moment_apply]

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S3x1376) origin]
  pointwise [k0_pay1, k0_pay2]
  rw [parts_apply]
  rfl
end

variable (m : (ℓ : Loc nD τ sig) → Buf (Elt Ideal) ℓ) (c : Dev nD)

/-- The four arguments of the call: the parts of the gradient, the weight and its two moments. -/
abbrev gArg : FVec Ideal S8x3x1376 .f32 := m ((c : Thread nD τ).loc main_arg0)
abbrev wArg : FVec Ideal S3x1376 .f32 := m ((c : Thread nD τ).loc main_arg1)
abbrev mArg : FVec Ideal S3x1376 .f32 := m ((c : Thread nD τ).loc main_arg2)
abbrev vArg : FVec Ideal S3x1376 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 3 = 3 := by rw [show cfg0.N = 1 from N_0]

section
variable (t : Fin cfg0.N) (a : Fin 3) (i : Fin 3) (j : Fin 1376) (hi : i.val = t.val * 3 + a.val)
include hi

/-- An entry of a point's four blocks, in the whole arrays. -/
theorem block_at : (∀ s : Fin 8, (iblk m c 0 t : FVec Ideal S8x3x1376 .f32) (ix3 s a j) = gArg m c (ix3 s i j))
    ∧ (iblk m c 1 t : FVec Ideal S3x1376 .f32) (ix2 a j) = wArg m c (ix2 i j)
    ∧ (iblk m c 2 t : FVec Ideal S3x1376 .f32) (ix2 a j) = mArg m c (ix2 i j)
    ∧ (iblk m c 3 t : FVec Ideal S3x1376 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 3 + 1 * a.val = i.val; omega) (by show win0_0.index t (2 : Fin 3) * 1376 + 1 * j.val = j.val; omega),
    at2 (wArg m c) (by show win0_1.index t (0 : Fin 2) * 3 + 1 * a.val = i.val; omega) (by show win0_1.index t (1 : Fin 2) * 1376 + 1 * j.val = j.val; omega),
    at2 (mArg m c) (by show win0_2.index t (0 : Fin 2) * 3 + 1 * a.val = i.val; omega) (by show win0_2.index t (1 : Fin 2) * 1376 + 1 * j.val = j.val; omega),
    at2 (vArg m c) (by show win0_3.index t (0 : Fin 2) * 3 + 1 * a.val = i.val; omega) (by show win0_3.index t (1 : Fin 2) * 1376 + 1 * j.val = j.val; omega)⟩
end

section
open Cert.AdFfnConvReferenceIdeal.Read
variable (g : FVec Ideal S8x3x1376 .f32) (w n v : FVec Ideal S3x1376 .f32) (i : Fin 3) (j : Fin 1376)

/-- An entry of the reference's gradient. -/
theorem reference_total : val_main_v0 (F := Ideal) g (ix2 i j) = ∑ s : Fin 8, g (ix3 s i j) := by
  pointwise [val_main_cst, val_main_v0]

/-- An entry of the reference's first moment. -/
theorem reference_first : val_main_v5 (F := Ideal) g n (ix2 i j) = first (∑ s : Fin 8, g (ix3 s i j)) (n (ix2 i j)) := by
  rw [← reference_total]
  pointwise [val_main_cst_0, val_main_v1, val_main_v2, val_main_cst_1, val_main_v3, val_main_v4, val_main_v5]
  rfl

/-- An entry of the reference's second moment. -/
theorem reference_second : val_main_v11 (F := Ideal) g v (ix2 i j) = second (∑ s : Fin 8, g (ix3 s i j)) (v (ix2 i j)) := by
  rw [← reference_total]
  pointwise [val_main_cst_2, val_main_v6, val_main_v7, val_main_v8, val_main_cst_3, val_main_v9, val_main_v10, val_main_v11]
  rfl

/-- An entry of the reference's change of the weight. -/
theorem reference_change : val_main_v24 (F := Ideal) g w n v (ix2 i j) = change (∑ s : Fin 8, g (ix3 s i j)) (w (ix2 i j)) (n (ix2 i j)) (v (ix2 i j)) := by
  pointwise [val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [reference_first, reference_second]
  rfl
end

/-- The two programs' arrays are the same. -/
theorem total_equal : (dats m 0 c).arrAt 4 cfg0.N = Cert.AdFfnConvReferenceIdeal.Read.val_main_v0 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S3x1376 .f32) ?_ ?_).trans ((congrFun (blocks4 m c t hf) (ix2 a j)).trans (congrFun (flushed4 m c t) _)), ?_⟩
    · show i.val = win0_4.index t (0 : Fin 2) * 3 + 1 * a.val; omega
    · show j.val = win0_4.index t (1 : Fin 2) * 1376 + 1 * j.val; omega
    · refine (total_apply _ _ _ _ a j).trans (Eq.trans ?_ (reference_total _ i j).symm)
      simp only [h0]

theorem change_equal : (dats m 0 c).arrAt 5 cfg0.N = Cert.AdFfnConvReferenceIdeal.Read.val_main_v24 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S3x1376 .f32) ?_ ?_).trans ((congrFun (blocks5 m c t hf) (ix2 a j)).trans (congrFun (flushed5 m c t) _)), ?_⟩
    · show i.val = win0_5.index t (0 : Fin 2) * 3 + 1 * a.val; omega
    · show j.val = win0_5.index t (1 : Fin 2) * 1376 + 1 * j.val; omega
    · refine (change_apply _ _ _ _ a j).trans (Eq.trans ?_ (reference_change _ _ _ _ i j).symm)
      simp only [h0, h1, h2, h3]

theorem first_equal : (dats m 0 c).arrAt 6 cfg0.N = Cert.AdFfnConvReferenceIdeal.Read.val_main_v5 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S3x1376 .f32) ?_ ?_).trans ((congrFun (blocks6 m c t hf) (ix2 a j)).trans (congrFun (flushed6 m c t) _)), ?_⟩
    · show i.val = win0_6.index t (0 : Fin 2) * 3 + 1 * a.val; omega
    · show j.val = win0_6.index t (1 : Fin 2) * 1376 + 1 * j.val; omega
    · refine (first_apply _ _ _ _ a j).trans (Eq.trans ?_ (reference_first _ _ i j).symm)
      simp only [h0, h2]

theorem second_equal : (dats m 0 c).arrAt 7 cfg0.N = Cert.AdFfnConvReferenceIdeal.Read.val_main_v11 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S3x1376 .f32) ?_ ?_).trans ((congrFun (blocks7 m c t hf) (ix2 a j)).trans (congrFun (flushed7 m c t) _)), ?_⟩
    · show i.val = win0_7.index t (0 : Fin 2) * 3 + 1 * a.val; omega
    · show j.val = win0_7.index t (1 : Fin 2) * 1376 + 1 * j.val; omega
    · refine (second_apply _ _ _ _ a j).trans (Eq.trans ?_ (reference_second _ _ i j).symm)
      simp only [h0, h3]

end Cert.Ad.FfnConv

end
-- ==== Proof.StepPool.lean ====
/-
  The optimiser's step for the pooling's weight: the kernel's four arrays and the reference's, entry by entry.
-/
module

public import proofs.«01_k».proof.Proof.Gen.AdPoolIdeal.Value
public import proofs.«01_k».proof.Proof.Gen.AdPoolReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.Pool

open Cert.AdPoolIdeal Cert.AdPoolIdeal.Gen Cert.AdPoolIdeal.Value
open Cert.Xa (origin)
open Cert.Pr (at2 at3 ext2)

section
variable (x0 : FVec Ideal S8x128x256 .f32) (x1 x2 x3 : FVec Ideal S128x256 .f32) (a : Fin 128) (b : Fin 256)

/-- The sum of the eight parts at an entry of a block. -/
theorem parts_apply : k0_pay5 (F := Ideal) x0 x1 x2 x3 (ix2 a b) = ∑ s : Fin 8, x0 (ix3 s a b) := by
  pointwise [k0_pay5, k0_pay3]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- The first moment at an entry of a block. -/
theorem moment_apply : k0_pay6 (F := Ideal) x0 x1 x2 x3 (ix2 a b) = first (∑ s : Fin 8, x0 (ix3 s a b)) (x2 (ix2 a b)) := by
  rw [← parts_apply x0 x1 x2 x3]
  unfold k0_pay6 k0_pay5
  simp only [View.ld_unit_zero (S := S128x256) origin]
  pointwise [k0_pay4]
  rfl

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S128x256) origin]
  pointwise [k0_pay1, k0_pay2]
  rw [parts_apply, moment_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin, moment_apply]

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S128x256) origin]
  pointwise [k0_pay1, k0_pay2]
  rw [parts_apply]
  rfl
end

variable (m : (ℓ : Loc nD τ sig) → Buf (Elt Ideal) ℓ) (c : Dev nD)

/-- The four arguments of the call: the parts of the gradient, the weight and its two moments. -/
abbrev gArg : FVec Ideal S8x128x256 .f32 := m ((c : Thread nD τ).loc main_arg0)
abbrev wArg : FVec Ideal S128x256 .f32 := m ((c : Thread nD τ).loc main_arg1)
abbrev mArg : FVec Ideal S128x256 .f32 := m ((c : Thread nD τ).loc main_arg2)
abbrev vArg : FVec Ideal S128x256 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 128 = 128 := by rw [show cfg0.N = 1 from N_0]

section
variable (t : Fin cfg0.N) (a : Fin 128) (i : Fin 128) (j : Fin 256) (hi : i.val = t.val * 128 + a.val)
include hi

/-- An entry of a point's four blocks, in the whole arrays. -/
theorem block_at : (∀ s : Fin 8, (iblk m c 0 t : FVec Ideal S8x128x256 .f32) (ix3 s a j) = gArg m c (ix3 s i j))
    ∧ (iblk m c 1 t : FVec Ideal S128x256 .f32) (ix2 a j) = wArg m c (ix2 i j)
    ∧ (iblk m c 2 t : FVec Ideal S128x256 .f32) (ix2 a j) = mArg m c (ix2 i j)
    ∧ (iblk m c 3 t : FVec Ideal S128x256 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 128 + 1 * a.val = i.val; omega) (by show win0_0.index t (2 : Fin 3) * 256 + 1 * j.val = j.val; omega),
    at2 (wArg m c) (by show win0_1.index t (0 : Fin 2) * 128 + 1 * a.val = i.val; omega) (by show win0_1.index t (1 : Fin 2) * 256 + 1 * j.val = j.val; omega),
    at2 (mArg m c) (by show win0_2.index t (0 : Fin 2) * 128 + 1 * a.val = i.val; omega) (by show win0_2.index t (1 : Fin 2) * 256 + 1 * j.val = j.val; omega),
    at2 (vArg m c) (by show win0_3.index t (0 : Fin 2) * 128 + 1 * a.val = i.val; omega) (by show win0_3.index t (1 : Fin 2) * 256 + 1 * j.val = j.val; omega)⟩
end

section
open Cert.AdPoolReferenceIdeal.Read
variable (g : FVec Ideal S8x128x256 .f32) (w n v : FVec Ideal S128x256 .f32) (i : Fin 128) (j : Fin 256)

/-- An entry of the reference's gradient. -/
theorem reference_total : val_main_v0 (F := Ideal) g (ix2 i j) = ∑ s : Fin 8, g (ix3 s i j) := by
  pointwise [val_main_cst, val_main_v0]

/-- An entry of the reference's first moment. -/
theorem reference_first : val_main_v5 (F := Ideal) g n (ix2 i j) = first (∑ s : Fin 8, g (ix3 s i j)) (n (ix2 i j)) := by
  rw [← reference_total]
  pointwise [val_main_cst_0, val_main_v1, val_main_v2, val_main_cst_1, val_main_v3, val_main_v4, val_main_v5]
  rfl

/-- An entry of the reference's second moment. -/
theorem reference_second : val_main_v11 (F := Ideal) g v (ix2 i j) = second (∑ s : Fin 8, g (ix3 s i j)) (v (ix2 i j)) := by
  rw [← reference_total]
  pointwise [val_main_cst_2, val_main_v6, val_main_v7, val_main_v8, val_main_cst_3, val_main_v9, val_main_v10, val_main_v11]
  rfl

/-- An entry of the reference's change of the weight. -/
theorem reference_change : val_main_v24 (F := Ideal) g w n v (ix2 i j) = change (∑ s : Fin 8, g (ix3 s i j)) (w (ix2 i j)) (n (ix2 i j)) (v (ix2 i j)) := by
  pointwise [val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [reference_first, reference_second]
  rfl
end

/-- The two programs' arrays are the same. -/
theorem total_equal : (dats m 0 c).arrAt 4 cfg0.N = Cert.AdPoolReferenceIdeal.Read.val_main_v0 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S128x256 .f32) ?_ ?_).trans ((congrFun (blocks4 m c t hf) (ix2 a j)).trans (congrFun (flushed4 m c t) _)), ?_⟩
    · show i.val = win0_4.index t (0 : Fin 2) * 128 + 1 * a.val; omega
    · show j.val = win0_4.index t (1 : Fin 2) * 256 + 1 * j.val; omega
    · refine (total_apply _ _ _ _ a j).trans (Eq.trans ?_ (reference_total _ i j).symm)
      simp only [h0]

theorem change_equal : (dats m 0 c).arrAt 5 cfg0.N = Cert.AdPoolReferenceIdeal.Read.val_main_v24 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S128x256 .f32) ?_ ?_).trans ((congrFun (blocks5 m c t hf) (ix2 a j)).trans (congrFun (flushed5 m c t) _)), ?_⟩
    · show i.val = win0_5.index t (0 : Fin 2) * 128 + 1 * a.val; omega
    · show j.val = win0_5.index t (1 : Fin 2) * 256 + 1 * j.val; omega
    · refine (change_apply _ _ _ _ a j).trans (Eq.trans ?_ (reference_change _ _ _ _ i j).symm)
      simp only [h0, h1, h2, h3]

theorem first_equal : (dats m 0 c).arrAt 6 cfg0.N = Cert.AdPoolReferenceIdeal.Read.val_main_v5 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S128x256 .f32) ?_ ?_).trans ((congrFun (blocks6 m c t hf) (ix2 a j)).trans (congrFun (flushed6 m c t) _)), ?_⟩
    · show i.val = win0_6.index t (0 : Fin 2) * 128 + 1 * a.val; omega
    · show j.val = win0_6.index t (1 : Fin 2) * 256 + 1 * j.val; omega
    · refine (first_apply _ _ _ _ a j).trans (Eq.trans ?_ (reference_first _ _ i j).symm)
      simp only [h0, h2]

theorem second_equal : (dats m 0 c).arrAt 7 cfg0.N = Cert.AdPoolReferenceIdeal.Read.val_main_v11 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S128x256 .f32) ?_ ?_).trans ((congrFun (blocks7 m c t hf) (ix2 a j)).trans (congrFun (flushed7 m c t) _)), ?_⟩
    · show i.val = win0_7.index t (0 : Fin 2) * 128 + 1 * a.val; omega
    · show j.val = win0_7.index t (1 : Fin 2) * 256 + 1 * j.val; omega
    · refine (second_apply _ _ _ _ a j).trans (Eq.trans ?_ (reference_second _ _ i j).symm)
      simp only [h0, h3]

end Cert.Ad.Pool

end
-- ==== Proof.StepSmall.lean ====
/-
  The optimiser's step for the small weights together: the kernel's four arrays and the reference's, entry by entry.
-/
module

public import proofs.«01_k».proof.Proof.Gen.AdSmallIdeal.Value
public import proofs.«01_k».proof.Proof.Gen.AdSmallReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Ad.Small

open Cert.AdSmallIdeal Cert.AdSmallIdeal.Gen Cert.AdSmallIdeal.Value
open Cert.Xa (origin)
open Cert.Pr (at2 at3 ext2)

section
variable (x0 : FVec Ideal S8x216x128 .f32) (x1 x2 x3 : FVec Ideal S216x128 .f32) (a : Fin 216) (b : Fin 128)

/-- The sum of the eight parts at an entry of a block. -/
theorem parts_apply : k0_pay5 (F := Ideal) x0 x1 x2 x3 (ix2 a b) = ∑ s : Fin 8, x0 (ix3 s a b) := by
  pointwise [k0_pay5, k0_pay3]
  rw [Fin.sum_univ_eight]

/-- What a point writes of the gradient. -/
theorem total_apply : out0_4 (F := Ideal) x0 x1 x2 x3 (ix2 a b) = ∑ s : Fin 8, x0 (ix3 s a b) := by
  unfold out0_4
  rw [View.canon_unit_zero origin, parts_apply]

/-- The first moment at an entry of a block. -/
theorem moment_apply : k0_pay6 (F := Ideal) x0 x1 x2 x3 (ix2 a b) = first (∑ s : Fin 8, x0 (ix3 s a b)) (x2 (ix2 a b)) := by
  rw [← parts_apply x0 x1 x2 x3]
  unfold k0_pay6 k0_pay5
  simp only [View.ld_unit_zero (S := S216x128) origin]
  pointwise [k0_pay4]
  rfl

/-- What a point writes of the weight's change. -/
theorem change_apply : out0_5 (F := Ideal) x0 x1 x2 x3 (ix2 a b) = change (∑ s, x0 (ix3 s a b)) (x1 (ix2 a b)) (x2 (ix2 a b)) (x3 (ix2 a b)) := by
  unfold out0_5
  rw [View.canon_unit_zero origin]
  simp only [View.ld_unit_zero (S := S216x128) origin]
  pointwise [k0_pay1, k0_pay2]
  rw [parts_apply, moment_apply]
  rfl

/-- What a point writes of the first moment. -/
theorem first_apply : out0_6 (F := Ideal) x0 x1 x2 x3 (ix2 a b) = first (∑ s, x0 (ix3 s a b)) (x2 (ix2 a b)) := by
  unfold out0_6
  rw [View.canon_unit_zero origin, moment_apply]

/-- What a point writes of the second moment. -/
theorem second_apply : out0_7 (F := Ideal) x0 x1 x2 x3 (ix2 a b) = second (∑ s, x0 (ix3 s a b)) (x3 (ix2 a b)) := by
  unfold out0_7
  rw [View.canon_unit_zero origin]
  simp only [View.ld_unit_zero (S := S216x128) origin]
  pointwise [k0_pay1, k0_pay2]
  rw [parts_apply]
  rfl
end

variable (m : (ℓ : Loc nD τ sig) → Buf (Elt Ideal) ℓ) (c : Dev nD)

/-- The four arguments of the call: the parts of the gradient, the weight and its two moments. -/
abbrev gArg : FVec Ideal S8x216x128 .f32 := m ((c : Thread nD τ).loc main_arg0)
abbrev wArg : FVec Ideal S216x128 .f32 := m ((c : Thread nD τ).loc main_arg1)
abbrev mArg : FVec Ideal S216x128 .f32 := m ((c : Thread nD τ).loc main_arg2)
abbrev vArg : FVec Ideal S216x128 .f32 := m ((c : Thread nD τ).loc main_arg3)

/-- The places of a point's blocks and of the tiles that it writes. -/
theorem index_at : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true) :=
  (by decide +kernel : ∀ t : Fin grid0.N, _)

/-- The points' tiles make up the rows. -/
theorem rows : cfg0.N * 216 = 216 := by rw [show cfg0.N = 1 from N_0]

section
variable (t : Fin cfg0.N) (a : Fin 216) (i : Fin 216) (j : Fin 128) (hi : i.val = t.val * 216 + a.val)
include hi

/-- An entry of a point's four blocks, in the whole arrays. -/
theorem block_at : (∀ s : Fin 8, (iblk m c 0 t : FVec Ideal S8x216x128 .f32) (ix3 s a j) = gArg m c (ix3 s i j))
    ∧ (iblk m c 1 t : FVec Ideal S216x128 .f32) (ix2 a j) = wArg m c (ix2 i j)
    ∧ (iblk m c 2 t : FVec Ideal S216x128 .f32) (ix2 a j) = mArg m c (ix2 i j)
    ∧ (iblk m c 3 t : FVec Ideal S216x128 .f32) (ix2 a j) = vArg m c (ix2 i j) := by
  obtain ⟨⟨p0, p1, p2⟩, ⟨q0, q1⟩, ⟨r0, r1⟩, ⟨u0, u1⟩, -⟩ := index_at t
  exact ⟨fun s => at3 (gArg m c) (by show win0_0.index t (0 : Fin 3) * 8 + 1 * s.val = s.val; omega) (by show win0_0.index t (1 : Fin 3) * 216 + 1 * a.val = i.val; omega) (by show win0_0.index t (2 : Fin 3) * 128 + 1 * j.val = j.val; omega),
    at2 (wArg m c) (by show win0_1.index t (0 : Fin 2) * 216 + 1 * a.val = i.val; omega) (by show win0_1.index t (1 : Fin 2) * 128 + 1 * j.val = j.val; omega),
    at2 (mArg m c) (by show win0_2.index t (0 : Fin 2) * 216 + 1 * a.val = i.val; omega) (by show win0_2.index t (1 : Fin 2) * 128 + 1 * j.val = j.val; omega),
    at2 (vArg m c) (by show win0_3.index t (0 : Fin 2) * 216 + 1 * a.val = i.val; omega) (by show win0_3.index t (1 : Fin 2) * 128 + 1 * j.val = j.val; omega)⟩
end

section
open Cert.AdSmallReferenceIdeal.Read
variable (g : FVec Ideal S8x216x128 .f32) (w n v : FVec Ideal S216x128 .f32) (i : Fin 216) (j : Fin 128)

/-- An entry of the reference's gradient. -/
theorem reference_total : val_main_v0 (F := Ideal) g (ix2 i j) = ∑ s : Fin 8, g (ix3 s i j) := by
  pointwise [val_main_cst, val_main_v0]

/-- An entry of the reference's first moment. -/
theorem reference_first : val_main_v5 (F := Ideal) g n (ix2 i j) = first (∑ s : Fin 8, g (ix3 s i j)) (n (ix2 i j)) := by
  rw [← reference_total]
  pointwise [val_main_cst_0, val_main_v1, val_main_v2, val_main_cst_1, val_main_v3, val_main_v4, val_main_v5]
  rfl

/-- An entry of the reference's second moment. -/
theorem reference_second : val_main_v11 (F := Ideal) g v (ix2 i j) = second (∑ s : Fin 8, g (ix3 s i j)) (v (ix2 i j)) := by
  rw [← reference_total]
  pointwise [val_main_cst_2, val_main_v6, val_main_v7, val_main_v8, val_main_cst_3, val_main_v9, val_main_v10, val_main_v11]
  rfl

/-- An entry of the reference's change of the weight. -/
theorem reference_change : val_main_v24 (F := Ideal) g w n v (ix2 i j) = change (∑ s : Fin 8, g (ix3 s i j)) (w (ix2 i j)) (n (ix2 i j)) (v (ix2 i j)) := by
  pointwise [val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [reference_first, reference_second]
  rfl
end

/-- The two programs' arrays are the same. -/
theorem total_equal : (dats m 0 c).arrAt 4 cfg0.N = Cert.AdSmallReferenceIdeal.Read.val_main_v0 (F := Ideal) (gArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, -⟩ := block_at m c t a i j hi
    refine ⟨(at2 ((dats m 0 c).arrAt 4 cfg0.N : FVec Ideal S216x128 .f32) ?_ ?_).trans ((congrFun (blocks4 m c t hf) (ix2 a j)).trans (congrFun (flushed4 m c t) _)), ?_⟩
    · show i.val = win0_4.index t (0 : Fin 2) * 216 + 1 * a.val; omega
    · show j.val = win0_4.index t (1 : Fin 2) * 128 + 1 * j.val; omega
    · refine (total_apply _ _ _ _ a j).trans (Eq.trans ?_ (reference_total _ i j).symm)
      simp only [h0]

theorem change_equal : (dats m 0 c).arrAt 5 cfg0.N = Cert.AdSmallReferenceIdeal.Read.val_main_v24 (F := Ideal) (gArg m c) (wArg m c) (mArg m c) (vArg m c) :=
  whole rows (fun t => out0_5 (iblk m c 0 t) (iblk m c 1 t) (iblk m c 2 t) (iblk m c 3 t)) fun t a i j hi => by
    obtain ⟨-, -, -, -, -, ⟨e0, e1, hf⟩, -⟩ := index_at t
    obtain ⟨h0, h1, h2, h3⟩ := block_at m c t a i j hi
    refine ⟨(at2 ((dats m 0 c).arrAt 5 cfg0.N : FVec Ideal S216x128 .f32) ?_ ?_).trans ((congrFun (blocks5 m c t hf) (ix2 a j)).trans (congrFun (flushed5 m c t) _)), ?_⟩
    · show i.val = win0_5.index t (0 : Fin 2) * 216 + 1 * a.val; omega
    · show j.val = win0_5.index t (1 : Fin 2) * 128 + 1 * j.val; omega
    · refine (change_apply _ _ _ _ a j).trans (Eq.trans ?_ (reference_change _ _ _ _ i j).symm)
      simp only [h0, h1, h2, h3]

theorem first_equal : (dats m 0 c).arrAt 6 cfg0.N = Cert.AdSmallReferenceIdeal.Read.val_main_v5 (F := Ideal) (gArg m c) (mArg m c) :=
  whole rows (fun t => out0_6 (iblk m c 0 t) (iblk m c 1 t) (iblk m c 2 t) (iblk m c 3 t)) fun t a i j hi => by
    obtain ⟨-, -, -, -, -, -, ⟨e0, e1, hf⟩, -⟩ := index_at t
    obtain ⟨h0, -, h2, -⟩ := block_at m c t a i j hi
    refine ⟨(at2 ((dats m 0 c).arrAt 6 cfg0.N : FVec Ideal S216x128 .f32) ?_ ?_).trans ((congrFun (blocks6 m c t hf) (ix2 a j)).trans (congrFun (flushed6 m c t) _)), ?_⟩
    · show i.val = win0_6.index t (0 : Fin 2) * 216 + 1 * a.val; omega
    · show j.val = win0_6.index t (1 : Fin 2) * 128 + 1 * j.val; omega
    · refine (first_apply _ _ _ _ a j).trans (Eq.trans ?_ (reference_first _ _ i j).symm)
      simp only [h0, h2]

theorem second_equal : (dats m 0 c).arrAt 7 cfg0.N = Cert.AdSmallReferenceIdeal.Read.val_main_v11 (F := Ideal) (gArg m c) (vArg m c) :=
  whole rows (fun t => out0_7 (iblk m c 0 t) (iblk m c 1 t) (iblk m c 2 t) (iblk m c 3 t)) fun t a i j hi => by
    obtain ⟨-, -, -, -, -, -, -, e0, e1, hf⟩ := index_at t
    obtain ⟨h0, -, -, h3⟩ := block_at m c t a i j hi
    refine ⟨(at2 ((dats m 0 c).arrAt 7 cfg0.N : FVec Ideal S216x128 .f32) ?_ ?_).trans ((congrFun (blocks7 m c t hf) (ix2 a j)).trans (congrFun (flushed7 m c t) _)), ?_⟩
    · show i.val = win0_7.index t (0 : Fin 2) * 216 + 1 * a.val; omega
    · show j.val = win0_7.index t (1 : Fin 2) * 128 + 1 * j.val; omega
    · refine (second_apply _ _ _ _ a j).trans (Eq.trans ?_ (reference_second _ _ i j).symm)
      simp only [h0, h3]

end Cert.Ad.Small

end
-- ==== Proof.AdClaims.lean ====
/-
  The claims of the optimiser's step: each kernel keeps its arguments and ends, and its arrays are the reference's.
-/
module

public import proofs.«01_k».proof.Defs
public import proofs.«01_k».proof.Proof.Gen.AdIn
public import proofs.«01_k».proof.Proof.StepIn
public import proofs.«01_k».proof.Proof.Gen.AdUp
public import proofs.«01_k».proof.Proof.StepUp
public import proofs.«01_k».proof.Proof.Gen.AdSquare
public import proofs.«01_k».proof.Proof.StepSquare
public import proofs.«01_k».proof.Proof.Gen.AdPoolOut
public import proofs.«01_k».proof.Proof.StepPoolOut
public import proofs.«01_k».proof.Proof.Gen.AdKv
public import proofs.«01_k».proof.Proof.StepKv
public import proofs.«01_k».proof.Proof.Gen.AdDown
public import proofs.«01_k».proof.Proof.StepDown
public import proofs.«01_k».proof.Proof.Gen.AdConv
public import proofs.«01_k».proof.Proof.StepConv
public import proofs.«01_k».proof.Proof.Gen.AdFfnConv
public import proofs.«01_k».proof.Proof.StepFfnConv
public import proofs.«01_k».proof.Proof.Gen.AdPool
public import proofs.«01_k».proof.Proof.StepPool
public import proofs.«01_k».proof.Proof.Gen.AdSmall
public import proofs.«01_k».proof.Proof.StepSmall
public import Idealize.ShloMosaic.Adequacy
public import Idealize.ShloMosaic.Init

@[expose] public section

noncomputable section

open Idealize.ShloMosaic Idealize.SL.Sem

namespace Cert.Ad.In

/-- The kernel's two texts have the same definitions. -/
theorem defs_eq {F : FTy → Type} [FloatOps F] : Cert.AdIn.defs (F := F) = Cert.AdInIdeal.defs (F := F) := by
  unfold Cert.AdIn.defs Cert.AdInIdeal.defs
  rw [show Cert.AdIn.defs₀ (F := F) = Cert.AdInIdeal.defs₀ from congrArg Defs.onTc (funext₂ fun | ⟨0, _⟩, (_, _) => rfl)]
  rfl

/-- The kernel keeps its arguments and ends. -/
theorem frame : Cert.quiescent_AdIn := fun m ρ _ => by
  rw [defs_eq]
  exact Cert.AdInIdeal.Gen.frame (F := Bits) m ρ

/-- The same over the extended reals. -/
theorem frameIdeal : Cert.quiescent_AdInIdeal := fun m ρ _ => Cert.AdInIdeal.Gen.frame m ρ

/-- The reference keeps its arguments and ends. -/
theorem frameReference : Cert.quiescent_AdInReferenceIdeal := fun m ρ _ =>
  (θ_run Cert.AdInReferenceIdeal.defs _ _).mono (fun r h => ⟨fun c => (h c).2.2.2.2, sem_eq_zero_of_no_sems (by decide) r.2⟩)
    (Cert.AdInReferenceIdeal.Value.run m ρ)

/-- The kernel's results are the reference's. -/
theorem algebraic : Cert.algebraic_AdInIdeal_AdInReferenceIdeal := fun m ρ m' ρ' _ hag =>
  ⟨fun c => (Cert.AdInIdeal.Gen.dats m 0 c).arrAt 4 Cert.AdInIdeal.cfg0.N, fun c => (Cert.AdInIdeal.Gen.dats m 0 c).arrAt 5 Cert.AdInIdeal.cfg0.N, fun c => (Cert.AdInIdeal.Gen.dats m 0 c).arrAt 6 Cert.AdInIdeal.cfg0.N, fun c => (Cert.AdInIdeal.Gen.dats m 0 c).arrAt 7 Cert.AdInIdeal.cfg0.N, Cert.AdInIdeal.Value.run_blocks m ρ,
    (θ_run Cert.AdInReferenceIdeal.defs _ _).mono (fun _ h c =>
      ⟨(h c).1.trans (by
          rw [Cert.AdInReferenceIdeal.Read.val_main_v1_eq, (hag c).1]
          exact (total_equal m c).symm),
        (h c).2.1.trans (by
          rw [Cert.AdInReferenceIdeal.Read.val_main_v25_eq, (hag c).1, (hag c).2.1, (hag c).2.2.1, (hag c).2.2.2]
          exact (change_equal m c).symm),
        (h c).2.2.1.trans (by
          rw [Cert.AdInReferenceIdeal.Read.val_main_v6_eq, (hag c).1, (hag c).2.2.1]
          exact (first_equal m c).symm),
        (h c).2.2.2.1.trans (by
          rw [Cert.AdInReferenceIdeal.Read.val_main_v12_eq, (hag c).1, (hag c).2.2.2]
          exact (second_equal m c).symm),
        (h c).2.2.2.2⟩) (Cert.AdInReferenceIdeal.Value.run m' ρ')⟩

end Cert.Ad.In

namespace Cert.Ad.Up

/-- The kernel's two texts have the same definitions. -/
theorem defs_eq {F : FTy → Type} [FloatOps F] : Cert.AdUp.defs (F := F) = Cert.AdUpIdeal.defs (F := F) := by
  unfold Cert.AdUp.defs Cert.AdUpIdeal.defs
  rw [show Cert.AdUp.defs₀ (F := F) = Cert.AdUpIdeal.defs₀ from congrArg Defs.onTc (funext₂ fun | ⟨0, _⟩, (_, _) => rfl)]
  rfl

/-- The kernel keeps its arguments and ends. -/
theorem frame : Cert.quiescent_AdUp := fun m ρ _ => by
  rw [defs_eq]
  exact Cert.AdUpIdeal.Gen.frame (F := Bits) m ρ

/-- The same over the extended reals. -/
theorem frameIdeal : Cert.quiescent_AdUpIdeal := fun m ρ _ => Cert.AdUpIdeal.Gen.frame m ρ

/-- The reference keeps its arguments and ends. -/
theorem frameReference : Cert.quiescent_AdUpReferenceIdeal := fun m ρ _ =>
  (θ_run Cert.AdUpReferenceIdeal.defs _ _).mono (fun r h => ⟨fun c => (h c).2.2.2.2, sem_eq_zero_of_no_sems (by decide) r.2⟩)
    (Cert.AdUpReferenceIdeal.Value.run m ρ)

/-- The kernel's results are the reference's. -/
theorem algebraic : Cert.algebraic_AdUpIdeal_AdUpReferenceIdeal := fun m ρ m' ρ' _ hag =>
  ⟨fun c => (Cert.AdUpIdeal.Gen.dats m 0 c).arrAt 4 Cert.AdUpIdeal.cfg0.N, fun c => (Cert.AdUpIdeal.Gen.dats m 0 c).arrAt 5 Cert.AdUpIdeal.cfg0.N, fun c => (Cert.AdUpIdeal.Gen.dats m 0 c).arrAt 6 Cert.AdUpIdeal.cfg0.N, fun c => (Cert.AdUpIdeal.Gen.dats m 0 c).arrAt 7 Cert.AdUpIdeal.cfg0.N, Cert.AdUpIdeal.Value.run_blocks m ρ,
    (θ_run Cert.AdUpReferenceIdeal.defs _ _).mono (fun _ h c =>
      ⟨(h c).1.trans (by
          rw [Cert.AdUpReferenceIdeal.Read.val_main_v1_eq, (hag c).1]
          exact (total_equal m c).symm),
        (h c).2.1.trans (by
          rw [Cert.AdUpReferenceIdeal.Read.val_main_v25_eq, (hag c).1, (hag c).2.1, (hag c).2.2.1, (hag c).2.2.2]
          exact (change_equal m c).symm),
        (h c).2.2.1.trans (by
          rw [Cert.AdUpReferenceIdeal.Read.val_main_v6_eq, (hag c).1, (hag c).2.2.1]
          exact (first_equal m c).symm),
        (h c).2.2.2.1.trans (by
          rw [Cert.AdUpReferenceIdeal.Read.val_main_v12_eq, (hag c).1, (hag c).2.2.2]
          exact (second_equal m c).symm),
        (h c).2.2.2.2⟩) (Cert.AdUpReferenceIdeal.Value.run m' ρ')⟩

end Cert.Ad.Up

namespace Cert.Ad.Square

/-- The kernel's two texts have the same definitions. -/
theorem defs_eq {F : FTy → Type} [FloatOps F] : Cert.AdSquare.defs (F := F) = Cert.AdSquareIdeal.defs (F := F) := by
  unfold Cert.AdSquare.defs Cert.AdSquareIdeal.defs
  rw [show Cert.AdSquare.defs₀ (F := F) = Cert.AdSquareIdeal.defs₀ from congrArg Defs.onTc (funext₂ fun | ⟨0, _⟩, (_, _) => rfl)]
  rfl

/-- The kernel keeps its arguments and ends. -/
theorem frame : Cert.quiescent_AdSquare := fun m ρ _ => by
  rw [defs_eq]
  exact Cert.AdSquareIdeal.Gen.frame (F := Bits) m ρ

/-- The same over the extended reals. -/
theorem frameIdeal : Cert.quiescent_AdSquareIdeal := fun m ρ _ => Cert.AdSquareIdeal.Gen.frame m ρ

/-- The reference keeps its arguments and ends. -/
theorem frameReference : Cert.quiescent_AdSquareReferenceIdeal := fun m ρ _ =>
  (θ_run Cert.AdSquareReferenceIdeal.defs _ _).mono (fun r h => ⟨fun c => (h c).2.2.2.2, sem_eq_zero_of_no_sems (by decide) r.2⟩)
    (Cert.AdSquareReferenceIdeal.Value.run m ρ)

/-- The kernel's results are the reference's. -/
theorem algebraic : Cert.algebraic_AdSquareIdeal_AdSquareReferenceIdeal := fun m ρ m' ρ' _ hag =>
  ⟨fun c => (Cert.AdSquareIdeal.Gen.dats m 0 c).arrAt 4 Cert.AdSquareIdeal.cfg0.N, fun c => (Cert.AdSquareIdeal.Gen.dats m 0 c).arrAt 5 Cert.AdSquareIdeal.cfg0.N, fun c => (Cert.AdSquareIdeal.Gen.dats m 0 c).arrAt 6 Cert.AdSquareIdeal.cfg0.N, fun c => (Cert.AdSquareIdeal.Gen.dats m 0 c).arrAt 7 Cert.AdSquareIdeal.cfg0.N, Cert.AdSquareIdeal.Value.run_blocks m ρ,
    (θ_run Cert.AdSquareReferenceIdeal.defs _ _).mono (fun _ h c =>
      ⟨(h c).1.trans (by
          rw [Cert.AdSquareReferenceIdeal.Read.val_main_v1_eq, (hag c).1]
          exact (total_equal m c).symm),
        (h c).2.1.trans (by
          rw [Cert.AdSquareReferenceIdeal.Read.val_main_v25_eq, (hag c).1, (hag c).2.1, (hag c).2.2.1, (hag c).2.2.2]
          exact (change_equal m c).symm),
        (h c).2.2.1.trans (by
          rw [Cert.AdSquareReferenceIdeal.Read.val_main_v6_eq, (hag c).1, (hag c).2.2.1]
          exact (first_equal m c).symm),
        (h c).2.2.2.1.trans (by
          rw [Cert.AdSquareReferenceIdeal.Read.val_main_v12_eq, (hag c).1, (hag c).2.2.2]
          exact (second_equal m c).symm),
        (h c).2.2.2.2⟩) (Cert.AdSquareReferenceIdeal.Value.run m' ρ')⟩

end Cert.Ad.Square

namespace Cert.Ad.PoolOut

/-- The kernel's two texts have the same definitions. -/
theorem defs_eq {F : FTy → Type} [FloatOps F] : Cert.AdPoolOut.defs (F := F) = Cert.AdPoolOutIdeal.defs (F := F) := by
  unfold Cert.AdPoolOut.defs Cert.AdPoolOutIdeal.defs
  rw [show Cert.AdPoolOut.defs₀ (F := F) = Cert.AdPoolOutIdeal.defs₀ from congrArg Defs.onTc (funext₂ fun | ⟨0, _⟩, (_, _) => rfl)]
  rfl

/-- The kernel keeps its arguments and ends. -/
theorem frame : Cert.quiescent_AdPoolOut := fun m ρ _ => by
  rw [defs_eq]
  exact Cert.AdPoolOutIdeal.Gen.frame (F := Bits) m ρ

/-- The same over the extended reals. -/
theorem frameIdeal : Cert.quiescent_AdPoolOutIdeal := fun m ρ _ => Cert.AdPoolOutIdeal.Gen.frame m ρ

/-- The reference keeps its arguments and ends. -/
theorem frameReference : Cert.quiescent_AdPoolOutReferenceIdeal := fun m ρ _ =>
  (θ_run Cert.AdPoolOutReferenceIdeal.defs _ _).mono (fun r h => ⟨fun c => (h c).2.2.2.2, sem_eq_zero_of_no_sems (by decide) r.2⟩)
    (Cert.AdPoolOutReferenceIdeal.Value.run m ρ)

/-- The kernel's results are the reference's. -/
theorem algebraic : Cert.algebraic_AdPoolOutIdeal_AdPoolOutReferenceIdeal := fun m ρ m' ρ' _ hag =>
  ⟨fun c => (Cert.AdPoolOutIdeal.Gen.dats m 0 c).arrAt 4 Cert.AdPoolOutIdeal.cfg0.N, fun c => (Cert.AdPoolOutIdeal.Gen.dats m 0 c).arrAt 5 Cert.AdPoolOutIdeal.cfg0.N, fun c => (Cert.AdPoolOutIdeal.Gen.dats m 0 c).arrAt 6 Cert.AdPoolOutIdeal.cfg0.N, fun c => (Cert.AdPoolOutIdeal.Gen.dats m 0 c).arrAt 7 Cert.AdPoolOutIdeal.cfg0.N, Cert.AdPoolOutIdeal.Value.run_blocks m ρ,
    (θ_run Cert.AdPoolOutReferenceIdeal.defs _ _).mono (fun _ h c =>
      ⟨(h c).1.trans (by
          rw [Cert.AdPoolOutReferenceIdeal.Read.val_main_v1_eq, (hag c).1]
          exact (total_equal m c).symm),
        (h c).2.1.trans (by
          rw [Cert.AdPoolOutReferenceIdeal.Read.val_main_v25_eq, (hag c).1, (hag c).2.1, (hag c).2.2.1, (hag c).2.2.2]
          exact (change_equal m c).symm),
        (h c).2.2.1.trans (by
          rw [Cert.AdPoolOutReferenceIdeal.Read.val_main_v6_eq, (hag c).1, (hag c).2.2.1]
          exact (first_equal m c).symm),
        (h c).2.2.2.1.trans (by
          rw [Cert.AdPoolOutReferenceIdeal.Read.val_main_v12_eq, (hag c).1, (hag c).2.2.2]
          exact (second_equal m c).symm),
        (h c).2.2.2.2⟩) (Cert.AdPoolOutReferenceIdeal.Value.run m' ρ')⟩

end Cert.Ad.PoolOut

namespace Cert.Ad.Kv

/-- The kernel's two texts have the same definitions. -/
theorem defs_eq {F : FTy → Type} [FloatOps F] : Cert.AdKv.defs (F := F) = Cert.AdKvIdeal.defs (F := F) := by
  unfold Cert.AdKv.defs Cert.AdKvIdeal.defs
  rw [show Cert.AdKv.defs₀ (F := F) = Cert.AdKvIdeal.defs₀ from congrArg Defs.onTc (funext₂ fun | ⟨0, _⟩, (_, _) => rfl)]
  rfl

/-- The kernel keeps its arguments and ends. -/
theorem frame : Cert.quiescent_AdKv := fun m ρ _ => by
  rw [defs_eq]
  exact Cert.AdKvIdeal.Gen.frame (F := Bits) m ρ

/-- The same over the extended reals. -/
theorem frameIdeal : Cert.quiescent_AdKvIdeal := fun m ρ _ => Cert.AdKvIdeal.Gen.frame m ρ

/-- The reference keeps its arguments and ends. -/
theorem frameReference : Cert.quiescent_AdKvReferenceIdeal := fun m ρ _ =>
  (θ_run Cert.AdKvReferenceIdeal.defs _ _).mono (fun r h => ⟨fun c => (h c).2.2.2.2, sem_eq_zero_of_no_sems (by decide) r.2⟩)
    (Cert.AdKvReferenceIdeal.Value.run m ρ)

/-- The kernel's results are the reference's. -/
theorem algebraic : Cert.algebraic_AdKvIdeal_AdKvReferenceIdeal := fun m ρ m' ρ' _ hag =>
  ⟨fun c => (Cert.AdKvIdeal.Gen.dats m 0 c).arrAt 4 Cert.AdKvIdeal.cfg0.N, fun c => (Cert.AdKvIdeal.Gen.dats m 0 c).arrAt 5 Cert.AdKvIdeal.cfg0.N, fun c => (Cert.AdKvIdeal.Gen.dats m 0 c).arrAt 6 Cert.AdKvIdeal.cfg0.N, fun c => (Cert.AdKvIdeal.Gen.dats m 0 c).arrAt 7 Cert.AdKvIdeal.cfg0.N, Cert.AdKvIdeal.Value.run_blocks m ρ,
    (θ_run Cert.AdKvReferenceIdeal.defs _ _).mono (fun _ h c =>
      ⟨(h c).1.trans (by
          rw [Cert.AdKvReferenceIdeal.Read.val_main_v1_eq, (hag c).1]
          exact (total_equal m c).symm),
        (h c).2.1.trans (by
          rw [Cert.AdKvReferenceIdeal.Read.val_main_v25_eq, (hag c).1, (hag c).2.1, (hag c).2.2.1, (hag c).2.2.2]
          exact (change_equal m c).symm),
        (h c).2.2.1.trans (by
          rw [Cert.AdKvReferenceIdeal.Read.val_main_v6_eq, (hag c).1, (hag c).2.2.1]
          exact (first_equal m c).symm),
        (h c).2.2.2.1.trans (by
          rw [Cert.AdKvReferenceIdeal.Read.val_main_v12_eq, (hag c).1, (hag c).2.2.2]
          exact (second_equal m c).symm),
        (h c).2.2.2.2⟩) (Cert.AdKvReferenceIdeal.Value.run m' ρ')⟩

end Cert.Ad.Kv

namespace Cert.Ad.Down

/-- The kernel's two texts have the same definitions. -/
theorem defs_eq {F : FTy → Type} [FloatOps F] : Cert.AdDown.defs (F := F) = Cert.AdDownIdeal.defs (F := F) := by
  unfold Cert.AdDown.defs Cert.AdDownIdeal.defs
  rw [show Cert.AdDown.defs₀ (F := F) = Cert.AdDownIdeal.defs₀ from congrArg Defs.onTc (funext₂ fun | ⟨0, _⟩, (_, _) => rfl)]
  rfl

/-- The kernel keeps its arguments and ends. -/
theorem frame : Cert.quiescent_AdDown := fun m ρ _ => by
  rw [defs_eq]
  exact Cert.AdDownIdeal.Gen.frame (F := Bits) m ρ

/-- The same over the extended reals. -/
theorem frameIdeal : Cert.quiescent_AdDownIdeal := fun m ρ _ => Cert.AdDownIdeal.Gen.frame m ρ

/-- The reference keeps its arguments and ends. -/
theorem frameReference : Cert.quiescent_AdDownReferenceIdeal := fun m ρ _ =>
  (θ_run Cert.AdDownReferenceIdeal.defs _ _).mono (fun r h => ⟨fun c => (h c).2.2.2.2, sem_eq_zero_of_no_sems (by decide) r.2⟩)
    (Cert.AdDownReferenceIdeal.Value.run m ρ)

/-- The kernel's results are the reference's. -/
theorem algebraic : Cert.algebraic_AdDownIdeal_AdDownReferenceIdeal := fun m ρ m' ρ' _ hag =>
  ⟨fun c => (Cert.AdDownIdeal.Gen.dats m 0 c).arrAt 4 Cert.AdDownIdeal.cfg0.N, fun c => (Cert.AdDownIdeal.Gen.dats m 0 c).arrAt 5 Cert.AdDownIdeal.cfg0.N, fun c => (Cert.AdDownIdeal.Gen.dats m 0 c).arrAt 6 Cert.AdDownIdeal.cfg0.N, fun c => (Cert.AdDownIdeal.Gen.dats m 0 c).arrAt 7 Cert.AdDownIdeal.cfg0.N, Cert.AdDownIdeal.Value.run_blocks m ρ,
    (θ_run Cert.AdDownReferenceIdeal.defs _ _).mono (fun _ h c =>
      ⟨(h c).1.trans (by
          rw [Cert.AdDownReferenceIdeal.Read.val_main_v1_eq, (hag c).1]
          exact (total_equal m c).symm),
        (h c).2.1.trans (by
          rw [Cert.AdDownReferenceIdeal.Read.val_main_v25_eq, (hag c).1, (hag c).2.1, (hag c).2.2.1, (hag c).2.2.2]
          exact (change_equal m c).symm),
        (h c).2.2.1.trans (by
          rw [Cert.AdDownReferenceIdeal.Read.val_main_v6_eq, (hag c).1, (hag c).2.2.1]
          exact (first_equal m c).symm),
        (h c).2.2.2.1.trans (by
          rw [Cert.AdDownReferenceIdeal.Read.val_main_v12_eq, (hag c).1, (hag c).2.2.2]
          exact (second_equal m c).symm),
        (h c).2.2.2.2⟩) (Cert.AdDownReferenceIdeal.Value.run m' ρ')⟩

end Cert.Ad.Down

namespace Cert.Ad.Conv

/-- The kernel's two texts have the same definitions. -/
theorem defs_eq {F : FTy → Type} [FloatOps F] : Cert.AdConv.defs (F := F) = Cert.AdConvIdeal.defs (F := F) := by
  unfold Cert.AdConv.defs Cert.AdConvIdeal.defs
  rw [show Cert.AdConv.defs₀ (F := F) = Cert.AdConvIdeal.defs₀ from congrArg Defs.onTc (funext₂ fun | ⟨0, _⟩, (_, _) => rfl)]
  rfl

/-- The kernel keeps its arguments and ends. -/
theorem frame : Cert.quiescent_AdConv := fun m ρ _ => by
  rw [defs_eq]
  exact Cert.AdConvIdeal.Gen.frame (F := Bits) m ρ

/-- The same over the extended reals. -/
theorem frameIdeal : Cert.quiescent_AdConvIdeal := fun m ρ _ => Cert.AdConvIdeal.Gen.frame m ρ

/-- The reference keeps its arguments and ends. -/
theorem frameReference : Cert.quiescent_AdConvReferenceIdeal := fun m ρ _ =>
  (θ_run Cert.AdConvReferenceIdeal.defs _ _).mono (fun r h => ⟨fun c => (h c).2.2.2.2, sem_eq_zero_of_no_sems (by decide) r.2⟩)
    (Cert.AdConvReferenceIdeal.Value.run m ρ)

/-- The kernel's results are the reference's. -/
theorem algebraic : Cert.algebraic_AdConvIdeal_AdConvReferenceIdeal := fun m ρ m' ρ' _ hag =>
  ⟨fun c => (Cert.AdConvIdeal.Gen.dats m 0 c).arrAt 4 Cert.AdConvIdeal.cfg0.N, fun c => (Cert.AdConvIdeal.Gen.dats m 0 c).arrAt 5 Cert.AdConvIdeal.cfg0.N, fun c => (Cert.AdConvIdeal.Gen.dats m 0 c).arrAt 6 Cert.AdConvIdeal.cfg0.N, fun c => (Cert.AdConvIdeal.Gen.dats m 0 c).arrAt 7 Cert.AdConvIdeal.cfg0.N, Cert.AdConvIdeal.Value.run_blocks m ρ,
    (θ_run Cert.AdConvReferenceIdeal.defs _ _).mono (fun _ h c =>
      ⟨(h c).1.trans (by
          rw [Cert.AdConvReferenceIdeal.Read.val_main_v0_eq, (hag c).1]
          exact (total_equal m c).symm),
        (h c).2.1.trans (by
          rw [Cert.AdConvReferenceIdeal.Read.val_main_v24_eq, (hag c).1, (hag c).2.1, (hag c).2.2.1, (hag c).2.2.2]
          exact (change_equal m c).symm),
        (h c).2.2.1.trans (by
          rw [Cert.AdConvReferenceIdeal.Read.val_main_v5_eq, (hag c).1, (hag c).2.2.1]
          exact (first_equal m c).symm),
        (h c).2.2.2.1.trans (by
          rw [Cert.AdConvReferenceIdeal.Read.val_main_v11_eq, (hag c).1, (hag c).2.2.2]
          exact (second_equal m c).symm),
        (h c).2.2.2.2⟩) (Cert.AdConvReferenceIdeal.Value.run m' ρ')⟩

end Cert.Ad.Conv

namespace Cert.Ad.FfnConv

/-- The kernel's two texts have the same definitions. -/
theorem defs_eq {F : FTy → Type} [FloatOps F] : Cert.AdFfnConv.defs (F := F) = Cert.AdFfnConvIdeal.defs (F := F) := by
  unfold Cert.AdFfnConv.defs Cert.AdFfnConvIdeal.defs
  rw [show Cert.AdFfnConv.defs₀ (F := F) = Cert.AdFfnConvIdeal.defs₀ from congrArg Defs.onTc (funext₂ fun | ⟨0, _⟩, (_, _) => rfl)]
  rfl

/-- The kernel keeps its arguments and ends. -/
theorem frame : Cert.quiescent_AdFfnConv := fun m ρ _ => by
  rw [defs_eq]
  exact Cert.AdFfnConvIdeal.Gen.frame (F := Bits) m ρ

/-- The same over the extended reals. -/
theorem frameIdeal : Cert.quiescent_AdFfnConvIdeal := fun m ρ _ => Cert.AdFfnConvIdeal.Gen.frame m ρ

/-- The reference keeps its arguments and ends. -/
theorem frameReference : Cert.quiescent_AdFfnConvReferenceIdeal := fun m ρ _ =>
  (θ_run Cert.AdFfnConvReferenceIdeal.defs _ _).mono (fun r h => ⟨fun c => (h c).2.2.2.2, sem_eq_zero_of_no_sems (by decide) r.2⟩)
    (Cert.AdFfnConvReferenceIdeal.Value.run m ρ)

/-- The kernel's results are the reference's. -/
theorem algebraic : Cert.algebraic_AdFfnConvIdeal_AdFfnConvReferenceIdeal := fun m ρ m' ρ' _ hag =>
  ⟨fun c => (Cert.AdFfnConvIdeal.Gen.dats m 0 c).arrAt 4 Cert.AdFfnConvIdeal.cfg0.N, fun c => (Cert.AdFfnConvIdeal.Gen.dats m 0 c).arrAt 5 Cert.AdFfnConvIdeal.cfg0.N, fun c => (Cert.AdFfnConvIdeal.Gen.dats m 0 c).arrAt 6 Cert.AdFfnConvIdeal.cfg0.N, fun c => (Cert.AdFfnConvIdeal.Gen.dats m 0 c).arrAt 7 Cert.AdFfnConvIdeal.cfg0.N, Cert.AdFfnConvIdeal.Value.run_blocks m ρ,
    (θ_run Cert.AdFfnConvReferenceIdeal.defs _ _).mono (fun _ h c =>
      ⟨(h c).1.trans (by
          rw [Cert.AdFfnConvReferenceIdeal.Read.val_main_v0_eq, (hag c).1]
          exact (total_equal m c).symm),
        (h c).2.1.trans (by
          rw [Cert.AdFfnConvReferenceIdeal.Read.val_main_v24_eq, (hag c).1, (hag c).2.1, (hag c).2.2.1, (hag c).2.2.2]
          exact (change_equal m c).symm),
        (h c).2.2.1.trans (by
          rw [Cert.AdFfnConvReferenceIdeal.Read.val_main_v5_eq, (hag c).1, (hag c).2.2.1]
          exact (first_equal m c).symm),
        (h c).2.2.2.1.trans (by
          rw [Cert.AdFfnConvReferenceIdeal.Read.val_main_v11_eq, (hag c).1, (hag c).2.2.2]
          exact (second_equal m c).symm),
        (h c).2.2.2.2⟩) (Cert.AdFfnConvReferenceIdeal.Value.run m' ρ')⟩

end Cert.Ad.FfnConv

namespace Cert.Ad.Pool

/-- The kernel's two texts have the same definitions. -/
theorem defs_eq {F : FTy → Type} [FloatOps F] : Cert.AdPool.defs (F := F) = Cert.AdPoolIdeal.defs (F := F) := by
  unfold Cert.AdPool.defs Cert.AdPoolIdeal.defs
  rw [show Cert.AdPool.defs₀ (F := F) = Cert.AdPoolIdeal.defs₀ from congrArg Defs.onTc (funext₂ fun | ⟨0, _⟩, (_, _) => rfl)]
  rfl

/-- The kernel keeps its arguments and ends. -/
theorem frame : Cert.quiescent_AdPool := fun m ρ _ => by
  rw [defs_eq]
  exact Cert.AdPoolIdeal.Gen.frame (F := Bits) m ρ

/-- The same over the extended reals. -/
theorem frameIdeal : Cert.quiescent_AdPoolIdeal := fun m ρ _ => Cert.AdPoolIdeal.Gen.frame m ρ

/-- The reference keeps its arguments and ends. -/
theorem frameReference : Cert.quiescent_AdPoolReferenceIdeal := fun m ρ _ =>
  (θ_run Cert.AdPoolReferenceIdeal.defs _ _).mono (fun r h => ⟨fun c => (h c).2.2.2.2, sem_eq_zero_of_no_sems (by decide) r.2⟩)
    (Cert.AdPoolReferenceIdeal.Value.run m ρ)

/-- The kernel's results are the reference's. -/
theorem algebraic : Cert.algebraic_AdPoolIdeal_AdPoolReferenceIdeal := fun m ρ m' ρ' _ hag =>
  ⟨fun c => (Cert.AdPoolIdeal.Gen.dats m 0 c).arrAt 4 Cert.AdPoolIdeal.cfg0.N, fun c => (Cert.AdPoolIdeal.Gen.dats m 0 c).arrAt 5 Cert.AdPoolIdeal.cfg0.N, fun c => (Cert.AdPoolIdeal.Gen.dats m 0 c).arrAt 6 Cert.AdPoolIdeal.cfg0.N, fun c => (Cert.AdPoolIdeal.Gen.dats m 0 c).arrAt 7 Cert.AdPoolIdeal.cfg0.N, Cert.AdPoolIdeal.Value.run_blocks m ρ,
    (θ_run Cert.AdPoolReferenceIdeal.defs _ _).mono (fun _ h c =>
      ⟨(h c).1.trans (by
          rw [Cert.AdPoolReferenceIdeal.Read.val_main_v0_eq, (hag c).1]
          exact (total_equal m c).symm),
        (h c).2.1.trans (by
          rw [Cert.AdPoolReferenceIdeal.Read.val_main_v24_eq, (hag c).1, (hag c).2.1, (hag c).2.2.1, (hag c).2.2.2]
          exact (change_equal m c).symm),
        (h c).2.2.1.trans (by
          rw [Cert.AdPoolReferenceIdeal.Read.val_main_v5_eq, (hag c).1, (hag c).2.2.1]
          exact (first_equal m c).symm),
        (h c).2.2.2.1.trans (by
          rw [Cert.AdPoolReferenceIdeal.Read.val_main_v11_eq, (hag c).1, (hag c).2.2.2]
          exact (second_equal m c).symm),
        (h c).2.2.2.2⟩) (Cert.AdPoolReferenceIdeal.Value.run m' ρ')⟩

end Cert.Ad.Pool

namespace Cert.Ad.Small

/-- The kernel's two texts have the same definitions. -/
theorem defs_eq {F : FTy → Type} [FloatOps F] : Cert.AdSmall.defs (F := F) = Cert.AdSmallIdeal.defs (F := F) := by
  unfold Cert.AdSmall.defs Cert.AdSmallIdeal.defs
  rw [show Cert.AdSmall.defs₀ (F := F) = Cert.AdSmallIdeal.defs₀ from congrArg Defs.onTc (funext₂ fun | ⟨0, _⟩, (_, _) => rfl)]
  rfl

/-- The kernel keeps its arguments and ends. -/
theorem frame : Cert.quiescent_AdSmall := fun m ρ _ => by
  rw [defs_eq]
  exact Cert.AdSmallIdeal.Gen.frame (F := Bits) m ρ

/-- The same over the extended reals. -/
theorem frameIdeal : Cert.quiescent_AdSmallIdeal := fun m ρ _ => Cert.AdSmallIdeal.Gen.frame m ρ

/-- The reference keeps its arguments and ends. -/
theorem frameReference : Cert.quiescent_AdSmallReferenceIdeal := fun m ρ _ =>
  (θ_run Cert.AdSmallReferenceIdeal.defs _ _).mono (fun r h => ⟨fun c => (h c).2.2.2.2, sem_eq_zero_of_no_sems (by decide) r.2⟩)
    (Cert.AdSmallReferenceIdeal.Value.run m ρ)

/-- The kernel's results are the reference's. -/
theorem algebraic : Cert.algebraic_AdSmallIdeal_AdSmallReferenceIdeal := fun m ρ m' ρ' _ hag =>
  ⟨fun c => (Cert.AdSmallIdeal.Gen.dats m 0 c).arrAt 4 Cert.AdSmallIdeal.cfg0.N, fun c => (Cert.AdSmallIdeal.Gen.dats m 0 c).arrAt 5 Cert.AdSmallIdeal.cfg0.N, fun c => (Cert.AdSmallIdeal.Gen.dats m 0 c).arrAt 6 Cert.AdSmallIdeal.cfg0.N, fun c => (Cert.AdSmallIdeal.Gen.dats m 0 c).arrAt 7 Cert.AdSmallIdeal.cfg0.N, Cert.AdSmallIdeal.Value.run_blocks m ρ,
    (θ_run Cert.AdSmallReferenceIdeal.defs _ _).mono (fun _ h c =>
      ⟨(h c).1.trans (by
          rw [Cert.AdSmallReferenceIdeal.Read.val_main_v0_eq, (hag c).1]
          exact (total_equal m c).symm),
        (h c).2.1.trans (by
          rw [Cert.AdSmallReferenceIdeal.Read.val_main_v24_eq, (hag c).1, (hag c).2.1, (hag c).2.2.1, (hag c).2.2.2]
          exact (change_equal m c).symm),
        (h c).2.2.1.trans (by
          rw [Cert.AdSmallReferenceIdeal.Read.val_main_v5_eq, (hag c).1, (hag c).2.2.1]
          exact (first_equal m c).symm),
        (h c).2.2.2.1.trans (by
          rw [Cert.AdSmallReferenceIdeal.Read.val_main_v11_eq, (hag c).1, (hag c).2.2.2]
          exact (second_equal m c).symm),
        (h c).2.2.2.2⟩) (Cert.AdSmallReferenceIdeal.Value.run m' ρ')⟩

end Cert.Ad.Small

end
-- ==== Proof.MgBwd.lean ====
/-
  The gradient through the gated merge of the two branches: the kernel's four arrays and the reference's, entry by entry.
-/
module

public import proofs.«01_k».proof.Proof.Gen.MergeBwdIdeal.Value
public import proofs.«01_k».proof.Proof.Gen.MergeBwdReferenceIdeal.Read
public import proofs.«01_k».proof.Proof.XaCases
public import proofs.«01_k».proof.Proof.AdStep

@[expose] public section

set_option maxRecDepth 16384

noncomputable section

open Idealize.ShloMosaic Idealize.ShloMosaic.TcCoe Idealize.SL.Sem
open Idealize.ShloMosaic.Pipeline (Dat)

namespace Cert.Mg

open Cert.MergeBwdIdeal Cert.MergeBwdIdeal.Gen Cert.MergeBwdIdeal.Value
open Cert.Xa (origin)
open Cert.Pr (at2)
open Cert.Ad (whole)

/-- How far a gate is open. -/
def gate (x : EReal) : EReal := Ideal.div 1 (1 + Ideal.exp (-x))

/-- A branch's gradient, from its gate and the merged rows' gradient. -/
def branch (x d : EReal) : EReal := d * gate x

/-- A gate's gradient, from the gate, its branch and the merged rows' gradient. -/
def slope (x y d : EReal) : EReal := d * y * (gate x * (1 - gate x))

variable (m : (ℓ : Loc nD τ sig) → Buf (Elt Ideal) ℓ) (c : Dev nD)

/-- The four arguments of the call: the projected rows, the two branches and the gradient of the merged rows. -/
abbrev pArg : FVec Ideal S8192x13824 .bf16 := m ((c : Thread nD τ).loc main_arg0)
abbrev aArg : FVec Ideal S8192x2048 .bf16 := m ((c : Thread nD τ).loc main_arg1)
abbrev bArg : FVec Ideal S8192x2048 .bf16 := m ((c : Thread nD τ).loc main_arg2)
abbrev dArg : FVec Ideal S8192x2048 .bf16 := m ((c : Thread nD τ).loc main_arg3)

section
variable (x y d : FVec Ideal S512x2048 .bf16) (r : Fin 512) (j : Fin 2048)

theorem gate_apply : k0_pay3 (F := Ideal) x (ix2 r j) = gate (x (ix2 r j)) ∧ k0_pay4 (F := Ideal) x (ix2 r j) = gate (x (ix2 r j)) := by
  constructor
  · pointwise [k0_pay3]
    rw [zero_sub]
    rfl
  · pointwise [k0_pay4]
    rw [zero_sub]
    rfl

theorem branch_apply : k0_pay5 (F := Ideal) d x (ix2 r j) = branch (x (ix2 r j)) (d (ix2 r j)) ∧ k0_pay6 (F := Ideal) d x (ix2 r j) = branch (x (ix2 r j)) (d (ix2 r j)) := by
  constructor
  · pointwise [k0_pay5, k0_pay2]
    rw [(gate_apply x r j).1]
    rfl
  · pointwise [k0_pay6, k0_pay2]
    rw [(gate_apply x r j).2]
    rfl

theorem slope_apply : k0_pay7 (F := Ideal) d x y (ix2 r j) = slope (x (ix2 r j)) (y (ix2 r j)) (d (ix2 r j))
    ∧ k0_pay1 (F := Ideal) (k0_pay2 d) (k0_pay4 x) y (ix2 r j) = slope (x (ix2 r j)) (y (ix2 r j)) (d (ix2 r j)) := by
  constructor
  · pointwise [k0_pay7, k0_pay2]
    rw [(gate_apply x r j).1, mul_assoc _ (gate _)]
    rfl
  · pointwise [k0_pay1, k0_pay2]
    rw [(gate_apply x r j).2, mul_assoc _ (gate _)]
    rfl
end

/-- The places of a point's blocks and of the tiles that it writes. -/
theorem index_at : ∀ t : Fin cfg0.N, (win0_0.index t (0 : Fin 2) = t.val ∧ win0_0.index t (1 : Fin 2) = 4)
    ∧ (win0_1.index t (0 : Fin 2) = t.val ∧ win0_1.index t (1 : Fin 2) = 5)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0 ∧ win0_5.flush t = true)
    ∧ (win0_6.index t (0 : Fin 2) = t.val ∧ win0_6.index t (1 : Fin 2) = 0 ∧ win0_6.flush t = true)
    ∧ (win0_7.index t (0 : Fin 2) = t.val ∧ win0_7.index t (1 : Fin 2) = 0 ∧ win0_7.flush t = true)
    ∧ (win0_8.index t (0 : Fin 2) = t.val ∧ win0_8.index t (1 : Fin 2) = 0 ∧ win0_8.flush t = true) :=
  (by decide +kernel : ∀ t : Fin grid0.N, _)

/-- The points' tiles make up the rows. -/
theorem rows : cfg0.N * 512 = 8192 := by rw [show cfg0.N = 16 from N_0]

/-- A point's five blocks, at their literal shapes. -/
abbrev gaB (t : Fin cfg0.N) : FVec Ideal S512x2048 .bf16 := X0_0 m c t
abbrev gbB (t : Fin cfg0.N) : FVec Ideal S512x2048 .bf16 := X0_1 m c t
abbrev aB (t : Fin cfg0.N) : FVec Ideal S512x2048 .bf16 := iblk m c 2 t
abbrev bB (t : Fin cfg0.N) : FVec Ideal S512x2048 .bf16 := iblk m c 3 t
abbrev dB (t : Fin cfg0.N) : FVec Ideal S512x2048 .bf16 := iblk m c 4 t

/-- An entry of the first gate, and of the second, among the projected rows. -/
abbrev ga (p : FVec Ideal S8192x13824 .bf16) (i : Fin 8192) (j : Fin 2048) : EReal := p (ix2 i ⟨8192 + j.val, by omega⟩)
abbrev gb (p : FVec Ideal S8192x13824 .bf16) (i : Fin 8192) (j : Fin 2048) : EReal := p (ix2 i ⟨10240 + j.val, by omega⟩)

section
variable (p : grid0.Coords) (a1 : Memref sig .tc .vmem S512x2048 .bf16) (h1 : a1.IsWhole) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S512x2048 .bf16) (h5 : a5.IsWhole) (a6 : Memref sig .tc .vmem S512x2048 .bf16) (h6 : a6.IsWhole) (a7 : Memref sig .tc .vmem S512x2048 .bf16) (h7 : a7.IsWhole) (a8 : Memref sig .tc .vmem S512x2048 .bf16) (h8 : a8.IsWhole) (a9 : Memref sig .tc .vmem S512x2048 .bf16) (h9 : a9.IsWhole)
variable (ga gb x y d : Vec Ideal S512x2048 .bf16)

/-- What a point writes of the first branch's gradient. -/
theorem out_branch_a : out0_A_5 c p a1 h1 a2 h2 a3 h3 a4 h4 a5 h5 a6 h6 a7 h7 a8 h8 a9 h9 ga gb x y d = k0_pay5 (F := Ideal) d ga := by
  unfold out0_A_5
  rw [View.read_writes_eq_canon _ _ _ (cover0_A_5 c p a1 h1 a2 h2 a3 h3 a4 h4 a5 h5 a6 h6 a7 h7 a8 h8 a9 h9 ga gb x y d)]
  unfold kernelRun0_A
  dsimp only
  sl_unfold_words
  rw [View.canon_unit_zero origin]
  simp only [View.readAt_eq_ld, h1.read_unread, h2.read_unread, h3.read_unread, h4.read_unread, h5.read_unread, View.ld_unit_zero (S := S512x2048) origin]

/-- What a point writes of the second branch's gradient. -/
theorem out_branch_b : out0_A_6 c p a1 h1 a2 h2 a3 h3 a4 h4 a5 h5 a6 h6 a7 h7 a8 h8 a9 h9 ga gb x y d = k0_pay6 (F := Ideal) d gb := by
  unfold out0_A_6
  rw [View.read_writes_eq_canon _ _ _ (cover0_A_6 c p a1 h1 a2 h2 a3 h3 a4 h4 a5 h5 a6 h6 a7 h7 a8 h8 a9 h9 ga gb x y d)]
  unfold kernelRun0_A
  dsimp only
  sl_unfold_words
  rw [View.canon_unit_zero origin]
  simp only [View.readAt_eq_ld, h1.read_unread, h2.read_unread, h3.read_unread, h4.read_unread, h5.read_unread, View.ld_unit_zero (S := S512x2048) origin]

/-- What a point writes of the first gate's gradient. -/
theorem out_gate_a : out0_A_7 c p a1 h1 a2 h2 a3 h3 a4 h4 a5 h5 a6 h6 a7 h7 a8 h8 a9 h9 ga gb x y d = k0_pay7 (F := Ideal) d ga x := by
  unfold out0_A_7
  rw [View.read_writes_eq_canon _ _ _ (cover0_A_7 c p a1 h1 a2 h2 a3 h3 a4 h4 a5 h5 a6 h6 a7 h7 a8 h8 a9 h9 ga gb x y d)]
  unfold kernelRun0_A
  dsimp only
  sl_unfold_words
  rw [View.canon_unit_zero origin]
  simp only [View.readAt_eq_ld, h1.read_unread, h2.read_unread, h3.read_unread, h4.read_unread, h5.read_unread, View.ld_unit_zero (S := S512x2048) origin]

/-- What a point writes of the second gate's gradient. -/
theorem out_gate_b : out0_A_8 c p a1 h1 a2 h2 a3 h3 a4 h4 a5 h5 a6 h6 a7 h7 a8 h8 a9 h9 ga gb x y d = k0_pay1 (F := Ideal) (k0_pay2 d) (k0_pay4 gb) y := by
  unfold out0_A_8
  rw [View.read_writes_eq_canon _ _ _ (cover0_A_8 c p a1 h1 a2 h2 a3 h3 a4 h4 a5 h5 a6 h6 a7 h7 a8 h8 a9 h9 ga gb x y d)]
  unfold kernelRun0_A
  dsimp only
  sl_unfold_words
  rw [View.canon_unit_zero origin]
  simp only [View.readAt_eq_ld, h1.read_unread, h2.read_unread, h3.read_unread, h4.read_unread, h5.read_unread, View.ld_unit_zero (S := S512x2048) origin]

end

section
variable (t : Fin cfg0.N) (a : Fin 512) (i : Fin 8192) (j : Fin 2048) (hi : i.val = t.val * 512 + a.val)
include hi

/-- An entry of a point's five blocks, in the whole arrays. -/
theorem block_at : gaB m c t (ix2 a j) = ga (pArg m c) i j ∧ gbB m c t (ix2 a j) = gb (pArg m c) i j
    ∧ aB m c t (ix2 a j) = aArg m c (ix2 i j) ∧ bB m c t (ix2 a j) = bArg m c (ix2 i j) ∧ dB m c t (ix2 a j) = dArg m c (ix2 i j) := by
  obtain ⟨⟨p0, p1⟩, ⟨q0, q1⟩, ⟨r0, r1⟩, ⟨s0, s1⟩, ⟨u0, u1⟩, -⟩ := index_at t
  refine ⟨?_, ?_, at2 (aArg m c) (by show win0_2.index t (0 : Fin 2) * 512 + 1 * a.val = i.val; omega) (by show win0_2.index t (1 : Fin 2) * 2048 + 1 * j.val = j.val; omega),
    at2 (bArg m c) (by show win0_3.index t (0 : Fin 2) * 512 + 1 * a.val = i.val; omega) (by show win0_3.index t (1 : Fin 2) * 2048 + 1 * j.val = j.val; omega),
    at2 (dArg m c) (by show win0_4.index t (0 : Fin 2) * 512 + 1 * a.val = i.val; omega) (by show win0_4.index t (1 : Fin 2) * 2048 + 1 * j.val = j.val; omega)⟩
  · show X0_0 m c t (ix2 a j) = _
    unfold X0_0 Pipeline.Window.fill
    rw [dif_pos (moved0_0 t _)]
    exact at2 (pArg m c) (by show win0_0.index t (0 : Fin 2) * 512 + 1 * a.val = i.val; omega) (by show win0_0.index t (1 : Fin 2) * 2048 + 1 * j.val = 8192 + j.val; omega)
  · show X0_1 m c t (ix2 a j) = _
    unfold X0_1 Pipeline.Window.fill
    rw [dif_pos (moved0_1 t _)]
    exact at2 (pArg m c) (by show win0_1.index t (0 : Fin 2) * 512 + 1 * a.val = i.val; omega) (by show win0_1.index t (1 : Fin 2) * 2048 + 1 * j.val = 10240 + j.val; omega)
end

section
open Cert.MergeBwdReferenceIdeal.Read
variable (p : FVec Ideal S8192x13824 .bf16) (x y d : FVec Ideal S8192x2048 .bf16) (i : Fin 8192) (j : Fin 2048)

/-- An entry of the reference's two gates. -/
theorem reference_gates : val_main_v11 (F := Ideal) p (ix2 i j) = gate (ga p i j) ∧ val_main_v21 (F := Ideal) p (ix2 i j) = gate (gb p i j) := by
  constructor
  · pointwise [val_main_v11, val_main_v10, val_main_v9, val_main_v8, val_main_v7, val_main_v6, val_main_v1, val_main_v0, val_main_cst, val_main_cst_0]
    rfl
  · pointwise [val_main_v21, val_main_v20, val_main_v19, val_main_v18, val_main_v17, val_main_v16, val_main_v3, val_main_v2, val_main_cst_2, val_main_cst_3]
    rfl

/-- An entry of the reference's gradients of the two branches. -/
theorem reference_branches : val_main_v34 (F := Ideal) p d (ix2 i j) = branch (ga p i j) (d (ix2 i j))
    ∧ val_main_v35 (F := Ideal) p d (ix2 i j) = branch (gb p i j) (d (ix2 i j)) := by
  constructor
  · pointwise [val_main_v34, val_main_v31, val_main_v27]
    rw [(reference_gates p i j).1, mul_comm]
    rfl
  · pointwise [val_main_v35, val_main_v28, val_main_v27]
    rw [(reference_gates p i j).2, mul_comm]
    rfl

/-- An entry of the reference's gradients of the two gates. -/
theorem reference_slopes : val_main_v36 (F := Ideal) p x d (ix2 i j) = slope (ga p i j) (x (ix2 i j)) (d (ix2 i j))
    ∧ val_main_v37 (F := Ideal) p y d (ix2 i j) = slope (gb p i j) (y (ix2 i j)) (d (ix2 i j)) := by
  constructor
  · pointwise [val_main_v36, val_main_v33, val_main_v32, val_main_v27, val_main_v14, val_main_v13, val_main_v12, val_main_v4, val_main_cst_1]
    rw [(reference_gates p i j).1]
    rfl
  · pointwise [val_main_v37, val_main_v30, val_main_v29, val_main_v27, val_main_v24, val_main_v23, val_main_v22, val_main_v5, val_main_cst_4]
    rw [(reference_gates p i j).2]
    rfl
end

/-- The two programs' arrays are the same. -/
theorem branch_a_equal : (dats m 0 c).arrAt 5 cfg0.N = Cert.MergeBwdReferenceIdeal.Read.val_main_v34 (F := Ideal) (pArg m c) (dArg m c) :=
  whole rows (fun t => k0_pay5 (F := Ideal) (dB m c t) (gaB m c t)) fun t a i j hi => by
    obtain ⟨-, -, -, -, -, ⟨e0, e1, hf⟩, -⟩ := index_at t
    obtain ⟨h0, h1, h2, h3, h4⟩ := block_at m c t a i j hi
    refine ⟨(at2 ((dats m 0 c).arrAt 5 cfg0.N : FVec Ideal S8192x2048 .bf16) ?_ ?_).trans ((congrFun (blocks5 m c t hf) (ix2 a j)).trans ((congrFun (flushed5_A m c t) _).trans (congrFun (out_branch_a c ..) (ix2 a j)))), ?_⟩
    · show i.val = win0_5.index t (0 : Fin 2) * 512 + 1 * a.val; omega
    · show j.val = win0_5.index t (1 : Fin 2) * 2048 + 1 * j.val; omega
    · refine (branch_apply _ _ a j).1.trans (Eq.trans ?_ (reference_branches _ _ i j).1.symm)
      rw [h0, h4]

theorem branch_b_equal : (dats m 0 c).arrAt 6 cfg0.N = Cert.MergeBwdReferenceIdeal.Read.val_main_v35 (F := Ideal) (pArg m c) (dArg m c) :=
  whole rows (fun t => k0_pay6 (F := Ideal) (dB m c t) (gbB m c t)) fun t a i j hi => by
    obtain ⟨-, -, -, -, -, -, ⟨e0, e1, hf⟩, -⟩ := index_at t
    obtain ⟨h0, h1, h2, h3, h4⟩ := block_at m c t a i j hi
    refine ⟨(at2 ((dats m 0 c).arrAt 6 cfg0.N : FVec Ideal S8192x2048 .bf16) ?_ ?_).trans ((congrFun (blocks6 m c t hf) (ix2 a j)).trans ((congrFun (flushed6_A m c t) _).trans (congrFun (out_branch_b c ..) (ix2 a j)))), ?_⟩
    · show i.val = win0_6.index t (0 : Fin 2) * 512 + 1 * a.val; omega
    · show j.val = win0_6.index t (1 : Fin 2) * 2048 + 1 * j.val; omega
    · refine (branch_apply _ _ a j).2.trans (Eq.trans ?_ (reference_branches _ _ i j).2.symm)
      rw [h1, h4]

theorem gate_a_equal : (dats m 0 c).arrAt 7 cfg0.N = Cert.MergeBwdReferenceIdeal.Read.val_main_v36 (F := Ideal) (pArg m c) (aArg m c) (dArg m c) :=
  whole rows (fun t => k0_pay7 (F := Ideal) (dB m c t) (gaB m c t) (aB m c t)) fun t a i j hi => by
    obtain ⟨-, -, -, -, -, -, -, ⟨e0, e1, hf⟩, -⟩ := index_at t
    obtain ⟨h0, h1, h2, h3, h4⟩ := block_at m c t a i j hi
    refine ⟨(at2 ((dats m 0 c).arrAt 7 cfg0.N : FVec Ideal S8192x2048 .bf16) ?_ ?_).trans ((congrFun (blocks7 m c t hf) (ix2 a j)).trans ((congrFun (flushed7_A m c t) _).trans (congrFun (out_gate_a c ..) (ix2 a j)))), ?_⟩
    · show i.val = win0_7.index t (0 : Fin 2) * 512 + 1 * a.val; omega
    · show j.val = win0_7.index t (1 : Fin 2) * 2048 + 1 * j.val; omega
    · refine (slope_apply _ _ _ a j).1.trans (Eq.trans ?_ (reference_slopes _ _ (bArg m c) _ i j).1.symm)
      rw [h0, h2, h4]

theorem gate_b_equal : (dats m 0 c).arrAt 8 cfg0.N = Cert.MergeBwdReferenceIdeal.Read.val_main_v37 (F := Ideal) (pArg m c) (bArg m c) (dArg m c) :=
  whole rows (fun t => k0_pay1 (F := Ideal) (k0_pay2 (dB m c t)) (k0_pay4 (gbB m c t)) (bB m c t)) fun t a i j hi => by
    obtain ⟨-, -, -, -, -, -, -, -, e0, e1, hf⟩ := index_at t
    obtain ⟨h0, h1, h2, h3, h4⟩ := block_at m c t a i j hi
    refine ⟨(at2 ((dats m 0 c).arrAt 8 cfg0.N : FVec Ideal S8192x2048 .bf16) ?_ ?_).trans ((congrFun (blocks8 m c t hf) (ix2 a j)).trans ((congrFun (flushed8_A m c t) _).trans (congrFun (out_gate_b c ..) (ix2 a j)))), ?_⟩
    · show i.val = win0_8.index t (0 : Fin 2) * 512 + 1 * a.val; omega
    · show j.val = win0_8.index t (1 : Fin 2) * 2048 + 1 * j.val; omega
    · refine (slope_apply _ _ _ a j).2.trans (Eq.trans ?_ (reference_slopes _ (aArg m c) _ _ i j).2.symm)
      rw [h1, h3, h4]

end Cert.Mg

end
-- ==== Proof.XaMath.lean ====
/-
  One query row against one head of the memory: softmax scores, the weights' gradient, and the two ways of writing it.
-/
module

public import Idealize.ShloMosaic.Lib.Pointwise

@[expose] public section

noncomputable section

open Idealize.ShloMosaic

namespace Cert.Xa

theorem ofBits_negInf : Ideal.ofBits .f32 0xFF800000#32 = ⊥ := by simp [Ideal.ofBits, Ideal.ieee]

theorem ofBits_posInf : Ideal.ofBits .f32 0x7F800000#32 = ⊤ := by simp [Ideal.ofBits, Ideal.ieee]

/-- The scale of the scores, `512 ^ (-1/2)` as the program's literal. -/
def scl : EReal := Ideal.ofBits .f32 0x3D3504F3#32

/-- The scaled score of a query row against memory row `m`. -/
def score (q : Fin 512 → EReal) (k : Fin 256 → Fin 512 → EReal) (m : Fin 256) : EReal := (∑ j, q j * k m j) * scl

/-- The largest score of the row. -/
def top (q : Fin 512 → EReal) (k : Fin 256 → Fin 512 → EReal) : EReal := Finset.univ.fold max ⊥ fun m => score q k m

/-- The exponential of a score below the row's largest. -/
def ex (q : Fin 512 → EReal) (k : Fin 256 → Fin 512 → EReal) (m : Fin 256) : EReal := Ideal.exp (score q k m - top q k)

/-- The row's normaliser. -/
def tot (q : Fin 512 → EReal) (k : Fin 256 → Fin 512 → EReal) : EReal := ∑ m, ex q k m

/-- The softmax weight. -/
def prob (q : Fin 512 → EReal) (k : Fin 256 → Fin 512 → EReal) (m : Fin 256) : EReal := Ideal.div (ex q k m) (tot q k)

/-- The cotangent of a weight: the output's cotangent against the value row. -/
def dprob (v : Fin 256 → Fin 512 → EReal) (d : Fin 512 → EReal) (m : Fin 256) : EReal := ∑ j, d j * v m j

/-- The cotangent of the unscaled score, as the softmax's closed form. -/
def dscore (q : Fin 512 → EReal) (k v : Fin 256 → Fin 512 → EReal) (d : Fin 512 → EReal) (m : Fin 256) : EReal :=
  prob q k m * (dprob v d m - ∑ n, prob q k n * dprob v d n) * scl

/-- The query row's gradient. -/
def dquery (q : Fin 512 → EReal) (k v : Fin 256 → Fin 512 → EReal) (d : Fin 512 → EReal) (j : Fin 512) : EReal :=
  ∑ m, dscore q k v d m * k m j

/-- The cotangent of the unscaled score, as the derivative of a quotient: the cotangent over the normaliser, less the sum
    of the cotangents against the exponentials over the normaliser's square. -/
def dscoreR (q : Fin 512 → EReal) (k v : Fin 256 → Fin 512 → EReal) (d : Fin 512 → EReal) (m : Fin 256) : EReal :=
  (Ideal.div (dprob v d m) (tot q k)
    + -∑ n, dprob v d n * Ideal.div 1 (tot q k * tot q k) * ex q k n) * ex q k m * scl

/-- An array of `8192` rows of `2048` channels. -/
abbrev A0 : Type := (⟨⟨2, ![8192, 2048]⟩, .bf16⟩ : BufTy).Contents (Elt Ideal)

/-- The memory's keys and values, side by side. -/
abbrev A1 : Type := (⟨⟨2, ![256, 4096]⟩, .bf16⟩ : BufTy).Contents (Elt Ideal)

/-- Entry `j` of head `h` among the model's channels. -/
abbrev chan (h : Fin 4) (j : Fin 512) : Fin 2048 := ⟨h.val * 512 + j.val, by omega⟩

/-- Head `h` of row `i` of an `8192 × 2048` array. -/
def hrow (x : A0) (h : Fin 4) (i : Fin 8192) : Fin 512 → EReal := fun j => x (ix2 i (chan h j))

/-- Head `h` of the keys. -/
def keys (x : A1) (h : Fin 4) : Fin 256 → Fin 512 → EReal := fun m j => x (ix2 m ⟨h.val * 512 + j.val, by omega⟩)

/-- Head `h` of the values. -/
def vals (x : A1) (h : Fin 4) : Fin 256 → Fin 512 → EReal := fun m j => x (ix2 m ⟨2048 + (h.val * 512 + j.val), by omega⟩)

/-- The head of channel `j`. -/
abbrev hd (j : Fin 2048) : Fin 4 := ⟨j.val / 512, by omega⟩

/-- The place of channel `j` in its head. -/
abbrev pl (j : Fin 2048) : Fin 512 := ⟨j.val % 512, by omega⟩

theorem chan_hd_pl (j : Fin 2048) : j.val / 512 * 512 + j.val % 512 = j.val := by omega

end Cert.Xa

end
-- ==== Proof.XfOut.lean ====
/-
  The cross-attention: the kernel's array and the reference's, entry by entry.
-/
module

public import proofs.«01_k».proof.Proof.Gen.XaFwdIdeal.Value
public import proofs.«01_k».proof.Proof.Gen.XaFwdReferenceIdeal.Read
public import proofs.«01_k».proof.Proof.XaCases
public import proofs.«01_k».proof.Proof.XaMath
public import proofs.«01_k».proof.Proof.PrTile

@[expose] public section

set_option maxRecDepth 16384

noncomputable section

open Idealize.ShloMosaic Idealize.ShloMosaic.TcCoe Idealize.SL.Sem
open Idealize.ShloMosaic.Pipeline (Dat)

namespace Cert.Xf

open Cert.XaFwdIdeal Cert.XaFwdIdeal.Gen Cert.XaFwdIdeal.Value
open Cert.Xa (origin A0 A1 hrow keys vals hd pl chan score top ex tot prob ofBits_negInf chan_hd_pl)
open Cert.Pr (at2 ext2)

variable (m : (ℓ : Loc nD τ sig) → Buf (Elt Ideal) ℓ) (c : Dev nD)

/-- The two arguments of the call: the queries, and the keys and values side by side. -/
abbrev qArg : A0 := m ((c : Thread nD τ).loc main_arg0)
abbrev kvArg : A1 := m ((c : Thread nD τ).loc main_arg1)

/-- A query row's mean of the values, weighted by its softmax weights. -/
def mean (q : Fin 512 → EReal) (k v : Fin 256 → Fin 512 → EReal) (j : Fin 512) : EReal := ∑ n, prob q k n * v n j

/-- An entry of what a point writes. -/
theorem out_apply (q : FVec Ideal S512x512 .bf16) (k v : FVec Ideal S256x512 .bf16) (r j : Fin 512) :
    out0_3 (F := Ideal) q k v (ix2 r j) = mean (fun j => q (ix2 r j)) (fun n j => k (ix2 n j)) (fun n j => v (ix2 n j)) j := by
  unfold out0_3
  rw [View.canon_unit_zero origin]
  simp only [View.ld_unit_zero (S := S512x512) origin, View.ld_unit_zero (S := S256x512) origin]
  pointwise [k0_pay1]
  unfold mean prob tot ex top score Cert.Xa.scl
  rfl

/-- The places of a point's blocks and of the tile that it writes. -/
theorem index_at : ∀ t : Fin cfg0.N, (win0_0.index t (0 : Fin 2) = t.val / 4 ∧ win0_0.index t (1 : Fin 2) = t.val % 4)
    ∧ (win0_1.index t (0 : Fin 2) = 0 ∧ win0_1.index t (1 : Fin 2) = t.val % 4)
    ∧ (win0_2.index t (0 : Fin 2) = 0 ∧ win0_2.index t (1 : Fin 2) = 4 + t.val % 4)
    ∧ (win0_3.index t (0 : Fin 2) = t.val / 4 ∧ win0_3.index t (1 : Fin 2) = t.val % 4 ∧ win0_3.flush t = true) :=
  (by decide +kernel : ∀ t : Fin grid0.N, _)

section
open Cert.XaFwdReferenceIdeal Cert.XaFwdReferenceIdeal.Gen Cert.XaFwdReferenceIdeal.Read
variable (x : A0) (y : A1) (h : Fin 4) (i : Fin 8192) (n : Fin 256)

theorem reference_score : val_main_v9 (F := Ideal) x y (ix3 h i n) = score (hrow x h i) (keys y h) n := by
  pointwise [val_main_v9, val_main_v8, val_main_cst, val_main_v7, val_main_v1, val_main_v0, val_main_v5, val_main_v3, val_main_v2]
  rfl

/-- A maximum over the last axis, read at an index. -/
theorem reference_max (s : FVec Ideal S4x8192x256 .f32) (z : FVec Ideal S_ .f32) :
    Host.reduce FloatOps.maximumf s z reducesTo_S4x8192x256_S4x8192_d2 h_S_ (ix2 h i)
      = Finset.univ.fold max (z (Shape.Idx.first h_S_)) fun n => s (ix3 h i n) := by
  pointwise []

theorem reference_top : val_main_v12 (F := Ideal) x y (ix2 h i) = top (hrow x h i) (keys y h) := by
  rw [val_main_v12_apply, val_main_v11_apply, val_main_cst_1_apply]
  unfold val_main_v10
  rw [reference_max, val_main_cst_0_apply, Ideal.maximumf_def, Ideal.ofBits_def, ofBits_negInf, max_eq_right bot_le]
  simp only [reference_score]
  unfold top
  with_reducible rfl

theorem reference_ex : val_main_v16 (F := Ideal) x y (ix3 h i n) = ex (hrow x h i) (keys y h) n := by
  pointwise [val_main_v16, val_main_v15, val_main_v14, val_main_v13]
  simp only [reference_score, reference_top]
  rfl

theorem reference_prob : val_main_v20 (F := Ideal) x y (ix3 h i n) = prob (hrow x h i) (keys y h) n := by
  pointwise [val_main_v20, val_main_v19, val_main_v18, val_main_v17, val_main_cst_2]
  simp only [reference_ex]
  rfl

theorem reference_mean (j : Fin 2048) :
    val_main_v24 (F := Ideal) x y (ix2 i j) = mean (hrow x (hd j) i) (keys y (hd j)) (vals y (hd j)) (pl j) := by
  pointwise [val_main_v24, val_main_v23, val_main_v22, val_main_v21, val_main_v6, val_main_v4, val_main_v2]
  simp only [reference_prob]
  refine Finset.sum_congr rfl fun n _ => ?_
  rw [mul_comm]
  simp only [vals, chan_hd_pl]
end

/-- The two programs' arrays are the same. -/
theorem equal : (dats m 0 c).arrAt 3 cfg0.N = Cert.XaFwdReferenceIdeal.Read.val_main_v24 (F := Ideal) (qArg m c) (kvArg m c) :=
  ext2 fun i j => by
    have hN : cfg0.N = 64 := N_0
    obtain ⟨⟨q0, q1⟩, ⟨k0, k1⟩, ⟨v0, v1⟩, e0, e1, hf⟩ := index_at ⟨i.val / 512 * 4 + j.val / 512, by omega⟩
    generalize ht : (⟨i.val / 512 * 4 + j.val / 512, _⟩ : Fin cfg0.N) = t at *
    have hd4 : t.val / 4 = i.val / 512 := by rw [← ht]; dsimp only; omega
    have hm4 : t.val % 4 = j.val / 512 := by rw [← ht]; dsimp only; omega
    have hl := (congrFun (blocks3 m c t hf) (ix2 (⟨i.val % 512, by omega⟩ : Fin 512) (pl j))).trans (congrFun (flushed3 m c t) _)
    refine (at2 ((dats m 0 c).arrAt 3 cfg0.N : A0) ?_ ?_).trans (hl.trans ((out_apply _ _ _ _ _).trans (Eq.trans ?_ (reference_mean _ _ i j).symm)))
    · show i.val = win0_3.index t (0 : Fin 2) * 512 + 1 * (i.val % 512); omega
    · show j.val = win0_3.index t (1 : Fin 2) * 512 + 1 * (j.val % 512); omega
    · congr 1
      · exact funext fun l => at2 (qArg m c) (by show win0_0.index t (0 : Fin 2) * 512 + 1 * (i.val % 512) = i.val; omega) (by show win0_0.index t (1 : Fin 2) * 512 + 1 * l.val = j.val / 512 * 512 + l.val; omega)
      · exact funext fun n => funext fun l => at2 (kvArg m c) (by show win0_1.index t (0 : Fin 2) * 256 + 1 * n.val = n.val; omega) (by show win0_1.index t (1 : Fin 2) * 512 + 1 * l.val = j.val / 512 * 512 + l.val; omega)
      · exact funext fun n => funext fun l => at2 (kvArg m c) (by show win0_2.index t (0 : Fin 2) * 256 + 1 * n.val = n.val; omega) (by show win0_2.index t (1 : Fin 2) * 512 + 1 * l.val = 2048 + (j.val / 512 * 512 + l.val); omega)

end Cert.Xf

end
-- ==== Proof.NmLoss.lean ====
/-
  The loss and its gradient at the last rows: the kernel's two arrays and the reference's, entry by entry.
-/
module

public import proofs.«01_k».proof.Proof.Gen.LossIdeal.Value
public import proofs.«01_k».proof.Proof.Gen.LossReferenceIdeal.Read
public import proofs.«01_k».proof.Proof.XaCases
public import proofs.«01_k».proof.Proof.NmRow

@[expose] public section

set_option maxRecDepth 16384

noncomputable section

open Idealize.ShloMosaic Idealize.ShloMosaic.TcCoe Idealize.SL.Sem
open Idealize.ShloMosaic.Pipeline (Dat)

namespace Cert.Nm.Loss

open Cert.LossIdeal Cert.LossIdeal.Gen Cert.LossIdeal.Value
open Cert.Xa (origin)
open Cert.Pr (at2 ext2)

/-- How far an entry of the rows plus the normalised output is from its target. -/
def miss (x y w t : Fin 2048 → EReal) (j : Fin 2048) : EReal := x j + y j * scale y * w j - t j

/-- The number added to the loss for each square, and the loss's gradient for each miss. -/
abbrev weight : EReal := Ideal.ofBits .f32 0x39800000#32
abbrev slope : EReal := Ideal.ofBits .f32 0x3A000000#32

theorem constants : weight = ((4096 : ℝ)⁻¹ : ℝ) ∧ slope = ((2048 : ℝ)⁻¹ : ℝ) ∧ Ideal.ofBits .f32 0x3F000000#32 = ((2 : ℝ)⁻¹ : ℝ) ∧ Ideal.ofBits .f32 0x40000000#32 = (2 : ℝ) := by
  refine ⟨?_, ?_, ?_, ?_⟩ <;>
  · simp only [weight, slope, Ideal.ofBits, Ideal.ieee]
    norm_num [BitVec.extractLsb', BitVec.toNat_ofNat, Nat.shiftRight_eq_div_pow]

/-- A sum of numbers that aren't negative, times a number. -/
theorem sum_mul {n : ℕ} (f : Fin n → EReal) (hf : ∀ i, 0 ≤ f i) (a : EReal) : (∑ i, f i) * a = ∑ i, f i * a := by
  induction n with
  | zero => simp
  | succ n ih =>
    rw [Fin.sum_univ_succ, Fin.sum_univ_succ, EReal.right_distrib_of_nonneg (hf 0) (Finset.sum_nonneg fun i _ => hf _), ih _ fun i => hf _]

/-- Half the sum of the rows' means is the sum of all entries over twice the width. -/
theorem halves_means {n k : ℕ} (f : Fin n → Fin k → EReal) (hf : ∀ i j, 0 ≤ f i j) :
    weight * ∑ j, ∑ i, f i j = Ideal.ofBits .f32 0x3F000000#32 * ∑ i, Ideal.div (∑ j, f i j) width := by
  simp only [div_width]
  rw [← sum_mul _ fun i => Finset.sum_nonneg fun j _ => hf i j, Finset.sum_comm, constants.1, constants.2.2.1, mul_comm _ (((2048 : ℝ)⁻¹ : ℝ) : EReal),
    ← mul_assoc, ← EReal.coe_mul]
  congr 2
  norm_num

/-- The square's derivative against the mean's, halved. -/
theorem slope_eq (a : EReal) : a * slope = Ideal.div (Ideal.ofBits .f32 0x3F000000#32) width * (Ideal.ofBits .f32 0x40000000#32 * a) := by
  rw [div_width, constants.2.1, constants.2.2.1, constants.2.2.2, ← mul_assoc, ← EReal.coe_mul, ← EReal.coe_mul, mul_comm]
  congr 2
  norm_num

variable (m : (ℓ : Loc nD τ sig) → Buf (Elt Ideal) ℓ) (c : Dev nD)

/-- The four arguments of the call: the rows, the last block's output, the norm's weights and the targets. -/
abbrev xArg : FVec Ideal S8192x2048 .f32 := m ((c : Thread nD τ).loc main_arg0)
abbrev yArg : FVec Ideal S8192x2048 .f32 := m ((c : Thread nD τ).loc main_arg1)
abbrev wArg : FVec Ideal S1x2048 .f32 := m ((c : Thread nD τ).loc main_arg2)
abbrev tArg : FVec Ideal S8192x2048 .f32 := m ((c : Thread nD τ).loc main_arg3)

section
variable (p : grid0.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S512x2048 .f32) (h4 : a4.IsWhole) (a5 : Memref sig .tc .vmem S512x2048 .f32) (h5 : a5.IsWhole) (a6 : Memref sig .tc .vmem S1x128 .f32) (h6 : a6.IsWhole) (a7 : Memref sig .tc .vmem S8x2048 .f32) (h7 : a7.IsWhole)
variable (x y : Vec Ideal S512x2048 .f32) (w : Vec Ideal S1x2048 .f32) (t : Vec Ideal S512x2048 .f32) (acc : Vec Ideal S8x2048 .f32)

/-- The first point's rows. -/
theorem first_rows (hc0 : cond0_0 p) (hc1 : ¬cond0_1 p) :
    out0_A_4 c p a1 h1 a2 h2 a3 h3 a4 h4 a5 h5 a6 h6 a7 h7 hc0 hc1 x y w t = k0_pay3 y x w t := by
  unfold out0_A_4
  rw [View.read_writes_eq_canon _ _ _ (cover0_A_4 c p a1 h1 a2 h2 a3 h3 a4 h4 a5 h5 a6 h6 a7 h7 hc0 hc1 x y w t)]
  unfold kernelRun0_A
  dsimp only
  sl_unfold_words
  rw [View.canon_unit_zero origin]
  simp only [View.readAt_eq_ld, h1.read_unread, h2.read_unread, h3.read_unread, h4.read_unread, h7.read_unread, View.ld_unit_zero (S := S512x2048) origin, View.ld_unit_zero (S := S1x2048) origin, View.ld_unit_zero (S := S8x2048) origin]

/-- A middle point's rows. -/
theorem mid_rows (hc0 : ¬cond0_0 p) (hc1 : ¬cond0_1 p) :
    out0_B_4 c p a1 h1 a2 h2 a3 h3 a4 h4 a5 h5 a6 h6 a7 h7 hc0 hc1 x y w t acc = k0_pay3 y x w t := by
  unfold out0_B_4
  rw [View.read_writes_eq_canon _ _ _ (cover0_B_4 c p a1 h1 a2 h2 a3 h3 a4 h4 a5 h5 a6 h6 a7 h7 hc0 hc1 x y w t acc)]
  unfold kernelRun0_B
  dsimp only
  sl_unfold_words
  rw [View.canon_unit_zero origin]
  simp only [View.readAt_eq_ld, h1.read_unread, h2.read_unread, h3.read_unread, h4.read_unread, h7.read_unread, View.ld_unit_zero (S := S512x2048) origin, View.ld_unit_zero (S := S1x2048) origin, View.ld_unit_zero (S := S8x2048) origin]

/-- The last point's rows. -/
theorem last_rows (hc0 : ¬cond0_0 p) (hc1 : cond0_1 p) :
    out0_C_4 c p a1 h1 a2 h2 a3 h3 a4 h4 a5 h5 a6 h6 a7 h7 hc0 hc1 x y w t acc = k0_pay3 y x w t := by
  unfold out0_C_4
  rw [View.read_writes_eq_canon _ _ _ (cover0_C_4 c p a1 h1 a2 h2 a3 h3 a4 h4 a5 h5 a6 h6 a7 h7 hc0 hc1 x y w t acc)]
  unfold kernelRun0_C
  dsimp only
  sl_unfold_words
  rw [View.canon_unit_zero origin]
  simp only [View.readAt_eq_ld, h1.read_unread, h2.read_unread, h3.read_unread, h4.read_unread, h7.read_unread, View.ld_unit_zero (S := S512x2048) origin, View.ld_unit_zero (S := S1x2048) origin, View.ld_unit_zero (S := S8x2048) origin]

/-- What the first point carries on. -/
theorem first_parts (hc0 : cond0_0 p) (hc1 : ¬cond0_1 p) :
    sout0_A_0 c p a1 h1 a2 h2 a3 h3 a4 h4 a5 h5 a6 h6 a7 h7 hc0 hc1 x y w t = k0_pay5 y x w t (k0_pay4 (F := Ideal)) := by
  unfold sout0_A_0
  rw [View.read_writes_eq_canon _ _ _ (scover0_A_0 c p a1 h1 a2 h2 a3 h3 a4 h4 a5 h5 a6 h6 a7 h7 hc0 hc1 x y w t)]
  unfold kernelRun0_A
  dsimp only
  sl_unfold_words
  rw [View.canon_cons_unit_zero (S := S8x2048) origin, View.readCov_unit_zero (S := S8x2048) _ origin]
  simp only [View.readAt_eq_ld, h1.read_unread, h2.read_unread, h3.read_unread, h4.read_unread, h7.read_unread, View.ld_unit_zero (S := S512x2048) origin, View.ld_unit_zero (S := S1x2048) origin, View.ld_unit_zero (S := S8x2048) origin]

/-- What a middle point carries on. -/
theorem mid_parts (hc0 : ¬cond0_0 p) (hc1 : ¬cond0_1 p) :
    sout0_B_0 c p a1 h1 a2 h2 a3 h3 a4 h4 a5 h5 a6 h6 a7 h7 hc0 hc1 x y w t acc = k0_pay5 y x w t acc := by
  unfold sout0_B_0
  rw [View.read_writes_eq_canon _ _ _ (scover0_B_0 c p a1 h1 a2 h2 a3 h3 a4 h4 a5 h5 a6 h6 a7 h7 hc0 hc1 x y w t acc)]
  unfold kernelRun0_B
  dsimp only
  sl_unfold_words
  rw [View.canon_unit_zero origin]
  simp only [View.readAt_eq_ld, h1.read_unread, h2.read_unread, h3.read_unread, h4.read_unread, h7.read_unread, View.ld_unit_zero (S := S512x2048) origin, View.ld_unit_zero (S := S1x2048) origin, View.ld_unit_zero (S := S8x2048) origin]

/-- What the last point writes of the loss. -/
theorem last_sum (hc0 : ¬cond0_0 p) (hc1 : cond0_1 p) :
    out0_C_5 c p a1 h1 a2 h2 a3 h3 a4 h4 a5 h5 a6 h6 a7 h7 hc0 hc1 x y w t acc = k0_pay1 (k0_pay5 y x w t acc) := by
  unfold out0_C_5
  rw [View.read_writes_eq_canon _ _ _ (cover0_C_5 c p a1 h1 a2 h2 a3 h3 a4 h4 a5 h5 a6 h6 a7 h7 hc0 hc1 x y w t acc)]
  unfold kernelRun0_C
  dsimp only
  sl_unfold_words
  rw [View.canon_unit_zero origin, View.readCov_unit_zero (S := S8x2048) _ origin]
  simp only [View.readAt_eq_ld, h1.read_unread, h2.read_unread, h3.read_unread, h4.read_unread, h7.read_unread, View.ld_unit_zero (S := S512x2048) origin, View.ld_unit_zero (S := S1x2048) origin, View.ld_unit_zero (S := S8x2048) origin]

end

section
variable (x y : FVec Ideal S512x2048 .f32) (w : FVec Ideal S1x2048 .f32) (t : FVec Ideal S512x2048 .f32) (acc : FVec Ideal S8x2048 .f32)

/-- An entry of a point's misses. -/
theorem miss_apply (r : Fin 512) (j : Fin 2048) : k0_pay2 (F := Ideal) y x w t (ix2 r j) = miss (row x r) (row y r) (row w 0) (row t r) j := by
  pointwise [k0_pay2]
  rfl

/-- An entry of a point's rows. -/
theorem rows_apply (r : Fin 512) (j : Fin 2048) : k0_pay3 (F := Ideal) y x w t (ix2 r j) = miss (row x r) (row y r) (row w 0) (row t r) j * slope := by
  pointwise [k0_pay3]
  rw [miss_apply]

/-- An entry of the eight partial sums after one more tile. -/
theorem parts_apply (a : Fin 8) (j : Fin 2048) : k0_pay5 (F := Ideal) y x w t acc (ix2 a j) = acc (ix2 a j)
    + ∑ q : Fin 64, k0_pay2 (F := Ideal) y x w t (ix2 ⟨q.val * 8 + a.val, by omega⟩ j) * k0_pay2 (F := Ideal) y x w t (ix2 ⟨q.val * 8 + a.val, by omega⟩ j) := by
  pointwise [k0_pay5]

/-- The sums start from zero. -/
theorem zero_apply (a : Fin 8) (j : Fin 2048) : k0_pay4 (F := Ideal) (ix2 a j) = 0 := by
  pointwise [k0_pay4]

/-- The partial sums added up. -/
theorem sum_apply (l : Fin 128) : k0_pay1 (F := Ideal) acc (ix2 0 l) = weight * ∑ j, ∑ a, acc (ix2 a j) := by
  rw [Finset.sum_comm]
  pointwise [k0_pay1]
end

/-- The places of a point's blocks. -/
theorem index_in : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

/-- A point's four blocks, at their literal shapes. -/
abbrev xB (t : Fin cfg0.N) : FVec Ideal S512x2048 .f32 := iblk m c 0 t
abbrev yB (t : Fin cfg0.N) : FVec Ideal S512x2048 .f32 := iblk m c 1 t
abbrev wB (t : Fin cfg0.N) : FVec Ideal S1x2048 .f32 := iblk m c 2 t
abbrev tB (t : Fin cfg0.N) : FVec Ideal S512x2048 .f32 := iblk m c 3 t

/-- A row's misses. -/
abbrev misses (x y : FVec Ideal S8192x2048 .f32) (w : FVec Ideal S1x2048 .f32) (t : FVec Ideal S8192x2048 .f32) (i : Fin 8192) : Fin 2048 → EReal :=
  miss (row x i) (row y i) (row w 0) (row t i)

/-- A row's misses in a point's blocks, and in the whole arrays. -/
theorem misses_at (t : Fin cfg0.N) (r : Fin 512) (i : Fin 8192) (hi : i.val = t.val * 512 + r.val) :
    miss (row (xB m c t) r) (row (yB m c t) r) (row (wB m c t) 0) (row (tB m c t) r) = misses (xArg m c) (yArg m c) (wArg m c) (tArg m c) i := by
  obtain ⟨⟨e0, e1⟩, ⟨f0, f1⟩, ⟨g0, g1⟩, q0, q1⟩ := index_in t
  congr 1
  · exact funext fun j => at2 (xArg m c) (by show win0_0.index t (0 : Fin 2) * 512 + 1 * r.val = i.val; omega) (by show win0_0.index t (1 : Fin 2) * 2048 + 1 * j.val = j.val; omega)
  · exact funext fun j => at2 (yArg m c) (by show win0_1.index t (0 : Fin 2) * 512 + 1 * r.val = i.val; omega) (by show win0_1.index t (1 : Fin 2) * 2048 + 1 * j.val = j.val; omega)
  · exact funext fun j => at2 (wArg m c) (by show win0_2.index t (0 : Fin 2) * 1 + 1 * 0 = 0; omega) (by show win0_2.index t (1 : Fin 2) * 2048 + 1 * j.val = j.val; omega)
  · exact funext fun j => at2 (tArg m c) (by show win0_3.index t (0 : Fin 2) * 512 + 1 * r.val = i.val; omega) (by show win0_3.index t (1 : Fin 2) * 2048 + 1 * j.val = j.val; omega)

/-- Every point writes its rows. -/
theorem outs_rows (t : Fin cfg0.N) : (outsAt0 m c t.val t.isLt).1 = k0_pay3 (F := Ideal) (yB m c t) (xB m c t) (wB m c t) (tB m c t) := by
  by_cases h0 : t.val % 16 = 0
  · rw [outsAt0_A m c t h0 (by omega)]; dsimp only; rw [first_rows]
  · by_cases h1 : t.val % 16 = 15
    · rw [outsAt0_C m c t h0 h1]; dsimp only; rw [last_rows]
    · rw [outsAt0_B m c t h0 h1]; dsimp only; rw [mid_rows]

/-- An entry of the kernel's rows. -/
theorem rows_at (i : Fin 8192) (j : Fin 2048) :
    (G4 m c : FVec Ideal S8192x2048 .f32) (ix2 i j) = misses (xArg m c) (yArg m c) (wArg m c) (tArg m c) i j * slope := by
  have hp : pt4Of (ix2 i j) = i.val / 512 := by
    show 1 * (i.val / 512 - 0) + 1 * (j.val / 2048 - 0) = _
    omega
  have hN : pt4Of (ix2 i j) < cfg0.N := lt_of_lt_of_eq (by rw [hp]; omega : _ < 16) N_0.symm
  have hl : loc4Of (ix2 i j) = ix2 (⟨i.val % 512, by omega⟩ : Fin 512) j :=
    funext fun d => Fin.ext (match d with | ⟨0, _⟩ => rfl | ⟨1, _⟩ => Nat.mod_eq_of_lt j.isLt)
  unfold G4
  rw [dif_pos hN, ← outsAt0_sweep m c _ hN, hl, outs_rows m c ⟨_, hN⟩, rows_apply, misses_at m c _ _ i]
  dsimp only
  omega

/-- The kernel's loss. -/
theorem sum_at (l : Fin 128) : (G5 m c : FVec Ideal S1x128 .f32) (ix2 0 l)
    = weight * ∑ j, ∑ i, misses (xArg m c) (yArg m c) (wArg m c) (tArg m c) i j * misses (xArg m c) (yArg m c) (wArg m c) (tArg m c) i j := by
  have hN : 15 < cfg0.N := lt_of_lt_of_eq (by decide) N_0.symm
  have hT : 8192 = cfg0.N * (64 * 8) := by rw [show cfg0.N = 16 from N_0]
  rw [G5_last, ← outsAt0_sweep m c 15 hN]
  rw [outsAt0_C m c ⟨15, hN⟩ (by dsimp only; omega) rfl]
  dsimp only
  rw [last_sum, sum_apply]
  refine congrArg (weight * ·) (Finset.sum_congr rfl fun j _ => ?_)
  refine column_total hT (fun i => misses (xArg m c) (yArg m c) (wArg m c) (tArg m c) i j * misses (xArg m c) (yArg m c) (wArg m c) (tArg m c) i j)
    (fun t a => k0_pay5 (F := Ideal) (yB m c t) (xB m c t) (wB m c t) (tB m c t) (if t.val % 16 = 0 then k0_pay4 (F := Ideal) else (outsAt0 m c (t.val - 1) (Nat.lt_of_le_of_lt (Nat.sub_le _ _) t.isLt)).2.2) (ix2 a j))
    (fun t a => ∑ q : Fin 64, k0_pay2 (F := Ideal) (yB m c t) (xB m c t) (wB m c t) (tB m c t) (ix2 ⟨q.val * 8 + a.val, by omega⟩ j) * k0_pay2 (F := Ideal) (yB m c t) (xB m c t) (wB m c t) (tB m c t) (ix2 ⟨q.val * 8 + a.val, by omega⟩ j))
    ?_ ?_ ?_ ⟨15, hN⟩ (by have := show cfg0.N = 16 from N_0; dsimp only; omega)
  · intro t a k hk
    refine Finset.sum_congr rfl fun q _ => ?_
    rw [miss_apply, misses_at m c t _ (k q) (by rw [hk])]
  · intro t ht a
    rw [if_pos (by omega), parts_apply, zero_apply, zero_add]
  · intro t ht a
    have h16 := lt_of_lt_of_eq t.isLt (show cfg0.N = 16 from N_0)
    rw [if_neg (by omega), parts_apply]
    refine congrArg (· + _) ?_
    by_cases h0 : (t.val - 1) % 16 = 0
    · rw [if_pos h0, outsAt0_A m c ⟨t.val - 1, by omega⟩ h0 (by dsimp only; omega)]
      dsimp only
      rw [first_parts]
    · rw [if_neg h0, outsAt0_B m c ⟨t.val - 1, by omega⟩ h0 (by dsimp only; omega)]
      dsimp only
      rw [mid_parts]

section
open Cert.LossReferenceIdeal.Read
variable (x y : FVec Ideal S8192x2048 .f32) (w : FVec Ideal S1x2048 .f32) (t : FVec Ideal S8192x2048 .f32)

/-- The reference's misses. -/
theorem reference_miss (i : Fin 8192) (j : Fin 2048) : val_main_v13 (F := Ideal) x y w t (ix2 i j) = misses x y w t i j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- An entry of the reference's gradient of the rows. -/
theorem reference_rows (i : Fin 8192) (j : Fin 2048) : val_main_v27 (F := Ideal) x y w t (ix2 i j) = misses x y w t i j * slope := by
  rw [slope_eq]
  pointwise [val_main_v27, val_main_v26, val_main_v25, val_main_v24, val_main_v23, val_main_v22, val_main_v16, val_main_v15, val_main_cst_2, val_main_cst_7, val_main_cst_8, val_main_cst_9]
  rw [reference_miss]

/-- The reference's loss. -/
theorem reference_sum (l : Fin 128) : val_main_v28 (F := Ideal) x y w t (ix2 0 l)
    = weight * ∑ j, ∑ i, misses x y w t i j * misses x y w t i j := by
  rw [halves_means (fun i j => misses x y w t i j * misses x y w t i j) fun i j => self_nonneg _]
  pointwise [val_main_v28, val_main_v21, val_main_v20, val_main_v19, val_main_v18, val_main_v17, val_main_v14, val_main_cst_3, val_main_cst_4, val_main_cst_5, val_main_cst_6]
  simp only [reference_miss]
end

/-- The two programs' gradients of the rows are the same. -/
theorem rows_equal : G4 m c = Cert.LossReferenceIdeal.Read.val_main_v27 (F := Ideal) (xArg m c) (yArg m c) (wArg m c) (tArg m c) :=
  ext2 fun i j => (rows_at m c i j).trans (reference_rows _ _ _ _ i j).symm

/-- The two programs' losses are the same. -/
theorem sum_equal : G5 m c = Cert.LossReferenceIdeal.Read.val_main_v28 (F := Ideal) (xArg m c) (yArg m c) (wArg m c) (tArg m c) :=
  ext2 fun i j => by
    obtain rfl : i = 0 := Subsingleton.elim _ _
    exact (sum_at m c j).trans (reference_sum _ _ _ _ j).symm

end Cert.Nm.Loss

end
-- ==== Proof.MgClaims.lean ====
/-
  The claims of the merge's backward, the pooled attention and the loss: each kernel keeps its arguments and ends, and its arrays are the reference's.
-/
module

public import proofs.«01_k».proof.Defs
public import proofs.«01_k».proof.Proof.Gen.MergeBwd
public import proofs.«01_k».proof.Proof.MgBwd
public import proofs.«01_k».proof.Proof.Gen.XaFwd
public import proofs.«01_k».proof.Proof.XfOut
public import proofs.«01_k».proof.Proof.Gen.Loss
public import proofs.«01_k».proof.Proof.NmLoss
public import Idealize.ShloMosaic.Adequacy
public import Idealize.ShloMosaic.Init

@[expose] public section

noncomputable section

open Idealize.ShloMosaic Idealize.SL.Sem

namespace Cert.Mg

/-- The kernel's two texts have the same definitions. -/
theorem defs_eq {F : FTy → Type} [FloatOps F] : Cert.MergeBwd.defs (F := F) = Cert.MergeBwdIdeal.defs (F := F) := by
  unfold Cert.MergeBwd.defs Cert.MergeBwdIdeal.defs
  rw [show Cert.MergeBwd.defs₀ (F := F) = Cert.MergeBwdIdeal.defs₀ from congrArg Defs.onTc (funext₂ fun | ⟨0, _⟩, (_, _) => rfl)]
  rfl

/-- The kernel keeps its arguments and ends. -/
theorem frame : Cert.quiescent_MergeBwd := fun m ρ _ => by
  rw [defs_eq]
  exact Cert.MergeBwdIdeal.Gen.frame (F := Bits) m ρ

/-- The same over the extended reals. -/
theorem frameIdeal : Cert.quiescent_MergeBwdIdeal := fun m ρ _ => Cert.MergeBwdIdeal.Gen.frame m ρ

/-- The reference keeps its arguments and ends. -/
theorem frameReference : Cert.quiescent_MergeBwdReferenceIdeal := fun m ρ _ =>
  (θ_run Cert.MergeBwdReferenceIdeal.defs _ _).mono (fun r h => ⟨fun c => (h c).2.2.2.2, sem_eq_zero_of_no_sems (by decide) r.2⟩)
    (Cert.MergeBwdReferenceIdeal.Value.run m ρ)

/-- The kernel's results are the reference's. -/
theorem algebraic : Cert.algebraic_MergeBwdIdeal_MergeBwdReferenceIdeal := fun m ρ m' ρ' _ hag =>
  ⟨fun c => (Cert.MergeBwdIdeal.Gen.dats m 0 c).arrAt 5 Cert.MergeBwdIdeal.cfg0.N, fun c => (Cert.MergeBwdIdeal.Gen.dats m 0 c).arrAt 6 Cert.MergeBwdIdeal.cfg0.N, fun c => (Cert.MergeBwdIdeal.Gen.dats m 0 c).arrAt 7 Cert.MergeBwdIdeal.cfg0.N, fun c => (Cert.MergeBwdIdeal.Gen.dats m 0 c).arrAt 8 Cert.MergeBwdIdeal.cfg0.N, Cert.MergeBwdIdeal.Value.run_blocks m ρ,
    (θ_run Cert.MergeBwdReferenceIdeal.defs _ _).mono (fun _ h c =>
      ⟨(h c).1.trans (by
          rw [Cert.MergeBwdReferenceIdeal.Read.val_main_v34_eq, (hag c).1, (hag c).2.2.2]
          exact (branch_a_equal m c).symm),
        (h c).2.1.trans (by
          rw [Cert.MergeBwdReferenceIdeal.Read.val_main_v35_eq, (hag c).1, (hag c).2.2.2]
          exact (branch_b_equal m c).symm),
        (h c).2.2.1.trans (by
          rw [Cert.MergeBwdReferenceIdeal.Read.val_main_v36_eq, (hag c).1, (hag c).2.1, (hag c).2.2.2]
          exact (gate_a_equal m c).symm),
        (h c).2.2.2.1.trans (by
          rw [Cert.MergeBwdReferenceIdeal.Read.val_main_v37_eq, (hag c).1, (hag c).2.2.1, (hag c).2.2.2]
          exact (gate_b_equal m c).symm),
        (h c).2.2.2.2⟩) (Cert.MergeBwdReferenceIdeal.Value.run m' ρ')⟩

end Cert.Mg

namespace Cert.Xf

/-- The kernel's two texts have the same definitions. -/
theorem defs_eq {F : FTy → Type} [FloatOps F] : Cert.XaFwd.defs (F := F) = Cert.XaFwdIdeal.defs (F := F) := by
  unfold Cert.XaFwd.defs Cert.XaFwdIdeal.defs
  rw [show Cert.XaFwd.defs₀ (F := F) = Cert.XaFwdIdeal.defs₀ from congrArg Defs.onTc (funext₂ fun | ⟨0, _⟩, (_, _) => rfl)]
  rfl

/-- The kernel keeps its arguments and ends. -/
theorem frame : Cert.quiescent_XaFwd := fun m ρ _ => by
  rw [defs_eq]
  exact Cert.XaFwdIdeal.Gen.frame (F := Bits) m ρ

/-- The same over the extended reals. -/
theorem frameIdeal : Cert.quiescent_XaFwdIdeal := fun m ρ _ => Cert.XaFwdIdeal.Gen.frame m ρ

/-- The reference keeps its arguments and ends. -/
theorem frameReference : Cert.quiescent_XaFwdReferenceIdeal := fun m ρ _ =>
  (θ_run Cert.XaFwdReferenceIdeal.defs _ _).mono (fun r h => ⟨fun c => (h c).2, sem_eq_zero_of_no_sems (by decide) r.2⟩)
    (Cert.XaFwdReferenceIdeal.Value.run m ρ)

/-- The kernel's results are the reference's. -/
theorem algebraic : Cert.algebraic_XaFwdIdeal_XaFwdReferenceIdeal := fun m ρ m' ρ' _ hag =>
  ⟨fun c => (Cert.XaFwdIdeal.Gen.dats m 0 c).arrAt 3 Cert.XaFwdIdeal.cfg0.N, Cert.XaFwdIdeal.Value.run_blocks m ρ,
    (θ_run Cert.XaFwdReferenceIdeal.defs _ _).mono (fun _ h c =>
      ⟨(h c).1.trans (by
          rw [Cert.XaFwdReferenceIdeal.Read.val_main_v24_eq, (hag c).1, (hag c).2]
          exact (equal m c).symm),
        (h c).2⟩) (Cert.XaFwdReferenceIdeal.Value.run m' ρ')⟩

end Cert.Xf

namespace Cert.Nm.Loss

/-- The kernel's two texts have the same definitions. -/
theorem defs_eq {F : FTy → Type} [FloatOps F] : Cert.Loss.defs (F := F) = Cert.LossIdeal.defs (F := F) := by
  unfold Cert.Loss.defs Cert.LossIdeal.defs
  rw [show Cert.Loss.defs₀ (F := F) = Cert.LossIdeal.defs₀ from congrArg Defs.onTc (funext₂ fun | ⟨0, _⟩, (_, _) => rfl)]
  rfl

/-- The kernel keeps its arguments and ends. -/
theorem frame : Cert.quiescent_Loss := fun m ρ _ => by
  rw [defs_eq]
  exact Cert.LossIdeal.Gen.frame (F := Bits) m ρ

/-- The same over the extended reals. -/
theorem frameIdeal : Cert.quiescent_LossIdeal := fun m ρ _ => Cert.LossIdeal.Gen.frame m ρ

/-- The reference keeps its arguments and ends. -/
theorem frameReference : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run m ρ)

/-- The kernel's results are the reference's. -/
theorem algebraic : Cert.algebraic_LossIdeal_LossReferenceIdeal := fun m ρ m' ρ' _ hag =>
  ⟨fun c => Cert.LossIdeal.Value.G4 m c, fun c => Cert.LossIdeal.Value.G5 m c, Cert.LossIdeal.Value.run m ρ,
    (θ_run Cert.LossReferenceIdeal.defs _ _).mono (fun _ h c =>
      ⟨(h c).1.trans (by
          rw [Cert.LossReferenceIdeal.Read.val_main_v27_eq, (hag c).1, (hag c).2.1, (hag c).2.2.1, (hag c).2.2.2]
          exact (rows_equal m c).symm),
        (h c).2.1.trans (by
          rw [Cert.LossReferenceIdeal.Read.val_main_v28_eq, (hag c).1, (hag c).2.1, (hag c).2.2.1, (hag c).2.2.2]
          exact (sum_equal m c).symm),
        (h c).2.2⟩) (Cert.LossReferenceIdeal.Value.run m' ρ')⟩

end Cert.Nm.Loss

end
-- ==== Proof.NmFwd.lean ====
/-
  The norms of the forward pass: the kernels' arrays and the reference's, entry by entry.
-/
module

public import proofs.«01_k».proof.Proof.Gen.PrenormIdeal.Value
public import proofs.«01_k».proof.Proof.Gen.PrenormReferenceIdeal.Read
public import proofs.«01_k».proof.Proof.Gen.PostPreIdeal.Value
public import proofs.«01_k».proof.Proof.Gen.PostPreReferenceIdeal.Read
public import proofs.«01_k».proof.Proof.XaCases
public import proofs.«01_k».proof.Proof.NmRow
public import proofs.«01_k».proof.Proof.AdStep

@[expose] public section

set_option maxRecDepth 16384

noncomputable section

open Idealize.ShloMosaic Idealize.ShloMosaic.TcCoe Idealize.SL.Sem
open Idealize.ShloMosaic.Pipeline (Dat)
open Cert.Xa (origin)
open Cert.Pr (at2)
open Cert.Ad (whole)

/-- An entry of a row's norm, and of a row to which another row's norm is added. -/
def Cert.Nm.normal {n : ℕ} (x w : Fin n → EReal) (j : Fin n) : EReal := x j * Cert.Nm.scale x * w j
def Cert.Nm.added {n : ℕ} (x y w : Fin n → EReal) (j : Fin n) : EReal := x j + Cert.Nm.normal y w j

namespace Cert.Nm.Pre

open Cert.PrenormIdeal Cert.PrenormIdeal.Gen Cert.PrenormIdeal.Value

variable (m : (ℓ : Loc nD τ sig) → Buf (Elt Ideal) ℓ) (c : Dev nD)

/-- The two arguments of the call: the rows and the norm's weights. -/
abbrev xArg : FVec Ideal S8192x2048 .f32 := m ((c : Thread nD τ).loc main_arg0)
abbrev wArg : FVec Ideal S1x2048 .f32 := m ((c : Thread nD τ).loc main_arg1)

/-- An entry of what a point writes. -/
theorem out_apply (x : FVec Ideal S512x2048 .f32) (w : FVec Ideal S1x2048 .f32) (r : Fin 512) (j : Fin 2048) :
    out0_2 (F := Ideal) x w (ix2 r j) = normal (row x r) (row w 0) j := by
  unfold out0_2
  rw [View.canon_unit_zero origin]
  simp only [View.ld_unit_zero (S := S512x2048) origin, View.ld_unit_zero (S := S1x2048) origin]
  pointwise [k0_pay1]
  rfl

/-- An entry of the reference's rows. -/
theorem reference_apply (x : FVec Ideal S8192x2048 .f32) (w : FVec Ideal S1x2048 .f32) (i : Fin 8192) (j : Fin 2048) :
    Cert.PrenormReferenceIdeal.Read.val_main_v12 (F := Ideal) x w (ix2 i j) = normal (row x i) (row w 0) j := by
  open Cert.PrenormReferenceIdeal.Read in
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The places of a point's blocks and of the tile that it writes. -/
theorem index_at : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0 ∧ win0_2.flush t = true) :=
  (by decide +kernel : ∀ t : Fin grid0.N, _)

/-- The points' tiles make up the rows. -/
theorem rows : cfg0.N * 512 = 8192 := by rw [show cfg0.N = 16 from N_0]

/-- The two programs' arrays are the same. -/
theorem equal : (dats m 0 c).arrAt 2 cfg0.N = Cert.PrenormReferenceIdeal.Read.val_main_v12 (F := Ideal) (xArg m c) (wArg m c) :=
  whole rows (fun t => out0_2 (iblk m c 0 t) (iblk m c 1 t)) fun t a i j hi => by
    obtain ⟨⟨p0, p1⟩, ⟨q0, q1⟩, e0, e1, hf⟩ := index_at t
    refine ⟨(at2 ((dats m 0 c).arrAt 2 cfg0.N : FVec Ideal S8192x2048 .bf16) ?_ ?_).trans ((congrFun (blocks2 m c t hf) (ix2 a j)).trans (congrFun (flushed2 m c t) _)), ?_⟩
    · show i.val = win0_2.index t (0 : Fin 2) * 512 + 1 * a.val; omega
    · show j.val = win0_2.index t (1 : Fin 2) * 2048 + 1 * j.val; omega
    · refine (out_apply _ _ a j).trans (Eq.trans ?_ (reference_apply _ _ i j).symm)
      congr 1
      · exact funext fun j => at2 (xArg m c) (by show win0_0.index t (0 : Fin 2) * 512 + 1 * a.val = i.val; omega) (by show win0_0.index t (1 : Fin 2) * 2048 + 1 * j.val = j.val; omega)
      · exact funext fun j => at2 (wArg m c) (by show win0_1.index t (0 : Fin 2) * 1 + 1 * 0 = 0; omega) (by show win0_1.index t (1 : Fin 2) * 2048 + 1 * j.val = j.val; omega)

end Cert.Nm.Pre

namespace Cert.Nm.Post

open Cert.PostPreIdeal Cert.PostPreIdeal.Gen Cert.PostPreIdeal.Value

variable (m : (ℓ : Loc nD τ sig) → Buf (Elt Ideal) ℓ) (c : Dev nD)

/-- The four arguments of the call: the rows, the block's output, and the two norms' weights. -/
abbrev xArg : FVec Ideal S8192x2048 .f32 := m ((c : Thread nD τ).loc main_arg0)
abbrev yArg : FVec Ideal S8192x2048 .f32 := m ((c : Thread nD τ).loc main_arg1)
abbrev wArg : FVec Ideal S1x2048 .f32 := m ((c : Thread nD τ).loc main_arg2)
abbrev uArg : FVec Ideal S1x2048 .f32 := m ((c : Thread nD τ).loc main_arg3)

section
variable (x y : FVec Ideal S512x2048 .f32) (w u : FVec Ideal S1x2048 .f32) (r : Fin 512) (j : Fin 2048)

theorem pay_apply : k0_pay1 (F := Ideal) y x w (ix2 r j) = added (row x r) (row y r) (row w 0) j := by
  pointwise [k0_pay1]
  rfl

/-- An entry of what a point writes of the rows, and of their norm. -/
theorem sum_apply : out0_4 (F := Ideal) x y w u (ix2 r j) = added (row x r) (row y r) (row w 0) j := by
  unfold out0_4
  rw [View.canon_unit_zero origin]
  simp only [View.ld_unit_zero (S := S512x2048) origin, View.ld_unit_zero (S := S1x2048) origin]
  exact pay_apply x y w r j

theorem norm_apply : out0_5 (F := Ideal) x y w u (ix2 r j) = normal (added (row x r) (row y r) (row w 0)) (row u 0) j := by
  unfold out0_5
  rw [View.canon_unit_zero origin]
  simp only [View.ld_unit_zero (S := S512x2048) origin, View.ld_unit_zero (S := S1x2048) origin]
  pointwise [k0_pay2]
  simp only [pay_apply]
  rfl
end

section
open Cert.PostPreReferenceIdeal.Read
variable (x y : FVec Ideal S8192x2048 .f32) (w u : FVec Ideal S1x2048 .f32) (i : Fin 8192) (j : Fin 2048)

/-- An entry of the reference's rows, and of their norm. -/
theorem reference_sum : val_main_v12 (F := Ideal) x y w (ix2 i j) = added (row x i) (row y i) (row w 0) j := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem reference_norm : val_main_v25 (F := Ideal) x y w u (ix2 i j) = normal (added (row x i) (row y i) (row w 0)) (row u 0) j := by
  pointwise [val_main_v25, val_main_v24, val_main_v23, val_main_v22, val_main_v21, val_main_v20, val_main_v19, val_main_v18, val_main_v17, val_main_v16, val_main_v15, val_main_v14, val_main_v13, val_main_cst_2, val_main_cst_3, val_main_cst_4]
  simp only [reference_sum]
  rfl
end

/-- The places of a point's blocks and of the tiles that it writes. -/
theorem index_at : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true) :=
  (by decide +kernel : ∀ t : Fin grid0.N, _)

/-- The points' tiles make up the rows. -/
theorem rows : cfg0.N * 512 = 8192 := by rw [show cfg0.N = 16 from N_0]

/-- The rows of a point's four blocks, in the whole arrays. -/
theorem block_at (t : Fin cfg0.N) (a : Fin 512) (i : Fin 8192) (hi : i.val = t.val * 512 + a.val) :
    row (iblk m c 0 t : FVec Ideal S512x2048 .f32) a = row (xArg m c) i ∧ row (iblk m c 1 t : FVec Ideal S512x2048 .f32) a = row (yArg m c) i
    ∧ row (iblk m c 2 t : FVec Ideal S1x2048 .f32) 0 = row (wArg m c) 0 ∧ row (iblk m c 3 t : FVec Ideal S1x2048 .f32) 0 = row (uArg m c) 0 := by
  obtain ⟨⟨p0, p1⟩, ⟨q0, q1⟩, ⟨r0, r1⟩, ⟨s0, s1⟩, -⟩ := index_at t
  exact ⟨funext fun j => at2 (xArg m c) (by show win0_0.index t (0 : Fin 2) * 512 + 1 * a.val = i.val; omega) (by show win0_0.index t (1 : Fin 2) * 2048 + 1 * j.val = j.val; omega),
    funext fun j => at2 (yArg m c) (by show win0_1.index t (0 : Fin 2) * 512 + 1 * a.val = i.val; omega) (by show win0_1.index t (1 : Fin 2) * 2048 + 1 * j.val = j.val; omega),
    funext fun j => at2 (wArg m c) (by show win0_2.index t (0 : Fin 2) * 1 + 1 * 0 = 0; omega) (by show win0_2.index t (1 : Fin 2) * 2048 + 1 * j.val = j.val; omega),
    funext fun j => at2 (uArg m c) (by show win0_3.index t (0 : Fin 2) * 1 + 1 * 0 = 0; omega) (by show win0_3.index t (1 : Fin 2) * 2048 + 1 * j.val = j.val; omega)⟩

/-- The two programs' arrays are the same. -/
theorem sum_equal : (dats m 0 c).arrAt 4 cfg0.N = Cert.PostPreReferenceIdeal.Read.val_main_v12 (F := Ideal) (xArg m c) (yArg m c) (wArg m c) :=
  whole rows (fun t => out0_4 (iblk m c 0 t) (iblk m c 1 t) (iblk m c 2 t) (iblk m c 3 t)) fun t a i j hi => by
    obtain ⟨-, -, -, -, ⟨e0, e1, hf⟩, -⟩ := index_at t
    obtain ⟨h0, h1, h2, -⟩ := block_at m c t a i hi
    refine ⟨(at2 ((dats m 0 c).arrAt 4 cfg0.N : FVec Ideal S8192x2048 .f32) ?_ ?_).trans ((congrFun (blocks4 m c t hf) (ix2 a j)).trans (congrFun (flushed4 m c t) _)), ?_⟩
    · show i.val = win0_4.index t (0 : Fin 2) * 512 + 1 * a.val; omega
    · show j.val = win0_4.index t (1 : Fin 2) * 2048 + 1 * j.val; omega
    · refine (sum_apply _ _ _ _ a j).trans (Eq.trans ?_ (reference_sum _ _ _ i j).symm)
      rw [h0, h1, h2]

theorem norm_equal : (dats m 0 c).arrAt 5 cfg0.N = Cert.PostPreReferenceIdeal.Read.val_main_v25 (F := Ideal) (xArg m c) (yArg m c) (wArg m c) (uArg m c) :=
  whole rows (fun t => out0_5 (iblk m c 0 t) (iblk m c 1 t) (iblk m c 2 t) (iblk m c 3 t)) fun t a i j hi => by
    obtain ⟨-, -, -, -, -, e0, e1, hf⟩ := index_at t
    obtain ⟨h0, h1, h2, h3⟩ := block_at m c t a i hi
    refine ⟨(at2 ((dats m 0 c).arrAt 5 cfg0.N : FVec Ideal S8192x2048 .bf16) ?_ ?_).trans ((congrFun (blocks5 m c t hf) (ix2 a j)).trans (congrFun (flushed5 m c t) _)), ?_⟩
    · show i.val = win0_5.index t (0 : Fin 2) * 512 + 1 * a.val; omega
    · show j.val = win0_5.index t (1 : Fin 2) * 2048 + 1 * j.val; omega
    · refine (norm_apply _ _ _ _ a j).trans (Eq.trans ?_ (reference_norm _ _ _ _ i j).symm)
      rw [h0, h1, h2, h3]

end Cert.Nm.Post

end
-- ==== Proof.MgFwd.lean ====
/-
  The gated merge of the two branches: the kernel's array and the reference's, entry by entry.
-/
module

public import proofs.«01_k».proof.Proof.Gen.MergeIdeal.Value
public import proofs.«01_k».proof.Proof.Gen.MergeReferenceIdeal.Read
public import proofs.«01_k».proof.Proof.MgBwd

@[expose] public section

set_option maxRecDepth 16384

noncomputable section

open Idealize.ShloMosaic Idealize.ShloMosaic.TcCoe Idealize.SL.Sem
open Idealize.ShloMosaic.Pipeline (Dat)
open Cert.Xa (origin)
open Cert.Pr (at2)
open Cert.Ad (whole)

namespace Cert.Mg.Fwd

open Cert.MergeIdeal Cert.MergeIdeal.Gen Cert.MergeIdeal.Value

variable (m : (ℓ : Loc nD τ sig) → Buf (Elt Ideal) ℓ) (c : Dev nD)

/-- The three arguments of the call: the projected rows and the two branches. -/
abbrev pArg : FVec Ideal S8192x13824 .bf16 := m ((c : Thread nD τ).loc main_arg0)
abbrev aArg : FVec Ideal S8192x2048 .bf16 := m ((c : Thread nD τ).loc main_arg1)
abbrev bArg : FVec Ideal S8192x2048 .bf16 := m ((c : Thread nD τ).loc main_arg2)

/-- An entry of the merged rows, from the two gates and the two branches. -/
def merged (x y a b : EReal) : EReal := gate x * a + gate y * b

/-- An entry of what a point writes. -/
theorem pay_apply (x y a b : FVec Ideal S512x2048 .bf16) (r : Fin 512) (j : Fin 2048) :
    k0_pay1 (F := Ideal) x a y b (ix2 r j) = merged (x (ix2 r j)) (y (ix2 r j)) (a (ix2 r j)) (b (ix2 r j)) := by
  pointwise [k0_pay1]
  simp only [zero_sub]
  rfl

/-- What a point writes. -/
theorem out_merged (p : grid0.Coords) (a1 : Memref sig .tc .vmem S512x2048 .bf16) (h1 : a1.IsWhole) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S512x2048 .bf16) (h5 : a5.IsWhole)
    (x y a b : Vec Ideal S512x2048 .bf16) : out0_A_4 c p a1 h1 a2 h2 a3 h3 a4 h4 a5 h5 x y a b = k0_pay1 (F := Ideal) x a y b := by
  unfold out0_A_4
  rw [View.read_writes_eq_canon _ _ _ (cover0_A_4 c p a1 h1 a2 h2 a3 h3 a4 h4 a5 h5 x y a b)]
  unfold kernelRun0_A
  dsimp only
  sl_unfold_words
  rw [View.canon_unit_zero origin]
  simp only [View.readAt_eq_ld, h1.read_unread, h2.read_unread, h3.read_unread, h4.read_unread, View.ld_unit_zero (S := S512x2048) origin]

/-- An entry of the reference's rows. -/
theorem reference_apply (p : FVec Ideal S8192x13824 .bf16) (x y : FVec Ideal S8192x2048 .bf16) (i : Fin 8192) (j : Fin 2048) :
    Cert.MergeReferenceIdeal.Read.val_main_v21 (F := Ideal) p x y (ix2 i j) = merged (ga p i j) (gb p i j) (x (ix2 i j)) (y (ix2 i j)) := by
  open Cert.MergeReferenceIdeal.Read in
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The places of a point's blocks and of the tile that it writes. -/
theorem index_at : ∀ t : Fin cfg0.N, (win0_0.index t (0 : Fin 2) = t.val ∧ win0_0.index t (1 : Fin 2) = 4)
    ∧ (win0_1.index t (0 : Fin 2) = t.val ∧ win0_1.index t (1 : Fin 2) = 5)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true) :=
  (by decide +kernel : ∀ t : Fin grid0.N, _)

/-- The points' tiles make up the rows. -/
theorem rows : cfg0.N * 512 = 8192 := by rw [show cfg0.N = 16 from N_0]

/-- A point's four blocks, at their literal shapes. -/
abbrev gaB (t : Fin cfg0.N) : FVec Ideal S512x2048 .bf16 := X0_0 m c t
abbrev gbB (t : Fin cfg0.N) : FVec Ideal S512x2048 .bf16 := X0_1 m c t
abbrev aB (t : Fin cfg0.N) : FVec Ideal S512x2048 .bf16 := iblk m c 2 t
abbrev bB (t : Fin cfg0.N) : FVec Ideal S512x2048 .bf16 := iblk m c 3 t

/-- The two programs' arrays are the same. -/
theorem equal : (dats m 0 c).arrAt 4 cfg0.N = Cert.MergeReferenceIdeal.Read.val_main_v21 (F := Ideal) (pArg m c) (aArg m c) (bArg m c) :=
  whole rows (fun t => k0_pay1 (F := Ideal) (gaB m c t) (aB m c t) (gbB m c t) (bB m c t)) fun t a i j hi => by
    obtain ⟨⟨p0, p1⟩, ⟨q0, q1⟩, ⟨r0, r1⟩, ⟨s0, s1⟩, e0, e1, hf⟩ := index_at t
    refine ⟨(at2 ((dats m 0 c).arrAt 4 cfg0.N : FVec Ideal S8192x2048 .bf16) ?_ ?_).trans ((congrFun (blocks4 m c t hf) (ix2 a j)).trans ((congrFun (flushed4_A m c t) _).trans (congrFun (out_merged c ..) (ix2 a j)))), ?_⟩
    · show i.val = win0_4.index t (0 : Fin 2) * 512 + 1 * a.val; omega
    · show j.val = win0_4.index t (1 : Fin 2) * 2048 + 1 * j.val; omega
    · refine (pay_apply _ _ _ _ a j).trans (Eq.trans ?_ (reference_apply _ _ _ i j).symm)
      congr 1
      · show X0_0 m c t (ix2 a j) = _
        unfold X0_0 Pipeline.Window.fill
        rw [dif_pos (moved0_0 t _)]
        exact at2 (pArg m c) (by show win0_0.index t (0 : Fin 2) * 512 + 1 * a.val = i.val; omega) (by show win0_0.index t (1 : Fin 2) * 2048 + 1 * j.val = 8192 + j.val; omega)
      · show X0_1 m c t (ix2 a j) = _
        unfold X0_1 Pipeline.Window.fill
        rw [dif_pos (moved0_1 t _)]
        exact at2 (pArg m c) (by show win0_1.index t (0 : Fin 2) * 512 + 1 * a.val = i.val; omega) (by show win0_1.index t (1 : Fin 2) * 2048 + 1 * j.val = 10240 + j.val; omega)
      · exact at2 (aArg m c) (by show win0_2.index t (0 : Fin 2) * 512 + 1 * a.val = i.val; omega) (by show win0_2.index t (1 : Fin 2) * 2048 + 1 * j.val = j.val; omega)
      · exact at2 (bArg m c) (by show win0_3.index t (0 : Fin 2) * 512 + 1 * a.val = i.val; omega) (by show win0_3.index t (1 : Fin 2) * 2048 + 1 * j.val = j.val; omega)

end Cert.Mg.Fwd

end
-- ==== Proof.FwClaims.lean ====
/-
  The claims of the forward norms and the forward merge: each kernel keeps its arguments and ends, and its arrays are the reference's.
-/
module

public import proofs.«01_k».proof.Defs
public import proofs.«01_k».proof.Proof.Gen.Prenorm
public import proofs.«01_k».proof.Proof.NmFwd
public import proofs.«01_k».proof.Proof.Gen.PostPre
public import proofs.«01_k».proof.Proof.Gen.Merge
public import proofs.«01_k».proof.Proof.MgFwd
public import Idealize.ShloMosaic.Adequacy
public import Idealize.ShloMosaic.Init

@[expose] public section

noncomputable section

open Idealize.ShloMosaic Idealize.SL.Sem

namespace Cert.Nm.Pre

/-- The kernel's two texts have the same definitions. -/
theorem defs_eq {F : FTy → Type} [FloatOps F] : Cert.Prenorm.defs (F := F) = Cert.PrenormIdeal.defs (F := F) := by
  unfold Cert.Prenorm.defs Cert.PrenormIdeal.defs
  rw [show Cert.Prenorm.defs₀ (F := F) = Cert.PrenormIdeal.defs₀ from congrArg Defs.onTc (funext₂ fun | ⟨0, _⟩, (_, _) => rfl)]
  rfl

/-- The kernel keeps its arguments and ends. -/
theorem frame : Cert.quiescent_Prenorm := fun m ρ _ => by
  rw [defs_eq]
  exact Cert.PrenormIdeal.Gen.frame (F := Bits) m ρ

/-- The same over the extended reals. -/
theorem frameIdeal : Cert.quiescent_PrenormIdeal := fun m ρ _ => Cert.PrenormIdeal.Gen.frame m ρ

/-- The reference keeps its arguments and ends. -/
theorem frameReference : Cert.quiescent_PrenormReferenceIdeal := fun m ρ _ =>
  (θ_run Cert.PrenormReferenceIdeal.defs _ _).mono (fun r h => ⟨fun c => (h c).2, sem_eq_zero_of_no_sems (by decide) r.2⟩)
    (Cert.PrenormReferenceIdeal.Value.run m ρ)

/-- The kernel's results are the reference's. -/
theorem algebraic : Cert.algebraic_PrenormIdeal_PrenormReferenceIdeal := fun m ρ m' ρ' _ hag =>
  ⟨fun c => (Cert.PrenormIdeal.Gen.dats m 0 c).arrAt 2 Cert.PrenormIdeal.cfg0.N, Cert.PrenormIdeal.Value.run_blocks m ρ,
    (θ_run Cert.PrenormReferenceIdeal.defs _ _).mono (fun _ h c =>
      ⟨(h c).1.trans (by
          rw [Cert.PrenormReferenceIdeal.Read.val_main_v12_eq, (hag c).1, (hag c).2]
          exact (equal m c).symm),
        (h c).2⟩) (Cert.PrenormReferenceIdeal.Value.run m' ρ')⟩

end Cert.Nm.Pre

namespace Cert.Nm.Post

/-- The kernel's two texts have the same definitions. -/
theorem defs_eq {F : FTy → Type} [FloatOps F] : Cert.PostPre.defs (F := F) = Cert.PostPreIdeal.defs (F := F) := by
  unfold Cert.PostPre.defs Cert.PostPreIdeal.defs
  rw [show Cert.PostPre.defs₀ (F := F) = Cert.PostPreIdeal.defs₀ from congrArg Defs.onTc (funext₂ fun | ⟨0, _⟩, (_, _) => rfl)]
  rfl

/-- The kernel keeps its arguments and ends. -/
theorem frame : Cert.quiescent_PostPre := fun m ρ _ => by
  rw [defs_eq]
  exact Cert.PostPreIdeal.Gen.frame (F := Bits) m ρ

/-- The same over the extended reals. -/
theorem frameIdeal : Cert.quiescent_PostPreIdeal := fun m ρ _ => Cert.PostPreIdeal.Gen.frame m ρ

/-- The reference keeps its arguments and ends. -/
theorem frameReference : Cert.quiescent_PostPreReferenceIdeal := fun m ρ _ =>
  (θ_run Cert.PostPreReferenceIdeal.defs _ _).mono (fun r h => ⟨fun c => (h c).2.2, sem_eq_zero_of_no_sems (by decide) r.2⟩)
    (Cert.PostPreReferenceIdeal.Value.run m ρ)

/-- The kernel's results are the reference's. -/
theorem algebraic : Cert.algebraic_PostPreIdeal_PostPreReferenceIdeal := fun m ρ m' ρ' _ hag =>
  ⟨fun c => (Cert.PostPreIdeal.Gen.dats m 0 c).arrAt 4 Cert.PostPreIdeal.cfg0.N, fun c => (Cert.PostPreIdeal.Gen.dats m 0 c).arrAt 5 Cert.PostPreIdeal.cfg0.N, Cert.PostPreIdeal.Value.run_blocks m ρ,
    (θ_run Cert.PostPreReferenceIdeal.defs _ _).mono (fun _ h c =>
      ⟨(h c).1.trans (by
          rw [Cert.PostPreReferenceIdeal.Read.val_main_v12_eq, (hag c).1, (hag c).2.1, (hag c).2.2.1]
          exact (sum_equal m c).symm),
        (h c).2.1.trans (by
          rw [Cert.PostPreReferenceIdeal.Read.val_main_v25_eq, (hag c).1, (hag c).2.1, (hag c).2.2.1, (hag c).2.2.2]
          exact (norm_equal m c).symm),
        (h c).2.2⟩) (Cert.PostPreReferenceIdeal.Value.run m' ρ')⟩

end Cert.Nm.Post

namespace Cert.Mg.Fwd

/-- The kernel's two texts have the same definitions. -/
theorem defs_eq {F : FTy → Type} [FloatOps F] : Cert.Merge.defs (F := F) = Cert.MergeIdeal.defs (F := F) := by
  unfold Cert.Merge.defs Cert.MergeIdeal.defs
  rw [show Cert.Merge.defs₀ (F := F) = Cert.MergeIdeal.defs₀ from congrArg Defs.onTc (funext₂ fun | ⟨0, _⟩, (_, _) => rfl)]
  rfl

/-- The kernel keeps its arguments and ends. -/
theorem frame : Cert.quiescent_Merge := fun m ρ _ => by
  rw [defs_eq]
  exact Cert.MergeIdeal.Gen.frame (F := Bits) m ρ

/-- The same over the extended reals. -/
theorem frameIdeal : Cert.quiescent_MergeIdeal := fun m ρ _ => Cert.MergeIdeal.Gen.frame m ρ

/-- The reference keeps its arguments and ends. -/
theorem frameReference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run m ρ)

/-- The kernel's results are the reference's. -/
theorem algebraic : Cert.algebraic_MergeIdeal_MergeReferenceIdeal := fun m ρ m' ρ' _ hag =>
  ⟨fun c => (Cert.MergeIdeal.Gen.dats m 0 c).arrAt 4 Cert.MergeIdeal.cfg0.N, Cert.MergeIdeal.Value.run_blocks m ρ,
    (θ_run Cert.MergeReferenceIdeal.defs _ _).mono (fun _ h c =>
      ⟨(h c).1.trans (by
          rw [Cert.MergeReferenceIdeal.Read.val_main_v21_eq, (hag c).1, (hag c).2.1, (hag c).2.2]
          exact (equal m c).symm),
        (h c).2⟩) (Cert.MergeReferenceIdeal.Value.run m' ρ')⟩

end Cert.Mg.Fwd

end
-- ==== Proof.XaPay.lean ====
/-
  The kernel's values at an index, in the terms of `XaMath`.
-/
module

public import proofs.«01_k».proof.Proof.Gen.KernelIdeal.Skeleton
public import proofs.«01_k».proof.Proof.XaMath

@[expose] public section

noncomputable section

open Idealize.ShloMosaic

namespace Cert.Xa

open Cert.KernelIdeal Cert.KernelIdeal.Gen

theorem pay3_apply (q : FVec Ideal S512x512 .bf16) (k : FVec Ideal S256x512 .bf16) (r : Fin 512) (m : Fin 256) :
    k0_pay3 (F := Ideal) q k (ix2 r m) = prob (fun j => q (ix2 r j)) (fun n j => k (ix2 n j)) m := by
  pointwise [k0_pay3]
  unfold prob tot ex top score scl
  rfl

theorem pay4_apply (q : FVec Ideal S512x512 .bf16) (k v : FVec Ideal S256x512 .bf16) (d : FVec Ideal S512x512 .bf16) (r : Fin 512) (m : Fin 256) :
    k0_pay4 (F := Ideal) q k v d (ix2 r m) = dscore (fun j => q (ix2 r j)) (fun n j => k (ix2 n j)) (fun n j => v (ix2 n j)) (fun j => d (ix2 r j)) m := by
  pointwise [k0_pay4]
  simp only [pay3_apply]
  unfold dscore dprob scl
  rfl

theorem pay5_apply (q : FVec Ideal S512x512 .bf16) (k v : FVec Ideal S256x512 .bf16) (d : FVec Ideal S512x512 .bf16) (r : Fin 512) (j : Fin 512) :
    k0_pay5 (F := Ideal) q k v d (ix2 r j) = dquery (fun j => q (ix2 r j)) (fun n j => k (ix2 n j)) (fun n j => v (ix2 n j)) (fun j => d (ix2 r j)) j := by
  pointwise [k0_pay5]
  simp only [pay4_apply]
  unfold dquery
  rfl

theorem pay1_apply (q : FVec Ideal S512x512 .bf16) (s : FVec Ideal S512x256 .bf16) (acc : FVec Ideal S256x512 .f32) (m : Fin 256) (j : Fin 512) :
    k0_pay1 q s acc (constant S256x512 .f32 0x00000000#32) (ix2 m j) = acc (ix2 m j) + ∑ r, s (ix2 r m) * q (ix2 r j) := by
  pointwise [k0_pay1]

theorem pay2_apply (d : FVec Ideal S512x512 .bf16) (p : FVec Ideal S512x256 .f32) (acc : FVec Ideal S256x512 .f32) (m : Fin 256) (j : Fin 512) :
    k0_pay2 d p acc (ix2 m j) = acc (ix2 m j) + ∑ r, p (ix2 r m) * d (ix2 r j) := by
  pointwise [k0_pay2]

end Cert.Xa

end
-- ==== Proof.XaKer.lean ====
/-
  What the kernel's three result arrays hold, in the terms of `XaMath`.
-/
module

public import proofs.«01_k».proof.Proof.XaCases
public import proofs.«01_k».proof.Proof.XaPay

@[expose] public section

set_option maxRecDepth 16384

noncomputable section

open Idealize.ShloMosaic Idealize.ShloMosaic.TcCoe Idealize.SL.Sem
open Idealize.ShloMosaic.Pipeline (Dat)

namespace Cert.Xa

open Cert.KernelIdeal Cert.KernelIdeal.Gen Cert.KernelIdeal.Value

variable (m : (ℓ : Loc nD τ sig) → Buf (Elt Ideal) ℓ) (c : Dev nD)

/-- The query array, the memory and the cotangent the run starts with. -/
abbrev qArg : A0 := m ((c : Thread nD τ).loc main_arg0)
abbrev kvArg : A1 := m ((c : Thread nD τ).loc main_arg1)
abbrev doArg : A0 := m ((c : Thread nD τ).loc main_arg2)

/-- The head and the row tile of a grid point. -/
abbrev hdOf (t : Fin cfg0.N) : Fin 4 := ⟨t.val / 16, by have h := lt_of_lt_of_eq t.isLt (show cfg0.N = 64 from N_0); omega⟩
abbrev rowOf (t : Fin cfg0.N) (r : Fin 512) : Fin 8192 := ⟨t.val % 16 * 512 + r.val, by omega⟩

theorem index_q : ∀ t : Fin cfg0.N, win0_0.index t (0 : Fin 2) = t.val % 16 ∧ win0_0.index t (1 : Fin 2) = t.val / 16 :=
  (by decide +kernel : ∀ t : Fin grid0.N, _)
theorem index_k : ∀ t : Fin cfg0.N, win0_1.index t (0 : Fin 2) = 0 ∧ win0_1.index t (1 : Fin 2) = t.val / 16 :=
  (by decide +kernel : ∀ t : Fin grid0.N, _)
theorem index_v : ∀ t : Fin cfg0.N, win0_2.index t (0 : Fin 2) = 0 ∧ win0_2.index t (1 : Fin 2) = 4 + t.val / 16 :=
  (by decide +kernel : ∀ t : Fin grid0.N, _)
theorem index_d : ∀ t : Fin cfg0.N, win0_3.index t (0 : Fin 2) = t.val % 16 ∧ win0_3.index t (1 : Fin 2) = t.val / 16 :=
  (by decide +kernel : ∀ t : Fin grid0.N, _)

/-- A point's blocks, at their literal shapes. -/
abbrev qB (t : Fin cfg0.N) : FVec Ideal S512x512 .bf16 := iblk m c 0 t
abbrev kB (t : Fin cfg0.N) : FVec Ideal S256x512 .bf16 := iblk m c 1 t
abbrev vB (t : Fin cfg0.N) : FVec Ideal S256x512 .bf16 := iblk m c 2 t
abbrev dB (t : Fin cfg0.N) : FVec Ideal S512x512 .bf16 := iblk m c 3 t

theorem qB_row (t : Fin cfg0.N) (r : Fin 512) : (fun j => qB m c t (ix2 r j)) = hrow (qArg m c) (hdOf t) (rowOf t r) := by
  obtain ⟨e0, e1⟩ := index_q t
  funext j
  show m ((c : Thread nD τ).loc main_arg0) _ = m ((c : Thread nD τ).loc main_arg0) _
  congr 1
  funext a
  apply Fin.ext
  match a with
  | ⟨0, _⟩ => show win0_0.index t (0 : Fin 2) * 512 + 1 * r.val = t.val % 16 * 512 + r.val; omega
  | ⟨1, _⟩ => show win0_0.index t (1 : Fin 2) * 512 + 1 * j.val = t.val / 16 * 512 + j.val; omega

theorem dB_row (t : Fin cfg0.N) (r : Fin 512) : (fun j => dB m c t (ix2 r j)) = hrow (doArg m c) (hdOf t) (rowOf t r) := by
  obtain ⟨e0, e1⟩ := index_d t
  funext j
  show m ((c : Thread nD τ).loc main_arg2) _ = m ((c : Thread nD τ).loc main_arg2) _
  congr 1
  funext a
  apply Fin.ext
  match a with
  | ⟨0, _⟩ => show win0_3.index t (0 : Fin 2) * 512 + 1 * r.val = t.val % 16 * 512 + r.val; omega
  | ⟨1, _⟩ => show win0_3.index t (1 : Fin 2) * 512 + 1 * j.val = t.val / 16 * 512 + j.val; omega

theorem kB_rows (t : Fin cfg0.N) : (fun n j => kB m c t (ix2 n j)) = keys (kvArg m c) (hdOf t) := by
  obtain ⟨e0, e1⟩ := index_k t
  funext n j
  show m ((c : Thread nD τ).loc main_arg1) _ = m ((c : Thread nD τ).loc main_arg1) _
  congr 1
  funext a
  apply Fin.ext
  match a with
  | ⟨0, _⟩ => show win0_1.index t (0 : Fin 2) * 256 + 1 * n.val = n.val; omega
  | ⟨1, _⟩ => show win0_1.index t (1 : Fin 2) * 512 + 1 * j.val = t.val / 16 * 512 + j.val; omega

theorem vB_rows (t : Fin cfg0.N) : (fun n j => vB m c t (ix2 n j)) = vals (kvArg m c) (hdOf t) := by
  obtain ⟨e0, e1⟩ := index_v t
  funext n j
  show m ((c : Thread nD τ).loc main_arg1) _ = m ((c : Thread nD τ).loc main_arg1) _
  congr 1
  funext a
  apply Fin.ext
  match a with
  | ⟨0, _⟩ => show win0_2.index t (0 : Fin 2) * 256 + 1 * n.val = n.val; omega
  | ⟨1, _⟩ => show win0_2.index t (1 : Fin 2) * 512 + 1 * j.val = 2048 + (t.val / 16 * 512 + j.val); omega

/-- Every point leaves its block of the queries' gradient. -/
theorem outs_dq (t : Fin cfg0.N) : (outsAt0 m c t.val t.isLt).1 = k0_pay5 (F := Ideal) (qB m c t) (kB m c t) (vB m c t) (dB m c t) := by
  by_cases h0 : t.val % 16 = 0
  · rw [outsAt0_A m c t h0 (by omega)]; dsimp only; rw [out0_A_4_eq]
  · by_cases h1 : t.val % 16 = 15
    · rw [outsAt0_C m c t h0 h1]; dsimp only; rw [out0_C_4_eq]
    · rw [outsAt0_B m c t h0 h1]; dsimp only; rw [out0_B_4_eq]

/-- The last point of a head writes out the sum for the keys it carries. -/
theorem outs_dk (t : Fin cfg0.N) (h1 : t.val % 16 = 15) : (outsAt0 m c t.val t.isLt).2.1 = (outsAt0 m c t.val t.isLt).2.2.2.1 := by
  rw [outsAt0_C m c t (by omega) h1]
  dsimp only
  rw [out0_C_5_eq, sout0_C_0_eq]

/-- The last point of a head writes out the sum for the values it carries. -/
theorem outs_dv (t : Fin cfg0.N) (h1 : t.val % 16 = 15) : (outsAt0 m c t.val t.isLt).2.2.1 = (outsAt0 m c t.val t.isLt).2.2.2.2 := by
  rw [outsAt0_C m c t (by omega) h1]
  dsimp only
  rw [out0_C_6_eq, sout0_C_1_eq]

/-- A point's addend to the sum for the keys. -/
def kAdd (n : ℕ) (i : S256x512.Idx) : EReal :=
  if h : n < cfg0.N then ∑ r : Fin 512, dscore (hrow (qArg m c) (hdOf ⟨n, h⟩) (rowOf ⟨n, h⟩ r)) (keys (kvArg m c) (hdOf ⟨n, h⟩)) (vals (kvArg m c) (hdOf ⟨n, h⟩)) (hrow (doArg m c) (hdOf ⟨n, h⟩) (rowOf ⟨n, h⟩ r)) (i 0)
    * hrow (qArg m c) (hdOf ⟨n, h⟩) (rowOf ⟨n, h⟩ r) (i 1) else 0

/-- A point's addend to the sum for the values. -/
def vAdd (n : ℕ) (i : S256x512.Idx) : EReal :=
  if h : n < cfg0.N then ∑ r : Fin 512, prob (hrow (qArg m c) (hdOf ⟨n, h⟩) (rowOf ⟨n, h⟩ r)) (keys (kvArg m c) (hdOf ⟨n, h⟩)) (i 0)
    * hrow (doArg m c) (hdOf ⟨n, h⟩) (rowOf ⟨n, h⟩ r) (i 1) else 0

theorem kStep_apply (t : Fin cfg0.N) (acc : FVec Ideal S256x512 .f32) (i : S256x512.Idx) :
    kStep (F := Ideal) (qB m c t) (kB m c t) (vB m c t) (dB m c t) acc i = acc i + kAdd m c t.val i := by
  obtain ⟨a, b, rfl⟩ : ∃ a b, i = ix2 a b := ⟨i 0, i 1, by funext x; match x with | ⟨0, _⟩ => rfl | ⟨1, _⟩ => rfl⟩
  unfold kStep
  rw [pay1_apply]
  unfold kAdd
  rw [dif_pos t.isLt]
  simp only [pay4_apply, qB_row, dB_row, kB_rows, vB_rows]
  congr 1
  refine Finset.sum_congr rfl fun r _ => ?_
  rw [← qB_row]
  rfl

theorem vStep_apply (t : Fin cfg0.N) (acc : FVec Ideal S256x512 .f32) (i : S256x512.Idx) :
    vStep (F := Ideal) (qB m c t) (kB m c t) (dB m c t) acc i = acc i + vAdd m c t.val i := by
  obtain ⟨a, b, rfl⟩ : ∃ a b, i = ix2 a b := ⟨i 0, i 1, by funext x; match x with | ⟨0, _⟩ => rfl | ⟨1, _⟩ => rfl⟩
  unfold vStep
  rw [pay2_apply]
  unfold vAdd
  rw [dif_pos t.isLt]
  simp only [pay3_apply, qB_row, kB_rows]
  congr 1
  refine Finset.sum_congr rfl fun r _ => ?_
  rw [← dB_row]
  rfl

theorem zero6_apply (i : S256x512.Idx) : k0_pay6 (F := Ideal) i = 0 := by
  pointwise [k0_pay6]

theorem zero7_apply (i : S256x512.Idx) : k0_pay7 (F := Ideal) i = 0 := by
  pointwise [k0_pay7]

/-- The sum for the keys after the last row tile of head `h`. -/
theorem kSum (t : Fin cfg0.N) (h1 : t.val % 16 = 15) (i : S256x512.Idx) :
    (outsAt0 m c t.val t.isLt).2.2.2.1 i = ∑ s ∈ Finset.range 16, kAdd m c (16 * (t.val / 16) + s) i := by
  rw [soutsAt0_0_eq]
  rw [Pipeline.accAt_add_apply (fun n h => scAt0_0 m c n h (VS0_0.read (Elt Ideal) VS0_0.junk)) (scAt0_0 m c) (fun _ => 0) (kAdd m c) (16 * (t.val / 16)) 15
    ?_ ?_ (t.val % 16) (by omega)]
  · rw [h1, zero_add]
  · intro h i
    have h0 : 16 * (t.val / 16) % 16 = 0 := by omega
    unfold scAt0_0
    rw [dif_pos h0, dif_neg (by omega), sout0_A_0_eq]
    exact (kStep_apply m c ⟨_, h⟩ _ i).trans (by rw [zero6_apply])
  · intro n h acc i hb he
    unfold scAt0_0
    rw [dif_neg (by omega)]
    by_cases h2 : n % 16 = 15
    · rw [dif_pos h2, sout0_C_0_eq]
      exact kStep_apply m c ⟨_, h⟩ _ i
    · rw [dif_neg h2, sout0_B_0_eq]
      exact kStep_apply m c ⟨_, h⟩ _ i

/-- The sum for the values after the last row tile of head `h`. -/
theorem vSum (t : Fin cfg0.N) (h1 : t.val % 16 = 15) (i : S256x512.Idx) :
    (outsAt0 m c t.val t.isLt).2.2.2.2 i = ∑ s ∈ Finset.range 16, vAdd m c (16 * (t.val / 16) + s) i := by
  rw [soutsAt0_1_eq]
  rw [Pipeline.accAt_add_apply (fun n h => scAt0_1 m c n h (VS0_1.read (Elt Ideal) VS0_1.junk)) (scAt0_1 m c) (fun _ => 0) (vAdd m c) (16 * (t.val / 16)) 15
    ?_ ?_ (t.val % 16) (by omega)]
  · rw [h1, zero_add]
  · intro h i
    have h0 : 16 * (t.val / 16) % 16 = 0 := by omega
    unfold scAt0_1
    rw [dif_pos h0, dif_neg (by omega), sout0_A_1_eq]
    exact (vStep_apply m c ⟨_, h⟩ _ i).trans (by rw [zero7_apply])
  · intro n h acc i hb he
    unfold scAt0_1
    rw [dif_neg (by omega)]
    by_cases h2 : n % 16 = 15
    · rw [dif_pos h2, sout0_C_1_eq]
      exact vStep_apply m c ⟨_, h⟩ _ i
    · rw [dif_neg h2, sout0_B_1_eq]
      exact vStep_apply m c ⟨_, h⟩ _ i

end Cert.Xa

end
-- ==== Proof.XaRef.lean ====
/-
  The reference's values at an index, in the terms of `XaMath`.
-/
module

public import proofs.«01_k».proof.Proof.Gen.ReferenceIdeal.Read
public import proofs.«01_k».proof.Proof.XaMath

@[expose] public section

noncomputable section

open Idealize.ShloMosaic

namespace Cert.Xa

open Cert.ReferenceIdeal Cert.ReferenceIdeal.Gen Cert.ReferenceIdeal.Read

variable (x0 : A0) (x1 : A1) (x2 : A0) (h : Fin 4) (i : Fin 8192) (m : Fin 256)

theorem v9_apply : val_main_v9 (F := Ideal) x0 x1 (ix3 h i m) = score (hrow x0 h i) (keys x1 h) m := by
  pointwise [val_main_v9, val_main_v8, val_main_cst, val_main_v7, val_main_v1, val_main_v0, val_main_v5, val_main_v3, val_main_v2]
  rfl

/-- A maximum over the last axis, read at an index. -/
theorem maxRow (y : FVec Ideal S4x8192x256 .f32) (z : FVec Ideal S_ .f32) :
    Host.reduce FloatOps.maximumf y z reducesTo_S4x8192x256_S4x8192_d2 h_S_ (ix2 h i)
      = Finset.univ.fold max (z (Shape.Idx.first h_S_)) fun m => y (ix3 h i m) := by
  pointwise []

theorem v10_apply : val_main_v10 (F := Ideal) x0 x1 (ix2 h i) = top (hrow x0 h i) (keys x1 h) := by
  unfold val_main_v10
  rw [maxRow, val_main_cst_0_apply, Ideal.ofBits_def, ofBits_negInf]
  simp only [v9_apply]
  unfold top
  with_reducible rfl

theorem v17_apply : val_main_v17 (F := Ideal) x0 x1 (ix2 h i) = top (hrow x0 h i) (keys x1 h) := by
  rw [val_main_v17_apply, val_main_v16_apply, val_main_cst_2_apply, v10_apply, Ideal.maximumf_def, Ideal.ofBits_def, ofBits_negInf,
    max_eq_right bot_le]

theorem v30_apply : val_main_v30 (F := Ideal) x0 x1 (ix3 h i m) = ex (hrow x0 h i) (keys x1 h) m := by
  pointwise [val_main_v30, val_main_v29, val_main_v28, val_main_v27]
  simp only [v9_apply, v17_apply]
  rfl

theorem v32_apply : val_main_v32 (F := Ideal) x0 x1 (ix3 h i 0) = tot (hrow x0 h i) (keys x1 h) := by
  pointwise [val_main_v32, val_main_v31, val_main_cst_8]
  simp only [v30_apply]
  rfl

theorem v34_apply : val_main_v34 (F := Ideal) x0 x1 (ix3 h i m) = prob (hrow x0 h i) (keys x1 h) m := by
  pointwise [val_main_v34, val_main_v33]
  simp only [v30_apply, v32_apply]
  rfl

theorem v37_apply : val_main_v37 (F := Ideal) x0 x1 (ix3 h i 0) = Ideal.div 1 (tot (hrow x0 h i) (keys x1 h) * tot (hrow x0 h i) (keys x1 h)) := by
  pointwise [val_main_v37, val_main_v36, val_main_cst_9, val_main_v35]
  simp only [v32_apply, Ideal.ofBits_one_f32]

theorem v44_apply : val_main_v44 (F := Ideal) x1 x2 (ix3 h i m) = dprob (vals x1 h) (hrow x2 h i) m := by
  pointwise [val_main_v44, val_main_v43, val_main_v42, val_main_v41, val_main_v6, val_main_v4, val_main_v2]
  rfl

theorem v60_apply : val_main_v60 (F := Ideal) x0 x1 x2 (ix3 h i m) = dscoreR (hrow x0 h i) (keys x1 h) (vals x1 h) (hrow x2 h i) m := by
  pointwise [val_main_v60, val_main_v59, val_main_cst_12, val_main_v58, val_main_v57, val_main_v56, val_main_v55, val_main_cst_11, val_main_v54, val_main_v53, val_main_v52, val_main_v51, val_main_v50, val_main_cst_10, val_main_v49, val_main_v48, val_main_v47]
  simp only [v30_apply, v32_apply, v37_apply, v44_apply]
  unfold dscoreR scl
  rw [Fin.sum_univ_one]

theorem v70_apply (j : Fin 2048) : val_main_v70 (F := Ideal) x0 x1 x2 (ix2 i j)
    = ∑ m, dscoreR (hrow x0 (hd j) i) (keys x1 (hd j)) (vals x1 (hd j)) (hrow x2 (hd j) i) m * keys x1 (hd j) m (pl j) := by
  pointwise [val_main_v70, val_main_v69, val_main_v64, val_main_v63, val_main_v5, val_main_v3, val_main_v2]
  simp only [v60_apply, keys, chan_hd_pl]

theorem v72_apply (j : Fin 2048) : val_main_v72 (F := Ideal) x0 x1 x2 (ix2 m j)
    = ∑ i, dscoreR (hrow x0 (hd j) i) (keys x1 (hd j)) (vals x1 (hd j)) (hrow x2 (hd j) i) m * hrow x0 (hd j) i (pl j) := by
  pointwise [val_main_v72, val_main_v71, val_main_v68, val_main_v67, val_main_v66, val_main_v62, val_main_v61, val_main_v1, val_main_v0]
  simp only [v60_apply, hrow, chan, chan_hd_pl]

theorem v73_apply (j : Fin 2048) : val_main_v73 (F := Ideal) x0 x1 x2 (ix2 m j)
    = ∑ i, hrow x2 (hd j) i (pl j) * prob (hrow x0 (hd j) i) (keys x1 (hd j)) m := by
  pointwise [val_main_v73, val_main_v71, val_main_v68, val_main_v67, val_main_v65, val_main_v46, val_main_v45, val_main_v43, val_main_v42, val_main_v41]
  simp only [v34_apply, hrow, chan, chan_hd_pl]

end Cert.Xa

end
-- ==== Proof.XaGrad.lean ====
/-
  The two forms of the softmax's gradient agree on finite scores.
-/
module

public import proofs.«01_k».proof.Proof.XaMath

@[expose] public section

noncomputable section

open Idealize.ShloMosaic

namespace Cert.Xa

theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, ← ih, EReal.coe_add]

/-- A sum of finite terms is finite. -/
theorem sum_real {ι : Type*} (s : Finset ι) (f : ι → EReal) (hf : ∀ i, ∃ r : ℝ, f i = r) : ∃ r : ℝ, ∑ i ∈ s, f i = r := by
  choose g hg using hf
  exact ⟨∑ i ∈ s, g i, by simp only [hg, coe_sum]⟩

/-- A nonnegative finite factor moves out of a sum, whatever the terms. -/
theorem sum_factor {ι : Type*} (s : Finset ι) (c : ℝ) (hc : 0 ≤ c) (f : ι → EReal) :
    ∑ i ∈ s, (c : EReal) * f i = c * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

theorem scl_real : ∃ r : ℝ, scl = r := by
  unfold scl
  simp only [Ideal.ofBits, Ideal.ieee]
  rw [if_neg (by decide), if_neg (by decide)]
  exact ⟨_, rfl⟩

/-- The largest of finitely many finite numbers, one at least, is finite. -/
theorem fold_max_real {n : ℕ} (f : Fin (n + 1) → EReal) (hf : ∀ i, ∃ r : ℝ, f i = r) :
    ∃ r : ℝ, Finset.univ.fold max ⊥ f = r := by
  have h : ∀ s : Finset (Fin (n + 1)), s.Nonempty → ∃ r : ℝ, s.fold max ⊥ f = r := by
    intro s hs
    induction hs using Finset.Nonempty.cons_induction with
    | singleton a => obtain ⟨r, hr⟩ := hf a; exact ⟨r, by simp [hr]⟩
    | cons a s ha hs ih =>
      obtain ⟨r, hr⟩ := hf a
      obtain ⟨t, ht⟩ := ih
      exact ⟨max r t, by rw [Finset.fold_cons, ht, hr]; exact (EReal.coe_strictMono.monotone.map_max).symm⟩
  exact h _ Finset.univ_nonempty

section
variable (q : Fin 512 → EReal) (k v : Fin 256 → Fin 512 → EReal) (d : Fin 512 → EReal)
variable (hq : ∀ j, ∃ r : ℝ, q j = r) (hk : ∀ m j, ∃ r : ℝ, k m j = r)
include hq hk

theorem score_real (m : Fin 256) : ∃ r : ℝ, score q k m = r := by
  obtain ⟨s, hs⟩ := scl_real
  obtain ⟨t, ht⟩ := sum_real Finset.univ (fun j => q j * k m j) fun j => by
    obtain ⟨a, ha⟩ := hq j
    obtain ⟨b, hb⟩ := hk m j
    exact ⟨a * b, by rw [ha, hb, EReal.coe_mul]⟩
  exact ⟨t * s, by unfold score; rw [ht, hs, EReal.coe_mul]⟩

/-- The exponentials of a row are positive finite numbers. -/
theorem ex_real : ∃ e : Fin 256 → ℝ, (∀ m, 0 < e m) ∧ ∀ m, ex q k m = e m := by
  obtain ⟨t, ht⟩ := fold_max_real (n := 255) (fun m => score q k m) (score_real q k hq hk)
  choose s hs using score_real q k hq hk
  refine ⟨fun m => Real.exp (s m - t), fun m => Real.exp_pos _, fun m => ?_⟩
  unfold ex top
  rw [hs, ht, ← EReal.coe_sub]
  exact Ideal.exp_coe _

theorem tot_real : ∃ e : Fin 256 → ℝ, ∃ z : ℝ, (∀ m, 0 < e m) ∧ (∀ m, ex q k m = e m) ∧ 0 < z ∧ tot q k = z := by
  obtain ⟨e, he, hex⟩ := ex_real q k hq hk
  refine ⟨e, ∑ m, e m, he, hex, Finset.sum_pos (fun m _ => he m) Finset.univ_nonempty, ?_⟩
  unfold tot
  simp only [hex]
  exact (coe_sum _ _).symm

/-- The quotient's derivative is the closed form: the normaliser's reciprocal is a positive finite factor. -/
theorem dscoreR_eq (m : Fin 256) : dscoreR q k v d m = dscore q k v d m := by
  obtain ⟨e, z, he, hex, hz, htot⟩ := tot_real q k hq hk
  unfold dscoreR dscore prob
  simp only [hex, htot]
  rw [← EReal.coe_mul]
  have hz' : z ≠ 0 := hz.ne'
  simp only [Ideal.div_coe hz', Ideal.div_coe (mul_ne_zero hz' hz'), one_mul]
  congr 1
  have hs : (∑ n, dprob v d n * ((1 / (z * z) : ℝ) : EReal) * (e n : EReal))
      = ((1 / z : ℝ) : EReal) * ∑ n, (e n : EReal) * ((1 / z : ℝ) : EReal) * dprob v d n := by
    rw [← sum_factor _ _ (by positivity)]
    refine Finset.sum_congr rfl fun n _ => ?_
    rw [mul_assoc, mul_comm, ← EReal.coe_mul, ← EReal.coe_mul, ← mul_assoc, ← EReal.coe_mul]
    congr 2
    field_simp
  rw [hs, sub_eq_add_neg, mul_comm (dprob v d m), ← mul_neg,
    ← EReal.left_distrib_of_nonneg_of_ne_top (EReal.coe_nonneg.mpr (by positivity)) (EReal.coe_ne_top _), mul_comm, ← mul_assoc]

end

end Cert.Xa

end
-- ==== Proof.XaValue.lean ====
/-
  The kernel's result arrays and the reference's are equal where the queries and the keys are finite.
-/
module

public import proofs.«01_k».proof.Proof.XaKer
public import proofs.«01_k».proof.Proof.XaRef
public import proofs.«01_k».proof.Proof.XaGrad

@[expose] public section

set_option maxRecDepth 16384

noncomputable section

open Idealize.ShloMosaic Idealize.ShloMosaic.TcCoe Idealize.SL.Sem
open Idealize.ShloMosaic.Pipeline (Dat)

namespace Cert.Xa

open Cert.KernelIdeal Cert.KernelIdeal.Gen Cert.KernelIdeal.Value
open Cert.ReferenceIdeal.Read (val_main_v70 val_main_v72 val_main_v73)

variable (m : (ℓ : Loc nD τ sig) → Buf (Elt Ideal) ℓ) (c : Dev nD)

theorem pt4_lt (i : S8192x2048.Idx) : pt4Of i < cfg0.N := by
  have h0 : (i 0).val < 8192 := (i 0).isLt
  have h1 : (i 1).val < 2048 := (i 1).isLt
  rw [show cfg0.N = 64 from N_0]
  show 1 * ((i 0).val / 512 - 0) + 16 * ((i 1).val / 512 - 0) < 64
  omega

theorem pt5_lt (i : S256x2048.Idx) : pt5Of i < cfg0.N := by
  have h0 : (i 0).val < 256 := (i 0).isLt
  have h1 : (i 1).val < 2048 := (i 1).isLt
  rw [show cfg0.N = 64 from N_0]
  show 16 * (4 * ((i 0).val / 256 - 0) + 1 * ((i 1).val / 512 - 0)) + 15 < 64
  omega

/-- The queries' gradient, at an index. -/
theorem G4_apply (a : Fin 8192) (b : Fin 2048) : G4 m c (ix2 a b)
    = dquery (hrow (qArg m c) (hd b) a) (keys (kvArg m c) (hd b)) (vals (kvArg m c) (hd b)) (hrow (doArg m c) (hd b) a) (pl b) := by
  have ht := pt4_lt (ix2 a b)
  have hv : pt4Of (ix2 a b) = a.val / 512 + 16 * (b.val / 512) := by
    show 1 * (a.val / 512 - 0) + 16 * (b.val / 512 - 0) = _
    omega
  have hh : hdOf ⟨pt4Of (ix2 a b), ht⟩ = hd b := Fin.ext (by show pt4Of (ix2 a b) / 16 = b.val / 512; rw [hv]; omega)
  have hr : rowOf ⟨pt4Of (ix2 a b), ht⟩ ⟨a.val % 512, Nat.mod_lt _ (by decide)⟩ = a :=
    Fin.ext (by show pt4Of (ix2 a b) % 16 * 512 + a.val % 512 = a.val; rw [hv]; omega)
  have hl : loc4Of (ix2 a b) = ix2 (⟨a.val % 512, Nat.mod_lt _ (by decide)⟩ : Fin 512) (pl b) := by
    funext x; match x with | ⟨0, _⟩ => rfl | ⟨1, _⟩ => rfl
  unfold G4
  rw [dif_pos ht, ← outsAt0_sweep m c _ ht, outs_dq m c ⟨_, ht⟩, hl, pay5_apply, qB_row, dB_row, kB_rows, vB_rows, hh, hr]

/-- A sum over the row tiles of a head is a sum over the rows. -/
theorem tiles (h : Fin 4) (t : Fin cfg0.N) (ht : t.val / 16 = h.val) (f : Fin 8192 → EReal) (g : ℕ → EReal)
    (hg : ∀ s (hs : s < 16), g (16 * (t.val / 16) + s) = ∑ r : Fin 512, f ⟨s * 512 + r.val, by omega⟩) :
    ∑ s ∈ Finset.range 16, g (16 * (t.val / 16) + s) = ∑ i, f i := by
  rw [Fin.sum_univ_tiles 16 512 (by decide), Finset.sum_range]
  exact Finset.sum_congr rfl fun s _ => hg s.val s.isLt

/-- The keys' gradient, at an index. -/
theorem G5_apply (a : Fin 256) (b : Fin 2048) : G5 m c (ix2 a b)
    = ∑ i, dscore (hrow (qArg m c) (hd b) i) (keys (kvArg m c) (hd b)) (vals (kvArg m c) (hd b)) (hrow (doArg m c) (hd b) i) a
        * hrow (qArg m c) (hd b) i (pl b) := by
  have ht := pt5_lt (ix2 a b)
  have hv : pt5Of (ix2 a b) = 16 * (b.val / 512) + 15 := by
    show 16 * (4 * (a.val / 256 - 0) + 1 * (b.val / 512 - 0)) + 15 = _
    have := a.isLt
    omega
  have hl : loc5Of (ix2 a b) = ix2 a (pl b) := by
    funext x; match x with | ⟨0, _⟩ => exact Fin.ext (Nat.mod_eq_of_lt a.isLt) | ⟨1, _⟩ => rfl
  unfold G5
  rw [dif_pos ht, ← outsAt0_sweep m c _ ht, outs_dk m c ⟨_, ht⟩ (by show pt5Of (ix2 a b) % 16 = 15; omega), hl,
    kSum m c ⟨_, ht⟩ (by show pt5Of (ix2 a b) % 16 = 15; omega)]
  have hd16 : pt5Of (ix2 a b) / 16 = b.val / 512 := by rw [hv]; omega
  refine tiles (hd b) ⟨_, ht⟩ hd16 _ (fun n => kAdd m c n (ix2 a (pl b))) fun s hs => ?_
  have hn : 16 * (pt5Of (ix2 a b) / 16) + s < cfg0.N := by rw [show cfg0.N = 64 from N_0, hd16]; have := b.isLt; omega
  dsimp only
  unfold kAdd
  rw [dif_pos hn]
  have hh : hdOf ⟨16 * (pt5Of (ix2 a b) / 16) + s, hn⟩ = hd b := Fin.ext (by show (16 * (pt5Of (ix2 a b) / 16) + s) / 16 = b.val / 512; omega)
  have hr : ∀ r : Fin 512, rowOf ⟨16 * (pt5Of (ix2 a b) / 16) + s, hn⟩ r = ⟨s * 512 + r.val, by omega⟩ := fun r =>
    Fin.ext (by show (16 * (pt5Of (ix2 a b) / 16) + s) % 16 * 512 + r.val = s * 512 + r.val; omega)
  simp only [hh, hr]
  rfl

/-- The values' gradient, at an index. -/
theorem G6_apply (a : Fin 256) (b : Fin 2048) : G6 m c (ix2 a b)
    = ∑ i, prob (hrow (qArg m c) (hd b) i) (keys (kvArg m c) (hd b)) a * hrow (doArg m c) (hd b) i (pl b) := by
  have ht : pt6Of (ix2 a b) < cfg0.N := pt5_lt (ix2 a b)
  have hv : pt6Of (ix2 a b) = 16 * (b.val / 512) + 15 := by
    show 16 * (4 * (a.val / 256 - 0) + 1 * (b.val / 512 - 0)) + 15 = _
    have := a.isLt
    omega
  have hl : loc6Of (ix2 a b) = ix2 a (pl b) := by
    funext x; match x with | ⟨0, _⟩ => exact Fin.ext (Nat.mod_eq_of_lt a.isLt) | ⟨1, _⟩ => rfl
  unfold G6
  rw [dif_pos ht, ← outsAt0_sweep m c _ ht, outs_dv m c ⟨_, ht⟩ (by show pt6Of (ix2 a b) % 16 = 15; omega), hl,
    vSum m c ⟨_, ht⟩ (by show pt6Of (ix2 a b) % 16 = 15; omega)]
  have hd16 : pt6Of (ix2 a b) / 16 = b.val / 512 := by rw [hv]; omega
  refine tiles (hd b) ⟨_, ht⟩ hd16 _ (fun n => vAdd m c n (ix2 a (pl b))) fun s hs => ?_
  have hn : 16 * (pt6Of (ix2 a b) / 16) + s < cfg0.N := by rw [show cfg0.N = 64 from N_0, hd16]; have := b.isLt; omega
  dsimp only
  unfold vAdd
  rw [dif_pos hn]
  have hh : hdOf ⟨16 * (pt6Of (ix2 a b) / 16) + s, hn⟩ = hd b := Fin.ext (by show (16 * (pt6Of (ix2 a b) / 16) + s) / 16 = b.val / 512; omega)
  have hr : ∀ r : Fin 512, rowOf ⟨16 * (pt6Of (ix2 a b) / 16) + s, hn⟩ r = ⟨s * 512 + r.val, by omega⟩ := fun r =>
    Fin.ext (by show (16 * (pt6Of (ix2 a b) / 16) + s) % 16 * 512 + r.val = s * 512 + r.val; omega)
  simp only [hh, hr]
  rfl

/-- Every entry of the queries and of the keys is finite. -/
def Finite : Prop := (∀ i h j, ∃ r : ℝ, hrow (qArg m c) h i j = r) ∧ ∀ h n j, ∃ r : ℝ, keys (kvArg m c) h n j = r

theorem dq_eq (hf : Finite m c) : val_main_v70 (F := Ideal) (qArg m c) (kvArg m c) (doArg m c) = G4 m c := by
  funext i
  obtain ⟨a, b, rfl⟩ : ∃ (a : Fin 8192) (b : Fin 2048), i = ix2 a b := ⟨i 0, i 1, by funext x; match x with | ⟨0, _⟩ => rfl | ⟨1, _⟩ => rfl⟩
  rw [v70_apply, G4_apply]
  unfold dquery
  exact Finset.sum_congr rfl fun n _ => by rw [dscoreR_eq _ _ _ _ (hf.1 a _) (hf.2 _)]

theorem dk_eq (hf : Finite m c) : val_main_v72 (F := Ideal) (qArg m c) (kvArg m c) (doArg m c) = G5 m c := by
  funext i
  obtain ⟨a, b, rfl⟩ : ∃ (a : Fin 256) (b : Fin 2048), i = ix2 a b := ⟨i 0, i 1, by funext x; match x with | ⟨0, _⟩ => rfl | ⟨1, _⟩ => rfl⟩
  rw [v72_apply, G5_apply]
  exact Finset.sum_congr rfl fun n _ => by rw [dscoreR_eq _ _ _ _ (hf.1 n _) (hf.2 _)]

theorem dv_eq : val_main_v73 (F := Ideal) (qArg m c) (kvArg m c) (doArg m c) = G6 m c := by
  funext i
  obtain ⟨a, b, rfl⟩ : ∃ (a : Fin 256) (b : Fin 2048), i = ix2 a b := ⟨i 0, i 1, by funext x; match x with | ⟨0, _⟩ => rfl | ⟨1, _⟩ => rfl⟩
  rw [v73_apply, G6_apply]
  exact Finset.sum_congr rfl fun n _ => mul_comm _ _

end Cert.Xa

end
-- ==== Proof.XaPre.lean ====
/-
  What the precondition says of the arrays.
-/
module

public import proofs.«01_k».proof.Pre_xa_finite
public import proofs.«01_k».proof.Proof.XaMath

@[expose] public section

noncomputable section

open Idealize.ShloMosaic

namespace Cert.Pre_xa_finite.Gen

/-- The shape facts the precondition's text names. -/
theorem facts : Cert.Pre_xa_finite.Facts where
  bitsLt_bf16_f32 := by decide
  bcast_S_S8192x2048 := by decide +kernel
  slices_S256x4096_S256x2048_0_0 := by decide +kernel
  bcast_S_S256x2048 := by decide +kernel

end Cert.Pre_xa_finite.Gen

namespace Cert.Xa

attribute [local instance] Cert.Pre_xa_finite.Gen.facts

open Cert.Pre_xa_finite

/-- A number whose magnitude is below infinity is finite. -/
theorem finite_of_abs_lt (x : EReal) (h : BitVec.ofBool (decide (max x (-x) < Ideal.ofBits .f32 0x7F800000#32)) = 1#1) : ∃ r : ℝ, x = r := by
  rw [ofBits_posInf] at h
  induction x using EReal.rec with
  | bot => simp at h
  | coe r => exact ⟨r, rfl⟩
  | top => simp at h

theorem pre_q (x0 : A0) (x1 : A1) (x2 : A0) (h : (fn (F := Ideal) x0 x1 x2).1 = fun _ => 1#1) (i : Fin 8192) (j : Fin 2048) :
    ∃ r : ℝ, x0 (ix2 i j) = r := by
  refine finite_of_abs_lt _ (Eq.trans (Eq.symm ?_) (congrFun h (ix2 i j)))
  unfold fn
  dsimp only
  pointwise []
  rw [Ideal.absf_def]

theorem pre_k (x0 : A0) (x1 : A1) (x2 : A0) (h : (fn (F := Ideal) x0 x1 x2).2 = fun _ => 1#1) (i : Fin 256) (j : Fin 2048) :
    ∃ r : ℝ, x1 (ix2 i ⟨j.val, by omega⟩) = r := by
  refine finite_of_abs_lt _ (Eq.trans (Eq.symm ?_) (congrFun h (ix2 i j)))
  unfold fn
  dsimp only
  pointwise []
  rw [Ideal.absf_def]

end Cert.Xa

end
-- ==== Proof.GdMath.lean ====
/-
  The gradient of one chunk of the gated delta rule, in real numbers, and the two ways of inverting its unit lower triangle.
-/
module

public import Idealize.ShloMosaic.Lib.Pointwise
public import Mathlib.LinearAlgebra.Matrix.NonsingularInverse
public import Mathlib.Tactic.NoncommRing

@[expose] public section

noncomputable section

namespace Cert.Gd

abbrev M64 := Matrix (Fin 64) (Fin 64) ℝ

/-- Everything off the blocks `f` is zero. -/
def Blocked (f : Fin 64 → ℕ) (A : M64) : Prop := ∀ i j, f i ≠ f j → A i j = 0

theorem Blocked.add {f A B} (hA : Blocked f A) (hB : Blocked f B) : Blocked f (A + B) := by
  intro i j h; rw [Matrix.add_apply, hA i j h, hB i j h, add_zero]

theorem Blocked.sub {f A B} (hA : Blocked f A) (hB : Blocked f B) : Blocked f (A - B) := by
  intro i j h; rw [Matrix.sub_apply, hA i j h, hB i j h, sub_zero]

theorem Blocked.mul {f A B} (hA : Blocked f A) (hB : Blocked f B) : Blocked f (A * B) := by
  intro i j h
  rw [Matrix.mul_apply]
  refine Finset.sum_eq_zero fun a _ => ?_
  by_cases ha : f i = f a
  · rw [hB a j (ha ▸ h), mul_zero]
  · rw [hA i a ha, zero_mul]

theorem Blocked.one {f} : Blocked f 1 := by
  intro i j h
  exact Matrix.one_apply_ne (fun e => h (e ▸ rfl))

theorem Blocked.half {f A} (hA : Blocked f A) : Blocked (fun i => f i / 2) A := by
  intro i j h
  exact hA i j fun e => h (by dsimp only; rw [e])

def Strict (A : M64) : Prop := ∀ i j : Fin 64, ¬ j < i → A i j = 0

theorem Strict.pow {A} (hA : Strict A) (n : ℕ) : ∀ i j : Fin 64, i.val < j.val + n → (A ^ n) i j = 0 := by
  induction n with
  | zero => intro i j h; rw [pow_zero]; exact Matrix.one_apply_ne (by rintro rfl; omega)
  | succ n ih =>
    intro i j h
    rw [pow_succ, Matrix.mul_apply]
    refine Finset.sum_eq_zero fun a _ => ?_
    by_cases ha : j < a
    · rw [ih i a (by have := Fin.lt_def.mp ha; omega), zero_mul]
    · rw [hA a j ha, mul_zero]

/-- The entries of `L` in the blocks `f`. -/
def diag (f : Fin 64 → ℕ) (L : M64) : M64 := fun i j => if f i = f j then L i j else 0

/-- The entries of `L` in pairs of neighbouring blocks, off the blocks. -/
def off (f : Fin 64 → ℕ) (L : M64) : M64 := fun i j => if f i / 2 = f j / 2 ∧ f i ≠ f j then L i j else 0

theorem diag_blocked (f : Fin 64 → ℕ) (L : M64) : Blocked f (diag f L) := fun _ _ h => if_neg h

theorem diag_strict (f : Fin 64 → ℕ) (L : M64) (hL : Strict L) : Strict (diag f L) := by
  intro i j h; unfold diag; rw [hL i j h, ite_self]

/-- An inverse over the blocks makes one over the blocks of twice the size. -/
theorem double (f : Fin 64 → ℕ) (hf : ∀ i j : Fin 64, j < i → f j ≤ f i) (L x : M64) (hL : Strict L) (hx : Blocked f x)
    (h : (1 + diag f L) * x = 1) :
    Blocked (fun i => f i / 2) (x - x * (off f L * x)) ∧ (1 + diag (fun i => f i / 2) L) * (x - x * (off f L * x)) = 1 := by
  have hO : Blocked (fun i => f i / 2) (off f L) := by
    intro i j hij; unfold off; rw [if_neg (fun e => hij e.1)]
  have hOx : off f L * x * (off f L * x) = 0 := by
    have h0 : off f L * x * off f L = 0 := by
      ext i j
      rw [Matrix.mul_apply]
      refine Finset.sum_eq_zero fun b _ => ?_
      rw [Matrix.mul_apply, Finset.sum_mul]
      refine Finset.sum_eq_zero fun a _ => ?_
      by_cases hab : f a = f b
      swap
      · rw [hx a b hab, mul_zero, zero_mul]
      by_cases hia : f i / 2 = f a / 2 ∧ f i ≠ f a
      swap
      · unfold off; rw [if_neg hia, zero_mul, zero_mul]
      by_cases hbj : f b / 2 = f j / 2 ∧ f b ≠ f j
      swap
      · unfold off; rw [if_neg hbj, mul_zero]
      by_cases h1 : a < i
      swap
      · unfold off; rw [hL i a h1, ite_self, zero_mul, zero_mul]
      by_cases h2 : j < b
      swap
      · unfold off; rw [hL b j h2, ite_self, mul_zero]
      exfalso
      have := hf _ _ h1
      have := hf _ _ h2
      omega
    rw [← mul_assoc, h0, zero_mul]
  have hD : diag (fun i => f i / 2) L = diag f L + off f L := by
    ext i j
    simp only [Matrix.add_apply, diag, off]
    by_cases e : f i = f j
    · rw [if_pos e, if_pos (by rw [e]), if_neg (fun w => w.2 e), add_zero]
    · by_cases e2 : f i / 2 = f j / 2
      · rw [if_neg e, if_pos e2, if_pos ⟨e2, e⟩, zero_add]
      · rw [if_neg e, if_neg e2, if_neg (fun w => e2 w.1), zero_add]
  refine ⟨hx.half.sub (hx.half.mul (hO.mul hx.half)), ?_⟩
  rw [hD]
  calc (1 + (diag f L + off f L)) * (x - x * (off f L * x))
      = (1 + diag f L) * x - ((1 + diag f L) * x) * (off f L * x) + off f L * x - off f L * x * (off f L * x) := by noncomm_ring
    _ = 1 := by rw [h, hOx]; noncomm_ring

/-- The inverse of the blocks of eight. -/
def eights (m : M64) : M64 :=
  1 + m + (1 + m) * (m * m) + (1 + m + (1 + m) * (m * m)) * (m * m * (m * m))

def by8 (i : Fin 64) : ℕ := i.val / 8
def by16 (i : Fin 64) : ℕ := i.val / 16
def by32 (i : Fin 64) : ℕ := i.val / 32

def grow (f : Fin 64 → ℕ) (L x : M64) : M64 := x - x * (off f L * x)

def blockInv (L : M64) : M64 := grow by32 L (grow by16 L (grow by8 L (eights (-diag by8 L))))

theorem blockInv_eq (L : M64) (hL : Strict L) : blockInv L = (1 + L)⁻¹ := by
  symm
  apply Matrix.inv_eq_right_inv
  have hm : Blocked by8 (-diag by8 L) := by
    intro i j h; rw [Matrix.neg_apply, diag_blocked by8 L i j h, neg_zero]
  have hs : Strict (-diag by8 L) := by
    intro i j h; rw [Matrix.neg_apply, diag_strict by8 L hL i j h, neg_zero]
  have h8 : (-diag by8 L) ^ 8 = 0 := by
    have hb : ∀ n, Blocked by8 ((-diag by8 L) ^ n) := by
      intro n
      induction n with
      | zero => rw [pow_zero]; exact Blocked.one
      | succ n ih => rw [pow_succ]; exact ih.mul hm
    ext i j
    by_cases h : by8 i = by8 j
    · refine hs.pow 8 i j ?_
      unfold by8 at h
      omega
    · exact hb 8 i j h
  have e0 : (1 + diag by8 L) * eights (-diag by8 L) = 1 := by
    have : (1 - (-diag by8 L)) * eights (-diag by8 L) = 1 - (-diag by8 L) ^ 8 := by
      unfold eights; noncomm_ring
    rw [h8, sub_zero] at this
    rw [sub_neg_eq_add] at this
    exact this
  have b0 : Blocked by8 (eights (-diag by8 L)) := by
    have h1 := Blocked.one.add hm
    have h2 := hm.mul hm
    have h3 := h1.add (h1.mul h2)
    exact h3.add (h3.mul (h2.mul h2))
  obtain ⟨b1, e1⟩ := double by8 (by intro i j h; unfold by8; have := Fin.lt_def.mp h; omega) L _ hL b0 e0
  have f1 : (fun i => by8 i / 2) = by16 := by funext i; unfold by8 by16; omega
  rw [f1] at b1 e1
  obtain ⟨b2, e2⟩ := double by16 (by intro i j h; unfold by16; have := Fin.lt_def.mp h; omega) L _ hL b1 e1
  have f2 : (fun i => by16 i / 2) = by32 := by funext i; unfold by16 by32; omega
  rw [f2] at b2 e2
  obtain ⟨-, e3⟩ := double by32 (by intro i j h; unfold by32; have := Fin.lt_def.mp h; omega) L _ hL b2 e2
  have f3 : diag (fun i => by32 i / 2) L = L := by
    ext i j; unfold diag; rw [if_pos (by simp only [by32]; omega)]
  rw [f3] at e3
  exact e3

/-- The product of `1 + p`, `1 + p²`, … up to the thirty-second power. -/
def sumInv (P : M64) : M64 :=
  let p2 := P * P
  let p4 := p2 * p2
  let p8 := p4 * p4
  let p16 := p8 * p8
  let p32 := p16 * p16
  let x1 := 1 + P
  let x2 := x1 + x1 * p2
  let x4 := x2 + x2 * p4
  let x8 := x4 + x4 * p8
  let x16 := x8 + x8 * p16
  x16 + x16 * p32

theorem sumInv_eq (L : M64) (hL : Strict L) : sumInv (-L) = (1 + L)⁻¹ := by
  symm
  apply Matrix.inv_eq_right_inv
  have hs : Strict (-L) := by intro i j h; rw [Matrix.neg_apply, hL i j h, neg_zero]
  generalize hP : -L = P at hs ⊢
  have e : 1 + L = 1 - P := by rw [← hP, sub_neg_eq_add]
  rw [e]
  have st : ∀ x p : M64, (1 - P) * x = 1 - p → (1 - P) * (x + x * p) = 1 - p * p := by
    intro x p h
    rw [mul_add, ← mul_assoc, h]; noncomm_ring
  have s1 : (1 - P) * (1 + P) = 1 - P * P := by noncomm_ring
  have s6 := st _ _ (st _ _ (st _ _ (st _ _ (st _ _ s1))))
  have z : P ^ 64 = 0 := by
    ext i j; exact hs.pow 64 i j (by omega)
  have z' : P * P * (P * P) * (P * P * (P * P)) * (P * P * (P * P) * (P * P * (P * P))) * (P * P * (P * P) * (P * P * (P * P)) * (P * P * (P * P) * (P * P * (P * P)))) *
      (P * P * (P * P) * (P * P * (P * P)) * (P * P * (P * P) * (P * P * (P * P))) * (P * P * (P * P) * (P * P * (P * P)) * (P * P * (P * P) * (P * P * (P * P))))) = P ^ 64 := by
    simp only [← pow_two, ← pow_mul]
    norm_num
  unfold sumInv
  dsimp only
  rw [s6, z', z, sub_zero]

/-- One head's chunk: its rows, its state and the gradients that reach it. -/
structure Ch where
  q : Fin 64 → Fin 128 → ℝ
  k : Fin 64 → Fin 128 → ℝ
  v : Fin 64 → Fin 128 → ℝ
  G : Fin 64 → ℝ
  β : Fin 64 → ℝ
  dO : Fin 64 → Fin 128 → ℝ
  s : Fin 128 → Fin 128 → ℝ
  ds : Fin 128 → Fin 128 → ℝ

namespace Ch
variable (c : Ch)

def decay (i j : Fin 64) : ℝ := if j ≤ i then Real.exp (c.G i - c.G j) else 0
def kk (i j : Fin 64) : ℝ := ∑ e, c.k i e * c.k j e
def low : M64 := fun i j => if j < i then c.β i * c.decay i j * c.kk i j else 0
def ti : M64 := (1 + c.low)⁻¹
def eG (i : Fin 64) : ℝ := Real.exp (c.G i)
def uv (i : Fin 64) (e : Fin 128) : ℝ := ∑ m, c.ti i m * (c.β m * c.v m e)
def wk (i : Fin 64) (e : Fin 128) : ℝ := ∑ m, c.ti i m * (c.β m * c.eG m * c.k m e)
def qk (i j : Fin 64) : ℝ := ∑ e, c.q i e * c.k j e
def attn (i j : Fin 64) : ℝ := c.decay i j * c.qk i j
def ek (i : Fin 64) : ℝ := Real.exp (c.G 63 - c.G i)
def cd : ℝ := Real.exp (c.G 63)
def u (i : Fin 64) (e : Fin 128) : ℝ := c.uv i e - ∑ d, c.wk i d * c.s d e
def du (i : Fin 64) (e : Fin 128) : ℝ := ∑ m, c.attn m i * c.dO m e + ∑ d, c.k i d * c.ek i * c.ds d e
def dcd : ℝ := ∑ d, ∑ e, c.ds d e * c.s d e
def dkdec (i : Fin 64) (d : Fin 128) : ℝ := ∑ e, c.u i e * c.ds d e
def dattn (i j : Fin 64) : ℝ := ∑ e, c.dO i e * c.u j e
def dqdec (i : Fin 64) (d : Fin 128) : ℝ := ∑ e, c.dO i e * c.s d e
def dwk (i : Fin 64) (d : Fin 128) : ℝ := -∑ e, c.du i e * c.s d e
def dstate (d e : Fin 128) : ℝ := c.cd * c.ds d e + ∑ m, c.q m d * c.eG m * c.dO m e - ∑ m, c.wk m d * c.du m e
def drv (i : Fin 64) (e : Fin 128) : ℝ := ∑ m, c.ti m i * c.du m e
def drk (i : Fin 64) (e : Fin 128) : ℝ := ∑ m, c.ti m i * c.dwk m e
def dlow (i j : Fin 64) : ℝ := if j < i then -(∑ e, c.drv i e * c.uv j e + ∑ e, c.drk i e * c.wk j e) else 0
def rkk (i : Fin 64) : ℝ := ∑ e, c.drk i e * c.k i e
def dβ (i : Fin 64) : ℝ := ∑ j, c.dlow i j * c.decay i j * c.kk i j + ∑ e, c.drv i e * c.v i e + c.rkk i * c.eG i
def ddecay (i j : Fin 64) : ℝ := c.dlow i j * c.β i * c.kk i j + c.dattn i j * c.qk i j
def dkk (i j : Fin 64) : ℝ := c.dlow i j * c.β i * c.decay i j
def dv (i : Fin 64) (e : Fin 128) : ℝ := c.β i * c.drv i e
def dq (i : Fin 64) (e : Fin 128) : ℝ := ∑ j, c.dattn i j * c.decay i j * c.k j e + c.dqdec i e * c.eG i
def dk (i : Fin 64) (e : Fin 128) : ℝ :=
  c.β i * c.eG i * c.drk i e + ∑ j, c.dkk i j * c.k j e + ∑ j, c.dkk j i * c.k j e + ∑ j, c.dattn j i * c.decay j i * c.q j e + c.dkdec i e * c.ek i
def ee (i : Fin 64) : ℝ := ∑ e, c.dkdec i e * (c.k i e * c.ek i)
def dG (i : Fin 64) : ℝ :=
  (c.rkk i * c.β i + ∑ e, c.dqdec i e * c.q i e) * c.eG i - c.ee i + ∑ j, c.ddecay i j * c.decay i j - ∑ j, c.ddecay j i * c.decay j i
    + if i = 63 then ∑ m, c.ee m + c.dcd * c.cd else 0

theorem low_strict : Strict c.low := fun _ _ h => if_neg h

end Ch

theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, ← ih, EReal.coe_add]

theorem coe_ite (p : Prop) [Decidable p] (a b : ℝ) : (if p then (a : EReal) else (b : EReal)) = ((if p then a else b : ℝ) : EReal) := by
  split <;> rfl

/-- The rules that gather an expression of reals into one real. -/
theorem reals : (∀ x y : ℝ, (x : EReal) * y = (x * y : ℝ)) ∧ (∀ x y : ℝ, (x : EReal) + y = (x + y : ℝ))
    ∧ (∀ x y : ℝ, (x : EReal) - y = (x - y : ℝ)) ∧ (∀ x : ℝ, -(x : EReal) = (-x : ℝ)) ∧ ((0 : EReal) = (0 : ℝ))
    ∧ (∀ (p : Prop) [Decidable p] (a b : ℝ), (if p then (a : EReal) else (b : EReal)) = ((if p then a else b : ℝ) : EReal))
    ∧ (∀ x : ℝ, Idealize.ShloMosaic.Ideal.exp (x : EReal) = (Real.exp x : EReal))
    ∧ (∀ {ι : Type} (s : Finset ι) (g : ι → ℝ), (∑ i ∈ s, (g i : EReal)) = ((∑ i ∈ s, g i : ℝ) : EReal))
    ∧ (∀ x : ℝ, 0 - x = -x) :=
  ⟨fun x y => (EReal.coe_mul x y).symm, fun x y => (EReal.coe_add x y).symm, fun x y => (EReal.coe_sub x y).symm, fun x => (EReal.coe_neg x).symm,
    EReal.coe_zero.symm, fun p _ a b => coe_ite p a b, fun _ => rfl, fun s g => (coe_sum s g).symm, zero_sub⟩

end Cert.Gd

end
-- ==== Proof.GdPay.lean ====
/-
  The kernel's values at an index, in the terms of `GdMath`.
-/
module

public import proofs.«01_k».proof.Proof.Gen.GdnIdeal.Skeleton
public import proofs.«01_k».proof.Proof.GdMath

@[expose] public section

noncomputable section

open Idealize.ShloMosaic

namespace Cert.Gd

open Cert.GdnIdeal Cert.GdnIdeal.Gen

theorem sel_sge {α : Type} (i j : Fin 64) (a b : α) :
    Scalar.select (IntOp.cmpi CmpIPredicate.sge (BitVec.ofNat 32 i.val) (BitVec.ofNat 32 j.val)) a b = if j ≤ i then a else b := by
  have h : ∀ i j : Fin 64, IntOp.cmpi CmpIPredicate.sge (BitVec.ofNat 32 i.val) (BitVec.ofNat 32 j.val) = if j ≤ i then 1#1 else 0#1 := by decide +kernel
  rw [h]
  split <;> rfl

theorem sel_sgt {α : Type} (i j : Fin 64) (a b : α) :
    Scalar.select (IntOp.cmpi CmpIPredicate.sgt (BitVec.ofNat 32 i.val) (BitVec.ofNat 32 j.val)) a b = if j < i then a else b := by
  have h : ∀ i j : Fin 64, IntOp.cmpi CmpIPredicate.sgt (BitVec.ofNat 32 i.val) (BitVec.ofNat 32 j.val) = if j < i then 1#1 else 0#1 := by decide +kernel
  rw [h]
  split <;> rfl

theorem sel_eq {α : Type} (i j : Fin 64) (a b : α) :
    Scalar.select (IntOp.cmpi CmpIPredicate.eq (BitVec.ofNat 32 i.val) (BitVec.ofNat 32 j.val)) a b = if i = j then a else b := by
  have h : ∀ i j : Fin 64, IntOp.cmpi CmpIPredicate.eq (BitVec.ofNat 32 i.val) (BitVec.ofNat 32 j.val) = if i = j then 1#1 else 0#1 := by decide +kernel
  rw [h]
  split <;> rfl

theorem sel_8 {α : Type} (i j : Fin 64) (a b : α) :
    Scalar.select (IntOp.cmpi CmpIPredicate.eq (IntOp.shrsi ArithUnit.vector (BitVec.ofNat 32 i.val) 3#32) (IntOp.shrsi ArithUnit.vector (BitVec.ofNat 32 j.val) 3#32)) a b
      = if by8 i = by8 j then a else b := by
  have h : ∀ i j : Fin 64, IntOp.cmpi CmpIPredicate.eq (IntOp.shrsi ArithUnit.vector (BitVec.ofNat 32 i.val) 3#32) (IntOp.shrsi ArithUnit.vector (BitVec.ofNat 32 j.val) 3#32)
      = if i.val / 8 = j.val / 8 then 1#1 else 0#1 := by decide +kernel
  rw [h]
  unfold by8
  split <;> rfl

theorem sel_o8 {α : Type} (i j : Fin 64) (a b : α) :
    Scalar.select (IntOp.andi (IntOp.cmpi CmpIPredicate.eq (IntOp.shrsi ArithUnit.vector (BitVec.ofNat 32 i.val) 4#32) (IntOp.shrsi ArithUnit.vector (BitVec.ofNat 32 j.val) 4#32))
      (IntOp.cmpi CmpIPredicate.ne (IntOp.shrsi ArithUnit.vector (BitVec.ofNat 32 i.val) 3#32) (IntOp.shrsi ArithUnit.vector (BitVec.ofNat 32 j.val) 3#32))) a b
      = if by8 i / 2 = by8 j / 2 ∧ by8 i ≠ by8 j then a else b := by
  have h : ∀ i j : Fin 64, IntOp.andi (IntOp.cmpi CmpIPredicate.eq (IntOp.shrsi ArithUnit.vector (BitVec.ofNat 32 i.val) 4#32) (IntOp.shrsi ArithUnit.vector (BitVec.ofNat 32 j.val) 4#32))
      (IntOp.cmpi CmpIPredicate.ne (IntOp.shrsi ArithUnit.vector (BitVec.ofNat 32 i.val) 3#32) (IntOp.shrsi ArithUnit.vector (BitVec.ofNat 32 j.val) 3#32))
      = if i.val / 8 / 2 = j.val / 8 / 2 ∧ i.val / 8 ≠ j.val / 8 then 1#1 else 0#1 := by decide +kernel
  rw [h]
  unfold by8
  split <;> rfl

theorem sel_o16 {α : Type} (i j : Fin 64) (a b : α) :
    Scalar.select (IntOp.andi (IntOp.cmpi CmpIPredicate.eq (IntOp.shrsi ArithUnit.vector (BitVec.ofNat 32 i.val) 5#32) (IntOp.shrsi ArithUnit.vector (BitVec.ofNat 32 j.val) 5#32))
      (IntOp.cmpi CmpIPredicate.ne (IntOp.shrsi ArithUnit.vector (BitVec.ofNat 32 i.val) 4#32) (IntOp.shrsi ArithUnit.vector (BitVec.ofNat 32 j.val) 4#32))) a b
      = if by16 i / 2 = by16 j / 2 ∧ by16 i ≠ by16 j then a else b := by
  have h : ∀ i j : Fin 64, IntOp.andi (IntOp.cmpi CmpIPredicate.eq (IntOp.shrsi ArithUnit.vector (BitVec.ofNat 32 i.val) 5#32) (IntOp.shrsi ArithUnit.vector (BitVec.ofNat 32 j.val) 5#32))
      (IntOp.cmpi CmpIPredicate.ne (IntOp.shrsi ArithUnit.vector (BitVec.ofNat 32 i.val) 4#32) (IntOp.shrsi ArithUnit.vector (BitVec.ofNat 32 j.val) 4#32))
      = if i.val / 16 / 2 = j.val / 16 / 2 ∧ i.val / 16 ≠ j.val / 16 then 1#1 else 0#1 := by decide +kernel
  rw [h]
  unfold by16
  split <;> rfl

theorem sel_o32 {α : Type} (i j : Fin 64) (a b : α) :
    Scalar.select (IntOp.andi (IntOp.cmpi CmpIPredicate.eq (IntOp.shrsi ArithUnit.vector (BitVec.ofNat 32 i.val) 6#32) (IntOp.shrsi ArithUnit.vector (BitVec.ofNat 32 j.val) 6#32))
      (IntOp.cmpi CmpIPredicate.ne (IntOp.shrsi ArithUnit.vector (BitVec.ofNat 32 i.val) 5#32) (IntOp.shrsi ArithUnit.vector (BitVec.ofNat 32 j.val) 5#32))) a b
      = if by32 i / 2 = by32 j / 2 ∧ by32 i ≠ by32 j then a else b := by
  have h : ∀ i j : Fin 64, IntOp.andi (IntOp.cmpi CmpIPredicate.eq (IntOp.shrsi ArithUnit.vector (BitVec.ofNat 32 i.val) 6#32) (IntOp.shrsi ArithUnit.vector (BitVec.ofNat 32 j.val) 6#32))
      (IntOp.cmpi CmpIPredicate.ne (IntOp.shrsi ArithUnit.vector (BitVec.ofNat 32 i.val) 5#32) (IntOp.shrsi ArithUnit.vector (BitVec.ofNat 32 j.val) 5#32))
      = if i.val / 32 / 2 = j.val / 32 / 2 ∧ i.val / 32 ≠ j.val / 32 then 1#1 else 0#1 := by decide +kernel
  rw [h]
  unfold by32
  split <;> rfl

theorem sel_63 {α : Type} (i : Fin 64) (a b : α) :
    Scalar.select (IntOp.cmpi CmpIPredicate.eq (BitVec.ofNat 32 i.val) 63#32) a b = if i = 63 then a else b := by
  have h : ∀ i : Fin 64, IntOp.cmpi CmpIPredicate.eq (BitVec.ofNat 32 i.val) 63#32 = if i = 63 then 1#1 else 0#1 := by decide +kernel
  rw [h]
  split <;> rfl

theorem eye_word (i j : Fin 64) : (FloatOps.sitofp FTy.f32 (BitVec.setWidth 32 (IntOp.cmpi CmpIPredicate.eq (BitVec.ofNat 32 i.val) (BitVec.ofNat 32 j.val))) : Ideal .f32)
    = (((1 : M64) i j : ℝ) : EReal) := by
  have h : ∀ i j : Fin 64, (BitVec.setWidth 32 (IntOp.cmpi CmpIPredicate.eq (BitVec.ofNat 32 i.val) (BitVec.ofNat 32 j.val))).toInt = if i = j then 1 else 0 := by decide +kernel
  show ((((BitVec.setWidth 32 (IntOp.cmpi CmpIPredicate.eq (BitVec.ofNat 32 i.val) (BitVec.ofNat 32 j.val))).toInt : ℤ) : ℝ) : EReal) = _
  rw [h, Matrix.one_apply]
  split <;> simp

theorem off_read8 (L : M64) (i j : Fin 64) : (if by8 i / 2 = by8 j / 2 ∧ by8 i ≠ by8 j then L i j else 0) = off by8 L i j := rfl

theorem off_mul8 (L : M64) (i j : Fin 64) (y : ℝ) : (if by8 i / 2 = by8 j / 2 ∧ by8 i ≠ by8 j then L i j * y else 0) = off by8 L i j * y := by
  rw [← off_read8]; split <;> simp

theorem off_read16 (L : M64) (i j : Fin 64) : (if by16 i / 2 = by16 j / 2 ∧ by16 i ≠ by16 j then L i j else 0) = off by16 L i j := rfl

theorem off_mul16 (L : M64) (i j : Fin 64) (y : ℝ) : (if by16 i / 2 = by16 j / 2 ∧ by16 i ≠ by16 j then L i j * y else 0) = off by16 L i j * y := by
  rw [← off_read16]; split <;> simp

theorem off_read32 (L : M64) (i j : Fin 64) : (if by32 i / 2 = by32 j / 2 ∧ by32 i ≠ by32 j then L i j else 0) = off by32 L i j := rfl

theorem off_mul32 (L : M64) (i j : Fin 64) (y : ℝ) : (if by32 i / 2 = by32 j / 2 ∧ by32 i ≠ by32 j then L i j * y else 0) = off by32 L i j * y := by
  rw [← off_read32]; split <;> simp

variable (C : Fin 16 → Ch)

theorem p25 (v4 : Vec Ideal S16x64x128 .f32)
    (h4 : ∀ h i e, v4 (ix3 h i e) = (((C h).k i e : ℝ) : EReal)) :
    ∀ h i j, k0_pay25 (F := Ideal) v4 (ix3 h i j) = (((C h).kk i j : ℝ) : EReal) := by
  intro h i j
  pointwise [k0_pay25]
  simp only [h4, reals]
  try rfl

theorem p26 (v45 : FVec Ideal S16x64x1 .f32) (v93 : FVec Ideal S16x64x64 .f32) (v96 : FVec Ideal S16x64x64 .f32)
    (h45 : ∀ h i, v45 (ix3 h i 0) = (((C h).β i : ℝ) : EReal)) (h93 : ∀ h i j, v93 (ix3 h i j) = (((C h).decay i j : ℝ) : EReal)) (h96 : ∀ h i j, v96 (ix3 h i j) = (((C h).kk i j : ℝ) : EReal)) :
    ∀ h i j, k0_pay26 (F := Ideal) k0_pay5 v45 v93 v96 (ix3 h i j) = (((C h).low i j : ℝ) : EReal) := by
  intro h i j
  pointwise [k0_pay26, k0_pay5]
  simp only [h45, h93, h96, sel_sge, sel_sgt, sel_eq, sel_8, sel_o8, sel_o16, sel_o32, reals]
  try rfl

theorem p37 (v78 : FVec Ideal S16x64x1 .f32)
    (h78 : ∀ h i, v78 (ix3 h i 0) = (((C h).G i : ℝ) : EReal)) :
    ∀ h i, k0_pay37 (F := Ideal) v78 (ix3 h i 0) = (((C h).eG i : ℝ) : EReal) := by
  intro h i
  pointwise [k0_pay37]
  simp only [h78, reals]
  try rfl

theorem p39 (v4 : Vec Ideal S16x64x128 .f32) (v45 : FVec Ideal S16x64x1 .f32) (v78 : FVec Ideal S16x64x1 .f32)
    (h4 : ∀ h i e, v4 (ix3 h i e) = (((C h).k i e : ℝ) : EReal)) (h45 : ∀ h i, v45 (ix3 h i 0) = (((C h).β i : ℝ) : EReal)) (h78 : ∀ h i, v78 (ix3 h i 0) = (((C h).G i : ℝ) : EReal)) :
    ∀ h i e, k0_pay39 (F := Ideal) v4 v45 v78 (ix3 h i e) = (((C h).β i * (C h).eG i * (C h).k i e : ℝ) : EReal) := by
  intro h i e
  pointwise [k0_pay39, k0_pay37]
  simp only [h4, h45, h78, reals]
  try rfl

theorem p40 (v228 : FVec Ideal S16x64x64 .f32) (v237 : FVec Ideal S16x64x128 .f32)
    (h228 : ∀ h i j, v228 (ix3 h i j) = (((C h).ti i j : ℝ) : EReal)) (h237 : ∀ h i e, v237 (ix3 h i e) = (((C h).β i * (C h).eG i * (C h).k i e : ℝ) : EReal)) :
    ∀ h i e, k0_pay40 (F := Ideal) v228 v237 (ix3 h i e) = (((C h).wk i e : ℝ) : EReal) := by
  intro h i e
  pointwise [k0_pay40]
  simp only [h228, h237, reals]
  try rfl

theorem p41 (v3 : Vec Ideal S16x64x128 .f32) (v4 : Vec Ideal S16x64x128 .f32)
    (h3 : ∀ h i e, v3 (ix3 h i e) = (((C h).q i e : ℝ) : EReal)) (h4 : ∀ h i e, v4 (ix3 h i e) = (((C h).k i e : ℝ) : EReal)) :
    ∀ h i j, k0_pay41 (F := Ideal) v3 v4 (ix3 h i j) = (((C h).qk i j : ℝ) : EReal) := by
  intro h i j
  pointwise [k0_pay41]
  simp only [h3, h4, reals]
  simp only [sub_self, mul_zero, zero_mul, Finset.sum_const_zero, zero_add]
  rfl

theorem p43 (v78 : FVec Ideal S16x64x1 .f32)
    (h78 : ∀ h i, v78 (ix3 h i 0) = (((C h).G i : ℝ) : EReal)) :
    ∀ h i, k0_pay43 (F := Ideal) v78 (ix3 h i 0) = (((C h).ek i : ℝ) : EReal) := by
  intro h i
  pointwise [k0_pay43, k0_pay42]
  simp only [h78, reals]
  try rfl

theorem p44 (v78 : FVec Ideal S16x64x1 .f32)
    (h78 : ∀ h i, v78 (ix3 h i 0) = (((C h).G i : ℝ) : EReal)) :
    ∀ h, k0_pay44 (F := Ideal) v78 (ix3 h 0 0) = (((C h).cd : ℝ) : EReal) := by
  intro h
  pointwise [k0_pay44, k0_pay42]
  simp only [h78, reals]
  try rfl

theorem p45 (v260 : Vec Ideal S1x16x128x128 .f32)
    (h260 : ∀ h d e, v260 (ix4 0 h d e) = (((C h).s d e : ℝ) : EReal)) :
    ∀ h d e, k0_pay45 (F := Ideal) v260 (ix3 h d e) = (((C h).s d e : ℝ) : EReal) := by
  intro h d e
  pointwise [k0_pay45]
  simp only [h260, reals]
  try rfl

theorem p46 (v228 : FVec Ideal S16x64x64 .f32) (v234 : FVec Ideal S16x64x128 .f32) (v237 : FVec Ideal S16x64x128 .f32) (v260 : Vec Ideal S1x16x128x128 .f32)
    (h228 : ∀ h i j, v228 (ix3 h i j) = (((C h).ti i j : ℝ) : EReal)) (h234 : ∀ h i e, v234 (ix3 h i e) = (((C h).uv i e : ℝ) : EReal)) (h237 : ∀ h i e, v237 (ix3 h i e) = (((C h).β i * (C h).eG i * (C h).k i e : ℝ) : EReal)) (h260 : ∀ h d e, v260 (ix4 0 h d e) = (((C h).s d e : ℝ) : EReal)) :
    ∀ h i e, k0_pay46 (F := Ideal) v228 v234 v237 v260 (ix3 h i e) = (((C h).u i e : ℝ) : EReal) := by
  intro h i e
  pointwise [k0_pay46, k0_pay40, k0_pay45]
  simp only [h228, h234, h237, h260, reals]
  try rfl

theorem p47 (v3 : Vec Ideal S16x64x128 .f32) (v229 : FVec Ideal S16x64x1 .f32)
    (h3 : ∀ h i e, v3 (ix3 h i e) = (((C h).q i e : ℝ) : EReal)) (h229 : ∀ h i, v229 (ix3 h i 0) = (((C h).eG i : ℝ) : EReal)) :
    ∀ h i e, k0_pay47 (F := Ideal) v3 v229 (ix3 h i e) = (((C h).q i e * (C h).eG i : ℝ) : EReal) := by
  intro h i e
  pointwise [k0_pay47]
  simp only [h3, h229, reals]
  try rfl

theorem p48 (v4 : Vec Ideal S16x64x128 .f32) (v78 : FVec Ideal S16x64x1 .f32)
    (h4 : ∀ h i e, v4 (ix3 h i e) = (((C h).k i e : ℝ) : EReal)) (h78 : ∀ h i, v78 (ix3 h i 0) = (((C h).G i : ℝ) : EReal)) :
    ∀ h i e, k0_pay48 (F := Ideal) v4 v78 (ix3 h i e) = (((C h).k i e * (C h).ek i : ℝ) : EReal) := by
  intro h i e
  pointwise [k0_pay48, k0_pay43, k0_pay42]
  simp only [h4, h78, reals]
  try rfl

theorem p49 (v6 : Vec Ideal S16x64x128 .f32) (v260 : Vec Ideal S1x16x128x128 .f32)
    (h6 : ∀ h i e, v6 (ix3 h i e) = (((C h).dO i e : ℝ) : EReal)) (h260 : ∀ h d e, v260 (ix4 0 h d e) = (((C h).s d e : ℝ) : EReal)) :
    ∀ h i e, k0_pay49 (F := Ideal) v6 v260 (ix3 h i e) = (((C h).dqdec i e : ℝ) : EReal) := by
  intro h i e
  pointwise [k0_pay49, k0_pay45]
  simp only [h6, h260, reals]
  try rfl

theorem p50 (v6 : Vec Ideal S16x64x128 .f32) (v228 : FVec Ideal S16x64x64 .f32) (v234 : FVec Ideal S16x64x128 .f32) (v237 : FVec Ideal S16x64x128 .f32) (v260 : Vec Ideal S1x16x128x128 .f32)
    (h6 : ∀ h i e, v6 (ix3 h i e) = (((C h).dO i e : ℝ) : EReal)) (h228 : ∀ h i j, v228 (ix3 h i j) = (((C h).ti i j : ℝ) : EReal)) (h234 : ∀ h i e, v234 (ix3 h i e) = (((C h).uv i e : ℝ) : EReal)) (h237 : ∀ h i e, v237 (ix3 h i e) = (((C h).β i * (C h).eG i * (C h).k i e : ℝ) : EReal)) (h260 : ∀ h d e, v260 (ix4 0 h d e) = (((C h).s d e : ℝ) : EReal)) :
    ∀ h i j, k0_pay50 (F := Ideal) v6 v228 v234 v237 v260 (ix3 h i j) = (((C h).dattn i j : ℝ) : EReal) := by
  intro h i j
  pointwise [k0_pay50, k0_pay46, k0_pay40, k0_pay45]
  simp only [h6, h228, h234, h237, h260, reals]
  try rfl

theorem p51 (v3 : Vec Ideal S16x64x128 .f32) (v4 : Vec Ideal S16x64x128 .f32) (v6 : Vec Ideal S16x64x128 .f32) (v93 : FVec Ideal S16x64x64 .f32)
    (h3 : ∀ h i e, v3 (ix3 h i e) = (((C h).q i e : ℝ) : EReal)) (h4 : ∀ h i e, v4 (ix3 h i e) = (((C h).k i e : ℝ) : EReal)) (h6 : ∀ h i e, v6 (ix3 h i e) = (((C h).dO i e : ℝ) : EReal)) (h93 : ∀ h i j, v93 (ix3 h i j) = (((C h).decay i j : ℝ) : EReal)) :
    ∀ h i e, k0_pay51 (F := Ideal) v3 v4 v6 v93 (ix3 h i e) = ((∑ m, (C h).attn m i * (C h).dO m e : ℝ) : EReal) := by
  intro h i e
  pointwise [k0_pay51]
  simp only [h3, h4, h6, h93, p41 C v3 v4 h3 h4, reals]
  try rfl

theorem p52 (v4 : Vec Ideal S16x64x128 .f32) (v78 : FVec Ideal S16x64x1 .f32)
    (h4 : ∀ h i e, v4 (ix3 h i e) = (((C h).k i e : ℝ) : EReal)) (h78 : ∀ h i, v78 (ix3 h i 0) = (((C h).G i : ℝ) : EReal)) :
    ∀ h i e, k0_pay52 (F := Ideal) v4 v78 (ix3 h i e) = (((C h).k i e * (C h).ek i : ℝ) : EReal) := by
  intro h i e
  pointwise [k0_pay52, k0_pay48, k0_pay43, k0_pay42]
  simp only [h4, h78, reals]
  try rfl

theorem p53 (v262 : Vec Ideal S16x128x128 .f32)
    (h262 : ∀ h d e, v262 (ix3 h d e) = (((C h).ds d e : ℝ) : EReal)) :
    ∀ h d e, k0_pay53 (F := Ideal) v262 (ix3 h d e) = (((C h).ds d e : ℝ) : EReal) := by
  intro h d e
  pointwise [k0_pay53]
  simp only [h262, reals]
  try rfl

theorem p54 (v279 : FVec Ideal S16x64x128 .f32) (v280 : FVec Ideal S16x64x128 .bf16) (v281 : FVec Ideal S16x128x128 .bf16)
    (h279 : ∀ h i e, v279 (ix3 h i e) = ((∑ m, (C h).attn m i * (C h).dO m e : ℝ) : EReal)) (h280 : ∀ h i e, v280 (ix3 h i e) = (((C h).k i e * (C h).ek i : ℝ) : EReal)) (h281 : ∀ h d e, v281 (ix3 h d e) = (((C h).ds d e : ℝ) : EReal)) :
    ∀ h i e, k0_pay54 (F := Ideal) v279 v280 v281 (constant S16x64x128 .f32 0x00000000#32) (ix3 h i e) = (((C h).du i e : ℝ) : EReal) := by
  intro h i e
  pointwise [k0_pay54]
  simp only [h279, h280, h281, reals]
  try rfl

theorem p55 (v261 : FVec Ideal S16x128x128 .f32) (v262 : Vec Ideal S16x128x128 .f32)
    (h261 : ∀ h d e, v261 (ix3 h d e) = (((C h).s d e : ℝ) : EReal)) (h262 : ∀ h d e, v262 (ix3 h d e) = (((C h).ds d e : ℝ) : EReal)) :
    ∀ h, k0_pay55 (F := Ideal) v261 v262 (ix3 h 0 0) = (((C h).dcd : ℝ) : EReal) := by
  intro h
  pointwise [k0_pay55]
  simp only [h261, h262, reals]
  try rfl

theorem p56 (v262 : Vec Ideal S16x128x128 .f32) (v266 : FVec Ideal S16x64x128 .f32)
    (h262 : ∀ h d e, v262 (ix3 h d e) = (((C h).ds d e : ℝ) : EReal)) (h266 : ∀ h i e, v266 (ix3 h i e) = (((C h).u i e : ℝ) : EReal)) :
    ∀ h i e, k0_pay56 (F := Ideal) v262 v266 (ix3 h i e) = (((C h).dkdec i e : ℝ) : EReal) := by
  intro h i e
  pointwise [k0_pay56]
  simp only [h262, h266, reals]
  try rfl

theorem p57 (v6 : Vec Ideal S16x64x128 .f32) (v240 : FVec Ideal S16x64x128 .f32) (v259 : FVec Ideal S16x1x1 .f32) (v262 : Vec Ideal S16x128x128 .f32) (v268 : FVec Ideal S16x64x128 .f32) (v279 : FVec Ideal S16x64x128 .f32) (v280 : FVec Ideal S16x64x128 .bf16) (v281 : FVec Ideal S16x128x128 .bf16)
    (h6 : ∀ h i e, v6 (ix3 h i e) = (((C h).dO i e : ℝ) : EReal)) (h240 : ∀ h i e, v240 (ix3 h i e) = (((C h).wk i e : ℝ) : EReal)) (h259 : ∀ h, v259 (ix3 h 0 0) = (((C h).cd : ℝ) : EReal)) (h262 : ∀ h d e, v262 (ix3 h d e) = (((C h).ds d e : ℝ) : EReal)) (h268 : ∀ h i e, v268 (ix3 h i e) = (((C h).q i e * (C h).eG i : ℝ) : EReal)) (h279 : ∀ h i e, v279 (ix3 h i e) = ((∑ m, (C h).attn m i * (C h).dO m e : ℝ) : EReal)) (h280 : ∀ h i e, v280 (ix3 h i e) = (((C h).k i e * (C h).ek i : ℝ) : EReal)) (h281 : ∀ h d e, v281 (ix3 h d e) = (((C h).ds d e : ℝ) : EReal)) :
    ∀ h d e, k0_pay57 (F := Ideal) v6 v240 v259 v262 v268 v279 v280 v281 (constant S16x64x128 .f32 0x00000000#32) (ix3 h d e) = (((C h).dstate d e : ℝ) : EReal) := by
  intro h d e
  pointwise [k0_pay57, k0_pay54]
  simp only [h6, h240, h259, h262, h268, h279, h280, h281, reals]
  try rfl

theorem p58 (v228 : FVec Ideal S16x64x64 .f32) (v279 : FVec Ideal S16x64x128 .f32) (v280 : FVec Ideal S16x64x128 .bf16) (v281 : FVec Ideal S16x128x128 .bf16)
    (h228 : ∀ h i j, v228 (ix3 h i j) = (((C h).ti i j : ℝ) : EReal)) (h279 : ∀ h i e, v279 (ix3 h i e) = ((∑ m, (C h).attn m i * (C h).dO m e : ℝ) : EReal)) (h280 : ∀ h i e, v280 (ix3 h i e) = (((C h).k i e * (C h).ek i : ℝ) : EReal)) (h281 : ∀ h d e, v281 (ix3 h d e) = (((C h).ds d e : ℝ) : EReal)) :
    ∀ h i e, k0_pay58 (F := Ideal) v228 v279 v280 v281 (constant S16x64x128 .f32 0x00000000#32) (ix3 h i e) = (((C h).drv i e : ℝ) : EReal) := by
  intro h i e
  pointwise [k0_pay58, k0_pay54]
  simp only [h228, h279, h280, h281, reals]
  try rfl

theorem p59 (v228 : FVec Ideal S16x64x64 .f32) (v261 : FVec Ideal S16x128x128 .f32) (v279 : FVec Ideal S16x64x128 .f32) (v280 : FVec Ideal S16x64x128 .bf16) (v281 : FVec Ideal S16x128x128 .bf16)
    (h228 : ∀ h i j, v228 (ix3 h i j) = (((C h).ti i j : ℝ) : EReal)) (h261 : ∀ h d e, v261 (ix3 h d e) = (((C h).s d e : ℝ) : EReal)) (h279 : ∀ h i e, v279 (ix3 h i e) = ((∑ m, (C h).attn m i * (C h).dO m e : ℝ) : EReal)) (h280 : ∀ h i e, v280 (ix3 h i e) = (((C h).k i e * (C h).ek i : ℝ) : EReal)) (h281 : ∀ h d e, v281 (ix3 h d e) = (((C h).ds d e : ℝ) : EReal)) :
    ∀ h i e, k0_pay59 (F := Ideal) v228 v261 v279 v280 v281 (constant S16x64x128 .f32 0x00000000#32) (ix3 h i e) = (((C h).drk i e : ℝ) : EReal) := by
  intro h i e
  pointwise [k0_pay59, k0_pay54]
  simp only [h228, h261, h279, h280, h281, reals]
  try rfl

theorem p60 (v228 : FVec Ideal S16x64x64 .f32) (v234 : FVec Ideal S16x64x128 .f32) (v240 : FVec Ideal S16x64x128 .f32) (v261 : FVec Ideal S16x128x128 .f32) (v279 : FVec Ideal S16x64x128 .f32) (v280 : FVec Ideal S16x64x128 .bf16) (v281 : FVec Ideal S16x128x128 .bf16)
    (h228 : ∀ h i j, v228 (ix3 h i j) = (((C h).ti i j : ℝ) : EReal)) (h234 : ∀ h i e, v234 (ix3 h i e) = (((C h).uv i e : ℝ) : EReal)) (h240 : ∀ h i e, v240 (ix3 h i e) = (((C h).wk i e : ℝ) : EReal)) (h261 : ∀ h d e, v261 (ix3 h d e) = (((C h).s d e : ℝ) : EReal)) (h279 : ∀ h i e, v279 (ix3 h i e) = ((∑ m, (C h).attn m i * (C h).dO m e : ℝ) : EReal)) (h280 : ∀ h i e, v280 (ix3 h i e) = (((C h).k i e * (C h).ek i : ℝ) : EReal)) (h281 : ∀ h d e, v281 (ix3 h d e) = (((C h).ds d e : ℝ) : EReal)) :
    ∀ h i j, k0_pay60 (F := Ideal) v228 v234 v240 v261 v279 v280 v281 (constant S16x64x128 .f32 0x00000000#32) (ix3 h i j) = ((-(∑ e, (C h).drv i e * (C h).uv j e + ∑ e, (C h).drk i e * (C h).wk j e) : ℝ) : EReal) := by
  intro h i j
  pointwise [k0_pay60, k0_pay58, k0_pay59, k0_pay54]
  simp only [h228, h234, h240, h261, h279, h280, h281, reals]
  try rfl

theorem p61 (v324 : FVec Ideal S16x64x64 .f32) (cst_84 : Ideal .f32)
    (h324 : ∀ h i j, v324 (ix3 h i j) = ((-(∑ e, (C h).drv i e * (C h).uv j e + ∑ e, (C h).drk i e * (C h).wk j e) : ℝ) : EReal)) (hc : cst_84 = 0) :
    ∀ h i j, k0_pay61 (F := Ideal) k0_pay5 v324 cst_84 (ix3 h i j) = (((C h).dlow i j : ℝ) : EReal) := by
  intro h i j
  pointwise [k0_pay61, k0_pay5]
  simp only [h324, hc, sel_sge, sel_sgt, sel_eq, sel_8, sel_o8, sel_o16, sel_o32, reals]
  try rfl

theorem p62 (v4 : Vec Ideal S16x64x128 .f32) (v315 : FVec Ideal S16x64x128 .f32)
    (h4 : ∀ h i e, v4 (ix3 h i e) = (((C h).k i e : ℝ) : EReal)) (h315 : ∀ h i e, v315 (ix3 h i e) = (((C h).drk i e : ℝ) : EReal)) :
    ∀ h i, k0_pay62 (F := Ideal) v4 v315 (ix3 h i 0) = (((C h).rkk i : ℝ) : EReal) := by
  intro h i
  pointwise [k0_pay62]
  simp only [h4, h315, reals]
  try rfl

theorem p63 (v4 : Vec Ideal S16x64x128 .f32) (v5 : Vec Ideal S16x64x128 .f32) (v93 : FVec Ideal S16x64x64 .f32) (v96 : FVec Ideal S16x64x64 .f32) (v229 : FVec Ideal S16x64x1 .f32) (v312 : FVec Ideal S16x64x128 .f32) (v315 : FVec Ideal S16x64x128 .f32) (v324 : FVec Ideal S16x64x64 .f32) (cst_84 : Ideal .f32)
    (h4 : ∀ h i e, v4 (ix3 h i e) = (((C h).k i e : ℝ) : EReal)) (h5 : ∀ h i e, v5 (ix3 h i e) = (((C h).v i e : ℝ) : EReal)) (h93 : ∀ h i j, v93 (ix3 h i j) = (((C h).decay i j : ℝ) : EReal)) (h96 : ∀ h i j, v96 (ix3 h i j) = (((C h).kk i j : ℝ) : EReal)) (h229 : ∀ h i, v229 (ix3 h i 0) = (((C h).eG i : ℝ) : EReal)) (h312 : ∀ h i e, v312 (ix3 h i e) = (((C h).drv i e : ℝ) : EReal)) (h315 : ∀ h i e, v315 (ix3 h i e) = (((C h).drk i e : ℝ) : EReal)) (h324 : ∀ h i j, v324 (ix3 h i j) = ((-(∑ e, (C h).drv i e * (C h).uv j e + ∑ e, (C h).drk i e * (C h).wk j e) : ℝ) : EReal)) (hc : cst_84 = 0) :
    ∀ h i, k0_pay63 (F := Ideal) v4 v5 k0_pay5 v93 v96 v229 v312 v315 v324 cst_84 (ix3 h i 0) = (((C h).dβ i : ℝ) : EReal) := by
  intro h i
  pointwise [k0_pay63, k0_pay62]
  simp only [h4, h5, h93, h96, h229, h312, h315, h324, p61 C v324 cst_84 h324 hc, reals]
  try rfl

theorem p64 (v45 : FVec Ideal S16x64x1 .f32) (v96 : FVec Ideal S16x64x64 .f32) (v253 : FVec Ideal S16x64x64 .f32) (v276 : FVec Ideal S16x64x64 .f32) (v324 : FVec Ideal S16x64x64 .f32) (cst_84 : Ideal .f32)
    (h45 : ∀ h i, v45 (ix3 h i 0) = (((C h).β i : ℝ) : EReal)) (h96 : ∀ h i j, v96 (ix3 h i j) = (((C h).kk i j : ℝ) : EReal)) (h253 : ∀ h i j, v253 (ix3 h i j) = (((C h).qk i j : ℝ) : EReal)) (h276 : ∀ h i j, v276 (ix3 h i j) = (((C h).dattn i j : ℝ) : EReal)) (h324 : ∀ h i j, v324 (ix3 h i j) = ((-(∑ e, (C h).drv i e * (C h).uv j e + ∑ e, (C h).drk i e * (C h).wk j e) : ℝ) : EReal)) (hc : cst_84 = 0) :
    ∀ h i j, k0_pay64 (F := Ideal) k0_pay5 v45 v96 v253 v276 v324 cst_84 (ix3 h i j) = (((C h).ddecay i j : ℝ) : EReal) := by
  intro h i j
  pointwise [k0_pay64]
  simp only [h45, h96, h253, h276, h324, p61 C v324 cst_84 h324 hc, reals]
  try rfl

theorem p65 (v93 : FVec Ideal S16x64x64 .f32) (v276 : FVec Ideal S16x64x64 .f32)
    (h93 : ∀ h i j, v93 (ix3 h i j) = (((C h).decay i j : ℝ) : EReal)) (h276 : ∀ h i j, v276 (ix3 h i j) = (((C h).dattn i j : ℝ) : EReal)) :
    ∀ h i j, k0_pay65 (F := Ideal) v93 v276 (ix3 h i j) = (((C h).dattn i j * (C h).decay i j : ℝ) : EReal) := by
  intro h i j
  pointwise [k0_pay65]
  simp only [h93, h276, reals]
  try rfl

theorem p66 (v45 : FVec Ideal S16x64x1 .f32) (v312 : FVec Ideal S16x64x128 .f32)
    (h45 : ∀ h i, v45 (ix3 h i 0) = (((C h).β i : ℝ) : EReal)) (h312 : ∀ h i e, v312 (ix3 h i e) = (((C h).drv i e : ℝ) : EReal)) :
    ∀ h i e, k0_pay66 (F := Ideal) v45 v312 (ix3 h i e) = (((C h).dv i e : ℝ) : EReal) := by
  intro h i e
  pointwise [k0_pay66]
  simp only [h45, h312, reals]
  try rfl

theorem p67 (v4 : Vec Ideal S16x64x128 .f32) (v93 : FVec Ideal S16x64x64 .f32) (v229 : FVec Ideal S16x64x1 .f32) (v273 : FVec Ideal S16x64x128 .f32) (v276 : FVec Ideal S16x64x64 .f32)
    (h4 : ∀ h i e, v4 (ix3 h i e) = (((C h).k i e : ℝ) : EReal)) (h93 : ∀ h i j, v93 (ix3 h i j) = (((C h).decay i j : ℝ) : EReal)) (h229 : ∀ h i, v229 (ix3 h i 0) = (((C h).eG i : ℝ) : EReal)) (h273 : ∀ h i e, v273 (ix3 h i e) = (((C h).dqdec i e : ℝ) : EReal)) (h276 : ∀ h i j, v276 (ix3 h i j) = (((C h).dattn i j : ℝ) : EReal)) :
    ∀ h i e, k0_pay67 (F := Ideal) v4 v93 v229 v273 v276 (ix3 h i e) = (((C h).dq i e : ℝ) : EReal) := by
  intro h i e
  pointwise [k0_pay67, k0_pay65]
  simp only [h4, h93, h229, h273, h276, reals]
  try rfl

theorem p68 (v4 : Vec Ideal S16x64x128 .f32) (v45 : FVec Ideal S16x64x1 .f32) (v93 : FVec Ideal S16x64x64 .f32) (v229 : FVec Ideal S16x64x1 .f32) (v315 : FVec Ideal S16x64x128 .f32) (v324 : FVec Ideal S16x64x64 .f32) (cst_84 : Ideal .f32)
    (h4 : ∀ h i e, v4 (ix3 h i e) = (((C h).k i e : ℝ) : EReal)) (h45 : ∀ h i, v45 (ix3 h i 0) = (((C h).β i : ℝ) : EReal)) (h93 : ∀ h i j, v93 (ix3 h i j) = (((C h).decay i j : ℝ) : EReal)) (h229 : ∀ h i, v229 (ix3 h i 0) = (((C h).eG i : ℝ) : EReal)) (h315 : ∀ h i e, v315 (ix3 h i e) = (((C h).drk i e : ℝ) : EReal)) (h324 : ∀ h i j, v324 (ix3 h i j) = ((-(∑ e, (C h).drv i e * (C h).uv j e + ∑ e, (C h).drk i e * (C h).wk j e) : ℝ) : EReal)) (hc : cst_84 = 0) :
    ∀ h i e, k0_pay68 (F := Ideal) v4 k0_pay5 v45 v93 v229 v315 v324 cst_84 (ix3 h i e) = (((C h).β i * (C h).eG i * (C h).drk i e + ∑ j, (C h).dkk i j * (C h).k j e + ∑ j, (C h).dkk j i * (C h).k j e : ℝ) : EReal) := by
  intro h i e
  pointwise [k0_pay68]
  simp only [h4, h45, h93, h229, h315, h324, p61 C v324 cst_84 h324 hc, reals]
  try rfl

theorem p69 (v93 : FVec Ideal S16x64x64 .f32) (v276 : FVec Ideal S16x64x64 .f32)
    (h93 : ∀ h i j, v93 (ix3 h i j) = (((C h).decay i j : ℝ) : EReal)) (h276 : ∀ h i j, v276 (ix3 h i j) = (((C h).dattn i j : ℝ) : EReal)) :
    ∀ h i j, k0_pay69 (F := Ideal) v93 v276 (ix3 h i j) = (((C h).dattn i j * (C h).decay i j : ℝ) : EReal) := by
  intro h i j
  pointwise [k0_pay69, k0_pay65]
  simp only [h93, h276, reals]
  try rfl

theorem p70 (v3 : Vec Ideal S16x64x128 .f32) (v257 : FVec Ideal S16x64x1 .f32) (v291 : FVec Ideal S16x64x128 .f32) (v369 : FVec Ideal S16x64x128 .f32) (v370 : FVec Ideal S16x64x64 .bf16)
    (h3 : ∀ h i e, v3 (ix3 h i e) = (((C h).q i e : ℝ) : EReal)) (h257 : ∀ h i, v257 (ix3 h i 0) = (((C h).ek i : ℝ) : EReal)) (h291 : ∀ h i e, v291 (ix3 h i e) = (((C h).dkdec i e : ℝ) : EReal)) (h369 : ∀ h i e, v369 (ix3 h i e) = (((C h).β i * (C h).eG i * (C h).drk i e + ∑ j, (C h).dkk i j * (C h).k j e + ∑ j, (C h).dkk j i * (C h).k j e : ℝ) : EReal)) (h370 : ∀ h i j, v370 (ix3 h i j) = (((C h).dattn i j * (C h).decay i j : ℝ) : EReal)) :
    ∀ h i e, k0_pay70 (F := Ideal) v3 v257 v291 v369 v370 (ix3 h i e) = (((C h).dk i e : ℝ) : EReal) := by
  intro h i e
  pointwise [k0_pay70]
  simp only [h3, h257, h291, h369, h370, reals]
  try rfl

theorem p71 (v3 : Vec Ideal S16x64x128 .f32) (v45 : FVec Ideal S16x64x1 .f32) (v93 : FVec Ideal S16x64x64 .f32) (v229 : FVec Ideal S16x64x1 .f32) (v259 : FVec Ideal S16x1x1 .f32) (v270 : FVec Ideal S16x64x128 .f32) (v273 : FVec Ideal S16x64x128 .f32) (v288 : FVec Ideal S16x1x1 .f32) (v291 : FVec Ideal S16x64x128 .f32) (v329 : FVec Ideal S16x64x1 .f32) (v344 : FVec Ideal S16x64x64 .f32)
    (h3 : ∀ h i e, v3 (ix3 h i e) = (((C h).q i e : ℝ) : EReal)) (h45 : ∀ h i, v45 (ix3 h i 0) = (((C h).β i : ℝ) : EReal)) (h93 : ∀ h i j, v93 (ix3 h i j) = (((C h).decay i j : ℝ) : EReal)) (h229 : ∀ h i, v229 (ix3 h i 0) = (((C h).eG i : ℝ) : EReal)) (h259 : ∀ h, v259 (ix3 h 0 0) = (((C h).cd : ℝ) : EReal)) (h270 : ∀ h i e, v270 (ix3 h i e) = (((C h).k i e * (C h).ek i : ℝ) : EReal)) (h273 : ∀ h i e, v273 (ix3 h i e) = (((C h).dqdec i e : ℝ) : EReal)) (h288 : ∀ h, v288 (ix3 h 0 0) = (((C h).dcd : ℝ) : EReal)) (h291 : ∀ h i e, v291 (ix3 h i e) = (((C h).dkdec i e : ℝ) : EReal)) (h329 : ∀ h i, v329 (ix3 h i 0) = (((C h).rkk i : ℝ) : EReal)) (h344 : ∀ h i j, v344 (ix3 h i j) = (((C h).ddecay i j : ℝ) : EReal)) :
    ∀ h i, k0_pay71 (F := Ideal) v3 k0_pay3 v45 v93 v229 v259 v270 v273 v288 v291 v329 v344 (ix3 h i 0) = (((C h).dG i : ℝ) : EReal) := by
  intro h i
  pointwise [k0_pay71, k0_pay3]
  simp only [h3, h45, h93, h229, h259, h270, h273, h288, h291, h329, h344, sel_63, Finset.sum_ite_eq, Finset.mem_univ, if_true, sel_sge, sel_sgt, sel_eq, sel_8, sel_o8, sel_o16, sel_o32, reals]
  try rfl

theorem p27 (v45 : FVec Ideal S16x64x1 .f32) (v93 : FVec Ideal S16x64x64 .f32) (v96 : FVec Ideal S16x64x64 .f32)
    (h45 : ∀ h i, v45 (ix3 h i 0) = (((C h).β i : ℝ) : EReal)) (h93 : ∀ h i j, v93 (ix3 h i j) = (((C h).decay i j : ℝ) : EReal)) (h96 : ∀ h i j, v96 (ix3 h i j) = (((C h).kk i j : ℝ) : EReal)) :
    ∀ h i j, k0_pay27 (F := Ideal) (iota .tc S16x64x64 32 [1] iota_S16x64x64_d1_w32) (iota .tc S16x64x64 32 [2] iota_S16x64x64_d2_w32) k0_pay5 v45 v93 v96 (ix3 h i j) = (((-diag by8 (C h).low : M64) i j : ℝ) : EReal) := by
  intro h i j
  pointwise [k0_pay27]
  simp only [h45, h93, h96, p26 C v45 v93 v96 h45 h93 h96, sel_sge, sel_sgt, sel_eq, sel_8, sel_o8, sel_o16, sel_o32, reals]
  rw [EReal.coe_eq_coe_iff, Matrix.neg_apply, diag]
  split <;> simp

theorem p28 (v45 : FVec Ideal S16x64x1 .f32) (v93 : FVec Ideal S16x64x64 .f32) (v96 : FVec Ideal S16x64x64 .f32)
    (h45 : ∀ h i, v45 (ix3 h i 0) = (((C h).β i : ℝ) : EReal)) (h93 : ∀ h i j, v93 (ix3 h i j) = (((C h).decay i j : ℝ) : EReal)) (h96 : ∀ h i j, v96 (ix3 h i j) = (((C h).kk i j : ℝ) : EReal)) :
    ∀ h i j, k0_pay28 (F := Ideal) (iota .tc S16x64x64 32 [1] iota_S16x64x64_d1_w32) (iota .tc S16x64x64 32 [2] iota_S16x64x64_d2_w32) k0_pay5 v45 v93 v96 (ix3 h i j) = ((((-diag by8 (C h).low) * (-diag by8 (C h).low) : M64) i j : ℝ) : EReal) := by
  intro h i j
  pointwise [k0_pay28]
  simp only [h45, h93, h96, p27 C v45 v93 v96 h45 h93 h96, reals]
  simp only [sub_self, mul_zero, zero_mul, Finset.sum_const_zero, zero_add, add_zero, ← Matrix.mul_apply, ← Matrix.add_apply, ← Matrix.sub_apply]

theorem p29 (v45 : FVec Ideal S16x64x1 .f32) (v93 : FVec Ideal S16x64x64 .f32) (v96 : FVec Ideal S16x64x64 .f32)
    (h45 : ∀ h i, v45 (ix3 h i 0) = (((C h).β i : ℝ) : EReal)) (h93 : ∀ h i j, v93 (ix3 h i j) = (((C h).decay i j : ℝ) : EReal)) (h96 : ∀ h i j, v96 (ix3 h i j) = (((C h).kk i j : ℝ) : EReal)) :
    ∀ h i j, k0_pay29 (F := Ideal) (iota .tc S16x64x64 32 [1] iota_S16x64x64_d1_w32) (iota .tc S16x64x64 32 [2] iota_S16x64x64_d2_w32) k0_pay5 v45 v93 v96 (ix3 h i j) = ((((-diag by8 (C h).low) * (-diag by8 (C h).low) * ((-diag by8 (C h).low) * (-diag by8 (C h).low)) : M64) i j : ℝ) : EReal) := by
  intro h i j
  pointwise [k0_pay29]
  simp only [h45, h93, h96, p28 C v45 v93 v96 h45 h93 h96, reals]
  simp only [sub_self, mul_zero, zero_mul, Finset.sum_const_zero, zero_add, add_zero, ← Matrix.mul_apply, ← Matrix.add_apply, ← Matrix.sub_apply]

theorem p30 (v45 : FVec Ideal S16x64x1 .f32) (v93 : FVec Ideal S16x64x64 .f32) (v96 : FVec Ideal S16x64x64 .f32)
    (h45 : ∀ h i, v45 (ix3 h i 0) = (((C h).β i : ℝ) : EReal)) (h93 : ∀ h i j, v93 (ix3 h i j) = (((C h).decay i j : ℝ) : EReal)) (h96 : ∀ h i j, v96 (ix3 h i j) = (((C h).kk i j : ℝ) : EReal)) :
    ∀ h i j, k0_pay30 (F := Ideal) (iota .tc S16x64x64 32 [1] iota_S16x64x64_d1_w32) (iota .tc S16x64x64 32 [2] iota_S16x64x64_d2_w32) k0_pay5 v45 v93 v96 (ix3 h i j) = (((1 + (-diag by8 (C h).low) : M64) i j : ℝ) : EReal) := by
  intro h i j
  pointwise [k0_pay30]
  simp only [h45, h93, h96, p27 C v45 v93 v96 h45 h93 h96, eye_word, reals]
  simp only [sub_self, mul_zero, zero_mul, Finset.sum_const_zero, zero_add, add_zero, ← Matrix.mul_apply, ← Matrix.add_apply, ← Matrix.sub_apply]

theorem p31 (v45 : FVec Ideal S16x64x1 .f32) (v93 : FVec Ideal S16x64x64 .f32) (v96 : FVec Ideal S16x64x64 .f32)
    (h45 : ∀ h i, v45 (ix3 h i 0) = (((C h).β i : ℝ) : EReal)) (h93 : ∀ h i j, v93 (ix3 h i j) = (((C h).decay i j : ℝ) : EReal)) (h96 : ∀ h i j, v96 (ix3 h i j) = (((C h).kk i j : ℝ) : EReal)) :
    ∀ h i j, k0_pay31 (F := Ideal) (iota .tc S16x64x64 32 [1] iota_S16x64x64_d1_w32) (iota .tc S16x64x64 32 [2] iota_S16x64x64_d2_w32) k0_pay5 v45 v93 v96 (ix3 h i j) = (((1 + (-diag by8 (C h).low) : M64) i j : ℝ) : EReal) := by
  intro h i j
  pointwise [k0_pay31]
  simp only [h45, h93, h96, p30 C v45 v93 v96 h45 h93 h96, reals]

theorem p32 (v45 : FVec Ideal S16x64x1 .f32) (v93 : FVec Ideal S16x64x64 .f32) (v96 : FVec Ideal S16x64x64 .f32)
    (h45 : ∀ h i, v45 (ix3 h i 0) = (((C h).β i : ℝ) : EReal)) (h93 : ∀ h i j, v93 (ix3 h i j) = (((C h).decay i j : ℝ) : EReal)) (h96 : ∀ h i j, v96 (ix3 h i j) = (((C h).kk i j : ℝ) : EReal)) :
    ∀ h i j, k0_pay32 (F := Ideal) (iota .tc S16x64x64 32 [1] iota_S16x64x64_d1_w32) (iota .tc S16x64x64 32 [2] iota_S16x64x64_d2_w32) k0_pay5 v45 v93 v96 (ix3 h i j) = ((0 : ℝ) : EReal) := by
  intro h i j
  pointwise [k0_pay32]
  simp only [h45, h93, h96, p31 C v45 v93 v96 h45 h93 h96, p30 C v45 v93 v96 h45 h93 h96, reals]
  simp only [sub_self, mul_zero, zero_mul, Finset.sum_const_zero, zero_add, add_zero, ← Matrix.mul_apply, ← Matrix.add_apply, ← Matrix.sub_apply]

theorem p33 (v45 : FVec Ideal S16x64x1 .f32) (v93 : FVec Ideal S16x64x64 .f32) (v96 : FVec Ideal S16x64x64 .f32)
    (h45 : ∀ h i, v45 (ix3 h i 0) = (((C h).β i : ℝ) : EReal)) (h93 : ∀ h i j, v93 (ix3 h i j) = (((C h).decay i j : ℝ) : EReal)) (h96 : ∀ h i j, v96 (ix3 h i j) = (((C h).kk i j : ℝ) : EReal)) :
    ∀ h i j, k0_pay33 (F := Ideal) (iota .tc S16x64x64 32 [1] iota_S16x64x64_d1_w32) (iota .tc S16x64x64 32 [2] iota_S16x64x64_d2_w32) k0_pay5 v45 v93 v96 (ix3 h i j) = ((((-diag by8 (C h).low) * (-diag by8 (C h).low) : M64) i j : ℝ) : EReal) := by
  intro h i j
  pointwise [k0_pay33]
  simp only [h45, h93, h96, p28 C v45 v93 v96 h45 h93 h96, reals]

theorem p34 (v101 : FVec Ideal S16x64x64 .f32) (v126 : FVec Ideal S16x64x64 .f32) (v139 : FVec Ideal S16x64x64 .f32) (v140 : FVec Ideal S16x64x64 .f32) (v141 : FVec Ideal S16x64x64 .bf16) (v144 : FVec Ideal S16x64x64 .bf16) (v145 : FVec Ideal S16x64x64 .bf16)
    (h101 : ∀ h i j, v101 (ix3 h i j) = (((C h).low i j : ℝ) : EReal)) (h126 : ∀ h i j, v126 (ix3 h i j) = ((((-diag by8 (C h).low) * (-diag by8 (C h).low) : M64) i j : ℝ) : EReal)) (h139 : ∀ h i j, v139 (ix3 h i j) = ((((-diag by8 (C h).low) * (-diag by8 (C h).low) * ((-diag by8 (C h).low) * (-diag by8 (C h).low)) : M64) i j : ℝ) : EReal)) (h140 : ∀ h i j, v140 (ix3 h i j) = (((1 + (-diag by8 (C h).low) : M64) i j : ℝ) : EReal)) (h141 : ∀ h i j, v141 (ix3 h i j) = (((1 + (-diag by8 (C h).low) : M64) i j : ℝ) : EReal)) (h144 : ∀ h i j, v144 (ix3 h i j) = ((0 : ℝ) : EReal)) (h145 : ∀ h i j, v145 (ix3 h i j) = ((((-diag by8 (C h).low) * (-diag by8 (C h).low) : M64) i j : ℝ) : EReal)) :
    ∀ h i j, k0_pay34 (F := Ideal) (iota .tc S16x64x64 32 [1] iota_S16x64x64_d1_w32) (iota .tc S16x64x64 32 [2] iota_S16x64x64_d2_w32) v101 v126 v139 v140 v141 v144 v145 (ix3 h i j) = (((grow by8 (C h).low (eights (-diag by8 (C h).low))) i j : ℝ) : EReal) := by
  intro h i j
  pointwise [k0_pay34]
  simp only [h101, h126, h139, h140, h141, h144, h145, sel_sge, sel_sgt, sel_eq, sel_8, sel_o8, sel_o16, sel_o32, reals]
  simp only [off_mul8, sub_self, mul_zero, zero_mul, Finset.sum_const_zero, zero_add, add_zero, ← Matrix.mul_apply, ← Matrix.add_apply, ← Matrix.sub_apply]
  rfl

theorem p36 (v101 : FVec Ideal S16x64x64 .f32) (v188 : FVec Ideal S16x64x64 .f32)
    (h101 : ∀ h i j, v101 (ix3 h i j) = (((C h).low i j : ℝ) : EReal)) (h188 : ∀ h i j, v188 (ix3 h i j) = (((grow by8 (C h).low (eights (-diag by8 (C h).low))) i j : ℝ) : EReal)) :
    ∀ h i j, k0_pay36 (F := Ideal) (iota .tc S16x64x64 32 [1] iota_S16x64x64_d1_w32) (iota .tc S16x64x64 32 [2] iota_S16x64x64_d2_w32) v101 v188 (k0_pay35 (iota .tc S16x64x64 32 [1] iota_S16x64x64_d1_w32)) 5#32 (ix3 h i j) = (((C h).ti i j : ℝ) : EReal) := by
  intro h i j
  pointwise [k0_pay36, k0_pay35]
  simp only [h101, h188, sel_sge, sel_sgt, sel_eq, sel_8, sel_o8, sel_o16, sel_o32, reals]
  simp only [off_mul16, off_mul32, sub_self, mul_zero, zero_mul, Finset.sum_const_zero, zero_add, add_zero, ← Matrix.mul_apply, ← Matrix.add_apply, ← Matrix.sub_apply]
  unfold Ch.ti
  rw [← blockInv_eq _ (C h).low_strict]
  rfl

theorem p38 (v5 : Vec Ideal S16x64x128 .f32) (v45 : FVec Ideal S16x64x1 .f32) (v101 : FVec Ideal S16x64x64 .f32) (v188 : FVec Ideal S16x64x64 .f32)
    (h5 : ∀ h i e, v5 (ix3 h i e) = (((C h).v i e : ℝ) : EReal)) (h45 : ∀ h i, v45 (ix3 h i 0) = (((C h).β i : ℝ) : EReal)) (h101 : ∀ h i j, v101 (ix3 h i j) = (((C h).low i j : ℝ) : EReal)) (h188 : ∀ h i j, v188 (ix3 h i j) = (((grow by8 (C h).low (eights (-diag by8 (C h).low))) i j : ℝ) : EReal)) :
    ∀ h i e, k0_pay38 (F := Ideal) v5 (iota .tc S16x64x64 32 [1] iota_S16x64x64_d1_w32) (iota .tc S16x64x64 32 [2] iota_S16x64x64_d2_w32) v45 v101 v188 (k0_pay35 (iota .tc S16x64x64 32 [1] iota_S16x64x64_d1_w32)) 5#32 (ix3 h i e) = (((C h).uv i e : ℝ) : EReal) := by
  intro h i e
  pointwise [k0_pay38]
  simp only [h5, h45, h101, h188, p36 C v101 v188 h101 h188, reals]
  try rfl

theorem p24 (v7 : FVec Ideal S64x128 .f32) (h78 : ∀ h i, k0_pay23 (F := Ideal) v7 (ix3 h i 0) = (((C h).G i : ℝ) : EReal)) :
    ∀ h i j, k0_pay24 (F := Ideal) v7 k0_pay3 k0_pay4 (ix3 h i j) = (((C h).decay i j : ℝ) : EReal) := by
  intro h i j
  pointwise [k0_pay24, k0_pay3, k0_pay4]
  simp only [h78, sel_sge, sel_sgt, sel_eq, sel_8, sel_o8, sel_o16, sel_o32, reals, Finset.sum_ite_eq', Finset.mem_univ, if_true]
  rw [EReal.coe_eq_coe_iff]
  unfold Ch.decay
  split <;> rfl

theorem p23 (v7 : FVec Ideal S64x128 .f32) (hG : ∀ (h : Fin 16) (i : Fin 64), v7 (ix2 i ⟨16 + h.val, by omega⟩) = (((C h).G i : ℝ) : EReal)) :
    ∀ h i, k0_pay23 (F := Ideal) v7 (ix3 h i 0) = (((C h).G i : ℝ) : EReal) := by
  intro h i
  pointwise [k0_pay23]
  rw [← hG]
  obtain ⟨h, hh⟩ := h
  interval_cases h <;> rfl

theorem p22 (v7 : FVec Ideal S64x128 .f32) (hβ : ∀ (h : Fin 16) (i : Fin 64), v7 (ix2 i ⟨h.val, by omega⟩) = (((C h).β i : ℝ) : EReal)) :
    ∀ h i, k0_pay22 (F := Ideal) (k0_pay6 v7) (k0_pay7 v7) (k0_pay8 v7) (k0_pay9 v7) (k0_pay10 v7) (k0_pay11 v7) (k0_pay12 v7) (k0_pay13 v7) (k0_pay14 v7) (k0_pay15 v7) (k0_pay16 v7) (k0_pay17 v7) (k0_pay18 v7) (k0_pay19 v7) (k0_pay20 v7) (k0_pay21 v7) (ix3 h i 0) = (((C h).β i : ℝ) : EReal) := by
  intro h i
  pointwise [k0_pay22, k0_pay6, k0_pay7, k0_pay8, k0_pay9, k0_pay10, k0_pay11, k0_pay12, k0_pay13, k0_pay14, k0_pay15, k0_pay16, k0_pay17, k0_pay18, k0_pay19, k0_pay20, k0_pay21]
  rw [← hβ]
  obtain ⟨h, hh⟩ := h
  interval_cases h <;> rfl

/-- The lanes of one column block: a head's rate gradient in lane `h`, its decay gradient in lane `16 + h`. -/
def lanes (v339 v412 : FVec Ideal S16x64x1 .f32) : FVec Ideal S64x128 .f32 :=
  let v413 : IVec S64x128 32 := iota .tc S64x128 32 [1] iota_S64x128_d1_w32
  let z : Ideal .f32 := Scalar.ofBits .f32 0x00000000#32
  let v459 := k0_pay73 v339 v412 v413 (k0_pay72 (F := Ideal)) 0#32
  let v513 := k0_pay76 v339 v412 v413 v459 (k0_pay74 v413) (k0_pay75 v412) z
  let v558 := k0_pay77 v339 v412 v413 v513
  let v603 := k0_pay80 v339 v412 v413 v558 (k0_pay78 v413) (k0_pay79 v339)
  let v657 := k0_pay82 v339 v412 v413 v603 (k0_pay81 v412 v413)
  let v693 := k0_pay85 v339 v412 v413 v657 (k0_pay83 v413) (k0_pay84 v412)
  k0_pay1 v693 (k0_pay86 v413) (k0_pay87 v412) z

theorem sel_lane {α : Type} (l : Fin 128) (k : ℕ) (hk : k < 128) (a b : α) :
    Scalar.select (IntOp.cmpi CmpIPredicate.eq (BitVec.ofNat 32 l.val) (BitVec.ofNat 32 k)) a b = if l.val = k then a else b := by
  have h : ∀ l k : Fin 128, IntOp.cmpi CmpIPredicate.eq (BitVec.ofNat 32 l.val) (BitVec.ofNat 32 k.val) = if l.val = k.val then 1#1 else 0#1 := by decide +kernel
  rw [h l ⟨k, hk⟩]
  split <;> rfl

theorem lanes_apply (v339 v412 : FVec Ideal S16x64x1 .f32) (i : Fin 64) (l : Fin 128) :
    lanes v339 v412 (ix2 i l) = if h : l.val < 16 then v339 (ix3 ⟨l.val, h⟩ i 0) else if h : l.val < 32 then v412 (ix3 ⟨l.val - 16, by omega⟩ i 0) else 0 := by
  unfold lanes
  pointwise [k0_pay1, k0_pay72, k0_pay73, k0_pay74, k0_pay75, k0_pay76, k0_pay77, k0_pay78, k0_pay79, k0_pay80, k0_pay81, k0_pay82, k0_pay83, k0_pay84, k0_pay85, k0_pay86, k0_pay87]
  simp only [sel_lane l 0 (by decide), sel_lane l 1 (by decide), sel_lane l 2 (by decide), sel_lane l 3 (by decide), sel_lane l 4 (by decide), sel_lane l 5 (by decide), sel_lane l 6 (by decide), sel_lane l 7 (by decide), sel_lane l 8 (by decide), sel_lane l 9 (by decide), sel_lane l 10 (by decide), sel_lane l 11 (by decide), sel_lane l 12 (by decide), sel_lane l 13 (by decide), sel_lane l 14 (by decide), sel_lane l 15 (by decide), sel_lane l 16 (by decide), sel_lane l 17 (by decide), sel_lane l 18 (by decide), sel_lane l 19 (by decide), sel_lane l 20 (by decide), sel_lane l 21 (by decide), sel_lane l 22 (by decide), sel_lane l 23 (by decide), sel_lane l 24 (by decide), sel_lane l 25 (by decide), sel_lane l 26 (by decide), sel_lane l 27 (by decide), sel_lane l 28 (by decide), sel_lane l 29 (by decide), sel_lane l 30 (by decide), sel_lane l 31 (by decide)]
  obtain ⟨l, hl⟩ := l
  dsimp only
  by_cases h32 : l < 32
  · interval_cases l <;> simp
  · simp only [show ¬ l = 0 by omega, show ¬ l = 1 by omega, show ¬ l = 2 by omega, show ¬ l = 3 by omega, show ¬ l = 4 by omega, show ¬ l = 5 by omega, show ¬ l = 6 by omega, show ¬ l = 7 by omega, show ¬ l = 8 by omega, show ¬ l = 9 by omega, show ¬ l = 10 by omega, show ¬ l = 11 by omega, show ¬ l = 12 by omega, show ¬ l = 13 by omega, show ¬ l = 14 by omega, show ¬ l = 15 by omega, show ¬ l = 16 by omega, show ¬ l = 17 by omega, show ¬ l = 18 by omega, show ¬ l = 19 by omega, show ¬ l = 20 by omega, show ¬ l = 21 by omega, show ¬ l = 22 by omega, show ¬ l = 23 by omega, show ¬ l = 24 by omega, show ¬ l = 25 by omega, show ¬ l = 26 by omega, show ¬ l = 27 by omega, show ¬ l = 28 by omega, show ¬ l = 29 by omega, show ¬ l = 30 by omega, show ¬ l = 31 by omega, dif_neg h32, dif_neg (show ¬ l < 16 by omega), if_false, add_zero]

end Cert.Gd

end
-- ==== Proof.GdBlk.lean ====
/-
  One grid point of the kernel: its three gradient blocks, its lane block and its state, from the blocks it reads.
-/
module

public import proofs.«01_k».proof.Proof.GdPay

@[expose] public section

noncomputable section

open Idealize.ShloMosaic

namespace Cert.Gd

open Cert.GdnIdeal Cert.GdnIdeal.Gen

/-- What a grid point reads. -/
structure Blk where
  q : FVec Ideal S16x64x128 .f32
  k : FVec Ideal S16x64x128 .f32
  v : FVec Ideal S16x64x128 .f32
  bg : FVec Ideal S64x128 .f32
  st : FVec Ideal S1x16x128x128 .f32
  dO : FVec Ideal S16x64x128 .f32
  ds : FVec Ideal S16x128x128 .f32

def n45 (X : Blk) : FVec Ideal S16x64x1 .f32 :=
  k0_pay22 (k0_pay6 X.bg) (k0_pay7 X.bg) (k0_pay8 X.bg) (k0_pay9 X.bg) (k0_pay10 X.bg) (k0_pay11 X.bg) (k0_pay12 X.bg) (k0_pay13 X.bg) (k0_pay14 X.bg) (k0_pay15 X.bg) (k0_pay16 X.bg) (k0_pay17 X.bg) (k0_pay18 X.bg) (k0_pay19 X.bg) (k0_pay20 X.bg) (k0_pay21 X.bg)

def n78 (X : Blk) : FVec Ideal S16x64x1 .f32 := k0_pay23 X.bg

def n93 (X : Blk) : FVec Ideal S16x64x64 .f32 := k0_pay24 X.bg k0_pay3 k0_pay4

def n96 (X : Blk) : FVec Ideal S16x64x64 .f32 := k0_pay25 X.k

def n101 (X : Blk) : FVec Ideal S16x64x64 .f32 := k0_pay26 k0_pay5 (n45 X) (n93 X) (n96 X)

def n126 (X : Blk) : FVec Ideal S16x64x64 .f32 := k0_pay28 (iota .tc S16x64x64 32 [1] iota_S16x64x64_d1_w32) (iota .tc S16x64x64 32 [2] iota_S16x64x64_d2_w32) k0_pay5 (n45 X) (n93 X) (n96 X)

def n139 (X : Blk) : FVec Ideal S16x64x64 .f32 := k0_pay29 (iota .tc S16x64x64 32 [1] iota_S16x64x64_d1_w32) (iota .tc S16x64x64 32 [2] iota_S16x64x64_d2_w32) k0_pay5 (n45 X) (n93 X) (n96 X)

def n140 (X : Blk) : FVec Ideal S16x64x64 .f32 := k0_pay30 (iota .tc S16x64x64 32 [1] iota_S16x64x64_d1_w32) (iota .tc S16x64x64 32 [2] iota_S16x64x64_d2_w32) k0_pay5 (n45 X) (n93 X) (n96 X)

def n141 (X : Blk) : FVec Ideal S16x64x64 .bf16 := k0_pay31 (iota .tc S16x64x64 32 [1] iota_S16x64x64_d1_w32) (iota .tc S16x64x64 32 [2] iota_S16x64x64_d2_w32) k0_pay5 (n45 X) (n93 X) (n96 X)

def n144 (X : Blk) : FVec Ideal S16x64x64 .bf16 := k0_pay32 (iota .tc S16x64x64 32 [1] iota_S16x64x64_d1_w32) (iota .tc S16x64x64 32 [2] iota_S16x64x64_d2_w32) k0_pay5 (n45 X) (n93 X) (n96 X)

def n145 (X : Blk) : FVec Ideal S16x64x64 .bf16 := k0_pay33 (iota .tc S16x64x64 32 [1] iota_S16x64x64_d1_w32) (iota .tc S16x64x64 32 [2] iota_S16x64x64_d2_w32) k0_pay5 (n45 X) (n93 X) (n96 X)

def n188 (X : Blk) : FVec Ideal S16x64x64 .f32 := k0_pay34 (iota .tc S16x64x64 32 [1] iota_S16x64x64_d1_w32) (iota .tc S16x64x64 32 [2] iota_S16x64x64_d2_w32) (n101 X) (n126 X) (n139 X) (n140 X) (n141 X) (n144 X) (n145 X)

def n228 (X : Blk) : FVec Ideal S16x64x64 .f32 := k0_pay36 (iota .tc S16x64x64 32 [1] iota_S16x64x64_d1_w32) (iota .tc S16x64x64 32 [2] iota_S16x64x64_d2_w32) (n101 X) (n188 X) (k0_pay35 (iota .tc S16x64x64 32 [1] iota_S16x64x64_d1_w32)) 5#32

def n229 (X : Blk) : FVec Ideal S16x64x1 .f32 := k0_pay37 (n78 X)

def n234 (X : Blk) : FVec Ideal S16x64x128 .f32 := k0_pay38 X.v (iota .tc S16x64x64 32 [1] iota_S16x64x64_d1_w32) (iota .tc S16x64x64 32 [2] iota_S16x64x64_d2_w32) (n45 X) (n101 X) (n188 X) (k0_pay35 (iota .tc S16x64x64 32 [1] iota_S16x64x64_d1_w32)) 5#32

def n237 (X : Blk) : FVec Ideal S16x64x128 .f32 := k0_pay39 X.k (n45 X) (n78 X)

def n240 (X : Blk) : FVec Ideal S16x64x128 .f32 := k0_pay40 (n228 X) (n237 X)

def n253 (X : Blk) : FVec Ideal S16x64x64 .f32 := k0_pay41 X.q X.k

def n257 (X : Blk) : FVec Ideal S16x64x1 .f32 := k0_pay43 (n78 X)

def n259 (X : Blk) : FVec Ideal S16x1x1 .f32 := k0_pay44 (n78 X)

def n261 (X : Blk) : FVec Ideal S16x128x128 .f32 := k0_pay45 X.st

def n266 (X : Blk) : FVec Ideal S16x64x128 .f32 := k0_pay46 (n228 X) (n234 X) (n237 X) X.st

def n268 (X : Blk) : FVec Ideal S16x64x128 .f32 := k0_pay47 X.q (n229 X)

def n270 (X : Blk) : FVec Ideal S16x64x128 .f32 := k0_pay48 X.k (n78 X)

def n273 (X : Blk) : FVec Ideal S16x64x128 .f32 := k0_pay49 X.dO X.st

def n276 (X : Blk) : FVec Ideal S16x64x64 .f32 := k0_pay50 X.dO (n228 X) (n234 X) (n237 X) X.st

def n279 (X : Blk) : FVec Ideal S16x64x128 .f32 := k0_pay51 X.q X.k X.dO (n93 X)

def n280 (X : Blk) : FVec Ideal S16x64x128 .bf16 := k0_pay52 X.k (n78 X)

def n281 (X : Blk) : FVec Ideal S16x128x128 .bf16 := k0_pay53 X.ds

def n288 (X : Blk) : FVec Ideal S16x1x1 .f32 := k0_pay55 (n261 X) X.ds

def n291 (X : Blk) : FVec Ideal S16x64x128 .f32 := k0_pay56 X.ds (n266 X)

def n312 (X : Blk) : FVec Ideal S16x64x128 .f32 := k0_pay58 (n228 X) (n279 X) (n280 X) (n281 X) (constant S16x64x128 .f32 0x00000000#32)

def n315 (X : Blk) : FVec Ideal S16x64x128 .f32 := k0_pay59 (n228 X) (n261 X) (n279 X) (n280 X) (n281 X) (constant S16x64x128 .f32 0x00000000#32)

def n324 (X : Blk) : FVec Ideal S16x64x64 .f32 := k0_pay60 (n228 X) (n234 X) (n240 X) (n261 X) (n279 X) (n280 X) (n281 X) (constant S16x64x128 .f32 0x00000000#32)

def n329 (X : Blk) : FVec Ideal S16x64x1 .f32 := k0_pay62 X.k (n315 X)

def n339 (X : Blk) : FVec Ideal S16x64x1 .f32 := k0_pay63 X.k X.v k0_pay5 (n93 X) (n96 X) (n229 X) (n312 X) (n315 X) (n324 X) (Scalar.ofBits .f32 0x00000000#32)

def n344 (X : Blk) : FVec Ideal S16x64x64 .f32 := k0_pay64 k0_pay5 (n45 X) (n96 X) (n253 X) (n276 X) (n324 X) (Scalar.ofBits .f32 0x00000000#32)

def n369 (X : Blk) : FVec Ideal S16x64x128 .f32 := k0_pay68 X.k k0_pay5 (n45 X) (n93 X) (n229 X) (n315 X) (n324 X) (Scalar.ofBits .f32 0x00000000#32)

def n370 (X : Blk) : FVec Ideal S16x64x64 .bf16 := k0_pay69 (n93 X) (n276 X)

def n412 (X : Blk) : FVec Ideal S16x64x1 .f32 := k0_pay71 X.q k0_pay3 (n45 X) (n93 X) (n229 X) (n259 X) (n270 X) (n273 X) (n288 X) (n291 X) (n329 X) (n344 X)

def nS (X : Blk) : FVec Ideal S16x128x128 .f32 := k0_pay57 X.dO (n240 X) (n259 X) X.ds (n268 X) (n279 X) (n280 X) (n281 X) (constant S16x64x128 .f32 0x00000000#32)

def nV (X : Blk) : FVec Ideal S16x64x128 .f32 := k0_pay66 (n45 X) (n312 X)

def nQ (X : Blk) : FVec Ideal S16x64x128 .f32 := k0_pay67 X.k (n93 X) (n229 X) (n273 X) (n276 X)

def nK (X : Blk) : FVec Ideal S16x64x128 .f32 := k0_pay70 X.q (n257 X) (n291 X) (n369 X) (n370 X)

def nB (X : Blk) : FVec Ideal S64x128 .f32 := lanes (n339 X) (n412 X)

/-- The blocks hold the chunks `C`. -/
structure Holds (C : Fin 16 → Ch) (X : Blk) : Prop where
  hq : ∀ h i e, X.q (ix3 h i e) = (((C h).q i e : ℝ) : EReal)
  hk : ∀ h i e, X.k (ix3 h i e) = (((C h).k i e : ℝ) : EReal)
  hv : ∀ h i e, X.v (ix3 h i e) = (((C h).v i e : ℝ) : EReal)
  hβ : ∀ (h : Fin 16) (i : Fin 64), X.bg (ix2 i ⟨h.val, by omega⟩) = (((C h).β i : ℝ) : EReal)
  hG : ∀ (h : Fin 16) (i : Fin 64), X.bg (ix2 i ⟨16 + h.val, by omega⟩) = (((C h).G i : ℝ) : EReal)
  hs : ∀ h d e, X.st (ix4 0 h d e) = (((C h).s d e : ℝ) : EReal)
  hdO : ∀ h i e, X.dO (ix3 h i e) = (((C h).dO i e : ℝ) : EReal)
  hds : ∀ h d e, X.ds (ix3 h d e) = (((C h).ds d e : ℝ) : EReal)

theorem z84 : (Scalar.ofBits .f32 0x00000000#32 : Ideal .f32) = 0 := by
  show Ideal.ofBits .f32 0x00000000#32 = 0
  simp

variable (C : Fin 16 → Ch) (X : Blk) (H : Holds C X)
include H

theorem r45 : ∀ h i, n45 X (ix3 h i 0) = (((C h).β i : ℝ) : EReal) := p22 C X.bg H.hβ

theorem r78 : ∀ h i, n78 X (ix3 h i 0) = (((C h).G i : ℝ) : EReal) := p23 C X.bg H.hG

theorem r93 : ∀ h i j, n93 X (ix3 h i j) = (((C h).decay i j : ℝ) : EReal) := p24 C X.bg (r78 C X H)

theorem r96 : ∀ h i j, n96 X (ix3 h i j) = (((C h).kk i j : ℝ) : EReal) :=
  p25 C X.k H.hk

theorem r101 : ∀ h i j, n101 X (ix3 h i j) = (((C h).low i j : ℝ) : EReal) :=
  p26 C (n45 X) (n93 X) (n96 X) (r45 C X H) (r93 C X H) (r96 C X H)

theorem r126 : ∀ h i j, n126 X (ix3 h i j) = ((((-diag by8 (C h).low) * (-diag by8 (C h).low) : M64) i j : ℝ) : EReal) :=
  p28 C (n45 X) (n93 X) (n96 X) (r45 C X H) (r93 C X H) (r96 C X H)

theorem r139 : ∀ h i j, n139 X (ix3 h i j) = ((((-diag by8 (C h).low) * (-diag by8 (C h).low) * ((-diag by8 (C h).low) * (-diag by8 (C h).low)) : M64) i j : ℝ) : EReal) :=
  p29 C (n45 X) (n93 X) (n96 X) (r45 C X H) (r93 C X H) (r96 C X H)

theorem r140 : ∀ h i j, n140 X (ix3 h i j) = (((1 + (-diag by8 (C h).low) : M64) i j : ℝ) : EReal) :=
  p30 C (n45 X) (n93 X) (n96 X) (r45 C X H) (r93 C X H) (r96 C X H)

theorem r141 : ∀ h i j, n141 X (ix3 h i j) = (((1 + (-diag by8 (C h).low) : M64) i j : ℝ) : EReal) :=
  p31 C (n45 X) (n93 X) (n96 X) (r45 C X H) (r93 C X H) (r96 C X H)

theorem r144 : ∀ h i j, n144 X (ix3 h i j) = ((0 : ℝ) : EReal) :=
  p32 C (n45 X) (n93 X) (n96 X) (r45 C X H) (r93 C X H) (r96 C X H)

theorem r145 : ∀ h i j, n145 X (ix3 h i j) = ((((-diag by8 (C h).low) * (-diag by8 (C h).low) : M64) i j : ℝ) : EReal) :=
  p33 C (n45 X) (n93 X) (n96 X) (r45 C X H) (r93 C X H) (r96 C X H)

theorem r188 : ∀ h i j, n188 X (ix3 h i j) = (((grow by8 (C h).low (eights (-diag by8 (C h).low))) i j : ℝ) : EReal) :=
  p34 C (n101 X) (n126 X) (n139 X) (n140 X) (n141 X) (n144 X) (n145 X) (r101 C X H) (r126 C X H) (r139 C X H) (r140 C X H) (r141 C X H) (r144 C X H) (r145 C X H)

theorem r228 : ∀ h i j, n228 X (ix3 h i j) = (((C h).ti i j : ℝ) : EReal) :=
  p36 C (n101 X) (n188 X) (r101 C X H) (r188 C X H)

theorem r229 : ∀ h i, n229 X (ix3 h i 0) = (((C h).eG i : ℝ) : EReal) :=
  p37 C (n78 X) (r78 C X H)

theorem r234 : ∀ h i e, n234 X (ix3 h i e) = (((C h).uv i e : ℝ) : EReal) :=
  p38 C X.v (n45 X) (n101 X) (n188 X) H.hv (r45 C X H) (r101 C X H) (r188 C X H)

theorem r237 : ∀ h i e, n237 X (ix3 h i e) = (((C h).β i * (C h).eG i * (C h).k i e : ℝ) : EReal) :=
  p39 C X.k (n45 X) (n78 X) H.hk (r45 C X H) (r78 C X H)

theorem r240 : ∀ h i e, n240 X (ix3 h i e) = (((C h).wk i e : ℝ) : EReal) :=
  p40 C (n228 X) (n237 X) (r228 C X H) (r237 C X H)

theorem r253 : ∀ h i j, n253 X (ix3 h i j) = (((C h).qk i j : ℝ) : EReal) :=
  p41 C X.q X.k H.hq H.hk

theorem r257 : ∀ h i, n257 X (ix3 h i 0) = (((C h).ek i : ℝ) : EReal) :=
  p43 C (n78 X) (r78 C X H)

theorem r259 : ∀ h, n259 X (ix3 h 0 0) = (((C h).cd : ℝ) : EReal) :=
  p44 C (n78 X) (r78 C X H)

theorem r261 : ∀ h d e, n261 X (ix3 h d e) = (((C h).s d e : ℝ) : EReal) :=
  p45 C X.st H.hs

theorem r266 : ∀ h i e, n266 X (ix3 h i e) = (((C h).u i e : ℝ) : EReal) :=
  p46 C (n228 X) (n234 X) (n237 X) X.st (r228 C X H) (r234 C X H) (r237 C X H) H.hs

theorem r268 : ∀ h i e, n268 X (ix3 h i e) = (((C h).q i e * (C h).eG i : ℝ) : EReal) :=
  p47 C X.q (n229 X) H.hq (r229 C X H)

theorem r270 : ∀ h i e, n270 X (ix3 h i e) = (((C h).k i e * (C h).ek i : ℝ) : EReal) :=
  p48 C X.k (n78 X) H.hk (r78 C X H)

theorem r273 : ∀ h i e, n273 X (ix3 h i e) = (((C h).dqdec i e : ℝ) : EReal) :=
  p49 C X.dO X.st H.hdO H.hs

theorem r276 : ∀ h i j, n276 X (ix3 h i j) = (((C h).dattn i j : ℝ) : EReal) :=
  p50 C X.dO (n228 X) (n234 X) (n237 X) X.st H.hdO (r228 C X H) (r234 C X H) (r237 C X H) H.hs

theorem r279 : ∀ h i e, n279 X (ix3 h i e) = ((∑ m, (C h).attn m i * (C h).dO m e : ℝ) : EReal) :=
  p51 C X.q X.k X.dO (n93 X) H.hq H.hk H.hdO (r93 C X H)

theorem r280 : ∀ h i e, n280 X (ix3 h i e) = (((C h).k i e * (C h).ek i : ℝ) : EReal) :=
  p52 C X.k (n78 X) H.hk (r78 C X H)

theorem r281 : ∀ h d e, n281 X (ix3 h d e) = (((C h).ds d e : ℝ) : EReal) :=
  p53 C X.ds H.hds

theorem r288 : ∀ h, n288 X (ix3 h 0 0) = (((C h).dcd : ℝ) : EReal) :=
  p55 C (n261 X) X.ds (r261 C X H) H.hds

theorem r291 : ∀ h i e, n291 X (ix3 h i e) = (((C h).dkdec i e : ℝ) : EReal) :=
  p56 C X.ds (n266 X) H.hds (r266 C X H)

theorem r312 : ∀ h i e, n312 X (ix3 h i e) = (((C h).drv i e : ℝ) : EReal) :=
  p58 C (n228 X) (n279 X) (n280 X) (n281 X) (r228 C X H) (r279 C X H) (r280 C X H) (r281 C X H)

theorem r315 : ∀ h i e, n315 X (ix3 h i e) = (((C h).drk i e : ℝ) : EReal) :=
  p59 C (n228 X) (n261 X) (n279 X) (n280 X) (n281 X) (r228 C X H) (r261 C X H) (r279 C X H) (r280 C X H) (r281 C X H)

theorem r324 : ∀ h i j, n324 X (ix3 h i j) = ((-(∑ e, (C h).drv i e * (C h).uv j e + ∑ e, (C h).drk i e * (C h).wk j e) : ℝ) : EReal) :=
  p60 C (n228 X) (n234 X) (n240 X) (n261 X) (n279 X) (n280 X) (n281 X) (r228 C X H) (r234 C X H) (r240 C X H) (r261 C X H) (r279 C X H) (r280 C X H) (r281 C X H)

theorem r329 : ∀ h i, n329 X (ix3 h i 0) = (((C h).rkk i : ℝ) : EReal) :=
  p62 C X.k (n315 X) H.hk (r315 C X H)

theorem r339 : ∀ h i, n339 X (ix3 h i 0) = (((C h).dβ i : ℝ) : EReal) :=
  p63 C X.k X.v (n93 X) (n96 X) (n229 X) (n312 X) (n315 X) (n324 X) (Scalar.ofBits .f32 0x00000000#32) H.hk H.hv (r93 C X H) (r96 C X H) (r229 C X H) (r312 C X H) (r315 C X H) (r324 C X H) z84

theorem r344 : ∀ h i j, n344 X (ix3 h i j) = (((C h).ddecay i j : ℝ) : EReal) :=
  p64 C (n45 X) (n96 X) (n253 X) (n276 X) (n324 X) (Scalar.ofBits .f32 0x00000000#32) (r45 C X H) (r96 C X H) (r253 C X H) (r276 C X H) (r324 C X H) z84

theorem r369 : ∀ h i e, n369 X (ix3 h i e) = (((C h).β i * (C h).eG i * (C h).drk i e + ∑ j, (C h).dkk i j * (C h).k j e + ∑ j, (C h).dkk j i * (C h).k j e : ℝ) : EReal) :=
  p68 C X.k (n45 X) (n93 X) (n229 X) (n315 X) (n324 X) (Scalar.ofBits .f32 0x00000000#32) H.hk (r45 C X H) (r93 C X H) (r229 C X H) (r315 C X H) (r324 C X H) z84

theorem r370 : ∀ h i j, n370 X (ix3 h i j) = (((C h).dattn i j * (C h).decay i j : ℝ) : EReal) :=
  p69 C (n93 X) (n276 X) (r93 C X H) (r276 C X H)

theorem r412 : ∀ h i, n412 X (ix3 h i 0) = (((C h).dG i : ℝ) : EReal) :=
  p71 C X.q (n45 X) (n93 X) (n229 X) (n259 X) (n270 X) (n273 X) (n288 X) (n291 X) (n329 X) (n344 X) H.hq (r45 C X H) (r93 C X H) (r229 C X H) (r259 C X H) (r270 C X H) (r273 C X H) (r288 C X H) (r291 C X H) (r329 C X H) (r344 C X H)

theorem rS : ∀ h d e, nS X (ix3 h d e) = (((C h).dstate d e : ℝ) : EReal) :=
  p57 C X.dO (n240 X) (n259 X) X.ds (n268 X) (n279 X) (n280 X) (n281 X) H.hdO (r240 C X H) (r259 C X H) H.hds (r268 C X H) (r279 C X H) (r280 C X H) (r281 C X H)

theorem rV : ∀ h i e, nV X (ix3 h i e) = (((C h).dv i e : ℝ) : EReal) :=
  p66 C (n45 X) (n312 X) (r45 C X H) (r312 C X H)

theorem rQ : ∀ h i e, nQ X (ix3 h i e) = (((C h).dq i e : ℝ) : EReal) :=
  p67 C X.k (n93 X) (n229 X) (n273 X) (n276 X) H.hk (r93 C X H) (r229 C X H) (r273 C X H) (r276 C X H)

theorem rK : ∀ h i e, nK X (ix3 h i e) = (((C h).dk i e : ℝ) : EReal) :=
  p70 C X.q (n257 X) (n291 X) (n369 X) (n370 X) H.hq (r257 C X H) (r291 C X H) (r369 C X H) (r370 C X H)

theorem rB (i : Fin 64) (l : Fin 128) : nB X (ix2 i l) = if h : l.val < 16 then (((C ⟨l.val, h⟩).dβ i : ℝ) : EReal)
    else if h : l.val < 32 then (((C ⟨l.val - 16, by omega⟩).dG i : ℝ) : EReal) else 0 := by
  unfold nB
  rw [lanes_apply]
  simp only [r339 C X H, r412 C X H]

end Cert.Gd

end
-- ==== Proof.GdCases.lean ====
/-
  What one grid point of the gated-delta backward kernel leaves in its two output buffers and in the state gradient it
  carries, as functions of the point's input blocks and of what the point before left.
-/
module

public import proofs.«01_k».proof.Proof.Gen.GdnIdeal.Frame
public import proofs.«01_k».proof.Proof.Gen.GdnIdeal.Value
public import proofs.«01_k».proof.Proof.GdBlk
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.Gd

open Cert.GdnIdeal Cert.GdnIdeal.Gen Cert.GdnIdeal.Value

theorem origin2 : (![0, 0] : Fin 2 → Nat) = fun _ => 0 := funext fun a => by fin_cases a <;> rfl
theorem origin3 : (![0, 0, 0] : Fin 3 → Nat) = fun _ => 0 := funext fun a => by fin_cases a <;> rfl
theorem origin4 : (![0, 0, 0, 0] : Fin 4 → Nat) = fun _ => 0 := funext fun a => by fin_cases a <;> rfl

/-- The three gradients stacked: of the queries, of the keys, of the values. -/
def nQKV (X : Blk) : FVec Ideal S48x64x128 .f32 := fun y =>
  if h : (y 0).val < 16 then nQ X (ix3 ⟨(y 0).val, h⟩ (y 1) (y 2))
  else if h : (y 0).val < 32 then nK X (ix3 ⟨(y 0).val - 16, by omega⟩ (y 1) (y 2))
  else nV X (ix3 ⟨(y 0).val - 32, by have h48 : (y 0).val < 48 := (y 0).isLt; omega⟩ (y 1) (y 2))

/-- A stack of one gradient's heads, stored from row `o` on, is that part of the whole stack. -/
theorem part_q (X : Blk) (x : (Rect.unit (s := S48x64x128) ![0, 0, 0] S16x64x128.size inb_S48x64x128_S16x64x128_0_0_0).shape.Idx) :
    nQ X x = nQKV X ((Rect.unit (s := S48x64x128) ![0, 0, 0] S16x64x128.size inb_S48x64x128_S16x64x128_0_0_0).emb x) := by
  have h0 : ((Rect.unit (s := S48x64x128) ![0, 0, 0] S16x64x128.size inb_S48x64x128_S16x64x128_0_0_0).emb x 0).val = 0 + (x 0).val := by
    rw [Rect.emb_apply]
    show 0 + 1 * (x 0).val = _
    omega
  have h1 : ((Rect.unit (s := S48x64x128) ![0, 0, 0] S16x64x128.size inb_S48x64x128_S16x64x128_0_0_0).emb x 1).val = 0 + (x 1).val := by
    rw [Rect.emb_apply]
    show 0 + 1 * (x 1).val = _
    omega
  have h2 : ((Rect.unit (s := S48x64x128) ![0, 0, 0] S16x64x128.size inb_S48x64x128_S16x64x128_0_0_0).emb x 2).val = 0 + (x 2).val := by
    rw [Rect.emb_apply]
    show 0 + 1 * (x 2).val = _
    omega
  have hx : (x 0).val < 16 := (x 0).isLt
  refine Eq.trans ?_ (Eq.symm (dif_pos (show _ < 16 by omega)))
  congr 1
  funext a
  apply Fin.ext
  match a with
  | ⟨0, _⟩ => show (x 0).val = _; exact (h0.trans (Nat.zero_add _)).symm
  | ⟨1, _⟩ => show (x 1).val = _; exact (h1.trans (Nat.zero_add _)).symm
  | ⟨2, _⟩ => show (x 2).val = _; exact (h2.trans (Nat.zero_add _)).symm

theorem part_k (X : Blk) (x : (Rect.unit (s := S48x64x128) ![16, 0, 0] S16x64x128.size inb_S48x64x128_S16x64x128_16_0_0).shape.Idx) :
    nK X x = nQKV X ((Rect.unit (s := S48x64x128) ![16, 0, 0] S16x64x128.size inb_S48x64x128_S16x64x128_16_0_0).emb x) := by
  have h0 : ((Rect.unit (s := S48x64x128) ![16, 0, 0] S16x64x128.size inb_S48x64x128_S16x64x128_16_0_0).emb x 0).val = 16 + (x 0).val := by
    rw [Rect.emb_apply]
    show 16 + 1 * (x 0).val = _
    omega
  have h1 : ((Rect.unit (s := S48x64x128) ![16, 0, 0] S16x64x128.size inb_S48x64x128_S16x64x128_16_0_0).emb x 1).val = 0 + (x 1).val := by
    rw [Rect.emb_apply]
    show 0 + 1 * (x 1).val = _
    omega
  have h2 : ((Rect.unit (s := S48x64x128) ![16, 0, 0] S16x64x128.size inb_S48x64x128_S16x64x128_16_0_0).emb x 2).val = 0 + (x 2).val := by
    rw [Rect.emb_apply]
    show 0 + 1 * (x 2).val = _
    omega
  have hx : (x 0).val < 16 := (x 0).isLt
  refine Eq.trans ?_ (Eq.symm ((dif_neg (show ¬_ < 16 by omega)).trans (dif_pos (show _ < 32 by omega))))
  congr 1
  funext a
  apply Fin.ext
  match a with
  | ⟨0, _⟩ => show (x 0).val = _ - 16; omega
  | ⟨1, _⟩ => show (x 1).val = _; exact (h1.trans (Nat.zero_add _)).symm
  | ⟨2, _⟩ => show (x 2).val = _; exact (h2.trans (Nat.zero_add _)).symm

theorem part_v (X : Blk) (x : (Rect.unit (s := S48x64x128) ![32, 0, 0] S16x64x128.size inb_S48x64x128_S16x64x128_32_0_0).shape.Idx) :
    nV X x = nQKV X ((Rect.unit (s := S48x64x128) ![32, 0, 0] S16x64x128.size inb_S48x64x128_S16x64x128_32_0_0).emb x) := by
  have h0 : ((Rect.unit (s := S48x64x128) ![32, 0, 0] S16x64x128.size inb_S48x64x128_S16x64x128_32_0_0).emb x 0).val = 32 + (x 0).val := by
    rw [Rect.emb_apply]
    show 32 + 1 * (x 0).val = _
    omega
  have h1 : ((Rect.unit (s := S48x64x128) ![32, 0, 0] S16x64x128.size inb_S48x64x128_S16x64x128_32_0_0).emb x 1).val = 0 + (x 1).val := by
    rw [Rect.emb_apply]
    show 0 + 1 * (x 1).val = _
    omega
  have h2 : ((Rect.unit (s := S48x64x128) ![32, 0, 0] S16x64x128.size inb_S48x64x128_S16x64x128_32_0_0).emb x 2).val = 0 + (x 2).val := by
    rw [Rect.emb_apply]
    show 0 + 1 * (x 2).val = _
    omega
  have hx : (x 0).val < 16 := (x 0).isLt
  refine Eq.trans ?_ (Eq.symm ((dif_neg (show ¬_ < 16 by omega)).trans (dif_neg (show ¬_ < 32 by omega))))
  congr 1
  funext a
  apply Fin.ext
  match a with
  | ⟨0, _⟩ => show (x 0).val = _ - 32; omega
  | ⟨1, _⟩ => show (x 1).val = _; exact (h1.trans (Nat.zero_add _)).symm
  | ⟨2, _⟩ => show (x 2).val = _; exact (h2.trans (Nat.zero_add _)).symm

theorem parts_qkv (X : Blk) (a b d : FVec Ideal S16x64x128 .f32) (ha : a = nK X) (hb : b = nQ X) (hd : d = nV X) :
    ∀ p ∈ ([⟨Rect.unit (s := S48x64x128) ![16, 0, 0] S16x64x128.size inb_S48x64x128_S16x64x128_16_0_0, a⟩, ⟨Rect.unit (s := S48x64x128) ![0, 0, 0] S16x64x128.size inb_S48x64x128_S16x64x128_0_0_0, b⟩,
      ⟨Rect.unit (s := S48x64x128) ![32, 0, 0] S16x64x128.size inb_S48x64x128_S16x64x128_32_0_0, d⟩] : List (View.Piece (Elt Ideal) S48x64x128 .f32)), ∀ x, p.2 x = nQKV X (p.1.emb x) := by
  subst ha hb hd
  intro p hp
  rcases List.mem_cons.mp hp with rfl | hp
  · exact part_k X
  rcases List.mem_cons.mp hp with rfl | hp
  · exact part_q X
  · obtain rfl := List.mem_singleton.mp hp
    exact part_v X

section
variable (c : Dev nD) (i : grid0.Coords) (a1 : Memref sig .tc .vmem S16x64x128 .f32) (h1 : a1.IsWhole) (a2 : Memref sig .tc .vmem S16x64x128 .f32) (h2 : a2.IsWhole) (a3 : Memref sig .tc .vmem S16x64x128 .f32) (h3 : a3.IsWhole) (a4 : Memref sig .tc .vmem S64x128 .f32) (h4 : a4.IsWhole) (a5 : Memref sig .tc .vmem S1x16x128x128 .f32) (h5 : a5.IsWhole) (a6 : Memref sig .tc .vmem S16x64x128 .f32) (h6 : a6.IsWhole) (a7 : Memref sig .tc .vmem S48x64x128 .f32) (h7 : a7.IsWhole) (a8 : Memref sig .tc .vmem S64x128 .f32) (h8 : a8.IsWhole) (a9 : Memref sig .tc .vmem S16x128x128 .f32) (h9 : a9.IsWhole)
variable (x0 x1 x2 x5 : Vec Ideal S16x64x128 .f32) (x3 : Vec Ideal S64x128 .f32) (x4 : Vec Ideal S1x16x128x128 .f32) (xs : Vec Ideal S16x128x128 .f32)

theorem sout0_A_0_eq (hc : cond0_0 i) : sout0_A_0 c i a1 h1 a2 h2 a3 h3 a4 h4 a5 h5 a6 h6 a7 h7 a8 h8 a9 h9 hc x0 x1 x2 x3 x4 x5 = nS ⟨x0, x1, x2, x3, x4, x5, k0_pay2⟩ := by
  unfold sout0_A_0
  rw [View.read_writes_eq_canon _ _ _ (scover0_A_0 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S16x128x128) origin3, View.readCov_unit_zero (S := S16x128x128) _ origin3]
  simp only [View.readAt_eq_ld, h1.read_unread, h2.read_unread, h3.read_unread, h4.read_unread, h5.read_unread, h6.read_unread, h9.read_unread, View.ld_unit_zero (S := S16x64x128) origin3, View.ld_unit_zero (S := S16x128x128) origin3, View.ld_unit_zero (S := S64x128) origin2, View.ld_unit_zero (S := S1x16x128x128) origin4]
  rfl

theorem out0_A_7_eq (hc : cond0_0 i) : out0_A_7 c i a1 h1 a2 h2 a3 h3 a4 h4 a5 h5 a6 h6 a7 h7 a8 h8 a9 h9 hc x0 x1 x2 x3 x4 x5 = nB ⟨x0, x1, x2, x3, x4, x5, k0_pay2⟩ := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_unit_zero origin2, View.readCov_unit_zero (S := S16x128x128) _ origin3]
  simp only [View.readAt_eq_ld, h1.read_unread, h2.read_unread, h3.read_unread, h4.read_unread, h5.read_unread, h6.read_unread, h9.read_unread, View.ld_unit_zero (S := S16x64x128) origin3, View.ld_unit_zero (S := S16x128x128) origin3, View.ld_unit_zero (S := S64x128) origin2, View.ld_unit_zero (S := S1x16x128x128) origin4]
  rfl

theorem out0_A_6_eq (hc : cond0_0 i) : out0_A_6 c i a1 h1 a2 h2 a3 h3 a4 h4 a5 h5 a6 h6 a7 h7 a8 h8 a9 h9 hc x0 x1 x2 x3 x4 x5 = nQKV ⟨x0, x1, x2, x3, x4, x5, k0_pay2⟩ := by
  unfold out0_A_6
  rw [View.read_writes_eq_canon _ _ _ (cover0_A_6 c i a1 h1 a2 h2 a3 h3 a4 h4 a5 h5 a6 h6 a7 h7 a8 h8 a9 h9 hc x0 x1 x2 x3 x4 x5)]
  funext y
  refine View.canon_apply_of_pieces (nQKV ⟨x0, x1, x2, x3, x4, x5, k0_pay2⟩) _ ?_ y (cover0_A_6 c i a1 h1 a2 h2 a3 h3 a4 h4 a5 h5 a6 h6 a7 h7 a8 h8 a9 h9 hc x0 x1 x2 x3 x4 x5 y)
  unfold kernelRun0_A
  dsimp only
  sl_unfold_words
  rw [View.readCov_unit_zero (S := S16x128x128) _ origin3]
  simp only [View.readAt_eq_ld, h1.read_unread, h2.read_unread, h3.read_unread, h4.read_unread, h5.read_unread, h6.read_unread, h9.read_unread, View.ld_unit_zero (S := S16x64x128) origin3, View.ld_unit_zero (S := S16x128x128) origin3, View.ld_unit_zero (S := S64x128) origin2, View.ld_unit_zero (S := S1x16x128x128) origin4]
  exact parts_qkv ⟨x0, x1, x2, x3, x4, x5, k0_pay2⟩ _ _ _ rfl rfl rfl

theorem sout0_B_0_eq (hc : ¬cond0_0 i) : sout0_B_0 c i a1 h1 a2 h2 a3 h3 a4 h4 a5 h5 a6 h6 a7 h7 a8 h8 a9 h9 hc x0 x1 x2 x3 x4 x5 xs = nS ⟨x0, x1, x2, x3, x4, x5, xs⟩ := by
  unfold sout0_B_0
  rw [View.read_writes_eq_canon _ _ _ (scover0_B_0 c i a1 h1 a2 h2 a3 h3 a4 h4 a5 h5 a6 h6 a7 h7 a8 h8 a9 h9 hc x0 x1 x2 x3 x4 x5 xs)]
  unfold kernelRun0_B
  dsimp only
  sl_unfold_words
  rw [View.canon_unit_zero origin3]
  simp only [View.readAt_eq_ld, h1.read_unread, h2.read_unread, h3.read_unread, h4.read_unread, h5.read_unread, h6.read_unread, h9.read_unread, View.ld_unit_zero (S := S16x64x128) origin3, View.ld_unit_zero (S := S16x128x128) origin3, View.ld_unit_zero (S := S64x128) origin2, View.ld_unit_zero (S := S1x16x128x128) origin4]
  rfl

theorem out0_B_7_eq (hc : ¬cond0_0 i) : out0_B_7 c i a1 h1 a2 h2 a3 h3 a4 h4 a5 h5 a6 h6 a7 h7 a8 h8 a9 h9 hc x0 x1 x2 x3 x4 x5 xs = nB ⟨x0, x1, x2, x3, x4, x5, xs⟩ := by
  unfold out0_B_7
  rw [View.read_writes_eq_canon _ _ _ (cover0_B_7 c i a1 h1 a2 h2 a3 h3 a4 h4 a5 h5 a6 h6 a7 h7 a8 h8 a9 h9 hc x0 x1 x2 x3 x4 x5 xs)]
  unfold kernelRun0_B
  dsimp only
  sl_unfold_words
  rw [View.canon_unit_zero origin2]
  simp only [View.readAt_eq_ld, h1.read_unread, h2.read_unread, h3.read_unread, h4.read_unread, h5.read_unread, h6.read_unread, h9.read_unread, View.ld_unit_zero (S := S16x64x128) origin3, View.ld_unit_zero (S := S16x128x128) origin3, View.ld_unit_zero (S := S64x128) origin2, View.ld_unit_zero (S := S1x16x128x128) origin4]
  rfl

theorem out0_B_6_eq (hc : ¬cond0_0 i) : out0_B_6 c i a1 h1 a2 h2 a3 h3 a4 h4 a5 h5 a6 h6 a7 h7 a8 h8 a9 h9 hc x0 x1 x2 x3 x4 x5 xs = nQKV ⟨x0, x1, x2, x3, x4, x5, xs⟩ := by
  unfold out0_B_6
  rw [View.read_writes_eq_canon _ _ _ (cover0_B_6 c i a1 h1 a2 h2 a3 h3 a4 h4 a5 h5 a6 h6 a7 h7 a8 h8 a9 h9 hc x0 x1 x2 x3 x4 x5 xs)]
  funext y
  refine View.canon_apply_of_pieces (nQKV ⟨x0, x1, x2, x3, x4, x5, xs⟩) _ ?_ y (cover0_B_6 c i a1 h1 a2 h2 a3 h3 a4 h4 a5 h5 a6 h6 a7 h7 a8 h8 a9 h9 hc x0 x1 x2 x3 x4 x5 xs y)
  unfold kernelRun0_B
  dsimp only
  sl_unfold_words

  simp only [View.readAt_eq_ld, h1.read_unread, h2.read_unread, h3.read_unread, h4.read_unread, h5.read_unread, h6.read_unread, h9.read_unread, View.ld_unit_zero (S := S16x64x128) origin3, View.ld_unit_zero (S := S16x128x128) origin3, View.ld_unit_zero (S := S64x128) origin2, View.ld_unit_zero (S := S1x16x128x128) origin4]
  exact parts_qkv ⟨x0, x1, x2, x3, x4, x5, xs⟩ _ _ _ rfl rfl rfl

end

end Cert.Gd

end
-- ==== Proof.GdChain.lean ====
/-
  The chain of chunks: from the last chunk to the first, each one's gradients from the state gradient that the chunk after
  it hands back.
-/
module

public import proofs.«01_k».proof.Proof.GdMath

@[expose] public section

noncomputable section

namespace Cert.Gd

/-- The arguments, as real numbers: the heads' queries, keys and values; the gate and the cumulative log decay by lane; the
    state before each chunk; the gradient of the output. -/
structure Arr where
  qkv : Fin 48 → Fin 8192 → Fin 128 → ℝ
  bg : Fin 8192 → Fin 128 → ℝ
  st : Fin 128 → Fin 16 → Fin 128 → Fin 128 → ℝ
  dO : Fin 16 → Fin 8192 → Fin 128 → ℝ

/-- Row `i` of chunk `n` in the whole sequence. -/
abbrev rowAt (n : Fin 128) (i : Fin 64) : Fin 8192 := ⟨n.val * 64 + i.val, by omega⟩

/-- The chunk that the `t`-th step backwards reads. -/
abbrev back (t : ℕ) : Fin 128 := ⟨127 - t, by omega⟩

variable (A : Arr)

/-- Chunk `n` of head `h`, its state gradient given. -/
def chunk (n : Fin 128) (ds : Fin 16 → Fin 128 → Fin 128 → ℝ) (h : Fin 16) : Ch where
  q := fun i e => A.qkv ⟨h.val, by omega⟩ (rowAt n i) e
  k := fun i e => A.qkv ⟨16 + h.val, by omega⟩ (rowAt n i) e
  v := fun i e => A.qkv ⟨32 + h.val, by omega⟩ (rowAt n i) e
  G := fun i => A.bg (rowAt n i) ⟨16 + h.val, by omega⟩
  β := fun i => A.bg (rowAt n i) ⟨h.val, by omega⟩
  dO := fun i e => A.dO h (rowAt n i) e
  s := fun d e => A.st n h d e
  ds := fun d e => ds h d e

/-- The state gradient before the `t`-th step backwards. -/
def dsAt : ℕ → Fin 16 → Fin 128 → Fin 128 → ℝ
  | 0 => fun _ _ _ => 0
  | t + 1 => fun h d e => (chunk A (back t) (dsAt t) h).dstate d e

/-- The chunks of the `t`-th step backwards. -/
def chain (t : ℕ) (h : Fin 16) : Ch := chunk A (back t) (dsAt A t) h

theorem dsAt_succ (t : ℕ) (h : Fin 16) (d e : Fin 128) : dsAt A (t + 1) h d e = (chain A t h).dstate d e := rfl

end Cert.Gd

end
-- ==== Proof.GdKer.lean ====
/-
  What the gated-delta backward kernel's two result arrays hold, in the terms of the chain of chunks.
-/
module

public import proofs.«01_k».proof.Proof.GdCases
public import proofs.«01_k».proof.Proof.GdChain

@[expose] public section

set_option maxRecDepth 16384

noncomputable section

open Idealize.ShloMosaic Idealize.ShloMosaic.TcCoe Idealize.SL.Sem
open Idealize.ShloMosaic.Pipeline (Dat)

namespace Cert.Gd

open Cert.GdnIdeal Cert.GdnIdeal.Gen Cert.GdnIdeal.Value

/-- The arguments hold the real numbers `A`. -/
structure Reals (A : Arr) (x0 : FVec Ideal S48x8192x128 .f32) (x1 : FVec Ideal S8192x128 .f32) (x2 : FVec Ideal S128x16x128x128 .f32)
    (x3 : FVec Ideal S16x8192x128 .f32) : Prop where
  qkv : ∀ r i e, x0 (ix3 r i e) = ((A.qkv r i e : ℝ) : EReal)
  bg : ∀ i l, x1 (ix2 i l) = ((A.bg i l : ℝ) : EReal)
  st : ∀ n h d e, x2 (ix4 n h d e) = ((A.st n h d e : ℝ) : EReal)
  dO : ∀ h i e, x3 (ix3 h i e) = ((A.dO h i e : ℝ) : EReal)

variable (m : (ℓ : Loc nD τ sig) → Buf (Elt Ideal) ℓ) (c : Dev nD)

/-- The arguments the run starts with. -/
abbrev gArg0 : FVec Ideal S48x8192x128 .f32 := m ((c : Thread nD τ).loc main_arg0)
abbrev gArg1 : FVec Ideal S8192x128 .f32 := m ((c : Thread nD τ).loc main_arg1)
abbrev gArg2 : FVec Ideal S128x16x128x128 .f32 := m ((c : Thread nD τ).loc main_arg2)
abbrev gArg3 : FVec Ideal S16x8192x128 .f32 := m ((c : Thread nD τ).loc main_arg3)

theorem ix_q : ∀ t : Fin cfg0.N, win0_0.index t (0 : Fin 3) = 0 ∧ win0_0.index t (1 : Fin 3) = 127 - t.val ∧ win0_0.index t (2 : Fin 3) = 0 :=
  (by decide +kernel : ∀ t : Fin grid0.N, _)
theorem ix_k : ∀ t : Fin cfg0.N, win0_1.index t (0 : Fin 3) = 1 ∧ win0_1.index t (1 : Fin 3) = 127 - t.val ∧ win0_1.index t (2 : Fin 3) = 0 :=
  (by decide +kernel : ∀ t : Fin grid0.N, _)
theorem ix_v : ∀ t : Fin cfg0.N, win0_2.index t (0 : Fin 3) = 2 ∧ win0_2.index t (1 : Fin 3) = 127 - t.val ∧ win0_2.index t (2 : Fin 3) = 0 :=
  (by decide +kernel : ∀ t : Fin grid0.N, _)
theorem ix_b : ∀ t : Fin cfg0.N, win0_3.index t (0 : Fin 2) = 127 - t.val ∧ win0_3.index t (1 : Fin 2) = 0 :=
  (by decide +kernel : ∀ t : Fin grid0.N, _)
theorem ix_s : ∀ t : Fin cfg0.N, win0_4.index t (0 : Fin 4) = 127 - t.val ∧ win0_4.index t (1 : Fin 4) = 0 ∧ win0_4.index t (2 : Fin 4) = 0 ∧ win0_4.index t (3 : Fin 4) = 0 :=
  (by decide +kernel : ∀ t : Fin grid0.N, _)
theorem ix_o : ∀ t : Fin cfg0.N, win0_5.index t (0 : Fin 3) = 0 ∧ win0_5.index t (1 : Fin 3) = 127 - t.val ∧ win0_5.index t (2 : Fin 3) = 0 :=
  (by decide +kernel : ∀ t : Fin grid0.N, _)
theorem ix_6 : ∀ t : Fin cfg0.N, win0_6.index t (0 : Fin 3) = 0 ∧ win0_6.index t (1 : Fin 3) = 127 - t.val ∧ win0_6.index t (2 : Fin 3) = 0 :=
  (by decide +kernel : ∀ t : Fin grid0.N, _)
theorem ix_7 : ∀ t : Fin cfg0.N, win0_7.index t (0 : Fin 2) = 127 - t.val ∧ win0_7.index t (1 : Fin 2) = 0 :=
  (by decide +kernel : ∀ t : Fin grid0.N, _)

/-- A point's blocks, over the state gradient `ds` that it finds. -/
abbrev blk (t : Fin cfg0.N) (ds : FVec Ideal S16x128x128 .f32) : Blk :=
  ⟨iblk m c 0 t, iblk m c 1 t, iblk m c 2 t, iblk m c 3 t, iblk m c 4 t, iblk m c 5 t, ds⟩

variable {A : Arr} (HA : Reals A (gArg0 m c) (gArg1 m c) (gArg2 m c) (gArg3 m c))
include HA

theorem blk_holds (t : Fin cfg0.N) (ds : FVec Ideal S16x128x128 .f32) (hds : ∀ h d e, ds (ix3 h d e) = ((dsAt A t.val h d e : ℝ) : EReal)) :
    Holds (chain A t.val) (blk m c t ds) where
  hq := fun h i e => by
    obtain ⟨e0, e1, e2⟩ := ix_q t
    refine Eq.trans ?_ (HA.qkv ⟨h.val, by omega⟩ (rowAt (back t.val) i) e)
    show m ((c : Thread nD τ).loc main_arg0) _ = m ((c : Thread nD τ).loc main_arg0) _
    congr 1
    funext a
    apply Fin.ext
    match a with
    | ⟨0, _⟩ => show win0_0.index t (0 : Fin 3) * 16 + 1 * h.val = h.val; omega
    | ⟨1, _⟩ => show win0_0.index t (1 : Fin 3) * 64 + 1 * i.val = (127 - t.val) * 64 + i.val; omega
    | ⟨2, _⟩ => show win0_0.index t (2 : Fin 3) * 128 + 1 * e.val = e.val; omega
  hk := fun h i e => by
    obtain ⟨e0, e1, e2⟩ := ix_k t
    refine Eq.trans ?_ (HA.qkv ⟨16 + h.val, by omega⟩ (rowAt (back t.val) i) e)
    show m ((c : Thread nD τ).loc main_arg0) _ = m ((c : Thread nD τ).loc main_arg0) _
    congr 1
    funext a
    apply Fin.ext
    match a with
    | ⟨0, _⟩ => show win0_1.index t (0 : Fin 3) * 16 + 1 * h.val = 16 + h.val; omega
    | ⟨1, _⟩ => show win0_1.index t (1 : Fin 3) * 64 + 1 * i.val = (127 - t.val) * 64 + i.val; omega
    | ⟨2, _⟩ => show win0_1.index t (2 : Fin 3) * 128 + 1 * e.val = e.val; omega
  hv := fun h i e => by
    obtain ⟨e0, e1, e2⟩ := ix_v t
    refine Eq.trans ?_ (HA.qkv ⟨32 + h.val, by omega⟩ (rowAt (back t.val) i) e)
    show m ((c : Thread nD τ).loc main_arg0) _ = m ((c : Thread nD τ).loc main_arg0) _
    congr 1
    funext a
    apply Fin.ext
    match a with
    | ⟨0, _⟩ => show win0_2.index t (0 : Fin 3) * 16 + 1 * h.val = 32 + h.val; omega
    | ⟨1, _⟩ => show win0_2.index t (1 : Fin 3) * 64 + 1 * i.val = (127 - t.val) * 64 + i.val; omega
    | ⟨2, _⟩ => show win0_2.index t (2 : Fin 3) * 128 + 1 * e.val = e.val; omega
  hβ := fun h i => by
    obtain ⟨e0, e1⟩ := ix_b t
    refine Eq.trans ?_ (HA.bg (rowAt (back t.val) i) ⟨h.val, by omega⟩)
    show m ((c : Thread nD τ).loc main_arg1) _ = m ((c : Thread nD τ).loc main_arg1) _
    congr 1
    funext a
    apply Fin.ext
    match a with
    | ⟨0, _⟩ => show win0_3.index t (0 : Fin 2) * 64 + 1 * i.val = (127 - t.val) * 64 + i.val; omega
    | ⟨1, _⟩ => show win0_3.index t (1 : Fin 2) * 128 + 1 * h.val = h.val; omega
  hG := fun h i => by
    obtain ⟨e0, e1⟩ := ix_b t
    refine Eq.trans ?_ (HA.bg (rowAt (back t.val) i) ⟨16 + h.val, by omega⟩)
    show m ((c : Thread nD τ).loc main_arg1) _ = m ((c : Thread nD τ).loc main_arg1) _
    congr 1
    funext a
    apply Fin.ext
    match a with
    | ⟨0, _⟩ => show win0_3.index t (0 : Fin 2) * 64 + 1 * i.val = (127 - t.val) * 64 + i.val; omega
    | ⟨1, _⟩ => show win0_3.index t (1 : Fin 2) * 128 + 1 * (16 + h.val) = 16 + h.val; omega
  hs := fun h d e => by
    obtain ⟨e0, e1, e2, e3⟩ := ix_s t
    refine Eq.trans ?_ (HA.st (back t.val) h d e)
    show m ((c : Thread nD τ).loc main_arg2) _ = m ((c : Thread nD τ).loc main_arg2) _
    congr 1
    funext a
    apply Fin.ext
    match a with
    | ⟨0, _⟩ => show win0_4.index t (0 : Fin 4) * 1 + 1 * 0 = 127 - t.val; omega
    | ⟨1, _⟩ => show win0_4.index t (1 : Fin 4) * 16 + 1 * h.val = h.val; omega
    | ⟨2, _⟩ => show win0_4.index t (2 : Fin 4) * 128 + 1 * d.val = d.val; omega
    | ⟨3, _⟩ => show win0_4.index t (3 : Fin 4) * 128 + 1 * e.val = e.val; omega
  hdO := fun h i e => by
    obtain ⟨e0, e1, e2⟩ := ix_o t
    refine Eq.trans ?_ (HA.dO h (rowAt (back t.val) i) e)
    show m ((c : Thread nD τ).loc main_arg3) _ = m ((c : Thread nD τ).loc main_arg3) _
    congr 1
    funext a
    apply Fin.ext
    match a with
    | ⟨0, _⟩ => show win0_5.index t (0 : Fin 3) * 16 + 1 * h.val = h.val; omega
    | ⟨1, _⟩ => show win0_5.index t (1 : Fin 3) * 64 + 1 * i.val = (127 - t.val) * 64 + i.val; omega
    | ⟨2, _⟩ => show win0_5.index t (2 : Fin 3) * 128 + 1 * e.val = e.val; omega
  hds := hds

theorem pay2_zero (h : Fin 16) (d e : Fin 128) : k0_pay2 (F := Ideal) (ix3 h d e) = ((0 : ℝ) : EReal) := by
  pointwise [k0_pay2]
  simp

/-- What a point leaves: the gradients of its chunk, over a state gradient that is the chain's. -/
theorem outs_point (n : ℕ) (hn : n < cfg0.N) : ∃ ds : FVec Ideal S16x128x128 .f32, (∀ h d e, ds (ix3 h d e) = ((dsAt A n h d e : ℝ) : EReal)) ∧
    (outsAt0 m c n hn).1 = nQKV (blk m c ⟨n, hn⟩ ds) ∧ (outsAt0 m c n hn).2.1 = nB (blk m c ⟨n, hn⟩ ds) ∧ (outsAt0 m c n hn).2.2 = nS (blk m c ⟨n, hn⟩ ds) := by
  induction n with
  | zero =>
    refine ⟨k0_pay2, fun h d e => pay2_zero m c HA h d e, ?_⟩
    rw [outsAt0_A m c ⟨0, hn⟩ rfl]
    dsimp only
    exact ⟨out0_A_6_eq .., out0_A_7_eq .., sout0_A_0_eq ..⟩
  | succ n ih =>
    obtain ⟨ds, hds, -, -, e⟩ := ih (by omega)
    have hN : n + 1 < 128 := lt_of_lt_of_eq hn (show cfg0.N = 128 from N_0)
    refine ⟨(outsAt0 m c n (by omega)).2.2, fun h d e' => ?_, ?_⟩
    · rw [e, rS _ _ (blk_holds m c HA ⟨n, by omega⟩ ds hds), dsAt_succ]
    · rw [outsAt0_B m c ⟨n + 1, hn⟩ (by show ¬(n + 1) % 128 = 0; omega)]
      dsimp only
      exact ⟨out0_B_6_eq .., out0_B_7_eq .., sout0_B_0_eq ..⟩

end Cert.Gd

end
-- ==== Proof.GdRef.lean ====
/-
  The reference's trip at an index: each value it forms of one chunk, in the terms of `GdMath`.
-/
module

public import proofs.«01_k».proof.Proof.Gen.GdnReferenceIdeal.Step
public import proofs.«01_k».proof.Proof.GdPay

@[expose] public section

noncomputable section

open Idealize.ShloMosaic

namespace Cert.Gd.Ref

open Cert.GdnReferenceIdeal Cert.GdnReferenceIdeal.Step

/-- What trip `j` reads, head by head: the chunks `C`, their states before and the gradient handed on after. -/
structure Given (j : ℕ) (s : State Ideal) (C : Fin 16 → Ch) : Prop where
  st : ∀ h d e, b8 (F := Ideal) j s (ix3 h d e) = (((C h).s d e : ℝ) : EReal)
  q : ∀ h i e, b13 (F := Ideal) j s (ix3 h i e) = (((C h).q i e : ℝ) : EReal)
  k : ∀ h i e, b18 (F := Ideal) j s (ix3 h i e) = (((C h).k i e : ℝ) : EReal)
  v : ∀ h i e, b23 (F := Ideal) j s (ix3 h i e) = (((C h).v i e : ℝ) : EReal)
  G : ∀ h i, b27 (F := Ideal) j s (ix2 h i) = (((C h).G i : ℝ) : EReal)
  β : ∀ h i, b32 (F := Ideal) j s (ix3 h i 0) = (((C h).β i : ℝ) : EReal)
  dO : ∀ h i e, b37 (F := Ideal) j s (ix3 h i e) = (((C h).dO i e : ℝ) : EReal)
  ds : ∀ h d e, s.main_v25_9 (ix3 h d e) = (((C h).ds d e : ℝ) : EReal)

theorem eye_bits (i l : Fin 64) : (FloatOps.uitofp FTy.f32 (IntOp.cmpi CmpIPredicate.eq (IntOp.addi (BitVec.ofNat 32 i.val) 0#32) (BitVec.ofNat 32 l.val)) : Ideal .f32)
    = (((1 : M64) i l : ℝ) : EReal) := by
  have h : ∀ i l : Fin 64, (IntOp.cmpi CmpIPredicate.eq (IntOp.addi (BitVec.ofNat 32 i.val) 0#32) (BitVec.ofNat 32 l.val)).toNat = if i = l then 1 else 0 := by decide +kernel
  show ((((IntOp.cmpi CmpIPredicate.eq (IntOp.addi (BitVec.ofNat 32 i.val) 0#32) (BitVec.ofNat 32 l.val)).toNat : ℕ) : ℝ) : EReal) = _
  rw [h, Matrix.one_apply]
  split <;> simp

theorem pad_63 {α : Type} (i : Fin 64) (a b : α) : (if _h : 63 ≤ i.val ∧ i.val - 63 < 1 then a else b) = if i = 63 then a else b := by
  have e : (63 ≤ i.val ∧ i.val - 63 < 1) ↔ i = 63 := by
    constructor
    · intro h
      apply Fin.ext
      show i.val = 63
      omega
    · rintro rfl
      decide
  by_cases h : i = 63
  · rw [dif_pos (e.mpr h), if_pos h]
  · rw [dif_neg (fun hh => h (e.mp hh)), if_neg h]

def sq2 (N : M64) : M64 := fun i l => ∑ m, N i m * N m l
def sq4 (N : M64) : M64 := fun i l => ∑ m, sq2 N i m * sq2 N m l
def sq8 (N : M64) : M64 := fun i l => ∑ m, sq4 N i m * sq4 N m l
def sq16 (N : M64) : M64 := fun i l => ∑ m, sq8 N i m * sq8 N m l
def sq32 (N : M64) : M64 := fun i l => ∑ m, sq16 N i m * sq16 N m l
def x1 (N : M64) : M64 := 1 + N
def x2 (N : M64) : M64 := fun i l => x1 N i l + (x1 N * sq2 N) i l
def x4 (N : M64) : M64 := fun i l => x2 N i l + (x2 N * sq4 N) i l
def x8 (N : M64) : M64 := fun i l => x4 N i l + (x4 N * sq8 N) i l
def x16 (N : M64) : M64 := fun i l => x8 N i l + (x8 N * sq16 N) i l
def x32 (N : M64) : M64 := fun i l => x16 N i l + (x16 N * sq32 N) i l

theorem sq2_eq (N : M64) : sq2 N = N * N := by
  ext i l
  rw [Matrix.mul_apply]
  rfl

theorem sq4_eq (N : M64) : sq4 N = sq2 N * sq2 N := by
  ext i l
  rw [Matrix.mul_apply]
  rfl

theorem sq8_eq (N : M64) : sq8 N = sq4 N * sq4 N := by
  ext i l
  rw [Matrix.mul_apply]
  rfl

theorem sq16_eq (N : M64) : sq16 N = sq8 N * sq8 N := by
  ext i l
  rw [Matrix.mul_apply]
  rfl

theorem sq32_eq (N : M64) : sq32 N = sq16 N * sq16 N := by
  ext i l
  rw [Matrix.mul_apply]
  rfl

theorem x2_eq (N : M64) : x2 N = x1 N + x1 N * sq2 N := rfl

theorem x4_eq (N : M64) : x4 N = x2 N + x2 N * sq4 N := rfl

theorem x8_eq (N : M64) : x8 N = x4 N + x4 N * sq8 N := rfl

theorem x16_eq (N : M64) : x16 N = x8 N + x8 N * sq16 N := rfl

theorem x32_eq (N : M64) : x32 N = x16 N + x16 N * sq32 N := rfl

theorem x32_sum (N : M64) : x32 N = sumInv N := by
  rw [x32_eq, x16_eq, x8_eq, x4_eq, x2_eq, sq32_eq, sq16_eq, sq8_eq, sq4_eq, sq2_eq, x1, sumInv]

theorem x32_ti (c : Ch) : x32 (-c.low) = c.ti := by
  rw [x32_sum, sumInv_eq _ c.low_strict]
  rfl

variable {j : ℕ} {s : State Ideal} {C : Fin 16 → Ch} (H : Given j s C)
include H

theorem r63 :
    ∀ h i l, b63 (F := Ideal) j s (ix3 h i l) = ((Real.exp (if l ≤ i then (C h).G i - (C h).G l else 0) : ℝ) : EReal) := by
  intro h i l
  pointwise [b63, b60, b59, b58, b57, b56, b55, b54, b53, b52, b51, b45, b44, b43, b42, b41, b40]
  simp only [H.G, sel_sge, sel_sgt, pad_63, Finset.sum_const, Finset.card_univ, Fintype.card_fin, one_smul, reals]
  try rfl

theorem r68 :
    ∀ h i l, b68 (F := Ideal) j s (ix3 h i l) = (((C h).decay i l : ℝ) : EReal) := by
  intro h i l
  pointwise [b68, b67, b66, b65, b64, b45, b44, b43, b42, b41, b40]
  simp only [(r63 H), sel_sge, sel_sgt, pad_63, Finset.sum_const, Finset.card_univ, Fintype.card_fin, one_smul, reals]
  rw [EReal.coe_eq_coe_iff]
  unfold Ch.decay
  split <;> rfl

theorem r71 :
    ∀ h i l, b71 (F := Ideal) j s (ix3 h i l) = (((C h).kk i l : ℝ) : EReal) := by
  intro h i l
  pointwise [b71]
  simp only [H.k, reals]
  try rfl

theorem r73 :
    ∀ h i l, b73 (F := Ideal) j s (ix3 h i l) = (((C h).β i * (C h).decay i l : ℝ) : EReal) := by
  intro h i l
  pointwise [b73, b72]
  simp only [H.β, (r68 H), reals]
  try rfl

theorem r79 :
    ∀ h i l, b79 (F := Ideal) j s (ix3 h i l) = (((C h).low i l : ℝ) : EReal) := by
  intro h i l
  pointwise [b79, b78, b77, b76, b75, b74, b50, b49, b48, b47, b46, b40]
  simp only [(r73 H), (r71 H), sel_sge, sel_sgt, pad_63, Finset.sum_const, Finset.card_univ, Fintype.card_fin, one_smul, reals]
  try rfl

theorem r83 :
    ∀ h i e, b83 (F := Ideal) j s (ix3 h i e) = (((C h).β i * (C h).v i e : ℝ) : EReal) := by
  intro h i e
  pointwise [b83, b82]
  simp only [H.β, H.v, reals]
  try rfl

theorem r87 :
    ∀ h i e, b87 (F := Ideal) j s (ix3 h i e) = (((C h).eG i * (C h).k i e : ℝ) : EReal) := by
  intro h i e
  pointwise [b87, b86, b85, b84]
  simp only [H.G, H.k, reals]
  try rfl

theorem r89 :
    ∀ h i e, b89 (F := Ideal) j s (ix3 h i e) = (((C h).β i * ((C h).eG i * (C h).k i e) : ℝ) : EReal) := by
  intro h i e
  pointwise [b89, b88]
  simp only [H.β, (r87 H), reals]
  try rfl

theorem r91 :
    ∀ h i l, b91 (F := Ideal) j s (ix3 h i l) = (((-(C h).low : M64) i l : ℝ) : EReal) := by
  intro h i l
  pointwise [b91]
  simp only [(r79 H), reals]
  try rfl

theorem r101 :
    ∀ h i l, b101 (F := Ideal) j s (ix3 h i l) = ((x1 (-(C h).low : M64) i l : ℝ) : EReal) := by
  intro h i l
  pointwise [b101, b100, b99, b98, b97, b96, b95, b94, b93, b92]
  simp only [(r91 H), eye_bits, reals]
  try rfl

theorem r102 :
    ∀ h i l, b102 (F := Ideal) j s (ix3 h i l) = ((sq2 (-(C h).low : M64) i l : ℝ) : EReal) := by
  intro h i l
  pointwise [b102]
  simp only [(r91 H), reals]
  rfl

theorem r103 :
    ∀ h i l, b103 (F := Ideal) j s (ix3 h i l) = (((x1 (-(C h).low : M64) * sq2 (-(C h).low : M64)) i l : ℝ) : EReal) := by
  intro h i l
  pointwise [b103]
  simp only [(r101 H), (r102 H), reals]
  rfl

theorem r104 :
    ∀ h i l, b104 (F := Ideal) j s (ix3 h i l) = ((x2 (-(C h).low : M64) i l : ℝ) : EReal) := by
  intro h i l
  pointwise [b104]
  simp only [(r101 H), (r103 H), reals]
  rfl

theorem r105 :
    ∀ h i l, b105 (F := Ideal) j s (ix3 h i l) = ((sq4 (-(C h).low : M64) i l : ℝ) : EReal) := by
  intro h i l
  pointwise [b105]
  simp only [(r102 H), reals]
  rfl

theorem r106 :
    ∀ h i l, b106 (F := Ideal) j s (ix3 h i l) = (((x2 (-(C h).low : M64) * sq4 (-(C h).low : M64)) i l : ℝ) : EReal) := by
  intro h i l
  pointwise [b106]
  simp only [(r104 H), (r105 H), reals]
  rfl

theorem r107 :
    ∀ h i l, b107 (F := Ideal) j s (ix3 h i l) = ((x4 (-(C h).low : M64) i l : ℝ) : EReal) := by
  intro h i l
  pointwise [b107]
  simp only [(r104 H), (r106 H), reals]
  rfl

theorem r108 :
    ∀ h i l, b108 (F := Ideal) j s (ix3 h i l) = ((sq8 (-(C h).low : M64) i l : ℝ) : EReal) := by
  intro h i l
  pointwise [b108]
  simp only [(r105 H), reals]
  rfl

theorem r109 :
    ∀ h i l, b109 (F := Ideal) j s (ix3 h i l) = (((x4 (-(C h).low : M64) * sq8 (-(C h).low : M64)) i l : ℝ) : EReal) := by
  intro h i l
  pointwise [b109]
  simp only [(r107 H), (r108 H), reals]
  rfl

theorem r110 :
    ∀ h i l, b110 (F := Ideal) j s (ix3 h i l) = ((x8 (-(C h).low : M64) i l : ℝ) : EReal) := by
  intro h i l
  pointwise [b110]
  simp only [(r107 H), (r109 H), reals]
  rfl

theorem r111 :
    ∀ h i l, b111 (F := Ideal) j s (ix3 h i l) = ((sq16 (-(C h).low : M64) i l : ℝ) : EReal) := by
  intro h i l
  pointwise [b111]
  simp only [(r108 H), reals]
  rfl

theorem r112 :
    ∀ h i l, b112 (F := Ideal) j s (ix3 h i l) = (((x8 (-(C h).low : M64) * sq16 (-(C h).low : M64)) i l : ℝ) : EReal) := by
  intro h i l
  pointwise [b112]
  simp only [(r110 H), (r111 H), reals]
  rfl

theorem r113 :
    ∀ h i l, b113 (F := Ideal) j s (ix3 h i l) = ((x16 (-(C h).low : M64) i l : ℝ) : EReal) := by
  intro h i l
  pointwise [b113]
  simp only [(r110 H), (r112 H), reals]
  rfl

theorem r114 :
    ∀ h i l, b114 (F := Ideal) j s (ix3 h i l) = ((sq32 (-(C h).low : M64) i l : ℝ) : EReal) := by
  intro h i l
  pointwise [b114]
  simp only [(r111 H), reals]
  rfl

theorem r115 :
    ∀ h i l, b115 (F := Ideal) j s (ix3 h i l) = (((x16 (-(C h).low : M64) * sq32 (-(C h).low : M64)) i l : ℝ) : EReal) := by
  intro h i l
  pointwise [b115]
  simp only [(r113 H), (r114 H), reals]
  rfl

theorem r116 :
    ∀ h i l, b116 (F := Ideal) j s (ix3 h i l) = ((x32 (-(C h).low : M64) i l : ℝ) : EReal) := by
  intro h i l
  pointwise [b116]
  simp only [(r113 H), (r115 H), reals]
  rfl

theorem r116' : ∀ h i l, b116 (F := Ideal) j s (ix3 h i l) = (((C h).ti i l : ℝ) : EReal) := by
  intro h i l
  rw [r116 H, x32_ti]

theorem r120 :
    ∀ h i e, b120 (F := Ideal) j s (ix3 h i e) = (((C h).uv i e : ℝ) : EReal) := by
  intro h i e
  pointwise [b120, b117, b90]
  simp only [(r116' H), (r83 H), reals]
  try rfl

theorem r121 :
    ∀ h i e, b121 (F := Ideal) j s (ix3 h i e) = (((C h).wk i e : ℝ) : EReal) := by
  intro h i e
  pointwise [b121, b117, b90]
  simp only [(r116' H), (r89 H), reals]
  rw [EReal.coe_eq_coe_iff]
  unfold Ch.wk
  simp only [mul_assoc]

theorem r122 :
    ∀ h i l, b122 (F := Ideal) j s (ix3 h i l) = (((C h).qk i l : ℝ) : EReal) := by
  intro h i l
  pointwise [b122]
  simp only [H.q, H.k, reals]
  try rfl

theorem r123 :
    ∀ h i l, b123 (F := Ideal) j s (ix3 h i l) = (((C h).attn i l : ℝ) : EReal) := by
  intro h i l
  pointwise [b123]
  simp only [(r68 H), (r122 H), reals]
  try rfl

theorem r124 :
    ∀ h i, b124 (F := Ideal) j s (ix2 h i) = (((C h).eG i : ℝ) : EReal) := by
  intro h i
  pointwise [b124]
  simp only [H.G, reals]
  try rfl

theorem r127 :
    ∀ h i e, b127 (F := Ideal) j s (ix3 h i e) = (((C h).q i e * (C h).eG i : ℝ) : EReal) := by
  intro h i e
  pointwise [b127, b126, b125]
  simp only [H.q, (r124 H), reals]
  try rfl

theorem r131 :
    ∀ h i, b131 (F := Ideal) j s (ix2 h i) = (((C h).ek i : ℝ) : EReal) := by
  intro h i
  pointwise [b131, b130, b129, b128]
  simp only [H.G, reals]
  try rfl

theorem r134 :
    ∀ h i e, b134 (F := Ideal) j s (ix3 h i e) = (((C h).k i e * (C h).ek i : ℝ) : EReal) := by
  intro h i e
  pointwise [b134, b133, b132]
  simp only [H.k, (r131 H), reals]
  try rfl

theorem r137 :
    ∀ h, b137 (F := Ideal) j s (ix1 h) = (((C h).cd : ℝ) : EReal) := by
  intro h
  pointwise [b137, b136, b135]
  simp only [H.G, reals]
  try rfl

theorem r139 :
    ∀ h i e, b139 (F := Ideal) j s (ix3 h i e) = (((C h).u i e : ℝ) : EReal) := by
  intro h i e
  pointwise [b139, b138]
  simp only [(r120 H), (r121 H), H.st, reals]
  try rfl

theorem r149 :
    ∀ h i e, b149 (F := Ideal) j s (ix3 h i e) = ((∑ d, (C h).k i d * (C h).ek i * (C h).ds d e : ℝ) : EReal) := by
  intro h i e
  pointwise [b149, b148]
  simp only [H.ds, (r134 H), reals]
  rw [EReal.coe_eq_coe_iff]
  simp only [mul_comm, mul_left_comm]

theorem r151 :
    ∀ h i d, b151 (F := Ideal) j s (ix3 h i d) = (((C h).dkdec i d : ℝ) : EReal) := by
  intro h i d
  pointwise [b151, b150]
  simp only [H.ds, (r139 H), reals]
  rw [EReal.coe_eq_coe_iff]
  simp only [Ch.dkdec, mul_comm, mul_left_comm]

theorem r159 :
    ∀ h, b159 (F := Ideal) j s (ix1 h) = (((C h).dcd : ℝ) : EReal) := by
  intro h
  pointwise [b159, b158, b157, b156, b155, b154]
  simp only [H.ds, H.st, sel_sge, sel_sgt, pad_63, Finset.sum_const, Finset.card_univ, Fintype.card_fin, one_smul, reals]
  try rfl

theorem r161 :
    ∀ h i e, b161 (F := Ideal) j s (ix3 h i e) = ((∑ m, (C h).attn m i * (C h).dO m e : ℝ) : EReal) := by
  intro h i e
  pointwise [b161, b160]
  simp only [H.dO, (r123 H), reals]
  rw [EReal.coe_eq_coe_iff]
  simp only [mul_comm, mul_left_comm]

theorem r162 :
    ∀ h i e, b162 (F := Ideal) j s (ix3 h i e) = (((C h).du i e : ℝ) : EReal) := by
  intro h i e
  pointwise [b162]
  simp only [(r149 H), (r161 H), reals]
  rw [EReal.coe_eq_coe_iff]
  unfold Ch.du
  rw [add_comm]

theorem r163 :
    ∀ h i l, b163 (F := Ideal) j s (ix3 h i l) = (((C h).dattn i l : ℝ) : EReal) := by
  intro h i l
  pointwise [b163]
  simp only [H.dO, (r139 H), reals]
  try rfl

theorem r167 :
    ∀ h i d, b167 (F := Ideal) j s (ix3 h i d) = (((C h).dqdec i d : ℝ) : EReal) := by
  intro h i d
  pointwise [b167]
  simp only [H.dO, H.st, reals]
  try rfl

theorem r168 :
    ∀ h i e, b168 (F := Ideal) j s (ix3 h i e) = ((-(C h).du i e : ℝ) : EReal) := by
  intro h i e
  pointwise [b168]
  simp only [(r162 H), reals]
  try rfl

theorem r171 :
    ∀ h d e, b171 (F := Ideal) j s (ix3 h d e) = (((C h).dstate d e : ℝ) : EReal) := by
  intro h d e
  pointwise [b171, b170, b169, b166, b165, b164, b153, b152, b143]
  simp only [H.ds, H.dO, (r137 H), (r127 H), (r168 H), (r121 H), reals]
  rw [EReal.coe_eq_coe_iff]
  simp only [Ch.dstate, sub_eq_add_neg, ← Finset.sum_neg_distrib, neg_mul, mul_neg, mul_comm, mul_left_comm]

theorem r172 :
    ∀ h i d, b172 (F := Ideal) j s (ix3 h i d) = (((C h).dwk i d : ℝ) : EReal) := by
  intro h i d
  pointwise [b172]
  simp only [(r168 H), H.st, reals]
  rw [EReal.coe_eq_coe_iff]
  simp only [Ch.dwk, ← Finset.sum_neg_distrib, neg_mul]

theorem r176 :
    ∀ h i, b176 (F := Ideal) j s (ix2 h i) = ((if i = 63 then (C h).dcd * (C h).cd else 0 : ℝ) : EReal) := by
  intro h i
  pointwise [b176, b175, b174, b173]
  simp only [(r159 H), (r137 H), sel_sge, sel_sgt, pad_63, Finset.sum_const, Finset.card_univ, Fintype.card_fin, one_smul, reals]
  try rfl

theorem r182 :
    ∀ h i e, b182 (F := Ideal) j s (ix3 h i e) = (((C h).dkdec i e * (C h).ek i : ℝ) : EReal) := by
  intro h i e
  pointwise [b182, b181, b132]
  simp only [(r151 H), (r131 H), reals]
  try rfl

theorem r185 :
    ∀ h i, b185 (F := Ideal) j s (ix2 h i) = (((C h).ee i : ℝ) : EReal) := by
  intro h i
  pointwise [b185, b184, b183, b180, b179, b178, b177]
  simp only [H.k, (r151 H), (r131 H), sel_sge, sel_sgt, pad_63, Finset.sum_const, Finset.card_univ, Fintype.card_fin, one_smul, reals]
  rw [EReal.coe_eq_coe_iff]
  simp only [Ch.ee, Finset.sum_mul, Finset.mul_sum, mul_comm, mul_left_comm, mul_assoc]

theorem r193 :
    ∀ h i, b193 (F := Ideal) j s (ix2 h i) = (((if i = 63 then (C h).dcd * (C h).cd else 0) + -(C h).ee i + if i = 63 then ∑ m, (C h).ee m else 0 : ℝ) : EReal) := by
  intro h i
  pointwise [b193, b192, b191, b190, b189, b188, b187, b186]
  simp only [(r176 H), (r185 H), sel_sge, sel_sgt, pad_63, Finset.sum_const, Finset.card_univ, Fintype.card_fin, one_smul, reals]
  try rfl

theorem r199 :
    ∀ h i e, b199 (F := Ideal) j s (ix3 h i e) = (((C h).dqdec i e * (C h).eG i : ℝ) : EReal) := by
  intro h i e
  pointwise [b199, b198, b125]
  simp only [(r167 H), (r124 H), reals]
  try rfl

theorem r203 :
    ∀ h i, b203 (F := Ideal) j s (ix2 h i) = ((((if i = 63 then (C h).dcd * (C h).cd else 0) + -(C h).ee i + if i = 63 then ∑ m, (C h).ee m else 0) + (∑ e, (C h).q i e * (C h).dqdec i e) * (C h).eG i : ℝ) : EReal) := by
  intro h i
  pointwise [b203, b202, b201, b200, b197, b196, b195, b194]
  simp only [(r193 H), H.q, (r167 H), (r124 H), sel_sge, sel_sgt, pad_63, Finset.sum_const, Finset.card_univ, Fintype.card_fin, one_smul, reals]
  try rfl

theorem r204 :
    ∀ h i l, b204 (F := Ideal) j s (ix3 h i l) = (((C h).decay i l * (C h).dattn i l : ℝ) : EReal) := by
  intro h i l
  pointwise [b204]
  simp only [(r68 H), (r163 H), reals]
  try rfl

theorem r205 :
    ∀ h i l, b205 (F := Ideal) j s (ix3 h i l) = (((C h).dattn i l * (C h).qk i l : ℝ) : EReal) := by
  intro h i l
  pointwise [b205]
  simp only [(r163 H), (r122 H), reals]
  try rfl

theorem r207 :
    ∀ h i e, b207 (F := Ideal) j s (ix3 h i e) = (((C h).dkdec i e * (C h).ek i + ∑ m, (C h).decay m i * (C h).dattn m i * (C h).q m e : ℝ) : EReal) := by
  intro h i e
  pointwise [b207, b206]
  simp only [(r182 H), (r204 H), H.q, reals]
  try rfl

theorem r209 :
    ∀ h i e, b209 (F := Ideal) j s (ix3 h i e) = (((C h).dq i e : ℝ) : EReal) := by
  intro h i e
  pointwise [b209, b208]
  simp only [(r199 H), (r204 H), H.k, reals]
  rw [EReal.coe_eq_coe_iff, add_comm]
  simp only [Ch.dq, mul_comm, mul_left_comm]

theorem r215 :
    ∀ h i l, b215 (F := Ideal) j s (ix3 h i l) = (((-(C h).low : M64) i l : ℝ) : EReal) := by
  intro h i l
  pointwise [b215]
  simp only [(r79 H), reals]
  try rfl

theorem r225 :
    ∀ h i l, b225 (F := Ideal) j s (ix3 h i l) = ((x1 (-(C h).low : M64) i l : ℝ) : EReal) := by
  intro h i l
  pointwise [b225, b224, b223, b222, b221, b220, b219, b218, b217, b216]
  simp only [(r215 H), eye_bits, reals]
  try rfl

theorem r226 :
    ∀ h i l, b226 (F := Ideal) j s (ix3 h i l) = ((sq2 (-(C h).low : M64) i l : ℝ) : EReal) := by
  intro h i l
  pointwise [b226]
  simp only [(r215 H), reals]
  rfl

theorem r227 :
    ∀ h i l, b227 (F := Ideal) j s (ix3 h i l) = (((x1 (-(C h).low : M64) * sq2 (-(C h).low : M64)) i l : ℝ) : EReal) := by
  intro h i l
  pointwise [b227]
  simp only [(r225 H), (r226 H), reals]
  rfl

theorem r228 :
    ∀ h i l, b228 (F := Ideal) j s (ix3 h i l) = ((x2 (-(C h).low : M64) i l : ℝ) : EReal) := by
  intro h i l
  pointwise [b228]
  simp only [(r225 H), (r227 H), reals]
  rfl

theorem r229 :
    ∀ h i l, b229 (F := Ideal) j s (ix3 h i l) = ((sq4 (-(C h).low : M64) i l : ℝ) : EReal) := by
  intro h i l
  pointwise [b229]
  simp only [(r226 H), reals]
  rfl

theorem r230 :
    ∀ h i l, b230 (F := Ideal) j s (ix3 h i l) = (((x2 (-(C h).low : M64) * sq4 (-(C h).low : M64)) i l : ℝ) : EReal) := by
  intro h i l
  pointwise [b230]
  simp only [(r228 H), (r229 H), reals]
  rfl

theorem r231 :
    ∀ h i l, b231 (F := Ideal) j s (ix3 h i l) = ((x4 (-(C h).low : M64) i l : ℝ) : EReal) := by
  intro h i l
  pointwise [b231]
  simp only [(r228 H), (r230 H), reals]
  rfl

theorem r232 :
    ∀ h i l, b232 (F := Ideal) j s (ix3 h i l) = ((sq8 (-(C h).low : M64) i l : ℝ) : EReal) := by
  intro h i l
  pointwise [b232]
  simp only [(r229 H), reals]
  rfl

theorem r233 :
    ∀ h i l, b233 (F := Ideal) j s (ix3 h i l) = (((x4 (-(C h).low : M64) * sq8 (-(C h).low : M64)) i l : ℝ) : EReal) := by
  intro h i l
  pointwise [b233]
  simp only [(r231 H), (r232 H), reals]
  rfl

theorem r234 :
    ∀ h i l, b234 (F := Ideal) j s (ix3 h i l) = ((x8 (-(C h).low : M64) i l : ℝ) : EReal) := by
  intro h i l
  pointwise [b234]
  simp only [(r231 H), (r233 H), reals]
  rfl

theorem r235 :
    ∀ h i l, b235 (F := Ideal) j s (ix3 h i l) = ((sq16 (-(C h).low : M64) i l : ℝ) : EReal) := by
  intro h i l
  pointwise [b235]
  simp only [(r232 H), reals]
  rfl

theorem r236 :
    ∀ h i l, b236 (F := Ideal) j s (ix3 h i l) = (((x8 (-(C h).low : M64) * sq16 (-(C h).low : M64)) i l : ℝ) : EReal) := by
  intro h i l
  pointwise [b236]
  simp only [(r234 H), (r235 H), reals]
  rfl

theorem r237 :
    ∀ h i l, b237 (F := Ideal) j s (ix3 h i l) = ((x16 (-(C h).low : M64) i l : ℝ) : EReal) := by
  intro h i l
  pointwise [b237]
  simp only [(r234 H), (r236 H), reals]
  rfl

theorem r238 :
    ∀ h i l, b238 (F := Ideal) j s (ix3 h i l) = ((sq32 (-(C h).low : M64) i l : ℝ) : EReal) := by
  intro h i l
  pointwise [b238]
  simp only [(r235 H), reals]
  rfl

theorem r239 :
    ∀ h i l, b239 (F := Ideal) j s (ix3 h i l) = (((x16 (-(C h).low : M64) * sq32 (-(C h).low : M64)) i l : ℝ) : EReal) := by
  intro h i l
  pointwise [b239]
  simp only [(r237 H), (r238 H), reals]
  rfl

theorem r240 :
    ∀ h i l, b240 (F := Ideal) j s (ix3 h i l) = ((x32 (-(C h).low : M64) i l : ℝ) : EReal) := by
  intro h i l
  pointwise [b240]
  simp only [(r237 H), (r239 H), reals]
  rfl

theorem r240' : ∀ h i l, b240 (F := Ideal) j s (ix3 h i l) = (((C h).ti i l : ℝ) : EReal) := by
  intro h i l
  rw [r240 H, x32_ti]

theorem r245 :
    ∀ h i e, b245 (F := Ideal) j s (ix3 h i e) = (((C h).drv i e : ℝ) : EReal) := by
  intro h i e
  pointwise [b245, b242, b241, b214, b213, b212, b211, b210]
  simp only [false_and, dif_neg, not_false_eq_true, zero_add]
  simp only [(r240' H), (r162 H), reals]
  rfl

theorem r246 :
    ∀ h i e, b246 (F := Ideal) j s (ix3 h i e) = (((C h).drk i e : ℝ) : EReal) := by
  intro h i e
  pointwise [b246, b242, b241, b214, b213, b212, b211, b210]
  simp only [(r240' H), (r172 H), reals]
  try rfl

theorem r244 :
    ∀ h i l, b244 (F := Ideal) j s (ix3 h i l) = ((-(∑ e, (C h).drv i e * (C h).uv l e + ∑ e, (C h).drk i e * (C h).wk l e) : ℝ) : EReal) := by
  intro h i l
  have e1 : ∀ (i : Fin 64) (e : Fin 128), b242 (F := Ideal) j s (ix3 h i ⟨e.val, by omega⟩) = b245 j s (ix3 h i e) := by
    intro i e
    pointwise [b245]
  have e2 : ∀ (i : Fin 64) (e : Fin 128), b242 (F := Ideal) j s (ix3 h i ⟨128 + e.val, by omega⟩) = b246 j s (ix3 h i e) := by
    intro i e
    pointwise [b246]
  have e3 : ∀ (i : Fin 64) (e : Fin 128), b117 (F := Ideal) j s (ix3 h i ⟨e.val, by omega⟩) = b120 j s (ix3 h i e) := by
    intro i e
    pointwise [b120]
  have e4 : ∀ (i : Fin 64) (e : Fin 128), b117 (F := Ideal) j s (ix3 h i ⟨128 + e.val, by omega⟩) = b121 j s (ix3 h i e) := by
    intro i e
    pointwise [b121]
  pointwise [b244, b243]
  rw [Fin.sum_univ_two_halves 128 128 rfl]
  simp only [e1, e2, e3, e4, r245 H, r246 H, r120 H, r121 H, ← EReal.coe_mul, ← EReal.coe_add, ← EReal.coe_neg, ← coe_sum]
  rw [EReal.coe_eq_coe_iff, neg_add]
  simp only [← Finset.sum_neg_distrib, neg_mul]

theorem r248 :
    ∀ h i e, b248 (F := Ideal) j s (ix3 h i e) = (((C h).β i * (C h).drk i e : ℝ) : EReal) := by
  intro h i e
  pointwise [b248, b247]
  simp only [H.β, (r246 H), reals]
  try rfl

theorem r255 :
    ∀ h i e, b255 (F := Ideal) j s (ix3 h i e) = (((C h).dkdec i e * (C h).ek i + ∑ m, (C h).decay m i * (C h).dattn m i * (C h).q m e + (C h).eG i * ((C h).β i * (C h).drk i e) : ℝ) : EReal) := by
  intro h i e
  pointwise [b255, b254, b253, b85, b84]
  simp only [(r207 H), H.G, (r248 H), reals]
  try rfl

theorem r263 :
    ∀ h i, b263 (F := Ideal) j s (ix2 h i) = ((((if i = 63 then (C h).dcd * (C h).cd else 0) + -(C h).ee i + if i = 63 then ∑ m, (C h).ee m else 0) + (∑ e, (C h).q i e * (C h).dqdec i e) * (C h).eG i + (∑ e, (C h).β i * (C h).drk i e * (C h).k i e) * (C h).eG i : ℝ) : EReal) := by
  intro h i
  pointwise [b263, b262, b261, b260, b259, b258, b257, b256, b84]
  simp only [(r203 H), (r248 H), H.k, H.G, sel_sge, sel_sgt, pad_63, Finset.sum_const, Finset.card_univ, Fintype.card_fin, one_smul, reals]
  try rfl

theorem r265 :
    ∀ h i e, b265 (F := Ideal) j s (ix3 h i e) = (((C h).dv i e : ℝ) : EReal) := by
  intro h i e
  pointwise [b265, b264]
  simp only [H.β, (r245 H), reals]
  try rfl

theorem r273 :
    ∀ h i l, b273 (F := Ideal) j s (ix3 h i l) = (((C h).dlow i l : ℝ) : EReal) := by
  intro h i l
  pointwise [b273, b272, b271, b77, b50, b49, b48, b47, b46, b40]
  simp only [(r244 H), sel_sge, sel_sgt, pad_63, Finset.sum_const, Finset.card_univ, Fintype.card_fin, one_smul, reals]
  try rfl

theorem r274 :
    ∀ h i l, b274 (F := Ideal) j s (ix3 h i l) = (((C h).dkk i l : ℝ) : EReal) := by
  intro h i l
  pointwise [b274]
  simp only [(r73 H), (r273 H), reals]
  rw [EReal.coe_eq_coe_iff]
  simp only [Ch.dkk, mul_comm, mul_left_comm]

theorem r275 :
    ∀ h i l, b275 (F := Ideal) j s (ix3 h i l) = (((C h).dlow i l * (C h).kk i l : ℝ) : EReal) := by
  intro h i l
  pointwise [b275]
  simp only [(r273 H), (r71 H), reals]
  try rfl

theorem r278 :
    ∀ h i l, b278 (F := Ideal) j s (ix3 h i l) = (((C h).ddecay i l : ℝ) : EReal) := by
  intro h i l
  pointwise [b278, b277, b276]
  simp only [(r205 H), H.β, (r275 H), reals]
  rw [EReal.coe_eq_coe_iff, add_comm]
  simp only [Ch.ddecay, mul_comm, mul_left_comm, mul_assoc]

theorem r283 :
    ∀ h i, b283 (F := Ideal) j s (ix3 h i (0 : Fin 1)) = (((C h).dβ i : ℝ) : EReal) := by
  intro h i
  pointwise [b283, b282, b281, b280, b279, b270, b252, b251, b250, b249, b269, b268, b267, b266]
  simp only [(r87 H), (r245 H), (r246 H), H.v, (r275 H), (r68 H), reals]
  rw [EReal.coe_eq_coe_iff]
  simp only [Ch.dβ, Ch.rkk, Finset.sum_mul, Finset.mul_sum, mul_comm, mul_left_comm, mul_assoc]
  ring

theorem r287 :
    ∀ h i e, b287 (F := Ideal) j s (ix3 h i e) = (((C h).dk i e : ℝ) : EReal) := by
  intro h i e
  pointwise [b287, b286, b285, b284]
  simp only [(r255 H), (r274 H), H.k, reals]
  rw [EReal.coe_eq_coe_iff]
  simp only [Ch.dk, mul_comm, mul_left_comm, mul_assoc]
  ring

theorem r294 :
    ∀ h i l, b294 (F := Ideal) j s (ix3 h i l) = (((C h).ddecay i l * (C h).decay i l : ℝ) : EReal) := by
  intro h i l
  pointwise [b294, b293, b292, b291, b290, b289, b288, b58, b66, b45, b44, b43, b42, b41, b40]
  simp only [(r63 H), (r278 H), sel_sge, sel_sgt, pad_63, Finset.sum_const, Finset.card_univ, Fintype.card_fin, one_smul, reals]
  rw [EReal.coe_eq_coe_iff]
  simp only [Ch.decay]
  split <;> simp

theorem r307 :
    ∀ h i, b307 (F := Ideal) j s (ix2 h i) = (((C h).dG i : ℝ) : EReal) := by
  intro h i
  pointwise [b307, b306, b305, b304, b303, b302, b301, b300, b299, b298, b297, b296, b295]
  simp only [(r263 H), (r294 H), sel_sge, sel_sgt, pad_63, Finset.sum_const, Finset.card_univ, Fintype.card_fin, one_smul, reals]
  rw [EReal.coe_eq_coe_iff]
  rw [show (∑ e, (C h).β i * (C h).drk i e * (C h).k i e) = (C h).β i * (C h).rkk i from by
    rw [Ch.rkk, Finset.mul_sum]; exact Finset.sum_congr rfl fun _ _ => mul_assoc _ _ _,
    show (∑ e, (C h).q i e * (C h).dqdec i e) = ∑ e, (C h).dqdec i e * (C h).q i e from Finset.sum_congr rfl fun _ _ => mul_comm _ _]
  simp only [Ch.dG, Finset.sum_neg_distrib]
  split <;> ring

end Cert.Gd.Ref

end
-- ==== Proof.GdLoop.lean ====
/-
  The reference's loop: what each trip reads of the arguments, and the gradients it has set when it ends.
-/
module

public import proofs.«01_k».proof.Proof.GdRef
public import proofs.«01_k».proof.Proof.GdChain
public import Idealize.ShloMosaic.Lib.DynamicIndex

@[expose] public section

set_option maxRecDepth 16384

noncomputable section

open Idealize.ShloMosaic Idealize.ShloMosaic.TcCoe Idealize.SL.Sem Idealize.ShloMosaic.StableHlo

namespace Cert.Gd.Loop

open Cert.Gd Cert.Gd.Ref Cert.GdnReferenceIdeal Cert.GdnReferenceIdeal.Gen Cert.GdnReferenceIdeal.Step

theorem num_sub (j : ℕ) (hj : j < 128) : 128#32 - BitVec.ofNat 32 j - 1#32 = BitVec.ofNat 32 (127 - j) := by
  apply BitVec.eq_of_toNat_eq
  simp only [BitVec.toNat_sub, BitVec.toNat_ofNat]
  omega

theorem b3_num (j : ℕ) (hj : j < 128) (s : State Ideal) (i : S_.Idx) : b3 (F := Ideal) j s i = BitVec.ofNat 32 (127 - j) := by
  unfold b3 b2 b1 b0
  exact num_sub j hj

theorem b3_int (j : ℕ) (hj : j < 128) (s : State Ideal) (i : S_.Idx) : (b3 (F := Ideal) j s i).toInt = ((127 - j : ℕ) : ℤ) := by
  rw [b3_num j hj]
  exact toInt_ofNat_of_lt (by omega)

theorem b8_at (j : ℕ) (hj : j < 128) (s : State Ideal) (h : Fin 16) (d e : Fin 128) : b8 (F := Ideal) j s (ix3 h d e) = s.main_v25_0 (ix4 (back j) h d e) := by
  pointwise [b8, b7]
  have c0 := Host.clampedStart_of_le (s := S128x16x128x128) (t := S1x16x128x128) rfl (fun k => (![b3 j s, b4 j s, b5 j s, b6 j s] k (Shape.Idx.first h_S_)).toInt) 0 (127 - j) (b3_int j hj s _) (by show 127 - j + 1 ≤ 128; omega)
  have c1 := Host.clampedStart_of_le (s := S128x16x128x128) (t := S1x16x128x128) rfl (fun k => (![b3 j s, b4 j s, b5 j s, b6 j s] k (Shape.Idx.first h_S_)).toInt) 1 0 rfl (by decide)
  have c2 := Host.clampedStart_of_le (s := S128x16x128x128) (t := S1x16x128x128) rfl (fun k => (![b3 j s, b4 j s, b5 j s, b6 j s] k (Shape.Idx.first h_S_)).toInt) 2 0 rfl (by decide)
  have c3 := Host.clampedStart_of_le (s := S128x16x128x128) (t := S1x16x128x128) rfl (fun k => (![b3 j s, b4 j s, b5 j s, b6 j s] k (Shape.Idx.first h_S_)).toInt) 3 0 rfl (by decide)
  simp only [c0, c1, c2, c3, zero_add]

theorem b13_at (j : ℕ) (hj : j < 128) (s : State Ideal) (h : Fin 16) (i : Fin 64) (e : Fin 128) : b13 (F := Ideal) j s (ix3 h i e) = s.main_v25_1 (ix4 (back j) h i e) := by
  pointwise [b13, b12]
  have c0 := Host.clampedStart_of_le (s := S128x16x64x128) (t := S1x16x64x128) rfl (fun k => (![b3 j s, b9 j s, b10 j s, b11 j s] k (Shape.Idx.first h_S_)).toInt) 0 (127 - j) (b3_int j hj s _) (by show 127 - j + 1 ≤ 128; omega)
  have c1 := Host.clampedStart_of_le (s := S128x16x64x128) (t := S1x16x64x128) rfl (fun k => (![b3 j s, b9 j s, b10 j s, b11 j s] k (Shape.Idx.first h_S_)).toInt) 1 0 rfl (by decide)
  have c2 := Host.clampedStart_of_le (s := S128x16x64x128) (t := S1x16x64x128) rfl (fun k => (![b3 j s, b9 j s, b10 j s, b11 j s] k (Shape.Idx.first h_S_)).toInt) 2 0 rfl (by decide)
  have c3 := Host.clampedStart_of_le (s := S128x16x64x128) (t := S1x16x64x128) rfl (fun k => (![b3 j s, b9 j s, b10 j s, b11 j s] k (Shape.Idx.first h_S_)).toInt) 3 0 rfl (by decide)
  simp only [c0, c1, c2, c3, zero_add]

theorem b18_at (j : ℕ) (hj : j < 128) (s : State Ideal) (h : Fin 16) (i : Fin 64) (e : Fin 128) : b18 (F := Ideal) j s (ix3 h i e) = s.main_v25_2 (ix4 (back j) h i e) := by
  pointwise [b18, b17]
  have c0 := Host.clampedStart_of_le (s := S128x16x64x128) (t := S1x16x64x128) rfl (fun k => (![b3 j s, b14 j s, b15 j s, b16 j s] k (Shape.Idx.first h_S_)).toInt) 0 (127 - j) (b3_int j hj s _) (by show 127 - j + 1 ≤ 128; omega)
  have c1 := Host.clampedStart_of_le (s := S128x16x64x128) (t := S1x16x64x128) rfl (fun k => (![b3 j s, b14 j s, b15 j s, b16 j s] k (Shape.Idx.first h_S_)).toInt) 1 0 rfl (by decide)
  have c2 := Host.clampedStart_of_le (s := S128x16x64x128) (t := S1x16x64x128) rfl (fun k => (![b3 j s, b14 j s, b15 j s, b16 j s] k (Shape.Idx.first h_S_)).toInt) 2 0 rfl (by decide)
  have c3 := Host.clampedStart_of_le (s := S128x16x64x128) (t := S1x16x64x128) rfl (fun k => (![b3 j s, b14 j s, b15 j s, b16 j s] k (Shape.Idx.first h_S_)).toInt) 3 0 rfl (by decide)
  simp only [c0, c1, c2, c3, zero_add]

theorem b23_at (j : ℕ) (hj : j < 128) (s : State Ideal) (h : Fin 16) (i : Fin 64) (e : Fin 128) : b23 (F := Ideal) j s (ix3 h i e) = s.main_v25_3 (ix4 (back j) h i e) := by
  pointwise [b23, b22]
  have c0 := Host.clampedStart_of_le (s := S128x16x64x128) (t := S1x16x64x128) rfl (fun k => (![b3 j s, b19 j s, b20 j s, b21 j s] k (Shape.Idx.first h_S_)).toInt) 0 (127 - j) (b3_int j hj s _) (by show 127 - j + 1 ≤ 128; omega)
  have c1 := Host.clampedStart_of_le (s := S128x16x64x128) (t := S1x16x64x128) rfl (fun k => (![b3 j s, b19 j s, b20 j s, b21 j s] k (Shape.Idx.first h_S_)).toInt) 1 0 rfl (by decide)
  have c2 := Host.clampedStart_of_le (s := S128x16x64x128) (t := S1x16x64x128) rfl (fun k => (![b3 j s, b19 j s, b20 j s, b21 j s] k (Shape.Idx.first h_S_)).toInt) 2 0 rfl (by decide)
  have c3 := Host.clampedStart_of_le (s := S128x16x64x128) (t := S1x16x64x128) rfl (fun k => (![b3 j s, b19 j s, b20 j s, b21 j s] k (Shape.Idx.first h_S_)).toInt) 3 0 rfl (by decide)
  simp only [c0, c1, c2, c3, zero_add]

theorem b37_at (j : ℕ) (hj : j < 128) (s : State Ideal) (h : Fin 16) (i : Fin 64) (e : Fin 128) : b37 (F := Ideal) j s (ix3 h i e) = s.main_v25_6 (ix4 (back j) h i e) := by
  pointwise [b37, b36]
  have c0 := Host.clampedStart_of_le (s := S128x16x64x128) (t := S1x16x64x128) rfl (fun k => (![b3 j s, b33 j s, b34 j s, b35 j s] k (Shape.Idx.first h_S_)).toInt) 0 (127 - j) (b3_int j hj s _) (by show 127 - j + 1 ≤ 128; omega)
  have c1 := Host.clampedStart_of_le (s := S128x16x64x128) (t := S1x16x64x128) rfl (fun k => (![b3 j s, b33 j s, b34 j s, b35 j s] k (Shape.Idx.first h_S_)).toInt) 1 0 rfl (by decide)
  have c2 := Host.clampedStart_of_le (s := S128x16x64x128) (t := S1x16x64x128) rfl (fun k => (![b3 j s, b33 j s, b34 j s, b35 j s] k (Shape.Idx.first h_S_)).toInt) 2 0 rfl (by decide)
  have c3 := Host.clampedStart_of_le (s := S128x16x64x128) (t := S1x16x64x128) rfl (fun k => (![b3 j s, b33 j s, b34 j s, b35 j s] k (Shape.Idx.first h_S_)).toInt) 3 0 rfl (by decide)
  simp only [c0, c1, c2, c3, zero_add]

theorem b27_at (j : ℕ) (hj : j < 128) (s : State Ideal) (h : Fin 16) (i : Fin 64) : b27 (F := Ideal) j s (ix2 h i) = s.main_v25_4 (ix3 (back j) h i) := by
  pointwise [b27, b26]
  have c0 := Host.clampedStart_of_le (s := S128x16x64) (t := S1x16x64) rfl (fun k => (![b3 j s, b24 j s, b25 j s] k (Shape.Idx.first h_S_)).toInt) 0 (127 - j) (b3_int j hj s _) (by show 127 - j + 1 ≤ 128; omega)
  have c1 := Host.clampedStart_of_le (s := S128x16x64) (t := S1x16x64) rfl (fun k => (![b3 j s, b24 j s, b25 j s] k (Shape.Idx.first h_S_)).toInt) 1 0 rfl (by decide)
  have c2 := Host.clampedStart_of_le (s := S128x16x64) (t := S1x16x64) rfl (fun k => (![b3 j s, b24 j s, b25 j s] k (Shape.Idx.first h_S_)).toInt) 2 0 rfl (by decide)
  simp only [c0, c1, c2, zero_add]

theorem b32_at (j : ℕ) (hj : j < 128) (s : State Ideal) (h : Fin 16) (i : Fin 64) : b32 (F := Ideal) j s (ix3 h i 0) = s.main_v25_5 (ix4 (back j) h i 0) := by
  pointwise [b32, b31]
  have c0 := Host.clampedStart_of_le (s := S128x16x64x1) (t := S1x16x64x1) rfl (fun k => (![b3 j s, b28 j s, b29 j s, b30 j s] k (Shape.Idx.first h_S_)).toInt) 0 (127 - j) (b3_int j hj s _) (by show 127 - j + 1 ≤ 128; omega)
  have c1 := Host.clampedStart_of_le (s := S128x16x64x1) (t := S1x16x64x1) rfl (fun k => (![b3 j s, b28 j s, b29 j s, b30 j s] k (Shape.Idx.first h_S_)).toInt) 1 0 rfl (by decide)
  have c2 := Host.clampedStart_of_le (s := S128x16x64x1) (t := S1x16x64x1) rfl (fun k => (![b3 j s, b28 j s, b29 j s, b30 j s] k (Shape.Idx.first h_S_)).toInt) 2 0 rfl (by decide)
  have c3 := Host.clampedStart_of_le (s := S128x16x64x1) (t := S1x16x64x1) rfl (fun k => (![b3 j s, b28 j s, b29 j s, b30 j s] k (Shape.Idx.first h_S_)).toInt) 3 0 rfl (by decide)
  simp only [c0, c1, c2, c3, zero_add]
  rfl

theorem b39_at (j : ℕ) (hj : j < 128) (s : State Ideal) : b39 (F := Ideal) j s ix0 = BitVec.ofNat 32 (127 - j) := by
  pointwise [b39, b38, K_main_v24]
  have c0 := Host.clampedStart_of_le (s := S128) (t := S1) rfl (fun _ => (b3 j s (Shape.Idx.first h_S_)).toInt) 0 (127 - j) (b3_int j hj s _) (by show 127 - j + 1 ≤ 128; omega)
  rw [c0]

theorem choose {α : Type} (n : Fin 128) (j : ℕ) (a b : α) :
    Scalar.select (IntOp.cmpi .eq (BitVec.ofNat 32 n.val) (BitVec.ofNat 32 (127 - j))) a b = if n = back j then a else b := by
  by_cases h : n = back j
  · rw [if_pos h, h]
    simp [Scalar.select, IntOp.cmpi]
  · rw [if_neg h]
    have hn : BitVec.ofNat 32 n.val ≠ BitVec.ofNat 32 (127 - j) := by
      intro e
      have e' := congrArg BitVec.toNat e
      simp only [BitVec.toNat_ofNat] at e'
      have : n.val = 127 - j := by have := n.isLt; omega
      exact h (Fin.ext this)
    have hb : (BitVec.ofNat 32 n.val == BitVec.ofNat 32 (127 - j)) = false := beq_false_of_ne hn
    simp only [Scalar.select, IntOp.cmpi, hb]
    exact if_neg (by decide)

/-! The gradients after a trip: chunk `127 - j`'s are the trip's, the other chunks' are as they were. -/

theorem b312_at (j : ℕ) (hj : j < 128) (s : State Ideal) (n : Fin 128) (h : Fin 16) (i : Fin 64) (e : Fin 128) :
    b312 (F := Ideal) j s (ix4 n h i e) = if n = back j then b209 (F := Ideal) j s (ix3 h i e) else s.main_v25_10 (ix4 n h i e) := by
  pointwise [b312, b311, b310, b309, b308]
  rw [b39_at j hj, choose]

theorem b317_at (j : ℕ) (hj : j < 128) (s : State Ideal) (n : Fin 128) (h : Fin 16) (i : Fin 64) (e : Fin 128) :
    b317 (F := Ideal) j s (ix4 n h i e) = if n = back j then b287 (F := Ideal) j s (ix3 h i e) else s.main_v25_11 (ix4 n h i e) := by
  pointwise [b317, b316, b315, b314, b313]
  rw [b39_at j hj, choose]

theorem b322_at (j : ℕ) (hj : j < 128) (s : State Ideal) (n : Fin 128) (h : Fin 16) (i : Fin 64) (e : Fin 128) :
    b322 (F := Ideal) j s (ix4 n h i e) = if n = back j then b265 (F := Ideal) j s (ix3 h i e) else s.main_v25_12 (ix4 n h i e) := by
  pointwise [b322, b321, b320, b319, b318]
  rw [b39_at j hj, choose]

theorem b327_at (j : ℕ) (hj : j < 128) (s : State Ideal) (n : Fin 128) (h : Fin 16) (i : Fin 64) :
    b327 (F := Ideal) j s (ix3 n h i) = if n = back j then b307 (F := Ideal) j s (ix2 h i) else s.main_v25_13 (ix3 n h i) := by
  pointwise [b327, b326, b325, b324, b323]
  rw [b39_at j hj, choose]

theorem b332_at (j : ℕ) (hj : j < 128) (s : State Ideal) (n : Fin 128) (h : Fin 16) (i : Fin 64) :
    b332 (F := Ideal) j s (ix4 n h i 0) = if n = back j then b283 (F := Ideal) j s (ix3 h i 0) else s.main_v25_14 (ix4 n h i 0) := by
  pointwise [b332, b331, b330, b329, b328]
  rw [b39_at j hj, choose]

variable (x0 : FVec Ideal S48x8192x128 .f32) (x1 : FVec Ideal S8192x128 .f32) (x2 : FVec Ideal S128x16x128x128 .f32) (x3 : FVec Ideal S16x8192x128 .f32)

/-! What the loop starts from, at an index of its arguments. -/

theorem q_at (n : Fin 128) (h : Fin 16) (i : Fin 64) (e : Fin 128) :
    A_main_v2 (F := Ideal) x0 x1 x3 (ix4 n h i e) = x0 (ix3 ⟨h.val, by omega⟩ (rowAt n i) e) := by
  pointwise [A_main_v2, A_main_v1, A_main_v0]

theorem k_at (n : Fin 128) (h : Fin 16) (i : Fin 64) (e : Fin 128) :
    A_main_v5 (F := Ideal) x0 x1 x3 (ix4 n h i e) = x0 (ix3 ⟨16 + h.val, by omega⟩ (rowAt n i) e) := by
  pointwise [A_main_v5, A_main_v4, A_main_v3]

theorem v_at (n : Fin 128) (h : Fin 16) (i : Fin 64) (e : Fin 128) :
    A_main_v8 (F := Ideal) x0 x1 x3 (ix4 n h i e) = x0 (ix3 ⟨32 + h.val, by omega⟩ (rowAt n i) e) := by
  pointwise [A_main_v8, A_main_v7, A_main_v6]

theorem G_at (n : Fin 128) (h : Fin 16) (i : Fin 64) :
    A_main_v11 (F := Ideal) x0 x1 x3 (ix3 n h i) = x1 (ix2 (rowAt n i) ⟨16 + h.val, by omega⟩) := by
  pointwise [A_main_v11, A_main_v10, A_main_v9]

theorem β_at (n : Fin 128) (h : Fin 16) (i : Fin 64) :
    A_main_v15 (F := Ideal) x0 x1 x3 (ix4 n h i 0) = x1 (ix2 (rowAt n i) ⟨h.val, by omega⟩) := by
  pointwise [A_main_v15, A_main_v14, A_main_v13, A_main_v12]

theorem dO_at (n : Fin 128) (h : Fin 16) (i : Fin 64) (e : Fin 128) :
    A_main_v23 (F := Ideal) x0 x1 x3 (ix4 n h i e) = x3 (ix3 h (rowAt n i) e) := by
  pointwise [A_main_v23, A_main_v22]

/-- The arguments hold the real numbers `A`. -/
structure Reals (A : Arr) : Prop where
  qkv : ∀ r i e, x0 (ix3 r i e) = ((A.qkv r i e : ℝ) : EReal)
  bg : ∀ i l, x1 (ix2 i l) = ((A.bg i l : ℝ) : EReal)
  st : ∀ n h d e, x2 (ix4 n h d e) = ((A.st n h d e : ℝ) : EReal)
  dO : ∀ h i e, x3 (ix3 h i e) = ((A.dO h i e : ℝ) : EReal)

/-- The states of the loop. -/
def it : ℕ → State Ideal
  | 0 => init x2 x0 x1 x3
  | n + 1 => step n (it n)

theorem it_succ (n : ℕ) : it x0 x1 x2 x3 (n + 1) = step n (it x0 x1 x2 x3 n) := rfl

theorem it_kept (n : ℕ) : (it x0 x1 x2 x3 n).main_v25_0 = x2 ∧ (it x0 x1 x2 x3 n).main_v25_1 = A_main_v2 x0 x1 x3 ∧
    (it x0 x1 x2 x3 n).main_v25_2 = A_main_v5 x0 x1 x3 ∧ (it x0 x1 x2 x3 n).main_v25_3 = A_main_v8 x0 x1 x3 ∧
    (it x0 x1 x2 x3 n).main_v25_4 = A_main_v11 x0 x1 x3 ∧ (it x0 x1 x2 x3 n).main_v25_5 = A_main_v15 x0 x1 x3 ∧
    (it x0 x1 x2 x3 n).main_v25_6 = A_main_v23 x0 x1 x3 := by
  induction n with
  | zero => exact ⟨rfl, rfl, rfl, rfl, rfl, rfl, rfl⟩
  | succ n ih =>
    obtain ⟨a, b, c, d, e, f, g⟩ := ih
    exact ⟨a, b, c, d, e, f, g⟩

variable {x0 x1 x2 x3} {A : Arr} (H : Reals x0 x1 x2 x3 A)
include H

theorem given (t : ℕ) (ht : t < 128) (hds : ∀ h d e, (it x0 x1 x2 x3 t).main_v25_9 (ix3 h d e) = ((dsAt A t h d e : ℝ) : EReal)) :
    Given t (it x0 x1 x2 x3 t) (chain A t) := by
  obtain ⟨e0, e1, e2, e3, e4, e5, e6⟩ := it_kept x0 x1 x2 x3 t
  exact
  { st := fun h d e => by rw [b8_at t ht, e0]; exact H.st ..
    q := fun h i e => by rw [b13_at t ht, e1, q_at]; exact H.qkv ..
    k := fun h i e => by rw [b18_at t ht, e2, k_at]; exact H.qkv ..
    v := fun h i e => by rw [b23_at t ht, e3, v_at]; exact H.qkv ..
    G := fun h i => by rw [b27_at t ht, e4, G_at]; exact H.bg ..
    β := fun h i => by rw [b32_at t ht, e5, β_at]; exact H.bg ..
    dO := fun h i e => by rw [b37_at t ht, e6, dO_at]; exact H.dO ..
    ds := hds }

theorem it_ds (t : ℕ) (ht : t ≤ 128) : ∀ h d e, (it x0 x1 x2 x3 t).main_v25_9 (ix3 h d e) = ((dsAt A t h d e : ℝ) : EReal) := by
  induction t with
  | zero =>
    intro h d e
    show K_main_v21 (F := Ideal) (ix3 h d e) = ((0 : ℝ) : EReal)
    pointwise [K_main_v21, K_main_cst_4]
    simp
  | succ t ih =>
    intro h d e
    rw [it_succ, step_main_v25_9, r171 (given H t (by omega) (ih (by omega))), dsAt_succ]

theorem given' (t : ℕ) (ht : t < 128) : Given t (it x0 x1 x2 x3 t) (chain A t) := given H t ht (it_ds H t (by omega))

/-- After `m` trips the chunks they went over hold their gradients. -/
theorem it_rows (m : ℕ) (hm : m ≤ 128) (n : Fin 128) (hn : 128 - m ≤ n.val) :
    (∀ h i e, (it x0 x1 x2 x3 m).main_v25_10 (ix4 n h i e) = (((chain A (127 - n.val) h).dq i e : ℝ) : EReal)) ∧
    (∀ h i e, (it x0 x1 x2 x3 m).main_v25_11 (ix4 n h i e) = (((chain A (127 - n.val) h).dk i e : ℝ) : EReal)) ∧
    (∀ h i e, (it x0 x1 x2 x3 m).main_v25_12 (ix4 n h i e) = (((chain A (127 - n.val) h).dv i e : ℝ) : EReal)) ∧
    (∀ h i, (it x0 x1 x2 x3 m).main_v25_13 (ix3 n h i) = (((chain A (127 - n.val) h).dG i : ℝ) : EReal)) ∧
    (∀ h i, (it x0 x1 x2 x3 m).main_v25_14 (ix4 n h i 0) = (((chain A (127 - n.val) h).dβ i : ℝ) : EReal)) := by
  induction m with
  | zero => have := n.isLt; omega
  | succ m ih =>
    have g := given' H m (by omega)
    rw [it_succ, step_main_v25_10, step_main_v25_11, step_main_v25_12, step_main_v25_13, step_main_v25_14]
    by_cases h : n = back m
    · have e : 127 - n.val = m := by rw [h]; show 127 - (127 - m) = m; omega
      rw [e]
      refine ⟨fun h' i e => ?_, fun h' i e => ?_, fun h' i e => ?_, fun h' i => ?_, fun h' i => ?_⟩
      · rw [b312_at m (by omega), if_pos h, r209 g]
      · rw [b317_at m (by omega), if_pos h, r287 g]
      · rw [b322_at m (by omega), if_pos h, r265 g]
      · rw [b327_at m (by omega), if_pos h, r307 g]
      · rw [b332_at m (by omega), if_pos h, r283 g]
    · have hv : n.val ≠ 127 - m := fun e => h (Fin.ext e)
      obtain ⟨a, b, c, d, e⟩ := ih (by omega) (by omega)
      refine ⟨fun h' i e => ?_, fun h' i e => ?_, fun h' i e => ?_, fun h' i => ?_, fun h' i => ?_⟩
      · rw [b312_at m (by omega), if_neg h, a]
      · rw [b317_at m (by omega), if_neg h, b]
      · rw [b322_at m (by omega), if_neg h, c]
      · rw [b327_at m (by omega), if_neg h, d]
      · rw [b332_at m (by omega), if_neg h, e]

/-- The chunk of row `i`. -/
abbrev ofRow (A : Arr) (i : Fin 8192) (h : Fin 16) : Ch := chain A (127 - i.val / 64) h

/-- The gradients of queries, keys and values, at an index. -/
theorem qkv_at (h : Fin 48) (i : Fin 8192) (e : Fin 128) : R_main_v32 (F := Ideal) (it x0 x1 x2 x3 128) (ix3 h i e) =
    if h1 : h.val < 16 then (((ofRow A i ⟨h.val, h1⟩).dq ⟨i.val % 64, by omega⟩ e : ℝ) : EReal)
    else if h2 : h.val < 32 then (((ofRow A i ⟨h.val - 16, by omega⟩).dk ⟨i.val % 64, by omega⟩ e : ℝ) : EReal)
    else (((ofRow A i ⟨h.val - 32, by omega⟩).dv ⟨i.val % 64, by omega⟩ e : ℝ) : EReal) := by
  obtain ⟨a, b, c, -, -⟩ := it_rows H 128 le_rfl ⟨i.val / 64, by omega⟩ (by simp)
  pointwise [R_main_v32]
  simp only [a, b, c]
  split
  · rfl
  · split
    · rw [dif_pos (by omega)]
    · rw [dif_neg (by omega)]
      simp only [Nat.sub_sub]

/-- The gradients of the gate and of the cumulative log decay, at an index. -/
theorem bg_at (i : Fin 8192) (l : Fin 128) : R_main_v39 (F := Ideal) (it x0 x1 x2 x3 128) (ix2 i l) =
    if h1 : l.val < 16 then (((ofRow A i ⟨l.val, h1⟩).dβ ⟨i.val % 64, by omega⟩ : ℝ) : EReal)
    else if h2 : l.val < 32 then (((ofRow A i ⟨l.val - 16, by omega⟩).dG ⟨i.val % 64, by omega⟩ : ℝ) : EReal)
    else 0 := by
  obtain ⟨-, -, -, a, b⟩ := it_rows H 128 le_rfl ⟨i.val / 64, by omega⟩ (by simp)
  pointwise [R_main_v39]
  simp only [a, b]
  split
  · rfl
  · split
    · rw [dif_pos (by omega)]
    · rw [dif_neg (by omega)]

end Cert.Gd.Loop

end
-- ==== Proof.GdValue.lean ====
/-
  The gated-delta backward kernel's result arrays are the reference's where the arguments are finite.
-/
module

public import proofs.«01_k».proof.Proof.GdKer
public import proofs.«01_k».proof.Proof.GdLoop

@[expose] public section

set_option maxRecDepth 16384

noncomputable section

open Idealize.ShloMosaic Idealize.ShloMosaic.TcCoe Idealize.SL.Sem
open Idealize.ShloMosaic.Pipeline (Dat)

namespace Cert.Gd

open Cert.GdnIdeal Cert.GdnIdeal.Gen Cert.GdnIdeal.Value

variable (m : (ℓ : Loc nD τ sig) → Buf (Elt Ideal) ℓ) (c : Dev nD)

theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)

/-- The point that writes row `i`. -/
theorem pt_lt (i : Fin 8192) : 127 - i.val / 64 < cfg0.N := lt_of_lt_of_eq (show 127 - i.val / 64 < 128 by omega) (show cfg0.N = 128 from N_0).symm

theorem arr6_at (r : Fin 48) (i : Fin 8192) (e : Fin 128) :
    (dats m 0 c).arrAt 6 cfg0.N (ix3 r i e : S48x8192x128.Idx) = (outsAt0 m c (127 - i.val / 64) (pt_lt i)).1 (ix3 r ⟨i.val % 64, by omega⟩ e) := by
  have h := congrFun (blocks6 m c ⟨_, pt_lt i⟩ (flush_6 _)) (ix3 r ⟨i.val % 64, by omega⟩ e : S48x64x128.Idx)
  rw [flushed6] at h
  refine Eq.trans ?_ (Eq.trans h ?_)
  · obtain ⟨e0, e1, e2⟩ := ix_6 ⟨_, pt_lt i⟩
    show (dats m 0 c).arrAt 6 cfg0.N _ = (dats m 0 c).arrAt 6 cfg0.N _
    congr 1
    funext a
    apply Fin.ext
    match a with
    | ⟨0, _⟩ => show r.val = win0_6.index ⟨_, pt_lt i⟩ (0 : Fin 3) * 48 + 1 * r.val; rw [e0]; omega
    | ⟨1, _⟩ => show i.val = win0_6.index ⟨_, pt_lt i⟩ (1 : Fin 3) * 64 + 1 * (i.val % 64); rw [e1]; dsimp only; omega
    | ⟨2, _⟩ => show e.val = win0_6.index ⟨_, pt_lt i⟩ (2 : Fin 3) * 128 + 1 * e.val; rw [e2]; omega
  · show (outsAt0 m c (127 - i.val / 64) (pt_lt i)).1 _ = (outsAt0 m c (127 - i.val / 64) (pt_lt i)).1 _
    congr 1

theorem arr7_at (i : Fin 8192) (l : Fin 128) :
    (dats m 0 c).arrAt 7 cfg0.N (ix2 i l : S8192x128.Idx) = (outsAt0 m c (127 - i.val / 64) (pt_lt i)).2.1 (ix2 ⟨i.val % 64, by omega⟩ l) := by
  have h := congrFun (blocks7 m c ⟨_, pt_lt i⟩ (flush_7 _)) (ix2 ⟨i.val % 64, by omega⟩ l : S64x128.Idx)
  rw [flushed7] at h
  refine Eq.trans ?_ (Eq.trans h ?_)
  · obtain ⟨e0, e1⟩ := ix_7 ⟨_, pt_lt i⟩
    show (dats m 0 c).arrAt 7 cfg0.N _ = (dats m 0 c).arrAt 7 cfg0.N _
    congr 1
    funext a
    apply Fin.ext
    match a with
    | ⟨0, _⟩ => show i.val = win0_7.index ⟨_, pt_lt i⟩ (0 : Fin 2) * 64 + 1 * (i.val % 64); rw [e0]; dsimp only; omega
    | ⟨1, _⟩ => show l.val = win0_7.index ⟨_, pt_lt i⟩ (1 : Fin 2) * 128 + 1 * l.val; rw [e1]; omega
  · show (outsAt0 m c (127 - i.val / 64) (pt_lt i)).2.1 _ = (outsAt0 m c (127 - i.val / 64) (pt_lt i)).2.1 _
    congr 1

variable {A : Arr} (HA : Reals A (gArg0 m c) (gArg1 m c) (gArg2 m c) (gArg3 m c))
include HA

/-- The reference's states over the same arguments. -/
abbrev refIt := Loop.it (gArg0 m c) (gArg1 m c) (gArg2 m c) (gArg3 m c)

theorem loopReals : Loop.Reals (gArg0 m c) (gArg1 m c) (gArg2 m c) (gArg3 m c) A := ⟨HA.qkv, HA.bg, HA.st, HA.dO⟩

theorem dqkv_eq : Cert.GdnReferenceIdeal.Step.R_main_v32 (F := Ideal) (refIt m c 128) = (dats m 0 c).arrAt 6 cfg0.N := by
  funext i
  obtain ⟨r, i, e, rfl⟩ : ∃ (a : Fin 48) (b : Fin 8192) (d : Fin 128), i = ix3 a b d :=
    ⟨i 0, i 1, i 2, by funext x; match x with | ⟨0, _⟩ => rfl | ⟨1, _⟩ => rfl | ⟨2, _⟩ => rfl⟩
  obtain ⟨ds, hds, o6, -, -⟩ := outs_point m c HA _ (pt_lt i)
  have B := blk_holds m c HA ⟨_, pt_lt i⟩ ds hds
  refine (Loop.qkv_at (loopReals m c HA) r i e).trans (Eq.trans ?_ (arr6_at m c r i e).symm)
  rw [o6]
  unfold nQKV
  show _ = if h : r.val < 16 then nQ _ (ix3 ⟨r.val, h⟩ ⟨i.val % 64, _⟩ e) else if h : r.val < 32 then nK _ (ix3 ⟨r.val - 16, _⟩ ⟨i.val % 64, _⟩ e)
    else nV _ (ix3 ⟨r.val - 32, _⟩ ⟨i.val % 64, _⟩ e)
  simp only [rQ _ _ B, rK _ _ B, rV _ _ B]

theorem dbg_eq : Cert.GdnReferenceIdeal.Step.R_main_v39 (F := Ideal) (refIt m c 128) = (dats m 0 c).arrAt 7 cfg0.N := by
  funext i
  obtain ⟨i, l, rfl⟩ : ∃ (a : Fin 8192) (b : Fin 128), i = ix2 a b :=
    ⟨i 0, i 1, by funext x; match x with | ⟨0, _⟩ => rfl | ⟨1, _⟩ => rfl⟩
  obtain ⟨ds, hds, -, o7, -⟩ := outs_point m c HA _ (pt_lt i)
  have B := blk_holds m c HA ⟨_, pt_lt i⟩ ds hds
  refine (Loop.bg_at (loopReals m c HA) i l).trans (Eq.trans ?_ (arr7_at m c i l).symm)
  rw [o7, rB _ _ B]

end Cert.Gd

end
-- ==== Proof.GdPre.lean ====
/-
  What the gated-delta precondition says of the arrays: real numbers stand in them.
-/
module

public import proofs.«01_k».proof.Pre_gdn_finite
public import proofs.«01_k».proof.Proof.XaPre
public import proofs.«01_k».proof.Proof.GdKer

@[expose] public section

noncomputable section

open Idealize.ShloMosaic

namespace Cert.Pre_gdn_finite.Gen

/-- The shape facts the precondition's text names. -/
theorem facts : Cert.Pre_gdn_finite.Facts where
  bcast_S_S48x8192x128 := by decide +kernel
  bcast_S_S8192x128 := by decide +kernel
  bcast_S_S128x16x128x128 := by decide +kernel
  bcast_S_S16x8192x128 := by decide +kernel

end Cert.Pre_gdn_finite.Gen

namespace Cert.Gd

attribute [local instance] Cert.Pre_gdn_finite.Gen.facts

open Cert.Pre_gdn_finite

variable (x0 : FVec Ideal S48x8192x128 .f32) (x1 : FVec Ideal S8192x128 .f32) (x2 : FVec Ideal S128x16x128x128 .f32) (x3 : FVec Ideal S16x8192x128 .f32)

theorem pre_qkv (h : (fn (F := Ideal) x0 x1 x2 x3).1 = fun _ => 1#1) (r : Fin 48) (i : Fin 8192) (e : Fin 128) : ∃ y : ℝ, x0 (ix3 r i e) = y := by
  refine Cert.Xa.finite_of_abs_lt _ (Eq.trans (Eq.symm ?_) (congrFun h (ix3 r i e)))
  unfold fn
  dsimp only
  pointwise []
  rw [Ideal.absf_def]

theorem pre_bg (h : (fn (F := Ideal) x0 x1 x2 x3).2.1 = fun _ => 1#1) (i : Fin 8192) (l : Fin 128) : ∃ y : ℝ, x1 (ix2 i l) = y := by
  refine Cert.Xa.finite_of_abs_lt _ (Eq.trans (Eq.symm ?_) (congrFun h (ix2 i l)))
  unfold fn
  dsimp only
  pointwise []
  rw [Ideal.absf_def]

theorem pre_st (h : (fn (F := Ideal) x0 x1 x2 x3).2.2.1 = fun _ => 1#1) (n : Fin 128) (r : Fin 16) (d e : Fin 128) : ∃ y : ℝ, x2 (ix4 n r d e) = y := by
  refine Cert.Xa.finite_of_abs_lt _ (Eq.trans (Eq.symm ?_) (congrFun h (ix4 n r d e)))
  unfold fn
  dsimp only
  pointwise []
  rw [Ideal.absf_def]

theorem pre_do (h : (fn (F := Ideal) x0 x1 x2 x3).2.2.2 = fun _ => 1#1) (r : Fin 16) (i : Fin 8192) (e : Fin 128) : ∃ y : ℝ, x3 (ix3 r i e) = y := by
  refine Cert.Xa.finite_of_abs_lt _ (Eq.trans (Eq.symm ?_) (congrFun h (ix3 r i e)))
  unfold fn
  dsimp only
  pointwise []
  rw [Ideal.absf_def]

/-- The real numbers that finite arguments hold. -/
theorem reals_of_pre (h0 : (fn (F := Ideal) x0 x1 x2 x3).1 = fun _ => 1#1) (h1 : (fn (F := Ideal) x0 x1 x2 x3).2.1 = fun _ => 1#1)
    (h2 : (fn (F := Ideal) x0 x1 x2 x3).2.2.1 = fun _ => 1#1) (h3 : (fn (F := Ideal) x0 x1 x2 x3).2.2.2 = fun _ => 1#1) :
    ∃ A : Arr, Reals A x0 x1 x2 x3 := by
  choose a ha using pre_qkv x0 x1 x2 x3 h0
  choose b hb using pre_bg x0 x1 x2 x3 h1
  choose s hs using pre_st x0 x1 x2 x3 h2
  choose d hd using pre_do x0 x1 x2 x3 h3
  exact ⟨⟨a, b, s, d⟩, ⟨ha, hb, hs, hd⟩⟩

end Cert.Gd

end
-- ==== Proof.lean ====
/-
  The certificate's claims, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Gdn
public import proofs.«01_k».proof.Proof.Gen.GdnIdeal
public import proofs.«01_k».proof.Proof.Gen.GdnReferenceIdeal
public import proofs.«01_k».proof.Proof.Gen.GdnIdeal.Value
public import proofs.«01_k».proof.Proof.Gen.GdnReferenceIdeal.StepRun
public import proofs.«01_k».proof.Proof.Gen.GdnReferenceIdeal.Step
public import proofs.«01_k».proof.Proof.PrClaims
public import proofs.«01_k».proof.Proof.NmClaims
public import proofs.«01_k».proof.Proof.AdClaims
public import proofs.«01_k».proof.Proof.MgClaims
public import proofs.«01_k».proof.Proof.FwClaims
public import proofs.«01_k».proof.Proof.XaValue
public import proofs.«01_k».proof.Proof.XaPre
public import proofs.«01_k».proof.Proof.GdValue
public import proofs.«01_k».proof.Proof.GdPre
public import Idealize.ShloMosaic.Adequacy
public import Idealize.ShloMosaic.Init

@[expose] public section

noncomputable section

namespace Cert.Proof

open Idealize.ShloMosaic Idealize.SL.Sem Cert.Kernel

attribute [local instance] Cert.Pre_xa_finite.Gen.facts Cert.Pre_gdn_finite.Gen.facts

/-- The two texts name the same bodies and pipelines. -/
theorem defs_eq {F : FTy → Type} [FloatOps F] :
    Cert.Kernel.defs (F := F) = Cert.KernelIdeal.defs (F := F) := by
  unfold Cert.Kernel.defs Cert.KernelIdeal.defs
  rw [show Cert.Kernel.defs₀ (F := F) = Cert.KernelIdeal.defs₀ from congrArg Defs.onTc (funext₂ fun | ⟨0, _⟩, (_, _) => rfl)]
  rfl

/-- The kernel's frame at the machine's numbers, from the same text's frame over any numbers. -/
theorem frame_kernel : Cert.quiescent_Kernel := fun m ρ _ => by
  rw [defs_eq]
  exact Cert.KernelIdeal.Gen.frame (F := Bits) m ρ

/-- The kernel's frame at the ideal numbers. -/
theorem frame_kernelIdeal : Cert.quiescent_KernelIdeal := fun m ρ _ => Cert.KernelIdeal.Gen.frame m ρ

/-- The reference's frame: its run keeps its arguments, and it declares no semaphore. -/
theorem frame_referenceIdeal : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run m ρ)

/-- What the precondition says of the queries and the keys the kernel reads: each is a real. -/
theorem finite_of_pre (m : (ℓ : Loc Cert.KernelIdeal.nD Cert.KernelIdeal.τ Cert.KernelIdeal.sig) → Buf (Elt Ideal) ℓ)
    (h : Cert.Pre_KernelIdeal_xa_finite m) (c : Dev Cert.KernelIdeal.nD) : Cert.Xa.Finite m c :=
  ⟨fun i hh j => Cert.Xa.pre_q _ _ _ (h c).1 i _, fun hh n j => Cert.Xa.pre_k _ _ _ (h c).2 n (Cert.Xa.chan hh j)⟩

/-- The kernel's three results are the reference's. -/
theorem algebraic : Cert.algebraic_KernelIdeal_ReferenceIdeal_pre_xa_finite := fun m ρ m' ρ' hpre hag =>
  ⟨fun c => Cert.KernelIdeal.Value.G4 m c, fun c => Cert.KernelIdeal.Value.G5 m c, fun c => Cert.KernelIdeal.Value.G6 m c,
    Cert.KernelIdeal.Value.run m ρ,
    (θ_run Cert.ReferenceIdeal.defs _ _).mono (fun _ h c =>
      ⟨(h c).1.trans (by
          rw [Cert.ReferenceIdeal.Read.val_main_v70_eq, (hag c).1, (hag c).2.1, (hag c).2.2]
          exact Cert.Xa.dq_eq m c (finite_of_pre m hpre c)),
        (h c).2.1.trans (by
          rw [Cert.ReferenceIdeal.Read.val_main_v72_eq, (hag c).1, (hag c).2.1, (hag c).2.2]
          exact Cert.Xa.dk_eq m c (finite_of_pre m hpre c)),
        (h c).2.2.1.trans (by
          rw [Cert.ReferenceIdeal.Read.val_main_v73_eq, (hag c).1, (hag c).2.1, (hag c).2.2]
          exact Cert.Xa.dv_eq m c),
        (h c).2.2.2⟩) (Cert.ReferenceIdeal.Value.run m' ρ')⟩

/-- The two texts name the same bodies and pipelines. -/
theorem gdn_defs_eq {F : FTy → Type} [FloatOps F] :
    Cert.Gdn.defs (F := F) = Cert.GdnIdeal.defs (F := F) := by
  unfold Cert.Gdn.defs Cert.GdnIdeal.defs
  rw [show Cert.Gdn.defs₀ (F := F) = Cert.GdnIdeal.defs₀ from congrArg Defs.onTc (funext₂ fun | ⟨0, _⟩, (_, _) => rfl)]
  rfl

/-- The gated-delta kernel's frame at the machine's numbers. -/
theorem frame_gdn : Cert.quiescent_Gdn := fun m ρ _ => by
  rw [gdn_defs_eq]
  exact Cert.GdnIdeal.Gen.frame (F := Bits) m ρ

/-- The gated-delta kernel's frame at the ideal numbers. -/
theorem frame_gdnIdeal : Cert.quiescent_GdnIdeal := fun m ρ _ => Cert.GdnIdeal.Gen.frame m ρ

/-- The gated-delta reference's frame. -/
theorem frame_gdnReferenceIdeal : Cert.quiescent_GdnReferenceIdeal := fun m ρ _ =>
  (θ_run Cert.GdnReferenceIdeal.defs _ _).mono
    (fun r h => ⟨fun c => (h c).2.2, sem_eq_zero_of_no_sems (by decide) r.2⟩)
    (Cert.GdnReferenceIdeal.Value.run m ρ)

/-- The gated-delta kernel's two results are the reference's. -/
theorem gdn_algebraic : Cert.algebraic_GdnIdeal_GdnReferenceIdeal_pre_gdn_finite := fun m ρ m' ρ' hpre hag =>
  have real (c : Dev Cert.GdnIdeal.nD) :=
    Cert.Gd.reals_of_pre (Cert.Gd.gArg0 m c) (Cert.Gd.gArg1 m c) (Cert.Gd.gArg2 m c) (Cert.Gd.gArg3 m c) (hpre c).1 (hpre c).2.1 (hpre c).2.2.1 (hpre c).2.2.2
  ⟨fun c => (Cert.GdnIdeal.Gen.dats m 0 c).arrAt 6 Cert.GdnIdeal.cfg0.N, fun c => (Cert.GdnIdeal.Gen.dats m 0 c).arrAt 7 Cert.GdnIdeal.cfg0.N,
    Cert.GdnIdeal.Value.run_blocks m ρ,
    (θ_run Cert.GdnReferenceIdeal.defs _ _).mono (fun _ h c =>
      ⟨(h c).1.trans (Exists.elim (real c) fun _ H => Cert.Gd.dqkv_eq m c H),
        (h c).2.1.trans (Exists.elim (real c) fun _ H => Cert.Gd.dbg_eq m c H),
        (h c).2.2⟩)
      (Cert.GdnReferenceIdeal.StepRun.run_iter m' ρ' (fun c => Cert.Gd.refIt m c)
        (fun c => by
          show Cert.GdnReferenceIdeal.Step.init _ _ _ _ = Cert.GdnReferenceIdeal.Step.init _ _ _ _
          rw [(hag c).1, (hag c).2.1, (hag c).2.2.1, (hag c).2.2.2])
        (fun _ _ => rfl))⟩

/-- Every claim of the certificate. -/
theorem claim : Cert.Claim :=
  ⟨Cert.Kernel.Gen.facts, Cert.KernelIdeal.Gen.facts, Cert.ReferenceIdeal.Gen.facts,
    Cert.Gdn.Gen.facts, Cert.GdnIdeal.Gen.facts, Cert.GdnReferenceIdeal.Gen.facts,
    Cert.DownDx.Gen.facts, Cert.DownDxIdeal.Gen.facts, Cert.DownDxReferenceIdeal.Gen.facts,
    Cert.DownDw.Gen.facts, Cert.DownDwIdeal.Gen.facts, Cert.DownDwReferenceIdeal.Gen.facts,
    Cert.UpDw.Gen.facts, Cert.UpDwIdeal.Gen.facts, Cert.UpDwReferenceIdeal.Gen.facts,
    Cert.SquareDx.Gen.facts, Cert.SquareDxIdeal.Gen.facts, Cert.SquareDxReferenceIdeal.Gen.facts,
    Cert.SquareDw.Gen.facts, Cert.SquareDwIdeal.Gen.facts, Cert.SquareDwReferenceIdeal.Gen.facts,
    Cert.PoolDx.Gen.facts, Cert.PoolDxIdeal.Gen.facts, Cert.PoolDxReferenceIdeal.Gen.facts,
    Cert.PoolDw.Gen.facts, Cert.PoolDwIdeal.Gen.facts, Cert.PoolDwReferenceIdeal.Gen.facts,
    Cert.UpDx.Gen.facts, Cert.UpDxIdeal.Gen.facts, Cert.UpDxReferenceIdeal.Gen.facts,
    Cert.InDx.Gen.facts, Cert.InDxIdeal.Gen.facts, Cert.InDxReferenceIdeal.Gen.facts,
    Cert.InDw.Gen.facts, Cert.InDwIdeal.Gen.facts, Cert.InDwReferenceIdeal.Gen.facts,
    Cert.KvDx.Gen.facts, Cert.KvDxIdeal.Gen.facts, Cert.KvDxReferenceIdeal.Gen.facts,
    Cert.KvDw.Gen.facts, Cert.KvDwIdeal.Gen.facts, Cert.KvDwReferenceIdeal.Gen.facts,
    Cert.InProj.Gen.facts, Cert.InProjIdeal.Gen.facts, Cert.InProjReferenceIdeal.Gen.facts,
    Cert.Square.Gen.facts, Cert.SquareIdeal.Gen.facts, Cert.SquareReferenceIdeal.Gen.facts,
    Cert.SquareF.Gen.facts, Cert.SquareFIdeal.Gen.facts, Cert.SquareFReferenceIdeal.Gen.facts,
    Cert.Pool.Gen.facts, Cert.PoolIdeal.Gen.facts, Cert.PoolReferenceIdeal.Gen.facts,
    Cert.Kv.Gen.facts, Cert.KvIdeal.Gen.facts, Cert.KvReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.NormIn.Gen.facts, Cert.NormInIdeal.Gen.facts, Cert.NormInReferenceIdeal.Gen.facts,
    Cert.NormOut.Gen.facts, Cert.NormOutIdeal.Gen.facts, Cert.NormOutReferenceIdeal.Gen.facts,
    Cert.AdIn.Gen.facts, Cert.AdInIdeal.Gen.facts, Cert.AdInReferenceIdeal.Gen.facts,
    Cert.AdUp.Gen.facts, Cert.AdUpIdeal.Gen.facts, Cert.AdUpReferenceIdeal.Gen.facts,
    Cert.AdSquare.Gen.facts, Cert.AdSquareIdeal.Gen.facts, Cert.AdSquareReferenceIdeal.Gen.facts,
    Cert.AdPoolOut.Gen.facts, Cert.AdPoolOutIdeal.Gen.facts, Cert.AdPoolOutReferenceIdeal.Gen.facts,
    Cert.AdKv.Gen.facts, Cert.AdKvIdeal.Gen.facts, Cert.AdKvReferenceIdeal.Gen.facts,
    Cert.AdDown.Gen.facts, Cert.AdDownIdeal.Gen.facts, Cert.AdDownReferenceIdeal.Gen.facts,
    Cert.AdConv.Gen.facts, Cert.AdConvIdeal.Gen.facts, Cert.AdConvReferenceIdeal.Gen.facts,
    Cert.AdFfnConv.Gen.facts, Cert.AdFfnConvIdeal.Gen.facts, Cert.AdFfnConvReferenceIdeal.Gen.facts,
    Cert.AdPool.Gen.facts, Cert.AdPoolIdeal.Gen.facts, Cert.AdPoolReferenceIdeal.Gen.facts,
    Cert.AdSmall.Gen.facts, Cert.AdSmallIdeal.Gen.facts, Cert.AdSmallReferenceIdeal.Gen.facts,
    Cert.MergeBwd.Gen.facts, Cert.MergeBwdIdeal.Gen.facts, Cert.MergeBwdReferenceIdeal.Gen.facts,
    Cert.XaFwd.Gen.facts, Cert.XaFwdIdeal.Gen.facts, Cert.XaFwdReferenceIdeal.Gen.facts,
    Cert.Loss.Gen.facts, Cert.LossIdeal.Gen.facts, Cert.LossReferenceIdeal.Gen.facts,
    Cert.Prenorm.Gen.facts, Cert.PrenormIdeal.Gen.facts, Cert.PrenormReferenceIdeal.Gen.facts,
    Cert.PostPre.Gen.facts, Cert.PostPreIdeal.Gen.facts, Cert.PostPreReferenceIdeal.Gen.facts,
    Cert.Merge.Gen.facts, Cert.MergeIdeal.Gen.facts, Cert.MergeReferenceIdeal.Gen.facts,
    Cert.Pre_xa_finite.Gen.facts, Cert.Pre_gdn_finite.Gen.facts,
    frame_kernel, frame_kernelIdeal, fun m ρ _ => Cert.KernelIdeal.Gen.frame m ρ,
    frame_referenceIdeal, fun m ρ _ => frame_referenceIdeal m ρ trivial,
    frame_gdn, frame_gdnIdeal, fun m ρ _ => Cert.GdnIdeal.Gen.frame m ρ,
    frame_gdnReferenceIdeal, fun m ρ _ => frame_gdnReferenceIdeal m ρ trivial,
    Pr.DownDx.frame, Pr.DownDx.frameIdeal, Pr.DownDx.frameReference,
    Pr.DownDw.frame, Pr.DownDw.frameIdeal, Pr.DownDw.frameReference,
    Pr.UpDw.frame, Pr.UpDw.frameIdeal, Pr.UpDw.frameReference,
    Pr.SquareDx.frame, Pr.SquareDx.frameIdeal, Pr.SquareDx.frameReference,
    Pr.SquareDw.frame, Pr.SquareDw.frameIdeal, Pr.SquareDw.frameReference,
    Pr.PoolDx.frame, Pr.PoolDx.frameIdeal, Pr.PoolDx.frameReference,
    Pr.PoolDw.frame, Pr.PoolDw.frameIdeal, Pr.PoolDw.frameReference,
    Pr.UpDx.frame, Pr.UpDx.frameIdeal, Pr.UpDx.frameReference,
    Pr.InDx.frame, Pr.InDx.frameIdeal, Pr.InDx.frameReference,
    Pr.InDw.frame, Pr.InDw.frameIdeal, Pr.InDw.frameReference,
    Pr.KvDx.frame, Pr.KvDx.frameIdeal, Pr.KvDx.frameReference,
    Pr.KvDw.frame, Pr.KvDw.frameIdeal, Pr.KvDw.frameReference,
    Pr.InProj.frame, Pr.InProj.frameIdeal, Pr.InProj.frameReference,
    Pr.Square.frame, Pr.Square.frameIdeal, Pr.Square.frameReference,
    Pr.SquareF.frame, Pr.SquareF.frameIdeal, Pr.SquareF.frameReference,
    Pr.Pool.frame, Pr.Pool.frameIdeal, Pr.Pool.frameReference,
    Pr.Kv.frame, Pr.Kv.frameIdeal, Pr.Kv.frameReference,
    Pr.Up.frame, Pr.Up.frameIdeal, Pr.Up.frameReference,
    Pr.Down.frame, Pr.Down.frameIdeal, Pr.Down.frameReference,
    Nm.In.frame, Nm.In.frameIdeal, Nm.In.frameReference,
    Nm.Out.frame, Nm.Out.frameIdeal, Nm.Out.frameReference,
    Ad.In.frame, Ad.In.frameIdeal, Ad.In.frameReference,
    Ad.Up.frame, Ad.Up.frameIdeal, Ad.Up.frameReference,
    Ad.Square.frame, Ad.Square.frameIdeal, Ad.Square.frameReference,
    Ad.PoolOut.frame, Ad.PoolOut.frameIdeal, Ad.PoolOut.frameReference,
    Ad.Kv.frame, Ad.Kv.frameIdeal, Ad.Kv.frameReference,
    Ad.Down.frame, Ad.Down.frameIdeal, Ad.Down.frameReference,
    Ad.Conv.frame, Ad.Conv.frameIdeal, Ad.Conv.frameReference,
    Ad.FfnConv.frame, Ad.FfnConv.frameIdeal, Ad.FfnConv.frameReference,
    Ad.Pool.frame, Ad.Pool.frameIdeal, Ad.Pool.frameReference,
    Ad.Small.frame, Ad.Small.frameIdeal, Ad.Small.frameReference,
    Mg.frame, Mg.frameIdeal, Mg.frameReference,
    Xf.frame, Xf.frameIdeal, Xf.frameReference,
    Nm.Loss.frame, Nm.Loss.frameIdeal, Nm.Loss.frameReference,
    Nm.Pre.frame, Nm.Pre.frameIdeal, Nm.Pre.frameReference,
    Nm.Post.frame, Nm.Post.frameIdeal, Nm.Post.frameReference,
    Mg.Fwd.frame, Mg.Fwd.frameIdeal, Mg.Fwd.frameReference,
    trivial, algebraic, trivial, gdn_algebraic,
    trivial, Pr.DownDx.algebraic,
    trivial, Pr.DownDw.algebraic,
    trivial, Pr.UpDw.algebraic,
    trivial, Pr.SquareDx.algebraic,
    trivial, Pr.SquareDw.algebraic,
    trivial, Pr.PoolDx.algebraic,
    trivial, Pr.PoolDw.algebraic,
    trivial, Pr.UpDx.algebraic,
    trivial, Pr.InDx.algebraic,
    trivial, Pr.InDw.algebraic,
    trivial, Pr.KvDx.algebraic,
    trivial, Pr.KvDw.algebraic,
    trivial, Pr.InProj.algebraic,
    trivial, Pr.Square.algebraic,
    trivial, Pr.SquareF.algebraic,
    trivial, Pr.Pool.algebraic,
    trivial, Pr.Kv.algebraic,
    trivial, Pr.Up.algebraic,
    trivial, Pr.Down.algebraic,
    trivial, Nm.In.algebraic,
    trivial, Nm.Out.algebraic,
    trivial, Ad.In.algebraic,
    trivial, Ad.Up.algebraic,
    trivial, Ad.Square.algebraic,
    trivial, Ad.PoolOut.algebraic,
    trivial, Ad.Kv.algebraic,
    trivial, Ad.Down.algebraic,
    trivial, Ad.Conv.algebraic,
    trivial, Ad.FfnConv.algebraic,
    trivial, Ad.Pool.algebraic,
    trivial, Ad.Small.algebraic,
    trivial, Mg.algebraic,
    trivial, Xf.algebraic,
    trivial, Nm.Loss.algebraic,
    trivial, Nm.Pre.algebraic,
    trivial, Nm.Post.algebraic,
    trivial, Mg.Fwd.algebraic⟩

end Cert.Proof

end
